-- ==== Defs.lean ====
def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeRIdeal (m : (ℓ : Loc Cert.MergeRIdeal.nD Cert.MergeRIdeal.τ Cert.MergeRIdeal.sig) → Buf (Elt Ideal) ℓ) : Prop :=
  True

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKIdeal_finite_attn [hPre_finite_attn : Cert.Pre_finite_attn.Facts] (m : (ℓ : Loc Cert.AttnKIdeal.nD Cert.AttnKIdeal.τ Cert.AttnKIdeal.sig) → Buf (Elt Ideal) ℓ) : Prop :=
  ∀ c : Dev Cert.AttnKIdeal.nD,
    (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).1 = (fun _ => 1#1)
    ∧ (Cert.Pre_finite_attn.fn (F := Ideal) (m ((c.tc : Thread Cert.AttnKIdeal.nD Cert.AttnKIdeal.τ).loc Cert.AttnKIdeal.main_arg0)) (m ((c.tc : Thread Cert.AttnKIdeal.nD Cert.AttnKIdeal.τ).loc Cert.AttnKIdeal.main_arg1)) (m ((c.tc : Thread Cert.AttnKIdeal.nD Cert.AttnKIdeal.τ).loc Cert.AttnKIdeal.main_arg2)) (m ((c.tc : Thread Cert.AttnKIdeal.nD Cert.AttnKIdeal.τ).loc Cert.AttnKIdeal.main_arg3))).2 = (fun _ => 1#1)

def Pre_AttnRIdeal (m : (ℓ : Loc Cert.AttnRIdeal.nD Cert.AttnRIdeal.τ Cert.AttnRIdeal.sig) → Buf (Elt Ideal) ℓ) : Prop :=
  True

def Pre_AttnRIdeal_finite_attn [hPre_finite_attn : Cert.Pre_finite_attn.Facts] (m : (ℓ : Loc Cert.AttnRIdeal.nD Cert.AttnRIdeal.τ Cert.AttnRIdeal.sig) → Buf (Elt Ideal) ℓ) : Prop :=
  ∀ c : Dev Cert.AttnRIdeal.nD,
    (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).1 = (fun _ => 1#1)
    ∧ (Cert.Pre_finite_attn.fn (F := Ideal) (m ((c.tc : Thread Cert.AttnRIdeal.nD Cert.AttnRIdeal.τ).loc Cert.AttnRIdeal.main_arg0)) (m ((c.tc : Thread Cert.AttnRIdeal.nD Cert.AttnRIdeal.τ).loc Cert.AttnRIdeal.main_arg1)) (m ((c.tc : Thread Cert.AttnRIdeal.nD Cert.AttnRIdeal.τ).loc Cert.AttnRIdeal.main_arg2)) (m ((c.tc : Thread Cert.AttnRIdeal.nD Cert.AttnRIdeal.τ).loc Cert.AttnRIdeal.main_arg3))).2 = (fun _ => 1#1)

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormRIdeal (m : (ℓ : Loc Cert.NormRIdeal.nD Cert.NormRIdeal.τ Cert.NormRIdeal.sig) → Buf (Elt Ideal) ℓ) : Prop :=
  True

def Pre_NormCK (m : (ℓ : Loc Cert.NormCK.nD Cert.NormCK.τ Cert.NormCK.sig) → Buf (Elt Bits) ℓ) : Prop :=
  True

def Pre_NormCKIdeal (m : (ℓ : Loc Cert.NormCKIdeal.nD Cert.NormCKIdeal.τ Cert.NormCKIdeal.sig) → Buf (Elt Ideal) ℓ) : Prop :=
  True

def Pre_NormCRIdeal (m : (ℓ : Loc Cert.NormCRIdeal.nD Cert.NormCRIdeal.τ Cert.NormCRIdeal.sig) → Buf (Elt Ideal) ℓ) : Prop :=
  True

def Pre_ResK (m : (ℓ : Loc Cert.ResK.nD Cert.ResK.τ Cert.ResK.sig) → Buf (Elt Bits) ℓ) : Prop :=
  True

def Pre_ResKIdeal (m : (ℓ : Loc Cert.ResKIdeal.nD Cert.ResKIdeal.τ Cert.ResKIdeal.sig) → Buf (Elt Ideal) ℓ) : Prop :=
  True

def Pre_ResRIdeal (m : (ℓ : Loc Cert.ResRIdeal.nD Cert.ResRIdeal.τ Cert.ResRIdeal.sig) → Buf (Elt Ideal) ℓ) : Prop :=
  True

def Pre_HeadK (m : (ℓ : Loc Cert.HeadK.nD Cert.HeadK.τ Cert.HeadK.sig) → Buf (Elt Bits) ℓ) : Prop :=
  True

def Pre_HeadKIdeal (m : (ℓ : Loc Cert.HeadKIdeal.nD Cert.HeadKIdeal.τ Cert.HeadKIdeal.sig) → Buf (Elt Ideal) ℓ) : Prop :=
  True

def Pre_HeadRIdeal (m : (ℓ : Loc Cert.HeadRIdeal.nD Cert.HeadRIdeal.τ Cert.HeadRIdeal.sig) → Buf (Elt Ideal) ℓ) : Prop :=
  True

def Pre_GdnOutK (m : (ℓ : Loc Cert.GdnOutK.nD Cert.GdnOutK.τ Cert.GdnOutK.sig) → Buf (Elt Bits) ℓ) : Prop :=
  True

def Pre_GdnOutKIdeal (m : (ℓ : Loc Cert.GdnOutKIdeal.nD Cert.GdnOutKIdeal.τ Cert.GdnOutKIdeal.sig) → Buf (Elt Ideal) ℓ) : Prop :=
  True

def Pre_GdnOutRIdeal (m : (ℓ : Loc Cert.GdnOutRIdeal.nD Cert.GdnOutRIdeal.τ Cert.GdnOutRIdeal.sig) → Buf (Elt Ideal) ℓ) : Prop :=
  True

def Pre_QPrepK (m : (ℓ : Loc Cert.QPrepK.nD Cert.QPrepK.τ Cert.QPrepK.sig) → Buf (Elt Bits) ℓ) : Prop :=
  True

def Pre_QPrepKIdeal (m : (ℓ : Loc Cert.QPrepKIdeal.nD Cert.QPrepKIdeal.τ Cert.QPrepKIdeal.sig) → Buf (Elt Ideal) ℓ) : Prop :=
  True

def Pre_QPrepRIdeal (m : (ℓ : Loc Cert.QPrepRIdeal.nD Cert.QPrepRIdeal.τ Cert.QPrepRIdeal.sig) → Buf (Elt Ideal) ℓ) : Prop :=
  True

def Pre_KPrepK (m : (ℓ : Loc Cert.KPrepK.nD Cert.KPrepK.τ Cert.KPrepK.sig) → Buf (Elt Bits) ℓ) : Prop :=
  True

def Pre_KPrepKIdeal (m : (ℓ : Loc Cert.KPrepKIdeal.nD Cert.KPrepKIdeal.τ Cert.KPrepKIdeal.sig) → Buf (Elt Ideal) ℓ) : Prop :=
  True

def Pre_KPrepRIdeal (m : (ℓ : Loc Cert.KPrepRIdeal.nD Cert.KPrepRIdeal.τ Cert.KPrepRIdeal.sig) → Buf (Elt Ideal) ℓ) : Prop :=
  True

def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnRIdeal (m : (ℓ : Loc Cert.FfnRIdeal.nD Cert.FfnRIdeal.τ Cert.FfnRIdeal.sig) → Buf (Elt Ideal) ℓ) : Prop :=
  True

def Pre_GdnPrepK (m : (ℓ : Loc Cert.GdnPrepK.nD Cert.GdnPrepK.τ Cert.GdnPrepK.sig) → Buf (Elt Bits) ℓ) : Prop :=
  True

def Pre_GdnPrepKIdeal (m : (ℓ : Loc Cert.GdnPrepKIdeal.nD Cert.GdnPrepKIdeal.τ Cert.GdnPrepKIdeal.sig) → Buf (Elt Ideal) ℓ) : Prop :=
  True

def Pre_GdnPrepRIdeal (m : (ℓ : Loc Cert.GdnPrepRIdeal.nD Cert.GdnPrepRIdeal.τ Cert.GdnPrepRIdeal.sig) → Buf (Elt Ideal) ℓ) : Prop :=
  True

def Pre_AttnFK (m : (ℓ : Loc Cert.AttnFK.nD Cert.AttnFK.τ Cert.AttnFK.sig) → Buf (Elt Bits) ℓ) : Prop :=
  True

def Pre_AttnFKIdeal (m : (ℓ : Loc Cert.AttnFKIdeal.nD Cert.AttnFKIdeal.τ Cert.AttnFKIdeal.sig) → Buf (Elt Ideal) ℓ) : Prop :=
  True

def Pre_AttnFKIdeal_finite_attnf [hPre_finite_attnf : Cert.Pre_finite_attnf.Facts] (m : (ℓ : Loc Cert.AttnFKIdeal.nD Cert.AttnFKIdeal.τ Cert.AttnFKIdeal.sig) → Buf (Elt Ideal) ℓ) : Prop :=
  ∀ c : Dev Cert.AttnFKIdeal.nD,
    (Cert.Pre_finite_attnf.fn (F := Ideal) (m ((c.tc : Thread Cert.AttnFKIdeal.nD Cert.AttnFKIdeal.τ).loc Cert.AttnFKIdeal.main_arg0)) (m ((c.tc : Thread Cert.AttnFKIdeal.nD Cert.AttnFKIdeal.τ).loc Cert.AttnFKIdeal.main_arg1)) (m ((c.tc : Thread Cert.AttnFKIdeal.nD Cert.AttnFKIdeal.τ).loc Cert.AttnFKIdeal.main_arg2))).1 = (fun _ => 1#1)
    ∧ (Cert.Pre_finite_attnf.fn (F := Ideal) (m ((c.tc : Thread Cert.AttnFKIdeal.nD Cert.AttnFKIdeal.τ).loc Cert.AttnFKIdeal.main_arg0)) (m ((c.tc : Thread Cert.AttnFKIdeal.nD Cert.AttnFKIdeal.τ).loc Cert.AttnFKIdeal.main_arg1)) (m ((c.tc : Thread Cert.AttnFKIdeal.nD Cert.AttnFKIdeal.τ).loc Cert.AttnFKIdeal.main_arg2))).2 = (fun _ => 1#1)

def Pre_AttnFRIdeal (m : (ℓ : Loc Cert.AttnFRIdeal.nD Cert.AttnFRIdeal.τ Cert.AttnFRIdeal.sig) → Buf (Elt Ideal) ℓ) : Prop :=
  True

def Pre_AttnFRIdeal_finite_attnf [hPre_finite_attnf : Cert.Pre_finite_attnf.Facts] (m : (ℓ : Loc Cert.AttnFRIdeal.nD Cert.AttnFRIdeal.τ Cert.AttnFRIdeal.sig) → Buf (Elt Ideal) ℓ) : Prop :=
  ∀ c : Dev Cert.AttnFRIdeal.nD,
    (Cert.Pre_finite_attnf.fn (F := Ideal) (m ((c.tc : Thread Cert.AttnFRIdeal.nD Cert.AttnFRIdeal.τ).loc Cert.AttnFRIdeal.main_arg0)) (m ((c.tc : Thread Cert.AttnFRIdeal.nD Cert.AttnFRIdeal.τ).loc Cert.AttnFRIdeal.main_arg1)) (m ((c.tc : Thread Cert.AttnFRIdeal.nD Cert.AttnFRIdeal.τ).loc Cert.AttnFRIdeal.main_arg2))).1 = (fun _ => 1#1)
    ∧ (Cert.Pre_finite_attnf.fn (F := Ideal) (m ((c.tc : Thread Cert.AttnFRIdeal.nD Cert.AttnFRIdeal.τ).loc Cert.AttnFRIdeal.main_arg0)) (m ((c.tc : Thread Cert.AttnFRIdeal.nD Cert.AttnFRIdeal.τ).loc Cert.AttnFRIdeal.main_arg1)) (m ((c.tc : Thread Cert.AttnFRIdeal.nD Cert.AttnFRIdeal.τ).loc Cert.AttnFRIdeal.main_arg2))).2 = (fun _ => 1#1)

def Pre_MergeFK (m : (ℓ : Loc Cert.MergeFK.nD Cert.MergeFK.τ Cert.MergeFK.sig) → Buf (Elt Bits) ℓ) : Prop :=
  True

def Pre_MergeFKIdeal (m : (ℓ : Loc Cert.MergeFKIdeal.nD Cert.MergeFKIdeal.τ Cert.MergeFKIdeal.sig) → Buf (Elt Ideal) ℓ) : Prop :=
  True

def Pre_MergeFRIdeal (m : (ℓ : Loc Cert.MergeFRIdeal.nD Cert.MergeFRIdeal.τ Cert.MergeFRIdeal.sig) → Buf (Elt Ideal) ℓ) : Prop :=
  True

def Pre_NormFK (m : (ℓ : Loc Cert.NormFK.nD Cert.NormFK.τ Cert.NormFK.sig) → Buf (Elt Bits) ℓ) : Prop :=
  True

def Pre_NormFKIdeal (m : (ℓ : Loc Cert.NormFKIdeal.nD Cert.NormFKIdeal.τ Cert.NormFKIdeal.sig) → Buf (Elt Ideal) ℓ) : Prop :=
  True

def Pre_NormFRIdeal (m : (ℓ : Loc Cert.NormFRIdeal.nD Cert.NormFRIdeal.τ Cert.NormFRIdeal.sig) → Buf (Elt Ideal) ℓ) : Prop :=
  True

def Pre_NormCFK (m : (ℓ : Loc Cert.NormCFK.nD Cert.NormCFK.τ Cert.NormCFK.sig) → Buf (Elt Bits) ℓ) : Prop :=
  True

def Pre_NormCFKIdeal (m : (ℓ : Loc Cert.NormCFKIdeal.nD Cert.NormCFKIdeal.τ Cert.NormCFKIdeal.sig) → Buf (Elt Ideal) ℓ) : Prop :=
  True

def Pre_NormCFRIdeal (m : (ℓ : Loc Cert.NormCFRIdeal.nD Cert.NormCFRIdeal.τ Cert.NormCFRIdeal.sig) → Buf (Elt Ideal) ℓ) : Prop :=
  True

def Pre_ResFK (m : (ℓ : Loc Cert.ResFK.nD Cert.ResFK.τ Cert.ResFK.sig) → Buf (Elt Bits) ℓ) : Prop :=
  True

def Pre_ResFKIdeal (m : (ℓ : Loc Cert.ResFKIdeal.nD Cert.ResFKIdeal.τ Cert.ResFKIdeal.sig) → Buf (Elt Ideal) ℓ) : Prop :=
  True

def Pre_ResFRIdeal (m : (ℓ : Loc Cert.ResFRIdeal.nD Cert.ResFRIdeal.τ Cert.ResFRIdeal.sig) → Buf (Elt Ideal) ℓ) : Prop :=
  True

def Pre_HeadFK (m : (ℓ : Loc Cert.HeadFK.nD Cert.HeadFK.τ Cert.HeadFK.sig) → Buf (Elt Bits) ℓ) : Prop :=
  True

def Pre_HeadFKIdeal (m : (ℓ : Loc Cert.HeadFKIdeal.nD Cert.HeadFKIdeal.τ Cert.HeadFKIdeal.sig) → Buf (Elt Ideal) ℓ) : Prop :=
  True

def Pre_HeadFRIdeal (m : (ℓ : Loc Cert.HeadFRIdeal.nD Cert.HeadFRIdeal.τ Cert.HeadFRIdeal.sig) → Buf (Elt Ideal) ℓ) : Prop :=
  True

def Pre_QPrepFK (m : (ℓ : Loc Cert.QPrepFK.nD Cert.QPrepFK.τ Cert.QPrepFK.sig) → Buf (Elt Bits) ℓ) : Prop :=
  True

def Pre_QPrepFKIdeal (m : (ℓ : Loc Cert.QPrepFKIdeal.nD Cert.QPrepFKIdeal.τ Cert.QPrepFKIdeal.sig) → Buf (Elt Ideal) ℓ) : Prop :=
  True

def Pre_QPrepFRIdeal (m : (ℓ : Loc Cert.QPrepFRIdeal.nD Cert.QPrepFRIdeal.τ Cert.QPrepFRIdeal.sig) → Buf (Elt Ideal) ℓ) : Prop :=
  True

def Pre_KPrepFK (m : (ℓ : Loc Cert.KPrepFK.nD Cert.KPrepFK.τ Cert.KPrepFK.sig) → Buf (Elt Bits) ℓ) : Prop :=
  True

def Pre_KPrepFKIdeal (m : (ℓ : Loc Cert.KPrepFKIdeal.nD Cert.KPrepFKIdeal.τ Cert.KPrepFKIdeal.sig) → Buf (Elt Ideal) ℓ) : Prop :=
  True

def Pre_KPrepFRIdeal (m : (ℓ : Loc Cert.KPrepFRIdeal.nD Cert.KPrepFRIdeal.τ Cert.KPrepFRIdeal.sig) → Buf (Elt Ideal) ℓ) : Prop :=
  True

def Pre_FfnFK (m : (ℓ : Loc Cert.FfnFK.nD Cert.FfnFK.τ Cert.FfnFK.sig) → Buf (Elt Bits) ℓ) : Prop :=
  True

def Pre_FfnFKIdeal (m : (ℓ : Loc Cert.FfnFKIdeal.nD Cert.FfnFKIdeal.τ Cert.FfnFKIdeal.sig) → Buf (Elt Ideal) ℓ) : Prop :=
  True

def Pre_FfnFRIdeal (m : (ℓ : Loc Cert.FfnFRIdeal.nD Cert.FfnFRIdeal.τ Cert.FfnFRIdeal.sig) → Buf (Elt Ideal) ℓ) : Prop :=
  True

def Pre_GdnOutFK (m : (ℓ : Loc Cert.GdnOutFK.nD Cert.GdnOutFK.τ Cert.GdnOutFK.sig) → Buf (Elt Bits) ℓ) : Prop :=
  True

def Pre_GdnOutFKIdeal (m : (ℓ : Loc Cert.GdnOutFKIdeal.nD Cert.GdnOutFKIdeal.τ Cert.GdnOutFKIdeal.sig) → Buf (Elt Ideal) ℓ) : Prop :=
  True

def Pre_GdnOutFRIdeal (m : (ℓ : Loc Cert.GdnOutFRIdeal.nD Cert.GdnOutFRIdeal.τ Cert.GdnOutFRIdeal.sig) → Buf (Elt Ideal) ℓ) : Prop :=
  True

def Pre_GdnPrepFK (m : (ℓ : Loc Cert.GdnPrepFK.nD Cert.GdnPrepFK.τ Cert.GdnPrepFK.sig) → Buf (Elt Bits) ℓ) : Prop :=
  True

def Pre_GdnPrepFKIdeal (m : (ℓ : Loc Cert.GdnPrepFKIdeal.nD Cert.GdnPrepFKIdeal.τ Cert.GdnPrepFKIdeal.sig) → Buf (Elt Ideal) ℓ) : Prop :=
  True

def Pre_GdnPrepFRIdeal (m : (ℓ : Loc Cert.GdnPrepFRIdeal.nD Cert.GdnPrepFRIdeal.τ Cert.GdnPrepFRIdeal.sig) → Buf (Elt Ideal) ℓ) : Prop :=
  True

def Pre_GdnFK (m : (ℓ : Loc Cert.GdnFK.nD Cert.GdnFK.τ Cert.GdnFK.sig) → Buf (Elt Bits) ℓ) : Prop :=
  True

def Pre_GdnFKIdeal (m : (ℓ : Loc Cert.GdnFKIdeal.nD Cert.GdnFKIdeal.τ Cert.GdnFKIdeal.sig) → Buf (Elt Ideal) ℓ) : Prop :=
  True

def Pre_MmFK (m : (ℓ : Loc Cert.MmFK.nD Cert.MmFK.τ Cert.MmFK.sig) → Buf (Elt Bits) ℓ) : Prop :=
  True

def Pre_MmFKIdeal (m : (ℓ : Loc Cert.MmFKIdeal.nD Cert.MmFKIdeal.τ Cert.MmFKIdeal.sig) → Buf (Elt Ideal) ℓ) : Prop :=
  True

def Pre_MmFRIdeal (m : (ℓ : Loc Cert.MmFRIdeal.nD Cert.MmFRIdeal.τ Cert.MmFRIdeal.sig) → Buf (Elt Ideal) ℓ) : Prop :=
  True

def Pre_MmDwK (m : (ℓ : Loc Cert.MmDwK.nD Cert.MmDwK.τ Cert.MmDwK.sig) → Buf (Elt Bits) ℓ) : Prop :=
  True

def Pre_MmDwKIdeal (m : (ℓ : Loc Cert.MmDwKIdeal.nD Cert.MmDwKIdeal.τ Cert.MmDwKIdeal.sig) → Buf (Elt Ideal) ℓ) : Prop :=
  True

def Pre_MmDwRIdeal (m : (ℓ : Loc Cert.MmDwRIdeal.nD Cert.MmDwRIdeal.τ Cert.MmDwRIdeal.sig) → Buf (Elt Ideal) ℓ) : Prop :=
  True

def Pre_MmTFK (m : (ℓ : Loc Cert.MmTFK.nD Cert.MmTFK.τ Cert.MmTFK.sig) → Buf (Elt Bits) ℓ) : Prop :=
  True

def Pre_MmTFKIdeal (m : (ℓ : Loc Cert.MmTFKIdeal.nD Cert.MmTFKIdeal.τ Cert.MmTFKIdeal.sig) → Buf (Elt Ideal) ℓ) : Prop :=
  True

def Pre_MmTFRIdeal (m : (ℓ : Loc Cert.MmTFRIdeal.nD Cert.MmTFRIdeal.τ Cert.MmTFRIdeal.sig) → Buf (Elt Ideal) ℓ) : Prop :=
  True

def Pre_MmTDwK (m : (ℓ : Loc Cert.MmTDwK.nD Cert.MmTDwK.τ Cert.MmTDwK.sig) → Buf (Elt Bits) ℓ) : Prop :=
  True

def Pre_MmTDwKIdeal (m : (ℓ : Loc Cert.MmTDwKIdeal.nD Cert.MmTDwKIdeal.τ Cert.MmTDwKIdeal.sig) → Buf (Elt Ideal) ℓ) : Prop :=
  True

def Pre_MmTDwRIdeal (m : (ℓ : Loc Cert.MmTDwRIdeal.nD Cert.MmTDwRIdeal.τ Cert.MmTDwRIdeal.sig) → Buf (Elt Ideal) ℓ) : Prop :=
  True

def Pre_MmDaK (m : (ℓ : Loc Cert.MmDaK.nD Cert.MmDaK.τ Cert.MmDaK.sig) → Buf (Elt Bits) ℓ) : Prop :=
  True

def Pre_MmDaKIdeal (m : (ℓ : Loc Cert.MmDaKIdeal.nD Cert.MmDaKIdeal.τ Cert.MmDaKIdeal.sig) → Buf (Elt Ideal) ℓ) : Prop :=
  True

def Pre_MmDaRIdeal (m : (ℓ : Loc Cert.MmDaRIdeal.nD Cert.MmDaRIdeal.τ Cert.MmDaRIdeal.sig) → Buf (Elt Ideal) ℓ) : Prop :=
  True

def Pre_MmTDaK (m : (ℓ : Loc Cert.MmTDaK.nD Cert.MmTDaK.τ Cert.MmTDaK.sig) → Buf (Elt Bits) ℓ) : Prop :=
  True

def Pre_MmTDaKIdeal (m : (ℓ : Loc Cert.MmTDaKIdeal.nD Cert.MmTDaKIdeal.τ Cert.MmTDaKIdeal.sig) → Buf (Elt Ideal) ℓ) : Prop :=
  True

def Pre_MmTDaRIdeal (m : (ℓ : Loc Cert.MmTDaRIdeal.nD Cert.MmTDaRIdeal.τ Cert.MmTDaRIdeal.sig) → Buf (Elt Ideal) ℓ) : Prop :=
  True

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1)
      ∧ r.2.mem ((c.tc : Thread Cert.AttnK.nD Cert.AttnK.τ).loc Cert.AttnK.main_arg2) = m ((c.tc : Thread Cert.AttnK.nD Cert.AttnK.τ).loc Cert.AttnK.main_arg2)
      ∧ r.2.mem ((c.tc : Thread Cert.AttnK.nD Cert.AttnK.τ).loc Cert.AttnK.main_arg3) = m ((c.tc : Thread Cert.AttnK.nD Cert.AttnK.τ).loc Cert.AttnK.main_arg3))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ r.2.sem = fun _ => 0)

def quiescent_AttnKIdeal_pre_finite_attn [hAttnKIdeal : Cert.AttnKIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal_finite_attn m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
      ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
      ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ r.2.sem = fun _ => 0)

def quiescent_AttnRIdeal [hAttnRIdeal : Cert.AttnRIdeal.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3))
      ∧ r.2.sem = fun _ => 0)

def quiescent_AttnRIdeal_pre_finite_attn [hAttnRIdeal : Cert.AttnRIdeal.Facts] [hPre_finite_attn : Cert.Pre_finite_attn.Facts] : Prop :=
  ∀ (m : (ℓ : Loc Cert.AttnRIdeal.nD Cert.AttnRIdeal.τ Cert.AttnRIdeal.sig) → Buf (Elt Ideal) ℓ) (g : Dev Cert.AttnRIdeal.nD → PrngReg), Pre_AttnRIdeal_finite_attn m →
    θ_run (Cert.AttnRIdeal.defs (F := Ideal)) (onTc (τ := Cert.AttnRIdeal.τ) (Cert.AttnRIdeal.main (F := Ideal))) ⟨m, fun _ => 0, g⟩ (fun r => (∀ c : Dev Cert.AttnRIdeal.nD,
      r.2.mem ((c.tc : Thread Cert.AttnRIdeal.nD Cert.AttnRIdeal.τ).loc Cert.AttnRIdeal.main_arg0) = m ((c.tc : Thread Cert.AttnRIdeal.nD Cert.AttnRIdeal.τ).loc Cert.AttnRIdeal.main_arg0)
      ∧ r.2.mem ((c.tc : Thread Cert.AttnRIdeal.nD Cert.AttnRIdeal.τ).loc Cert.AttnRIdeal.main_arg1) = m ((c.tc : Thread Cert.AttnRIdeal.nD Cert.AttnRIdeal.τ).loc Cert.AttnRIdeal.main_arg1)
      ∧ r.2.mem ((c.tc : Thread Cert.AttnRIdeal.nD Cert.AttnRIdeal.τ).loc Cert.AttnRIdeal.main_arg2) = m ((c.tc : Thread Cert.AttnRIdeal.nD Cert.AttnRIdeal.τ).loc Cert.AttnRIdeal.main_arg2)
      ∧ r.2.mem ((c.tc : Thread Cert.AttnRIdeal.nD Cert.AttnRIdeal.τ).loc Cert.AttnRIdeal.main_arg3) = m ((c.tc : Thread Cert.AttnRIdeal.nD Cert.AttnRIdeal.τ).loc Cert.AttnRIdeal.main_arg3))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2)
      ∧ r.2.mem ((c.tc : Thread Cert.NormK.nD Cert.NormK.τ).loc Cert.NormK.main_arg3) = m ((c.tc : Thread Cert.NormK.nD Cert.NormK.τ).loc Cert.NormK.main_arg3))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
      ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2)
      ∧ r.2.mem ((c.tc : Thread Cert.NormRIdeal.nD Cert.NormRIdeal.τ).loc Cert.NormRIdeal.main_arg3) = m ((c.tc : Thread Cert.NormRIdeal.nD Cert.NormRIdeal.τ).loc Cert.NormRIdeal.main_arg3))
      ∧ r.2.sem = fun _ => 0)

def quiescent_NormCK [hNormCK : Cert.NormCK.Facts] : Prop :=
  ∀ (m : (ℓ : Loc Cert.NormCK.nD Cert.NormCK.τ Cert.NormCK.sig) → Buf (Elt Bits) ℓ) (g : Dev Cert.NormCK.nD → PrngReg), Pre_NormCK m →
    θ_run (Cert.NormCK.defs (F := Bits)) (onTc (τ := Cert.NormCK.τ) (Cert.NormCK.main (F := Bits))) ⟨m, fun _ => 0, g⟩ (fun r => (∀ c : Dev Cert.NormCK.nD,
      r.2.mem ((c.tc : Thread Cert.NormCK.nD Cert.NormCK.τ).loc Cert.NormCK.main_arg0) = m ((c.tc : Thread Cert.NormCK.nD Cert.NormCK.τ).loc Cert.NormCK.main_arg0)
      ∧ r.2.mem ((c.tc : Thread Cert.NormCK.nD Cert.NormCK.τ).loc Cert.NormCK.main_arg1) = m ((c.tc : Thread Cert.NormCK.nD Cert.NormCK.τ).loc Cert.NormCK.main_arg1)
      ∧ r.2.mem ((c.tc : Thread Cert.NormCK.nD Cert.NormCK.τ).loc Cert.NormCK.main_arg2) = m ((c.tc : Thread Cert.NormCK.nD Cert.NormCK.τ).loc Cert.NormCK.main_arg2)
      ∧ r.2.mem ((c.tc : Thread Cert.NormCK.nD Cert.NormCK.τ).loc Cert.NormCK.main_arg3) = m ((c.tc : Thread Cert.NormCK.nD Cert.NormCK.τ).loc Cert.NormCK.main_arg3))
      ∧ r.2.sem = fun _ => 0)

def quiescent_NormCKIdeal [hNormCKIdeal : Cert.NormCKIdeal.Facts] : Prop :=
  ∀ (m : (ℓ : Loc Cert.NormCKIdeal.nD Cert.NormCKIdeal.τ Cert.NormCKIdeal.sig) → Buf (Elt Ideal) ℓ) (g : Dev Cert.NormCKIdeal.nD → PrngReg), Pre_NormCKIdeal m →
    θ_run (Cert.NormCKIdeal.defs (F := Ideal)) (onTc (τ := Cert.NormCKIdeal.τ) (Cert.NormCKIdeal.main (F := Ideal))) ⟨m, fun _ => 0, g⟩ (fun r => (∀ c : Dev Cert.NormCKIdeal.nD,
      r.2.mem ((c.tc : Thread Cert.NormCKIdeal.nD Cert.NormCKIdeal.τ).loc Cert.NormCKIdeal.main_arg0) = m ((c.tc : Thread Cert.NormCKIdeal.nD Cert.NormCKIdeal.τ).loc Cert.NormCKIdeal.main_arg0)
      ∧ r.2.mem ((c.tc : Thread Cert.NormCKIdeal.nD Cert.NormCKIdeal.τ).loc Cert.NormCKIdeal.main_arg1) = m ((c.tc : Thread Cert.NormCKIdeal.nD Cert.NormCKIdeal.τ).loc Cert.NormCKIdeal.main_arg1)
      ∧ r.2.mem ((c.tc : Thread Cert.NormCKIdeal.nD Cert.NormCKIdeal.τ).loc Cert.NormCKIdeal.main_arg2) = m ((c.tc : Thread Cert.NormCKIdeal.nD Cert.NormCKIdeal.τ).loc Cert.NormCKIdeal.main_arg2)
      ∧ r.2.mem ((c.tc : Thread Cert.NormCKIdeal.nD Cert.NormCKIdeal.τ).loc Cert.NormCKIdeal.main_arg3) = m ((c.tc : Thread Cert.NormCKIdeal.nD Cert.NormCKIdeal.τ).loc Cert.NormCKIdeal.main_arg3))
      ∧ r.2.sem = fun _ => 0)

def quiescent_NormCRIdeal [hNormCRIdeal : Cert.NormCRIdeal.Facts] : Prop :=
  ∀ (m : (ℓ : Loc Cert.NormCRIdeal.nD Cert.NormCRIdeal.τ Cert.NormCRIdeal.sig) → Buf (Elt Ideal) ℓ) (g : Dev Cert.NormCRIdeal.nD → PrngReg), Pre_NormCRIdeal m →
    θ_run (Cert.NormCRIdeal.defs (F := Ideal)) (onTc (τ := Cert.NormCRIdeal.τ) (Cert.NormCRIdeal.main (F := Ideal))) ⟨m, fun _ => 0, g⟩ (fun r => (∀ c : Dev Cert.NormCRIdeal.nD,
      r.2.mem ((c.tc : Thread Cert.NormCRIdeal.nD Cert.NormCRIdeal.τ).loc Cert.NormCRIdeal.main_arg0) = m ((c.tc : Thread Cert.NormCRIdeal.nD Cert.NormCRIdeal.τ).loc Cert.NormCRIdeal.main_arg0)
      ∧ r.2.mem ((c.tc : Thread Cert.NormCRIdeal.nD Cert.NormCRIdeal.τ).loc Cert.NormCRIdeal.main_arg1) = m ((c.tc : Thread Cert.NormCRIdeal.nD Cert.NormCRIdeal.τ).loc Cert.NormCRIdeal.main_arg1)
      ∧ r.2.mem ((c.tc : Thread Cert.NormCRIdeal.nD Cert.NormCRIdeal.τ).loc Cert.NormCRIdeal.main_arg2) = m ((c.tc : Thread Cert.NormCRIdeal.nD Cert.NormCRIdeal.τ).loc Cert.NormCRIdeal.main_arg2)
      ∧ r.2.mem ((c.tc : Thread Cert.NormCRIdeal.nD Cert.NormCRIdeal.τ).loc Cert.NormCRIdeal.main_arg3) = m ((c.tc : Thread Cert.NormCRIdeal.nD Cert.NormCRIdeal.τ).loc Cert.NormCRIdeal.main_arg3))
      ∧ r.2.sem = fun _ => 0)

def quiescent_ResK [hResK : Cert.ResK.Facts] : Prop :=
  ∀ (m : (ℓ : Loc Cert.ResK.nD Cert.ResK.τ Cert.ResK.sig) → Buf (Elt Bits) ℓ) (g : Dev Cert.ResK.nD → PrngReg), Pre_ResK m →
    θ_run (Cert.ResK.defs (F := Bits)) (onTc (τ := Cert.ResK.τ) (Cert.ResK.main (F := Bits))) ⟨m, fun _ => 0, g⟩ (fun r => (∀ c : Dev Cert.ResK.nD,
      r.2.mem ((c.tc : Thread Cert.ResK.nD Cert.ResK.τ).loc Cert.ResK.main_arg0) = m ((c.tc : Thread Cert.ResK.nD Cert.ResK.τ).loc Cert.ResK.main_arg0)
      ∧ r.2.mem ((c.tc : Thread Cert.ResK.nD Cert.ResK.τ).loc Cert.ResK.main_arg1) = m ((c.tc : Thread Cert.ResK.nD Cert.ResK.τ).loc Cert.ResK.main_arg1)
      ∧ r.2.mem ((c.tc : Thread Cert.ResK.nD Cert.ResK.τ).loc Cert.ResK.main_arg2) = m ((c.tc : Thread Cert.ResK.nD Cert.ResK.τ).loc Cert.ResK.main_arg2)
      ∧ r.2.mem ((c.tc : Thread Cert.ResK.nD Cert.ResK.τ).loc Cert.ResK.main_arg3) = m ((c.tc : Thread Cert.ResK.nD Cert.ResK.τ).loc Cert.ResK.main_arg3)
      ∧ r.2.mem ((c.tc : Thread Cert.ResK.nD Cert.ResK.τ).loc Cert.ResK.main_arg4) = m ((c.tc : Thread Cert.ResK.nD Cert.ResK.τ).loc Cert.ResK.main_arg4)
      ∧ r.2.mem ((c.tc : Thread Cert.ResK.nD Cert.ResK.τ).loc Cert.ResK.main_arg5) = m ((c.tc : Thread Cert.ResK.nD Cert.ResK.τ).loc Cert.ResK.main_arg5)
      ∧ r.2.mem ((c.tc : Thread Cert.ResK.nD Cert.ResK.τ).loc Cert.ResK.main_arg6) = m ((c.tc : Thread Cert.ResK.nD Cert.ResK.τ).loc Cert.ResK.main_arg6))
      ∧ r.2.sem = fun _ => 0)

def quiescent_ResKIdeal [hResKIdeal : Cert.ResKIdeal.Facts] : Prop :=
  ∀ (m : (ℓ : Loc Cert.ResKIdeal.nD Cert.ResKIdeal.τ Cert.ResKIdeal.sig) → Buf (Elt Ideal) ℓ) (g : Dev Cert.ResKIdeal.nD → PrngReg), Pre_ResKIdeal m →
    θ_run (Cert.ResKIdeal.defs (F := Ideal)) (onTc (τ := Cert.ResKIdeal.τ) (Cert.ResKIdeal.main (F := Ideal))) ⟨m, fun _ => 0, g⟩ (fun r => (∀ c : Dev Cert.ResKIdeal.nD,
      r.2.mem ((c.tc : Thread Cert.ResKIdeal.nD Cert.ResKIdeal.τ).loc Cert.ResKIdeal.main_arg0) = m ((c.tc : Thread Cert.ResKIdeal.nD Cert.ResKIdeal.τ).loc Cert.ResKIdeal.main_arg0)
      ∧ r.2.mem ((c.tc : Thread Cert.ResKIdeal.nD Cert.ResKIdeal.τ).loc Cert.ResKIdeal.main_arg1) = m ((c.tc : Thread Cert.ResKIdeal.nD Cert.ResKIdeal.τ).loc Cert.ResKIdeal.main_arg1)
      ∧ r.2.mem ((c.tc : Thread Cert.ResKIdeal.nD Cert.ResKIdeal.τ).loc Cert.ResKIdeal.main_arg2) = m ((c.tc : Thread Cert.ResKIdeal.nD Cert.ResKIdeal.τ).loc Cert.ResKIdeal.main_arg2)
      ∧ r.2.mem ((c.tc : Thread Cert.ResKIdeal.nD Cert.ResKIdeal.τ).loc Cert.ResKIdeal.main_arg3) = m ((c.tc : Thread Cert.ResKIdeal.nD Cert.ResKIdeal.τ).loc Cert.ResKIdeal.main_arg3)
      ∧ r.2.mem ((c.tc : Thread Cert.ResKIdeal.nD Cert.ResKIdeal.τ).loc Cert.ResKIdeal.main_arg4) = m ((c.tc : Thread Cert.ResKIdeal.nD Cert.ResKIdeal.τ).loc Cert.ResKIdeal.main_arg4)
      ∧ r.2.mem ((c.tc : Thread Cert.ResKIdeal.nD Cert.ResKIdeal.τ).loc Cert.ResKIdeal.main_arg5) = m ((c.tc : Thread Cert.ResKIdeal.nD Cert.ResKIdeal.τ).loc Cert.ResKIdeal.main_arg5)
      ∧ r.2.mem ((c.tc : Thread Cert.ResKIdeal.nD Cert.ResKIdeal.τ).loc Cert.ResKIdeal.main_arg6) = m ((c.tc : Thread Cert.ResKIdeal.nD Cert.ResKIdeal.τ).loc Cert.ResKIdeal.main_arg6))
      ∧ r.2.sem = fun _ => 0)

def quiescent_ResRIdeal [hResRIdeal : Cert.ResRIdeal.Facts] : Prop :=
  ∀ (m : (ℓ : Loc Cert.ResRIdeal.nD Cert.ResRIdeal.τ Cert.ResRIdeal.sig) → Buf (Elt Ideal) ℓ) (g : Dev Cert.ResRIdeal.nD → PrngReg), Pre_ResRIdeal m →
    θ_run (Cert.ResRIdeal.defs (F := Ideal)) (onTc (τ := Cert.ResRIdeal.τ) (Cert.ResRIdeal.main (F := Ideal))) ⟨m, fun _ => 0, g⟩ (fun r => (∀ c : Dev Cert.ResRIdeal.nD,
      r.2.mem ((c.tc : Thread Cert.ResRIdeal.nD Cert.ResRIdeal.τ).loc Cert.ResRIdeal.main_arg0) = m ((c.tc : Thread Cert.ResRIdeal.nD Cert.ResRIdeal.τ).loc Cert.ResRIdeal.main_arg0)
      ∧ r.2.mem ((c.tc : Thread Cert.ResRIdeal.nD Cert.ResRIdeal.τ).loc Cert.ResRIdeal.main_arg1) = m ((c.tc : Thread Cert.ResRIdeal.nD Cert.ResRIdeal.τ).loc Cert.ResRIdeal.main_arg1)
      ∧ r.2.mem ((c.tc : Thread Cert.ResRIdeal.nD Cert.ResRIdeal.τ).loc Cert.ResRIdeal.main_arg2) = m ((c.tc : Thread Cert.ResRIdeal.nD Cert.ResRIdeal.τ).loc Cert.ResRIdeal.main_arg2)
      ∧ r.2.mem ((c.tc : Thread Cert.ResRIdeal.nD Cert.ResRIdeal.τ).loc Cert.ResRIdeal.main_arg3) = m ((c.tc : Thread Cert.ResRIdeal.nD Cert.ResRIdeal.τ).loc Cert.ResRIdeal.main_arg3)
      ∧ r.2.mem ((c.tc : Thread Cert.ResRIdeal.nD Cert.ResRIdeal.τ).loc Cert.ResRIdeal.main_arg4) = m ((c.tc : Thread Cert.ResRIdeal.nD Cert.ResRIdeal.τ).loc Cert.ResRIdeal.main_arg4)
      ∧ r.2.mem ((c.tc : Thread Cert.ResRIdeal.nD Cert.ResRIdeal.τ).loc Cert.ResRIdeal.main_arg5) = m ((c.tc : Thread Cert.ResRIdeal.nD Cert.ResRIdeal.τ).loc Cert.ResRIdeal.main_arg5)
      ∧ r.2.mem ((c.tc : Thread Cert.ResRIdeal.nD Cert.ResRIdeal.τ).loc Cert.ResRIdeal.main_arg6) = m ((c.tc : Thread Cert.ResRIdeal.nD Cert.ResRIdeal.τ).loc Cert.ResRIdeal.main_arg6))
      ∧ r.2.sem = fun _ => 0)

def quiescent_HeadK [hHeadK : Cert.HeadK.Facts] : Prop :=
  ∀ (m : (ℓ : Loc Cert.HeadK.nD Cert.HeadK.τ Cert.HeadK.sig) → Buf (Elt Bits) ℓ) (g : Dev Cert.HeadK.nD → PrngReg), Pre_HeadK m →
    θ_run (Cert.HeadK.defs (F := Bits)) (onTc (τ := Cert.HeadK.τ) (Cert.HeadK.main (F := Bits))) ⟨m, fun _ => 0, g⟩ (fun r => (∀ c : Dev Cert.HeadK.nD,
      r.2.mem ((c.tc : Thread Cert.HeadK.nD Cert.HeadK.τ).loc Cert.HeadK.main_arg0) = m ((c.tc : Thread Cert.HeadK.nD Cert.HeadK.τ).loc Cert.HeadK.main_arg0)
      ∧ r.2.mem ((c.tc : Thread Cert.HeadK.nD Cert.HeadK.τ).loc Cert.HeadK.main_arg1) = m ((c.tc : Thread Cert.HeadK.nD Cert.HeadK.τ).loc Cert.HeadK.main_arg1)
      ∧ r.2.mem ((c.tc : Thread Cert.HeadK.nD Cert.HeadK.τ).loc Cert.HeadK.main_arg2) = m ((c.tc : Thread Cert.HeadK.nD Cert.HeadK.τ).loc Cert.HeadK.main_arg2)
      ∧ r.2.mem ((c.tc : Thread Cert.HeadK.nD Cert.HeadK.τ).loc Cert.HeadK.main_arg3) = m ((c.tc : Thread Cert.HeadK.nD Cert.HeadK.τ).loc Cert.HeadK.main_arg3)
      ∧ r.2.mem ((c.tc : Thread Cert.HeadK.nD Cert.HeadK.τ).loc Cert.HeadK.main_arg4) = m ((c.tc : Thread Cert.HeadK.nD Cert.HeadK.τ).loc Cert.HeadK.main_arg4))
      ∧ r.2.sem = fun _ => 0)

def quiescent_HeadKIdeal [hHeadKIdeal : Cert.HeadKIdeal.Facts] : Prop :=
  ∀ (m : (ℓ : Loc Cert.HeadKIdeal.nD Cert.HeadKIdeal.τ Cert.HeadKIdeal.sig) → Buf (Elt Ideal) ℓ) (g : Dev Cert.HeadKIdeal.nD → PrngReg), Pre_HeadKIdeal m →
    θ_run (Cert.HeadKIdeal.defs (F := Ideal)) (onTc (τ := Cert.HeadKIdeal.τ) (Cert.HeadKIdeal.main (F := Ideal))) ⟨m, fun _ => 0, g⟩ (fun r => (∀ c : Dev Cert.HeadKIdeal.nD,
      r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
      ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
      ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
      ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3)
      ∧ r.2.mem ((c.tc : Thread Cert.HeadKIdeal.nD Cert.HeadKIdeal.τ).loc Cert.HeadKIdeal.main_arg4) = m ((c.tc : Thread Cert.HeadKIdeal.nD Cert.HeadKIdeal.τ).loc Cert.HeadKIdeal.main_arg4))
      ∧ r.2.sem = fun _ => 0)

def quiescent_HeadRIdeal [hHeadRIdeal : Cert.HeadRIdeal.Facts] : Prop :=
  ∀ (m : (ℓ : Loc Cert.HeadRIdeal.nD Cert.HeadRIdeal.τ Cert.HeadRIdeal.sig) → Buf (Elt Ideal) ℓ) (g : Dev Cert.HeadRIdeal.nD → PrngReg), Pre_HeadRIdeal m →
    θ_run (Cert.HeadRIdeal.defs (F := Ideal)) (onTc (τ := Cert.HeadRIdeal.τ) (Cert.HeadRIdeal.main (F := Ideal))) ⟨m, fun _ => 0, g⟩ (fun r => (∀ c : Dev Cert.HeadRIdeal.nD,
      r.2.mem ((c.tc : Thread Cert.HeadRIdeal.nD Cert.HeadRIdeal.τ).loc Cert.HeadRIdeal.main_arg0) = m ((c.tc : Thread Cert.HeadRIdeal.nD Cert.HeadRIdeal.τ).loc Cert.HeadRIdeal.main_arg0)
      ∧ r.2.mem ((c.tc : Thread Cert.HeadRIdeal.nD Cert.HeadRIdeal.τ).loc Cert.HeadRIdeal.main_arg1) = m ((c.tc : Thread Cert.HeadRIdeal.nD Cert.HeadRIdeal.τ).loc Cert.HeadRIdeal.main_arg1)
      ∧ r.2.mem ((c.tc : Thread Cert.HeadRIdeal.nD Cert.HeadRIdeal.τ).loc Cert.HeadRIdeal.main_arg2) = m ((c.tc : Thread Cert.HeadRIdeal.nD Cert.HeadRIdeal.τ).loc Cert.HeadRIdeal.main_arg2)
      ∧ r.2.mem ((c.tc : Thread Cert.HeadRIdeal.nD Cert.HeadRIdeal.τ).loc Cert.HeadRIdeal.main_arg3) = m ((c.tc : Thread Cert.HeadRIdeal.nD Cert.HeadRIdeal.τ).loc Cert.HeadRIdeal.main_arg3)
      ∧ r.2.mem ((c.tc : Thread Cert.HeadRIdeal.nD Cert.HeadRIdeal.τ).loc Cert.HeadRIdeal.main_arg4) = m ((c.tc : Thread Cert.HeadRIdeal.nD Cert.HeadRIdeal.τ).loc Cert.HeadRIdeal.main_arg4))
      ∧ r.2.sem = fun _ => 0)

def quiescent_GdnOutK [hGdnOutK : Cert.GdnOutK.Facts] : Prop :=
  ∀ (m : (ℓ : Loc Cert.GdnOutK.nD Cert.GdnOutK.τ Cert.GdnOutK.sig) → Buf (Elt Bits) ℓ) (g : Dev Cert.GdnOutK.nD → PrngReg), Pre_GdnOutK m →
    θ_run (Cert.GdnOutK.defs (F := Bits)) (onTc (τ := Cert.GdnOutK.τ) (Cert.GdnOutK.main (F := Bits))) ⟨m, fun _ => 0, g⟩ (fun r => (∀ c : Dev Cert.GdnOutK.nD,
      r.2.mem ((c.tc : Thread Cert.GdnOutK.nD Cert.GdnOutK.τ).loc Cert.GdnOutK.main_arg0) = m ((c.tc : Thread Cert.GdnOutK.nD Cert.GdnOutK.τ).loc Cert.GdnOutK.main_arg0)
      ∧ r.2.mem ((c.tc : Thread Cert.GdnOutK.nD Cert.GdnOutK.τ).loc Cert.GdnOutK.main_arg1) = m ((c.tc : Thread Cert.GdnOutK.nD Cert.GdnOutK.τ).loc Cert.GdnOutK.main_arg1)
      ∧ r.2.mem ((c.tc : Thread Cert.GdnOutK.nD Cert.GdnOutK.τ).loc Cert.GdnOutK.main_arg2) = m ((c.tc : Thread Cert.GdnOutK.nD Cert.GdnOutK.τ).loc Cert.GdnOutK.main_arg2)
      ∧ r.2.mem ((c.tc : Thread Cert.GdnOutK.nD Cert.GdnOutK.τ).loc Cert.GdnOutK.main_arg3) = m ((c.tc : Thread Cert.GdnOutK.nD Cert.GdnOutK.τ).loc Cert.GdnOutK.main_arg3))
      ∧ r.2.sem = fun _ => 0)

def quiescent_GdnOutKIdeal [hGdnOutKIdeal : Cert.GdnOutKIdeal.Facts] : Prop :=
  ∀ (m : (ℓ : Loc Cert.GdnOutKIdeal.nD Cert.GdnOutKIdeal.τ Cert.GdnOutKIdeal.sig) → Buf (Elt Ideal) ℓ) (g : Dev Cert.GdnOutKIdeal.nD → PrngReg), Pre_GdnOutKIdeal m →
    θ_run (Cert.GdnOutKIdeal.defs (F := Ideal)) (onTc (τ := Cert.GdnOutKIdeal.τ) (Cert.GdnOutKIdeal.main (F := Ideal))) ⟨m, fun _ => 0, g⟩ (fun r => (∀ c : Dev Cert.GdnOutKIdeal.nD,
      r.2.mem ((c.tc : Thread Cert.GdnOutKIdeal.nD Cert.GdnOutKIdeal.τ).loc Cert.GdnOutKIdeal.main_arg0) = m ((c.tc : Thread Cert.GdnOutKIdeal.nD Cert.GdnOutKIdeal.τ).loc Cert.GdnOutKIdeal.main_arg0)
      ∧ r.2.mem ((c.tc : Thread Cert.GdnOutKIdeal.nD Cert.GdnOutKIdeal.τ).loc Cert.GdnOutKIdeal.main_arg1) = m ((c.tc : Thread Cert.GdnOutKIdeal.nD Cert.GdnOutKIdeal.τ).loc Cert.GdnOutKIdeal.main_arg1)
      ∧ r.2.mem ((c.tc : Thread Cert.GdnOutKIdeal.nD Cert.GdnOutKIdeal.τ).loc Cert.GdnOutKIdeal.main_arg2) = m ((c.tc : Thread Cert.GdnOutKIdeal.nD Cert.GdnOutKIdeal.τ).loc Cert.GdnOutKIdeal.main_arg2)
      ∧ r.2.mem ((c.tc : Thread Cert.GdnOutKIdeal.nD Cert.GdnOutKIdeal.τ).loc Cert.GdnOutKIdeal.main_arg3) = m ((c.tc : Thread Cert.GdnOutKIdeal.nD Cert.GdnOutKIdeal.τ).loc Cert.GdnOutKIdeal.main_arg3))
      ∧ r.2.sem = fun _ => 0)

def quiescent_GdnOutRIdeal [hGdnOutRIdeal : Cert.GdnOutRIdeal.Facts] : Prop :=
  ∀ (m : (ℓ : Loc Cert.GdnOutRIdeal.nD Cert.GdnOutRIdeal.τ Cert.GdnOutRIdeal.sig) → Buf (Elt Ideal) ℓ) (g : Dev Cert.GdnOutRIdeal.nD → PrngReg), Pre_GdnOutRIdeal m →
    θ_run (Cert.GdnOutRIdeal.defs (F := Ideal)) (onTc (τ := Cert.GdnOutRIdeal.τ) (Cert.GdnOutRIdeal.main (F := Ideal))) ⟨m, fun _ => 0, g⟩ (fun r => (∀ c : Dev Cert.GdnOutRIdeal.nD,
      r.2.mem ((c.tc : Thread Cert.GdnOutRIdeal.nD Cert.GdnOutRIdeal.τ).loc Cert.GdnOutRIdeal.main_arg0) = m ((c.tc : Thread Cert.GdnOutRIdeal.nD Cert.GdnOutRIdeal.τ).loc Cert.GdnOutRIdeal.main_arg0)
      ∧ r.2.mem ((c.tc : Thread Cert.GdnOutRIdeal.nD Cert.GdnOutRIdeal.τ).loc Cert.GdnOutRIdeal.main_arg1) = m ((c.tc : Thread Cert.GdnOutRIdeal.nD Cert.GdnOutRIdeal.τ).loc Cert.GdnOutRIdeal.main_arg1)
      ∧ r.2.mem ((c.tc : Thread Cert.GdnOutRIdeal.nD Cert.GdnOutRIdeal.τ).loc Cert.GdnOutRIdeal.main_arg2) = m ((c.tc : Thread Cert.GdnOutRIdeal.nD Cert.GdnOutRIdeal.τ).loc Cert.GdnOutRIdeal.main_arg2)
      ∧ r.2.mem ((c.tc : Thread Cert.GdnOutRIdeal.nD Cert.GdnOutRIdeal.τ).loc Cert.GdnOutRIdeal.main_arg3) = m ((c.tc : Thread Cert.GdnOutRIdeal.nD Cert.GdnOutRIdeal.τ).loc Cert.GdnOutRIdeal.main_arg3))
      ∧ r.2.sem = fun _ => 0)

def quiescent_QPrepK [hQPrepK : Cert.QPrepK.Facts] : Prop :=
  ∀ (m : (ℓ : Loc Cert.QPrepK.nD Cert.QPrepK.τ Cert.QPrepK.sig) → Buf (Elt Bits) ℓ) (g : Dev Cert.QPrepK.nD → PrngReg), Pre_QPrepK m →
    θ_run (Cert.QPrepK.defs (F := Bits)) (onTc (τ := Cert.QPrepK.τ) (Cert.QPrepK.main (F := Bits))) ⟨m, fun _ => 0, g⟩ (fun r => (∀ c : Dev Cert.QPrepK.nD,
      r.2.mem ((c.tc : Thread Cert.QPrepK.nD Cert.QPrepK.τ).loc Cert.QPrepK.main_arg0) = m ((c.tc : Thread Cert.QPrepK.nD Cert.QPrepK.τ).loc Cert.QPrepK.main_arg0)
      ∧ r.2.mem ((c.tc : Thread Cert.QPrepK.nD Cert.QPrepK.τ).loc Cert.QPrepK.main_arg1) = m ((c.tc : Thread Cert.QPrepK.nD Cert.QPrepK.τ).loc Cert.QPrepK.main_arg1)
      ∧ r.2.mem ((c.tc : Thread Cert.QPrepK.nD Cert.QPrepK.τ).loc Cert.QPrepK.main_arg2) = m ((c.tc : Thread Cert.QPrepK.nD Cert.QPrepK.τ).loc Cert.QPrepK.main_arg2))
      ∧ r.2.sem = fun _ => 0)

def quiescent_QPrepKIdeal [hQPrepKIdeal : Cert.QPrepKIdeal.Facts] : Prop :=
  ∀ (m : (ℓ : Loc Cert.QPrepKIdeal.nD Cert.QPrepKIdeal.τ Cert.QPrepKIdeal.sig) → Buf (Elt Ideal) ℓ) (g : Dev Cert.QPrepKIdeal.nD → PrngReg), Pre_QPrepKIdeal m →
    θ_run (Cert.QPrepKIdeal.defs (F := Ideal)) (onTc (τ := Cert.QPrepKIdeal.τ) (Cert.QPrepKIdeal.main (F := Ideal))) ⟨m, fun _ => 0, g⟩ (fun r => (∀ c : Dev Cert.QPrepKIdeal.nD,
      r.2.mem ((c.tc : Thread Cert.QPrepKIdeal.nD Cert.QPrepKIdeal.τ).loc Cert.QPrepKIdeal.main_arg0) = m ((c.tc : Thread Cert.QPrepKIdeal.nD Cert.QPrepKIdeal.τ).loc Cert.QPrepKIdeal.main_arg0)
      ∧ r.2.mem ((c.tc : Thread Cert.QPrepKIdeal.nD Cert.QPrepKIdeal.τ).loc Cert.QPrepKIdeal.main_arg1) = m ((c.tc : Thread Cert.QPrepKIdeal.nD Cert.QPrepKIdeal.τ).loc Cert.QPrepKIdeal.main_arg1)
      ∧ r.2.mem ((c.tc : Thread Cert.QPrepKIdeal.nD Cert.QPrepKIdeal.τ).loc Cert.QPrepKIdeal.main_arg2) = m ((c.tc : Thread Cert.QPrepKIdeal.nD Cert.QPrepKIdeal.τ).loc Cert.QPrepKIdeal.main_arg2))
      ∧ r.2.sem = fun _ => 0)

def quiescent_QPrepRIdeal [hQPrepRIdeal : Cert.QPrepRIdeal.Facts] : Prop :=
  ∀ (m : (ℓ : Loc Cert.QPrepRIdeal.nD Cert.QPrepRIdeal.τ Cert.QPrepRIdeal.sig) → Buf (Elt Ideal) ℓ) (g : Dev Cert.QPrepRIdeal.nD → PrngReg), Pre_QPrepRIdeal m →
    θ_run (Cert.QPrepRIdeal.defs (F := Ideal)) (onTc (τ := Cert.QPrepRIdeal.τ) (Cert.QPrepRIdeal.main (F := Ideal))) ⟨m, fun _ => 0, g⟩ (fun r => (∀ c : Dev Cert.QPrepRIdeal.nD,
      r.2.mem ((c.tc : Thread Cert.QPrepRIdeal.nD Cert.QPrepRIdeal.τ).loc Cert.QPrepRIdeal.main_arg0) = m ((c.tc : Thread Cert.QPrepRIdeal.nD Cert.QPrepRIdeal.τ).loc Cert.QPrepRIdeal.main_arg0)
      ∧ r.2.mem ((c.tc : Thread Cert.QPrepRIdeal.nD Cert.QPrepRIdeal.τ).loc Cert.QPrepRIdeal.main_arg1) = m ((c.tc : Thread Cert.QPrepRIdeal.nD Cert.QPrepRIdeal.τ).loc Cert.QPrepRIdeal.main_arg1)
      ∧ r.2.mem ((c.tc : Thread Cert.QPrepRIdeal.nD Cert.QPrepRIdeal.τ).loc Cert.QPrepRIdeal.main_arg2) = m ((c.tc : Thread Cert.QPrepRIdeal.nD Cert.QPrepRIdeal.τ).loc Cert.QPrepRIdeal.main_arg2))
      ∧ r.2.sem = fun _ => 0)

def quiescent_KPrepK [hKPrepK : Cert.KPrepK.Facts] : Prop :=
  ∀ (m : (ℓ : Loc Cert.KPrepK.nD Cert.KPrepK.τ Cert.KPrepK.sig) → Buf (Elt Bits) ℓ) (g : Dev Cert.KPrepK.nD → PrngReg), Pre_KPrepK m →
    θ_run (Cert.KPrepK.defs (F := Bits)) (onTc (τ := Cert.KPrepK.τ) (Cert.KPrepK.main (F := Bits))) ⟨m, fun _ => 0, g⟩ (fun r => (∀ c : Dev Cert.KPrepK.nD,
      r.2.mem ((c.tc : Thread Cert.KPrepK.nD Cert.KPrepK.τ).loc Cert.KPrepK.main_arg0) = m ((c.tc : Thread Cert.KPrepK.nD Cert.KPrepK.τ).loc Cert.KPrepK.main_arg0)
      ∧ r.2.mem ((c.tc : Thread Cert.KPrepK.nD Cert.KPrepK.τ).loc Cert.KPrepK.main_arg1) = m ((c.tc : Thread Cert.KPrepK.nD Cert.KPrepK.τ).loc Cert.KPrepK.main_arg1)
      ∧ r.2.mem ((c.tc : Thread Cert.KPrepK.nD Cert.KPrepK.τ).loc Cert.KPrepK.main_arg2) = m ((c.tc : Thread Cert.KPrepK.nD Cert.KPrepK.τ).loc Cert.KPrepK.main_arg2))
      ∧ r.2.sem = fun _ => 0)

def quiescent_KPrepKIdeal [hKPrepKIdeal : Cert.KPrepKIdeal.Facts] : Prop :=
  ∀ (m : (ℓ : Loc Cert.KPrepKIdeal.nD Cert.KPrepKIdeal.τ Cert.KPrepKIdeal.sig) → Buf (Elt Ideal) ℓ) (g : Dev Cert.KPrepKIdeal.nD → PrngReg), Pre_KPrepKIdeal m →
    θ_run (Cert.KPrepKIdeal.defs (F := Ideal)) (onTc (τ := Cert.KPrepKIdeal.τ) (Cert.KPrepKIdeal.main (F := Ideal))) ⟨m, fun _ => 0, g⟩ (fun r => (∀ c : Dev Cert.KPrepKIdeal.nD,
      r.2.mem ((c.tc : Thread Cert.KPrepKIdeal.nD Cert.KPrepKIdeal.τ).loc Cert.KPrepKIdeal.main_arg0) = m ((c.tc : Thread Cert.KPrepKIdeal.nD Cert.KPrepKIdeal.τ).loc Cert.KPrepKIdeal.main_arg0)
      ∧ r.2.mem ((c.tc : Thread Cert.KPrepKIdeal.nD Cert.KPrepKIdeal.τ).loc Cert.KPrepKIdeal.main_arg1) = m ((c.tc : Thread Cert.KPrepKIdeal.nD Cert.KPrepKIdeal.τ).loc Cert.KPrepKIdeal.main_arg1)
      ∧ r.2.mem ((c.tc : Thread Cert.KPrepKIdeal.nD Cert.KPrepKIdeal.τ).loc Cert.KPrepKIdeal.main_arg2) = m ((c.tc : Thread Cert.KPrepKIdeal.nD Cert.KPrepKIdeal.τ).loc Cert.KPrepKIdeal.main_arg2))
      ∧ r.2.sem = fun _ => 0)

def quiescent_KPrepRIdeal [hKPrepRIdeal : Cert.KPrepRIdeal.Facts] : Prop :=
  ∀ (m : (ℓ : Loc Cert.KPrepRIdeal.nD Cert.KPrepRIdeal.τ Cert.KPrepRIdeal.sig) → Buf (Elt Ideal) ℓ) (g : Dev Cert.KPrepRIdeal.nD → PrngReg), Pre_KPrepRIdeal m →
    θ_run (Cert.KPrepRIdeal.defs (F := Ideal)) (onTc (τ := Cert.KPrepRIdeal.τ) (Cert.KPrepRIdeal.main (F := Ideal))) ⟨m, fun _ => 0, g⟩ (fun r => (∀ c : Dev Cert.KPrepRIdeal.nD,
      r.2.mem ((c.tc : Thread Cert.KPrepRIdeal.nD Cert.KPrepRIdeal.τ).loc Cert.KPrepRIdeal.main_arg0) = m ((c.tc : Thread Cert.KPrepRIdeal.nD Cert.KPrepRIdeal.τ).loc Cert.KPrepRIdeal.main_arg0)
      ∧ r.2.mem ((c.tc : Thread Cert.KPrepRIdeal.nD Cert.KPrepRIdeal.τ).loc Cert.KPrepRIdeal.main_arg1) = m ((c.tc : Thread Cert.KPrepRIdeal.nD Cert.KPrepRIdeal.τ).loc Cert.KPrepRIdeal.main_arg1)
      ∧ r.2.mem ((c.tc : Thread Cert.KPrepRIdeal.nD Cert.KPrepRIdeal.τ).loc Cert.KPrepRIdeal.main_arg2) = m ((c.tc : Thread Cert.KPrepRIdeal.nD Cert.KPrepRIdeal.τ).loc Cert.KPrepRIdeal.main_arg2))
      ∧ r.2.sem = fun _ => 0)

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3))
      ∧ r.2.sem = fun _ => 0)

def quiescent_GdnPrepK [hGdnPrepK : Cert.GdnPrepK.Facts] : Prop :=
  ∀ (m : (ℓ : Loc Cert.GdnPrepK.nD Cert.GdnPrepK.τ Cert.GdnPrepK.sig) → Buf (Elt Bits) ℓ) (g : Dev Cert.GdnPrepK.nD → PrngReg), Pre_GdnPrepK m →
    θ_run (Cert.GdnPrepK.defs (F := Bits)) (onTc (τ := Cert.GdnPrepK.τ) (Cert.GdnPrepK.main (F := Bits))) ⟨m, fun _ => 0, g⟩ (fun r => (∀ c : Dev Cert.GdnPrepK.nD,
      r.2.mem ((c.tc : Thread Cert.GdnPrepK.nD Cert.GdnPrepK.τ).loc Cert.GdnPrepK.main_arg0) = m ((c.tc : Thread Cert.GdnPrepK.nD Cert.GdnPrepK.τ).loc Cert.GdnPrepK.main_arg0)
      ∧ r.2.mem ((c.tc : Thread Cert.GdnPrepK.nD Cert.GdnPrepK.τ).loc Cert.GdnPrepK.main_arg1) = m ((c.tc : Thread Cert.GdnPrepK.nD Cert.GdnPrepK.τ).loc Cert.GdnPrepK.main_arg1)
      ∧ r.2.mem ((c.tc : Thread Cert.GdnPrepK.nD Cert.GdnPrepK.τ).loc Cert.GdnPrepK.main_arg2) = m ((c.tc : Thread Cert.GdnPrepK.nD Cert.GdnPrepK.τ).loc Cert.GdnPrepK.main_arg2))
      ∧ r.2.sem = fun _ => 0)

def quiescent_GdnPrepKIdeal [hGdnPrepKIdeal : Cert.GdnPrepKIdeal.Facts] : Prop :=
  ∀ (m : (ℓ : Loc Cert.GdnPrepKIdeal.nD Cert.GdnPrepKIdeal.τ Cert.GdnPrepKIdeal.sig) → Buf (Elt Ideal) ℓ) (g : Dev Cert.GdnPrepKIdeal.nD → PrngReg), Pre_GdnPrepKIdeal m →
    θ_run (Cert.GdnPrepKIdeal.defs (F := Ideal)) (onTc (τ := Cert.GdnPrepKIdeal.τ) (Cert.GdnPrepKIdeal.main (F := Ideal))) ⟨m, fun _ => 0, g⟩ (fun r => (∀ c : Dev Cert.GdnPrepKIdeal.nD,
      r.2.mem ((c.tc : Thread Cert.GdnPrepKIdeal.nD Cert.GdnPrepKIdeal.τ).loc Cert.GdnPrepKIdeal.main_arg0) = m ((c.tc : Thread Cert.GdnPrepKIdeal.nD Cert.GdnPrepKIdeal.τ).loc Cert.GdnPrepKIdeal.main_arg0)
      ∧ r.2.mem ((c.tc : Thread Cert.GdnPrepKIdeal.nD Cert.GdnPrepKIdeal.τ).loc Cert.GdnPrepKIdeal.main_arg1) = m ((c.tc : Thread Cert.GdnPrepKIdeal.nD Cert.GdnPrepKIdeal.τ).loc Cert.GdnPrepKIdeal.main_arg1)
      ∧ r.2.mem ((c.tc : Thread Cert.GdnPrepKIdeal.nD Cert.GdnPrepKIdeal.τ).loc Cert.GdnPrepKIdeal.main_arg2) = m ((c.tc : Thread Cert.GdnPrepKIdeal.nD Cert.GdnPrepKIdeal.τ).loc Cert.GdnPrepKIdeal.main_arg2))
      ∧ r.2.sem = fun _ => 0)

def quiescent_GdnPrepRIdeal [hGdnPrepRIdeal : Cert.GdnPrepRIdeal.Facts] : Prop :=
  ∀ (m : (ℓ : Loc Cert.GdnPrepRIdeal.nD Cert.GdnPrepRIdeal.τ Cert.GdnPrepRIdeal.sig) → Buf (Elt Ideal) ℓ) (g : Dev Cert.GdnPrepRIdeal.nD → PrngReg), Pre_GdnPrepRIdeal m →
    θ_run (Cert.GdnPrepRIdeal.defs (F := Ideal)) (onTc (τ := Cert.GdnPrepRIdeal.τ) (Cert.GdnPrepRIdeal.main (F := Ideal))) ⟨m, fun _ => 0, g⟩ (fun r => (∀ c : Dev Cert.GdnPrepRIdeal.nD,
      r.2.mem ((c.tc : Thread Cert.GdnPrepRIdeal.nD Cert.GdnPrepRIdeal.τ).loc Cert.GdnPrepRIdeal.main_arg0) = m ((c.tc : Thread Cert.GdnPrepRIdeal.nD Cert.GdnPrepRIdeal.τ).loc Cert.GdnPrepRIdeal.main_arg0)
      ∧ r.2.mem ((c.tc : Thread Cert.GdnPrepRIdeal.nD Cert.GdnPrepRIdeal.τ).loc Cert.GdnPrepRIdeal.main_arg1) = m ((c.tc : Thread Cert.GdnPrepRIdeal.nD Cert.GdnPrepRIdeal.τ).loc Cert.GdnPrepRIdeal.main_arg1)
      ∧ r.2.mem ((c.tc : Thread Cert.GdnPrepRIdeal.nD Cert.GdnPrepRIdeal.τ).loc Cert.GdnPrepRIdeal.main_arg2) = m ((c.tc : Thread Cert.GdnPrepRIdeal.nD Cert.GdnPrepRIdeal.τ).loc Cert.GdnPrepRIdeal.main_arg2))
      ∧ r.2.sem = fun _ => 0)

def quiescent_AttnFK [hAttnFK : Cert.AttnFK.Facts] : Prop :=
  ∀ (m : (ℓ : Loc Cert.AttnFK.nD Cert.AttnFK.τ Cert.AttnFK.sig) → Buf (Elt Bits) ℓ) (g : Dev Cert.AttnFK.nD → PrngReg), Pre_AttnFK m →
    θ_run (Cert.AttnFK.defs (F := Bits)) (onTc (τ := Cert.AttnFK.τ) (Cert.AttnFK.main (F := Bits))) ⟨m, fun _ => 0, g⟩ (fun r => (∀ c : Dev Cert.AttnFK.nD,
      r.2.mem ((c.tc : Thread Cert.AttnFK.nD Cert.AttnFK.τ).loc Cert.AttnFK.main_arg0) = m ((c.tc : Thread Cert.AttnFK.nD Cert.AttnFK.τ).loc Cert.AttnFK.main_arg0)
      ∧ r.2.mem ((c.tc : Thread Cert.AttnFK.nD Cert.AttnFK.τ).loc Cert.AttnFK.main_arg1) = m ((c.tc : Thread Cert.AttnFK.nD Cert.AttnFK.τ).loc Cert.AttnFK.main_arg1)
      ∧ r.2.mem ((c.tc : Thread Cert.AttnFK.nD Cert.AttnFK.τ).loc Cert.AttnFK.main_arg2) = m ((c.tc : Thread Cert.AttnFK.nD Cert.AttnFK.τ).loc Cert.AttnFK.main_arg2))
      ∧ r.2.sem = fun _ => 0)

def quiescent_AttnFKIdeal [hAttnFKIdeal : Cert.AttnFKIdeal.Facts] : Prop :=
  ∀ (m : (ℓ : Loc Cert.AttnFKIdeal.nD Cert.AttnFKIdeal.τ Cert.AttnFKIdeal.sig) → Buf (Elt Ideal) ℓ) (g : Dev Cert.AttnFKIdeal.nD → PrngReg), Pre_AttnFKIdeal m →
    θ_run (Cert.AttnFKIdeal.defs (F := Ideal)) (onTc (τ := Cert.AttnFKIdeal.τ) (Cert.AttnFKIdeal.main (F := Ideal))) ⟨m, fun _ => 0, g⟩ (fun r => (∀ c : Dev Cert.AttnFKIdeal.nD,
      r.2.mem ((c.tc : Thread Cert.AttnFKIdeal.nD Cert.AttnFKIdeal.τ).loc Cert.AttnFKIdeal.main_arg0) = m ((c.tc : Thread Cert.AttnFKIdeal.nD Cert.AttnFKIdeal.τ).loc Cert.AttnFKIdeal.main_arg0)
      ∧ r.2.mem ((c.tc : Thread Cert.AttnFKIdeal.nD Cert.AttnFKIdeal.τ).loc Cert.AttnFKIdeal.main_arg1) = m ((c.tc : Thread Cert.AttnFKIdeal.nD Cert.AttnFKIdeal.τ).loc Cert.AttnFKIdeal.main_arg1)
      ∧ r.2.mem ((c.tc : Thread Cert.AttnFKIdeal.nD Cert.AttnFKIdeal.τ).loc Cert.AttnFKIdeal.main_arg2) = m ((c.tc : Thread Cert.AttnFKIdeal.nD Cert.AttnFKIdeal.τ).loc Cert.AttnFKIdeal.main_arg2))
      ∧ r.2.sem = fun _ => 0)

def quiescent_AttnFKIdeal_pre_finite_attnf [hAttnFKIdeal : Cert.AttnFKIdeal.Facts] [hPre_finite_attnf : Cert.Pre_finite_attnf.Facts] : Prop :=
  ∀ (m : (ℓ : Loc Cert.AttnFKIdeal.nD Cert.AttnFKIdeal.τ Cert.AttnFKIdeal.sig) → Buf (Elt Ideal) ℓ) (g : Dev Cert.AttnFKIdeal.nD → PrngReg), Pre_AttnFKIdeal_finite_attnf m →
    θ_run (Cert.AttnFKIdeal.defs (F := Ideal)) (onTc (τ := Cert.AttnFKIdeal.τ) (Cert.AttnFKIdeal.main (F := Ideal))) ⟨m, fun _ => 0, g⟩ (fun r => (∀ c : Dev Cert.AttnFKIdeal.nD,
      r.2.mem ((c.tc : Thread Cert.AttnFKIdeal.nD Cert.AttnFKIdeal.τ).loc Cert.AttnFKIdeal.main_arg0) = m ((c.tc : Thread Cert.AttnFKIdeal.nD Cert.AttnFKIdeal.τ).loc Cert.AttnFKIdeal.main_arg0)
      ∧ r.2.mem ((c.tc : Thread Cert.AttnFKIdeal.nD Cert.AttnFKIdeal.τ).loc Cert.AttnFKIdeal.main_arg1) = m ((c.tc : Thread Cert.AttnFKIdeal.nD Cert.AttnFKIdeal.τ).loc Cert.AttnFKIdeal.main_arg1)
      ∧ r.2.mem ((c.tc : Thread Cert.AttnFKIdeal.nD Cert.AttnFKIdeal.τ).loc Cert.AttnFKIdeal.main_arg2) = m ((c.tc : Thread Cert.AttnFKIdeal.nD Cert.AttnFKIdeal.τ).loc Cert.AttnFKIdeal.main_arg2))
      ∧ r.2.sem = fun _ => 0)

def quiescent_AttnFRIdeal [hAttnFRIdeal : Cert.AttnFRIdeal.Facts] : Prop :=
  ∀ (m : (ℓ : Loc Cert.AttnFRIdeal.nD Cert.AttnFRIdeal.τ Cert.AttnFRIdeal.sig) → Buf (Elt Ideal) ℓ) (g : Dev Cert.AttnFRIdeal.nD → PrngReg), Pre_AttnFRIdeal m →
    θ_run (Cert.AttnFRIdeal.defs (F := Ideal)) (onTc (τ := Cert.AttnFRIdeal.τ) (Cert.AttnFRIdeal.main (F := Ideal))) ⟨m, fun _ => 0, g⟩ (fun r => (∀ c : Dev Cert.AttnFRIdeal.nD,
      r.2.mem ((c.tc : Thread Cert.AttnFRIdeal.nD Cert.AttnFRIdeal.τ).loc Cert.AttnFRIdeal.main_arg0) = m ((c.tc : Thread Cert.AttnFRIdeal.nD Cert.AttnFRIdeal.τ).loc Cert.AttnFRIdeal.main_arg0)
      ∧ r.2.mem ((c.tc : Thread Cert.AttnFRIdeal.nD Cert.AttnFRIdeal.τ).loc Cert.AttnFRIdeal.main_arg1) = m ((c.tc : Thread Cert.AttnFRIdeal.nD Cert.AttnFRIdeal.τ).loc Cert.AttnFRIdeal.main_arg1)
      ∧ r.2.mem ((c.tc : Thread Cert.AttnFRIdeal.nD Cert.AttnFRIdeal.τ).loc Cert.AttnFRIdeal.main_arg2) = m ((c.tc : Thread Cert.AttnFRIdeal.nD Cert.AttnFRIdeal.τ).loc Cert.AttnFRIdeal.main_arg2))
      ∧ r.2.sem = fun _ => 0)

def quiescent_AttnFRIdeal_pre_finite_attnf [hAttnFRIdeal : Cert.AttnFRIdeal.Facts] [hPre_finite_attnf : Cert.Pre_finite_attnf.Facts] : Prop :=
  ∀ (m : (ℓ : Loc Cert.AttnFRIdeal.nD Cert.AttnFRIdeal.τ Cert.AttnFRIdeal.sig) → Buf (Elt Ideal) ℓ) (g : Dev Cert.AttnFRIdeal.nD → PrngReg), Pre_AttnFRIdeal_finite_attnf m →
    θ_run (Cert.AttnFRIdeal.defs (F := Ideal)) (onTc (τ := Cert.AttnFRIdeal.τ) (Cert.AttnFRIdeal.main (F := Ideal))) ⟨m, fun _ => 0, g⟩ (fun r => (∀ c : Dev Cert.AttnFRIdeal.nD,
      r.2.mem ((c.tc : Thread Cert.AttnFRIdeal.nD Cert.AttnFRIdeal.τ).loc Cert.AttnFRIdeal.main_arg0) = m ((c.tc : Thread Cert.AttnFRIdeal.nD Cert.AttnFRIdeal.τ).loc Cert.AttnFRIdeal.main_arg0)
      ∧ r.2.mem ((c.tc : Thread Cert.AttnFRIdeal.nD Cert.AttnFRIdeal.τ).loc Cert.AttnFRIdeal.main_arg1) = m ((c.tc : Thread Cert.AttnFRIdeal.nD Cert.AttnFRIdeal.τ).loc Cert.AttnFRIdeal.main_arg1)
      ∧ r.2.mem ((c.tc : Thread Cert.AttnFRIdeal.nD Cert.AttnFRIdeal.τ).loc Cert.AttnFRIdeal.main_arg2) = m ((c.tc : Thread Cert.AttnFRIdeal.nD Cert.AttnFRIdeal.τ).loc Cert.AttnFRIdeal.main_arg2))
      ∧ r.2.sem = fun _ => 0)

def quiescent_MergeFK [hMergeFK : Cert.MergeFK.Facts] : Prop :=
  ∀ (m : (ℓ : Loc Cert.MergeFK.nD Cert.MergeFK.τ Cert.MergeFK.sig) → Buf (Elt Bits) ℓ) (g : Dev Cert.MergeFK.nD → PrngReg), Pre_MergeFK m →
    θ_run (Cert.MergeFK.defs (F := Bits)) (onTc (τ := Cert.MergeFK.τ) (Cert.MergeFK.main (F := Bits))) ⟨m, fun _ => 0, g⟩ (fun r => (∀ c : Dev Cert.MergeFK.nD,
      r.2.mem ((c.tc : Thread Cert.MergeFK.nD Cert.MergeFK.τ).loc Cert.MergeFK.main_arg0) = m ((c.tc : Thread Cert.MergeFK.nD Cert.MergeFK.τ).loc Cert.MergeFK.main_arg0)
      ∧ r.2.mem ((c.tc : Thread Cert.MergeFK.nD Cert.MergeFK.τ).loc Cert.MergeFK.main_arg1) = m ((c.tc : Thread Cert.MergeFK.nD Cert.MergeFK.τ).loc Cert.MergeFK.main_arg1)
      ∧ r.2.mem ((c.tc : Thread Cert.MergeFK.nD Cert.MergeFK.τ).loc Cert.MergeFK.main_arg2) = m ((c.tc : Thread Cert.MergeFK.nD Cert.MergeFK.τ).loc Cert.MergeFK.main_arg2))
      ∧ r.2.sem = fun _ => 0)

def quiescent_MergeFKIdeal [hMergeFKIdeal : Cert.MergeFKIdeal.Facts] : Prop :=
  ∀ (m : (ℓ : Loc Cert.MergeFKIdeal.nD Cert.MergeFKIdeal.τ Cert.MergeFKIdeal.sig) → Buf (Elt Ideal) ℓ) (g : Dev Cert.MergeFKIdeal.nD → PrngReg), Pre_MergeFKIdeal m →
    θ_run (Cert.MergeFKIdeal.defs (F := Ideal)) (onTc (τ := Cert.MergeFKIdeal.τ) (Cert.MergeFKIdeal.main (F := Ideal))) ⟨m, fun _ => 0, g⟩ (fun r => (∀ c : Dev Cert.MergeFKIdeal.nD,
      r.2.mem ((c.tc : Thread Cert.MergeFKIdeal.nD Cert.MergeFKIdeal.τ).loc Cert.MergeFKIdeal.main_arg0) = m ((c.tc : Thread Cert.MergeFKIdeal.nD Cert.MergeFKIdeal.τ).loc Cert.MergeFKIdeal.main_arg0)
      ∧ r.2.mem ((c.tc : Thread Cert.MergeFKIdeal.nD Cert.MergeFKIdeal.τ).loc Cert.MergeFKIdeal.main_arg1) = m ((c.tc : Thread Cert.MergeFKIdeal.nD Cert.MergeFKIdeal.τ).loc Cert.MergeFKIdeal.main_arg1)
      ∧ r.2.mem ((c.tc : Thread Cert.MergeFKIdeal.nD Cert.MergeFKIdeal.τ).loc Cert.MergeFKIdeal.main_arg2) = m ((c.tc : Thread Cert.MergeFKIdeal.nD Cert.MergeFKIdeal.τ).loc Cert.MergeFKIdeal.main_arg2))
      ∧ r.2.sem = fun _ => 0)

def quiescent_MergeFRIdeal [hMergeFRIdeal : Cert.MergeFRIdeal.Facts] : Prop :=
  ∀ (m : (ℓ : Loc Cert.MergeFRIdeal.nD Cert.MergeFRIdeal.τ Cert.MergeFRIdeal.sig) → Buf (Elt Ideal) ℓ) (g : Dev Cert.MergeFRIdeal.nD → PrngReg), Pre_MergeFRIdeal m →
    θ_run (Cert.MergeFRIdeal.defs (F := Ideal)) (onTc (τ := Cert.MergeFRIdeal.τ) (Cert.MergeFRIdeal.main (F := Ideal))) ⟨m, fun _ => 0, g⟩ (fun r => (∀ c : Dev Cert.MergeFRIdeal.nD,
      r.2.mem ((c.tc : Thread Cert.MergeFRIdeal.nD Cert.MergeFRIdeal.τ).loc Cert.MergeFRIdeal.main_arg0) = m ((c.tc : Thread Cert.MergeFRIdeal.nD Cert.MergeFRIdeal.τ).loc Cert.MergeFRIdeal.main_arg0)
      ∧ r.2.mem ((c.tc : Thread Cert.MergeFRIdeal.nD Cert.MergeFRIdeal.τ).loc Cert.MergeFRIdeal.main_arg1) = m ((c.tc : Thread Cert.MergeFRIdeal.nD Cert.MergeFRIdeal.τ).loc Cert.MergeFRIdeal.main_arg1)
      ∧ r.2.mem ((c.tc : Thread Cert.MergeFRIdeal.nD Cert.MergeFRIdeal.τ).loc Cert.MergeFRIdeal.main_arg2) = m ((c.tc : Thread Cert.MergeFRIdeal.nD Cert.MergeFRIdeal.τ).loc Cert.MergeFRIdeal.main_arg2))
      ∧ r.2.sem = fun _ => 0)

def quiescent_NormFK [hNormFK : Cert.NormFK.Facts] : Prop :=
  ∀ (m : (ℓ : Loc Cert.NormFK.nD Cert.NormFK.τ Cert.NormFK.sig) → Buf (Elt Bits) ℓ) (g : Dev Cert.NormFK.nD → PrngReg), Pre_NormFK m →
    θ_run (Cert.NormFK.defs (F := Bits)) (onTc (τ := Cert.NormFK.τ) (Cert.NormFK.main (F := Bits))) ⟨m, fun _ => 0, g⟩ (fun r => (∀ c : Dev Cert.NormFK.nD,
      r.2.mem ((c.tc : Thread Cert.NormFK.nD Cert.NormFK.τ).loc Cert.NormFK.main_arg0) = m ((c.tc : Thread Cert.NormFK.nD Cert.NormFK.τ).loc Cert.NormFK.main_arg0)
      ∧ r.2.mem ((c.tc : Thread Cert.NormFK.nD Cert.NormFK.τ).loc Cert.NormFK.main_arg1) = m ((c.tc : Thread Cert.NormFK.nD Cert.NormFK.τ).loc Cert.NormFK.main_arg1)
      ∧ r.2.mem ((c.tc : Thread Cert.NormFK.nD Cert.NormFK.τ).loc Cert.NormFK.main_arg2) = m ((c.tc : Thread Cert.NormFK.nD Cert.NormFK.τ).loc Cert.NormFK.main_arg2))
      ∧ r.2.sem = fun _ => 0)

def quiescent_NormFKIdeal [hNormFKIdeal : Cert.NormFKIdeal.Facts] : Prop :=
  ∀ (m : (ℓ : Loc Cert.NormFKIdeal.nD Cert.NormFKIdeal.τ Cert.NormFKIdeal.sig) → Buf (Elt Ideal) ℓ) (g : Dev Cert.NormFKIdeal.nD → PrngReg), Pre_NormFKIdeal m →
    θ_run (Cert.NormFKIdeal.defs (F := Ideal)) (onTc (τ := Cert.NormFKIdeal.τ) (Cert.NormFKIdeal.main (F := Ideal))) ⟨m, fun _ => 0, g⟩ (fun r => (∀ c : Dev Cert.NormFKIdeal.nD,
      r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
      ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1)
      ∧ r.2.mem ((c.tc : Thread Cert.NormFKIdeal.nD Cert.NormFKIdeal.τ).loc Cert.NormFKIdeal.main_arg2) = m ((c.tc : Thread Cert.NormFKIdeal.nD Cert.NormFKIdeal.τ).loc Cert.NormFKIdeal.main_arg2))
      ∧ r.2.sem = fun _ => 0)

def quiescent_NormFRIdeal [hNormFRIdeal : Cert.NormFRIdeal.Facts] : Prop :=
  ∀ (m : (ℓ : Loc Cert.NormFRIdeal.nD Cert.NormFRIdeal.τ Cert.NormFRIdeal.sig) → Buf (Elt Ideal) ℓ) (g : Dev Cert.NormFRIdeal.nD → PrngReg), Pre_NormFRIdeal m →
    θ_run (Cert.NormFRIdeal.defs (F := Ideal)) (onTc (τ := Cert.NormFRIdeal.τ) (Cert.NormFRIdeal.main (F := Ideal))) ⟨m, fun _ => 0, g⟩ (fun r => (∀ c : Dev Cert.NormFRIdeal.nD,
      r.2.mem ((c.tc : Thread Cert.NormFRIdeal.nD Cert.NormFRIdeal.τ).loc Cert.NormFRIdeal.main_arg0) = m ((c.tc : Thread Cert.NormFRIdeal.nD Cert.NormFRIdeal.τ).loc Cert.NormFRIdeal.main_arg0)
      ∧ r.2.mem ((c.tc : Thread Cert.NormFRIdeal.nD Cert.NormFRIdeal.τ).loc Cert.NormFRIdeal.main_arg1) = m ((c.tc : Thread Cert.NormFRIdeal.nD Cert.NormFRIdeal.τ).loc Cert.NormFRIdeal.main_arg1)
      ∧ r.2.mem ((c.tc : Thread Cert.NormFRIdeal.nD Cert.NormFRIdeal.τ).loc Cert.NormFRIdeal.main_arg2) = m ((c.tc : Thread Cert.NormFRIdeal.nD Cert.NormFRIdeal.τ).loc Cert.NormFRIdeal.main_arg2))
      ∧ r.2.sem = fun _ => 0)

def quiescent_NormCFK [hNormCFK : Cert.NormCFK.Facts] : Prop :=
  ∀ (m : (ℓ : Loc Cert.NormCFK.nD Cert.NormCFK.τ Cert.NormCFK.sig) → Buf (Elt Bits) ℓ) (g : Dev Cert.NormCFK.nD → PrngReg), Pre_NormCFK m →
    θ_run (Cert.NormCFK.defs (F := Bits)) (onTc (τ := Cert.NormCFK.τ) (Cert.NormCFK.main (F := Bits))) ⟨m, fun _ => 0, g⟩ (fun r => (∀ c : Dev Cert.NormCFK.nD,
      r.2.mem ((c.tc : Thread Cert.NormCFK.nD Cert.NormCFK.τ).loc Cert.NormCFK.main_arg0) = m ((c.tc : Thread Cert.NormCFK.nD Cert.NormCFK.τ).loc Cert.NormCFK.main_arg0)
      ∧ r.2.mem ((c.tc : Thread Cert.NormCFK.nD Cert.NormCFK.τ).loc Cert.NormCFK.main_arg1) = m ((c.tc : Thread Cert.NormCFK.nD Cert.NormCFK.τ).loc Cert.NormCFK.main_arg1)
      ∧ r.2.mem ((c.tc : Thread Cert.NormCFK.nD Cert.NormCFK.τ).loc Cert.NormCFK.main_arg2) = m ((c.tc : Thread Cert.NormCFK.nD Cert.NormCFK.τ).loc Cert.NormCFK.main_arg2))
      ∧ r.2.sem = fun _ => 0)

def quiescent_NormCFKIdeal [hNormCFKIdeal : Cert.NormCFKIdeal.Facts] : Prop :=
  ∀ (m : (ℓ : Loc Cert.NormCFKIdeal.nD Cert.NormCFKIdeal.τ Cert.NormCFKIdeal.sig) → Buf (Elt Ideal) ℓ) (g : Dev Cert.NormCFKIdeal.nD → PrngReg), Pre_NormCFKIdeal m →
    θ_run (Cert.NormCFKIdeal.defs (F := Ideal)) (onTc (τ := Cert.NormCFKIdeal.τ) (Cert.NormCFKIdeal.main (F := Ideal))) ⟨m, fun _ => 0, g⟩ (fun r => (∀ c : Dev Cert.NormCFKIdeal.nD,
      r.2.mem ((c.tc : Thread Cert.NormCFKIdeal.nD Cert.NormCFKIdeal.τ).loc Cert.NormCFKIdeal.main_arg0) = m ((c.tc : Thread Cert.NormCFKIdeal.nD Cert.NormCFKIdeal.τ).loc Cert.NormCFKIdeal.main_arg0)
      ∧ r.2.mem ((c.tc : Thread Cert.NormCFKIdeal.nD Cert.NormCFKIdeal.τ).loc Cert.NormCFKIdeal.main_arg1) = m ((c.tc : Thread Cert.NormCFKIdeal.nD Cert.NormCFKIdeal.τ).loc Cert.NormCFKIdeal.main_arg1)
      ∧ r.2.mem ((c.tc : Thread Cert.NormCFKIdeal.nD Cert.NormCFKIdeal.τ).loc Cert.NormCFKIdeal.main_arg2) = m ((c.tc : Thread Cert.NormCFKIdeal.nD Cert.NormCFKIdeal.τ).loc Cert.NormCFKIdeal.main_arg2))
      ∧ r.2.sem = fun _ => 0)

def quiescent_NormCFRIdeal [hNormCFRIdeal : Cert.NormCFRIdeal.Facts] : Prop :=
  ∀ (m : (ℓ : Loc Cert.NormCFRIdeal.nD Cert.NormCFRIdeal.τ Cert.NormCFRIdeal.sig) → Buf (Elt Ideal) ℓ) (g : Dev Cert.NormCFRIdeal.nD → PrngReg), Pre_NormCFRIdeal m →
    θ_run (Cert.NormCFRIdeal.defs (F := Ideal)) (onTc (τ := Cert.NormCFRIdeal.τ) (Cert.NormCFRIdeal.main (F := Ideal))) ⟨m, fun _ => 0, g⟩ (fun r => (∀ c : Dev Cert.NormCFRIdeal.nD,
      r.2.mem ((c.tc : Thread Cert.NormCFRIdeal.nD Cert.NormCFRIdeal.τ).loc Cert.NormCFRIdeal.main_arg0) = m ((c.tc : Thread Cert.NormCFRIdeal.nD Cert.NormCFRIdeal.τ).loc Cert.NormCFRIdeal.main_arg0)
      ∧ r.2.mem ((c.tc : Thread Cert.NormCFRIdeal.nD Cert.NormCFRIdeal.τ).loc Cert.NormCFRIdeal.main_arg1) = m ((c.tc : Thread Cert.NormCFRIdeal.nD Cert.NormCFRIdeal.τ).loc Cert.NormCFRIdeal.main_arg1)
      ∧ r.2.mem ((c.tc : Thread Cert.NormCFRIdeal.nD Cert.NormCFRIdeal.τ).loc Cert.NormCFRIdeal.main_arg2) = m ((c.tc : Thread Cert.NormCFRIdeal.nD Cert.NormCFRIdeal.τ).loc Cert.NormCFRIdeal.main_arg2))
      ∧ r.2.sem = fun _ => 0)

def quiescent_ResFK [hResFK : Cert.ResFK.Facts] : Prop :=
  ∀ (m : (ℓ : Loc Cert.ResFK.nD Cert.ResFK.τ Cert.ResFK.sig) → Buf (Elt Bits) ℓ) (g : Dev Cert.ResFK.nD → PrngReg), Pre_ResFK m →
    θ_run (Cert.ResFK.defs (F := Bits)) (onTc (τ := Cert.ResFK.τ) (Cert.ResFK.main (F := Bits))) ⟨m, fun _ => 0, g⟩ (fun r => (∀ c : Dev Cert.ResFK.nD,
      r.2.mem ((c.tc : Thread Cert.ResFK.nD Cert.ResFK.τ).loc Cert.ResFK.main_arg0) = m ((c.tc : Thread Cert.ResFK.nD Cert.ResFK.τ).loc Cert.ResFK.main_arg0)
      ∧ r.2.mem ((c.tc : Thread Cert.ResFK.nD Cert.ResFK.τ).loc Cert.ResFK.main_arg1) = m ((c.tc : Thread Cert.ResFK.nD Cert.ResFK.τ).loc Cert.ResFK.main_arg1)
      ∧ r.2.mem ((c.tc : Thread Cert.ResFK.nD Cert.ResFK.τ).loc Cert.ResFK.main_arg2) = m ((c.tc : Thread Cert.ResFK.nD Cert.ResFK.τ).loc Cert.ResFK.main_arg2)
      ∧ r.2.mem ((c.tc : Thread Cert.ResFK.nD Cert.ResFK.τ).loc Cert.ResFK.main_arg3) = m ((c.tc : Thread Cert.ResFK.nD Cert.ResFK.τ).loc Cert.ResFK.main_arg3)
      ∧ r.2.mem ((c.tc : Thread Cert.ResFK.nD Cert.ResFK.τ).loc Cert.ResFK.main_arg4) = m ((c.tc : Thread Cert.ResFK.nD Cert.ResFK.τ).loc Cert.ResFK.main_arg4))
      ∧ r.2.sem = fun _ => 0)

def quiescent_ResFKIdeal [hResFKIdeal : Cert.ResFKIdeal.Facts] : Prop :=
  ∀ (m : (ℓ : Loc Cert.ResFKIdeal.nD Cert.ResFKIdeal.τ Cert.ResFKIdeal.sig) → Buf (Elt Ideal) ℓ) (g : Dev Cert.ResFKIdeal.nD → PrngReg), Pre_ResFKIdeal m →
    θ_run (Cert.ResFKIdeal.defs (F := Ideal)) (onTc (τ := Cert.ResFKIdeal.τ) (Cert.ResFKIdeal.main (F := Ideal))) ⟨m, fun _ => 0, g⟩ (fun r => (∀ c : Dev Cert.ResFKIdeal.nD,
      r.2.mem ((c.tc : Thread Cert.ResFKIdeal.nD Cert.ResFKIdeal.τ).loc Cert.ResFKIdeal.main_arg0) = m ((c.tc : Thread Cert.ResFKIdeal.nD Cert.ResFKIdeal.τ).loc Cert.ResFKIdeal.main_arg0)
      ∧ r.2.mem ((c.tc : Thread Cert.ResFKIdeal.nD Cert.ResFKIdeal.τ).loc Cert.ResFKIdeal.main_arg1) = m ((c.tc : Thread Cert.ResFKIdeal.nD Cert.ResFKIdeal.τ).loc Cert.ResFKIdeal.main_arg1)
      ∧ r.2.mem ((c.tc : Thread Cert.ResFKIdeal.nD Cert.ResFKIdeal.τ).loc Cert.ResFKIdeal.main_arg2) = m ((c.tc : Thread Cert.ResFKIdeal.nD Cert.ResFKIdeal.τ).loc Cert.ResFKIdeal.main_arg2)
      ∧ r.2.mem ((c.tc : Thread Cert.ResFKIdeal.nD Cert.ResFKIdeal.τ).loc Cert.ResFKIdeal.main_arg3) = m ((c.tc : Thread Cert.ResFKIdeal.nD Cert.ResFKIdeal.τ).loc Cert.ResFKIdeal.main_arg3)
      ∧ r.2.mem ((c.tc : Thread Cert.ResFKIdeal.nD Cert.ResFKIdeal.τ).loc Cert.ResFKIdeal.main_arg4) = m ((c.tc : Thread Cert.ResFKIdeal.nD Cert.ResFKIdeal.τ).loc Cert.ResFKIdeal.main_arg4))
      ∧ r.2.sem = fun _ => 0)

def quiescent_ResFRIdeal [hResFRIdeal : Cert.ResFRIdeal.Facts] : Prop :=
  ∀ (m : (ℓ : Loc Cert.ResFRIdeal.nD Cert.ResFRIdeal.τ Cert.ResFRIdeal.sig) → Buf (Elt Ideal) ℓ) (g : Dev Cert.ResFRIdeal.nD → PrngReg), Pre_ResFRIdeal m →
    θ_run (Cert.ResFRIdeal.defs (F := Ideal)) (onTc (τ := Cert.ResFRIdeal.τ) (Cert.ResFRIdeal.main (F := Ideal))) ⟨m, fun _ => 0, g⟩ (fun r => (∀ c : Dev Cert.ResFRIdeal.nD,
      r.2.mem ((c.tc : Thread Cert.ResFRIdeal.nD Cert.ResFRIdeal.τ).loc Cert.ResFRIdeal.main_arg0) = m ((c.tc : Thread Cert.ResFRIdeal.nD Cert.ResFRIdeal.τ).loc Cert.ResFRIdeal.main_arg0)
      ∧ r.2.mem ((c.tc : Thread Cert.ResFRIdeal.nD Cert.ResFRIdeal.τ).loc Cert.ResFRIdeal.main_arg1) = m ((c.tc : Thread Cert.ResFRIdeal.nD Cert.ResFRIdeal.τ).loc Cert.ResFRIdeal.main_arg1)
      ∧ r.2.mem ((c.tc : Thread Cert.ResFRIdeal.nD Cert.ResFRIdeal.τ).loc Cert.ResFRIdeal.main_arg2) = m ((c.tc : Thread Cert.ResFRIdeal.nD Cert.ResFRIdeal.τ).loc Cert.ResFRIdeal.main_arg2)
      ∧ r.2.mem ((c.tc : Thread Cert.ResFRIdeal.nD Cert.ResFRIdeal.τ).loc Cert.ResFRIdeal.main_arg3) = m ((c.tc : Thread Cert.ResFRIdeal.nD Cert.ResFRIdeal.τ).loc Cert.ResFRIdeal.main_arg3)
      ∧ r.2.mem ((c.tc : Thread Cert.ResFRIdeal.nD Cert.ResFRIdeal.τ).loc Cert.ResFRIdeal.main_arg4) = m ((c.tc : Thread Cert.ResFRIdeal.nD Cert.ResFRIdeal.τ).loc Cert.ResFRIdeal.main_arg4))
      ∧ r.2.sem = fun _ => 0)

def quiescent_HeadFK [hHeadFK : Cert.HeadFK.Facts] : Prop :=
  ∀ (m : (ℓ : Loc Cert.HeadFK.nD Cert.HeadFK.τ Cert.HeadFK.sig) → Buf (Elt Bits) ℓ) (g : Dev Cert.HeadFK.nD → PrngReg), Pre_HeadFK m →
    θ_run (Cert.HeadFK.defs (F := Bits)) (onTc (τ := Cert.HeadFK.τ) (Cert.HeadFK.main (F := Bits))) ⟨m, fun _ => 0, g⟩ (fun r => (∀ c : Dev Cert.HeadFK.nD,
      r.2.mem ((c.tc : Thread Cert.HeadFK.nD Cert.HeadFK.τ).loc Cert.HeadFK.main_arg0) = m ((c.tc : Thread Cert.HeadFK.nD Cert.HeadFK.τ).loc Cert.HeadFK.main_arg0)
      ∧ r.2.mem ((c.tc : Thread Cert.HeadFK.nD Cert.HeadFK.τ).loc Cert.HeadFK.main_arg1) = m ((c.tc : Thread Cert.HeadFK.nD Cert.HeadFK.τ).loc Cert.HeadFK.main_arg1)
      ∧ r.2.mem ((c.tc : Thread Cert.HeadFK.nD Cert.HeadFK.τ).loc Cert.HeadFK.main_arg2) = m ((c.tc : Thread Cert.HeadFK.nD Cert.HeadFK.τ).loc Cert.HeadFK.main_arg2)
      ∧ r.2.mem ((c.tc : Thread Cert.HeadFK.nD Cert.HeadFK.τ).loc Cert.HeadFK.main_arg3) = m ((c.tc : Thread Cert.HeadFK.nD Cert.HeadFK.τ).loc Cert.HeadFK.main_arg3)
      ∧ r.2.mem ((c.tc : Thread Cert.HeadFK.nD Cert.HeadFK.τ).loc Cert.HeadFK.main_arg4) = m ((c.tc : Thread Cert.HeadFK.nD Cert.HeadFK.τ).loc Cert.HeadFK.main_arg4))
      ∧ r.2.sem = fun _ => 0)

def quiescent_HeadFKIdeal [hHeadFKIdeal : Cert.HeadFKIdeal.Facts] : Prop :=
  ∀ (m : (ℓ : Loc Cert.HeadFKIdeal.nD Cert.HeadFKIdeal.τ Cert.HeadFKIdeal.sig) → Buf (Elt Ideal) ℓ) (g : Dev Cert.HeadFKIdeal.nD → PrngReg), Pre_HeadFKIdeal m →
    θ_run (Cert.HeadFKIdeal.defs (F := Ideal)) (onTc (τ := Cert.HeadFKIdeal.τ) (Cert.HeadFKIdeal.main (F := Ideal))) ⟨m, fun _ => 0, g⟩ (fun r => (∀ c : Dev Cert.HeadFKIdeal.nD,
      r.2.mem ((c.tc : Thread Cert.HeadFKIdeal.nD Cert.HeadFKIdeal.τ).loc Cert.HeadFKIdeal.main_arg0) = m ((c.tc : Thread Cert.HeadFKIdeal.nD Cert.HeadFKIdeal.τ).loc Cert.HeadFKIdeal.main_arg0)
      ∧ r.2.mem ((c.tc : Thread Cert.HeadFKIdeal.nD Cert.HeadFKIdeal.τ).loc Cert.HeadFKIdeal.main_arg1) = m ((c.tc : Thread Cert.HeadFKIdeal.nD Cert.HeadFKIdeal.τ).loc Cert.HeadFKIdeal.main_arg1)
      ∧ r.2.mem ((c.tc : Thread Cert.HeadFKIdeal.nD Cert.HeadFKIdeal.τ).loc Cert.HeadFKIdeal.main_arg2) = m ((c.tc : Thread Cert.HeadFKIdeal.nD Cert.HeadFKIdeal.τ).loc Cert.HeadFKIdeal.main_arg2)
      ∧ r.2.mem ((c.tc : Thread Cert.HeadFKIdeal.nD Cert.HeadFKIdeal.τ).loc Cert.HeadFKIdeal.main_arg3) = m ((c.tc : Thread Cert.HeadFKIdeal.nD Cert.HeadFKIdeal.τ).loc Cert.HeadFKIdeal.main_arg3)
      ∧ r.2.mem ((c.tc : Thread Cert.HeadFKIdeal.nD Cert.HeadFKIdeal.τ).loc Cert.HeadFKIdeal.main_arg4) = m ((c.tc : Thread Cert.HeadFKIdeal.nD Cert.HeadFKIdeal.τ).loc Cert.HeadFKIdeal.main_arg4))
      ∧ r.2.sem = fun _ => 0)

def quiescent_HeadFRIdeal [hHeadFRIdeal : Cert.HeadFRIdeal.Facts] : Prop :=
  ∀ (m : (ℓ : Loc Cert.HeadFRIdeal.nD Cert.HeadFRIdeal.τ Cert.HeadFRIdeal.sig) → Buf (Elt Ideal) ℓ) (g : Dev Cert.HeadFRIdeal.nD → PrngReg), Pre_HeadFRIdeal m →
    θ_run (Cert.HeadFRIdeal.defs (F := Ideal)) (onTc (τ := Cert.HeadFRIdeal.τ) (Cert.HeadFRIdeal.main (F := Ideal))) ⟨m, fun _ => 0, g⟩ (fun r => (∀ c : Dev Cert.HeadFRIdeal.nD,
      r.2.mem ((c.tc : Thread Cert.HeadFRIdeal.nD Cert.HeadFRIdeal.τ).loc Cert.HeadFRIdeal.main_arg0) = m ((c.tc : Thread Cert.HeadFRIdeal.nD Cert.HeadFRIdeal.τ).loc Cert.HeadFRIdeal.main_arg0)
      ∧ r.2.mem ((c.tc : Thread Cert.HeadFRIdeal.nD Cert.HeadFRIdeal.τ).loc Cert.HeadFRIdeal.main_arg1) = m ((c.tc : Thread Cert.HeadFRIdeal.nD Cert.HeadFRIdeal.τ).loc Cert.HeadFRIdeal.main_arg1)
      ∧ r.2.mem ((c.tc : Thread Cert.HeadFRIdeal.nD Cert.HeadFRIdeal.τ).loc Cert.HeadFRIdeal.main_arg2) = m ((c.tc : Thread Cert.HeadFRIdeal.nD Cert.HeadFRIdeal.τ).loc Cert.HeadFRIdeal.main_arg2)
      ∧ r.2.mem ((c.tc : Thread Cert.HeadFRIdeal.nD Cert.HeadFRIdeal.τ).loc Cert.HeadFRIdeal.main_arg3) = m ((c.tc : Thread Cert.HeadFRIdeal.nD Cert.HeadFRIdeal.τ).loc Cert.HeadFRIdeal.main_arg3)
      ∧ r.2.mem ((c.tc : Thread Cert.HeadFRIdeal.nD Cert.HeadFRIdeal.τ).loc Cert.HeadFRIdeal.main_arg4) = m ((c.tc : Thread Cert.HeadFRIdeal.nD Cert.HeadFRIdeal.τ).loc Cert.HeadFRIdeal.main_arg4))
      ∧ r.2.sem = fun _ => 0)

def quiescent_QPrepFK [hQPrepFK : Cert.QPrepFK.Facts] : Prop :=
  ∀ (m : (ℓ : Loc Cert.QPrepFK.nD Cert.QPrepFK.τ Cert.QPrepFK.sig) → Buf (Elt Bits) ℓ) (g : Dev Cert.QPrepFK.nD → PrngReg), Pre_QPrepFK m →
    θ_run (Cert.QPrepFK.defs (F := Bits)) (onTc (τ := Cert.QPrepFK.τ) (Cert.QPrepFK.main (F := Bits))) ⟨m, fun _ => 0, g⟩ (fun r => (∀ c : Dev Cert.QPrepFK.nD,
      r.2.mem ((c.tc : Thread Cert.QPrepFK.nD Cert.QPrepFK.τ).loc Cert.QPrepFK.main_arg0) = m ((c.tc : Thread Cert.QPrepFK.nD Cert.QPrepFK.τ).loc Cert.QPrepFK.main_arg0)
      ∧ r.2.mem ((c.tc : Thread Cert.QPrepFK.nD Cert.QPrepFK.τ).loc Cert.QPrepFK.main_arg1) = m ((c.tc : Thread Cert.QPrepFK.nD Cert.QPrepFK.τ).loc Cert.QPrepFK.main_arg1))
      ∧ r.2.sem = fun _ => 0)

def quiescent_QPrepFKIdeal [hQPrepFKIdeal : Cert.QPrepFKIdeal.Facts] : Prop :=
  ∀ (m : (ℓ : Loc Cert.QPrepFKIdeal.nD Cert.QPrepFKIdeal.τ Cert.QPrepFKIdeal.sig) → Buf (Elt Ideal) ℓ) (g : Dev Cert.QPrepFKIdeal.nD → PrngReg), Pre_QPrepFKIdeal m →
    θ_run (Cert.QPrepFKIdeal.defs (F := Ideal)) (onTc (τ := Cert.QPrepFKIdeal.τ) (Cert.QPrepFKIdeal.main (F := Ideal))) ⟨m, fun _ => 0, g⟩ (fun r => (∀ c : Dev Cert.QPrepFKIdeal.nD,
      r.2.mem ((c.tc : Thread Cert.QPrepFKIdeal.nD Cert.QPrepFKIdeal.τ).loc Cert.QPrepFKIdeal.main_arg0) = m ((c.tc : Thread Cert.QPrepFKIdeal.nD Cert.QPrepFKIdeal.τ).loc Cert.QPrepFKIdeal.main_arg0)
      ∧ r.2.mem ((c.tc : Thread Cert.QPrepFKIdeal.nD Cert.QPrepFKIdeal.τ).loc Cert.QPrepFKIdeal.main_arg1) = m ((c.tc : Thread Cert.QPrepFKIdeal.nD Cert.QPrepFKIdeal.τ).loc Cert.QPrepFKIdeal.main_arg1))
      ∧ r.2.sem = fun _ => 0)

def quiescent_QPrepFRIdeal [hQPrepFRIdeal : Cert.QPrepFRIdeal.Facts] : Prop :=
  ∀ (m : (ℓ : Loc Cert.QPrepFRIdeal.nD Cert.QPrepFRIdeal.τ Cert.QPrepFRIdeal.sig) → Buf (Elt Ideal) ℓ) (g : Dev Cert.QPrepFRIdeal.nD → PrngReg), Pre_QPrepFRIdeal m →
    θ_run (Cert.QPrepFRIdeal.defs (F := Ideal)) (onTc (τ := Cert.QPrepFRIdeal.τ) (Cert.QPrepFRIdeal.main (F := Ideal))) ⟨m, fun _ => 0, g⟩ (fun r => (∀ c : Dev Cert.QPrepFRIdeal.nD,
      r.2.mem ((c.tc : Thread Cert.QPrepFRIdeal.nD Cert.QPrepFRIdeal.τ).loc Cert.QPrepFRIdeal.main_arg0) = m ((c.tc : Thread Cert.QPrepFRIdeal.nD Cert.QPrepFRIdeal.τ).loc Cert.QPrepFRIdeal.main_arg0)
      ∧ r.2.mem ((c.tc : Thread Cert.QPrepFRIdeal.nD Cert.QPrepFRIdeal.τ).loc Cert.QPrepFRIdeal.main_arg1) = m ((c.tc : Thread Cert.QPrepFRIdeal.nD Cert.QPrepFRIdeal.τ).loc Cert.QPrepFRIdeal.main_arg1))
      ∧ r.2.sem = fun _ => 0)

def quiescent_KPrepFK [hKPrepFK : Cert.KPrepFK.Facts] : Prop :=
  ∀ (m : (ℓ : Loc Cert.KPrepFK.nD Cert.KPrepFK.τ Cert.KPrepFK.sig) → Buf (Elt Bits) ℓ) (g : Dev Cert.KPrepFK.nD → PrngReg), Pre_KPrepFK m →
    θ_run (Cert.KPrepFK.defs (F := Bits)) (onTc (τ := Cert.KPrepFK.τ) (Cert.KPrepFK.main (F := Bits))) ⟨m, fun _ => 0, g⟩ (fun r => (∀ c : Dev Cert.KPrepFK.nD,
      r.2.mem ((c.tc : Thread Cert.KPrepFK.nD Cert.KPrepFK.τ).loc Cert.KPrepFK.main_arg0) = m ((c.tc : Thread Cert.KPrepFK.nD Cert.KPrepFK.τ).loc Cert.KPrepFK.main_arg0)
      ∧ r.2.mem ((c.tc : Thread Cert.KPrepFK.nD Cert.KPrepFK.τ).loc Cert.KPrepFK.main_arg1) = m ((c.tc : Thread Cert.KPrepFK.nD Cert.KPrepFK.τ).loc Cert.KPrepFK.main_arg1))
      ∧ r.2.sem = fun _ => 0)

def quiescent_KPrepFKIdeal [hKPrepFKIdeal : Cert.KPrepFKIdeal.Facts] : Prop :=
  ∀ (m : (ℓ : Loc Cert.KPrepFKIdeal.nD Cert.KPrepFKIdeal.τ Cert.KPrepFKIdeal.sig) → Buf (Elt Ideal) ℓ) (g : Dev Cert.KPrepFKIdeal.nD → PrngReg), Pre_KPrepFKIdeal m →
    θ_run (Cert.KPrepFKIdeal.defs (F := Ideal)) (onTc (τ := Cert.KPrepFKIdeal.τ) (Cert.KPrepFKIdeal.main (F := Ideal))) ⟨m, fun _ => 0, g⟩ (fun r => (∀ c : Dev Cert.KPrepFKIdeal.nD,
      r.2.mem ((c.tc : Thread Cert.KPrepFKIdeal.nD Cert.KPrepFKIdeal.τ).loc Cert.KPrepFKIdeal.main_arg0) = m ((c.tc : Thread Cert.KPrepFKIdeal.nD Cert.KPrepFKIdeal.τ).loc Cert.KPrepFKIdeal.main_arg0)
      ∧ r.2.mem ((c.tc : Thread Cert.KPrepFKIdeal.nD Cert.KPrepFKIdeal.τ).loc Cert.KPrepFKIdeal.main_arg1) = m ((c.tc : Thread Cert.KPrepFKIdeal.nD Cert.KPrepFKIdeal.τ).loc Cert.KPrepFKIdeal.main_arg1))
      ∧ r.2.sem = fun _ => 0)

def quiescent_KPrepFRIdeal [hKPrepFRIdeal : Cert.KPrepFRIdeal.Facts] : Prop :=
  ∀ (m : (ℓ : Loc Cert.KPrepFRIdeal.nD Cert.KPrepFRIdeal.τ Cert.KPrepFRIdeal.sig) → Buf (Elt Ideal) ℓ) (g : Dev Cert.KPrepFRIdeal.nD → PrngReg), Pre_KPrepFRIdeal m →
    θ_run (Cert.KPrepFRIdeal.defs (F := Ideal)) (onTc (τ := Cert.KPrepFRIdeal.τ) (Cert.KPrepFRIdeal.main (F := Ideal))) ⟨m, fun _ => 0, g⟩ (fun r => (∀ c : Dev Cert.KPrepFRIdeal.nD,
      r.2.mem ((c.tc : Thread Cert.KPrepFRIdeal.nD Cert.KPrepFRIdeal.τ).loc Cert.KPrepFRIdeal.main_arg0) = m ((c.tc : Thread Cert.KPrepFRIdeal.nD Cert.KPrepFRIdeal.τ).loc Cert.KPrepFRIdeal.main_arg0)
      ∧ r.2.mem ((c.tc : Thread Cert.KPrepFRIdeal.nD Cert.KPrepFRIdeal.τ).loc Cert.KPrepFRIdeal.main_arg1) = m ((c.tc : Thread Cert.KPrepFRIdeal.nD Cert.KPrepFRIdeal.τ).loc Cert.KPrepFRIdeal.main_arg1))
      ∧ r.2.sem = fun _ => 0)

def quiescent_FfnFK [hFfnFK : Cert.FfnFK.Facts] : Prop :=
  ∀ (m : (ℓ : Loc Cert.FfnFK.nD Cert.FfnFK.τ Cert.FfnFK.sig) → Buf (Elt Bits) ℓ) (g : Dev Cert.FfnFK.nD → PrngReg), Pre_FfnFK m →
    θ_run (Cert.FfnFK.defs (F := Bits)) (onTc (τ := Cert.FfnFK.τ) (Cert.FfnFK.main (F := Bits))) ⟨m, fun _ => 0, g⟩ (fun r => (∀ c : Dev Cert.FfnFK.nD,
      r.2.mem ((c.tc : Thread Cert.FfnFK.nD Cert.FfnFK.τ).loc Cert.FfnFK.main_arg0) = m ((c.tc : Thread Cert.FfnFK.nD Cert.FfnFK.τ).loc Cert.FfnFK.main_arg0)
      ∧ r.2.mem ((c.tc : Thread Cert.FfnFK.nD Cert.FfnFK.τ).loc Cert.FfnFK.main_arg1) = m ((c.tc : Thread Cert.FfnFK.nD Cert.FfnFK.τ).loc Cert.FfnFK.main_arg1)
      ∧ r.2.mem ((c.tc : Thread Cert.FfnFK.nD Cert.FfnFK.τ).loc Cert.FfnFK.main_arg2) = m ((c.tc : Thread Cert.FfnFK.nD Cert.FfnFK.τ).loc Cert.FfnFK.main_arg2))
      ∧ r.2.sem = fun _ => 0)

def quiescent_FfnFKIdeal [hFfnFKIdeal : Cert.FfnFKIdeal.Facts] : Prop :=
  ∀ (m : (ℓ : Loc Cert.FfnFKIdeal.nD Cert.FfnFKIdeal.τ Cert.FfnFKIdeal.sig) → Buf (Elt Ideal) ℓ) (g : Dev Cert.FfnFKIdeal.nD → PrngReg), Pre_FfnFKIdeal m →
    θ_run (Cert.FfnFKIdeal.defs (F := Ideal)) (onTc (τ := Cert.FfnFKIdeal.τ) (Cert.FfnFKIdeal.main (F := Ideal))) ⟨m, fun _ => 0, g⟩ (fun r => (∀ c : Dev Cert.FfnFKIdeal.nD,
      r.2.mem ((c.tc : Thread Cert.FfnFKIdeal.nD Cert.FfnFKIdeal.τ).loc Cert.FfnFKIdeal.main_arg0) = m ((c.tc : Thread Cert.FfnFKIdeal.nD Cert.FfnFKIdeal.τ).loc Cert.FfnFKIdeal.main_arg0)
      ∧ r.2.mem ((c.tc : Thread Cert.FfnFKIdeal.nD Cert.FfnFKIdeal.τ).loc Cert.FfnFKIdeal.main_arg1) = m ((c.tc : Thread Cert.FfnFKIdeal.nD Cert.FfnFKIdeal.τ).loc Cert.FfnFKIdeal.main_arg1)
      ∧ r.2.mem ((c.tc : Thread Cert.FfnFKIdeal.nD Cert.FfnFKIdeal.τ).loc Cert.FfnFKIdeal.main_arg2) = m ((c.tc : Thread Cert.FfnFKIdeal.nD Cert.FfnFKIdeal.τ).loc Cert.FfnFKIdeal.main_arg2))
      ∧ r.2.sem = fun _ => 0)

def quiescent_FfnFRIdeal [hFfnFRIdeal : Cert.FfnFRIdeal.Facts] : Prop :=
  ∀ (m : (ℓ : Loc Cert.FfnFRIdeal.nD Cert.FfnFRIdeal.τ Cert.FfnFRIdeal.sig) → Buf (Elt Ideal) ℓ) (g : Dev Cert.FfnFRIdeal.nD → PrngReg), Pre_FfnFRIdeal m →
    θ_run (Cert.FfnFRIdeal.defs (F := Ideal)) (onTc (τ := Cert.FfnFRIdeal.τ) (Cert.FfnFRIdeal.main (F := Ideal))) ⟨m, fun _ => 0, g⟩ (fun r => (∀ c : Dev Cert.FfnFRIdeal.nD,
      r.2.mem ((c.tc : Thread Cert.FfnFRIdeal.nD Cert.FfnFRIdeal.τ).loc Cert.FfnFRIdeal.main_arg0) = m ((c.tc : Thread Cert.FfnFRIdeal.nD Cert.FfnFRIdeal.τ).loc Cert.FfnFRIdeal.main_arg0)
      ∧ r.2.mem ((c.tc : Thread Cert.FfnFRIdeal.nD Cert.FfnFRIdeal.τ).loc Cert.FfnFRIdeal.main_arg1) = m ((c.tc : Thread Cert.FfnFRIdeal.nD Cert.FfnFRIdeal.τ).loc Cert.FfnFRIdeal.main_arg1)
      ∧ r.2.mem ((c.tc : Thread Cert.FfnFRIdeal.nD Cert.FfnFRIdeal.τ).loc Cert.FfnFRIdeal.main_arg2) = m ((c.tc : Thread Cert.FfnFRIdeal.nD Cert.FfnFRIdeal.τ).loc Cert.FfnFRIdeal.main_arg2))
      ∧ r.2.sem = fun _ => 0)

def quiescent_GdnOutFK [hGdnOutFK : Cert.GdnOutFK.Facts] : Prop :=
  ∀ (m : (ℓ : Loc Cert.GdnOutFK.nD Cert.GdnOutFK.τ Cert.GdnOutFK.sig) → Buf (Elt Bits) ℓ) (g : Dev Cert.GdnOutFK.nD → PrngReg), Pre_GdnOutFK m →
    θ_run (Cert.GdnOutFK.defs (F := Bits)) (onTc (τ := Cert.GdnOutFK.τ) (Cert.GdnOutFK.main (F := Bits))) ⟨m, fun _ => 0, g⟩ (fun r => (∀ c : Dev Cert.GdnOutFK.nD,
      r.2.mem ((c.tc : Thread Cert.GdnOutFK.nD Cert.GdnOutFK.τ).loc Cert.GdnOutFK.main_arg0) = m ((c.tc : Thread Cert.GdnOutFK.nD Cert.GdnOutFK.τ).loc Cert.GdnOutFK.main_arg0)
      ∧ r.2.mem ((c.tc : Thread Cert.GdnOutFK.nD Cert.GdnOutFK.τ).loc Cert.GdnOutFK.main_arg1) = m ((c.tc : Thread Cert.GdnOutFK.nD Cert.GdnOutFK.τ).loc Cert.GdnOutFK.main_arg1)
      ∧ r.2.mem ((c.tc : Thread Cert.GdnOutFK.nD Cert.GdnOutFK.τ).loc Cert.GdnOutFK.main_arg2) = m ((c.tc : Thread Cert.GdnOutFK.nD Cert.GdnOutFK.τ).loc Cert.GdnOutFK.main_arg2))
      ∧ r.2.sem = fun _ => 0)

def quiescent_GdnOutFKIdeal [hGdnOutFKIdeal : Cert.GdnOutFKIdeal.Facts] : Prop :=
  ∀ (m : (ℓ : Loc Cert.GdnOutFKIdeal.nD Cert.GdnOutFKIdeal.τ Cert.GdnOutFKIdeal.sig) → Buf (Elt Ideal) ℓ) (g : Dev Cert.GdnOutFKIdeal.nD → PrngReg), Pre_GdnOutFKIdeal m →
    θ_run (Cert.GdnOutFKIdeal.defs (F := Ideal)) (onTc (τ := Cert.GdnOutFKIdeal.τ) (Cert.GdnOutFKIdeal.main (F := Ideal))) ⟨m, fun _ => 0, g⟩ (fun r => (∀ c : Dev Cert.GdnOutFKIdeal.nD,
      r.2.mem ((c.tc : Thread Cert.GdnOutFKIdeal.nD Cert.GdnOutFKIdeal.τ).loc Cert.GdnOutFKIdeal.main_arg0) = m ((c.tc : Thread Cert.GdnOutFKIdeal.nD Cert.GdnOutFKIdeal.τ).loc Cert.GdnOutFKIdeal.main_arg0)
      ∧ r.2.mem ((c.tc : Thread Cert.GdnOutFKIdeal.nD Cert.GdnOutFKIdeal.τ).loc Cert.GdnOutFKIdeal.main_arg1) = m ((c.tc : Thread Cert.GdnOutFKIdeal.nD Cert.GdnOutFKIdeal.τ).loc Cert.GdnOutFKIdeal.main_arg1)
      ∧ r.2.mem ((c.tc : Thread Cert.GdnOutFKIdeal.nD Cert.GdnOutFKIdeal.τ).loc Cert.GdnOutFKIdeal.main_arg2) = m ((c.tc : Thread Cert.GdnOutFKIdeal.nD Cert.GdnOutFKIdeal.τ).loc Cert.GdnOutFKIdeal.main_arg2))
      ∧ r.2.sem = fun _ => 0)

def quiescent_GdnOutFRIdeal [hGdnOutFRIdeal : Cert.GdnOutFRIdeal.Facts] : Prop :=
  ∀ (m : (ℓ : Loc Cert.GdnOutFRIdeal.nD Cert.GdnOutFRIdeal.τ Cert.GdnOutFRIdeal.sig) → Buf (Elt Ideal) ℓ) (g : Dev Cert.GdnOutFRIdeal.nD → PrngReg), Pre_GdnOutFRIdeal m →
    θ_run (Cert.GdnOutFRIdeal.defs (F := Ideal)) (onTc (τ := Cert.GdnOutFRIdeal.τ) (Cert.GdnOutFRIdeal.main (F := Ideal))) ⟨m, fun _ => 0, g⟩ (fun r => (∀ c : Dev Cert.GdnOutFRIdeal.nD,
      r.2.mem ((c.tc : Thread Cert.GdnOutFRIdeal.nD Cert.GdnOutFRIdeal.τ).loc Cert.GdnOutFRIdeal.main_arg0) = m ((c.tc : Thread Cert.GdnOutFRIdeal.nD Cert.GdnOutFRIdeal.τ).loc Cert.GdnOutFRIdeal.main_arg0)
      ∧ r.2.mem ((c.tc : Thread Cert.GdnOutFRIdeal.nD Cert.GdnOutFRIdeal.τ).loc Cert.GdnOutFRIdeal.main_arg1) = m ((c.tc : Thread Cert.GdnOutFRIdeal.nD Cert.GdnOutFRIdeal.τ).loc Cert.GdnOutFRIdeal.main_arg1)
      ∧ r.2.mem ((c.tc : Thread Cert.GdnOutFRIdeal.nD Cert.GdnOutFRIdeal.τ).loc Cert.GdnOutFRIdeal.main_arg2) = m ((c.tc : Thread Cert.GdnOutFRIdeal.nD Cert.GdnOutFRIdeal.τ).loc Cert.GdnOutFRIdeal.main_arg2))
      ∧ r.2.sem = fun _ => 0)

def quiescent_GdnPrepFK [hGdnPrepFK : Cert.GdnPrepFK.Facts] : Prop :=
  ∀ (m : (ℓ : Loc Cert.GdnPrepFK.nD Cert.GdnPrepFK.τ Cert.GdnPrepFK.sig) → Buf (Elt Bits) ℓ) (g : Dev Cert.GdnPrepFK.nD → PrngReg), Pre_GdnPrepFK m →
    θ_run (Cert.GdnPrepFK.defs (F := Bits)) (onTc (τ := Cert.GdnPrepFK.τ) (Cert.GdnPrepFK.main (F := Bits))) ⟨m, fun _ => 0, g⟩ (fun r => (∀ c : Dev Cert.GdnPrepFK.nD,
      r.2.mem ((c.tc : Thread Cert.GdnPrepFK.nD Cert.GdnPrepFK.τ).loc Cert.GdnPrepFK.main_arg0) = m ((c.tc : Thread Cert.GdnPrepFK.nD Cert.GdnPrepFK.τ).loc Cert.GdnPrepFK.main_arg0)
      ∧ r.2.mem ((c.tc : Thread Cert.GdnPrepFK.nD Cert.GdnPrepFK.τ).loc Cert.GdnPrepFK.main_arg1) = m ((c.tc : Thread Cert.GdnPrepFK.nD Cert.GdnPrepFK.τ).loc Cert.GdnPrepFK.main_arg1))
      ∧ r.2.sem = fun _ => 0)

def quiescent_GdnPrepFKIdeal [hGdnPrepFKIdeal : Cert.GdnPrepFKIdeal.Facts] : Prop :=
  ∀ (m : (ℓ : Loc Cert.GdnPrepFKIdeal.nD Cert.GdnPrepFKIdeal.τ Cert.GdnPrepFKIdeal.sig) → Buf (Elt Ideal) ℓ) (g : Dev Cert.GdnPrepFKIdeal.nD → PrngReg), Pre_GdnPrepFKIdeal m →
    θ_run (Cert.GdnPrepFKIdeal.defs (F := Ideal)) (onTc (τ := Cert.GdnPrepFKIdeal.τ) (Cert.GdnPrepFKIdeal.main (F := Ideal))) ⟨m, fun _ => 0, g⟩ (fun r => (∀ c : Dev Cert.GdnPrepFKIdeal.nD,
      r.2.mem ((c.tc : Thread Cert.GdnPrepFKIdeal.nD Cert.GdnPrepFKIdeal.τ).loc Cert.GdnPrepFKIdeal.main_arg0) = m ((c.tc : Thread Cert.GdnPrepFKIdeal.nD Cert.GdnPrepFKIdeal.τ).loc Cert.GdnPrepFKIdeal.main_arg0)
      ∧ r.2.mem ((c.tc : Thread Cert.GdnPrepFKIdeal.nD Cert.GdnPrepFKIdeal.τ).loc Cert.GdnPrepFKIdeal.main_arg1) = m ((c.tc : Thread Cert.GdnPrepFKIdeal.nD Cert.GdnPrepFKIdeal.τ).loc Cert.GdnPrepFKIdeal.main_arg1))
      ∧ r.2.sem = fun _ => 0)

def quiescent_GdnPrepFRIdeal [hGdnPrepFRIdeal : Cert.GdnPrepFRIdeal.Facts] : Prop :=
  ∀ (m : (ℓ : Loc Cert.GdnPrepFRIdeal.nD Cert.GdnPrepFRIdeal.τ Cert.GdnPrepFRIdeal.sig) → Buf (Elt Ideal) ℓ) (g : Dev Cert.GdnPrepFRIdeal.nD → PrngReg), Pre_GdnPrepFRIdeal m →
    θ_run (Cert.GdnPrepFRIdeal.defs (F := Ideal)) (onTc (τ := Cert.GdnPrepFRIdeal.τ) (Cert.GdnPrepFRIdeal.main (F := Ideal))) ⟨m, fun _ => 0, g⟩ (fun r => (∀ c : Dev Cert.GdnPrepFRIdeal.nD,
      r.2.mem ((c.tc : Thread Cert.GdnPrepFRIdeal.nD Cert.GdnPrepFRIdeal.τ).loc Cert.GdnPrepFRIdeal.main_arg0) = m ((c.tc : Thread Cert.GdnPrepFRIdeal.nD Cert.GdnPrepFRIdeal.τ).loc Cert.GdnPrepFRIdeal.main_arg0)
      ∧ r.2.mem ((c.tc : Thread Cert.GdnPrepFRIdeal.nD Cert.GdnPrepFRIdeal.τ).loc Cert.GdnPrepFRIdeal.main_arg1) = m ((c.tc : Thread Cert.GdnPrepFRIdeal.nD Cert.GdnPrepFRIdeal.τ).loc Cert.GdnPrepFRIdeal.main_arg1))
      ∧ r.2.sem = fun _ => 0)

def quiescent_GdnFK [hGdnFK : Cert.GdnFK.Facts] : Prop :=
  ∀ (m : (ℓ : Loc Cert.GdnFK.nD Cert.GdnFK.τ Cert.GdnFK.sig) → Buf (Elt Bits) ℓ) (g : Dev Cert.GdnFK.nD → PrngReg), Pre_GdnFK m →
    θ_run (Cert.GdnFK.defs (F := Bits)) (onTc (τ := Cert.GdnFK.τ) (Cert.GdnFK.main (F := Bits))) ⟨m, fun _ => 0, g⟩ (fun r => (∀ c : Dev Cert.GdnFK.nD,
      r.2.mem ((c.tc : Thread Cert.GdnFK.nD Cert.GdnFK.τ).loc Cert.GdnFK.main_arg0) = m ((c.tc : Thread Cert.GdnFK.nD Cert.GdnFK.τ).loc Cert.GdnFK.main_arg0)
      ∧ r.2.mem ((c.tc : Thread Cert.GdnFK.nD Cert.GdnFK.τ).loc Cert.GdnFK.main_arg1) = m ((c.tc : Thread Cert.GdnFK.nD Cert.GdnFK.τ).loc Cert.GdnFK.main_arg1)
      ∧ r.2.mem ((c.tc : Thread Cert.GdnFK.nD Cert.GdnFK.τ).loc Cert.GdnFK.main_arg2) = m ((c.tc : Thread Cert.GdnFK.nD Cert.GdnFK.τ).loc Cert.GdnFK.main_arg2))
      ∧ r.2.sem = fun _ => 0)

def quiescent_GdnFKIdeal [hGdnFKIdeal : Cert.GdnFKIdeal.Facts] : Prop :=
  ∀ (m : (ℓ : Loc Cert.GdnFKIdeal.nD Cert.GdnFKIdeal.τ Cert.GdnFKIdeal.sig) → Buf (Elt Ideal) ℓ) (g : Dev Cert.GdnFKIdeal.nD → PrngReg), Pre_GdnFKIdeal m →
    θ_run (Cert.GdnFKIdeal.defs (F := Ideal)) (onTc (τ := Cert.GdnFKIdeal.τ) (Cert.GdnFKIdeal.main (F := Ideal))) ⟨m, fun _ => 0, g⟩ (fun r => (∀ c : Dev Cert.GdnFKIdeal.nD,
      r.2.mem ((c.tc : Thread Cert.GdnFKIdeal.nD Cert.GdnFKIdeal.τ).loc Cert.GdnFKIdeal.main_arg0) = m ((c.tc : Thread Cert.GdnFKIdeal.nD Cert.GdnFKIdeal.τ).loc Cert.GdnFKIdeal.main_arg0)
      ∧ r.2.mem ((c.tc : Thread Cert.GdnFKIdeal.nD Cert.GdnFKIdeal.τ).loc Cert.GdnFKIdeal.main_arg1) = m ((c.tc : Thread Cert.GdnFKIdeal.nD Cert.GdnFKIdeal.τ).loc Cert.GdnFKIdeal.main_arg1)
      ∧ r.2.mem ((c.tc : Thread Cert.GdnFKIdeal.nD Cert.GdnFKIdeal.τ).loc Cert.GdnFKIdeal.main_arg2) = m ((c.tc : Thread Cert.GdnFKIdeal.nD Cert.GdnFKIdeal.τ).loc Cert.GdnFKIdeal.main_arg2))
      ∧ r.2.sem = fun _ => 0)

def quiescent_MmFK [hMmFK : Cert.MmFK.Facts] : Prop :=
  ∀ (m : (ℓ : Loc Cert.MmFK.nD Cert.MmFK.τ Cert.MmFK.sig) → Buf (Elt Bits) ℓ) (g : Dev Cert.MmFK.nD → PrngReg), Pre_MmFK m →
    θ_run (Cert.MmFK.defs (F := Bits)) (onTc (τ := Cert.MmFK.τ) (Cert.MmFK.main (F := Bits))) ⟨m, fun _ => 0, g⟩ (fun r => (∀ c : Dev Cert.MmFK.nD,
      r.2.mem ((c.tc : Thread Cert.MmFK.nD Cert.MmFK.τ).loc Cert.MmFK.main_arg0) = m ((c.tc : Thread Cert.MmFK.nD Cert.MmFK.τ).loc Cert.MmFK.main_arg0)
      ∧ r.2.mem ((c.tc : Thread Cert.MmFK.nD Cert.MmFK.τ).loc Cert.MmFK.main_arg1) = m ((c.tc : Thread Cert.MmFK.nD Cert.MmFK.τ).loc Cert.MmFK.main_arg1))
      ∧ r.2.sem = fun _ => 0)

def quiescent_MmFKIdeal [hMmFKIdeal : Cert.MmFKIdeal.Facts] : Prop :=
  ∀ (m : (ℓ : Loc Cert.MmFKIdeal.nD Cert.MmFKIdeal.τ Cert.MmFKIdeal.sig) → Buf (Elt Ideal) ℓ) (g : Dev Cert.MmFKIdeal.nD → PrngReg), Pre_MmFKIdeal m →
    θ_run (Cert.MmFKIdeal.defs (F := Ideal)) (onTc (τ := Cert.MmFKIdeal.τ) (Cert.MmFKIdeal.main (F := Ideal))) ⟨m, fun _ => 0, g⟩ (fun r => (∀ c : Dev Cert.MmFKIdeal.nD,
      r.2.mem ((c.tc : Thread Cert.MmFKIdeal.nD Cert.MmFKIdeal.τ).loc Cert.MmFKIdeal.main_arg0) = m ((c.tc : Thread Cert.MmFKIdeal.nD Cert.MmFKIdeal.τ).loc Cert.MmFKIdeal.main_arg0)
      ∧ r.2.mem ((c.tc : Thread Cert.MmFKIdeal.nD Cert.MmFKIdeal.τ).loc Cert.MmFKIdeal.main_arg1) = m ((c.tc : Thread Cert.MmFKIdeal.nD Cert.MmFKIdeal.τ).loc Cert.MmFKIdeal.main_arg1))
      ∧ r.2.sem = fun _ => 0)

def quiescent_MmFRIdeal [hMmFRIdeal : Cert.MmFRIdeal.Facts] : Prop :=
  ∀ (m : (ℓ : Loc Cert.MmFRIdeal.nD Cert.MmFRIdeal.τ Cert.MmFRIdeal.sig) → Buf (Elt Ideal) ℓ) (g : Dev Cert.MmFRIdeal.nD → PrngReg), Pre_MmFRIdeal m →
    θ_run (Cert.MmFRIdeal.defs (F := Ideal)) (onTc (τ := Cert.MmFRIdeal.τ) (Cert.MmFRIdeal.main (F := Ideal))) ⟨m, fun _ => 0, g⟩ (fun r => (∀ c : Dev Cert.MmFRIdeal.nD,
      r.2.mem ((c.tc : Thread Cert.MmFRIdeal.nD Cert.MmFRIdeal.τ).loc Cert.MmFRIdeal.main_arg0) = m ((c.tc : Thread Cert.MmFRIdeal.nD Cert.MmFRIdeal.τ).loc Cert.MmFRIdeal.main_arg0)
      ∧ r.2.mem ((c.tc : Thread Cert.MmFRIdeal.nD Cert.MmFRIdeal.τ).loc Cert.MmFRIdeal.main_arg1) = m ((c.tc : Thread Cert.MmFRIdeal.nD Cert.MmFRIdeal.τ).loc Cert.MmFRIdeal.main_arg1))
      ∧ r.2.sem = fun _ => 0)

def quiescent_MmDwK [hMmDwK : Cert.MmDwK.Facts] : Prop :=
  ∀ (m : (ℓ : Loc Cert.MmDwK.nD Cert.MmDwK.τ Cert.MmDwK.sig) → Buf (Elt Bits) ℓ) (g : Dev Cert.MmDwK.nD → PrngReg), Pre_MmDwK m →
    θ_run (Cert.MmDwK.defs (F := Bits)) (onTc (τ := Cert.MmDwK.τ) (Cert.MmDwK.main (F := Bits))) ⟨m, fun _ => 0, g⟩ (fun r => (∀ c : Dev Cert.MmDwK.nD,
      r.2.mem ((c.tc : Thread Cert.MmDwK.nD Cert.MmDwK.τ).loc Cert.MmDwK.main_arg0) = m ((c.tc : Thread Cert.MmDwK.nD Cert.MmDwK.τ).loc Cert.MmDwK.main_arg0)
      ∧ r.2.mem ((c.tc : Thread Cert.MmDwK.nD Cert.MmDwK.τ).loc Cert.MmDwK.main_arg1) = m ((c.tc : Thread Cert.MmDwK.nD Cert.MmDwK.τ).loc Cert.MmDwK.main_arg1)
      ∧ r.2.mem ((c.tc : Thread Cert.MmDwK.nD Cert.MmDwK.τ).loc Cert.MmDwK.main_arg2) = m ((c.tc : Thread Cert.MmDwK.nD Cert.MmDwK.τ).loc Cert.MmDwK.main_arg2))
      ∧ r.2.sem = fun _ => 0)

def quiescent_MmDwKIdeal [hMmDwKIdeal : Cert.MmDwKIdeal.Facts] : Prop :=
  ∀ (m : (ℓ : Loc Cert.MmDwKIdeal.nD Cert.MmDwKIdeal.τ Cert.MmDwKIdeal.sig) → Buf (Elt Ideal) ℓ) (g : Dev Cert.MmDwKIdeal.nD → PrngReg), Pre_MmDwKIdeal m →
    θ_run (Cert.MmDwKIdeal.defs (F := Ideal)) (onTc (τ := Cert.MmDwKIdeal.τ) (Cert.MmDwKIdeal.main (F := Ideal))) ⟨m, fun _ => 0, g⟩ (fun r => (∀ c : Dev Cert.MmDwKIdeal.nD,
      r.2.mem ((c.tc : Thread Cert.MmDwKIdeal.nD Cert.MmDwKIdeal.τ).loc Cert.MmDwKIdeal.main_arg0) = m ((c.tc : Thread Cert.MmDwKIdeal.nD Cert.MmDwKIdeal.τ).loc Cert.MmDwKIdeal.main_arg0)
      ∧ r.2.mem ((c.tc : Thread Cert.MmDwKIdeal.nD Cert.MmDwKIdeal.τ).loc Cert.MmDwKIdeal.main_arg1) = m ((c.tc : Thread Cert.MmDwKIdeal.nD Cert.MmDwKIdeal.τ).loc Cert.MmDwKIdeal.main_arg1)
      ∧ r.2.mem ((c.tc : Thread Cert.MmDwKIdeal.nD Cert.MmDwKIdeal.τ).loc Cert.MmDwKIdeal.main_arg2) = m ((c.tc : Thread Cert.MmDwKIdeal.nD Cert.MmDwKIdeal.τ).loc Cert.MmDwKIdeal.main_arg2))
      ∧ r.2.sem = fun _ => 0)

def quiescent_MmDwRIdeal [hMmDwRIdeal : Cert.MmDwRIdeal.Facts] : Prop :=
  ∀ (m : (ℓ : Loc Cert.MmDwRIdeal.nD Cert.MmDwRIdeal.τ Cert.MmDwRIdeal.sig) → Buf (Elt Ideal) ℓ) (g : Dev Cert.MmDwRIdeal.nD → PrngReg), Pre_MmDwRIdeal m →
    θ_run (Cert.MmDwRIdeal.defs (F := Ideal)) (onTc (τ := Cert.MmDwRIdeal.τ) (Cert.MmDwRIdeal.main (F := Ideal))) ⟨m, fun _ => 0, g⟩ (fun r => (∀ c : Dev Cert.MmDwRIdeal.nD,
      r.2.mem ((c.tc : Thread Cert.MmDwRIdeal.nD Cert.MmDwRIdeal.τ).loc Cert.MmDwRIdeal.main_arg0) = m ((c.tc : Thread Cert.MmDwRIdeal.nD Cert.MmDwRIdeal.τ).loc Cert.MmDwRIdeal.main_arg0)
      ∧ r.2.mem ((c.tc : Thread Cert.MmDwRIdeal.nD Cert.MmDwRIdeal.τ).loc Cert.MmDwRIdeal.main_arg1) = m ((c.tc : Thread Cert.MmDwRIdeal.nD Cert.MmDwRIdeal.τ).loc Cert.MmDwRIdeal.main_arg1)
      ∧ r.2.mem ((c.tc : Thread Cert.MmDwRIdeal.nD Cert.MmDwRIdeal.τ).loc Cert.MmDwRIdeal.main_arg2) = m ((c.tc : Thread Cert.MmDwRIdeal.nD Cert.MmDwRIdeal.τ).loc Cert.MmDwRIdeal.main_arg2))
      ∧ r.2.sem = fun _ => 0)

def quiescent_MmTFK [hMmTFK : Cert.MmTFK.Facts] : Prop :=
  ∀ (m : (ℓ : Loc Cert.MmTFK.nD Cert.MmTFK.τ Cert.MmTFK.sig) → Buf (Elt Bits) ℓ) (g : Dev Cert.MmTFK.nD → PrngReg), Pre_MmTFK m →
    θ_run (Cert.MmTFK.defs (F := Bits)) (onTc (τ := Cert.MmTFK.τ) (Cert.MmTFK.main (F := Bits))) ⟨m, fun _ => 0, g⟩ (fun r => (∀ c : Dev Cert.MmTFK.nD,
      r.2.mem ((c.tc : Thread Cert.MmTFK.nD Cert.MmTFK.τ).loc Cert.MmTFK.main_arg0) = m ((c.tc : Thread Cert.MmTFK.nD Cert.MmTFK.τ).loc Cert.MmTFK.main_arg0)
      ∧ r.2.mem ((c.tc : Thread Cert.MmTFK.nD Cert.MmTFK.τ).loc Cert.MmTFK.main_arg1) = m ((c.tc : Thread Cert.MmTFK.nD Cert.MmTFK.τ).loc Cert.MmTFK.main_arg1))
      ∧ r.2.sem = fun _ => 0)

def quiescent_MmTFKIdeal [hMmTFKIdeal : Cert.MmTFKIdeal.Facts] : Prop :=
  ∀ (m : (ℓ : Loc Cert.MmTFKIdeal.nD Cert.MmTFKIdeal.τ Cert.MmTFKIdeal.sig) → Buf (Elt Ideal) ℓ) (g : Dev Cert.MmTFKIdeal.nD → PrngReg), Pre_MmTFKIdeal m →
    θ_run (Cert.MmTFKIdeal.defs (F := Ideal)) (onTc (τ := Cert.MmTFKIdeal.τ) (Cert.MmTFKIdeal.main (F := Ideal))) ⟨m, fun _ => 0, g⟩ (fun r => (∀ c : Dev Cert.MmTFKIdeal.nD,
      r.2.mem ((c.tc : Thread Cert.MmTFKIdeal.nD Cert.MmTFKIdeal.τ).loc Cert.MmTFKIdeal.main_arg0) = m ((c.tc : Thread Cert.MmTFKIdeal.nD Cert.MmTFKIdeal.τ).loc Cert.MmTFKIdeal.main_arg0)
      ∧ r.2.mem ((c.tc : Thread Cert.MmTFKIdeal.nD Cert.MmTFKIdeal.τ).loc Cert.MmTFKIdeal.main_arg1) = m ((c.tc : Thread Cert.MmTFKIdeal.nD Cert.MmTFKIdeal.τ).loc Cert.MmTFKIdeal.main_arg1))
      ∧ r.2.sem = fun _ => 0)

def quiescent_MmTFRIdeal [hMmTFRIdeal : Cert.MmTFRIdeal.Facts] : Prop :=
  ∀ (m : (ℓ : Loc Cert.MmTFRIdeal.nD Cert.MmTFRIdeal.τ Cert.MmTFRIdeal.sig) → Buf (Elt Ideal) ℓ) (g : Dev Cert.MmTFRIdeal.nD → PrngReg), Pre_MmTFRIdeal m →
    θ_run (Cert.MmTFRIdeal.defs (F := Ideal)) (onTc (τ := Cert.MmTFRIdeal.τ) (Cert.MmTFRIdeal.main (F := Ideal))) ⟨m, fun _ => 0, g⟩ (fun r => (∀ c : Dev Cert.MmTFRIdeal.nD,
      r.2.mem ((c.tc : Thread Cert.MmTFRIdeal.nD Cert.MmTFRIdeal.τ).loc Cert.MmTFRIdeal.main_arg0) = m ((c.tc : Thread Cert.MmTFRIdeal.nD Cert.MmTFRIdeal.τ).loc Cert.MmTFRIdeal.main_arg0)
      ∧ r.2.mem ((c.tc : Thread Cert.MmTFRIdeal.nD Cert.MmTFRIdeal.τ).loc Cert.MmTFRIdeal.main_arg1) = m ((c.tc : Thread Cert.MmTFRIdeal.nD Cert.MmTFRIdeal.τ).loc Cert.MmTFRIdeal.main_arg1))
      ∧ r.2.sem = fun _ => 0)

def quiescent_MmTDwK [hMmTDwK : Cert.MmTDwK.Facts] : Prop :=
  ∀ (m : (ℓ : Loc Cert.MmTDwK.nD Cert.MmTDwK.τ Cert.MmTDwK.sig) → Buf (Elt Bits) ℓ) (g : Dev Cert.MmTDwK.nD → PrngReg), Pre_MmTDwK m →
    θ_run (Cert.MmTDwK.defs (F := Bits)) (onTc (τ := Cert.MmTDwK.τ) (Cert.MmTDwK.main (F := Bits))) ⟨m, fun _ => 0, g⟩ (fun r => (∀ c : Dev Cert.MmTDwK.nD,
      r.2.mem ((c.tc : Thread Cert.MmTDwK.nD Cert.MmTDwK.τ).loc Cert.MmTDwK.main_arg0) = m ((c.tc : Thread Cert.MmTDwK.nD Cert.MmTDwK.τ).loc Cert.MmTDwK.main_arg0)
      ∧ r.2.mem ((c.tc : Thread Cert.MmTDwK.nD Cert.MmTDwK.τ).loc Cert.MmTDwK.main_arg1) = m ((c.tc : Thread Cert.MmTDwK.nD Cert.MmTDwK.τ).loc Cert.MmTDwK.main_arg1)
      ∧ r.2.mem ((c.tc : Thread Cert.MmTDwK.nD Cert.MmTDwK.τ).loc Cert.MmTDwK.main_arg2) = m ((c.tc : Thread Cert.MmTDwK.nD Cert.MmTDwK.τ).loc Cert.MmTDwK.main_arg2))
      ∧ r.2.sem = fun _ => 0)

def quiescent_MmTDwKIdeal [hMmTDwKIdeal : Cert.MmTDwKIdeal.Facts] : Prop :=
  ∀ (m : (ℓ : Loc Cert.MmTDwKIdeal.nD Cert.MmTDwKIdeal.τ Cert.MmTDwKIdeal.sig) → Buf (Elt Ideal) ℓ) (g : Dev Cert.MmTDwKIdeal.nD → PrngReg), Pre_MmTDwKIdeal m →
    θ_run (Cert.MmTDwKIdeal.defs (F := Ideal)) (onTc (τ := Cert.MmTDwKIdeal.τ) (Cert.MmTDwKIdeal.main (F := Ideal))) ⟨m, fun _ => 0, g⟩ (fun r => (∀ c : Dev Cert.MmTDwKIdeal.nD,
      r.2.mem ((c.tc : Thread Cert.MmTDwKIdeal.nD Cert.MmTDwKIdeal.τ).loc Cert.MmTDwKIdeal.main_arg0) = m ((c.tc : Thread Cert.MmTDwKIdeal.nD Cert.MmTDwKIdeal.τ).loc Cert.MmTDwKIdeal.main_arg0)
      ∧ r.2.mem ((c.tc : Thread Cert.MmTDwKIdeal.nD Cert.MmTDwKIdeal.τ).loc Cert.MmTDwKIdeal.main_arg1) = m ((c.tc : Thread Cert.MmTDwKIdeal.nD Cert.MmTDwKIdeal.τ).loc Cert.MmTDwKIdeal.main_arg1)
      ∧ r.2.mem ((c.tc : Thread Cert.MmTDwKIdeal.nD Cert.MmTDwKIdeal.τ).loc Cert.MmTDwKIdeal.main_arg2) = m ((c.tc : Thread Cert.MmTDwKIdeal.nD Cert.MmTDwKIdeal.τ).loc Cert.MmTDwKIdeal.main_arg2))
      ∧ r.2.sem = fun _ => 0)

def quiescent_MmTDwRIdeal [hMmTDwRIdeal : Cert.MmTDwRIdeal.Facts] : Prop :=
  ∀ (m : (ℓ : Loc Cert.MmTDwRIdeal.nD Cert.MmTDwRIdeal.τ Cert.MmTDwRIdeal.sig) → Buf (Elt Ideal) ℓ) (g : Dev Cert.MmTDwRIdeal.nD → PrngReg), Pre_MmTDwRIdeal m →
    θ_run (Cert.MmTDwRIdeal.defs (F := Ideal)) (onTc (τ := Cert.MmTDwRIdeal.τ) (Cert.MmTDwRIdeal.main (F := Ideal))) ⟨m, fun _ => 0, g⟩ (fun r => (∀ c : Dev Cert.MmTDwRIdeal.nD,
      r.2.mem ((c.tc : Thread Cert.MmTDwRIdeal.nD Cert.MmTDwRIdeal.τ).loc Cert.MmTDwRIdeal.main_arg0) = m ((c.tc : Thread Cert.MmTDwRIdeal.nD Cert.MmTDwRIdeal.τ).loc Cert.MmTDwRIdeal.main_arg0)
      ∧ r.2.mem ((c.tc : Thread Cert.MmTDwRIdeal.nD Cert.MmTDwRIdeal.τ).loc Cert.MmTDwRIdeal.main_arg1) = m ((c.tc : Thread Cert.MmTDwRIdeal.nD Cert.MmTDwRIdeal.τ).loc Cert.MmTDwRIdeal.main_arg1)
      ∧ r.2.mem ((c.tc : Thread Cert.MmTDwRIdeal.nD Cert.MmTDwRIdeal.τ).loc Cert.MmTDwRIdeal.main_arg2) = m ((c.tc : Thread Cert.MmTDwRIdeal.nD Cert.MmTDwRIdeal.τ).loc Cert.MmTDwRIdeal.main_arg2))
      ∧ r.2.sem = fun _ => 0)

def quiescent_MmDaK [hMmDaK : Cert.MmDaK.Facts] : Prop :=
  ∀ (m : (ℓ : Loc Cert.MmDaK.nD Cert.MmDaK.τ Cert.MmDaK.sig) → Buf (Elt Bits) ℓ) (g : Dev Cert.MmDaK.nD → PrngReg), Pre_MmDaK m →
    θ_run (Cert.MmDaK.defs (F := Bits)) (onTc (τ := Cert.MmDaK.τ) (Cert.MmDaK.main (F := Bits))) ⟨m, fun _ => 0, g⟩ (fun r => (∀ c : Dev Cert.MmDaK.nD,
      r.2.mem ((c.tc : Thread Cert.MmDaK.nD Cert.MmDaK.τ).loc Cert.MmDaK.main_arg0) = m ((c.tc : Thread Cert.MmDaK.nD Cert.MmDaK.τ).loc Cert.MmDaK.main_arg0)
      ∧ r.2.mem ((c.tc : Thread Cert.MmDaK.nD Cert.MmDaK.τ).loc Cert.MmDaK.main_arg1) = m ((c.tc : Thread Cert.MmDaK.nD Cert.MmDaK.τ).loc Cert.MmDaK.main_arg1)
      ∧ r.2.mem ((c.tc : Thread Cert.MmDaK.nD Cert.MmDaK.τ).loc Cert.MmDaK.main_arg2) = m ((c.tc : Thread Cert.MmDaK.nD Cert.MmDaK.τ).loc Cert.MmDaK.main_arg2))
      ∧ r.2.sem = fun _ => 0)

def quiescent_MmDaKIdeal [hMmDaKIdeal : Cert.MmDaKIdeal.Facts] : Prop :=
  ∀ (m : (ℓ : Loc Cert.MmDaKIdeal.nD Cert.MmDaKIdeal.τ Cert.MmDaKIdeal.sig) → Buf (Elt Ideal) ℓ) (g : Dev Cert.MmDaKIdeal.nD → PrngReg), Pre_MmDaKIdeal m →
    θ_run (Cert.MmDaKIdeal.defs (F := Ideal)) (onTc (τ := Cert.MmDaKIdeal.τ) (Cert.MmDaKIdeal.main (F := Ideal))) ⟨m, fun _ => 0, g⟩ (fun r => (∀ c : Dev Cert.MmDaKIdeal.nD,
      r.2.mem ((c.tc : Thread Cert.MmDaKIdeal.nD Cert.MmDaKIdeal.τ).loc Cert.MmDaKIdeal.main_arg0) = m ((c.tc : Thread Cert.MmDaKIdeal.nD Cert.MmDaKIdeal.τ).loc Cert.MmDaKIdeal.main_arg0)
      ∧ r.2.mem ((c.tc : Thread Cert.MmDaKIdeal.nD Cert.MmDaKIdeal.τ).loc Cert.MmDaKIdeal.main_arg1) = m ((c.tc : Thread Cert.MmDaKIdeal.nD Cert.MmDaKIdeal.τ).loc Cert.MmDaKIdeal.main_arg1)
      ∧ r.2.mem ((c.tc : Thread Cert.MmDaKIdeal.nD Cert.MmDaKIdeal.τ).loc Cert.MmDaKIdeal.main_arg2) = m ((c.tc : Thread Cert.MmDaKIdeal.nD Cert.MmDaKIdeal.τ).loc Cert.MmDaKIdeal.main_arg2))
      ∧ r.2.sem = fun _ => 0)

def quiescent_MmDaRIdeal [hMmDaRIdeal : Cert.MmDaRIdeal.Facts] : Prop :=
  ∀ (m : (ℓ : Loc Cert.MmDaRIdeal.nD Cert.MmDaRIdeal.τ Cert.MmDaRIdeal.sig) → Buf (Elt Ideal) ℓ) (g : Dev Cert.MmDaRIdeal.nD → PrngReg), Pre_MmDaRIdeal m →
    θ_run (Cert.MmDaRIdeal.defs (F := Ideal)) (onTc (τ := Cert.MmDaRIdeal.τ) (Cert.MmDaRIdeal.main (F := Ideal))) ⟨m, fun _ => 0, g⟩ (fun r => (∀ c : Dev Cert.MmDaRIdeal.nD,
      r.2.mem ((c.tc : Thread Cert.MmDaRIdeal.nD Cert.MmDaRIdeal.τ).loc Cert.MmDaRIdeal.main_arg0) = m ((c.tc : Thread Cert.MmDaRIdeal.nD Cert.MmDaRIdeal.τ).loc Cert.MmDaRIdeal.main_arg0)
      ∧ r.2.mem ((c.tc : Thread Cert.MmDaRIdeal.nD Cert.MmDaRIdeal.τ).loc Cert.MmDaRIdeal.main_arg1) = m ((c.tc : Thread Cert.MmDaRIdeal.nD Cert.MmDaRIdeal.τ).loc Cert.MmDaRIdeal.main_arg1)
      ∧ r.2.mem ((c.tc : Thread Cert.MmDaRIdeal.nD Cert.MmDaRIdeal.τ).loc Cert.MmDaRIdeal.main_arg2) = m ((c.tc : Thread Cert.MmDaRIdeal.nD Cert.MmDaRIdeal.τ).loc Cert.MmDaRIdeal.main_arg2))
      ∧ r.2.sem = fun _ => 0)

def quiescent_MmTDaK [hMmTDaK : Cert.MmTDaK.Facts] : Prop :=
  ∀ (m : (ℓ : Loc Cert.MmTDaK.nD Cert.MmTDaK.τ Cert.MmTDaK.sig) → Buf (Elt Bits) ℓ) (g : Dev Cert.MmTDaK.nD → PrngReg), Pre_MmTDaK m →
    θ_run (Cert.MmTDaK.defs (F := Bits)) (onTc (τ := Cert.MmTDaK.τ) (Cert.MmTDaK.main (F := Bits))) ⟨m, fun _ => 0, g⟩ (fun r => (∀ c : Dev Cert.MmTDaK.nD,
      r.2.mem ((c.tc : Thread Cert.MmTDaK.nD Cert.MmTDaK.τ).loc Cert.MmTDaK.main_arg0) = m ((c.tc : Thread Cert.MmTDaK.nD Cert.MmTDaK.τ).loc Cert.MmTDaK.main_arg0)
      ∧ r.2.mem ((c.tc : Thread Cert.MmTDaK.nD Cert.MmTDaK.τ).loc Cert.MmTDaK.main_arg1) = m ((c.tc : Thread Cert.MmTDaK.nD Cert.MmTDaK.τ).loc Cert.MmTDaK.main_arg1)
      ∧ r.2.mem ((c.tc : Thread Cert.MmTDaK.nD Cert.MmTDaK.τ).loc Cert.MmTDaK.main_arg2) = m ((c.tc : Thread Cert.MmTDaK.nD Cert.MmTDaK.τ).loc Cert.MmTDaK.main_arg2))
      ∧ r.2.sem = fun _ => 0)

def quiescent_MmTDaKIdeal [hMmTDaKIdeal : Cert.MmTDaKIdeal.Facts] : Prop :=
  ∀ (m : (ℓ : Loc Cert.MmTDaKIdeal.nD Cert.MmTDaKIdeal.τ Cert.MmTDaKIdeal.sig) → Buf (Elt Ideal) ℓ) (g : Dev Cert.MmTDaKIdeal.nD → PrngReg), Pre_MmTDaKIdeal m →
    θ_run (Cert.MmTDaKIdeal.defs (F := Ideal)) (onTc (τ := Cert.MmTDaKIdeal.τ) (Cert.MmTDaKIdeal.main (F := Ideal))) ⟨m, fun _ => 0, g⟩ (fun r => (∀ c : Dev Cert.MmTDaKIdeal.nD,
      r.2.mem ((c.tc : Thread Cert.MmTDaKIdeal.nD Cert.MmTDaKIdeal.τ).loc Cert.MmTDaKIdeal.main_arg0) = m ((c.tc : Thread Cert.MmTDaKIdeal.nD Cert.MmTDaKIdeal.τ).loc Cert.MmTDaKIdeal.main_arg0)
      ∧ r.2.mem ((c.tc : Thread Cert.MmTDaKIdeal.nD Cert.MmTDaKIdeal.τ).loc Cert.MmTDaKIdeal.main_arg1) = m ((c.tc : Thread Cert.MmTDaKIdeal.nD Cert.MmTDaKIdeal.τ).loc Cert.MmTDaKIdeal.main_arg1)
      ∧ r.2.mem ((c.tc : Thread Cert.MmTDaKIdeal.nD Cert.MmTDaKIdeal.τ).loc Cert.MmTDaKIdeal.main_arg2) = m ((c.tc : Thread Cert.MmTDaKIdeal.nD Cert.MmTDaKIdeal.τ).loc Cert.MmTDaKIdeal.main_arg2))
      ∧ r.2.sem = fun _ => 0)

def quiescent_MmTDaRIdeal [hMmTDaRIdeal : Cert.MmTDaRIdeal.Facts] : Prop :=
  ∀ (m : (ℓ : Loc Cert.MmTDaRIdeal.nD Cert.MmTDaRIdeal.τ Cert.MmTDaRIdeal.sig) → Buf (Elt Ideal) ℓ) (g : Dev Cert.MmTDaRIdeal.nD → PrngReg), Pre_MmTDaRIdeal m →
    θ_run (Cert.MmTDaRIdeal.defs (F := Ideal)) (onTc (τ := Cert.MmTDaRIdeal.τ) (Cert.MmTDaRIdeal.main (F := Ideal))) ⟨m, fun _ => 0, g⟩ (fun r => (∀ c : Dev Cert.MmTDaRIdeal.nD,
      r.2.mem ((c.tc : Thread Cert.MmTDaRIdeal.nD Cert.MmTDaRIdeal.τ).loc Cert.MmTDaRIdeal.main_arg0) = m ((c.tc : Thread Cert.MmTDaRIdeal.nD Cert.MmTDaRIdeal.τ).loc Cert.MmTDaRIdeal.main_arg0)
      ∧ r.2.mem ((c.tc : Thread Cert.MmTDaRIdeal.nD Cert.MmTDaRIdeal.τ).loc Cert.MmTDaRIdeal.main_arg1) = m ((c.tc : Thread Cert.MmTDaRIdeal.nD Cert.MmTDaRIdeal.τ).loc Cert.MmTDaRIdeal.main_arg1)
      ∧ r.2.mem ((c.tc : Thread Cert.MmTDaRIdeal.nD Cert.MmTDaRIdeal.τ).loc Cert.MmTDaRIdeal.main_arg2) = m ((c.tc : Thread Cert.MmTDaRIdeal.nD Cert.MmTDaRIdeal.τ).loc Cert.MmTDaRIdeal.main_arg2))
      ∧ r.2.sem = fun _ => 0)

def preserves_MergeK_MergeKIdeal : Prop :=
  True

def algebraic_MergeKIdeal_MergeRIdeal [hMergeKIdeal : Cert.MergeKIdeal.Facts] [hMergeRIdeal : Cert.MergeRIdeal.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)) →
    ∃ (v0 : (c : Dev Cert.MergeKIdeal.nD) → Buf (Elt Ideal) ((c.tc : Thread Cert.MergeKIdeal.nD Cert.MergeKIdeal.τ).loc Cert.MergeKIdeal.main_v0_0)) (v1 : (c : Dev Cert.MergeKIdeal.nD) → Buf (Elt Ideal) ((c.tc : Thread Cert.MergeKIdeal.nD Cert.MergeKIdeal.τ).loc Cert.MergeKIdeal.main_v0_1)) (v2 : (c : Dev Cert.MergeKIdeal.nD) → Buf (Elt Ideal) ((c.tc : Thread Cert.MergeKIdeal.nD Cert.MergeKIdeal.τ).loc Cert.MergeKIdeal.main_v0_2)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v0_0) = v0 c
          ∧ r.2.mem ((c.tc : Thread Cert.MergeKIdeal.nD Cert.MergeKIdeal.τ).loc Cert.MergeKIdeal.main_v0_1) = v1 c
          ∧ r.2.mem ((c.tc : Thread Cert.MergeKIdeal.nD Cert.MergeKIdeal.τ).loc Cert.MergeKIdeal.main_v0_2) = v2 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v28) = v0 c
          ∧ r.2.mem ((c.tc : Thread Cert.MergeRIdeal.nD Cert.MergeRIdeal.τ).loc Cert.MergeRIdeal.main_v25) = v1 c
          ∧ r.2.mem ((c.tc : Thread Cert.MergeRIdeal.nD Cert.MergeRIdeal.τ).loc Cert.MergeRIdeal.main_v31) = v2 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3))

def preserves_AttnK_AttnKIdeal : Prop :=
  True

def algebraic_AttnKIdeal_AttnRIdeal_pre_finite_attn [hAttnKIdeal : Cert.AttnKIdeal.Facts] [hAttnRIdeal : Cert.AttnRIdeal.Facts] [hPre_finite_attn : Cert.Pre_finite_attn.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnRIdeal.nD Cert.AttnRIdeal.τ Cert.AttnRIdeal.sig) → Buf (Elt Ideal) ℓ) (g' : Dev Cert.AttnRIdeal.nD → PrngReg), Pre_AttnKIdeal_finite_attn m →
    (∀ c : Dev Cert.AttnKIdeal.nD,
      m' ((c.tc : Thread Cert.AttnRIdeal.nD Cert.AttnRIdeal.τ).loc Cert.AttnRIdeal.main_arg0) = m ((c.tc : Thread Cert.AttnKIdeal.nD Cert.AttnKIdeal.τ).loc Cert.AttnKIdeal.main_arg0)
      ∧ m' ((c.tc : Thread Cert.AttnRIdeal.nD Cert.AttnRIdeal.τ).loc Cert.AttnRIdeal.main_arg1) = m ((c.tc : Thread Cert.AttnKIdeal.nD Cert.AttnKIdeal.τ).loc Cert.AttnKIdeal.main_arg1)
      ∧ m' ((c.tc : Thread Cert.AttnRIdeal.nD Cert.AttnRIdeal.τ).loc Cert.AttnRIdeal.main_arg2) = m ((c.tc : Thread Cert.AttnKIdeal.nD Cert.AttnKIdeal.τ).loc Cert.AttnKIdeal.main_arg2)
      ∧ m' ((c.tc : Thread Cert.AttnRIdeal.nD Cert.AttnRIdeal.τ).loc Cert.AttnRIdeal.main_arg3) = m ((c.tc : Thread Cert.AttnKIdeal.nD Cert.AttnKIdeal.τ).loc Cert.AttnKIdeal.main_arg3)) →
    ∃ (v0 : (c : Dev Cert.AttnKIdeal.nD) → Buf (Elt Ideal) ((c.tc : Thread Cert.AttnKIdeal.nD Cert.AttnKIdeal.τ).loc Cert.AttnKIdeal.main_v0_0)) (v1 : (c : Dev Cert.AttnKIdeal.nD) → Buf (Elt Ideal) ((c.tc : Thread Cert.AttnKIdeal.nD Cert.AttnKIdeal.τ).loc Cert.AttnKIdeal.main_v0_1)) (v2 : (c : Dev Cert.AttnKIdeal.nD) → Buf (Elt Ideal) ((c.tc : Thread Cert.AttnKIdeal.nD Cert.AttnKIdeal.τ).loc Cert.AttnKIdeal.main_v0_2)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v0_0) = v0 c
          ∧ r.2.mem ((c.tc : Thread Cert.AttnKIdeal.nD Cert.AttnKIdeal.τ).loc Cert.AttnKIdeal.main_v0_1) = v1 c
          ∧ r.2.mem ((c.tc : Thread Cert.AttnKIdeal.nD Cert.AttnKIdeal.τ).loc Cert.AttnKIdeal.main_v0_2) = v2 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1)
          ∧ r.2.mem ((c.tc : Thread Cert.AttnKIdeal.nD Cert.AttnKIdeal.τ).loc Cert.AttnKIdeal.main_arg2) = m ((c.tc : Thread Cert.AttnKIdeal.nD Cert.AttnKIdeal.τ).loc Cert.AttnKIdeal.main_arg2)
          ∧ r.2.mem ((c.tc : Thread Cert.AttnKIdeal.nD Cert.AttnKIdeal.τ).loc Cert.AttnKIdeal.main_arg3) = m ((c.tc : Thread Cert.AttnKIdeal.nD Cert.AttnKIdeal.τ).loc Cert.AttnKIdeal.main_arg3))
      ∧ θ_run (Cert.AttnRIdeal.defs (F := Ideal)) (onTc (τ := Cert.AttnRIdeal.τ) (Cert.AttnRIdeal.main (F := Ideal))) ⟨m', fun _ => 0, g'⟩ (fun r => ∀ c : Dev Cert.AttnRIdeal.nD,
          r.2.mem ((c.tc : Thread Cert.AttnRIdeal.nD Cert.AttnRIdeal.τ).loc Cert.AttnRIdeal.main_v65) = v0 c
          ∧ r.2.mem ((c.tc : Thread Cert.AttnRIdeal.nD Cert.AttnRIdeal.τ).loc Cert.AttnRIdeal.main_v64) = v1 c
          ∧ r.2.mem ((c.tc : Thread Cert.AttnRIdeal.nD Cert.AttnRIdeal.τ).loc Cert.AttnRIdeal.main_v63) = v2 c
          ∧ r.2.mem ((c.tc : Thread Cert.AttnRIdeal.nD Cert.AttnRIdeal.τ).loc Cert.AttnRIdeal.main_arg0) = m' ((c.tc : Thread Cert.AttnRIdeal.nD Cert.AttnRIdeal.τ).loc Cert.AttnRIdeal.main_arg0)
          ∧ r.2.mem ((c.tc : Thread Cert.AttnRIdeal.nD Cert.AttnRIdeal.τ).loc Cert.AttnRIdeal.main_arg1) = m' ((c.tc : Thread Cert.AttnRIdeal.nD Cert.AttnRIdeal.τ).loc Cert.AttnRIdeal.main_arg1)
          ∧ r.2.mem ((c.tc : Thread Cert.AttnRIdeal.nD Cert.AttnRIdeal.τ).loc Cert.AttnRIdeal.main_arg2) = m' ((c.tc : Thread Cert.AttnRIdeal.nD Cert.AttnRIdeal.τ).loc Cert.AttnRIdeal.main_arg2)
          ∧ r.2.mem ((c.tc : Thread Cert.AttnRIdeal.nD Cert.AttnRIdeal.τ).loc Cert.AttnRIdeal.main_arg3) = m' ((c.tc : Thread Cert.AttnRIdeal.nD Cert.AttnRIdeal.τ).loc Cert.AttnRIdeal.main_arg3))

def preserves_NormK_NormKIdeal : Prop :=
  True

def algebraic_NormKIdeal_NormRIdeal [hNormKIdeal : Cert.NormKIdeal.Facts] [hNormRIdeal : Cert.NormRIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)
      ∧ m' ((c.tc : Thread Cert.NormRIdeal.nD Cert.NormRIdeal.τ).loc Cert.NormRIdeal.main_arg3) = m ((c.tc : Thread Cert.NormKIdeal.nD Cert.NormKIdeal.τ).loc Cert.NormKIdeal.main_arg3)) →
    ∃ (v0 : (c : Dev Cert.NormKIdeal.nD) → Buf (Elt Ideal) ((c.tc : Thread Cert.NormKIdeal.nD Cert.NormKIdeal.τ).loc Cert.NormKIdeal.main_v0_0)) (v1 : (c : Dev Cert.NormKIdeal.nD) → Buf (Elt Ideal) ((c.tc : Thread Cert.NormKIdeal.nD Cert.NormKIdeal.τ).loc Cert.NormKIdeal.main_v0_1)) (v2 : (c : Dev Cert.NormKIdeal.nD) → Buf (Elt Ideal) ((c.tc : Thread Cert.NormKIdeal.nD Cert.NormKIdeal.τ).loc Cert.NormKIdeal.main_v0_2)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v0_0) = v0 c
          ∧ r.2.mem ((c.tc : Thread Cert.NormKIdeal.nD Cert.NormKIdeal.τ).loc Cert.NormKIdeal.main_v0_1) = v1 c
          ∧ r.2.mem ((c.tc : Thread Cert.NormKIdeal.nD Cert.NormKIdeal.τ).loc Cert.NormKIdeal.main_v0_2) = v2 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2)
          ∧ r.2.mem ((c.tc : Thread Cert.NormKIdeal.nD Cert.NormKIdeal.τ).loc Cert.NormKIdeal.main_arg3) = m ((c.tc : Thread Cert.NormKIdeal.nD Cert.NormKIdeal.τ).loc Cert.NormKIdeal.main_arg3))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v40) = v0 c
          ∧ r.2.mem ((c.tc : Thread Cert.NormRIdeal.nD Cert.NormRIdeal.τ).loc Cert.NormRIdeal.main_v21) = v1 c
          ∧ r.2.mem ((c.tc : Thread Cert.NormRIdeal.nD Cert.NormRIdeal.τ).loc Cert.NormRIdeal.main_v24) = v2 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2)
          ∧ r.2.mem ((c.tc : Thread Cert.NormRIdeal.nD Cert.NormRIdeal.τ).loc Cert.NormRIdeal.main_arg3) = m' ((c.tc : Thread Cert.NormRIdeal.nD Cert.NormRIdeal.τ).loc Cert.NormRIdeal.main_arg3))

def preserves_NormCK_NormCKIdeal : Prop :=
  True

def algebraic_NormCKIdeal_NormCRIdeal [hNormCKIdeal : Cert.NormCKIdeal.Facts] [hNormCRIdeal : Cert.NormCRIdeal.Facts] : Prop :=
  ∀ (m : (ℓ : Loc Cert.NormCKIdeal.nD Cert.NormCKIdeal.τ Cert.NormCKIdeal.sig) → Buf (Elt Ideal) ℓ) (g : Dev Cert.NormCKIdeal.nD → PrngReg)
    (m' : (ℓ : Loc Cert.NormCRIdeal.nD Cert.NormCRIdeal.τ Cert.NormCRIdeal.sig) → Buf (Elt Ideal) ℓ) (g' : Dev Cert.NormCRIdeal.nD → PrngReg), Pre_NormCKIdeal m →
    (∀ c : Dev Cert.NormCKIdeal.nD,
      m' ((c.tc : Thread Cert.NormCRIdeal.nD Cert.NormCRIdeal.τ).loc Cert.NormCRIdeal.main_arg0) = m ((c.tc : Thread Cert.NormCKIdeal.nD Cert.NormCKIdeal.τ).loc Cert.NormCKIdeal.main_arg0)
      ∧ m' ((c.tc : Thread Cert.NormCRIdeal.nD Cert.NormCRIdeal.τ).loc Cert.NormCRIdeal.main_arg1) = m ((c.tc : Thread Cert.NormCKIdeal.nD Cert.NormCKIdeal.τ).loc Cert.NormCKIdeal.main_arg1)
      ∧ m' ((c.tc : Thread Cert.NormCRIdeal.nD Cert.NormCRIdeal.τ).loc Cert.NormCRIdeal.main_arg2) = m ((c.tc : Thread Cert.NormCKIdeal.nD Cert.NormCKIdeal.τ).loc Cert.NormCKIdeal.main_arg2)
      ∧ m' ((c.tc : Thread Cert.NormCRIdeal.nD Cert.NormCRIdeal.τ).loc Cert.NormCRIdeal.main_arg3) = m ((c.tc : Thread Cert.NormCKIdeal.nD Cert.NormCKIdeal.τ).loc Cert.NormCKIdeal.main_arg3)) →
    ∃ (v0 : (c : Dev Cert.NormCKIdeal.nD) → Buf (Elt Ideal) ((c.tc : Thread Cert.NormCKIdeal.nD Cert.NormCKIdeal.τ).loc Cert.NormCKIdeal.main_v0_0)) (v1 : (c : Dev Cert.NormCKIdeal.nD) → Buf (Elt Ideal) ((c.tc : Thread Cert.NormCKIdeal.nD Cert.NormCKIdeal.τ).loc Cert.NormCKIdeal.main_v0_1)) (v2 : (c : Dev Cert.NormCKIdeal.nD) → Buf (Elt Ideal) ((c.tc : Thread Cert.NormCKIdeal.nD Cert.NormCKIdeal.τ).loc Cert.NormCKIdeal.main_v0_2)),
      θ_run (Cert.NormCKIdeal.defs (F := Ideal)) (onTc (τ := Cert.NormCKIdeal.τ) (Cert.NormCKIdeal.main (F := Ideal))) ⟨m, fun _ => 0, g⟩ (fun r => ∀ c : Dev Cert.NormCKIdeal.nD,
          r.2.mem ((c.tc : Thread Cert.NormCKIdeal.nD Cert.NormCKIdeal.τ).loc Cert.NormCKIdeal.main_v0_0) = v0 c
          ∧ r.2.mem ((c.tc : Thread Cert.NormCKIdeal.nD Cert.NormCKIdeal.τ).loc Cert.NormCKIdeal.main_v0_1) = v1 c
          ∧ r.2.mem ((c.tc : Thread Cert.NormCKIdeal.nD Cert.NormCKIdeal.τ).loc Cert.NormCKIdeal.main_v0_2) = v2 c
          ∧ r.2.mem ((c.tc : Thread Cert.NormCKIdeal.nD Cert.NormCKIdeal.τ).loc Cert.NormCKIdeal.main_arg0) = m ((c.tc : Thread Cert.NormCKIdeal.nD Cert.NormCKIdeal.τ).loc Cert.NormCKIdeal.main_arg0)
          ∧ r.2.mem ((c.tc : Thread Cert.NormCKIdeal.nD Cert.NormCKIdeal.τ).loc Cert.NormCKIdeal.main_arg1) = m ((c.tc : Thread Cert.NormCKIdeal.nD Cert.NormCKIdeal.τ).loc Cert.NormCKIdeal.main_arg1)
          ∧ r.2.mem ((c.tc : Thread Cert.NormCKIdeal.nD Cert.NormCKIdeal.τ).loc Cert.NormCKIdeal.main_arg2) = m ((c.tc : Thread Cert.NormCKIdeal.nD Cert.NormCKIdeal.τ).loc Cert.NormCKIdeal.main_arg2)
          ∧ r.2.mem ((c.tc : Thread Cert.NormCKIdeal.nD Cert.NormCKIdeal.τ).loc Cert.NormCKIdeal.main_arg3) = m ((c.tc : Thread Cert.NormCKIdeal.nD Cert.NormCKIdeal.τ).loc Cert.NormCKIdeal.main_arg3))
      ∧ θ_run (Cert.NormCRIdeal.defs (F := Ideal)) (onTc (τ := Cert.NormCRIdeal.τ) (Cert.NormCRIdeal.main (F := Ideal))) ⟨m', fun _ => 0, g'⟩ (fun r => ∀ c : Dev Cert.NormCRIdeal.nD,
          r.2.mem ((c.tc : Thread Cert.NormCRIdeal.nD Cert.NormCRIdeal.τ).loc Cert.NormCRIdeal.main_v40) = v0 c
          ∧ r.2.mem ((c.tc : Thread Cert.NormCRIdeal.nD Cert.NormCRIdeal.τ).loc Cert.NormCRIdeal.main_v21) = v1 c
          ∧ r.2.mem ((c.tc : Thread Cert.NormCRIdeal.nD Cert.NormCRIdeal.τ).loc Cert.NormCRIdeal.main_v24) = v2 c
          ∧ r.2.mem ((c.tc : Thread Cert.NormCRIdeal.nD Cert.NormCRIdeal.τ).loc Cert.NormCRIdeal.main_arg0) = m' ((c.tc : Thread Cert.NormCRIdeal.nD Cert.NormCRIdeal.τ).loc Cert.NormCRIdeal.main_arg0)
          ∧ r.2.mem ((c.tc : Thread Cert.NormCRIdeal.nD Cert.NormCRIdeal.τ).loc Cert.NormCRIdeal.main_arg1) = m' ((c.tc : Thread Cert.NormCRIdeal.nD Cert.NormCRIdeal.τ).loc Cert.NormCRIdeal.main_arg1)
          ∧ r.2.mem ((c.tc : Thread Cert.NormCRIdeal.nD Cert.NormCRIdeal.τ).loc Cert.NormCRIdeal.main_arg2) = m' ((c.tc : Thread Cert.NormCRIdeal.nD Cert.NormCRIdeal.τ).loc Cert.NormCRIdeal.main_arg2)
          ∧ r.2.mem ((c.tc : Thread Cert.NormCRIdeal.nD Cert.NormCRIdeal.τ).loc Cert.NormCRIdeal.main_arg3) = m' ((c.tc : Thread Cert.NormCRIdeal.nD Cert.NormCRIdeal.τ).loc Cert.NormCRIdeal.main_arg3))

def preserves_ResK_ResKIdeal : Prop :=
  True

def algebraic_ResKIdeal_ResRIdeal [hResKIdeal : Cert.ResKIdeal.Facts] [hResRIdeal : Cert.ResRIdeal.Facts] : Prop :=
  ∀ (m : (ℓ : Loc Cert.ResKIdeal.nD Cert.ResKIdeal.τ Cert.ResKIdeal.sig) → Buf (Elt Ideal) ℓ) (g : Dev Cert.ResKIdeal.nD → PrngReg)
    (m' : (ℓ : Loc Cert.ResRIdeal.nD Cert.ResRIdeal.τ Cert.ResRIdeal.sig) → Buf (Elt Ideal) ℓ) (g' : Dev Cert.ResRIdeal.nD → PrngReg), Pre_ResKIdeal m →
    (∀ c : Dev Cert.ResKIdeal.nD,
      m' ((c.tc : Thread Cert.ResRIdeal.nD Cert.ResRIdeal.τ).loc Cert.ResRIdeal.main_arg0) = m ((c.tc : Thread Cert.ResKIdeal.nD Cert.ResKIdeal.τ).loc Cert.ResKIdeal.main_arg0)
      ∧ m' ((c.tc : Thread Cert.ResRIdeal.nD Cert.ResRIdeal.τ).loc Cert.ResRIdeal.main_arg1) = m ((c.tc : Thread Cert.ResKIdeal.nD Cert.ResKIdeal.τ).loc Cert.ResKIdeal.main_arg1)
      ∧ m' ((c.tc : Thread Cert.ResRIdeal.nD Cert.ResRIdeal.τ).loc Cert.ResRIdeal.main_arg2) = m ((c.tc : Thread Cert.ResKIdeal.nD Cert.ResKIdeal.τ).loc Cert.ResKIdeal.main_arg2)
      ∧ m' ((c.tc : Thread Cert.ResRIdeal.nD Cert.ResRIdeal.τ).loc Cert.ResRIdeal.main_arg3) = m ((c.tc : Thread Cert.ResKIdeal.nD Cert.ResKIdeal.τ).loc Cert.ResKIdeal.main_arg3)
      ∧ m' ((c.tc : Thread Cert.ResRIdeal.nD Cert.ResRIdeal.τ).loc Cert.ResRIdeal.main_arg4) = m ((c.tc : Thread Cert.ResKIdeal.nD Cert.ResKIdeal.τ).loc Cert.ResKIdeal.main_arg4)
      ∧ m' ((c.tc : Thread Cert.ResRIdeal.nD Cert.ResRIdeal.τ).loc Cert.ResRIdeal.main_arg5) = m ((c.tc : Thread Cert.ResKIdeal.nD Cert.ResKIdeal.τ).loc Cert.ResKIdeal.main_arg5)
      ∧ m' ((c.tc : Thread Cert.ResRIdeal.nD Cert.ResRIdeal.τ).loc Cert.ResRIdeal.main_arg6) = m ((c.tc : Thread Cert.ResKIdeal.nD Cert.ResKIdeal.τ).loc Cert.ResKIdeal.main_arg6)) →
    ∃ (v0 : (c : Dev Cert.ResKIdeal.nD) → Buf (Elt Ideal) ((c.tc : Thread Cert.ResKIdeal.nD Cert.ResKIdeal.τ).loc Cert.ResKIdeal.main_v0_0)) (v1 : (c : Dev Cert.ResKIdeal.nD) → Buf (Elt Ideal) ((c.tc : Thread Cert.ResKIdeal.nD Cert.ResKIdeal.τ).loc Cert.ResKIdeal.main_v0_1)) (v2 : (c : Dev Cert.ResKIdeal.nD) → Buf (Elt Ideal) ((c.tc : Thread Cert.ResKIdeal.nD Cert.ResKIdeal.τ).loc Cert.ResKIdeal.main_v0_2)) (v3 : (c : Dev Cert.ResKIdeal.nD) → Buf (Elt Ideal) ((c.tc : Thread Cert.ResKIdeal.nD Cert.ResKIdeal.τ).loc Cert.ResKIdeal.main_v0_3)) (v4 : (c : Dev Cert.ResKIdeal.nD) → Buf (Elt Ideal) ((c.tc : Thread Cert.ResKIdeal.nD Cert.ResKIdeal.τ).loc Cert.ResKIdeal.main_v0_4)),
      θ_run (Cert.ResKIdeal.defs (F := Ideal)) (onTc (τ := Cert.ResKIdeal.τ) (Cert.ResKIdeal.main (F := Ideal))) ⟨m, fun _ => 0, g⟩ (fun r => ∀ c : Dev Cert.ResKIdeal.nD,
          r.2.mem ((c.tc : Thread Cert.ResKIdeal.nD Cert.ResKIdeal.τ).loc Cert.ResKIdeal.main_v0_0) = v0 c
          ∧ r.2.mem ((c.tc : Thread Cert.ResKIdeal.nD Cert.ResKIdeal.τ).loc Cert.ResKIdeal.main_v0_1) = v1 c
          ∧ r.2.mem ((c.tc : Thread Cert.ResKIdeal.nD Cert.ResKIdeal.τ).loc Cert.ResKIdeal.main_v0_2) = v2 c
          ∧ r.2.mem ((c.tc : Thread Cert.ResKIdeal.nD Cert.ResKIdeal.τ).loc Cert.ResKIdeal.main_v0_3) = v3 c
          ∧ r.2.mem ((c.tc : Thread Cert.ResKIdeal.nD Cert.ResKIdeal.τ).loc Cert.ResKIdeal.main_v0_4) = v4 c
          ∧ r.2.mem ((c.tc : Thread Cert.ResKIdeal.nD Cert.ResKIdeal.τ).loc Cert.ResKIdeal.main_arg0) = m ((c.tc : Thread Cert.ResKIdeal.nD Cert.ResKIdeal.τ).loc Cert.ResKIdeal.main_arg0)
          ∧ r.2.mem ((c.tc : Thread Cert.ResKIdeal.nD Cert.ResKIdeal.τ).loc Cert.ResKIdeal.main_arg1) = m ((c.tc : Thread Cert.ResKIdeal.nD Cert.ResKIdeal.τ).loc Cert.ResKIdeal.main_arg1)
          ∧ r.2.mem ((c.tc : Thread Cert.ResKIdeal.nD Cert.ResKIdeal.τ).loc Cert.ResKIdeal.main_arg2) = m ((c.tc : Thread Cert.ResKIdeal.nD Cert.ResKIdeal.τ).loc Cert.ResKIdeal.main_arg2)
          ∧ r.2.mem ((c.tc : Thread Cert.ResKIdeal.nD Cert.ResKIdeal.τ).loc Cert.ResKIdeal.main_arg3) = m ((c.tc : Thread Cert.ResKIdeal.nD Cert.ResKIdeal.τ).loc Cert.ResKIdeal.main_arg3)
          ∧ r.2.mem ((c.tc : Thread Cert.ResKIdeal.nD Cert.ResKIdeal.τ).loc Cert.ResKIdeal.main_arg4) = m ((c.tc : Thread Cert.ResKIdeal.nD Cert.ResKIdeal.τ).loc Cert.ResKIdeal.main_arg4)
          ∧ r.2.mem ((c.tc : Thread Cert.ResKIdeal.nD Cert.ResKIdeal.τ).loc Cert.ResKIdeal.main_arg5) = m ((c.tc : Thread Cert.ResKIdeal.nD Cert.ResKIdeal.τ).loc Cert.ResKIdeal.main_arg5)
          ∧ r.2.mem ((c.tc : Thread Cert.ResKIdeal.nD Cert.ResKIdeal.τ).loc Cert.ResKIdeal.main_arg6) = m ((c.tc : Thread Cert.ResKIdeal.nD Cert.ResKIdeal.τ).loc Cert.ResKIdeal.main_arg6))
      ∧ θ_run (Cert.ResRIdeal.defs (F := Ideal)) (onTc (τ := Cert.ResRIdeal.τ) (Cert.ResRIdeal.main (F := Ideal))) ⟨m', fun _ => 0, g'⟩ (fun r => ∀ c : Dev Cert.ResRIdeal.nD,
          r.2.mem ((c.tc : Thread Cert.ResRIdeal.nD Cert.ResRIdeal.τ).loc Cert.ResRIdeal.main_v44) = v0 c
          ∧ r.2.mem ((c.tc : Thread Cert.ResRIdeal.nD Cert.ResRIdeal.τ).loc Cert.ResRIdeal.main_v47) = v1 c
          ∧ r.2.mem ((c.tc : Thread Cert.ResRIdeal.nD Cert.ResRIdeal.τ).loc Cert.ResRIdeal.main_v50) = v2 c
          ∧ r.2.mem ((c.tc : Thread Cert.ResRIdeal.nD Cert.ResRIdeal.τ).loc Cert.ResRIdeal.main_v24) = v3 c
          ∧ r.2.mem ((c.tc : Thread Cert.ResRIdeal.nD Cert.ResRIdeal.τ).loc Cert.ResRIdeal.main_v27) = v4 c
          ∧ r.2.mem ((c.tc : Thread Cert.ResRIdeal.nD Cert.ResRIdeal.τ).loc Cert.ResRIdeal.main_arg0) = m' ((c.tc : Thread Cert.ResRIdeal.nD Cert.ResRIdeal.τ).loc Cert.ResRIdeal.main_arg0)
          ∧ r.2.mem ((c.tc : Thread Cert.ResRIdeal.nD Cert.ResRIdeal.τ).loc Cert.ResRIdeal.main_arg1) = m' ((c.tc : Thread Cert.ResRIdeal.nD Cert.ResRIdeal.τ).loc Cert.ResRIdeal.main_arg1)
          ∧ r.2.mem ((c.tc : Thread Cert.ResRIdeal.nD Cert.ResRIdeal.τ).loc Cert.ResRIdeal.main_arg2) = m' ((c.tc : Thread Cert.ResRIdeal.nD Cert.ResRIdeal.τ).loc Cert.ResRIdeal.main_arg2)
          ∧ r.2.mem ((c.tc : Thread Cert.ResRIdeal.nD Cert.ResRIdeal.τ).loc Cert.ResRIdeal.main_arg3) = m' ((c.tc : Thread Cert.ResRIdeal.nD Cert.ResRIdeal.τ).loc Cert.ResRIdeal.main_arg3)
          ∧ r.2.mem ((c.tc : Thread Cert.ResRIdeal.nD Cert.ResRIdeal.τ).loc Cert.ResRIdeal.main_arg4) = m' ((c.tc : Thread Cert.ResRIdeal.nD Cert.ResRIdeal.τ).loc Cert.ResRIdeal.main_arg4)
          ∧ r.2.mem ((c.tc : Thread Cert.ResRIdeal.nD Cert.ResRIdeal.τ).loc Cert.ResRIdeal.main_arg5) = m' ((c.tc : Thread Cert.ResRIdeal.nD Cert.ResRIdeal.τ).loc Cert.ResRIdeal.main_arg5)
          ∧ r.2.mem ((c.tc : Thread Cert.ResRIdeal.nD Cert.ResRIdeal.τ).loc Cert.ResRIdeal.main_arg6) = m' ((c.tc : Thread Cert.ResRIdeal.nD Cert.ResRIdeal.τ).loc Cert.ResRIdeal.main_arg6))

def preserves_HeadK_HeadKIdeal : Prop :=
  True

def algebraic_HeadKIdeal_HeadRIdeal [hHeadKIdeal : Cert.HeadKIdeal.Facts] [hHeadRIdeal : Cert.HeadRIdeal.Facts] : Prop :=
  ∀ (m : (ℓ : Loc Cert.HeadKIdeal.nD Cert.HeadKIdeal.τ Cert.HeadKIdeal.sig) → Buf (Elt Ideal) ℓ) (g : Dev Cert.HeadKIdeal.nD → PrngReg)
    (m' : (ℓ : Loc Cert.HeadRIdeal.nD Cert.HeadRIdeal.τ Cert.HeadRIdeal.sig) → Buf (Elt Ideal) ℓ) (g' : Dev Cert.HeadRIdeal.nD → PrngReg), Pre_HeadKIdeal m →
    (∀ c : Dev Cert.HeadKIdeal.nD,
      m' ((c.tc : Thread Cert.HeadRIdeal.nD Cert.HeadRIdeal.τ).loc Cert.HeadRIdeal.main_arg0) = m ((c.tc : Thread Cert.HeadKIdeal.nD Cert.HeadKIdeal.τ).loc Cert.HeadKIdeal.main_arg0)
      ∧ m' ((c.tc : Thread Cert.HeadRIdeal.nD Cert.HeadRIdeal.τ).loc Cert.HeadRIdeal.main_arg1) = m ((c.tc : Thread Cert.HeadKIdeal.nD Cert.HeadKIdeal.τ).loc Cert.HeadKIdeal.main_arg1)
      ∧ m' ((c.tc : Thread Cert.HeadRIdeal.nD Cert.HeadRIdeal.τ).loc Cert.HeadRIdeal.main_arg2) = m ((c.tc : Thread Cert.HeadKIdeal.nD Cert.HeadKIdeal.τ).loc Cert.HeadKIdeal.main_arg2)
      ∧ m' ((c.tc : Thread Cert.HeadRIdeal.nD Cert.HeadRIdeal.τ).loc Cert.HeadRIdeal.main_arg3) = m ((c.tc : Thread Cert.HeadKIdeal.nD Cert.HeadKIdeal.τ).loc Cert.HeadKIdeal.main_arg3)
      ∧ m' ((c.tc : Thread Cert.HeadRIdeal.nD Cert.HeadRIdeal.τ).loc Cert.HeadRIdeal.main_arg4) = m ((c.tc : Thread Cert.HeadKIdeal.nD Cert.HeadKIdeal.τ).loc Cert.HeadKIdeal.main_arg4)) →
    ∃ (v0 : (c : Dev Cert.HeadKIdeal.nD) → Buf (Elt Ideal) ((c.tc : Thread Cert.HeadKIdeal.nD Cert.HeadKIdeal.τ).loc Cert.HeadKIdeal.main_v8_0)) (v1 : (c : Dev Cert.HeadKIdeal.nD) → Buf (Elt Ideal) ((c.tc : Thread Cert.HeadKIdeal.nD Cert.HeadKIdeal.τ).loc Cert.HeadKIdeal.main_v8_1)) (v2 : (c : Dev Cert.HeadKIdeal.nD) → Buf (Elt Ideal) ((c.tc : Thread Cert.HeadKIdeal.nD Cert.HeadKIdeal.τ).loc Cert.HeadKIdeal.main_v8_2)) (v3 : (c : Dev Cert.HeadKIdeal.nD) → Buf (Elt Ideal) ((c.tc : Thread Cert.HeadKIdeal.nD Cert.HeadKIdeal.τ).loc Cert.HeadKIdeal.main_v8_3)),
      θ_run (Cert.HeadKIdeal.defs (F := Ideal)) (onTc (τ := Cert.HeadKIdeal.τ) (Cert.HeadKIdeal.main (F := Ideal))) ⟨m, fun _ => 0, g⟩ (fun r => ∀ c : Dev Cert.HeadKIdeal.nD,
          r.2.mem ((c.tc : Thread Cert.HeadKIdeal.nD Cert.HeadKIdeal.τ).loc Cert.HeadKIdeal.main_v8_0) = v0 c
          ∧ r.2.mem ((c.tc : Thread Cert.HeadKIdeal.nD Cert.HeadKIdeal.τ).loc Cert.HeadKIdeal.main_v8_1) = v1 c
          ∧ r.2.mem ((c.tc : Thread Cert.HeadKIdeal.nD Cert.HeadKIdeal.τ).loc Cert.HeadKIdeal.main_v8_2) = v2 c
          ∧ r.2.mem ((c.tc : Thread Cert.HeadKIdeal.nD Cert.HeadKIdeal.τ).loc Cert.HeadKIdeal.main_v8_3) = v3 c
          ∧ r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
          ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
          ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2)
          ∧ r.2.mem ((c.tc : Thread Cert.HeadKIdeal.nD Cert.HeadKIdeal.τ).loc Cert.HeadKIdeal.main_arg3) = m ((c.tc : Thread Cert.HeadKIdeal.nD Cert.HeadKIdeal.τ).loc Cert.HeadKIdeal.main_arg3)
          ∧ r.2.mem ((c.tc : Thread Cert.HeadKIdeal.nD Cert.HeadKIdeal.τ).loc Cert.HeadKIdeal.main_arg4) = m ((c.tc : Thread Cert.HeadKIdeal.nD Cert.HeadKIdeal.τ).loc Cert.HeadKIdeal.main_arg4))
      ∧ θ_run (Cert.HeadRIdeal.defs (F := Ideal)) (onTc (τ := Cert.HeadRIdeal.τ) (Cert.HeadRIdeal.main (F := Ideal))) ⟨m', fun _ => 0, g'⟩ (fun r => ∀ c : Dev Cert.HeadRIdeal.nD,
          r.2.mem ((c.tc : Thread Cert.HeadRIdeal.nD Cert.HeadRIdeal.τ).loc Cert.HeadRIdeal.main_v53) = v0 c
          ∧ r.2.mem ((c.tc : Thread Cert.HeadRIdeal.nD Cert.HeadRIdeal.τ).loc Cert.HeadRIdeal.main_v55) = v1 c
          ∧ r.2.mem ((c.tc : Thread Cert.HeadRIdeal.nD Cert.HeadRIdeal.τ).loc Cert.HeadRIdeal.main_v58) = v2 c
          ∧ r.2.mem ((c.tc : Thread Cert.HeadRIdeal.nD Cert.HeadRIdeal.τ).loc Cert.HeadRIdeal.main_v59) = v3 c
          ∧ r.2.mem ((c.tc : Thread Cert.HeadRIdeal.nD Cert.HeadRIdeal.τ).loc Cert.HeadRIdeal.main_arg0) = m' ((c.tc : Thread Cert.HeadRIdeal.nD Cert.HeadRIdeal.τ).loc Cert.HeadRIdeal.main_arg0)
          ∧ r.2.mem ((c.tc : Thread Cert.HeadRIdeal.nD Cert.HeadRIdeal.τ).loc Cert.HeadRIdeal.main_arg1) = m' ((c.tc : Thread Cert.HeadRIdeal.nD Cert.HeadRIdeal.τ).loc Cert.HeadRIdeal.main_arg1)
          ∧ r.2.mem ((c.tc : Thread Cert.HeadRIdeal.nD Cert.HeadRIdeal.τ).loc Cert.HeadRIdeal.main_arg2) = m' ((c.tc : Thread Cert.HeadRIdeal.nD Cert.HeadRIdeal.τ).loc Cert.HeadRIdeal.main_arg2)
          ∧ r.2.mem ((c.tc : Thread Cert.HeadRIdeal.nD Cert.HeadRIdeal.τ).loc Cert.HeadRIdeal.main_arg3) = m' ((c.tc : Thread Cert.HeadRIdeal.nD Cert.HeadRIdeal.τ).loc Cert.HeadRIdeal.main_arg3)
          ∧ r.2.mem ((c.tc : Thread Cert.HeadRIdeal.nD Cert.HeadRIdeal.τ).loc Cert.HeadRIdeal.main_arg4) = m' ((c.tc : Thread Cert.HeadRIdeal.nD Cert.HeadRIdeal.τ).loc Cert.HeadRIdeal.main_arg4))

def preserves_GdnOutK_GdnOutKIdeal : Prop :=
  True

def algebraic_GdnOutKIdeal_GdnOutRIdeal [hGdnOutKIdeal : Cert.GdnOutKIdeal.Facts] [hGdnOutRIdeal : Cert.GdnOutRIdeal.Facts] : Prop :=
  ∀ (m : (ℓ : Loc Cert.GdnOutKIdeal.nD Cert.GdnOutKIdeal.τ Cert.GdnOutKIdeal.sig) → Buf (Elt Ideal) ℓ) (g : Dev Cert.GdnOutKIdeal.nD → PrngReg)
    (m' : (ℓ : Loc Cert.GdnOutRIdeal.nD Cert.GdnOutRIdeal.τ Cert.GdnOutRIdeal.sig) → Buf (Elt Ideal) ℓ) (g' : Dev Cert.GdnOutRIdeal.nD → PrngReg), Pre_GdnOutKIdeal m →
    (∀ c : Dev Cert.GdnOutKIdeal.nD,
      m' ((c.tc : Thread Cert.GdnOutRIdeal.nD Cert.GdnOutRIdeal.τ).loc Cert.GdnOutRIdeal.main_arg0) = m ((c.tc : Thread Cert.GdnOutKIdeal.nD Cert.GdnOutKIdeal.τ).loc Cert.GdnOutKIdeal.main_arg0)
      ∧ m' ((c.tc : Thread Cert.GdnOutRIdeal.nD Cert.GdnOutRIdeal.τ).loc Cert.GdnOutRIdeal.main_arg1) = m ((c.tc : Thread Cert.GdnOutKIdeal.nD Cert.GdnOutKIdeal.τ).loc Cert.GdnOutKIdeal.main_arg1)
      ∧ m' ((c.tc : Thread Cert.GdnOutRIdeal.nD Cert.GdnOutRIdeal.τ).loc Cert.GdnOutRIdeal.main_arg2) = m ((c.tc : Thread Cert.GdnOutKIdeal.nD Cert.GdnOutKIdeal.τ).loc Cert.GdnOutKIdeal.main_arg2)
      ∧ m' ((c.tc : Thread Cert.GdnOutRIdeal.nD Cert.GdnOutRIdeal.τ).loc Cert.GdnOutRIdeal.main_arg3) = m ((c.tc : Thread Cert.GdnOutKIdeal.nD Cert.GdnOutKIdeal.τ).loc Cert.GdnOutKIdeal.main_arg3)) →
    ∃ (v0 : (c : Dev Cert.GdnOutKIdeal.nD) → Buf (Elt Ideal) ((c.tc : Thread Cert.GdnOutKIdeal.nD Cert.GdnOutKIdeal.τ).loc Cert.GdnOutKIdeal.main_v0_0)) (v1 : (c : Dev Cert.GdnOutKIdeal.nD) → Buf (Elt Ideal) ((c.tc : Thread Cert.GdnOutKIdeal.nD Cert.GdnOutKIdeal.τ).loc Cert.GdnOutKIdeal.main_v0_1)) (v2 : (c : Dev Cert.GdnOutKIdeal.nD) → Buf (Elt Ideal) ((c.tc : Thread Cert.GdnOutKIdeal.nD Cert.GdnOutKIdeal.τ).loc Cert.GdnOutKIdeal.main_v0_2)),
      θ_run (Cert.GdnOutKIdeal.defs (F := Ideal)) (onTc (τ := Cert.GdnOutKIdeal.τ) (Cert.GdnOutKIdeal.main (F := Ideal))) ⟨m, fun _ => 0, g⟩ (fun r => ∀ c : Dev Cert.GdnOutKIdeal.nD,
          r.2.mem ((c.tc : Thread Cert.GdnOutKIdeal.nD Cert.GdnOutKIdeal.τ).loc Cert.GdnOutKIdeal.main_v0_0) = v0 c
          ∧ r.2.mem ((c.tc : Thread Cert.GdnOutKIdeal.nD Cert.GdnOutKIdeal.τ).loc Cert.GdnOutKIdeal.main_v0_1) = v1 c
          ∧ r.2.mem ((c.tc : Thread Cert.GdnOutKIdeal.nD Cert.GdnOutKIdeal.τ).loc Cert.GdnOutKIdeal.main_v0_2) = v2 c
          ∧ r.2.mem ((c.tc : Thread Cert.GdnOutKIdeal.nD Cert.GdnOutKIdeal.τ).loc Cert.GdnOutKIdeal.main_arg0) = m ((c.tc : Thread Cert.GdnOutKIdeal.nD Cert.GdnOutKIdeal.τ).loc Cert.GdnOutKIdeal.main_arg0)
          ∧ r.2.mem ((c.tc : Thread Cert.GdnOutKIdeal.nD Cert.GdnOutKIdeal.τ).loc Cert.GdnOutKIdeal.main_arg1) = m ((c.tc : Thread Cert.GdnOutKIdeal.nD Cert.GdnOutKIdeal.τ).loc Cert.GdnOutKIdeal.main_arg1)
          ∧ r.2.mem ((c.tc : Thread Cert.GdnOutKIdeal.nD Cert.GdnOutKIdeal.τ).loc Cert.GdnOutKIdeal.main_arg2) = m ((c.tc : Thread Cert.GdnOutKIdeal.nD Cert.GdnOutKIdeal.τ).loc Cert.GdnOutKIdeal.main_arg2)
          ∧ r.2.mem ((c.tc : Thread Cert.GdnOutKIdeal.nD Cert.GdnOutKIdeal.τ).loc Cert.GdnOutKIdeal.main_arg3) = m ((c.tc : Thread Cert.GdnOutKIdeal.nD Cert.GdnOutKIdeal.τ).loc Cert.GdnOutKIdeal.main_arg3))
      ∧ θ_run (Cert.GdnOutRIdeal.defs (F := Ideal)) (onTc (τ := Cert.GdnOutRIdeal.τ) (Cert.GdnOutRIdeal.main (F := Ideal))) ⟨m', fun _ => 0, g'⟩ (fun r => ∀ c : Dev Cert.GdnOutRIdeal.nD,
          r.2.mem ((c.tc : Thread Cert.GdnOutRIdeal.nD Cert.GdnOutRIdeal.τ).loc Cert.GdnOutRIdeal.main_v57) = v0 c
          ∧ r.2.mem ((c.tc : Thread Cert.GdnOutRIdeal.nD Cert.GdnOutRIdeal.τ).loc Cert.GdnOutRIdeal.main_v55) = v1 c
          ∧ r.2.mem ((c.tc : Thread Cert.GdnOutRIdeal.nD Cert.GdnOutRIdeal.τ).loc Cert.GdnOutRIdeal.main_v54) = v2 c
          ∧ r.2.mem ((c.tc : Thread Cert.GdnOutRIdeal.nD Cert.GdnOutRIdeal.τ).loc Cert.GdnOutRIdeal.main_arg0) = m' ((c.tc : Thread Cert.GdnOutRIdeal.nD Cert.GdnOutRIdeal.τ).loc Cert.GdnOutRIdeal.main_arg0)
          ∧ r.2.mem ((c.tc : Thread Cert.GdnOutRIdeal.nD Cert.GdnOutRIdeal.τ).loc Cert.GdnOutRIdeal.main_arg1) = m' ((c.tc : Thread Cert.GdnOutRIdeal.nD Cert.GdnOutRIdeal.τ).loc Cert.GdnOutRIdeal.main_arg1)
          ∧ r.2.mem ((c.tc : Thread Cert.GdnOutRIdeal.nD Cert.GdnOutRIdeal.τ).loc Cert.GdnOutRIdeal.main_arg2) = m' ((c.tc : Thread Cert.GdnOutRIdeal.nD Cert.GdnOutRIdeal.τ).loc Cert.GdnOutRIdeal.main_arg2)
          ∧ r.2.mem ((c.tc : Thread Cert.GdnOutRIdeal.nD Cert.GdnOutRIdeal.τ).loc Cert.GdnOutRIdeal.main_arg3) = m' ((c.tc : Thread Cert.GdnOutRIdeal.nD Cert.GdnOutRIdeal.τ).loc Cert.GdnOutRIdeal.main_arg3))

def preserves_QPrepK_QPrepKIdeal : Prop :=
  True

def algebraic_QPrepKIdeal_QPrepRIdeal [hQPrepKIdeal : Cert.QPrepKIdeal.Facts] [hQPrepRIdeal : Cert.QPrepRIdeal.Facts] : Prop :=
  ∀ (m : (ℓ : Loc Cert.QPrepKIdeal.nD Cert.QPrepKIdeal.τ Cert.QPrepKIdeal.sig) → Buf (Elt Ideal) ℓ) (g : Dev Cert.QPrepKIdeal.nD → PrngReg)
    (m' : (ℓ : Loc Cert.QPrepRIdeal.nD Cert.QPrepRIdeal.τ Cert.QPrepRIdeal.sig) → Buf (Elt Ideal) ℓ) (g' : Dev Cert.QPrepRIdeal.nD → PrngReg), Pre_QPrepKIdeal m →
    (∀ c : Dev Cert.QPrepKIdeal.nD,
      m' ((c.tc : Thread Cert.QPrepRIdeal.nD Cert.QPrepRIdeal.τ).loc Cert.QPrepRIdeal.main_arg0) = m ((c.tc : Thread Cert.QPrepKIdeal.nD Cert.QPrepKIdeal.τ).loc Cert.QPrepKIdeal.main_arg0)
      ∧ m' ((c.tc : Thread Cert.QPrepRIdeal.nD Cert.QPrepRIdeal.τ).loc Cert.QPrepRIdeal.main_arg1) = m ((c.tc : Thread Cert.QPrepKIdeal.nD Cert.QPrepKIdeal.τ).loc Cert.QPrepKIdeal.main_arg1)
      ∧ m' ((c.tc : Thread Cert.QPrepRIdeal.nD Cert.QPrepRIdeal.τ).loc Cert.QPrepRIdeal.main_arg2) = m ((c.tc : Thread Cert.QPrepKIdeal.nD Cert.QPrepKIdeal.τ).loc Cert.QPrepKIdeal.main_arg2)) →
    ∃ (v0 : (c : Dev Cert.QPrepKIdeal.nD) → Buf (Elt Ideal) ((c.tc : Thread Cert.QPrepKIdeal.nD Cert.QPrepKIdeal.τ).loc Cert.QPrepKIdeal.main_v60_0)) (v1 : (c : Dev Cert.QPrepKIdeal.nD) → Buf (Elt Ideal) ((c.tc : Thread Cert.QPrepKIdeal.nD Cert.QPrepKIdeal.τ).loc Cert.QPrepKIdeal.main_v60_1)),
      θ_run (Cert.QPrepKIdeal.defs (F := Ideal)) (onTc (τ := Cert.QPrepKIdeal.τ) (Cert.QPrepKIdeal.main (F := Ideal))) ⟨m, fun _ => 0, g⟩ (fun r => ∀ c : Dev Cert.QPrepKIdeal.nD,
          r.2.mem ((c.tc : Thread Cert.QPrepKIdeal.nD Cert.QPrepKIdeal.τ).loc Cert.QPrepKIdeal.main_v60_0) = v0 c
          ∧ r.2.mem ((c.tc : Thread Cert.QPrepKIdeal.nD Cert.QPrepKIdeal.τ).loc Cert.QPrepKIdeal.main_v60_1) = v1 c
          ∧ r.2.mem ((c.tc : Thread Cert.QPrepKIdeal.nD Cert.QPrepKIdeal.τ).loc Cert.QPrepKIdeal.main_arg0) = m ((c.tc : Thread Cert.QPrepKIdeal.nD Cert.QPrepKIdeal.τ).loc Cert.QPrepKIdeal.main_arg0)
          ∧ r.2.mem ((c.tc : Thread Cert.QPrepKIdeal.nD Cert.QPrepKIdeal.τ).loc Cert.QPrepKIdeal.main_arg1) = m ((c.tc : Thread Cert.QPrepKIdeal.nD Cert.QPrepKIdeal.τ).loc Cert.QPrepKIdeal.main_arg1)
          ∧ r.2.mem ((c.tc : Thread Cert.QPrepKIdeal.nD Cert.QPrepKIdeal.τ).loc Cert.QPrepKIdeal.main_arg2) = m ((c.tc : Thread Cert.QPrepKIdeal.nD Cert.QPrepKIdeal.τ).loc Cert.QPrepKIdeal.main_arg2))
      ∧ θ_run (Cert.QPrepRIdeal.defs (F := Ideal)) (onTc (τ := Cert.QPrepRIdeal.τ) (Cert.QPrepRIdeal.main (F := Ideal))) ⟨m', fun _ => 0, g'⟩ (fun r => ∀ c : Dev Cert.QPrepRIdeal.nD,
          r.2.mem ((c.tc : Thread Cert.QPrepRIdeal.nD Cert.QPrepRIdeal.τ).loc Cert.QPrepRIdeal.main_v117) = v0 c
          ∧ r.2.mem ((c.tc : Thread Cert.QPrepRIdeal.nD Cert.QPrepRIdeal.τ).loc Cert.QPrepRIdeal.main_v116) = v1 c
          ∧ r.2.mem ((c.tc : Thread Cert.QPrepRIdeal.nD Cert.QPrepRIdeal.τ).loc Cert.QPrepRIdeal.main_arg0) = m' ((c.tc : Thread Cert.QPrepRIdeal.nD Cert.QPrepRIdeal.τ).loc Cert.QPrepRIdeal.main_arg0)
          ∧ r.2.mem ((c.tc : Thread Cert.QPrepRIdeal.nD Cert.QPrepRIdeal.τ).loc Cert.QPrepRIdeal.main_arg1) = m' ((c.tc : Thread Cert.QPrepRIdeal.nD Cert.QPrepRIdeal.τ).loc Cert.QPrepRIdeal.main_arg1)
          ∧ r.2.mem ((c.tc : Thread Cert.QPrepRIdeal.nD Cert.QPrepRIdeal.τ).loc Cert.QPrepRIdeal.main_arg2) = m' ((c.tc : Thread Cert.QPrepRIdeal.nD Cert.QPrepRIdeal.τ).loc Cert.QPrepRIdeal.main_arg2))

def preserves_KPrepK_KPrepKIdeal : Prop :=
  True

def algebraic_KPrepKIdeal_KPrepRIdeal [hKPrepKIdeal : Cert.KPrepKIdeal.Facts] [hKPrepRIdeal : Cert.KPrepRIdeal.Facts] : Prop :=
  ∀ (m : (ℓ : Loc Cert.KPrepKIdeal.nD Cert.KPrepKIdeal.τ Cert.KPrepKIdeal.sig) → Buf (Elt Ideal) ℓ) (g : Dev Cert.KPrepKIdeal.nD → PrngReg)
    (m' : (ℓ : Loc Cert.KPrepRIdeal.nD Cert.KPrepRIdeal.τ Cert.KPrepRIdeal.sig) → Buf (Elt Ideal) ℓ) (g' : Dev Cert.KPrepRIdeal.nD → PrngReg), Pre_KPrepKIdeal m →
    (∀ c : Dev Cert.KPrepKIdeal.nD,
      m' ((c.tc : Thread Cert.KPrepRIdeal.nD Cert.KPrepRIdeal.τ).loc Cert.KPrepRIdeal.main_arg0) = m ((c.tc : Thread Cert.KPrepKIdeal.nD Cert.KPrepKIdeal.τ).loc Cert.KPrepKIdeal.main_arg0)
      ∧ m' ((c.tc : Thread Cert.KPrepRIdeal.nD Cert.KPrepRIdeal.τ).loc Cert.KPrepRIdeal.main_arg1) = m ((c.tc : Thread Cert.KPrepKIdeal.nD Cert.KPrepKIdeal.τ).loc Cert.KPrepKIdeal.main_arg1)
      ∧ m' ((c.tc : Thread Cert.KPrepRIdeal.nD Cert.KPrepRIdeal.τ).loc Cert.KPrepRIdeal.main_arg2) = m ((c.tc : Thread Cert.KPrepKIdeal.nD Cert.KPrepKIdeal.τ).loc Cert.KPrepKIdeal.main_arg2)) →
    ∃ (v0 : (c : Dev Cert.KPrepKIdeal.nD) → Buf (Elt Ideal) ((c.tc : Thread Cert.KPrepKIdeal.nD Cert.KPrepKIdeal.τ).loc Cert.KPrepKIdeal.main_v60_0)) (v1 : (c : Dev Cert.KPrepKIdeal.nD) → Buf (Elt Ideal) ((c.tc : Thread Cert.KPrepKIdeal.nD Cert.KPrepKIdeal.τ).loc Cert.KPrepKIdeal.main_v60_1)),
      θ_run (Cert.KPrepKIdeal.defs (F := Ideal)) (onTc (τ := Cert.KPrepKIdeal.τ) (Cert.KPrepKIdeal.main (F := Ideal))) ⟨m, fun _ => 0, g⟩ (fun r => ∀ c : Dev Cert.KPrepKIdeal.nD,
          r.2.mem ((c.tc : Thread Cert.KPrepKIdeal.nD Cert.KPrepKIdeal.τ).loc Cert.KPrepKIdeal.main_v60_0) = v0 c
          ∧ r.2.mem ((c.tc : Thread Cert.KPrepKIdeal.nD Cert.KPrepKIdeal.τ).loc Cert.KPrepKIdeal.main_v60_1) = v1 c
          ∧ r.2.mem ((c.tc : Thread Cert.KPrepKIdeal.nD Cert.KPrepKIdeal.τ).loc Cert.KPrepKIdeal.main_arg0) = m ((c.tc : Thread Cert.KPrepKIdeal.nD Cert.KPrepKIdeal.τ).loc Cert.KPrepKIdeal.main_arg0)
          ∧ r.2.mem ((c.tc : Thread Cert.KPrepKIdeal.nD Cert.KPrepKIdeal.τ).loc Cert.KPrepKIdeal.main_arg1) = m ((c.tc : Thread Cert.KPrepKIdeal.nD Cert.KPrepKIdeal.τ).loc Cert.KPrepKIdeal.main_arg1)
          ∧ r.2.mem ((c.tc : Thread Cert.KPrepKIdeal.nD Cert.KPrepKIdeal.τ).loc Cert.KPrepKIdeal.main_arg2) = m ((c.tc : Thread Cert.KPrepKIdeal.nD Cert.KPrepKIdeal.τ).loc Cert.KPrepKIdeal.main_arg2))
      ∧ θ_run (Cert.KPrepRIdeal.defs (F := Ideal)) (onTc (τ := Cert.KPrepRIdeal.τ) (Cert.KPrepRIdeal.main (F := Ideal))) ⟨m', fun _ => 0, g'⟩ (fun r => ∀ c : Dev Cert.KPrepRIdeal.nD,
          r.2.mem ((c.tc : Thread Cert.KPrepRIdeal.nD Cert.KPrepRIdeal.τ).loc Cert.KPrepRIdeal.main_v171) = v0 c
          ∧ r.2.mem ((c.tc : Thread Cert.KPrepRIdeal.nD Cert.KPrepRIdeal.τ).loc Cert.KPrepRIdeal.main_v167) = v1 c
          ∧ r.2.mem ((c.tc : Thread Cert.KPrepRIdeal.nD Cert.KPrepRIdeal.τ).loc Cert.KPrepRIdeal.main_arg0) = m' ((c.tc : Thread Cert.KPrepRIdeal.nD Cert.KPrepRIdeal.τ).loc Cert.KPrepRIdeal.main_arg0)
          ∧ r.2.mem ((c.tc : Thread Cert.KPrepRIdeal.nD Cert.KPrepRIdeal.τ).loc Cert.KPrepRIdeal.main_arg1) = m' ((c.tc : Thread Cert.KPrepRIdeal.nD Cert.KPrepRIdeal.τ).loc Cert.KPrepRIdeal.main_arg1)
          ∧ r.2.mem ((c.tc : Thread Cert.KPrepRIdeal.nD Cert.KPrepRIdeal.τ).loc Cert.KPrepRIdeal.main_arg2) = m' ((c.tc : Thread Cert.KPrepRIdeal.nD Cert.KPrepRIdeal.τ).loc Cert.KPrepRIdeal.main_arg2))

def preserves_FfnK_FfnKIdeal : Prop :=
  True

def algebraic_FfnKIdeal_FfnRIdeal [hFfnKIdeal : Cert.FfnKIdeal.Facts] [hFfnRIdeal : Cert.FfnRIdeal.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)) →
    ∃ (v0 : (c : Dev Cert.FfnKIdeal.nD) → Buf (Elt Ideal) ((c.tc : Thread Cert.FfnKIdeal.nD Cert.FfnKIdeal.τ).loc Cert.FfnKIdeal.main_v3_0)) (v1 : (c : Dev Cert.FfnKIdeal.nD) → Buf (Elt Ideal) ((c.tc : Thread Cert.FfnKIdeal.nD Cert.FfnKIdeal.τ).loc Cert.FfnKIdeal.main_v3_1)) (v2 : (c : Dev Cert.FfnKIdeal.nD) → Buf (Elt Ideal) ((c.tc : Thread Cert.FfnKIdeal.nD Cert.FfnKIdeal.τ).loc Cert.FfnKIdeal.main_v3_2)) (v3 : (c : Dev Cert.FfnKIdeal.nD) → Buf (Elt Ideal) ((c.tc : Thread Cert.FfnKIdeal.nD Cert.FfnKIdeal.τ).loc Cert.FfnKIdeal.main_v3_3)) (v4 : (c : Dev Cert.FfnKIdeal.nD) → Buf (Elt Ideal) ((c.tc : Thread Cert.FfnKIdeal.nD Cert.FfnKIdeal.τ).loc Cert.FfnKIdeal.main_v3_4)) (v5 : (c : Dev Cert.FfnKIdeal.nD) → Buf (Elt Ideal) ((c.tc : Thread Cert.FfnKIdeal.nD Cert.FfnKIdeal.τ).loc Cert.FfnKIdeal.main_v3_5)) (v6 : (c : Dev Cert.FfnKIdeal.nD) → Buf (Elt Ideal) ((c.tc : Thread Cert.FfnKIdeal.nD Cert.FfnKIdeal.τ).loc Cert.FfnKIdeal.main_v3_6)) (v7 : (c : Dev Cert.FfnKIdeal.nD) → Buf (Elt Ideal) ((c.tc : Thread Cert.FfnKIdeal.nD Cert.FfnKIdeal.τ).loc Cert.FfnKIdeal.main_v3_7)) (v8 : (c : Dev Cert.FfnKIdeal.nD) → Buf (Elt Ideal) ((c.tc : Thread Cert.FfnKIdeal.nD Cert.FfnKIdeal.τ).loc Cert.FfnKIdeal.main_v3_8)) (v9 : (c : Dev Cert.FfnKIdeal.nD) → Buf (Elt Ideal) ((c.tc : Thread Cert.FfnKIdeal.nD Cert.FfnKIdeal.τ).loc Cert.FfnKIdeal.main_v3_9)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v3_0) = v0 c
          ∧ r.2.mem ((c.tc : Thread Cert.FfnKIdeal.nD Cert.FfnKIdeal.τ).loc Cert.FfnKIdeal.main_v3_1) = v1 c
          ∧ r.2.mem ((c.tc : Thread Cert.FfnKIdeal.nD Cert.FfnKIdeal.τ).loc Cert.FfnKIdeal.main_v3_2) = v2 c
          ∧ r.2.mem ((c.tc : Thread Cert.FfnKIdeal.nD Cert.FfnKIdeal.τ).loc Cert.FfnKIdeal.main_v3_3) = v3 c
          ∧ r.2.mem ((c.tc : Thread Cert.FfnKIdeal.nD Cert.FfnKIdeal.τ).loc Cert.FfnKIdeal.main_v3_4) = v4 c
          ∧ r.2.mem ((c.tc : Thread Cert.FfnKIdeal.nD Cert.FfnKIdeal.τ).loc Cert.FfnKIdeal.main_v3_5) = v5 c
          ∧ r.2.mem ((c.tc : Thread Cert.FfnKIdeal.nD Cert.FfnKIdeal.τ).loc Cert.FfnKIdeal.main_v3_6) = v6 c
          ∧ r.2.mem ((c.tc : Thread Cert.FfnKIdeal.nD Cert.FfnKIdeal.τ).loc Cert.FfnKIdeal.main_v3_7) = v7 c
          ∧ r.2.mem ((c.tc : Thread Cert.FfnKIdeal.nD Cert.FfnKIdeal.τ).loc Cert.FfnKIdeal.main_v3_8) = v8 c
          ∧ r.2.mem ((c.tc : Thread Cert.FfnKIdeal.nD Cert.FfnKIdeal.τ).loc Cert.FfnKIdeal.main_v3_9) = v9 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v78) = v0 c
          ∧ r.2.mem ((c.tc : Thread Cert.FfnRIdeal.nD Cert.FfnRIdeal.τ).loc Cert.FfnRIdeal.main_v79) = v1 c
          ∧ r.2.mem ((c.tc : Thread Cert.FfnRIdeal.nD Cert.FfnRIdeal.τ).loc Cert.FfnRIdeal.main_v81) = v2 c
          ∧ r.2.mem ((c.tc : Thread Cert.FfnRIdeal.nD Cert.FfnRIdeal.τ).loc Cert.FfnRIdeal.main_v82) = v3 c
          ∧ r.2.mem ((c.tc : Thread Cert.FfnRIdeal.nD Cert.FfnRIdeal.τ).loc Cert.FfnRIdeal.main_v84) = v4 c
          ∧ r.2.mem ((c.tc : Thread Cert.FfnRIdeal.nD Cert.FfnRIdeal.τ).loc Cert.FfnRIdeal.main_v85) = v5 c
          ∧ r.2.mem ((c.tc : Thread Cert.FfnRIdeal.nD Cert.FfnRIdeal.τ).loc Cert.FfnRIdeal.main_v87) = v6 c
          ∧ r.2.mem ((c.tc : Thread Cert.FfnRIdeal.nD Cert.FfnRIdeal.τ).loc Cert.FfnRIdeal.main_v88) = v7 c
          ∧ r.2.mem ((c.tc : Thread Cert.FfnRIdeal.nD Cert.FfnRIdeal.τ).loc Cert.FfnRIdeal.main_v89) = v8 c
          ∧ r.2.mem ((c.tc : Thread Cert.FfnRIdeal.nD Cert.FfnRIdeal.τ).loc Cert.FfnRIdeal.main_v90) = v9 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3))

def preserves_GdnPrepK_GdnPrepKIdeal : Prop :=
  True

def algebraic_GdnPrepKIdeal_GdnPrepRIdeal [hGdnPrepKIdeal : Cert.GdnPrepKIdeal.Facts] [hGdnPrepRIdeal : Cert.GdnPrepRIdeal.Facts] : Prop :=
  ∀ (m : (ℓ : Loc Cert.GdnPrepKIdeal.nD Cert.GdnPrepKIdeal.τ Cert.GdnPrepKIdeal.sig) → Buf (Elt Ideal) ℓ) (g : Dev Cert.GdnPrepKIdeal.nD → PrngReg)
    (m' : (ℓ : Loc Cert.GdnPrepRIdeal.nD Cert.GdnPrepRIdeal.τ Cert.GdnPrepRIdeal.sig) → Buf (Elt Ideal) ℓ) (g' : Dev Cert.GdnPrepRIdeal.nD → PrngReg), Pre_GdnPrepKIdeal m →
    (∀ c : Dev Cert.GdnPrepKIdeal.nD,
      m' ((c.tc : Thread Cert.GdnPrepRIdeal.nD Cert.GdnPrepRIdeal.τ).loc Cert.GdnPrepRIdeal.main_arg0) = m ((c.tc : Thread Cert.GdnPrepKIdeal.nD Cert.GdnPrepKIdeal.τ).loc Cert.GdnPrepKIdeal.main_arg0)
      ∧ m' ((c.tc : Thread Cert.GdnPrepRIdeal.nD Cert.GdnPrepRIdeal.τ).loc Cert.GdnPrepRIdeal.main_arg1) = m ((c.tc : Thread Cert.GdnPrepKIdeal.nD Cert.GdnPrepKIdeal.τ).loc Cert.GdnPrepKIdeal.main_arg1)
      ∧ m' ((c.tc : Thread Cert.GdnPrepRIdeal.nD Cert.GdnPrepRIdeal.τ).loc Cert.GdnPrepRIdeal.main_arg2) = m ((c.tc : Thread Cert.GdnPrepKIdeal.nD Cert.GdnPrepKIdeal.τ).loc Cert.GdnPrepKIdeal.main_arg2)) →
    ∃ (v0 : (c : Dev Cert.GdnPrepKIdeal.nD) → Buf (Elt Ideal) ((c.tc : Thread Cert.GdnPrepKIdeal.nD Cert.GdnPrepKIdeal.τ).loc Cert.GdnPrepKIdeal.main_v3_0)) (v1 : (c : Dev Cert.GdnPrepKIdeal.nD) → Buf (Elt Ideal) ((c.tc : Thread Cert.GdnPrepKIdeal.nD Cert.GdnPrepKIdeal.τ).loc Cert.GdnPrepKIdeal.main_v3_1)) (v2 : (c : Dev Cert.GdnPrepKIdeal.nD) → Buf (Elt Ideal) ((c.tc : Thread Cert.GdnPrepKIdeal.nD Cert.GdnPrepKIdeal.τ).loc Cert.GdnPrepKIdeal.main_v3_2)) (v3 : (c : Dev Cert.GdnPrepKIdeal.nD) → Buf (Elt Ideal) ((c.tc : Thread Cert.GdnPrepKIdeal.nD Cert.GdnPrepKIdeal.τ).loc Cert.GdnPrepKIdeal.main_v3_3)),
      θ_run (Cert.GdnPrepKIdeal.defs (F := Ideal)) (onTc (τ := Cert.GdnPrepKIdeal.τ) (Cert.GdnPrepKIdeal.main (F := Ideal))) ⟨m, fun _ => 0, g⟩ (fun r => ∀ c : Dev Cert.GdnPrepKIdeal.nD,
          r.2.mem ((c.tc : Thread Cert.GdnPrepKIdeal.nD Cert.GdnPrepKIdeal.τ).loc Cert.GdnPrepKIdeal.main_v3_0) = v0 c
          ∧ r.2.mem ((c.tc : Thread Cert.GdnPrepKIdeal.nD Cert.GdnPrepKIdeal.τ).loc Cert.GdnPrepKIdeal.main_v3_1) = v1 c
          ∧ r.2.mem ((c.tc : Thread Cert.GdnPrepKIdeal.nD Cert.GdnPrepKIdeal.τ).loc Cert.GdnPrepKIdeal.main_v3_2) = v2 c
          ∧ r.2.mem ((c.tc : Thread Cert.GdnPrepKIdeal.nD Cert.GdnPrepKIdeal.τ).loc Cert.GdnPrepKIdeal.main_v3_3) = v3 c
          ∧ r.2.mem ((c.tc : Thread Cert.GdnPrepKIdeal.nD Cert.GdnPrepKIdeal.τ).loc Cert.GdnPrepKIdeal.main_arg0) = m ((c.tc : Thread Cert.GdnPrepKIdeal.nD Cert.GdnPrepKIdeal.τ).loc Cert.GdnPrepKIdeal.main_arg0)
          ∧ r.2.mem ((c.tc : Thread Cert.GdnPrepKIdeal.nD Cert.GdnPrepKIdeal.τ).loc Cert.GdnPrepKIdeal.main_arg1) = m ((c.tc : Thread Cert.GdnPrepKIdeal.nD Cert.GdnPrepKIdeal.τ).loc Cert.GdnPrepKIdeal.main_arg1)
          ∧ r.2.mem ((c.tc : Thread Cert.GdnPrepKIdeal.nD Cert.GdnPrepKIdeal.τ).loc Cert.GdnPrepKIdeal.main_arg2) = m ((c.tc : Thread Cert.GdnPrepKIdeal.nD Cert.GdnPrepKIdeal.τ).loc Cert.GdnPrepKIdeal.main_arg2))
      ∧ θ_run (Cert.GdnPrepRIdeal.defs (F := Ideal)) (onTc (τ := Cert.GdnPrepRIdeal.τ) (Cert.GdnPrepRIdeal.main (F := Ideal))) ⟨m', fun _ => 0, g'⟩ (fun r => ∀ c : Dev Cert.GdnPrepRIdeal.nD,
          r.2.mem ((c.tc : Thread Cert.GdnPrepRIdeal.nD Cert.GdnPrepRIdeal.τ).loc Cert.GdnPrepRIdeal.main_v284) = v0 c
          ∧ r.2.mem ((c.tc : Thread Cert.GdnPrepRIdeal.nD Cert.GdnPrepRIdeal.τ).loc Cert.GdnPrepRIdeal.main_v285) = v1 c
          ∧ r.2.mem ((c.tc : Thread Cert.GdnPrepRIdeal.nD Cert.GdnPrepRIdeal.τ).loc Cert.GdnPrepRIdeal.main_v286) = v2 c
          ∧ r.2.mem ((c.tc : Thread Cert.GdnPrepRIdeal.nD Cert.GdnPrepRIdeal.τ).loc Cert.GdnPrepRIdeal.main_v287) = v3 c
          ∧ r.2.mem ((c.tc : Thread Cert.GdnPrepRIdeal.nD Cert.GdnPrepRIdeal.τ).loc Cert.GdnPrepRIdeal.main_arg0) = m' ((c.tc : Thread Cert.GdnPrepRIdeal.nD Cert.GdnPrepRIdeal.τ).loc Cert.GdnPrepRIdeal.main_arg0)
          ∧ r.2.mem ((c.tc : Thread Cert.GdnPrepRIdeal.nD Cert.GdnPrepRIdeal.τ).loc Cert.GdnPrepRIdeal.main_arg1) = m' ((c.tc : Thread Cert.GdnPrepRIdeal.nD Cert.GdnPrepRIdeal.τ).loc Cert.GdnPrepRIdeal.main_arg1)
          ∧ r.2.mem ((c.tc : Thread Cert.GdnPrepRIdeal.nD Cert.GdnPrepRIdeal.τ).loc Cert.GdnPrepRIdeal.main_arg2) = m' ((c.tc : Thread Cert.GdnPrepRIdeal.nD Cert.GdnPrepRIdeal.τ).loc Cert.GdnPrepRIdeal.main_arg2))

def preserves_AttnFK_AttnFKIdeal : Prop :=
  True

def algebraic_AttnFKIdeal_AttnFRIdeal_pre_finite_attnf [hAttnFKIdeal : Cert.AttnFKIdeal.Facts] [hAttnFRIdeal : Cert.AttnFRIdeal.Facts] [hPre_finite_attnf : Cert.Pre_finite_attnf.Facts] : Prop :=
  ∀ (m : (ℓ : Loc Cert.AttnFKIdeal.nD Cert.AttnFKIdeal.τ Cert.AttnFKIdeal.sig) → Buf (Elt Ideal) ℓ) (g : Dev Cert.AttnFKIdeal.nD → PrngReg)
    (m' : (ℓ : Loc Cert.AttnFRIdeal.nD Cert.AttnFRIdeal.τ Cert.AttnFRIdeal.sig) → Buf (Elt Ideal) ℓ) (g' : Dev Cert.AttnFRIdeal.nD → PrngReg), Pre_AttnFKIdeal_finite_attnf m →
    (∀ c : Dev Cert.AttnFKIdeal.nD,
      m' ((c.tc : Thread Cert.AttnFRIdeal.nD Cert.AttnFRIdeal.τ).loc Cert.AttnFRIdeal.main_arg0) = m ((c.tc : Thread Cert.AttnFKIdeal.nD Cert.AttnFKIdeal.τ).loc Cert.AttnFKIdeal.main_arg0)
      ∧ m' ((c.tc : Thread Cert.AttnFRIdeal.nD Cert.AttnFRIdeal.τ).loc Cert.AttnFRIdeal.main_arg1) = m ((c.tc : Thread Cert.AttnFKIdeal.nD Cert.AttnFKIdeal.τ).loc Cert.AttnFKIdeal.main_arg1)
      ∧ m' ((c.tc : Thread Cert.AttnFRIdeal.nD Cert.AttnFRIdeal.τ).loc Cert.AttnFRIdeal.main_arg2) = m ((c.tc : Thread Cert.AttnFKIdeal.nD Cert.AttnFKIdeal.τ).loc Cert.AttnFKIdeal.main_arg2)) →
    ∃ (v0 : (c : Dev Cert.AttnFKIdeal.nD) → Buf (Elt Ideal) ((c.tc : Thread Cert.AttnFKIdeal.nD Cert.AttnFKIdeal.τ).loc Cert.AttnFKIdeal.main_v0)),
      θ_run (Cert.AttnFKIdeal.defs (F := Ideal)) (onTc (τ := Cert.AttnFKIdeal.τ) (Cert.AttnFKIdeal.main (F := Ideal))) ⟨m, fun _ => 0, g⟩ (fun r => ∀ c : Dev Cert.AttnFKIdeal.nD,
          r.2.mem ((c.tc : Thread Cert.AttnFKIdeal.nD Cert.AttnFKIdeal.τ).loc Cert.AttnFKIdeal.main_v0) = v0 c
          ∧ r.2.mem ((c.tc : Thread Cert.AttnFKIdeal.nD Cert.AttnFKIdeal.τ).loc Cert.AttnFKIdeal.main_arg0) = m ((c.tc : Thread Cert.AttnFKIdeal.nD Cert.AttnFKIdeal.τ).loc Cert.AttnFKIdeal.main_arg0)
          ∧ r.2.mem ((c.tc : Thread Cert.AttnFKIdeal.nD Cert.AttnFKIdeal.τ).loc Cert.AttnFKIdeal.main_arg1) = m ((c.tc : Thread Cert.AttnFKIdeal.nD Cert.AttnFKIdeal.τ).loc Cert.AttnFKIdeal.main_arg1)
          ∧ r.2.mem ((c.tc : Thread Cert.AttnFKIdeal.nD Cert.AttnFKIdeal.τ).loc Cert.AttnFKIdeal.main_arg2) = m ((c.tc : Thread Cert.AttnFKIdeal.nD Cert.AttnFKIdeal.τ).loc Cert.AttnFKIdeal.main_arg2))
      ∧ θ_run (Cert.AttnFRIdeal.defs (F := Ideal)) (onTc (τ := Cert.AttnFRIdeal.τ) (Cert.AttnFRIdeal.main (F := Ideal))) ⟨m', fun _ => 0, g'⟩ (fun r => ∀ c : Dev Cert.AttnFRIdeal.nD,
          r.2.mem ((c.tc : Thread Cert.AttnFRIdeal.nD Cert.AttnFRIdeal.τ).loc Cert.AttnFRIdeal.main_v20) = v0 c
          ∧ r.2.mem ((c.tc : Thread Cert.AttnFRIdeal.nD Cert.AttnFRIdeal.τ).loc Cert.AttnFRIdeal.main_arg0) = m' ((c.tc : Thread Cert.AttnFRIdeal.nD Cert.AttnFRIdeal.τ).loc Cert.AttnFRIdeal.main_arg0)
          ∧ r.2.mem ((c.tc : Thread Cert.AttnFRIdeal.nD Cert.AttnFRIdeal.τ).loc Cert.AttnFRIdeal.main_arg1) = m' ((c.tc : Thread Cert.AttnFRIdeal.nD Cert.AttnFRIdeal.τ).loc Cert.AttnFRIdeal.main_arg1)
          ∧ r.2.mem ((c.tc : Thread Cert.AttnFRIdeal.nD Cert.AttnFRIdeal.τ).loc Cert.AttnFRIdeal.main_arg2) = m' ((c.tc : Thread Cert.AttnFRIdeal.nD Cert.AttnFRIdeal.τ).loc Cert.AttnFRIdeal.main_arg2))

def preserves_MergeFK_MergeFKIdeal : Prop :=
  True

def algebraic_MergeFKIdeal_MergeFRIdeal [hMergeFKIdeal : Cert.MergeFKIdeal.Facts] [hMergeFRIdeal : Cert.MergeFRIdeal.Facts] : Prop :=
  ∀ (m : (ℓ : Loc Cert.MergeFKIdeal.nD Cert.MergeFKIdeal.τ Cert.MergeFKIdeal.sig) → Buf (Elt Ideal) ℓ) (g : Dev Cert.MergeFKIdeal.nD → PrngReg)
    (m' : (ℓ : Loc Cert.MergeFRIdeal.nD Cert.MergeFRIdeal.τ Cert.MergeFRIdeal.sig) → Buf (Elt Ideal) ℓ) (g' : Dev Cert.MergeFRIdeal.nD → PrngReg), Pre_MergeFKIdeal m →
    (∀ c : Dev Cert.MergeFKIdeal.nD,
      m' ((c.tc : Thread Cert.MergeFRIdeal.nD Cert.MergeFRIdeal.τ).loc Cert.MergeFRIdeal.main_arg0) = m ((c.tc : Thread Cert.MergeFKIdeal.nD Cert.MergeFKIdeal.τ).loc Cert.MergeFKIdeal.main_arg0)
      ∧ m' ((c.tc : Thread Cert.MergeFRIdeal.nD Cert.MergeFRIdeal.τ).loc Cert.MergeFRIdeal.main_arg1) = m ((c.tc : Thread Cert.MergeFKIdeal.nD Cert.MergeFKIdeal.τ).loc Cert.MergeFKIdeal.main_arg1)
      ∧ m' ((c.tc : Thread Cert.MergeFRIdeal.nD Cert.MergeFRIdeal.τ).loc Cert.MergeFRIdeal.main_arg2) = m ((c.tc : Thread Cert.MergeFKIdeal.nD Cert.MergeFKIdeal.τ).loc Cert.MergeFKIdeal.main_arg2)) →
    ∃ (v0 : (c : Dev Cert.MergeFKIdeal.nD) → Buf (Elt Ideal) ((c.tc : Thread Cert.MergeFKIdeal.nD Cert.MergeFKIdeal.τ).loc Cert.MergeFKIdeal.main_v0)),
      θ_run (Cert.MergeFKIdeal.defs (F := Ideal)) (onTc (τ := Cert.MergeFKIdeal.τ) (Cert.MergeFKIdeal.main (F := Ideal))) ⟨m, fun _ => 0, g⟩ (fun r => ∀ c : Dev Cert.MergeFKIdeal.nD,
          r.2.mem ((c.tc : Thread Cert.MergeFKIdeal.nD Cert.MergeFKIdeal.τ).loc Cert.MergeFKIdeal.main_v0) = v0 c
          ∧ r.2.mem ((c.tc : Thread Cert.MergeFKIdeal.nD Cert.MergeFKIdeal.τ).loc Cert.MergeFKIdeal.main_arg0) = m ((c.tc : Thread Cert.MergeFKIdeal.nD Cert.MergeFKIdeal.τ).loc Cert.MergeFKIdeal.main_arg0)
          ∧ r.2.mem ((c.tc : Thread Cert.MergeFKIdeal.nD Cert.MergeFKIdeal.τ).loc Cert.MergeFKIdeal.main_arg1) = m ((c.tc : Thread Cert.MergeFKIdeal.nD Cert.MergeFKIdeal.τ).loc Cert.MergeFKIdeal.main_arg1)
          ∧ r.2.mem ((c.tc : Thread Cert.MergeFKIdeal.nD Cert.MergeFKIdeal.τ).loc Cert.MergeFKIdeal.main_arg2) = m ((c.tc : Thread Cert.MergeFKIdeal.nD Cert.MergeFKIdeal.τ).loc Cert.MergeFKIdeal.main_arg2))
      ∧ θ_run (Cert.MergeFRIdeal.defs (F := Ideal)) (onTc (τ := Cert.MergeFRIdeal.τ) (Cert.MergeFRIdeal.main (F := Ideal))) ⟨m', fun _ => 0, g'⟩ (fun r => ∀ c : Dev Cert.MergeFRIdeal.nD,
          r.2.mem ((c.tc : Thread Cert.MergeFRIdeal.nD Cert.MergeFRIdeal.τ).loc Cert.MergeFRIdeal.main_v16) = v0 c
          ∧ r.2.mem ((c.tc : Thread Cert.MergeFRIdeal.nD Cert.MergeFRIdeal.τ).loc Cert.MergeFRIdeal.main_arg0) = m' ((c.tc : Thread Cert.MergeFRIdeal.nD Cert.MergeFRIdeal.τ).loc Cert.MergeFRIdeal.main_arg0)
          ∧ r.2.mem ((c.tc : Thread Cert.MergeFRIdeal.nD Cert.MergeFRIdeal.τ).loc Cert.MergeFRIdeal.main_arg1) = m' ((c.tc : Thread Cert.MergeFRIdeal.nD Cert.MergeFRIdeal.τ).loc Cert.MergeFRIdeal.main_arg1)
          ∧ r.2.mem ((c.tc : Thread Cert.MergeFRIdeal.nD Cert.MergeFRIdeal.τ).loc Cert.MergeFRIdeal.main_arg2) = m' ((c.tc : Thread Cert.MergeFRIdeal.nD Cert.MergeFRIdeal.τ).loc Cert.MergeFRIdeal.main_arg2))

def preserves_NormFK_NormFKIdeal : Prop :=
  True

def algebraic_NormFKIdeal_NormFRIdeal [hNormFKIdeal : Cert.NormFKIdeal.Facts] [hNormFRIdeal : Cert.NormFRIdeal.Facts] : Prop :=
  ∀ (m : (ℓ : Loc Cert.NormFKIdeal.nD Cert.NormFKIdeal.τ Cert.NormFKIdeal.sig) → Buf (Elt Ideal) ℓ) (g : Dev Cert.NormFKIdeal.nD → PrngReg)
    (m' : (ℓ : Loc Cert.NormFRIdeal.nD Cert.NormFRIdeal.τ Cert.NormFRIdeal.sig) → Buf (Elt Ideal) ℓ) (g' : Dev Cert.NormFRIdeal.nD → PrngReg), Pre_NormFKIdeal m →
    (∀ c : Dev Cert.NormFKIdeal.nD,
      m' ((c.tc : Thread Cert.NormFRIdeal.nD Cert.NormFRIdeal.τ).loc Cert.NormFRIdeal.main_arg0) = m ((c.tc : Thread Cert.NormFKIdeal.nD Cert.NormFKIdeal.τ).loc Cert.NormFKIdeal.main_arg0)
      ∧ m' ((c.tc : Thread Cert.NormFRIdeal.nD Cert.NormFRIdeal.τ).loc Cert.NormFRIdeal.main_arg1) = m ((c.tc : Thread Cert.NormFKIdeal.nD Cert.NormFKIdeal.τ).loc Cert.NormFKIdeal.main_arg1)
      ∧ m' ((c.tc : Thread Cert.NormFRIdeal.nD Cert.NormFRIdeal.τ).loc Cert.NormFRIdeal.main_arg2) = m ((c.tc : Thread Cert.NormFKIdeal.nD Cert.NormFKIdeal.τ).loc Cert.NormFKIdeal.main_arg2)) →
    ∃ (v0 : (c : Dev Cert.NormFKIdeal.nD) → Buf (Elt Ideal) ((c.tc : Thread Cert.NormFKIdeal.nD Cert.NormFKIdeal.τ).loc Cert.NormFKIdeal.main_v0)),
      θ_run (Cert.NormFKIdeal.defs (F := Ideal)) (onTc (τ := Cert.NormFKIdeal.τ) (Cert.NormFKIdeal.main (F := Ideal))) ⟨m, fun _ => 0, g⟩ (fun r => ∀ c : Dev Cert.NormFKIdeal.nD,
          r.2.mem ((c.tc : Thread Cert.NormFKIdeal.nD Cert.NormFKIdeal.τ).loc Cert.NormFKIdeal.main_v0) = v0 c
          ∧ r.2.mem ((c.tc : Thread Cert.NormFKIdeal.nD Cert.NormFKIdeal.τ).loc Cert.NormFKIdeal.main_arg0) = m ((c.tc : Thread Cert.NormFKIdeal.nD Cert.NormFKIdeal.τ).loc Cert.NormFKIdeal.main_arg0)
          ∧ r.2.mem ((c.tc : Thread Cert.NormFKIdeal.nD Cert.NormFKIdeal.τ).loc Cert.NormFKIdeal.main_arg1) = m ((c.tc : Thread Cert.NormFKIdeal.nD Cert.NormFKIdeal.τ).loc Cert.NormFKIdeal.main_arg1)
          ∧ r.2.mem ((c.tc : Thread Cert.NormFKIdeal.nD Cert.NormFKIdeal.τ).loc Cert.NormFKIdeal.main_arg2) = m ((c.tc : Thread Cert.NormFKIdeal.nD Cert.NormFKIdeal.τ).loc Cert.NormFKIdeal.main_arg2))
      ∧ θ_run (Cert.NormFRIdeal.defs (F := Ideal)) (onTc (τ := Cert.NormFRIdeal.τ) (Cert.NormFRIdeal.main (F := Ideal))) ⟨m', fun _ => 0, g'⟩ (fun r => ∀ c : Dev Cert.NormFRIdeal.nD,
          r.2.mem ((c.tc : Thread Cert.NormFRIdeal.nD Cert.NormFRIdeal.τ).loc Cert.NormFRIdeal.main_v15) = v0 c
          ∧ r.2.mem ((c.tc : Thread Cert.NormFRIdeal.nD Cert.NormFRIdeal.τ).loc Cert.NormFRIdeal.main_arg0) = m' ((c.tc : Thread Cert.NormFRIdeal.nD Cert.NormFRIdeal.τ).loc Cert.NormFRIdeal.main_arg0)
          ∧ r.2.mem ((c.tc : Thread Cert.NormFRIdeal.nD Cert.NormFRIdeal.τ).loc Cert.NormFRIdeal.main_arg1) = m' ((c.tc : Thread Cert.NormFRIdeal.nD Cert.NormFRIdeal.τ).loc Cert.NormFRIdeal.main_arg1)
          ∧ r.2.mem ((c.tc : Thread Cert.NormFRIdeal.nD Cert.NormFRIdeal.τ).loc Cert.NormFRIdeal.main_arg2) = m' ((c.tc : Thread Cert.NormFRIdeal.nD Cert.NormFRIdeal.τ).loc Cert.NormFRIdeal.main_arg2))

def preserves_NormCFK_NormCFKIdeal : Prop :=
  True

def algebraic_NormCFKIdeal_NormCFRIdeal [hNormCFKIdeal : Cert.NormCFKIdeal.Facts] [hNormCFRIdeal : Cert.NormCFRIdeal.Facts] : Prop :=
  ∀ (m : (ℓ : Loc Cert.NormCFKIdeal.nD Cert.NormCFKIdeal.τ Cert.NormCFKIdeal.sig) → Buf (Elt Ideal) ℓ) (g : Dev Cert.NormCFKIdeal.nD → PrngReg)
    (m' : (ℓ : Loc Cert.NormCFRIdeal.nD Cert.NormCFRIdeal.τ Cert.NormCFRIdeal.sig) → Buf (Elt Ideal) ℓ) (g' : Dev Cert.NormCFRIdeal.nD → PrngReg), Pre_NormCFKIdeal m →
    (∀ c : Dev Cert.NormCFKIdeal.nD,
      m' ((c.tc : Thread Cert.NormCFRIdeal.nD Cert.NormCFRIdeal.τ).loc Cert.NormCFRIdeal.main_arg0) = m ((c.tc : Thread Cert.NormCFKIdeal.nD Cert.NormCFKIdeal.τ).loc Cert.NormCFKIdeal.main_arg0)
      ∧ m' ((c.tc : Thread Cert.NormCFRIdeal.nD Cert.NormCFRIdeal.τ).loc Cert.NormCFRIdeal.main_arg1) = m ((c.tc : Thread Cert.NormCFKIdeal.nD Cert.NormCFKIdeal.τ).loc Cert.NormCFKIdeal.main_arg1)
      ∧ m' ((c.tc : Thread Cert.NormCFRIdeal.nD Cert.NormCFRIdeal.τ).loc Cert.NormCFRIdeal.main_arg2) = m ((c.tc : Thread Cert.NormCFKIdeal.nD Cert.NormCFKIdeal.τ).loc Cert.NormCFKIdeal.main_arg2)) →
    ∃ (v0 : (c : Dev Cert.NormCFKIdeal.nD) → Buf (Elt Ideal) ((c.tc : Thread Cert.NormCFKIdeal.nD Cert.NormCFKIdeal.τ).loc Cert.NormCFKIdeal.main_v0)),
      θ_run (Cert.NormCFKIdeal.defs (F := Ideal)) (onTc (τ := Cert.NormCFKIdeal.τ) (Cert.NormCFKIdeal.main (F := Ideal))) ⟨m, fun _ => 0, g⟩ (fun r => ∀ c : Dev Cert.NormCFKIdeal.nD,
          r.2.mem ((c.tc : Thread Cert.NormCFKIdeal.nD Cert.NormCFKIdeal.τ).loc Cert.NormCFKIdeal.main_v0) = v0 c
          ∧ r.2.mem ((c.tc : Thread Cert.NormCFKIdeal.nD Cert.NormCFKIdeal.τ).loc Cert.NormCFKIdeal.main_arg0) = m ((c.tc : Thread Cert.NormCFKIdeal.nD Cert.NormCFKIdeal.τ).loc Cert.NormCFKIdeal.main_arg0)
          ∧ r.2.mem ((c.tc : Thread Cert.NormCFKIdeal.nD Cert.NormCFKIdeal.τ).loc Cert.NormCFKIdeal.main_arg1) = m ((c.tc : Thread Cert.NormCFKIdeal.nD Cert.NormCFKIdeal.τ).loc Cert.NormCFKIdeal.main_arg1)
          ∧ r.2.mem ((c.tc : Thread Cert.NormCFKIdeal.nD Cert.NormCFKIdeal.τ).loc Cert.NormCFKIdeal.main_arg2) = m ((c.tc : Thread Cert.NormCFKIdeal.nD Cert.NormCFKIdeal.τ).loc Cert.NormCFKIdeal.main_arg2))
      ∧ θ_run (Cert.NormCFRIdeal.defs (F := Ideal)) (onTc (τ := Cert.NormCFRIdeal.τ) (Cert.NormCFRIdeal.main (F := Ideal))) ⟨m', fun _ => 0, g'⟩ (fun r => ∀ c : Dev Cert.NormCFRIdeal.nD,
          r.2.mem ((c.tc : Thread Cert.NormCFRIdeal.nD Cert.NormCFRIdeal.τ).loc Cert.NormCFRIdeal.main_v15) = v0 c
          ∧ r.2.mem ((c.tc : Thread Cert.NormCFRIdeal.nD Cert.NormCFRIdeal.τ).loc Cert.NormCFRIdeal.main_arg0) = m' ((c.tc : Thread Cert.NormCFRIdeal.nD Cert.NormCFRIdeal.τ).loc Cert.NormCFRIdeal.main_arg0)
          ∧ r.2.mem ((c.tc : Thread Cert.NormCFRIdeal.nD Cert.NormCFRIdeal.τ).loc Cert.NormCFRIdeal.main_arg1) = m' ((c.tc : Thread Cert.NormCFRIdeal.nD Cert.NormCFRIdeal.τ).loc Cert.NormCFRIdeal.main_arg1)
          ∧ r.2.mem ((c.tc : Thread Cert.NormCFRIdeal.nD Cert.NormCFRIdeal.τ).loc Cert.NormCFRIdeal.main_arg2) = m' ((c.tc : Thread Cert.NormCFRIdeal.nD Cert.NormCFRIdeal.τ).loc Cert.NormCFRIdeal.main_arg2))

def preserves_ResFK_ResFKIdeal : Prop :=
  True

def algebraic_ResFKIdeal_ResFRIdeal [hResFKIdeal : Cert.ResFKIdeal.Facts] [hResFRIdeal : Cert.ResFRIdeal.Facts] : Prop :=
  ∀ (m : (ℓ : Loc Cert.ResFKIdeal.nD Cert.ResFKIdeal.τ Cert.ResFKIdeal.sig) → Buf (Elt Ideal) ℓ) (g : Dev Cert.ResFKIdeal.nD → PrngReg)
    (m' : (ℓ : Loc Cert.ResFRIdeal.nD Cert.ResFRIdeal.τ Cert.ResFRIdeal.sig) → Buf (Elt Ideal) ℓ) (g' : Dev Cert.ResFRIdeal.nD → PrngReg), Pre_ResFKIdeal m →
    (∀ c : Dev Cert.ResFKIdeal.nD,
      m' ((c.tc : Thread Cert.ResFRIdeal.nD Cert.ResFRIdeal.τ).loc Cert.ResFRIdeal.main_arg0) = m ((c.tc : Thread Cert.ResFKIdeal.nD Cert.ResFKIdeal.τ).loc Cert.ResFKIdeal.main_arg0)
      ∧ m' ((c.tc : Thread Cert.ResFRIdeal.nD Cert.ResFRIdeal.τ).loc Cert.ResFRIdeal.main_arg1) = m ((c.tc : Thread Cert.ResFKIdeal.nD Cert.ResFKIdeal.τ).loc Cert.ResFKIdeal.main_arg1)
      ∧ m' ((c.tc : Thread Cert.ResFRIdeal.nD Cert.ResFRIdeal.τ).loc Cert.ResFRIdeal.main_arg2) = m ((c.tc : Thread Cert.ResFKIdeal.nD Cert.ResFKIdeal.τ).loc Cert.ResFKIdeal.main_arg2)
      ∧ m' ((c.tc : Thread Cert.ResFRIdeal.nD Cert.ResFRIdeal.τ).loc Cert.ResFRIdeal.main_arg3) = m ((c.tc : Thread Cert.ResFKIdeal.nD Cert.ResFKIdeal.τ).loc Cert.ResFKIdeal.main_arg3)
      ∧ m' ((c.tc : Thread Cert.ResFRIdeal.nD Cert.ResFRIdeal.τ).loc Cert.ResFRIdeal.main_arg4) = m ((c.tc : Thread Cert.ResFKIdeal.nD Cert.ResFKIdeal.τ).loc Cert.ResFKIdeal.main_arg4)) →
    ∃ (v0 : (c : Dev Cert.ResFKIdeal.nD) → Buf (Elt Ideal) ((c.tc : Thread Cert.ResFKIdeal.nD Cert.ResFKIdeal.τ).loc Cert.ResFKIdeal.main_v0_0)) (v1 : (c : Dev Cert.ResFKIdeal.nD) → Buf (Elt Ideal) ((c.tc : Thread Cert.ResFKIdeal.nD Cert.ResFKIdeal.τ).loc Cert.ResFKIdeal.main_v0_1)),
      θ_run (Cert.ResFKIdeal.defs (F := Ideal)) (onTc (τ := Cert.ResFKIdeal.τ) (Cert.ResFKIdeal.main (F := Ideal))) ⟨m, fun _ => 0, g⟩ (fun r => ∀ c : Dev Cert.ResFKIdeal.nD,
          r.2.mem ((c.tc : Thread Cert.ResFKIdeal.nD Cert.ResFKIdeal.τ).loc Cert.ResFKIdeal.main_v0_0) = v0 c
          ∧ r.2.mem ((c.tc : Thread Cert.ResFKIdeal.nD Cert.ResFKIdeal.τ).loc Cert.ResFKIdeal.main_v0_1) = v1 c
          ∧ r.2.mem ((c.tc : Thread Cert.ResFKIdeal.nD Cert.ResFKIdeal.τ).loc Cert.ResFKIdeal.main_arg0) = m ((c.tc : Thread Cert.ResFKIdeal.nD Cert.ResFKIdeal.τ).loc Cert.ResFKIdeal.main_arg0)
          ∧ r.2.mem ((c.tc : Thread Cert.ResFKIdeal.nD Cert.ResFKIdeal.τ).loc Cert.ResFKIdeal.main_arg1) = m ((c.tc : Thread Cert.ResFKIdeal.nD Cert.ResFKIdeal.τ).loc Cert.ResFKIdeal.main_arg1)
          ∧ r.2.mem ((c.tc : Thread Cert.ResFKIdeal.nD Cert.ResFKIdeal.τ).loc Cert.ResFKIdeal.main_arg2) = m ((c.tc : Thread Cert.ResFKIdeal.nD Cert.ResFKIdeal.τ).loc Cert.ResFKIdeal.main_arg2)
          ∧ r.2.mem ((c.tc : Thread Cert.ResFKIdeal.nD Cert.ResFKIdeal.τ).loc Cert.ResFKIdeal.main_arg3) = m ((c.tc : Thread Cert.ResFKIdeal.nD Cert.ResFKIdeal.τ).loc Cert.ResFKIdeal.main_arg3)
          ∧ r.2.mem ((c.tc : Thread Cert.ResFKIdeal.nD Cert.ResFKIdeal.τ).loc Cert.ResFKIdeal.main_arg4) = m ((c.tc : Thread Cert.ResFKIdeal.nD Cert.ResFKIdeal.τ).loc Cert.ResFKIdeal.main_arg4))
      ∧ θ_run (Cert.ResFRIdeal.defs (F := Ideal)) (onTc (τ := Cert.ResFRIdeal.τ) (Cert.ResFRIdeal.main (F := Ideal))) ⟨m', fun _ => 0, g'⟩ (fun r => ∀ c : Dev Cert.ResFRIdeal.nD,
          r.2.mem ((c.tc : Thread Cert.ResFRIdeal.nD Cert.ResFRIdeal.τ).loc Cert.ResFRIdeal.main_v2) = v0 c
          ∧ r.2.mem ((c.tc : Thread Cert.ResFRIdeal.nD Cert.ResFRIdeal.τ).loc Cert.ResFRIdeal.main_v18) = v1 c
          ∧ r.2.mem ((c.tc : Thread Cert.ResFRIdeal.nD Cert.ResFRIdeal.τ).loc Cert.ResFRIdeal.main_arg0) = m' ((c.tc : Thread Cert.ResFRIdeal.nD Cert.ResFRIdeal.τ).loc Cert.ResFRIdeal.main_arg0)
          ∧ r.2.mem ((c.tc : Thread Cert.ResFRIdeal.nD Cert.ResFRIdeal.τ).loc Cert.ResFRIdeal.main_arg1) = m' ((c.tc : Thread Cert.ResFRIdeal.nD Cert.ResFRIdeal.τ).loc Cert.ResFRIdeal.main_arg1)
          ∧ r.2.mem ((c.tc : Thread Cert.ResFRIdeal.nD Cert.ResFRIdeal.τ).loc Cert.ResFRIdeal.main_arg2) = m' ((c.tc : Thread Cert.ResFRIdeal.nD Cert.ResFRIdeal.τ).loc Cert.ResFRIdeal.main_arg2)
          ∧ r.2.mem ((c.tc : Thread Cert.ResFRIdeal.nD Cert.ResFRIdeal.τ).loc Cert.ResFRIdeal.main_arg3) = m' ((c.tc : Thread Cert.ResFRIdeal.nD Cert.ResFRIdeal.τ).loc Cert.ResFRIdeal.main_arg3)
          ∧ r.2.mem ((c.tc : Thread Cert.ResFRIdeal.nD Cert.ResFRIdeal.τ).loc Cert.ResFRIdeal.main_arg4) = m' ((c.tc : Thread Cert.ResFRIdeal.nD Cert.ResFRIdeal.τ).loc Cert.ResFRIdeal.main_arg4))

def preserves_HeadFK_HeadFKIdeal : Prop :=
  True

def algebraic_HeadFKIdeal_HeadFRIdeal [hHeadFKIdeal : Cert.HeadFKIdeal.Facts] [hHeadFRIdeal : Cert.HeadFRIdeal.Facts] : Prop :=
  ∀ (m : (ℓ : Loc Cert.HeadFKIdeal.nD Cert.HeadFKIdeal.τ Cert.HeadFKIdeal.sig) → Buf (Elt Ideal) ℓ) (g : Dev Cert.HeadFKIdeal.nD → PrngReg)
    (m' : (ℓ : Loc Cert.HeadFRIdeal.nD Cert.HeadFRIdeal.τ Cert.HeadFRIdeal.sig) → Buf (Elt Ideal) ℓ) (g' : Dev Cert.HeadFRIdeal.nD → PrngReg), Pre_HeadFKIdeal m →
    (∀ c : Dev Cert.HeadFKIdeal.nD,
      m' ((c.tc : Thread Cert.HeadFRIdeal.nD Cert.HeadFRIdeal.τ).loc Cert.HeadFRIdeal.main_arg0) = m ((c.tc : Thread Cert.HeadFKIdeal.nD Cert.HeadFKIdeal.τ).loc Cert.HeadFKIdeal.main_arg0)
      ∧ m' ((c.tc : Thread Cert.HeadFRIdeal.nD Cert.HeadFRIdeal.τ).loc Cert.HeadFRIdeal.main_arg1) = m ((c.tc : Thread Cert.HeadFKIdeal.nD Cert.HeadFKIdeal.τ).loc Cert.HeadFKIdeal.main_arg1)
      ∧ m' ((c.tc : Thread Cert.HeadFRIdeal.nD Cert.HeadFRIdeal.τ).loc Cert.HeadFRIdeal.main_arg2) = m ((c.tc : Thread Cert.HeadFKIdeal.nD Cert.HeadFKIdeal.τ).loc Cert.HeadFKIdeal.main_arg2)
      ∧ m' ((c.tc : Thread Cert.HeadFRIdeal.nD Cert.HeadFRIdeal.τ).loc Cert.HeadFRIdeal.main_arg3) = m ((c.tc : Thread Cert.HeadFKIdeal.nD Cert.HeadFKIdeal.τ).loc Cert.HeadFKIdeal.main_arg3)
      ∧ m' ((c.tc : Thread Cert.HeadFRIdeal.nD Cert.HeadFRIdeal.τ).loc Cert.HeadFRIdeal.main_arg4) = m ((c.tc : Thread Cert.HeadFKIdeal.nD Cert.HeadFKIdeal.τ).loc Cert.HeadFKIdeal.main_arg4)) →
    ∃ (v0 : (c : Dev Cert.HeadFKIdeal.nD) → Buf (Elt Ideal) ((c.tc : Thread Cert.HeadFKIdeal.nD Cert.HeadFKIdeal.τ).loc Cert.HeadFKIdeal.main_v1)),
      θ_run (Cert.HeadFKIdeal.defs (F := Ideal)) (onTc (τ := Cert.HeadFKIdeal.τ) (Cert.HeadFKIdeal.main (F := Ideal))) ⟨m, fun _ => 0, g⟩ (fun r => ∀ c : Dev Cert.HeadFKIdeal.nD,
          r.2.mem ((c.tc : Thread Cert.HeadFKIdeal.nD Cert.HeadFKIdeal.τ).loc Cert.HeadFKIdeal.main_v1) = v0 c
          ∧ r.2.mem ((c.tc : Thread Cert.HeadFKIdeal.nD Cert.HeadFKIdeal.τ).loc Cert.HeadFKIdeal.main_arg0) = m ((c.tc : Thread Cert.HeadFKIdeal.nD Cert.HeadFKIdeal.τ).loc Cert.HeadFKIdeal.main_arg0)
          ∧ r.2.mem ((c.tc : Thread Cert.HeadFKIdeal.nD Cert.HeadFKIdeal.τ).loc Cert.HeadFKIdeal.main_arg1) = m ((c.tc : Thread Cert.HeadFKIdeal.nD Cert.HeadFKIdeal.τ).loc Cert.HeadFKIdeal.main_arg1)
          ∧ r.2.mem ((c.tc : Thread Cert.HeadFKIdeal.nD Cert.HeadFKIdeal.τ).loc Cert.HeadFKIdeal.main_arg2) = m ((c.tc : Thread Cert.HeadFKIdeal.nD Cert.HeadFKIdeal.τ).loc Cert.HeadFKIdeal.main_arg2)
          ∧ r.2.mem ((c.tc : Thread Cert.HeadFKIdeal.nD Cert.HeadFKIdeal.τ).loc Cert.HeadFKIdeal.main_arg3) = m ((c.tc : Thread Cert.HeadFKIdeal.nD Cert.HeadFKIdeal.τ).loc Cert.HeadFKIdeal.main_arg3)
          ∧ r.2.mem ((c.tc : Thread Cert.HeadFKIdeal.nD Cert.HeadFKIdeal.τ).loc Cert.HeadFKIdeal.main_arg4) = m ((c.tc : Thread Cert.HeadFKIdeal.nD Cert.HeadFKIdeal.τ).loc Cert.HeadFKIdeal.main_arg4))
      ∧ θ_run (Cert.HeadFRIdeal.defs (F := Ideal)) (onTc (τ := Cert.HeadFRIdeal.τ) (Cert.HeadFRIdeal.main (F := Ideal))) ⟨m', fun _ => 0, g'⟩ (fun r => ∀ c : Dev Cert.HeadFRIdeal.nD,
          r.2.mem ((c.tc : Thread Cert.HeadFRIdeal.nD Cert.HeadFRIdeal.τ).loc Cert.HeadFRIdeal.main_v24) = v0 c
          ∧ r.2.mem ((c.tc : Thread Cert.HeadFRIdeal.nD Cert.HeadFRIdeal.τ).loc Cert.HeadFRIdeal.main_arg0) = m' ((c.tc : Thread Cert.HeadFRIdeal.nD Cert.HeadFRIdeal.τ).loc Cert.HeadFRIdeal.main_arg0)
          ∧ r.2.mem ((c.tc : Thread Cert.HeadFRIdeal.nD Cert.HeadFRIdeal.τ).loc Cert.HeadFRIdeal.main_arg1) = m' ((c.tc : Thread Cert.HeadFRIdeal.nD Cert.HeadFRIdeal.τ).loc Cert.HeadFRIdeal.main_arg1)
          ∧ r.2.mem ((c.tc : Thread Cert.HeadFRIdeal.nD Cert.HeadFRIdeal.τ).loc Cert.HeadFRIdeal.main_arg2) = m' ((c.tc : Thread Cert.HeadFRIdeal.nD Cert.HeadFRIdeal.τ).loc Cert.HeadFRIdeal.main_arg2)
          ∧ r.2.mem ((c.tc : Thread Cert.HeadFRIdeal.nD Cert.HeadFRIdeal.τ).loc Cert.HeadFRIdeal.main_arg3) = m' ((c.tc : Thread Cert.HeadFRIdeal.nD Cert.HeadFRIdeal.τ).loc Cert.HeadFRIdeal.main_arg3)
          ∧ r.2.mem ((c.tc : Thread Cert.HeadFRIdeal.nD Cert.HeadFRIdeal.τ).loc Cert.HeadFRIdeal.main_arg4) = m' ((c.tc : Thread Cert.HeadFRIdeal.nD Cert.HeadFRIdeal.τ).loc Cert.HeadFRIdeal.main_arg4))

def preserves_QPrepFK_QPrepFKIdeal : Prop :=
  True

def algebraic_QPrepFKIdeal_QPrepFRIdeal [hQPrepFKIdeal : Cert.QPrepFKIdeal.Facts] [hQPrepFRIdeal : Cert.QPrepFRIdeal.Facts] : Prop :=
  ∀ (m : (ℓ : Loc Cert.QPrepFKIdeal.nD Cert.QPrepFKIdeal.τ Cert.QPrepFKIdeal.sig) → Buf (Elt Ideal) ℓ) (g : Dev Cert.QPrepFKIdeal.nD → PrngReg)
    (m' : (ℓ : Loc Cert.QPrepFRIdeal.nD Cert.QPrepFRIdeal.τ Cert.QPrepFRIdeal.sig) → Buf (Elt Ideal) ℓ) (g' : Dev Cert.QPrepFRIdeal.nD → PrngReg), Pre_QPrepFKIdeal m →
    (∀ c : Dev Cert.QPrepFKIdeal.nD,
      m' ((c.tc : Thread Cert.QPrepFRIdeal.nD Cert.QPrepFRIdeal.τ).loc Cert.QPrepFRIdeal.main_arg0) = m ((c.tc : Thread Cert.QPrepFKIdeal.nD Cert.QPrepFKIdeal.τ).loc Cert.QPrepFKIdeal.main_arg0)
      ∧ m' ((c.tc : Thread Cert.QPrepFRIdeal.nD Cert.QPrepFRIdeal.τ).loc Cert.QPrepFRIdeal.main_arg1) = m ((c.tc : Thread Cert.QPrepFKIdeal.nD Cert.QPrepFKIdeal.τ).loc Cert.QPrepFKIdeal.main_arg1)) →
    ∃ (v0 : (c : Dev Cert.QPrepFKIdeal.nD) → Buf (Elt Ideal) ((c.tc : Thread Cert.QPrepFKIdeal.nD Cert.QPrepFKIdeal.τ).loc Cert.QPrepFKIdeal.main_v60)),
      θ_run (Cert.QPrepFKIdeal.defs (F := Ideal)) (onTc (τ := Cert.QPrepFKIdeal.τ) (Cert.QPrepFKIdeal.main (F := Ideal))) ⟨m, fun _ => 0, g⟩ (fun r => ∀ c : Dev Cert.QPrepFKIdeal.nD,
          r.2.mem ((c.tc : Thread Cert.QPrepFKIdeal.nD Cert.QPrepFKIdeal.τ).loc Cert.QPrepFKIdeal.main_v60) = v0 c
          ∧ r.2.mem ((c.tc : Thread Cert.QPrepFKIdeal.nD Cert.QPrepFKIdeal.τ).loc Cert.QPrepFKIdeal.main_arg0) = m ((c.tc : Thread Cert.QPrepFKIdeal.nD Cert.QPrepFKIdeal.τ).loc Cert.QPrepFKIdeal.main_arg0)
          ∧ r.2.mem ((c.tc : Thread Cert.QPrepFKIdeal.nD Cert.QPrepFKIdeal.τ).loc Cert.QPrepFKIdeal.main_arg1) = m ((c.tc : Thread Cert.QPrepFKIdeal.nD Cert.QPrepFKIdeal.τ).loc Cert.QPrepFKIdeal.main_arg1))
      ∧ θ_run (Cert.QPrepFRIdeal.defs (F := Ideal)) (onTc (τ := Cert.QPrepFRIdeal.τ) (Cert.QPrepFRIdeal.main (F := Ideal))) ⟨m', fun _ => 0, g'⟩ (fun r => ∀ c : Dev Cert.QPrepFRIdeal.nD,
          r.2.mem ((c.tc : Thread Cert.QPrepFRIdeal.nD Cert.QPrepFRIdeal.τ).loc Cert.QPrepFRIdeal.main_v68) = v0 c
          ∧ r.2.mem ((c.tc : Thread Cert.QPrepFRIdeal.nD Cert.QPrepFRIdeal.τ).loc Cert.QPrepFRIdeal.main_arg0) = m' ((c.tc : Thread Cert.QPrepFRIdeal.nD Cert.QPrepFRIdeal.τ).loc Cert.QPrepFRIdeal.main_arg0)
          ∧ r.2.mem ((c.tc : Thread Cert.QPrepFRIdeal.nD Cert.QPrepFRIdeal.τ).loc Cert.QPrepFRIdeal.main_arg1) = m' ((c.tc : Thread Cert.QPrepFRIdeal.nD Cert.QPrepFRIdeal.τ).loc Cert.QPrepFRIdeal.main_arg1))

def preserves_KPrepFK_KPrepFKIdeal : Prop :=
  True

def algebraic_KPrepFKIdeal_KPrepFRIdeal [hKPrepFKIdeal : Cert.KPrepFKIdeal.Facts] [hKPrepFRIdeal : Cert.KPrepFRIdeal.Facts] : Prop :=
  ∀ (m : (ℓ : Loc Cert.KPrepFKIdeal.nD Cert.KPrepFKIdeal.τ Cert.KPrepFKIdeal.sig) → Buf (Elt Ideal) ℓ) (g : Dev Cert.KPrepFKIdeal.nD → PrngReg)
    (m' : (ℓ : Loc Cert.KPrepFRIdeal.nD Cert.KPrepFRIdeal.τ Cert.KPrepFRIdeal.sig) → Buf (Elt Ideal) ℓ) (g' : Dev Cert.KPrepFRIdeal.nD → PrngReg), Pre_KPrepFKIdeal m →
    (∀ c : Dev Cert.KPrepFKIdeal.nD,
      m' ((c.tc : Thread Cert.KPrepFRIdeal.nD Cert.KPrepFRIdeal.τ).loc Cert.KPrepFRIdeal.main_arg0) = m ((c.tc : Thread Cert.KPrepFKIdeal.nD Cert.KPrepFKIdeal.τ).loc Cert.KPrepFKIdeal.main_arg0)
      ∧ m' ((c.tc : Thread Cert.KPrepFRIdeal.nD Cert.KPrepFRIdeal.τ).loc Cert.KPrepFRIdeal.main_arg1) = m ((c.tc : Thread Cert.KPrepFKIdeal.nD Cert.KPrepFKIdeal.τ).loc Cert.KPrepFKIdeal.main_arg1)) →
    ∃ (v0 : (c : Dev Cert.KPrepFKIdeal.nD) → Buf (Elt Ideal) ((c.tc : Thread Cert.KPrepFKIdeal.nD Cert.KPrepFKIdeal.τ).loc Cert.KPrepFKIdeal.main_v60)),
      θ_run (Cert.KPrepFKIdeal.defs (F := Ideal)) (onTc (τ := Cert.KPrepFKIdeal.τ) (Cert.KPrepFKIdeal.main (F := Ideal))) ⟨m, fun _ => 0, g⟩ (fun r => ∀ c : Dev Cert.KPrepFKIdeal.nD,
          r.2.mem ((c.tc : Thread Cert.KPrepFKIdeal.nD Cert.KPrepFKIdeal.τ).loc Cert.KPrepFKIdeal.main_v60) = v0 c
          ∧ r.2.mem ((c.tc : Thread Cert.KPrepFKIdeal.nD Cert.KPrepFKIdeal.τ).loc Cert.KPrepFKIdeal.main_arg0) = m ((c.tc : Thread Cert.KPrepFKIdeal.nD Cert.KPrepFKIdeal.τ).loc Cert.KPrepFKIdeal.main_arg0)
          ∧ r.2.mem ((c.tc : Thread Cert.KPrepFKIdeal.nD Cert.KPrepFKIdeal.τ).loc Cert.KPrepFKIdeal.main_arg1) = m ((c.tc : Thread Cert.KPrepFKIdeal.nD Cert.KPrepFKIdeal.τ).loc Cert.KPrepFKIdeal.main_arg1))
      ∧ θ_run (Cert.KPrepFRIdeal.defs (F := Ideal)) (onTc (τ := Cert.KPrepFRIdeal.τ) (Cert.KPrepFRIdeal.main (F := Ideal))) ⟨m', fun _ => 0, g'⟩ (fun r => ∀ c : Dev Cert.KPrepFRIdeal.nD,
          r.2.mem ((c.tc : Thread Cert.KPrepFRIdeal.nD Cert.KPrepFRIdeal.τ).loc Cert.KPrepFRIdeal.main_v88) = v0 c
          ∧ r.2.mem ((c.tc : Thread Cert.KPrepFRIdeal.nD Cert.KPrepFRIdeal.τ).loc Cert.KPrepFRIdeal.main_arg0) = m' ((c.tc : Thread Cert.KPrepFRIdeal.nD Cert.KPrepFRIdeal.τ).loc Cert.KPrepFRIdeal.main_arg0)
          ∧ r.2.mem ((c.tc : Thread Cert.KPrepFRIdeal.nD Cert.KPrepFRIdeal.τ).loc Cert.KPrepFRIdeal.main_arg1) = m' ((c.tc : Thread Cert.KPrepFRIdeal.nD Cert.KPrepFRIdeal.τ).loc Cert.KPrepFRIdeal.main_arg1))

def preserves_FfnFK_FfnFKIdeal : Prop :=
  True

def algebraic_FfnFKIdeal_FfnFRIdeal [hFfnFKIdeal : Cert.FfnFKIdeal.Facts] [hFfnFRIdeal : Cert.FfnFRIdeal.Facts] : Prop :=
  ∀ (m : (ℓ : Loc Cert.FfnFKIdeal.nD Cert.FfnFKIdeal.τ Cert.FfnFKIdeal.sig) → Buf (Elt Ideal) ℓ) (g : Dev Cert.FfnFKIdeal.nD → PrngReg)
    (m' : (ℓ : Loc Cert.FfnFRIdeal.nD Cert.FfnFRIdeal.τ Cert.FfnFRIdeal.sig) → Buf (Elt Ideal) ℓ) (g' : Dev Cert.FfnFRIdeal.nD → PrngReg), Pre_FfnFKIdeal m →
    (∀ c : Dev Cert.FfnFKIdeal.nD,
      m' ((c.tc : Thread Cert.FfnFRIdeal.nD Cert.FfnFRIdeal.τ).loc Cert.FfnFRIdeal.main_arg0) = m ((c.tc : Thread Cert.FfnFKIdeal.nD Cert.FfnFKIdeal.τ).loc Cert.FfnFKIdeal.main_arg0)
      ∧ m' ((c.tc : Thread Cert.FfnFRIdeal.nD Cert.FfnFRIdeal.τ).loc Cert.FfnFRIdeal.main_arg1) = m ((c.tc : Thread Cert.FfnFKIdeal.nD Cert.FfnFKIdeal.τ).loc Cert.FfnFKIdeal.main_arg1)
      ∧ m' ((c.tc : Thread Cert.FfnFRIdeal.nD Cert.FfnFRIdeal.τ).loc Cert.FfnFRIdeal.main_arg2) = m ((c.tc : Thread Cert.FfnFKIdeal.nD Cert.FfnFKIdeal.τ).loc Cert.FfnFKIdeal.main_arg2)) →
    ∃ (v0 : (c : Dev Cert.FfnFKIdeal.nD) → Buf (Elt Ideal) ((c.tc : Thread Cert.FfnFKIdeal.nD Cert.FfnFKIdeal.τ).loc Cert.FfnFKIdeal.main_v3)),
      θ_run (Cert.FfnFKIdeal.defs (F := Ideal)) (onTc (τ := Cert.FfnFKIdeal.τ) (Cert.FfnFKIdeal.main (F := Ideal))) ⟨m, fun _ => 0, g⟩ (fun r => ∀ c : Dev Cert.FfnFKIdeal.nD,
          r.2.mem ((c.tc : Thread Cert.FfnFKIdeal.nD Cert.FfnFKIdeal.τ).loc Cert.FfnFKIdeal.main_v3) = v0 c
          ∧ r.2.mem ((c.tc : Thread Cert.FfnFKIdeal.nD Cert.FfnFKIdeal.τ).loc Cert.FfnFKIdeal.main_arg0) = m ((c.tc : Thread Cert.FfnFKIdeal.nD Cert.FfnFKIdeal.τ).loc Cert.FfnFKIdeal.main_arg0)
          ∧ r.2.mem ((c.tc : Thread Cert.FfnFKIdeal.nD Cert.FfnFKIdeal.τ).loc Cert.FfnFKIdeal.main_arg1) = m ((c.tc : Thread Cert.FfnFKIdeal.nD Cert.FfnFKIdeal.τ).loc Cert.FfnFKIdeal.main_arg1)
          ∧ r.2.mem ((c.tc : Thread Cert.FfnFKIdeal.nD Cert.FfnFKIdeal.τ).loc Cert.FfnFKIdeal.main_arg2) = m ((c.tc : Thread Cert.FfnFKIdeal.nD Cert.FfnFKIdeal.τ).loc Cert.FfnFKIdeal.main_arg2))
      ∧ θ_run (Cert.FfnFRIdeal.defs (F := Ideal)) (onTc (τ := Cert.FfnFRIdeal.τ) (Cert.FfnFRIdeal.main (F := Ideal))) ⟨m', fun _ => 0, g'⟩ (fun r => ∀ c : Dev Cert.FfnFRIdeal.nD,
          r.2.mem ((c.tc : Thread Cert.FfnFRIdeal.nD Cert.FfnFRIdeal.τ).loc Cert.FfnFRIdeal.main_v31) = v0 c
          ∧ r.2.mem ((c.tc : Thread Cert.FfnFRIdeal.nD Cert.FfnFRIdeal.τ).loc Cert.FfnFRIdeal.main_arg0) = m' ((c.tc : Thread Cert.FfnFRIdeal.nD Cert.FfnFRIdeal.τ).loc Cert.FfnFRIdeal.main_arg0)
          ∧ r.2.mem ((c.tc : Thread Cert.FfnFRIdeal.nD Cert.FfnFRIdeal.τ).loc Cert.FfnFRIdeal.main_arg1) = m' ((c.tc : Thread Cert.FfnFRIdeal.nD Cert.FfnFRIdeal.τ).loc Cert.FfnFRIdeal.main_arg1)
          ∧ r.2.mem ((c.tc : Thread Cert.FfnFRIdeal.nD Cert.FfnFRIdeal.τ).loc Cert.FfnFRIdeal.main_arg2) = m' ((c.tc : Thread Cert.FfnFRIdeal.nD Cert.FfnFRIdeal.τ).loc Cert.FfnFRIdeal.main_arg2))

def preserves_GdnOutFK_GdnOutFKIdeal : Prop :=
  True

def algebraic_GdnOutFKIdeal_GdnOutFRIdeal [hGdnOutFKIdeal : Cert.GdnOutFKIdeal.Facts] [hGdnOutFRIdeal : Cert.GdnOutFRIdeal.Facts] : Prop :=
  ∀ (m : (ℓ : Loc Cert.GdnOutFKIdeal.nD Cert.GdnOutFKIdeal.τ Cert.GdnOutFKIdeal.sig) → Buf (Elt Ideal) ℓ) (g : Dev Cert.GdnOutFKIdeal.nD → PrngReg)
    (m' : (ℓ : Loc Cert.GdnOutFRIdeal.nD Cert.GdnOutFRIdeal.τ Cert.GdnOutFRIdeal.sig) → Buf (Elt Ideal) ℓ) (g' : Dev Cert.GdnOutFRIdeal.nD → PrngReg), Pre_GdnOutFKIdeal m →
    (∀ c : Dev Cert.GdnOutFKIdeal.nD,
      m' ((c.tc : Thread Cert.GdnOutFRIdeal.nD Cert.GdnOutFRIdeal.τ).loc Cert.GdnOutFRIdeal.main_arg0) = m ((c.tc : Thread Cert.GdnOutFKIdeal.nD Cert.GdnOutFKIdeal.τ).loc Cert.GdnOutFKIdeal.main_arg0)
      ∧ m' ((c.tc : Thread Cert.GdnOutFRIdeal.nD Cert.GdnOutFRIdeal.τ).loc Cert.GdnOutFRIdeal.main_arg1) = m ((c.tc : Thread Cert.GdnOutFKIdeal.nD Cert.GdnOutFKIdeal.τ).loc Cert.GdnOutFKIdeal.main_arg1)
      ∧ m' ((c.tc : Thread Cert.GdnOutFRIdeal.nD Cert.GdnOutFRIdeal.τ).loc Cert.GdnOutFRIdeal.main_arg2) = m ((c.tc : Thread Cert.GdnOutFKIdeal.nD Cert.GdnOutFKIdeal.τ).loc Cert.GdnOutFKIdeal.main_arg2)) →
    ∃ (v0 : (c : Dev Cert.GdnOutFKIdeal.nD) → Buf (Elt Ideal) ((c.tc : Thread Cert.GdnOutFKIdeal.nD Cert.GdnOutFKIdeal.τ).loc Cert.GdnOutFKIdeal.main_v0)),
      θ_run (Cert.GdnOutFKIdeal.defs (F := Ideal)) (onTc (τ := Cert.GdnOutFKIdeal.τ) (Cert.GdnOutFKIdeal.main (F := Ideal))) ⟨m, fun _ => 0, g⟩ (fun r => ∀ c : Dev Cert.GdnOutFKIdeal.nD,
          r.2.mem ((c.tc : Thread Cert.GdnOutFKIdeal.nD Cert.GdnOutFKIdeal.τ).loc Cert.GdnOutFKIdeal.main_v0) = v0 c
          ∧ r.2.mem ((c.tc : Thread Cert.GdnOutFKIdeal.nD Cert.GdnOutFKIdeal.τ).loc Cert.GdnOutFKIdeal.main_arg0) = m ((c.tc : Thread Cert.GdnOutFKIdeal.nD Cert.GdnOutFKIdeal.τ).loc Cert.GdnOutFKIdeal.main_arg0)
          ∧ r.2.mem ((c.tc : Thread Cert.GdnOutFKIdeal.nD Cert.GdnOutFKIdeal.τ).loc Cert.GdnOutFKIdeal.main_arg1) = m ((c.tc : Thread Cert.GdnOutFKIdeal.nD Cert.GdnOutFKIdeal.τ).loc Cert.GdnOutFKIdeal.main_arg1)
          ∧ r.2.mem ((c.tc : Thread Cert.GdnOutFKIdeal.nD Cert.GdnOutFKIdeal.τ).loc Cert.GdnOutFKIdeal.main_arg2) = m ((c.tc : Thread Cert.GdnOutFKIdeal.nD Cert.GdnOutFKIdeal.τ).loc Cert.GdnOutFKIdeal.main_arg2))
      ∧ θ_run (Cert.GdnOutFRIdeal.defs (F := Ideal)) (onTc (τ := Cert.GdnOutFRIdeal.τ) (Cert.GdnOutFRIdeal.main (F := Ideal))) ⟨m', fun _ => 0, g'⟩ (fun r => ∀ c : Dev Cert.GdnOutFRIdeal.nD,
          r.2.mem ((c.tc : Thread Cert.GdnOutFRIdeal.nD Cert.GdnOutFRIdeal.τ).loc Cert.GdnOutFRIdeal.main_v22) = v0 c
          ∧ r.2.mem ((c.tc : Thread Cert.GdnOutFRIdeal.nD Cert.GdnOutFRIdeal.τ).loc Cert.GdnOutFRIdeal.main_arg0) = m' ((c.tc : Thread Cert.GdnOutFRIdeal.nD Cert.GdnOutFRIdeal.τ).loc Cert.GdnOutFRIdeal.main_arg0)
          ∧ r.2.mem ((c.tc : Thread Cert.GdnOutFRIdeal.nD Cert.GdnOutFRIdeal.τ).loc Cert.GdnOutFRIdeal.main_arg1) = m' ((c.tc : Thread Cert.GdnOutFRIdeal.nD Cert.GdnOutFRIdeal.τ).loc Cert.GdnOutFRIdeal.main_arg1)
          ∧ r.2.mem ((c.tc : Thread Cert.GdnOutFRIdeal.nD Cert.GdnOutFRIdeal.τ).loc Cert.GdnOutFRIdeal.main_arg2) = m' ((c.tc : Thread Cert.GdnOutFRIdeal.nD Cert.GdnOutFRIdeal.τ).loc Cert.GdnOutFRIdeal.main_arg2))

def preserves_GdnPrepFK_GdnPrepFKIdeal : Prop :=
  True

def algebraic_GdnPrepFKIdeal_GdnPrepFRIdeal [hGdnPrepFKIdeal : Cert.GdnPrepFKIdeal.Facts] [hGdnPrepFRIdeal : Cert.GdnPrepFRIdeal.Facts] : Prop :=
  ∀ (m : (ℓ : Loc Cert.GdnPrepFKIdeal.nD Cert.GdnPrepFKIdeal.τ Cert.GdnPrepFKIdeal.sig) → Buf (Elt Ideal) ℓ) (g : Dev Cert.GdnPrepFKIdeal.nD → PrngReg)
    (m' : (ℓ : Loc Cert.GdnPrepFRIdeal.nD Cert.GdnPrepFRIdeal.τ Cert.GdnPrepFRIdeal.sig) → Buf (Elt Ideal) ℓ) (g' : Dev Cert.GdnPrepFRIdeal.nD → PrngReg), Pre_GdnPrepFKIdeal m →
    (∀ c : Dev Cert.GdnPrepFKIdeal.nD,
      m' ((c.tc : Thread Cert.GdnPrepFRIdeal.nD Cert.GdnPrepFRIdeal.τ).loc Cert.GdnPrepFRIdeal.main_arg0) = m ((c.tc : Thread Cert.GdnPrepFKIdeal.nD Cert.GdnPrepFKIdeal.τ).loc Cert.GdnPrepFKIdeal.main_arg0)
      ∧ m' ((c.tc : Thread Cert.GdnPrepFRIdeal.nD Cert.GdnPrepFRIdeal.τ).loc Cert.GdnPrepFRIdeal.main_arg1) = m ((c.tc : Thread Cert.GdnPrepFKIdeal.nD Cert.GdnPrepFKIdeal.τ).loc Cert.GdnPrepFKIdeal.main_arg1)) →
    ∃ (v0 : (c : Dev Cert.GdnPrepFKIdeal.nD) → Buf (Elt Ideal) ((c.tc : Thread Cert.GdnPrepFKIdeal.nD Cert.GdnPrepFKIdeal.τ).loc Cert.GdnPrepFKIdeal.main_v3)),
      θ_run (Cert.GdnPrepFKIdeal.defs (F := Ideal)) (onTc (τ := Cert.GdnPrepFKIdeal.τ) (Cert.GdnPrepFKIdeal.main (F := Ideal))) ⟨m, fun _ => 0, g⟩ (fun r => ∀ c : Dev Cert.GdnPrepFKIdeal.nD,
          r.2.mem ((c.tc : Thread Cert.GdnPrepFKIdeal.nD Cert.GdnPrepFKIdeal.τ).loc Cert.GdnPrepFKIdeal.main_v3) = v0 c
          ∧ r.2.mem ((c.tc : Thread Cert.GdnPrepFKIdeal.nD Cert.GdnPrepFKIdeal.τ).loc Cert.GdnPrepFKIdeal.main_arg0) = m ((c.tc : Thread Cert.GdnPrepFKIdeal.nD Cert.GdnPrepFKIdeal.τ).loc Cert.GdnPrepFKIdeal.main_arg0)
          ∧ r.2.mem ((c.tc : Thread Cert.GdnPrepFKIdeal.nD Cert.GdnPrepFKIdeal.τ).loc Cert.GdnPrepFKIdeal.main_arg1) = m ((c.tc : Thread Cert.GdnPrepFKIdeal.nD Cert.GdnPrepFKIdeal.τ).loc Cert.GdnPrepFKIdeal.main_arg1))
      ∧ θ_run (Cert.GdnPrepFRIdeal.defs (F := Ideal)) (onTc (τ := Cert.GdnPrepFRIdeal.τ) (Cert.GdnPrepFRIdeal.main (F := Ideal))) ⟨m', fun _ => 0, g'⟩ (fun r => ∀ c : Dev Cert.GdnPrepFRIdeal.nD,
          r.2.mem ((c.tc : Thread Cert.GdnPrepFRIdeal.nD Cert.GdnPrepFRIdeal.τ).loc Cert.GdnPrepFRIdeal.main_v110) = v0 c
          ∧ r.2.mem ((c.tc : Thread Cert.GdnPrepFRIdeal.nD Cert.GdnPrepFRIdeal.τ).loc Cert.GdnPrepFRIdeal.main_arg0) = m' ((c.tc : Thread Cert.GdnPrepFRIdeal.nD Cert.GdnPrepFRIdeal.τ).loc Cert.GdnPrepFRIdeal.main_arg0)
          ∧ r.2.mem ((c.tc : Thread Cert.GdnPrepFRIdeal.nD Cert.GdnPrepFRIdeal.τ).loc Cert.GdnPrepFRIdeal.main_arg1) = m' ((c.tc : Thread Cert.GdnPrepFRIdeal.nD Cert.GdnPrepFRIdeal.τ).loc Cert.GdnPrepFRIdeal.main_arg1))

def preserves_GdnFK_GdnFKIdeal : Prop :=
  True

def preserves_MmFK_MmFKIdeal : Prop :=
  True

def algebraic_MmFKIdeal_MmFRIdeal [hMmFKIdeal : Cert.MmFKIdeal.Facts] [hMmFRIdeal : Cert.MmFRIdeal.Facts] : Prop :=
  ∀ (m : (ℓ : Loc Cert.MmFKIdeal.nD Cert.MmFKIdeal.τ Cert.MmFKIdeal.sig) → Buf (Elt Ideal) ℓ) (g : Dev Cert.MmFKIdeal.nD → PrngReg)
    (m' : (ℓ : Loc Cert.MmFRIdeal.nD Cert.MmFRIdeal.τ Cert.MmFRIdeal.sig) → Buf (Elt Ideal) ℓ) (g' : Dev Cert.MmFRIdeal.nD → PrngReg), Pre_MmFKIdeal m →
    (∀ c : Dev Cert.MmFKIdeal.nD,
      m' ((c.tc : Thread Cert.MmFRIdeal.nD Cert.MmFRIdeal.τ).loc Cert.MmFRIdeal.main_arg0) = m ((c.tc : Thread Cert.MmFKIdeal.nD Cert.MmFKIdeal.τ).loc Cert.MmFKIdeal.main_arg0)
      ∧ m' ((c.tc : Thread Cert.MmFRIdeal.nD Cert.MmFRIdeal.τ).loc Cert.MmFRIdeal.main_arg1) = m ((c.tc : Thread Cert.MmFKIdeal.nD Cert.MmFKIdeal.τ).loc Cert.MmFKIdeal.main_arg1)) →
    ∃ (v0 : (c : Dev Cert.MmFKIdeal.nD) → Buf (Elt Ideal) ((c.tc : Thread Cert.MmFKIdeal.nD Cert.MmFKIdeal.τ).loc Cert.MmFKIdeal.main_v6)),
      θ_run (Cert.MmFKIdeal.defs (F := Ideal)) (onTc (τ := Cert.MmFKIdeal.τ) (Cert.MmFKIdeal.main (F := Ideal))) ⟨m, fun _ => 0, g⟩ (fun r => ∀ c : Dev Cert.MmFKIdeal.nD,
          r.2.mem ((c.tc : Thread Cert.MmFKIdeal.nD Cert.MmFKIdeal.τ).loc Cert.MmFKIdeal.main_v6) = v0 c
          ∧ r.2.mem ((c.tc : Thread Cert.MmFKIdeal.nD Cert.MmFKIdeal.τ).loc Cert.MmFKIdeal.main_arg0) = m ((c.tc : Thread Cert.MmFKIdeal.nD Cert.MmFKIdeal.τ).loc Cert.MmFKIdeal.main_arg0)
          ∧ r.2.mem ((c.tc : Thread Cert.MmFKIdeal.nD Cert.MmFKIdeal.τ).loc Cert.MmFKIdeal.main_arg1) = m ((c.tc : Thread Cert.MmFKIdeal.nD Cert.MmFKIdeal.τ).loc Cert.MmFKIdeal.main_arg1))
      ∧ θ_run (Cert.MmFRIdeal.defs (F := Ideal)) (onTc (τ := Cert.MmFRIdeal.τ) (Cert.MmFRIdeal.main (F := Ideal))) ⟨m', fun _ => 0, g'⟩ (fun r => ∀ c : Dev Cert.MmFRIdeal.nD,
          r.2.mem ((c.tc : Thread Cert.MmFRIdeal.nD Cert.MmFRIdeal.τ).loc Cert.MmFRIdeal.main_v0) = v0 c
          ∧ r.2.mem ((c.tc : Thread Cert.MmFRIdeal.nD Cert.MmFRIdeal.τ).loc Cert.MmFRIdeal.main_arg0) = m' ((c.tc : Thread Cert.MmFRIdeal.nD Cert.MmFRIdeal.τ).loc Cert.MmFRIdeal.main_arg0)
          ∧ r.2.mem ((c.tc : Thread Cert.MmFRIdeal.nD Cert.MmFRIdeal.τ).loc Cert.MmFRIdeal.main_arg1) = m' ((c.tc : Thread Cert.MmFRIdeal.nD Cert.MmFRIdeal.τ).loc Cert.MmFRIdeal.main_arg1))

def preserves_MmDwK_MmDwKIdeal : Prop :=
  True

def algebraic_MmDwKIdeal_MmDwRIdeal [hMmDwKIdeal : Cert.MmDwKIdeal.Facts] [hMmDwRIdeal : Cert.MmDwRIdeal.Facts] : Prop :=
  ∀ (m : (ℓ : Loc Cert.MmDwKIdeal.nD Cert.MmDwKIdeal.τ Cert.MmDwKIdeal.sig) → Buf (Elt Ideal) ℓ) (g : Dev Cert.MmDwKIdeal.nD → PrngReg)
    (m' : (ℓ : Loc Cert.MmDwRIdeal.nD Cert.MmDwRIdeal.τ Cert.MmDwRIdeal.sig) → Buf (Elt Ideal) ℓ) (g' : Dev Cert.MmDwRIdeal.nD → PrngReg), Pre_MmDwKIdeal m →
    (∀ c : Dev Cert.MmDwKIdeal.nD,
      m' ((c.tc : Thread Cert.MmDwRIdeal.nD Cert.MmDwRIdeal.τ).loc Cert.MmDwRIdeal.main_arg0) = m ((c.tc : Thread Cert.MmDwKIdeal.nD Cert.MmDwKIdeal.τ).loc Cert.MmDwKIdeal.main_arg0)
      ∧ m' ((c.tc : Thread Cert.MmDwRIdeal.nD Cert.MmDwRIdeal.τ).loc Cert.MmDwRIdeal.main_arg1) = m ((c.tc : Thread Cert.MmDwKIdeal.nD Cert.MmDwKIdeal.τ).loc Cert.MmDwKIdeal.main_arg1)
      ∧ m' ((c.tc : Thread Cert.MmDwRIdeal.nD Cert.MmDwRIdeal.τ).loc Cert.MmDwRIdeal.main_arg2) = m ((c.tc : Thread Cert.MmDwKIdeal.nD Cert.MmDwKIdeal.τ).loc Cert.MmDwKIdeal.main_arg2)) →
    ∃ (v0 : (c : Dev Cert.MmDwKIdeal.nD) → Buf (Elt Ideal) ((c.tc : Thread Cert.MmDwKIdeal.nD Cert.MmDwKIdeal.τ).loc Cert.MmDwKIdeal.main_v0)),
      θ_run (Cert.MmDwKIdeal.defs (F := Ideal)) (onTc (τ := Cert.MmDwKIdeal.τ) (Cert.MmDwKIdeal.main (F := Ideal))) ⟨m, fun _ => 0, g⟩ (fun r => ∀ c : Dev Cert.MmDwKIdeal.nD,
          r.2.mem ((c.tc : Thread Cert.MmDwKIdeal.nD Cert.MmDwKIdeal.τ).loc Cert.MmDwKIdeal.main_v0) = v0 c
          ∧ r.2.mem ((c.tc : Thread Cert.MmDwKIdeal.nD Cert.MmDwKIdeal.τ).loc Cert.MmDwKIdeal.main_arg0) = m ((c.tc : Thread Cert.MmDwKIdeal.nD Cert.MmDwKIdeal.τ).loc Cert.MmDwKIdeal.main_arg0)
          ∧ r.2.mem ((c.tc : Thread Cert.MmDwKIdeal.nD Cert.MmDwKIdeal.τ).loc Cert.MmDwKIdeal.main_arg1) = m ((c.tc : Thread Cert.MmDwKIdeal.nD Cert.MmDwKIdeal.τ).loc Cert.MmDwKIdeal.main_arg1)
          ∧ r.2.mem ((c.tc : Thread Cert.MmDwKIdeal.nD Cert.MmDwKIdeal.τ).loc Cert.MmDwKIdeal.main_arg2) = m ((c.tc : Thread Cert.MmDwKIdeal.nD Cert.MmDwKIdeal.τ).loc Cert.MmDwKIdeal.main_arg2))
      ∧ θ_run (Cert.MmDwRIdeal.defs (F := Ideal)) (onTc (τ := Cert.MmDwRIdeal.τ) (Cert.MmDwRIdeal.main (F := Ideal))) ⟨m', fun _ => 0, g'⟩ (fun r => ∀ c : Dev Cert.MmDwRIdeal.nD,
          r.2.mem ((c.tc : Thread Cert.MmDwRIdeal.nD Cert.MmDwRIdeal.τ).loc Cert.MmDwRIdeal.main_v5) = v0 c
          ∧ r.2.mem ((c.tc : Thread Cert.MmDwRIdeal.nD Cert.MmDwRIdeal.τ).loc Cert.MmDwRIdeal.main_arg0) = m' ((c.tc : Thread Cert.MmDwRIdeal.nD Cert.MmDwRIdeal.τ).loc Cert.MmDwRIdeal.main_arg0)
          ∧ r.2.mem ((c.tc : Thread Cert.MmDwRIdeal.nD Cert.MmDwRIdeal.τ).loc Cert.MmDwRIdeal.main_arg1) = m' ((c.tc : Thread Cert.MmDwRIdeal.nD Cert.MmDwRIdeal.τ).loc Cert.MmDwRIdeal.main_arg1)
          ∧ r.2.mem ((c.tc : Thread Cert.MmDwRIdeal.nD Cert.MmDwRIdeal.τ).loc Cert.MmDwRIdeal.main_arg2) = m' ((c.tc : Thread Cert.MmDwRIdeal.nD Cert.MmDwRIdeal.τ).loc Cert.MmDwRIdeal.main_arg2))

def preserves_MmTFK_MmTFKIdeal : Prop :=
  True

def algebraic_MmTFKIdeal_MmTFRIdeal [hMmTFKIdeal : Cert.MmTFKIdeal.Facts] [hMmTFRIdeal : Cert.MmTFRIdeal.Facts] : Prop :=
  ∀ (m : (ℓ : Loc Cert.MmTFKIdeal.nD Cert.MmTFKIdeal.τ Cert.MmTFKIdeal.sig) → Buf (Elt Ideal) ℓ) (g : Dev Cert.MmTFKIdeal.nD → PrngReg)
    (m' : (ℓ : Loc Cert.MmTFRIdeal.nD Cert.MmTFRIdeal.τ Cert.MmTFRIdeal.sig) → Buf (Elt Ideal) ℓ) (g' : Dev Cert.MmTFRIdeal.nD → PrngReg), Pre_MmTFKIdeal m →
    (∀ c : Dev Cert.MmTFKIdeal.nD,
      m' ((c.tc : Thread Cert.MmTFRIdeal.nD Cert.MmTFRIdeal.τ).loc Cert.MmTFRIdeal.main_arg0) = m ((c.tc : Thread Cert.MmTFKIdeal.nD Cert.MmTFKIdeal.τ).loc Cert.MmTFKIdeal.main_arg0)
      ∧ m' ((c.tc : Thread Cert.MmTFRIdeal.nD Cert.MmTFRIdeal.τ).loc Cert.MmTFRIdeal.main_arg1) = m ((c.tc : Thread Cert.MmTFKIdeal.nD Cert.MmTFKIdeal.τ).loc Cert.MmTFKIdeal.main_arg1)) →
    ∃ (v0 : (c : Dev Cert.MmTFKIdeal.nD) → Buf (Elt Ideal) ((c.tc : Thread Cert.MmTFKIdeal.nD Cert.MmTFKIdeal.τ).loc Cert.MmTFKIdeal.main_v2)),
      θ_run (Cert.MmTFKIdeal.defs (F := Ideal)) (onTc (τ := Cert.MmTFKIdeal.τ) (Cert.MmTFKIdeal.main (F := Ideal))) ⟨m, fun _ => 0, g⟩ (fun r => ∀ c : Dev Cert.MmTFKIdeal.nD,
          r.2.mem ((c.tc : Thread Cert.MmTFKIdeal.nD Cert.MmTFKIdeal.τ).loc Cert.MmTFKIdeal.main_v2) = v0 c
          ∧ r.2.mem ((c.tc : Thread Cert.MmTFKIdeal.nD Cert.MmTFKIdeal.τ).loc Cert.MmTFKIdeal.main_arg0) = m ((c.tc : Thread Cert.MmTFKIdeal.nD Cert.MmTFKIdeal.τ).loc Cert.MmTFKIdeal.main_arg0)
          ∧ r.2.mem ((c.tc : Thread Cert.MmTFKIdeal.nD Cert.MmTFKIdeal.τ).loc Cert.MmTFKIdeal.main_arg1) = m ((c.tc : Thread Cert.MmTFKIdeal.nD Cert.MmTFKIdeal.τ).loc Cert.MmTFKIdeal.main_arg1))
      ∧ θ_run (Cert.MmTFRIdeal.defs (F := Ideal)) (onTc (τ := Cert.MmTFRIdeal.τ) (Cert.MmTFRIdeal.main (F := Ideal))) ⟨m', fun _ => 0, g'⟩ (fun r => ∀ c : Dev Cert.MmTFRIdeal.nD,
          r.2.mem ((c.tc : Thread Cert.MmTFRIdeal.nD Cert.MmTFRIdeal.τ).loc Cert.MmTFRIdeal.main_v0) = v0 c
          ∧ r.2.mem ((c.tc : Thread Cert.MmTFRIdeal.nD Cert.MmTFRIdeal.τ).loc Cert.MmTFRIdeal.main_arg0) = m' ((c.tc : Thread Cert.MmTFRIdeal.nD Cert.MmTFRIdeal.τ).loc Cert.MmTFRIdeal.main_arg0)
          ∧ r.2.mem ((c.tc : Thread Cert.MmTFRIdeal.nD Cert.MmTFRIdeal.τ).loc Cert.MmTFRIdeal.main_arg1) = m' ((c.tc : Thread Cert.MmTFRIdeal.nD Cert.MmTFRIdeal.τ).loc Cert.MmTFRIdeal.main_arg1))

def preserves_MmTDwK_MmTDwKIdeal : Prop :=
  True

def algebraic_MmTDwKIdeal_MmTDwRIdeal [hMmTDwKIdeal : Cert.MmTDwKIdeal.Facts] [hMmTDwRIdeal : Cert.MmTDwRIdeal.Facts] : Prop :=
  ∀ (m : (ℓ : Loc Cert.MmTDwKIdeal.nD Cert.MmTDwKIdeal.τ Cert.MmTDwKIdeal.sig) → Buf (Elt Ideal) ℓ) (g : Dev Cert.MmTDwKIdeal.nD → PrngReg)
    (m' : (ℓ : Loc Cert.MmTDwRIdeal.nD Cert.MmTDwRIdeal.τ Cert.MmTDwRIdeal.sig) → Buf (Elt Ideal) ℓ) (g' : Dev Cert.MmTDwRIdeal.nD → PrngReg), Pre_MmTDwKIdeal m →
    (∀ c : Dev Cert.MmTDwKIdeal.nD,
      m' ((c.tc : Thread Cert.MmTDwRIdeal.nD Cert.MmTDwRIdeal.τ).loc Cert.MmTDwRIdeal.main_arg0) = m ((c.tc : Thread Cert.MmTDwKIdeal.nD Cert.MmTDwKIdeal.τ).loc Cert.MmTDwKIdeal.main_arg0)
      ∧ m' ((c.tc : Thread Cert.MmTDwRIdeal.nD Cert.MmTDwRIdeal.τ).loc Cert.MmTDwRIdeal.main_arg1) = m ((c.tc : Thread Cert.MmTDwKIdeal.nD Cert.MmTDwKIdeal.τ).loc Cert.MmTDwKIdeal.main_arg1)
      ∧ m' ((c.tc : Thread Cert.MmTDwRIdeal.nD Cert.MmTDwRIdeal.τ).loc Cert.MmTDwRIdeal.main_arg2) = m ((c.tc : Thread Cert.MmTDwKIdeal.nD Cert.MmTDwKIdeal.τ).loc Cert.MmTDwKIdeal.main_arg2)) →
    ∃ (v0 : (c : Dev Cert.MmTDwKIdeal.nD) → Buf (Elt Ideal) ((c.tc : Thread Cert.MmTDwKIdeal.nD Cert.MmTDwKIdeal.τ).loc Cert.MmTDwKIdeal.main_v0)),
      θ_run (Cert.MmTDwKIdeal.defs (F := Ideal)) (onTc (τ := Cert.MmTDwKIdeal.τ) (Cert.MmTDwKIdeal.main (F := Ideal))) ⟨m, fun _ => 0, g⟩ (fun r => ∀ c : Dev Cert.MmTDwKIdeal.nD,
          r.2.mem ((c.tc : Thread Cert.MmTDwKIdeal.nD Cert.MmTDwKIdeal.τ).loc Cert.MmTDwKIdeal.main_v0) = v0 c
          ∧ r.2.mem ((c.tc : Thread Cert.MmTDwKIdeal.nD Cert.MmTDwKIdeal.τ).loc Cert.MmTDwKIdeal.main_arg0) = m ((c.tc : Thread Cert.MmTDwKIdeal.nD Cert.MmTDwKIdeal.τ).loc Cert.MmTDwKIdeal.main_arg0)
          ∧ r.2.mem ((c.tc : Thread Cert.MmTDwKIdeal.nD Cert.MmTDwKIdeal.τ).loc Cert.MmTDwKIdeal.main_arg1) = m ((c.tc : Thread Cert.MmTDwKIdeal.nD Cert.MmTDwKIdeal.τ).loc Cert.MmTDwKIdeal.main_arg1)
          ∧ r.2.mem ((c.tc : Thread Cert.MmTDwKIdeal.nD Cert.MmTDwKIdeal.τ).loc Cert.MmTDwKIdeal.main_arg2) = m ((c.tc : Thread Cert.MmTDwKIdeal.nD Cert.MmTDwKIdeal.τ).loc Cert.MmTDwKIdeal.main_arg2))
      ∧ θ_run (Cert.MmTDwRIdeal.defs (F := Ideal)) (onTc (τ := Cert.MmTDwRIdeal.τ) (Cert.MmTDwRIdeal.main (F := Ideal))) ⟨m', fun _ => 0, g'⟩ (fun r => ∀ c : Dev Cert.MmTDwRIdeal.nD,
          r.2.mem ((c.tc : Thread Cert.MmTDwRIdeal.nD Cert.MmTDwRIdeal.τ).loc Cert.MmTDwRIdeal.main_v4) = v0 c
          ∧ r.2.mem ((c.tc : Thread Cert.MmTDwRIdeal.nD Cert.MmTDwRIdeal.τ).loc Cert.MmTDwRIdeal.main_arg0) = m' ((c.tc : Thread Cert.MmTDwRIdeal.nD Cert.MmTDwRIdeal.τ).loc Cert.MmTDwRIdeal.main_arg0)
          ∧ r.2.mem ((c.tc : Thread Cert.MmTDwRIdeal.nD Cert.MmTDwRIdeal.τ).loc Cert.MmTDwRIdeal.main_arg1) = m' ((c.tc : Thread Cert.MmTDwRIdeal.nD Cert.MmTDwRIdeal.τ).loc Cert.MmTDwRIdeal.main_arg1)
          ∧ r.2.mem ((c.tc : Thread Cert.MmTDwRIdeal.nD Cert.MmTDwRIdeal.τ).loc Cert.MmTDwRIdeal.main_arg2) = m' ((c.tc : Thread Cert.MmTDwRIdeal.nD Cert.MmTDwRIdeal.τ).loc Cert.MmTDwRIdeal.main_arg2))

def preserves_MmDaK_MmDaKIdeal : Prop :=
  True

def algebraic_MmDaKIdeal_MmDaRIdeal [hMmDaKIdeal : Cert.MmDaKIdeal.Facts] [hMmDaRIdeal : Cert.MmDaRIdeal.Facts] : Prop :=
  ∀ (m : (ℓ : Loc Cert.MmDaKIdeal.nD Cert.MmDaKIdeal.τ Cert.MmDaKIdeal.sig) → Buf (Elt Ideal) ℓ) (g : Dev Cert.MmDaKIdeal.nD → PrngReg)
    (m' : (ℓ : Loc Cert.MmDaRIdeal.nD Cert.MmDaRIdeal.τ Cert.MmDaRIdeal.sig) → Buf (Elt Ideal) ℓ) (g' : Dev Cert.MmDaRIdeal.nD → PrngReg), Pre_MmDaKIdeal m →
    (∀ c : Dev Cert.MmDaKIdeal.nD,
      m' ((c.tc : Thread Cert.MmDaRIdeal.nD Cert.MmDaRIdeal.τ).loc Cert.MmDaRIdeal.main_arg0) = m ((c.tc : Thread Cert.MmDaKIdeal.nD Cert.MmDaKIdeal.τ).loc Cert.MmDaKIdeal.main_arg0)
      ∧ m' ((c.tc : Thread Cert.MmDaRIdeal.nD Cert.MmDaRIdeal.τ).loc Cert.MmDaRIdeal.main_arg1) = m ((c.tc : Thread Cert.MmDaKIdeal.nD Cert.MmDaKIdeal.τ).loc Cert.MmDaKIdeal.main_arg1)
      ∧ m' ((c.tc : Thread Cert.MmDaRIdeal.nD Cert.MmDaRIdeal.τ).loc Cert.MmDaRIdeal.main_arg2) = m ((c.tc : Thread Cert.MmDaKIdeal.nD Cert.MmDaKIdeal.τ).loc Cert.MmDaKIdeal.main_arg2)) →
    ∃ (v0 : (c : Dev Cert.MmDaKIdeal.nD) → Buf (Elt Ideal) ((c.tc : Thread Cert.MmDaKIdeal.nD Cert.MmDaKIdeal.τ).loc Cert.MmDaKIdeal.main_v3)),
      θ_run (Cert.MmDaKIdeal.defs (F := Ideal)) (onTc (τ := Cert.MmDaKIdeal.τ) (Cert.MmDaKIdeal.main (F := Ideal))) ⟨m, fun _ => 0, g⟩ (fun r => ∀ c : Dev Cert.MmDaKIdeal.nD,
          r.2.mem ((c.tc : Thread Cert.MmDaKIdeal.nD Cert.MmDaKIdeal.τ).loc Cert.MmDaKIdeal.main_v3) = v0 c
          ∧ r.2.mem ((c.tc : Thread Cert.MmDaKIdeal.nD Cert.MmDaKIdeal.τ).loc Cert.MmDaKIdeal.main_arg0) = m ((c.tc : Thread Cert.MmDaKIdeal.nD Cert.MmDaKIdeal.τ).loc Cert.MmDaKIdeal.main_arg0)
          ∧ r.2.mem ((c.tc : Thread Cert.MmDaKIdeal.nD Cert.MmDaKIdeal.τ).loc Cert.MmDaKIdeal.main_arg1) = m ((c.tc : Thread Cert.MmDaKIdeal.nD Cert.MmDaKIdeal.τ).loc Cert.MmDaKIdeal.main_arg1)
          ∧ r.2.mem ((c.tc : Thread Cert.MmDaKIdeal.nD Cert.MmDaKIdeal.τ).loc Cert.MmDaKIdeal.main_arg2) = m ((c.tc : Thread Cert.MmDaKIdeal.nD Cert.MmDaKIdeal.τ).loc Cert.MmDaKIdeal.main_arg2))
      ∧ θ_run (Cert.MmDaRIdeal.defs (F := Ideal)) (onTc (τ := Cert.MmDaRIdeal.τ) (Cert.MmDaRIdeal.main (F := Ideal))) ⟨m', fun _ => 0, g'⟩ (fun r => ∀ c : Dev Cert.MmDaRIdeal.nD,
          r.2.mem ((c.tc : Thread Cert.MmDaRIdeal.nD Cert.MmDaRIdeal.τ).loc Cert.MmDaRIdeal.main_v3) = v0 c
          ∧ r.2.mem ((c.tc : Thread Cert.MmDaRIdeal.nD Cert.MmDaRIdeal.τ).loc Cert.MmDaRIdeal.main_arg0) = m' ((c.tc : Thread Cert.MmDaRIdeal.nD Cert.MmDaRIdeal.τ).loc Cert.MmDaRIdeal.main_arg0)
          ∧ r.2.mem ((c.tc : Thread Cert.MmDaRIdeal.nD Cert.MmDaRIdeal.τ).loc Cert.MmDaRIdeal.main_arg1) = m' ((c.tc : Thread Cert.MmDaRIdeal.nD Cert.MmDaRIdeal.τ).loc Cert.MmDaRIdeal.main_arg1)
          ∧ r.2.mem ((c.tc : Thread Cert.MmDaRIdeal.nD Cert.MmDaRIdeal.τ).loc Cert.MmDaRIdeal.main_arg2) = m' ((c.tc : Thread Cert.MmDaRIdeal.nD Cert.MmDaRIdeal.τ).loc Cert.MmDaRIdeal.main_arg2))

def preserves_MmTDaK_MmTDaKIdeal : Prop :=
  True

def algebraic_MmTDaKIdeal_MmTDaRIdeal [hMmTDaKIdeal : Cert.MmTDaKIdeal.Facts] [hMmTDaRIdeal : Cert.MmTDaRIdeal.Facts] : Prop :=
  ∀ (m : (ℓ : Loc Cert.MmTDaKIdeal.nD Cert.MmTDaKIdeal.τ Cert.MmTDaKIdeal.sig) → Buf (Elt Ideal) ℓ) (g : Dev Cert.MmTDaKIdeal.nD → PrngReg)
    (m' : (ℓ : Loc Cert.MmTDaRIdeal.nD Cert.MmTDaRIdeal.τ Cert.MmTDaRIdeal.sig) → Buf (Elt Ideal) ℓ) (g' : Dev Cert.MmTDaRIdeal.nD → PrngReg), Pre_MmTDaKIdeal m →
    (∀ c : Dev Cert.MmTDaKIdeal.nD,
      m' ((c.tc : Thread Cert.MmTDaRIdeal.nD Cert.MmTDaRIdeal.τ).loc Cert.MmTDaRIdeal.main_arg0) = m ((c.tc : Thread Cert.MmTDaKIdeal.nD Cert.MmTDaKIdeal.τ).loc Cert.MmTDaKIdeal.main_arg0)
      ∧ m' ((c.tc : Thread Cert.MmTDaRIdeal.nD Cert.MmTDaRIdeal.τ).loc Cert.MmTDaRIdeal.main_arg1) = m ((c.tc : Thread Cert.MmTDaKIdeal.nD Cert.MmTDaKIdeal.τ).loc Cert.MmTDaKIdeal.main_arg1)
      ∧ m' ((c.tc : Thread Cert.MmTDaRIdeal.nD Cert.MmTDaRIdeal.τ).loc Cert.MmTDaRIdeal.main_arg2) = m ((c.tc : Thread Cert.MmTDaKIdeal.nD Cert.MmTDaKIdeal.τ).loc Cert.MmTDaKIdeal.main_arg2)) →
    ∃ (v0 : (c : Dev Cert.MmTDaKIdeal.nD) → Buf (Elt Ideal) ((c.tc : Thread Cert.MmTDaKIdeal.nD Cert.MmTDaKIdeal.τ).loc Cert.MmTDaKIdeal.main_v2)),
      θ_run (Cert.MmTDaKIdeal.defs (F := Ideal)) (onTc (τ := Cert.MmTDaKIdeal.τ) (Cert.MmTDaKIdeal.main (F := Ideal))) ⟨m, fun _ => 0, g⟩ (fun r => ∀ c : Dev Cert.MmTDaKIdeal.nD,
          r.2.mem ((c.tc : Thread Cert.MmTDaKIdeal.nD Cert.MmTDaKIdeal.τ).loc Cert.MmTDaKIdeal.main_v2) = v0 c
          ∧ r.2.mem ((c.tc : Thread Cert.MmTDaKIdeal.nD Cert.MmTDaKIdeal.τ).loc Cert.MmTDaKIdeal.main_arg0) = m ((c.tc : Thread Cert.MmTDaKIdeal.nD Cert.MmTDaKIdeal.τ).loc Cert.MmTDaKIdeal.main_arg0)
          ∧ r.2.mem ((c.tc : Thread Cert.MmTDaKIdeal.nD Cert.MmTDaKIdeal.τ).loc Cert.MmTDaKIdeal.main_arg1) = m ((c.tc : Thread Cert.MmTDaKIdeal.nD Cert.MmTDaKIdeal.τ).loc Cert.MmTDaKIdeal.main_arg1)
          ∧ r.2.mem ((c.tc : Thread Cert.MmTDaKIdeal.nD Cert.MmTDaKIdeal.τ).loc Cert.MmTDaKIdeal.main_arg2) = m ((c.tc : Thread Cert.MmTDaKIdeal.nD Cert.MmTDaKIdeal.τ).loc Cert.MmTDaKIdeal.main_arg2))
      ∧ θ_run (Cert.MmTDaRIdeal.defs (F := Ideal)) (onTc (τ := Cert.MmTDaRIdeal.τ) (Cert.MmTDaRIdeal.main (F := Ideal))) ⟨m', fun _ => 0, g'⟩ (fun r => ∀ c : Dev Cert.MmTDaRIdeal.nD,
          r.2.mem ((c.tc : Thread Cert.MmTDaRIdeal.nD Cert.MmTDaRIdeal.τ).loc Cert.MmTDaRIdeal.main_v3) = v0 c
          ∧ r.2.mem ((c.tc : Thread Cert.MmTDaRIdeal.nD Cert.MmTDaRIdeal.τ).loc Cert.MmTDaRIdeal.main_arg0) = m' ((c.tc : Thread Cert.MmTDaRIdeal.nD Cert.MmTDaRIdeal.τ).loc Cert.MmTDaRIdeal.main_arg0)
          ∧ r.2.mem ((c.tc : Thread Cert.MmTDaRIdeal.nD Cert.MmTDaRIdeal.τ).loc Cert.MmTDaRIdeal.main_arg1) = m' ((c.tc : Thread Cert.MmTDaRIdeal.nD Cert.MmTDaRIdeal.τ).loc Cert.MmTDaRIdeal.main_arg1)
          ∧ r.2.mem ((c.tc : Thread Cert.MmTDaRIdeal.nD Cert.MmTDaRIdeal.τ).loc Cert.MmTDaRIdeal.main_arg2) = m' ((c.tc : Thread Cert.MmTDaRIdeal.nD Cert.MmTDaRIdeal.τ).loc Cert.MmTDaRIdeal.main_arg2))

def Claim : Prop :=
  ∃ (hMergeK : Cert.MergeK.Facts) (hMergeKIdeal : Cert.MergeKIdeal.Facts) (hMergeRIdeal : Cert.MergeRIdeal.Facts) (hAttnK : Cert.AttnK.Facts) (hAttnKIdeal : Cert.AttnKIdeal.Facts) (hAttnRIdeal : Cert.AttnRIdeal.Facts) (hNormK : Cert.NormK.Facts) (hNormKIdeal : Cert.NormKIdeal.Facts) (hNormRIdeal : Cert.NormRIdeal.Facts) (hNormCK : Cert.NormCK.Facts) (hNormCKIdeal : Cert.NormCKIdeal.Facts) (hNormCRIdeal : Cert.NormCRIdeal.Facts) (hResK : Cert.ResK.Facts) (hResKIdeal : Cert.ResKIdeal.Facts) (hResRIdeal : Cert.ResRIdeal.Facts) (hHeadK : Cert.HeadK.Facts) (hHeadKIdeal : Cert.HeadKIdeal.Facts) (hHeadRIdeal : Cert.HeadRIdeal.Facts) (hGdnOutK : Cert.GdnOutK.Facts) (hGdnOutKIdeal : Cert.GdnOutKIdeal.Facts) (hGdnOutRIdeal : Cert.GdnOutRIdeal.Facts) (hQPrepK : Cert.QPrepK.Facts) (hQPrepKIdeal : Cert.QPrepKIdeal.Facts) (hQPrepRIdeal : Cert.QPrepRIdeal.Facts) (hKPrepK : Cert.KPrepK.Facts) (hKPrepKIdeal : Cert.KPrepKIdeal.Facts) (hKPrepRIdeal : Cert.KPrepRIdeal.Facts) (hFfnK : Cert.FfnK.Facts) (hFfnKIdeal : Cert.FfnKIdeal.Facts) (hFfnRIdeal : Cert.FfnRIdeal.Facts) (hGdnPrepK : Cert.GdnPrepK.Facts) (hGdnPrepKIdeal : Cert.GdnPrepKIdeal.Facts) (hGdnPrepRIdeal : Cert.GdnPrepRIdeal.Facts) (hAttnFK : Cert.AttnFK.Facts) (hAttnFKIdeal : Cert.AttnFKIdeal.Facts) (hAttnFRIdeal : Cert.AttnFRIdeal.Facts) (hMergeFK : Cert.MergeFK.Facts) (hMergeFKIdeal : Cert.MergeFKIdeal.Facts) (hMergeFRIdeal : Cert.MergeFRIdeal.Facts) (hNormFK : Cert.NormFK.Facts) (hNormFKIdeal : Cert.NormFKIdeal.Facts) (hNormFRIdeal : Cert.NormFRIdeal.Facts) (hNormCFK : Cert.NormCFK.Facts) (hNormCFKIdeal : Cert.NormCFKIdeal.Facts) (hNormCFRIdeal : Cert.NormCFRIdeal.Facts) (hResFK : Cert.ResFK.Facts) (hResFKIdeal : Cert.ResFKIdeal.Facts) (hResFRIdeal : Cert.ResFRIdeal.Facts) (hHeadFK : Cert.HeadFK.Facts) (hHeadFKIdeal : Cert.HeadFKIdeal.Facts) (hHeadFRIdeal : Cert.HeadFRIdeal.Facts) (hQPrepFK : Cert.QPrepFK.Facts) (hQPrepFKIdeal : Cert.QPrepFKIdeal.Facts) (hQPrepFRIdeal : Cert.QPrepFRIdeal.Facts) (hKPrepFK : Cert.KPrepFK.Facts) (hKPrepFKIdeal : Cert.KPrepFKIdeal.Facts) (hKPrepFRIdeal : Cert.KPrepFRIdeal.Facts) (hFfnFK : Cert.FfnFK.Facts) (hFfnFKIdeal : Cert.FfnFKIdeal.Facts) (hFfnFRIdeal : Cert.FfnFRIdeal.Facts) (hGdnOutFK : Cert.GdnOutFK.Facts) (hGdnOutFKIdeal : Cert.GdnOutFKIdeal.Facts) (hGdnOutFRIdeal : Cert.GdnOutFRIdeal.Facts) (hGdnPrepFK : Cert.GdnPrepFK.Facts) (hGdnPrepFKIdeal : Cert.GdnPrepFKIdeal.Facts) (hGdnPrepFRIdeal : Cert.GdnPrepFRIdeal.Facts) (hGdnFK : Cert.GdnFK.Facts) (hGdnFKIdeal : Cert.GdnFKIdeal.Facts) (hMmFK : Cert.MmFK.Facts) (hMmFKIdeal : Cert.MmFKIdeal.Facts) (hMmFRIdeal : Cert.MmFRIdeal.Facts) (hMmDwK : Cert.MmDwK.Facts) (hMmDwKIdeal : Cert.MmDwKIdeal.Facts) (hMmDwRIdeal : Cert.MmDwRIdeal.Facts) (hMmTFK : Cert.MmTFK.Facts) (hMmTFKIdeal : Cert.MmTFKIdeal.Facts) (hMmTFRIdeal : Cert.MmTFRIdeal.Facts) (hMmTDwK : Cert.MmTDwK.Facts) (hMmTDwKIdeal : Cert.MmTDwKIdeal.Facts) (hMmTDwRIdeal : Cert.MmTDwRIdeal.Facts) (hMmDaK : Cert.MmDaK.Facts) (hMmDaKIdeal : Cert.MmDaKIdeal.Facts) (hMmDaRIdeal : Cert.MmDaRIdeal.Facts) (hMmTDaK : Cert.MmTDaK.Facts) (hMmTDaKIdeal : Cert.MmTDaKIdeal.Facts) (hMmTDaRIdeal : Cert.MmTDaRIdeal.Facts) (hPre_finite_attn : Cert.Pre_finite_attn.Facts) (hPre_finite_attnf : Cert.Pre_finite_attnf.Facts),
    quiescent_MergeK (hMergeK := hMergeK)
    ∧ quiescent_MergeKIdeal (hMergeKIdeal := hMergeKIdeal)
    ∧ quiescent_MergeRIdeal (hMergeRIdeal := hMergeRIdeal)
    ∧ quiescent_AttnK (hAttnK := hAttnK)
    ∧ quiescent_AttnKIdeal (hAttnKIdeal := hAttnKIdeal)
    ∧ quiescent_AttnKIdeal_pre_finite_attn (hAttnKIdeal := hAttnKIdeal) (hPre_finite_attn := hPre_finite_attn)
    ∧ quiescent_AttnRIdeal (hAttnRIdeal := hAttnRIdeal)
    ∧ quiescent_AttnRIdeal_pre_finite_attn (hAttnRIdeal := hAttnRIdeal) (hPre_finite_attn := hPre_finite_attn)
    ∧ quiescent_NormK (hNormK := hNormK)
    ∧ quiescent_NormKIdeal (hNormKIdeal := hNormKIdeal)
    ∧ quiescent_NormRIdeal (hNormRIdeal := hNormRIdeal)
    ∧ quiescent_NormCK (hNormCK := hNormCK)
    ∧ quiescent_NormCKIdeal (hNormCKIdeal := hNormCKIdeal)
    ∧ quiescent_NormCRIdeal (hNormCRIdeal := hNormCRIdeal)
    ∧ quiescent_ResK (hResK := hResK)
    ∧ quiescent_ResKIdeal (hResKIdeal := hResKIdeal)
    ∧ quiescent_ResRIdeal (hResRIdeal := hResRIdeal)
    ∧ quiescent_HeadK (hHeadK := hHeadK)
    ∧ quiescent_HeadKIdeal (hHeadKIdeal := hHeadKIdeal)
    ∧ quiescent_HeadRIdeal (hHeadRIdeal := hHeadRIdeal)
    ∧ quiescent_GdnOutK (hGdnOutK := hGdnOutK)
    ∧ quiescent_GdnOutKIdeal (hGdnOutKIdeal := hGdnOutKIdeal)
    ∧ quiescent_GdnOutRIdeal (hGdnOutRIdeal := hGdnOutRIdeal)
    ∧ quiescent_QPrepK (hQPrepK := hQPrepK)
    ∧ quiescent_QPrepKIdeal (hQPrepKIdeal := hQPrepKIdeal)
    ∧ quiescent_QPrepRIdeal (hQPrepRIdeal := hQPrepRIdeal)
    ∧ quiescent_KPrepK (hKPrepK := hKPrepK)
    ∧ quiescent_KPrepKIdeal (hKPrepKIdeal := hKPrepKIdeal)
    ∧ quiescent_KPrepRIdeal (hKPrepRIdeal := hKPrepRIdeal)
    ∧ quiescent_FfnK (hFfnK := hFfnK)
    ∧ quiescent_FfnKIdeal (hFfnKIdeal := hFfnKIdeal)
    ∧ quiescent_FfnRIdeal (hFfnRIdeal := hFfnRIdeal)
    ∧ quiescent_GdnPrepK (hGdnPrepK := hGdnPrepK)
    ∧ quiescent_GdnPrepKIdeal (hGdnPrepKIdeal := hGdnPrepKIdeal)
    ∧ quiescent_GdnPrepRIdeal (hGdnPrepRIdeal := hGdnPrepRIdeal)
    ∧ quiescent_AttnFK (hAttnFK := hAttnFK)
    ∧ quiescent_AttnFKIdeal (hAttnFKIdeal := hAttnFKIdeal)
    ∧ quiescent_AttnFKIdeal_pre_finite_attnf (hAttnFKIdeal := hAttnFKIdeal) (hPre_finite_attnf := hPre_finite_attnf)
    ∧ quiescent_AttnFRIdeal (hAttnFRIdeal := hAttnFRIdeal)
    ∧ quiescent_AttnFRIdeal_pre_finite_attnf (hAttnFRIdeal := hAttnFRIdeal) (hPre_finite_attnf := hPre_finite_attnf)
    ∧ quiescent_MergeFK (hMergeFK := hMergeFK)
    ∧ quiescent_MergeFKIdeal (hMergeFKIdeal := hMergeFKIdeal)
    ∧ quiescent_MergeFRIdeal (hMergeFRIdeal := hMergeFRIdeal)
    ∧ quiescent_NormFK (hNormFK := hNormFK)
    ∧ quiescent_NormFKIdeal (hNormFKIdeal := hNormFKIdeal)
    ∧ quiescent_NormFRIdeal (hNormFRIdeal := hNormFRIdeal)
    ∧ quiescent_NormCFK (hNormCFK := hNormCFK)
    ∧ quiescent_NormCFKIdeal (hNormCFKIdeal := hNormCFKIdeal)
    ∧ quiescent_NormCFRIdeal (hNormCFRIdeal := hNormCFRIdeal)
    ∧ quiescent_ResFK (hResFK := hResFK)
    ∧ quiescent_ResFKIdeal (hResFKIdeal := hResFKIdeal)
    ∧ quiescent_ResFRIdeal (hResFRIdeal := hResFRIdeal)
    ∧ quiescent_HeadFK (hHeadFK := hHeadFK)
    ∧ quiescent_HeadFKIdeal (hHeadFKIdeal := hHeadFKIdeal)
    ∧ quiescent_HeadFRIdeal (hHeadFRIdeal := hHeadFRIdeal)
    ∧ quiescent_QPrepFK (hQPrepFK := hQPrepFK)
    ∧ quiescent_QPrepFKIdeal (hQPrepFKIdeal := hQPrepFKIdeal)
    ∧ quiescent_QPrepFRIdeal (hQPrepFRIdeal := hQPrepFRIdeal)
    ∧ quiescent_KPrepFK (hKPrepFK := hKPrepFK)
    ∧ quiescent_KPrepFKIdeal (hKPrepFKIdeal := hKPrepFKIdeal)
    ∧ quiescent_KPrepFRIdeal (hKPrepFRIdeal := hKPrepFRIdeal)
    ∧ quiescent_FfnFK (hFfnFK := hFfnFK)
    ∧ quiescent_FfnFKIdeal (hFfnFKIdeal := hFfnFKIdeal)
    ∧ quiescent_FfnFRIdeal (hFfnFRIdeal := hFfnFRIdeal)
    ∧ quiescent_GdnOutFK (hGdnOutFK := hGdnOutFK)
    ∧ quiescent_GdnOutFKIdeal (hGdnOutFKIdeal := hGdnOutFKIdeal)
    ∧ quiescent_GdnOutFRIdeal (hGdnOutFRIdeal := hGdnOutFRIdeal)
    ∧ quiescent_GdnPrepFK (hGdnPrepFK := hGdnPrepFK)
    ∧ quiescent_GdnPrepFKIdeal (hGdnPrepFKIdeal := hGdnPrepFKIdeal)
    ∧ quiescent_GdnPrepFRIdeal (hGdnPrepFRIdeal := hGdnPrepFRIdeal)
    ∧ quiescent_GdnFK (hGdnFK := hGdnFK)
    ∧ quiescent_GdnFKIdeal (hGdnFKIdeal := hGdnFKIdeal)
    ∧ quiescent_MmFK (hMmFK := hMmFK)
    ∧ quiescent_MmFKIdeal (hMmFKIdeal := hMmFKIdeal)
    ∧ quiescent_MmFRIdeal (hMmFRIdeal := hMmFRIdeal)
    ∧ quiescent_MmDwK (hMmDwK := hMmDwK)
    ∧ quiescent_MmDwKIdeal (hMmDwKIdeal := hMmDwKIdeal)
    ∧ quiescent_MmDwRIdeal (hMmDwRIdeal := hMmDwRIdeal)
    ∧ quiescent_MmTFK (hMmTFK := hMmTFK)
    ∧ quiescent_MmTFKIdeal (hMmTFKIdeal := hMmTFKIdeal)
    ∧ quiescent_MmTFRIdeal (hMmTFRIdeal := hMmTFRIdeal)
    ∧ quiescent_MmTDwK (hMmTDwK := hMmTDwK)
    ∧ quiescent_MmTDwKIdeal (hMmTDwKIdeal := hMmTDwKIdeal)
    ∧ quiescent_MmTDwRIdeal (hMmTDwRIdeal := hMmTDwRIdeal)
    ∧ quiescent_MmDaK (hMmDaK := hMmDaK)
    ∧ quiescent_MmDaKIdeal (hMmDaKIdeal := hMmDaKIdeal)
    ∧ quiescent_MmDaRIdeal (hMmDaRIdeal := hMmDaRIdeal)
    ∧ quiescent_MmTDaK (hMmTDaK := hMmTDaK)
    ∧ quiescent_MmTDaKIdeal (hMmTDaKIdeal := hMmTDaKIdeal)
    ∧ quiescent_MmTDaRIdeal (hMmTDaRIdeal := hMmTDaRIdeal)
    ∧ preserves_MergeK_MergeKIdeal
    ∧ algebraic_MergeKIdeal_MergeRIdeal (hMergeKIdeal := hMergeKIdeal) (hMergeRIdeal := hMergeRIdeal)
    ∧ preserves_AttnK_AttnKIdeal
    ∧ algebraic_AttnKIdeal_AttnRIdeal_pre_finite_attn (hAttnKIdeal := hAttnKIdeal) (hAttnRIdeal := hAttnRIdeal) (hPre_finite_attn := hPre_finite_attn)
    ∧ preserves_NormK_NormKIdeal
    ∧ algebraic_NormKIdeal_NormRIdeal (hNormKIdeal := hNormKIdeal) (hNormRIdeal := hNormRIdeal)
    ∧ preserves_NormCK_NormCKIdeal
    ∧ algebraic_NormCKIdeal_NormCRIdeal (hNormCKIdeal := hNormCKIdeal) (hNormCRIdeal := hNormCRIdeal)
    ∧ preserves_ResK_ResKIdeal
    ∧ algebraic_ResKIdeal_ResRIdeal (hResKIdeal := hResKIdeal) (hResRIdeal := hResRIdeal)
    ∧ preserves_HeadK_HeadKIdeal
    ∧ algebraic_HeadKIdeal_HeadRIdeal (hHeadKIdeal := hHeadKIdeal) (hHeadRIdeal := hHeadRIdeal)
    ∧ preserves_GdnOutK_GdnOutKIdeal
    ∧ algebraic_GdnOutKIdeal_GdnOutRIdeal (hGdnOutKIdeal := hGdnOutKIdeal) (hGdnOutRIdeal := hGdnOutRIdeal)
    ∧ preserves_QPrepK_QPrepKIdeal
    ∧ algebraic_QPrepKIdeal_QPrepRIdeal (hQPrepKIdeal := hQPrepKIdeal) (hQPrepRIdeal := hQPrepRIdeal)
    ∧ preserves_KPrepK_KPrepKIdeal
    ∧ algebraic_KPrepKIdeal_KPrepRIdeal (hKPrepKIdeal := hKPrepKIdeal) (hKPrepRIdeal := hKPrepRIdeal)
    ∧ preserves_FfnK_FfnKIdeal
    ∧ algebraic_FfnKIdeal_FfnRIdeal (hFfnKIdeal := hFfnKIdeal) (hFfnRIdeal := hFfnRIdeal)
    ∧ preserves_GdnPrepK_GdnPrepKIdeal
    ∧ algebraic_GdnPrepKIdeal_GdnPrepRIdeal (hGdnPrepKIdeal := hGdnPrepKIdeal) (hGdnPrepRIdeal := hGdnPrepRIdeal)
    ∧ preserves_AttnFK_AttnFKIdeal
    ∧ algebraic_AttnFKIdeal_AttnFRIdeal_pre_finite_attnf (hAttnFKIdeal := hAttnFKIdeal) (hAttnFRIdeal := hAttnFRIdeal) (hPre_finite_attnf := hPre_finite_attnf)
    ∧ preserves_MergeFK_MergeFKIdeal
    ∧ algebraic_MergeFKIdeal_MergeFRIdeal (hMergeFKIdeal := hMergeFKIdeal) (hMergeFRIdeal := hMergeFRIdeal)
    ∧ preserves_NormFK_NormFKIdeal
    ∧ algebraic_NormFKIdeal_NormFRIdeal (hNormFKIdeal := hNormFKIdeal) (hNormFRIdeal := hNormFRIdeal)
    ∧ preserves_NormCFK_NormCFKIdeal
    ∧ algebraic_NormCFKIdeal_NormCFRIdeal (hNormCFKIdeal := hNormCFKIdeal) (hNormCFRIdeal := hNormCFRIdeal)
    ∧ preserves_ResFK_ResFKIdeal
    ∧ algebraic_ResFKIdeal_ResFRIdeal (hResFKIdeal := hResFKIdeal) (hResFRIdeal := hResFRIdeal)
    ∧ preserves_HeadFK_HeadFKIdeal
    ∧ algebraic_HeadFKIdeal_HeadFRIdeal (hHeadFKIdeal := hHeadFKIdeal) (hHeadFRIdeal := hHeadFRIdeal)
    ∧ preserves_QPrepFK_QPrepFKIdeal
    ∧ algebraic_QPrepFKIdeal_QPrepFRIdeal (hQPrepFKIdeal := hQPrepFKIdeal) (hQPrepFRIdeal := hQPrepFRIdeal)
    ∧ preserves_KPrepFK_KPrepFKIdeal
    ∧ algebraic_KPrepFKIdeal_KPrepFRIdeal (hKPrepFKIdeal := hKPrepFKIdeal) (hKPrepFRIdeal := hKPrepFRIdeal)
    ∧ preserves_FfnFK_FfnFKIdeal
    ∧ algebraic_FfnFKIdeal_FfnFRIdeal (hFfnFKIdeal := hFfnFKIdeal) (hFfnFRIdeal := hFfnFRIdeal)
    ∧ preserves_GdnOutFK_GdnOutFKIdeal
    ∧ algebraic_GdnOutFKIdeal_GdnOutFRIdeal (hGdnOutFKIdeal := hGdnOutFKIdeal) (hGdnOutFRIdeal := hGdnOutFRIdeal)
    ∧ preserves_GdnPrepFK_GdnPrepFKIdeal
    ∧ algebraic_GdnPrepFKIdeal_GdnPrepFRIdeal (hGdnPrepFKIdeal := hGdnPrepFKIdeal) (hGdnPrepFRIdeal := hGdnPrepFRIdeal)
    ∧ preserves_GdnFK_GdnFKIdeal
    ∧ preserves_MmFK_MmFKIdeal
    ∧ algebraic_MmFKIdeal_MmFRIdeal (hMmFKIdeal := hMmFKIdeal) (hMmFRIdeal := hMmFRIdeal)
    ∧ preserves_MmDwK_MmDwKIdeal
    ∧ algebraic_MmDwKIdeal_MmDwRIdeal (hMmDwKIdeal := hMmDwKIdeal) (hMmDwRIdeal := hMmDwRIdeal)
    ∧ preserves_MmTFK_MmTFKIdeal
    ∧ algebraic_MmTFKIdeal_MmTFRIdeal (hMmTFKIdeal := hMmTFKIdeal) (hMmTFRIdeal := hMmTFRIdeal)
    ∧ preserves_MmTDwK_MmTDwKIdeal
    ∧ algebraic_MmTDwKIdeal_MmTDwRIdeal (hMmTDwKIdeal := hMmTDwKIdeal) (hMmTDwRIdeal := hMmTDwRIdeal)
    ∧ preserves_MmDaK_MmDaKIdeal
    ∧ algebraic_MmDaKIdeal_MmDaRIdeal (hMmDaKIdeal := hMmDaKIdeal) (hMmDaRIdeal := hMmDaRIdeal)
    ∧ preserves_MmTDaK_MmTDaKIdeal
    ∧ algebraic_MmTDaKIdeal_MmTDaRIdeal (hMmTDaKIdeal := hMmTDaKIdeal) (hMmTDaRIdeal := hMmTDaRIdeal)
-- ==== Pre_finite_attn.lean ====
abbrev S2048x1024 : Shape := ⟨2, ![2048, 1024]⟩
abbrev S2304x256 : Shape := ⟨2, ![2304, 256]⟩
abbrev S_ : Shape := ⟨0, ![]⟩

class Facts : Prop where
  bcast_S_S2048x1024 : S_.BroadcastsInDim S2048x1024 (![] : Fin 0 → Fin S2048x1024.rank)
  bcast_S_S2304x256 : S_.BroadcastsInDim S2304x256 (![] : Fin 0 → Fin S2304x256.rank)

variable [Facts]

def fn {F : FTy → Type} [FloatOps F] (main_arg0 : FVec F S2048x1024 .f32) (main_arg1 : FVec F S2304x256 .f32) (main_arg2 : FVec F S2304x256 .f32) (main_arg3 : FVec F S2048x1024 .f32) : IVec S2048x1024 1 × IVec S2304x256 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2304x256 .f32 := Host.absf main_arg1
  let main_cst_0 : FVec F S_ .f32 := constant S_ .f32 0x7F800000#32
  let main_v4 : FVec F S2304x256 .f32 := broadcastInDim S2304x256 ![] bcast_S_S2304x256 main_cst_0
  let main_v5 : IVec S2304x256 1 := cmpf .olt main_v3 main_v4
  (main_v2, main_v5)
-- ==== Pre_finite_attnf.lean ====
abbrev S2048x1024 : Shape := ⟨2, ![2048, 1024]⟩
abbrev S2304x256 : Shape := ⟨2, ![2304, 256]⟩
abbrev S_ : Shape := ⟨0, ![]⟩

class Facts : Prop where
  bcast_S_S2048x1024 : S_.BroadcastsInDim S2048x1024 (![] : Fin 0 → Fin S2048x1024.rank)
  bcast_S_S2304x256 : S_.BroadcastsInDim S2304x256 (![] : Fin 0 → Fin S2304x256.rank)

variable [Facts]

def fn {F : FTy → Type} [FloatOps F] (main_arg0 : FVec F S2048x1024 .f32) (main_arg1 : FVec F S2304x256 .f32) (main_arg2 : FVec F S2304x256 .f32) : IVec S2048x1024 1 × IVec S2304x256 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2304x256 .f32 := Host.absf main_arg1
  let main_cst_0 : FVec F S_ .f32 := constant S_ .f32 0x7F800000#32
  let main_v4 : FVec F S2304x256 .f32 := broadcastInDim S2304x256 ![] bcast_S_S2304x256 main_cst_0
  let main_v5 : IVec S2304x256 1 := cmpf .olt main_v3 main_v4
  (main_v2, main_v5)
-- ==== MergeK.lean ====
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x2048, .f32⟩
  | .local _ .vmem, ⟨13, _⟩ => ⟨S256x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRIdeal.lean ====
abbrev S2048x1024 : Shape := ⟨2, ![2048, 1024]⟩
abbrev S2048x2048 : Shape := ⟨2, ![2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== AttnK.lean ====
abbrev S2048x1024 : Shape := ⟨2, ![2048, 1024]⟩
abbrev S2304x256 : Shape := ⟨2, ![2304, 256]⟩
abbrev S256x128 : Shape := ⟨2, ![256, 128]⟩
abbrev S2304x128 : Shape := ⟨2, ![2304, 128]⟩
abbrev S128x128 : Shape := ⟨2, ![128, 128]⟩
abbrev S128x2304 : Shape := ⟨2, ![128, 2304]⟩
abbrev S128 : Shape := ⟨1, ![128]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .hbm, ⟨4, _⟩ => ⟨S2048x1024, .f32⟩
  | .hbm, ⟨5, _⟩ => ⟨S2304x256, .f32⟩
  | .hbm, ⟨6, _⟩ => ⟨S2304x256, .f32⟩
  | .local _ .vmem, ⟨0, _⟩ => ⟨S256x128, .f32⟩
  | .local _ .vmem, ⟨1, _⟩ => ⟨S256x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== AttnRIdeal.lean ====
abbrev S2048x1024 : Shape := ⟨2, ![2048, 1024]⟩
abbrev S2304x256 : Shape := ⟨2, ![2304, 256]⟩
abbrev S1x2048x2x4x128 : Shape := ⟨5, ![1, 2048, 2, 4, 128]⟩
abbrev S1x2304x2x128 : Shape := ⟨4, ![1, 2304, 2, 128]⟩
abbrev S1x2x2304x2048x4 : Shape := ⟨5, ![1, 2, 2304, 2048, 4]⟩
abbrev S1x2x4x2048x2304 : Shape := ⟨5, ![1, 2, 4, 2048, 2304]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x2x128x4x2048 : Shape := ⟨5, ![1, 2, 128, 4, 2048]⟩
abbrev S1x2x128x2304 : Shape := ⟨4, ![1, 2, 128, 2304]⟩
abbrev S2x4x2048 : Shape := ⟨3, ![2, 4, 2048]⟩
abbrev S1x2x2048x4x128 : Shape := ⟨5, ![1, 2, 2048, 4, 128]⟩
abbrev S1x2x2304x128 : Shape := ⟨4, ![1, 2, 2304, 128]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .hbm, ⟨4, _⟩ => ⟨S1x2048x2x4x128, .f32⟩
  | .hbm, ⟨5, _⟩ => ⟨S1x2304x2x128, .f32⟩
  | .hbm, ⟨6, _⟩ => ⟨S1x2304x2x128, .f32⟩
  | .hbm, ⟨7, _⟩ => ⟨S1x2x2304x2048x4, .f32⟩
  | .hbm, ⟨8, _⟩ => ⟨S1x2x4x2048x2304, .f32⟩
  | .hbm, ⟨9, _⟩ => ⟨S_, .f32⟩
  | .hbm, ⟨10, _⟩ => ⟨S1x2x4x2048x2304, .f32⟩
  | .hbm, ⟨11, _⟩ => ⟨S1x2x4x2048x2304, .f32⟩
  | .hbm, ⟨12, _⟩ => ⟨S_, .f32⟩
  | .hbm, ⟨13, _⟩ => ⟨S1x2x4x2048, .f32⟩
  | .hbm, ⟨14, _⟩ => ⟨S1x2x4x2048x1, .f32⟩
  | .hbm, ⟨15, _⟩ => ⟨S1x2x4x2048x2304, .f32⟩
  | .hbm, ⟨16, _⟩ => ⟨S1x2x4x2048x2304, .i1⟩
  | .hbm, ⟨17, _⟩ => ⟨S1x2x4x2048x2304, .f32⟩
  | .hbm, ⟨18, _⟩ => ⟨S_, .f32⟩
  | .hbm, ⟨19, _⟩ => ⟨S1x2x4x2048, .f32⟩
  | .hbm, ⟨20, _⟩ => ⟨S_, .f32⟩
  | .hbm, ⟨21, _⟩ => ⟨S1x2x4x2048, .f32⟩
  | .hbm, ⟨22, _⟩ => ⟨S1x2x4x2048, .f32⟩
  | .hbm, ⟨23, _⟩ => ⟨S_, .f32⟩
  | .hbm, ⟨24, _⟩ => ⟨S1x2x4x2048, .f32⟩
  | .hbm, ⟨25, _⟩ => ⟨S1x2x4x2048, .i1⟩
  | .hbm, ⟨26, _⟩ => ⟨S_, .f32⟩
  | .hbm, ⟨27, _⟩ => ⟨S1x2x4x2048, .f32⟩
  | .hbm, ⟨28, _⟩ => ⟨S1x2x4x2048, .i1⟩
  | .hbm, ⟨29, _⟩ => ⟨S_, .f32⟩
  | .hbm, ⟨30, _⟩ => ⟨S1x2x4x2048, .f32⟩
  | .hbm, ⟨31, _⟩ => ⟨S_, .f32⟩
  | .hbm, ⟨32, _⟩ => ⟨S1x2x4x2048, .f32⟩
  | .hbm, ⟨33, _⟩ => ⟨S_, .f32⟩
  | .hbm, ⟨34, _⟩ => ⟨S1x2x4x2048, .f32⟩
  | .hbm, ⟨35, _⟩ => ⟨S1x2x4x2048, .f32⟩
  | .hbm, ⟨36, _⟩ => ⟨S1x2x4x2048, .f32⟩
  | .hbm, ⟨37, _⟩ => ⟨S1x2x4x2048x1, .f32⟩
  | .hbm, ⟨38, _⟩ => ⟨S1x2x4x2048x2304, .f32⟩
  | .hbm, ⟨39, _⟩ => ⟨S1x2x4x2048x2304, .f32⟩
  | .hbm, ⟨40, _⟩ => ⟨S1x2x4x2048x2304, .f32⟩
  | .hbm, ⟨41, _⟩ => ⟨S_, .f32⟩
  | .hbm, ⟨42, _⟩ => ⟨S1x2x4x2048, .f32⟩
  | .hbm, ⟨43, _⟩ => ⟨S1x2x4x2048x1, .f32⟩
  | .hbm, ⟨44, _⟩ => ⟨S1x2x4x2048x2304, .f32⟩
  | .hbm, ⟨45, _⟩ => ⟨S1x2x4x2048x2304, .f32⟩
  | .hbm, ⟨46, _⟩ => ⟨S1x2x4x2048x1, .f32⟩
  | .hbm, ⟨47, _⟩ => ⟨S_, .f32⟩
  | .hbm, ⟨48, _⟩ => ⟨S1x2x4x2048x1, .f32⟩
  | .hbm, ⟨49, _⟩ => ⟨S1x2x4x2048x1, .f32⟩
  | .hbm, ⟨50, _⟩ => ⟨S1x2x128x4x2048, .f32⟩
  | .hbm, ⟨51, _⟩ => ⟨S1x2048x2x4x128, .f32⟩
  | .hbm, ⟨52, _⟩ => ⟨S2048x1024, .f32⟩
  | .hbm, ⟨53, _⟩ => ⟨S1x2048x2x4x128, .f32⟩
  | .hbm, ⟨54, _⟩ => ⟨S1x2x128x4x2048, .f32⟩
  | .hbm, ⟨55, _⟩ => ⟨S1x2x4x2048x2304, .f32⟩
  | .hbm, ⟨56, _⟩ => ⟨S1x2x128x2304, .f32⟩
  | .hbm, ⟨57, _⟩ => ⟨S1x2304x2x128, .f32⟩
  | .hbm, ⟨58, _⟩ => ⟨S1x2x4x2048x2304, .f32⟩
  | .hbm, ⟨59, _⟩ => ⟨S1x2x4x2048x2304, .f32⟩
  | .hbm, ⟨60, _⟩ => ⟨S1x2x4x2048x2304, .f32⟩
  | .hbm, ⟨61, _⟩ => ⟨S_, .f32⟩
  | .hbm, ⟨62, _⟩ => ⟨S1x2x4x2048, .f32⟩
  | .hbm, ⟨63, _⟩ => ⟨S1x2x4x2048x1, .f32⟩
  | .hbm, ⟨64, _⟩ => ⟨S1x2x4x2048x1, .f32⟩
  | .hbm, ⟨65, _⟩ => ⟨S1x2x4x2048x2304, .f32⟩
  | .hbm, ⟨66, _⟩ => ⟨S1x2x4x2048x2304, .f32⟩
  | .hbm, ⟨67, _⟩ => ⟨S_, .f32⟩
  | .hbm, ⟨68, _⟩ => ⟨S2x4x2048, .f32⟩
  | .hbm, ⟨69, _⟩ => ⟨S1x2x4x2048, .f32⟩
  | .hbm, ⟨70, _⟩ => ⟨S1x2x4x2048x2304, .f32⟩
  | .hbm, ⟨71, _⟩ => ⟨S1x2x4x2048x2304, .f32⟩
  | .hbm, ⟨72, _⟩ => ⟨S1x2x4x2048x2304, .f32⟩
  | .hbm, ⟨73, _⟩ => ⟨S_, .f32⟩
  | .hbm, ⟨74, _⟩ => ⟨S1x2x4x2048x2304, .f32⟩
  | .hbm, ⟨75, _⟩ => ⟨S1x2x4x2048x2304, .f32⟩
  | .hbm, ⟨76, _⟩ => ⟨S1x2x2304x2048x4, .f32⟩
  | .hbm, ⟨77, _⟩ => ⟨S1x2x2048x4x128, .f32⟩
  | .hbm, ⟨78, _⟩ => ⟨S1x2048x2x4x128, .f32⟩
  | .hbm, ⟨79, _⟩ => ⟨S1x2x2304x128, .f32⟩
  | .hbm, ⟨80, _⟩ => ⟨S1x2304x2x128, .f32⟩
  | .hbm, ⟨81, _⟩ => ⟨S2304x256, .f32⟩
  | .hbm, ⟨82, _⟩ => ⟨S2304x256, .f32⟩
  | .hbm, ⟨83, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== NormK.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormCK.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormCRIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== ResK.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ResRIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== HeadK.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048x128 : Shape := ⟨2, ![2048, 128]⟩
abbrev S2048x1 : Shape := ⟨2, ![2048, 1]⟩
abbrev S2048 : Shape := ⟨1, ![2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048x128, .f32⟩
  | .hbm, ⟨7, _⟩ => ⟨S2048x1, .f32⟩
  | .hbm, ⟨8, _⟩ => ⟨S2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x128, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadRIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== GdnOutK.lean ====
abbrev S2048x1024 : Shape := ⟨2, ![2048, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GdnOutRIdeal.lean ====
abbrev S2048x1024 : Shape := ⟨2, ![2048, 1024]⟩
abbrev S1x128 : Shape := ⟨2, ![1, 128]⟩
abbrev S1x2048x8x128 : Shape := ⟨4, ![1, 2048, 8, 128]⟩
abbrev S1x8x2048x128 : Shape := ⟨4, ![1, 8, 2048, 128]⟩
abbrev S1x2048x1024 : Shape := ⟨3, ![1, 2048, 1024]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S2048x8 : Shape := ⟨2, ![2048, 8]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .hbm, ⟨4, _⟩ => ⟨S1x2048x8x128, .f32⟩
  | .hbm, ⟨5, _⟩ => ⟨S1x8x2048x128, .f32⟩
  | .hbm, ⟨6, _⟩ => ⟨S1x2048x1024, .f32⟩
  | .hbm, ⟨7, _⟩ => ⟨S128, .f32⟩
  | .hbm, ⟨8, _⟩ => ⟨S1x2048x8x128, .f32⟩
  | .hbm, ⟨9, _⟩ => ⟨S1x2048x8x128, .f32⟩
  | .hbm, ⟨10, _⟩ => ⟨S_, .f32⟩
  | .hbm, ⟨11, _⟩ => ⟨S1x2048x8, .f32⟩
  | .hbm, ⟨12, _⟩ => ⟨S1x2048x8x1, .f32⟩
  | .hbm, ⟨13, _⟩ => ⟨S_, .f32⟩
  | .hbm, ⟨14, _⟩ => ⟨S1x2048x8x1, .f32⟩
  | .hbm, ⟨15, _⟩ => ⟨S1x2048x8x1, .f32⟩
  | .hbm, ⟨16, _⟩ => ⟨S_, .f32⟩
  | .hbm, ⟨17, _⟩ => ⟨S1x2048x8x1, .f32⟩
  | .hbm, ⟨18, _⟩ => ⟨S1x2048x8x1, .f32⟩
  | .hbm, ⟨19, _⟩ => ⟨S1x2048x8x1, .f32⟩
  | .hbm, ⟨20, _⟩ => ⟨S1x2048x8x1, .f32⟩
  | .hbm, ⟨21, _⟩ => ⟨S_, .f32⟩
  | .hbm, ⟨22, _⟩ => ⟨S1x2048x8x1, .f32⟩
  | .hbm, ⟨23, _⟩ => ⟨S1x2048x8x1, .f32⟩
  | .hbm, ⟨24, _⟩ => ⟨S1x2048x8x128, .f32⟩
  | .hbm, ⟨25, _⟩ => ⟨S1x2048x8x128, .f32⟩
  | .hbm, ⟨26, _⟩ => ⟨S1x1x1x128, .f32⟩
  | .hbm, ⟨27, _⟩ => ⟨S1x2048x8x128, .f32⟩
  | .hbm, ⟨28, _⟩ => ⟨S1x2048x8x128, .f32⟩
  | .hbm, ⟨29, _⟩ => ⟨S1x2048x8x128, .f32⟩
  | .hbm, ⟨30, _⟩ => ⟨S1x2048x8x128, .f32⟩
  | .hbm, ⟨31, _⟩ => ⟨S1x2048x8x128, .f32⟩
  | .hbm, ⟨32, _⟩ => ⟨S_, .f32⟩
  | .hbm, ⟨33, _⟩ => ⟨S1x2048x8x128, .f32⟩
  | .hbm, ⟨34, _⟩ => ⟨S1x2048x8x128, .f32⟩
  | .hbm, ⟨35, _⟩ => ⟨S_, .f32⟩
  | .hbm, ⟨36, _⟩ => ⟨S1x2048x8x128, .f32⟩
  | .hbm, ⟨37, _⟩ => ⟨S1x2048x8x128, .f32⟩
  | .hbm, ⟨38, _⟩ => ⟨S_, .f32⟩
  | .hbm, ⟨39, _⟩ => ⟨S1x2048x8x128, .f32⟩
  | .hbm, ⟨40, _⟩ => ⟨S1x2048x8x128, .f32⟩
  | .hbm, ⟨41, _⟩ => ⟨S1x2048x8x128, .f32⟩
  | .hbm, ⟨42, _⟩ => ⟨S1x2048x8x128, .f32⟩
  | .hbm, ⟨43, _⟩ => ⟨S1x2048x8x128, .f32⟩
  | .hbm, ⟨44, _⟩ => ⟨S1x2048x1024, .f32⟩
  | .hbm, ⟨45, _⟩ => ⟨S2048x1024, .f32⟩
  | .hbm, ⟨46, _⟩ => ⟨S1x2048x1024, .f32⟩
  | .hbm, ⟨47, _⟩ => ⟨S1x2048x8x128, .f32⟩
  | .hbm, ⟨48, _⟩ => ⟨S1x2048x8x128, .f32⟩
  | .hbm, ⟨49, _⟩ => ⟨S1x2048x8x128, .f32⟩
  | .hbm, ⟨50, _⟩ => ⟨S1x2048x8x128, .f32⟩
  | .hbm, ⟨51, _⟩ => ⟨S1x2048x8x128, .f32⟩
  | .hbm, ⟨52, _⟩ => ⟨S1x2048x8x128, .f32⟩
  | .hbm, ⟨53, _⟩ => ⟨S1x2048x8x128, .f32⟩
  | .hbm, ⟨54, _⟩ => ⟨S1x2048x1024, .f32⟩
  | .hbm, ⟨55, _⟩ => ⟨S1x2048x8x128, .f32⟩
  | .hbm, ⟨56, _⟩ => ⟨S_, .f32⟩
  | .hbm, ⟨57, _⟩ => ⟨S1x128, .f32⟩
  | .hbm, ⟨58, _⟩ => ⟨S1x1x1x128, .f32⟩
  | .hbm, ⟨59, _⟩ => ⟨S1x2048x8x128, .f32⟩
  | .hbm, ⟨60, _⟩ => ⟨S1x2048x8x128, .f32⟩
  | .hbm, ⟨61, _⟩ => ⟨S_, .f32⟩
  | .hbm, ⟨62, _⟩ => ⟨S128, .f32⟩
  | .hbm, ⟨63, _⟩ => ⟨S1x2048x8x128, .f32⟩
  | .hbm, ⟨64, _⟩ => ⟨S_, .f32⟩
  | .hbm, ⟨65, _⟩ => ⟨S1x2048x8, .f32⟩
  | .hbm, ⟨66, _⟩ => ⟨S1x2048x8x1, .f32⟩
  | .hbm, ⟨67, _⟩ => ⟨S1x2048x8x128, .f32⟩
  | .hbm, ⟨68, _⟩ => ⟨S1x2048x8x128, .f32⟩
  | .hbm, ⟨69, _⟩ => ⟨S1x2048x8x1, .f32⟩
  | .hbm, ⟨70, _⟩ => ⟨S_, .f32⟩
  | .hbm, ⟨71, _⟩ => ⟨S1x2048x8x1, .f32⟩
  | .hbm, ⟨72, _⟩ => ⟨S1x2048x8x1, .f32⟩
  | .hbm, ⟨73, _⟩ => ⟨S_, .f32⟩
  | .hbm, ⟨74, _⟩ => ⟨S2048x8, .f32⟩
  | .hbm, ⟨75, _⟩ => ⟨S1x2048x8, .f32⟩
  | .hbm, ⟨76, _⟩ => ⟨S1x2048x8x128, .f32⟩
  | .hbm, ⟨77, _⟩ => ⟨S1x2048x8x128, .f32⟩
  | .hbm, ⟨78, _⟩ => ⟨S1x2048x8x128, .f32⟩
  | .hbm, ⟨79, _⟩ => ⟨S1x2048x8x128, .f32⟩
  | .hbm, ⟨80, _⟩ => ⟨S1x2048x8x128, .f32⟩
  | .hbm, ⟨81, _⟩ => ⟨S1x8x2048x128, .f32⟩
  | .hbm, ⟨82, _⟩ => ⟨S1x128, .f32⟩
  | .hbm, ⟨83, _⟩ => ⟨S_, .f32⟩
  | .hbm, ⟨84, _⟩ => ⟨S2048x1024, .f32⟩
  | .hbm, ⟨85, _⟩ => ⟨S1x2048x8x128, .f32⟩
  | .hbm, ⟨86, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== QPrepK.lean ====
abbrev S2048x1024 : Shape := ⟨2, ![2048, 1024]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S128x1 : Shape := ⟨2, ![128, 1]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩

abbrev nBuf : Space → Nat
  | .hbm => 81
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x128, .f32⟩
  | .hbm, ⟨2, _⟩ => ⟨S2048x1024, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x128, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x128, .f32⟩
  | .hbm, ⟨48, _⟩ => ⟨S_, .f32⟩
  | .hbm, ⟨49, _⟩ => ⟨S256x128, .f32⟩
  | .hbm, ⟨50, _⟩ => ⟨S2304x128, .f32⟩
  | .hbm, ⟨51, _⟩ => ⟨S_, .f32⟩
  | .hbm, ⟨52, _⟩ => ⟨S256x128, .f32⟩
  | .hbm, ⟨53, _⟩ => ⟨S2304x128, .f32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S128x1, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S_, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S2048x1024, .f32⟩
  | .hbm, ⟨80, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v58 : Ref sig .tc := ⟨.hbm, 77, rfl⟩
abbrev main_v59 : Ref sig .tc := ⟨.hbm, 78, rfl⟩
abbrev main_v60_0 : Ref sig .tc := ⟨.hbm, 79, rfl⟩
abbrev main_v60_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QPrepRIdeal.lean ====
abbrev S2048x1024 : Shape := ⟨2, ![2048, 1024]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x2x32 : Shape := ⟨3, ![2048, 2, 32]⟩
abbrev S1x2048x8x128 : Shape := ⟨4, ![1, 2048, 8, 128]⟩
abbrev S128 : Shape := ⟨1, ![128]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S1x2048x8x2x2x32 : Shape := ⟨6, ![1, 2048, 8, 2, 2, 32]⟩
abbrev S1x2048x8x2x1x32 : Shape := ⟨6, ![1, 2048, 8, 2, 1, 32]⟩
abbrev S1x2048x8x2x32 : Shape := ⟨5, ![1, 2048, 8, 2, 32]⟩
abbrev S1x2048x1x2x32 : Shape := ⟨5, ![1, 2048, 1, 2, 32]⟩
abbrev S2048x8 : Shape := ⟨2, ![2048, 8]⟩

abbrev nBuf : Space → Nat
  | .hbm => 136
  | .vmem => 0
  | .smem => 0
  | _ => 0

abbrev hbmTy0_0 (i : Nat) : BufTy := match i % 128 with
  | 0 => ⟨S2048x1024, .f32⟩
  | 1 => ⟨S1x128, .f32⟩
  | 2 => ⟨S2048x1024, .f32⟩
  | 3 => ⟨S32, .f32⟩
  | 4 => ⟨S32x1, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x64, .f32⟩
  | 36 => ⟨S2048x2x32, .f32⟩
  | 37 => ⟨S2048x2x32, .f32⟩
  | 38 => ⟨S2048x2x32, .f32⟩
  | 39 => ⟨S1x2048x8x128, .f32⟩
  | 40 => ⟨S128, .f32⟩
  | 41 => ⟨S1x2048x8x128, .f32⟩
  | 42 => ⟨S_, .f32⟩
  | 43 => ⟨S1x2048x8, .f32⟩
  | 44 => ⟨S1x2048x8x1, .f32⟩
  | 45 => ⟨S_, .f32⟩
  | 46 => ⟨S1x2048x8x1, .f32⟩
  | 47 => ⟨S1x2048x8x1, .f32⟩
  | 48 => ⟨S_, .f32⟩
  | 49 => ⟨S1x2048x8x1, .f32⟩
  | 50 => ⟨S1x2048x8x1, .f32⟩
  | 51 => ⟨S1x2048x8x1, .f32⟩
  | 52 => ⟨S1x2048x8x1, .f32⟩
  | 53 => ⟨S_, .f32⟩
  | 54 => ⟨S1x2048x8x1, .f32⟩
  | 55 => ⟨S1x2048x8x1, .f32⟩
  | 56 => ⟨S1x2048x8x128, .f32⟩
  | 57 => ⟨S1x2048x8x128, .f32⟩
  | 58 => ⟨S1x1x1x128, .f32⟩
  | 59 => ⟨S1x2048x8x128, .f32⟩
  | 60 => ⟨S1x2048x8x128, .f32⟩
  | 61 => ⟨S1x2048x8x2x2x32, .f32⟩
  | 62 => ⟨S1x2048x8x2x1x32, .f32⟩
  | 63 => ⟨S1x2048x8x2x32, .f32⟩
  | 64 => ⟨S1x2048x8x2x1x32, .f32⟩
  | 65 => ⟨S1x2048x8x2x32, .f32⟩
  | 66 => ⟨S1x2048x1x2x32, .f32⟩
  | 67 => ⟨S1x2048x1x2x32, .f32⟩
  | 68 => ⟨S1x2048x8x2x32, .f32⟩
  | 69 => ⟨S1x2048x8x2x32, .f32⟩
  | 70 => ⟨S1x2048x8x2x32, .f32⟩
  | 71 => ⟨S1x2048x8x2x32, .f32⟩
  | 72 => ⟨S1x2048x8x2x32, .f32⟩
  | 73 => ⟨S1x2048x8x2x32, .f32⟩
  | 74 => ⟨S1x2048x8x2x32, .f32⟩
  | 75 => ⟨S1x2048x8x2x32, .f32⟩
  | 76 => ⟨S1x2048x8x2x32, .f32⟩
  | 77 => ⟨S1x2048x8x2x32, .f32⟩
  | 78 => ⟨S1x2048x8x2x1x32, .f32⟩
  | 79 => ⟨S1x2048x8x2x1x32, .f32⟩
  | 80 => ⟨S1x2048x8x2x2x32, .f32⟩
  | 81 => ⟨S1x2048x8x128, .f32⟩
  | 82 => ⟨S2048x1024, .f32⟩
  | 83 => ⟨S1x2048x8x128, .f32⟩
  | 84 => ⟨S1x2048x8x2x2x32, .f32⟩
  | 85 => ⟨S1x2048x8x2x1x32, .f32⟩
  | 86 => ⟨S1x2048x8x2x32, .f32⟩
  | 87 => ⟨S1x2048x8x2x1x32, .f32⟩
  | 88 => ⟨S1x2048x8x2x32, .f32⟩
  | 89 => ⟨S1x2048x8x2x32, .f32⟩
  | 90 => ⟨S1x2048x8x2x32, .f32⟩
  | 91 => ⟨S1x2048x8x2x32, .f32⟩
  | 92 => ⟨S1x2048x8x2x32, .f32⟩
  | 93 => ⟨S1x2048x8x2x32, .f32⟩
  | 94 => ⟨S1x2048x8x2x32, .f32⟩
  | 95 => ⟨S1x2048x8x2x32, .f32⟩
  | 96 => ⟨S1x2048x8x2x32, .f32⟩
  | 97 => ⟨S1x2048x8x2x32, .f32⟩
  | 98 => ⟨S1x2048x8x2x32, .f32⟩
  | 99 => ⟨S1x2048x8x2x32, .f32⟩
  | 100 => ⟨S1x2048x8x2x1x32, .f32⟩
  | 101 => ⟨S_, .f32⟩
  | 102 => ⟨S1x2048x8x2x2x32, .f32⟩
  | 103 => ⟨S1x2048x8x2x1x32, .f32⟩
  | 104 => ⟨S_, .f32⟩
  | 105 => ⟨S1x2048x8x2x2x32, .f32⟩
  | 106 => ⟨S1x2048x8x2x2x32, .f32⟩
  | 107 => ⟨S1x2048x8x128, .f32⟩
  | 108 => ⟨S1x2048x8x128, .f32⟩
  | 109 => ⟨S_, .f32⟩
  | 110 => ⟨S1x128, .f32⟩
  | 111 => ⟨S1x1x1x128, .f32⟩
  | 112 => ⟨S1x2048x8x128, .f32⟩
  | 113 => ⟨S1x2048x8x128, .f32⟩
  | 114 => ⟨S_, .f32⟩
  | 115 => ⟨S128, .f32⟩
  | 116 => ⟨S1x2048x8x128, .f32⟩
  | 117 => ⟨S_, .f32⟩
  | 118 => ⟨S1x2048x8, .f32⟩
  | 119 => ⟨S1x2048x8x1, .f32⟩
  | 120 => ⟨S1x2048x8x128, .f32⟩
  | 121 => ⟨S1x2048x8x128, .f32⟩
  | 122 => ⟨S1x2048x8x1, .f32⟩
  | 123 => ⟨S_, .f32⟩
  | 124 => ⟨S1x2048x8x1, .f32⟩
  | 125 => ⟨S1x2048x8x1, .f32⟩
  | 126 => ⟨S_, .f32⟩
  | 127 => ⟨S2048x8, .f32⟩
  | _ => ⟨S2048x1024, .f32⟩

abbrev hbmTy0_1 (i : Nat) : BufTy := match i % 128 with
  | 0 => ⟨S1x2048x8, .f32⟩
  | 1 => ⟨S1x2048x8x128, .f32⟩
  | 2 => ⟨S1x2048x8x128, .f32⟩
  | 3 => ⟨S1x2048x8x128, .f32⟩
  | 4 => ⟨S1x2048x8x128, .f32⟩
  | 5 => ⟨S1x2048x8x128, .f32⟩
  | 6 => ⟨S1x128, .f32⟩
  | 7 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_9 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩
abbrev main_cst_11 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_12 : Ref sig .tc := ⟨.hbm, 123, rfl⟩
abbrev main_v107 : Ref sig .tc := ⟨.hbm, 124, rfl⟩
abbrev main_v108 : Ref sig .tc := ⟨.hbm, 125, rfl⟩
abbrev main_cst_13 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩

abbrev nD : Nat := 1
abbrev τ : Topo := Topo.v7x

variable {F : FTy → Type} [FloatOps F]
-- ==== KPrepK.lean ====
abbrev S2304x256 : Shape := ⟨2, ![2304, 256]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S128x1 : Shape := ⟨2, ![128, 1]⟩
abbrev S128x128 : Shape := ⟨2, ![128, 128]⟩
abbrev S256x256 : Shape := ⟨2, ![256, 256]⟩
abbrev S256 : Shape := ⟨1, ![256]⟩
abbrev S256x1 : Shape := ⟨2, ![256, 1]⟩

abbrev nBuf : Space → Nat
  | .hbm => 81
  | .vmem => 13
  | .smem => 0
  | _ => 0

abbrev bufTy : (tb : Table) → Fin (tcTables nBuf tb) → BufTy
  | .hbm, ⟨0, _⟩ => ⟨S2304x256, .f32⟩
  | .hbm, ⟨1, _⟩ => ⟨S1x128, .f32⟩
  | .hbm, ⟨2, _⟩ => ⟨S2304x256, .f32⟩
  | .hbm, ⟨3, _⟩ => ⟨S2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x128, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x128, .f32⟩
  | .hbm, ⟨48, _⟩ => ⟨S_, .f32⟩
  | .hbm, ⟨49, _⟩ => ⟨S256x128, .f32⟩
  | .hbm, ⟨50, _⟩ => ⟨S2304x128, .f32⟩
  | .hbm, ⟨51, _⟩ => ⟨S_, .f32⟩
  | .hbm, ⟨52, _⟩ => ⟨S256x128, .f32⟩
  | .hbm, ⟨53, _⟩ => ⟨S2304x128, .f32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S128x1, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S_, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S2304x256, .f32⟩
  | .hbm, ⟨80, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x128, .f32⟩
  | _, _ => ⟨S2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v58 : Ref sig .tc := ⟨.hbm, 77, rfl⟩
abbrev main_v59 : Ref sig .tc := ⟨.hbm, 78, rfl⟩
abbrev main_v60_0 : Ref sig .tc := ⟨.hbm, 79, rfl⟩
abbrev main_v60_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KPrepRIdeal.lean ====
abbrev S2304x256 : Shape := ⟨2, ![2304, 256]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x2x32 : Shape := ⟨3, ![2048, 2, 32]⟩
abbrev S256x256 : Shape := ⟨2, ![256, 256]⟩
abbrev S1x256x256 : Shape := ⟨3, ![1, 256, 256]⟩
abbrev S1x256x2x128 : Shape := ⟨4, ![1, 256, 2, 128]⟩
abbrev S128 : Shape := ⟨1, ![128]⟩
abbrev S1x256x2 : Shape := ⟨3, ![1, 256, 2]⟩
abbrev S1x256x2x1 : Shape := ⟨4, ![1, 256, 2, 1]⟩
abbrev S1x1x1x128 : Shape := ⟨4, ![1, 1, 1, 128]⟩
abbrev S2048x256 : Shape := ⟨2, ![2048, 256]⟩
abbrev S1x2048x256 : Shape := ⟨3, ![1, 2048, 256]⟩
abbrev S1x2048x2x128 : Shape := ⟨4, ![1, 2048, 2, 128]⟩
abbrev S1x2048x2 : Shape := ⟨3, ![1, 2048, 2]⟩
abbrev S1x2048x2x1 : Shape := ⟨4, ![1, 2048, 2, 1]⟩
abbrev S1x2048x2x2x2x32 : Shape := ⟨6, ![1, 2048, 2, 2, 2, 32]⟩
abbrev S1x2048x2x2x1x32 : Shape := ⟨6, ![1, 2048, 2, 2, 1, 32]⟩
abbrev S1x2048x2x2x32 : Shape := ⟨5, ![1, 2048, 2, 2, 32]⟩
abbrev S1x2048x1x2x32 : Shape := ⟨5, ![1, 2048, 1, 2, 32]⟩
abbrev S1x2304x2x128 : Shape := ⟨4, ![1, 2304, 2, 128]⟩
abbrev S2048x2 : Shape := ⟨2, ![2048, 2]⟩
abbrev S256x2 : Shape := ⟨2, ![256, 2]⟩

abbrev nBuf : Space → Nat
  | .hbm => 203
  | .vmem => 0
  | .smem => 0
  | _ => 0

abbrev hbmTy0_0 (i : Nat) : BufTy := match i % 128 with
  | 0 => ⟨S2304x256, .f32⟩
  | 1 => ⟨S1x128, .f32⟩
  | 2 => ⟨S2304x256, .f32⟩
  | 3 => ⟨S32, .f32⟩
  | 4 => ⟨S32x1, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x64, .f32⟩
  | 36 => ⟨S2048x2x32, .f32⟩
  | 37 => ⟨S2048x2x32, .f32⟩
  | 38 => ⟨S2048x2x32, .f32⟩
  | 39 => ⟨S256x256, .f32⟩
  | 40 => ⟨S1x256x256, .f32⟩
  | 41 => ⟨S1x256x2x128, .f32⟩
  | 42 => ⟨S128, .f32⟩
  | 43 => ⟨S1x256x2x128, .f32⟩
  | 44 => ⟨S_, .f32⟩
  | 45 => ⟨S1x256x2, .f32⟩
  | 46 => ⟨S1x256x2x1, .f32⟩
  | 47 => ⟨S_, .f32⟩
  | 48 => ⟨S1x256x2x1, .f32⟩
  | 49 => ⟨S1x256x2x1, .f32⟩
  | 50 => ⟨S_, .f32⟩
  | 51 => ⟨S1x256x2x1, .f32⟩
  | 52 => ⟨S1x256x2x1, .f32⟩
  | 53 => ⟨S1x256x2x1, .f32⟩
  | 54 => ⟨S1x256x2x1, .f32⟩
  | 55 => ⟨S_, .f32⟩
  | 56 => ⟨S1x256x2x1, .f32⟩
  | 57 => ⟨S1x256x2x1, .f32⟩
  | 58 => ⟨S1x256x2x128, .f32⟩
  | 59 => ⟨S1x256x2x128, .f32⟩
  | 60 => ⟨S1x1x1x128, .f32⟩
  | 61 => ⟨S1x256x2x128, .f32⟩
  | 62 => ⟨S1x256x2x128, .f32⟩
  | 63 => ⟨S2048x256, .f32⟩
  | 64 => ⟨S1x2048x256, .f32⟩
  | 65 => ⟨S1x2048x2x128, .f32⟩
  | 66 => ⟨S128, .f32⟩
  | 67 => ⟨S1x2048x2x128, .f32⟩
  | 68 => ⟨S_, .f32⟩
  | 69 => ⟨S1x2048x2, .f32⟩
  | 70 => ⟨S1x2048x2x1, .f32⟩
  | 71 => ⟨S_, .f32⟩
  | 72 => ⟨S1x2048x2x1, .f32⟩
  | 73 => ⟨S1x2048x2x1, .f32⟩
  | 74 => ⟨S_, .f32⟩
  | 75 => ⟨S1x2048x2x1, .f32⟩
  | 76 => ⟨S1x2048x2x1, .f32⟩
  | 77 => ⟨S1x2048x2x1, .f32⟩
  | 78 => ⟨S1x2048x2x1, .f32⟩
  | 79 => ⟨S_, .f32⟩
  | 80 => ⟨S1x2048x2x1, .f32⟩
  | 81 => ⟨S1x2048x2x1, .f32⟩
  | 82 => ⟨S1x2048x2x128, .f32⟩
  | 83 => ⟨S1x2048x2x128, .f32⟩
  | 84 => ⟨S1x1x1x128, .f32⟩
  | 85 => ⟨S1x2048x2x128, .f32⟩
  | 86 => ⟨S1x2048x2x128, .f32⟩
  | 87 => ⟨S1x2048x2x2x2x32, .f32⟩
  | 88 => ⟨S1x2048x2x2x1x32, .f32⟩
  | 89 => ⟨S1x2048x2x2x32, .f32⟩
  | 90 => ⟨S1x2048x2x2x1x32, .f32⟩
  | 91 => ⟨S1x2048x2x2x32, .f32⟩
  | 92 => ⟨S1x2048x1x2x32, .f32⟩
  | 93 => ⟨S1x2048x1x2x32, .f32⟩
  | 94 => ⟨S1x2048x2x2x32, .f32⟩
  | 95 => ⟨S1x2048x2x2x32, .f32⟩
  | 96 => ⟨S1x2048x2x2x32, .f32⟩
  | 97 => ⟨S1x2048x2x2x32, .f32⟩
  | 98 => ⟨S1x2048x2x2x32, .f32⟩
  | 99 => ⟨S1x2048x2x2x32, .f32⟩
  | 100 => ⟨S1x2048x2x2x32, .f32⟩
  | 101 => ⟨S1x2048x2x2x32, .f32⟩
  | 102 => ⟨S1x2048x2x2x32, .f32⟩
  | 103 => ⟨S1x2048x2x2x32, .f32⟩
  | 104 => ⟨S1x2048x2x2x1x32, .f32⟩
  | 105 => ⟨S1x2048x2x2x1x32, .f32⟩
  | 106 => ⟨S1x2048x2x2x2x32, .f32⟩
  | 107 => ⟨S1x2048x2x128, .f32⟩
  | 108 => ⟨S1x2304x2x128, .f32⟩
  | 109 => ⟨S2304x256, .f32⟩
  | 110 => ⟨S1x2304x2x128, .f32⟩
  | 111 => ⟨S1x256x2x128, .f32⟩
  | 112 => ⟨S1x2048x2x128, .f32⟩
  | 113 => ⟨S1x2048x2x2x2x32, .f32⟩
  | 114 => ⟨S1x2048x2x2x1x32, .f32⟩
  | 115 => ⟨S1x2048x2x2x32, .f32⟩
  | 116 => ⟨S1x2048x2x2x1x32, .f32⟩
  | 117 => ⟨S1x2048x2x2x32, .f32⟩
  | 118 => ⟨S1x2048x2x2x32, .f32⟩
  | 119 => ⟨S1x2048x2x2x32, .f32⟩
  | 120 => ⟨S1x2048x2x2x32, .f32⟩
  | 121 => ⟨S1x2048x2x2x32, .f32⟩
  | 122 => ⟨S1x2048x2x2x32, .f32⟩
  | 123 => ⟨S1x2048x2x2x32, .f32⟩
  | 124 => ⟨S1x2048x2x2x32, .f32⟩
  | 125 => ⟨S1x2048x2x2x32, .f32⟩
  | 126 => ⟨S1x2048x2x2x32, .f32⟩
  | 127 => ⟨S1x2048x2x2x32, .f32⟩
  | _ => ⟨S2304x256, .f32⟩

abbrev hbmTy0_1 (i : Nat) : BufTy := match i % 128 with
  | 0 => ⟨S1x2048x2x2x32, .f32⟩
  | 1 => ⟨S1x2048x2x2x1x32, .f32⟩
  | 2 => ⟨S_, .f32⟩
  | 3 => ⟨S1x2048x2x2x2x32, .f32⟩
  | 4 => ⟨S1x2048x2x2x1x32, .f32⟩
  | 5 => ⟨S_, .f32⟩
  | 6 => ⟨S1x2048x2x2x2x32, .f32⟩
  | 7 => ⟨S1x2048x2x2x2x32, .f32⟩
  | 8 => ⟨S1x2048x2x128, .f32⟩
  | 9 => ⟨S1x2048x2x128, .f32⟩
  | 10 => ⟨S_, .f32⟩
  | 11 => ⟨S1x128, .f32⟩
  | 12 => ⟨S1x1x1x128, .f32⟩
  | 13 => ⟨S1x2048x2x128, .f32⟩
  | 14 => ⟨S1x2048x2x128, .f32⟩
  | 15 => ⟨S_, .f32⟩
  | 16 => ⟨S128, .f32⟩
  | 17 => ⟨S1x2048x2x128, .f32⟩
  | 18 => ⟨S_, .f32⟩
  | 19 => ⟨S1x2048x2, .f32⟩
  | 20 => ⟨S1x2048x2x1, .f32⟩
  | 21 => ⟨S1x2048x2x128, .f32⟩
  | 22 => ⟨S1x2048x2x128, .f32⟩
  | 23 => ⟨S1x2048x2x1, .f32⟩
  | 24 => ⟨S_, .f32⟩
  | 25 => ⟨S1x2048x2x1, .f32⟩
  | 26 => ⟨S1x2048x2x1, .f32⟩
  | 27 => ⟨S_, .f32⟩
  | 28 => ⟨S2048x2, .f32⟩
  | 29 => ⟨S1x2048x2, .f32⟩
  | 30 => ⟨S1x2048x2x128, .f32⟩
  | 31 => ⟨S1x2048x2x128, .f32⟩
  | 32 => ⟨S1x2048x2x128, .f32⟩
  | 33 => ⟨S1x2048x2x128, .f32⟩
  | 34 => ⟨S1x2048x2x128, .f32⟩
  | 35 => ⟨S1x128, .f32⟩
  | 36 => ⟨S1x2048x256, .f32⟩
  | 37 => ⟨S_, .f32⟩
  | 38 => ⟨S2048x256, .f32⟩
  | 39 => ⟨S_, .f32⟩
  | 40 => ⟨S2304x256, .f32⟩
  | 41 => ⟨S1x256x2x128, .f32⟩
  | 42 => ⟨S_, .f32⟩
  | 43 => ⟨S1x128, .f32⟩
  | 44 => ⟨S1x1x1x128, .f32⟩
  | 45 => ⟨S1x256x2x128, .f32⟩
  | 46 => ⟨S1x256x2x128, .f32⟩
  | 47 => ⟨S_, .f32⟩
  | 48 => ⟨S128, .f32⟩
  | 49 => ⟨S1x256x2x128, .f32⟩
  | 50 => ⟨S_, .f32⟩
  | 51 => ⟨S1x256x2, .f32⟩
  | 52 => ⟨S1x256x2x1, .f32⟩
  | 53 => ⟨S1x256x2x128, .f32⟩
  | 54 => ⟨S1x256x2x128, .f32⟩
  | 55 => ⟨S1x256x2x1, .f32⟩
  | 56 => ⟨S_, .f32⟩
  | 57 => ⟨S1x256x2x1, .f32⟩
  | 58 => ⟨S1x256x2x1, .f32⟩
  | 59 => ⟨S_, .f32⟩
  | 60 => ⟨S256x2, .f32⟩
  | 61 => ⟨S1x256x2, .f32⟩
  | 62 => ⟨S1x256x2x128, .f32⟩
  | 63 => ⟨S1x256x2x128, .f32⟩
  | 64 => ⟨S1x256x2x128, .f32⟩
  | 65 => ⟨S1x256x2x128, .f32⟩
  | 66 => ⟨S1x256x2x128, .f32⟩
  | 67 => ⟨S1x128, .f32⟩
  | 68 => ⟨S1x128, .f32⟩
  | 69 => ⟨S1x256x256, .f32⟩
  | 70 => ⟨S_, .f32⟩
  | 71 => ⟨S256x256, .f32⟩
  | 72 => ⟨S_, .f32⟩
  | 73 => ⟨S2304x256, .f32⟩
  | 74 => ⟨S2304x256, .f32⟩
  | _ => ⟨S2304x256, .f32⟩

abbrev hbmTy (i : Nat) : BufTy := match i / 128 with
  | 0 => hbmTy0_0 i
  | 1 => hbmTy0_1 i
  | _ => ⟨S2304x256, .f32⟩

abbrev bufTy : (tb : Table) → Fin (tcTables nBuf tb) → BufTy
  | .hbm, ⟨i, _⟩ => hbmTy i
  | _, _ => ⟨S2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_10 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_cst_11 : Ref sig .tc := ⟨.hbm, 130, rfl⟩
abbrev main_v115 : Ref sig .tc := ⟨.hbm, 131, rfl⟩
abbrev main_v116 : Ref sig .tc := ⟨.hbm, 132, rfl⟩
abbrev main_cst_12 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_13 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_cst_14 : Ref sig .tc := ⟨.hbm, 143, rfl⟩
abbrev main_v125 : Ref sig .tc := ⟨.hbm, 144, rfl⟩
abbrev main_v126 : Ref sig .tc := ⟨.hbm, 145, rfl⟩
abbrev main_cst_15 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_16 : Ref sig .tc := ⟨.hbm, 152, rfl⟩
abbrev main_v132 : Ref sig .tc := ⟨.hbm, 153, rfl⟩
abbrev main_v133 : Ref sig .tc := ⟨.hbm, 154, rfl⟩
abbrev main_cst_17 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_18 : Ref sig .tc := ⟨.hbm, 165, rfl⟩
abbrev main_v143 : Ref sig .tc := ⟨.hbm, 166, rfl⟩
abbrev main_cst_19 : Ref sig .tc := ⟨.hbm, 167, rfl⟩
abbrev main_v144 : Ref sig .tc := ⟨.hbm, 168, rfl⟩
abbrev main_v145 : Ref sig .tc := ⟨.hbm, 169, rfl⟩
abbrev main_cst_20 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_cst_21 : Ref sig .tc := ⟨.hbm, 175, rfl⟩
abbrev main_v150 : Ref sig .tc := ⟨.hbm, 176, rfl⟩
abbrev main_v151 : Ref sig .tc := ⟨.hbm, 177, rfl⟩
abbrev main_cst_22 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_23 : Ref sig .tc := ⟨.hbm, 184, rfl⟩
abbrev main_v157 : Ref sig .tc := ⟨.hbm, 185, rfl⟩
abbrev main_v158 : Ref sig .tc := ⟨.hbm, 186, rfl⟩
abbrev main_cst_24 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_cst_25 : Ref sig .tc := ⟨.hbm, 198, rfl⟩
abbrev main_v169 : Ref sig .tc := ⟨.hbm, 199, rfl⟩
abbrev main_cst_26 : Ref sig .tc := ⟨.hbm, 200, rfl⟩
abbrev main_v170 : Ref sig .tc := ⟨.hbm, 201, rfl⟩
abbrev main_v171 : Ref sig .tc := ⟨.hbm, 202, rfl⟩

abbrev nD : Nat := 1
abbrev τ : Topo := Topo.v7x

variable {F : FTy → Type} [FloatOps F]
-- ==== FfnK.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S1x2816 : Shape := ⟨2, ![1, 2816]⟩
abbrev S2048x128 : Shape := ⟨2, ![2048, 128]⟩
abbrev S1x128 : Shape := ⟨2, ![1, 128]⟩
abbrev S128 : Shape := ⟨1, ![128]⟩

abbrev nBuf : Space → Nat
  | .hbm => 17
  | .vmem => 42
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S2048x2816, .f32⟩
  | .hbm, ⟨8, _⟩ => ⟨S2048x2816, .f32⟩
  | .hbm, ⟨9, _⟩ => ⟨S1x2816, .f32⟩
  | .hbm, ⟨10, _⟩ => ⟨S1x2816, .f32⟩
  | .hbm, ⟨11, _⟩ => ⟨S1x2816, .f32⟩
  | .hbm, ⟨12, _⟩ => ⟨S1x2816, .f32⟩
  | .hbm, ⟨13, _⟩ => ⟨S1x2816, .f32⟩
  | .hbm, ⟨14, _⟩ => ⟨S1x2816, .f32⟩
  | .hbm, ⟨15, _⟩ => ⟨S1x2816, .f32⟩
  | .hbm, ⟨16, _⟩ => ⟨S1x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v3_8 : Ref sig .tc := ⟨.hbm, 15, rfl⟩
abbrev main_v3_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== FfnRIdeal.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S1x2048x5632 : Shape := ⟨3, ![1, 2048, 5632]⟩
abbrev S5632 : Shape := ⟨1, ![5632]⟩
abbrev S_ : Shape := ⟨0, ![]⟩
abbrev S1x1x5632 : Shape := ⟨3, ![1, 1, 5632]⟩
abbrev S1x2050x5632 : Shape := ⟨3, ![1, 2050, 5632]⟩
abbrev S1x2048x2816 : Shape := ⟨3, ![1, 2048, 2816]⟩
abbrev S1x2816 : Shape := ⟨2, ![1, 2816]⟩

abbrev nBuf : Space → Nat
  | .hbm => 128
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S1x2048x5632, .f32⟩
  | .hbm, ⟨5, _⟩ => ⟨S5632, .f32⟩
  | .hbm, ⟨6, _⟩ => ⟨S_, .f32⟩
  | .hbm, ⟨7, _⟩ => ⟨S1x1x5632, .f32⟩
  | .hbm, ⟨8, _⟩ => ⟨S1x2050x5632, .f32⟩
  | .hbm, ⟨9, _⟩ => ⟨S_, .f32⟩
  | .hbm, ⟨10, _⟩ => ⟨S1x1x5632, .f32⟩
  | .hbm, ⟨11, _⟩ => ⟨S_, .f32⟩
  | .hbm, ⟨12, _⟩ => ⟨S1x1x5632, .f32⟩
  | .hbm, ⟨13, _⟩ => ⟨S1x2048x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x2048x5632, .f32⟩
  | .hbm, ⟨18, _⟩ => ⟨S1x2048x5632, .f32⟩
  | .hbm, ⟨19, _⟩ => ⟨S1x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S1x2048x5632, .f32⟩
  | .hbm, ⟨24, _⟩ => ⟨S1x2048x5632, .f32⟩
  | .hbm, ⟨25, _⟩ => ⟨S1x2048x5632, .f32⟩
  | .hbm, ⟨26, _⟩ => ⟨S1x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x2048x5632, .f32⟩
  | .hbm, ⟨31, _⟩ => ⟨S1x2048x5632, .f32⟩
  | .hbm, ⟨32, _⟩ => ⟨S1x2048x5632, .f32⟩
  | .hbm, ⟨33, _⟩ => ⟨S1x1x5632, .f32⟩
  | .hbm, ⟨34, _⟩ => ⟨S1x2048x5632, .f32⟩
  | .hbm, ⟨35, _⟩ => ⟨S1x2048x5632, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S1x2048x2816, .f32⟩
  | .hbm, ⟨40, _⟩ => ⟨S_, .f32⟩
  | .hbm, ⟨41, _⟩ => ⟨S1x2048x2816, .f32⟩
  | .hbm, ⟨42, _⟩ => ⟨S1x2048x2816, .f32⟩
  | .hbm, ⟨43, _⟩ => ⟨S_, .f32⟩
  | .hbm, ⟨44, _⟩ => ⟨S1x2048x2816, .f32⟩
  | .hbm, ⟨45, _⟩ => ⟨S1x2048x2816, .f32⟩
  | .hbm, ⟨46, _⟩ => ⟨S_, .f32⟩
  | .hbm, ⟨47, _⟩ => ⟨S1x2048x2816, .f32⟩
  | .hbm, ⟨48, _⟩ => ⟨S1x2048x2816, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S2048x2816, .f32⟩
  | .hbm, ⟨53, _⟩ => ⟨S1x2048x2816, .f32⟩
  | .hbm, ⟨54, _⟩ => ⟨S1x2048x2816, .f32⟩
  | .hbm, ⟨55, _⟩ => ⟨S1x2048x2816, .f32⟩
  | .hbm, ⟨56, _⟩ => ⟨S1x2048x2816, .f32⟩
  | .hbm, ⟨57, _⟩ => ⟨S1x2048x2816, .f32⟩
  | .hbm, ⟨58, _⟩ => ⟨S1x2048x2816, .f32⟩
  | .hbm, ⟨59, _⟩ => ⟨S1x2048x2816, .f32⟩
  | .hbm, ⟨60, _⟩ => ⟨S1x2048x5632, .f32⟩
  | .hbm, ⟨61, _⟩ => ⟨S_, .f32⟩
  | .hbm, ⟨62, _⟩ => ⟨S1x5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S1x2048x5632, .f32⟩
  | .hbm, ⟨67, _⟩ => ⟨S_, .f32⟩
  | .hbm, ⟨68, _⟩ => ⟨S1x5632, .f32⟩
  | .hbm, ⟨69, _⟩ => ⟨S1x1x5632, .f32⟩
  | .hbm, ⟨70, _⟩ => ⟨S1x2048x5632, .f32⟩
  | .hbm, ⟨71, _⟩ => ⟨S1x2048x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S3x5632, .f32⟩
  | .hbm, ⟨77, _⟩ => ⟨S_, .f32⟩
  | .hbm, ⟨78, _⟩ => ⟨S1x2050x5632, .f32⟩
  | .hbm, ⟨79, _⟩ => ⟨S1x2048x5632, .f32⟩
  | .hbm, ⟨80, _⟩ => ⟨S_, .f32⟩
  | .hbm, ⟨81, _⟩ => ⟨S1x5632, .f32⟩
  | .hbm, ⟨82, _⟩ => ⟨S1x1x5632, .f32⟩
  | .hbm, ⟨83, _⟩ => ⟨S1x2048x5632, .f32⟩
  | .hbm, ⟨84, _⟩ => ⟨S1x2048x5632, .f32⟩
  | .hbm, ⟨85, _⟩ => ⟨S_, .f32⟩
  | .hbm, ⟨86, _⟩ => ⟨S5632, .f32⟩
  | .hbm, ⟨87, _⟩ => ⟨S1x5632, .f32⟩
  | .hbm, ⟨88, _⟩ => ⟨S_, .f32⟩
  | .hbm, ⟨89, _⟩ => ⟨S3x5632, .f32⟩
  | .hbm, ⟨90, _⟩ => ⟨S3x5632, .f32⟩
  | .hbm, ⟨91, _⟩ => ⟨S_, .f32⟩
  | .hbm, ⟨92, _⟩ => ⟨S1x2050x5632, .f32⟩
  | .hbm, ⟨93, _⟩ => ⟨S1x2050x5632, .f32⟩
  | .hbm, ⟨94, _⟩ => ⟨S1x2048x5632, .f32⟩
  | .hbm, ⟨95, _⟩ => ⟨S_, .f32⟩
  | .hbm, ⟨96, _⟩ => ⟨S1x5632, .f32⟩
  | .hbm, ⟨97, _⟩ => ⟨S1x1x5632, .f32⟩
  | .hbm, ⟨98, _⟩ => ⟨S1x2048x5632, .f32⟩
  | .hbm, ⟨99, _⟩ => ⟨S1x2048x5632, .f32⟩
  | .hbm, ⟨100, _⟩ => ⟨S_, .f32⟩
  | .hbm, ⟨101, _⟩ => ⟨S5632, .f32⟩
  | .hbm, ⟨102, _⟩ => ⟨S1x5632, .f32⟩
  | .hbm, ⟨103, _⟩ => ⟨S_, .f32⟩
  | .hbm, ⟨104, _⟩ => ⟨S3x5632, .f32⟩
  | .hbm, ⟨105, _⟩ => ⟨S3x5632, .f32⟩
  | .hbm, ⟨106, _⟩ => ⟨S_, .f32⟩
  | .hbm, ⟨107, _⟩ => ⟨S1x2050x5632, .f32⟩
  | .hbm, ⟨108, _⟩ => ⟨S1x2050x5632, .f32⟩
  | .hbm, ⟨109, _⟩ => ⟨S1x1x5632, .f32⟩
  | .hbm, ⟨110, _⟩ => ⟨S1x2048x5632, .f32⟩
  | .hbm, ⟨111, _⟩ => ⟨S1x1x5632, .f32⟩
  | .hbm, ⟨112, _⟩ => ⟨S1x5632, .f32⟩
  | .hbm, ⟨113, _⟩ => ⟨S_, .f32⟩
  | .hbm, ⟨114, _⟩ => ⟨S2048x5632, .f32⟩
  | .hbm, ⟨115, _⟩ => ⟨S2048x2816, .f32⟩
  | .hbm, ⟨116, _⟩ => ⟨S2048x2816, .f32⟩
  | .hbm, ⟨117, _⟩ => ⟨S1x5632, .f32⟩
  | .hbm, ⟨118, _⟩ => ⟨S1x2816, .f32⟩
  | .hbm, ⟨119, _⟩ => ⟨S1x2816, .f32⟩
  | .hbm, ⟨120, _⟩ => ⟨S1x5632, .f32⟩
  | .hbm, ⟨121, _⟩ => ⟨S1x2816, .f32⟩
  | .hbm, ⟨122, _⟩ => ⟨S1x2816, .f32⟩
  | .hbm, ⟨123, _⟩ => ⟨S1x5632, .f32⟩
  | .hbm, ⟨124, _⟩ => ⟨S1x2816, .f32⟩
  | .hbm, ⟨125, _⟩ => ⟨S1x2816, .f32⟩
  | .hbm, ⟨126, _⟩ => ⟨S1x2816, .f32⟩
  | .hbm, ⟨127, _⟩ => ⟨S1x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩

abbrev nD : Nat := 1
abbrev τ : Topo := Topo.v7x

variable {F : FTy → Type} [FloatOps F]
-- ==== GdnPrepK.lean ====
abbrev S2304x3072 : Shape := ⟨2, ![2304, 3072]⟩
abbrev S3x3072 : Shape := ⟨2, ![3, 3072]⟩
abbrev S1x3072 : Shape := ⟨2, ![1, 3072]⟩
abbrev S2304x128 : Shape := ⟨2, ![2304, 128]⟩
abbrev S1x128 : Shape := ⟨2, ![1, 128]⟩
abbrev S2304 : Shape := ⟨1, ![2304]⟩
abbrev S2304x1 : Shape := ⟨2, ![2304, 1]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S2304x3072, .f32⟩
  | .hbm, ⟨1, _⟩ => ⟨S3x3072, .f32⟩
  | .hbm, ⟨2, _⟩ => ⟨S2304x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S2304x3072, .f32⟩
  | .hbm, ⟨9, _⟩ => ⟨S1x3072, .f32⟩
  | .hbm, ⟨10, _⟩ => ⟨S1x3072, .f32⟩
  | .hbm, ⟨11, _⟩ => ⟨S1x3072, .f32⟩
  | .local _ .vmem, ⟨0, _⟩ => ⟨S2304x128, .f32⟩
  | .local _ .vmem, ⟨1, _⟩ => ⟨S2304x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2304x128, .f32⟩
  | .local _ .vmem, ⟨13, _⟩ => ⟨S2304x128, .f32⟩
  | .local _ .vmem, ⟨14, _⟩ => ⟨S2304x128, .f32⟩
  | .local _ .vmem, ⟨15, _⟩ => ⟨S2304x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | _, _ => ⟨S2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GdnPrepRIdeal.lean ====
abbrev S2304x3072 : Shape := ⟨2, ![2304, 3072]⟩
abbrev S3x3072 : Shape := ⟨2, ![3, 3072]⟩
abbrev S256x3072 : Shape := ⟨2, ![256, 3072]⟩
abbrev S1x256x3072 : Shape := ⟨3, ![1, 256, 3072]⟩
abbrev S_ : Shape := ⟨0, ![]⟩
abbrev S1x1x3072 : Shape := ⟨3, ![1, 1, 3072]⟩
abbrev S1x258x3072 : Shape := ⟨3, ![1, 258, 3072]⟩
abbrev S1x3072 : Shape := ⟨2, ![1, 3072]⟩
abbrev S3072 : Shape := ⟨1, ![3072]⟩
abbrev S1x256x1024 : Shape := ⟨3, ![1, 256, 1024]⟩
abbrev S1x256x8x128 : Shape := ⟨4, ![1, 256, 8, 128]⟩
abbrev S1x256x8 : Shape := ⟨3, ![1, 256, 8]⟩
abbrev S1x256x8x1 : Shape := ⟨4, ![1, 256, 8, 1]⟩
abbrev S2048x3072 : Shape := ⟨2, ![2048, 3072]⟩
abbrev S1x2048x3072 : Shape := ⟨3, ![1, 2048, 3072]⟩
abbrev S1x2050x3072 : Shape := ⟨3, ![1, 2050, 3072]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S256x8x128 : Shape := ⟨3, ![256, 8, 128]⟩
abbrev S2048x8x128 : Shape := ⟨3, ![2048, 8, 128]⟩
abbrev S2304x8x128 : Shape := ⟨3, ![2304, 8, 128]⟩
abbrev S2304x1024 : Shape := ⟨2, ![2304, 1024]⟩
abbrev S2048x8 : Shape := ⟨2, ![2048, 8]⟩
abbrev S256x8 : Shape := ⟨2, ![256, 8]⟩

abbrev nBuf : Space → Nat
  | .hbm => 379
  | .vmem => 0
  | .smem => 0
  | _ => 0

abbrev hbmTy0_0 (i : Nat) : BufTy := match i % 128 with
  | 0 => ⟨S2304x3072, .f32⟩
  | 1 => ⟨S3x3072, .f32⟩
  | 2 => ⟨S2304x3072, .f32⟩
  | 3 => ⟨S256x3072, .f32⟩
  | 4 => ⟨S1x256x3072, .f32⟩
  | 5 => ⟨S_, .f32⟩
  | 6 => ⟨S1x1x3072, .f32⟩
  | 7 => ⟨S1x258x3072, .f32⟩
  | 8 => ⟨S_, .f32⟩
  | 9 => ⟨S1x1x3072, .f32⟩
  | 10 => ⟨S_, .f32⟩
  | 11 => ⟨S1x1x3072, .f32⟩
  | 12 => ⟨S1x256x3072, .f32⟩
  | 13 => ⟨S1x3072, .f32⟩
  | 14 => ⟨S3072, .f32⟩
  | 15 => ⟨S1x1x3072, .f32⟩
  | 16 => ⟨S1x256x3072, .f32⟩
  | 17 => ⟨S1x256x3072, .f32⟩
  | 18 => ⟨S1x256x3072, .f32⟩
  | 19 => ⟨S1x3072, .f32⟩
  | 20 => ⟨S3072, .f32⟩
  | 21 => ⟨S1x1x3072, .f32⟩
  | 22 => ⟨S1x256x3072, .f32⟩
  | 23 => ⟨S1x256x3072, .f32⟩
  | 24 => ⟨S1x256x3072, .f32⟩
  | 25 => ⟨S1x256x3072, .f32⟩
  | 26 => ⟨S1x3072, .f32⟩
  | 27 => ⟨S3072, .f32⟩
  | 28 => ⟨S1x1x3072, .f32⟩
  | 29 => ⟨S1x256x3072, .f32⟩
  | 30 => ⟨S1x256x3072, .f32⟩
  | 31 => ⟨S1x256x3072, .f32⟩
  | 32 => ⟨S1x256x3072, .f32⟩
  | 33 => ⟨S1x256x3072, .f32⟩
  | 34 => ⟨S_, .f32⟩
  | 35 => ⟨S1x256x3072, .f32⟩
  | 36 => ⟨S1x256x3072, .f32⟩
  | 37 => ⟨S_, .f32⟩
  | 38 => ⟨S1x256x3072, .f32⟩
  | 39 => ⟨S1x256x3072, .f32⟩
  | 40 => ⟨S_, .f32⟩
  | 41 => ⟨S1x256x3072, .f32⟩
  | 42 => ⟨S1x256x3072, .f32⟩
  | 43 => ⟨S1x256x3072, .f32⟩
  | 44 => ⟨S1x256x3072, .f32⟩
  | 45 => ⟨S1x256x1024, .f32⟩
  | 46 => ⟨S1x256x1024, .f32⟩
  | 47 => ⟨S1x256x1024, .f32⟩
  | 48 => ⟨S1x256x8x128, .f32⟩
  | 49 => ⟨S1x256x8x128, .f32⟩
  | 50 => ⟨S_, .f32⟩
  | 51 => ⟨S1x256x8, .f32⟩
  | 52 => ⟨S1x256x8x1, .f32⟩
  | 53 => ⟨S_, .f32⟩
  | 54 => ⟨S1x256x8x1, .f32⟩
  | 55 => ⟨S1x256x8x1, .f32⟩
  | 56 => ⟨S1x256x8x1, .f32⟩
  | 57 => ⟨S1x256x8x1, .f32⟩
  | 58 => ⟨S_, .f32⟩
  | 59 => ⟨S1x256x8x1, .f32⟩
  | 60 => ⟨S1x256x8x1, .f32⟩
  | 61 => ⟨S1x256x8x128, .f32⟩
  | 62 => ⟨S1x256x8x128, .f32⟩
  | 63 => ⟨S_, .f32⟩
  | 64 => ⟨S1x256x8x128, .f32⟩
  | 65 => ⟨S1x256x8x128, .f32⟩
  | 66 => ⟨S1x256x8x128, .f32⟩
  | 67 => ⟨S1x256x8x128, .f32⟩
  | 68 => ⟨S_, .f32⟩
  | 69 => ⟨S1x256x8, .f32⟩
  | 70 => ⟨S1x256x8x1, .f32⟩
  | 71 => ⟨S_, .f32⟩
  | 72 => ⟨S1x256x8x1, .f32⟩
  | 73 => ⟨S1x256x8x1, .f32⟩
  | 74 => ⟨S1x256x8x1, .f32⟩
  | 75 => ⟨S1x256x8x1, .f32⟩
  | 76 => ⟨S_, .f32⟩
  | 77 => ⟨S1x256x8x1, .f32⟩
  | 78 => ⟨S1x256x8x1, .f32⟩
  | 79 => ⟨S1x256x8x128, .f32⟩
  | 80 => ⟨S1x256x8x128, .f32⟩
  | 81 => ⟨S1x256x8x128, .f32⟩
  | 82 => ⟨S2048x3072, .f32⟩
  | 83 => ⟨S1x2048x3072, .f32⟩
  | 84 => ⟨S_, .f32⟩
  | 85 => ⟨S1x1x3072, .f32⟩
  | 86 => ⟨S1x2050x3072, .f32⟩
  | 87 => ⟨S_, .f32⟩
  | 88 => ⟨S1x1x3072, .f32⟩
  | 89 => ⟨S_, .f32⟩
  | 90 => ⟨S1x1x3072, .f32⟩
  | 91 => ⟨S1x2048x3072, .f32⟩
  | 92 => ⟨S1x3072, .f32⟩
  | 93 => ⟨S3072, .f32⟩
  | 94 => ⟨S1x1x3072, .f32⟩
  | 95 => ⟨S1x2048x3072, .f32⟩
  | 96 => ⟨S1x2048x3072, .f32⟩
  | 97 => ⟨S1x2048x3072, .f32⟩
  | 98 => ⟨S1x3072, .f32⟩
  | 99 => ⟨S3072, .f32⟩
  | 100 => ⟨S1x1x3072, .f32⟩
  | 101 => ⟨S1x2048x3072, .f32⟩
  | 102 => ⟨S1x2048x3072, .f32⟩
  | 103 => ⟨S1x2048x3072, .f32⟩
  | 104 => ⟨S1x2048x3072, .f32⟩
  | 105 => ⟨S1x3072, .f32⟩
  | 106 => ⟨S3072, .f32⟩
  | 107 => ⟨S1x1x3072, .f32⟩
  | 108 => ⟨S1x2048x3072, .f32⟩
  | 109 => ⟨S1x2048x3072, .f32⟩
  | 110 => ⟨S1x2048x3072, .f32⟩
  | 111 => ⟨S1x2048x3072, .f32⟩
  | 112 => ⟨S1x2048x3072, .f32⟩
  | 113 => ⟨S_, .f32⟩
  | 114 => ⟨S1x2048x3072, .f32⟩
  | 115 => ⟨S1x2048x3072, .f32⟩
  | 116 => ⟨S_, .f32⟩
  | 117 => ⟨S1x2048x3072, .f32⟩
  | 118 => ⟨S1x2048x3072, .f32⟩
  | 119 => ⟨S_, .f32⟩
  | 120 => ⟨S1x2048x3072, .f32⟩
  | 121 => ⟨S1x2048x3072, .f32⟩
  | 122 => ⟨S1x2048x3072, .f32⟩
  | 123 => ⟨S1x2048x3072, .f32⟩
  | 124 => ⟨S1x2048x1024, .f32⟩
  | 125 => ⟨S1x2048x1024, .f32⟩
  | 126 => ⟨S1x2048x1024, .f32⟩
  | 127 => ⟨S1x2048x8x128, .f32⟩
  | _ => ⟨S2304x3072, .f32⟩

abbrev hbmTy0_1 (i : Nat) : BufTy := match i % 128 with
  | 0 => ⟨S1x2048x8x128, .f32⟩
  | 1 => ⟨S_, .f32⟩
  | 2 => ⟨S1x2048x8, .f32⟩
  | 3 => ⟨S1x2048x8x1, .f32⟩
  | 4 => ⟨S_, .f32⟩
  | 5 => ⟨S1x2048x8x1, .f32⟩
  | 6 => ⟨S1x2048x8x1, .f32⟩
  | 7 => ⟨S1x2048x8x1, .f32⟩
  | 8 => ⟨S1x2048x8x1, .f32⟩
  | 9 => ⟨S_, .f32⟩
  | 10 => ⟨S1x2048x8x1, .f32⟩
  | 11 => ⟨S1x2048x8x1, .f32⟩
  | 12 => ⟨S1x2048x8x128, .f32⟩
  | 13 => ⟨S1x2048x8x128, .f32⟩
  | 14 => ⟨S_, .f32⟩
  | 15 => ⟨S1x2048x8x128, .f32⟩
  | 16 => ⟨S1x2048x8x128, .f32⟩
  | 17 => ⟨S1x2048x8x128, .f32⟩
  | 18 => ⟨S1x2048x8x128, .f32⟩
  | 19 => ⟨S_, .f32⟩
  | 20 => ⟨S1x2048x8, .f32⟩
  | 21 => ⟨S1x2048x8x1, .f32⟩
  | 22 => ⟨S_, .f32⟩
  | 23 => ⟨S1x2048x8x1, .f32⟩
  | 24 => ⟨S1x2048x8x1, .f32⟩
  | 25 => ⟨S1x2048x8x1, .f32⟩
  | 26 => ⟨S1x2048x8x1, .f32⟩
  | 27 => ⟨S_, .f32⟩
  | 28 => ⟨S1x2048x8x1, .f32⟩
  | 29 => ⟨S1x2048x8x1, .f32⟩
  | 30 => ⟨S1x2048x8x128, .f32⟩
  | 31 => ⟨S1x2048x8x128, .f32⟩
  | 32 => ⟨S1x2048x8x128, .f32⟩
  | 33 => ⟨S256x8x128, .f32⟩
  | 34 => ⟨S2048x8x128, .f32⟩
  | 35 => ⟨S2304x8x128, .f32⟩
  | 36 => ⟨S2304x1024, .f32⟩
  | 37 => ⟨S256x8x128, .f32⟩
  | 38 => ⟨S2048x8x128, .f32⟩
  | 39 => ⟨S2304x8x128, .f32⟩
  | 40 => ⟨S2304x1024, .f32⟩
  | 41 => ⟨S256x8x128, .f32⟩
  | 42 => ⟨S2048x8x128, .f32⟩
  | 43 => ⟨S2304x8x128, .f32⟩
  | 44 => ⟨S2304x1024, .f32⟩
  | 45 => ⟨S2304x3072, .f32⟩
  | 46 => ⟨S2304x1024, .f32⟩
  | 47 => ⟨S2304x1024, .f32⟩
  | 48 => ⟨S2304x1024, .f32⟩
  | 49 => ⟨S2304x8x128, .f32⟩
  | 50 => ⟨S256x8x128, .f32⟩
  | 51 => ⟨S2048x8x128, .f32⟩
  | 52 => ⟨S1x2048x8x128, .f32⟩
  | 53 => ⟨S1x256x8x128, .f32⟩
  | 54 => ⟨S2304x8x128, .f32⟩
  | 55 => ⟨S256x8x128, .f32⟩
  | 56 => ⟨S2048x8x128, .f32⟩
  | 57 => ⟨S1x2048x8x128, .f32⟩
  | 58 => ⟨S1x256x8x128, .f32⟩
  | 59 => ⟨S2304x8x128, .f32⟩
  | 60 => ⟨S256x8x128, .f32⟩
  | 61 => ⟨S2048x8x128, .f32⟩
  | 62 => ⟨S1x2048x8x128, .f32⟩
  | 63 => ⟨S1x256x8x128, .f32⟩
  | 64 => ⟨S1x2048x1024, .f32⟩
  | 65 => ⟨S1x2048x8x128, .f32⟩
  | 66 => ⟨S_, .f32⟩
  | 67 => ⟨S1x2048x8, .f32⟩
  | 68 => ⟨S1x2048x8x1, .f32⟩
  | 69 => ⟨S1x2048x8x128, .f32⟩
  | 70 => ⟨S1x2048x8x128, .f32⟩
  | 71 => ⟨S1x2048x8x1, .f32⟩
  | 72 => ⟨S_, .f32⟩
  | 73 => ⟨S2048x8, .f32⟩
  | 74 => ⟨S1x2048x8, .f32⟩
  | 75 => ⟨S1x2048x8x128, .f32⟩
  | 76 => ⟨S1x2048x8x128, .f32⟩
  | 77 => ⟨S1x2048x8x128, .f32⟩
  | 78 => ⟨S1x2048x8x128, .f32⟩
  | 79 => ⟨S1x2048x8x128, .f32⟩
  | 80 => ⟨S1x2048x1024, .f32⟩
  | 81 => ⟨S_, .f32⟩
  | 82 => ⟨S1x2048x8x128, .f32⟩
  | 83 => ⟨S1x2048x8x128, .f32⟩
  | 84 => ⟨S1x2048x8x128, .f32⟩
  | 85 => ⟨S_, .f32⟩
  | 86 => ⟨S1x2048x8, .f32⟩
  | 87 => ⟨S1x2048x8x1, .f32⟩
  | 88 => ⟨S1x2048x8x128, .f32⟩
  | 89 => ⟨S1x2048x8x128, .f32⟩
  | 90 => ⟨S1x2048x8x1, .f32⟩
  | 91 => ⟨S_, .f32⟩
  | 92 => ⟨S2048x8, .f32⟩
  | 93 => ⟨S1x2048x8, .f32⟩
  | 94 => ⟨S1x2048x8x128, .f32⟩
  | 95 => ⟨S1x2048x8x128, .f32⟩
  | 96 => ⟨S1x2048x8x128, .f32⟩
  | 97 => ⟨S1x2048x8x128, .f32⟩
  | 98 => ⟨S1x2048x8x128, .f32⟩
  | 99 => ⟨S1x2048x1024, .f32⟩
  | 100 => ⟨S1x2048x3072, .f32⟩
  | 101 => ⟨S1x2048x3072, .f32⟩
  | 102 => ⟨S1x2048x3072, .f32⟩
  | 103 => ⟨S1x2048x3072, .f32⟩
  | 104 => ⟨S1x2048x3072, .f32⟩
  | 105 => ⟨S1x2048x3072, .f32⟩
  | 106 => ⟨S_, .f32⟩
  | 107 => ⟨S1x3072, .f32⟩
  | 108 => ⟨S1x1x3072, .f32⟩
  | 109 => ⟨S1x2048x3072, .f32⟩
  | 110 => ⟨S1x2048x3072, .f32⟩
  | 111 => ⟨S_, .f32⟩
  | 112 => ⟨S3072, .f32⟩
  | 113 => ⟨S1x3072, .f32⟩
  | 114 => ⟨S_, .f32⟩
  | 115 => ⟨S3x3072, .f32⟩
  | 116 => ⟨S_, .f32⟩
  | 117 => ⟨S1x2050x3072, .f32⟩
  | 118 => ⟨S1x2048x3072, .f32⟩
  | 119 => ⟨S_, .f32⟩
  | 120 => ⟨S1x3072, .f32⟩
  | 121 => ⟨S1x1x3072, .f32⟩
  | 122 => ⟨S1x2048x3072, .f32⟩
  | 123 => ⟨S1x2048x3072, .f32⟩
  | 124 => ⟨S_, .f32⟩
  | 125 => ⟨S3072, .f32⟩
  | 126 => ⟨S1x3072, .f32⟩
  | 127 => ⟨S_, .f32⟩
  | _ => ⟨S2304x3072, .f32⟩

abbrev hbmTy0_2 (i : Nat) : BufTy := match i % 128 with
  | 0 => ⟨S3x3072, .f32⟩
  | 1 => ⟨S3x3072, .f32⟩
  | 2 => ⟨S_, .f32⟩
  | 3 => ⟨S1x2050x3072, .f32⟩
  | 4 => ⟨S1x2050x3072, .f32⟩
  | 5 => ⟨S1x2048x3072, .f32⟩
  | 6 => ⟨S_, .f32⟩
  | 7 => ⟨S1x3072, .f32⟩
  | 8 => ⟨S1x1x3072, .f32⟩
  | 9 => ⟨S1x2048x3072, .f32⟩
  | 10 => ⟨S1x2048x3072, .f32⟩
  | 11 => ⟨S_, .f32⟩
  | 12 => ⟨S3072, .f32⟩
  | 13 => ⟨S1x3072, .f32⟩
  | 14 => ⟨S_, .f32⟩
  | 15 => ⟨S3x3072, .f32⟩
  | 16 => ⟨S3x3072, .f32⟩
  | 17 => ⟨S_, .f32⟩
  | 18 => ⟨S1x2050x3072, .f32⟩
  | 19 => ⟨S1x2050x3072, .f32⟩
  | 20 => ⟨S1x1x3072, .f32⟩
  | 21 => ⟨S1x2048x3072, .f32⟩
  | 22 => ⟨S1x1x3072, .f32⟩
  | 23 => ⟨S_, .f32⟩
  | 24 => ⟨S2048x3072, .f32⟩
  | 25 => ⟨S_, .f32⟩
  | 26 => ⟨S2304x3072, .f32⟩
  | 27 => ⟨S1x256x1024, .f32⟩
  | 28 => ⟨S1x256x8x128, .f32⟩
  | 29 => ⟨S_, .f32⟩
  | 30 => ⟨S1x256x8, .f32⟩
  | 31 => ⟨S1x256x8x1, .f32⟩
  | 32 => ⟨S1x256x8x128, .f32⟩
  | 33 => ⟨S1x256x8x128, .f32⟩
  | 34 => ⟨S1x256x8x1, .f32⟩
  | 35 => ⟨S_, .f32⟩
  | 36 => ⟨S256x8, .f32⟩
  | 37 => ⟨S1x256x8, .f32⟩
  | 38 => ⟨S1x256x8x128, .f32⟩
  | 39 => ⟨S1x256x8x128, .f32⟩
  | 40 => ⟨S1x256x8x128, .f32⟩
  | 41 => ⟨S1x256x8x128, .f32⟩
  | 42 => ⟨S1x256x8x128, .f32⟩
  | 43 => ⟨S1x256x1024, .f32⟩
  | 44 => ⟨S_, .f32⟩
  | 45 => ⟨S1x256x8x128, .f32⟩
  | 46 => ⟨S1x256x8x128, .f32⟩
  | 47 => ⟨S1x256x8x128, .f32⟩
  | 48 => ⟨S_, .f32⟩
  | 49 => ⟨S1x256x8, .f32⟩
  | 50 => ⟨S1x256x8x1, .f32⟩
  | 51 => ⟨S1x256x8x128, .f32⟩
  | 52 => ⟨S1x256x8x128, .f32⟩
  | 53 => ⟨S1x256x8x1, .f32⟩
  | 54 => ⟨S_, .f32⟩
  | 55 => ⟨S256x8, .f32⟩
  | 56 => ⟨S1x256x8, .f32⟩
  | 57 => ⟨S1x256x8x128, .f32⟩
  | 58 => ⟨S1x256x8x128, .f32⟩
  | 59 => ⟨S1x256x8x128, .f32⟩
  | 60 => ⟨S1x256x8x128, .f32⟩
  | 61 => ⟨S1x256x8x128, .f32⟩
  | 62 => ⟨S1x256x1024, .f32⟩
  | 63 => ⟨S1x256x3072, .f32⟩
  | 64 => ⟨S1x256x3072, .f32⟩
  | 65 => ⟨S1x256x3072, .f32⟩
  | 66 => ⟨S1x256x3072, .f32⟩
  | 67 => ⟨S1x256x3072, .f32⟩
  | 68 => ⟨S1x256x3072, .f32⟩
  | 69 => ⟨S_, .f32⟩
  | 70 => ⟨S1x3072, .f32⟩
  | 71 => ⟨S1x1x3072, .f32⟩
  | 72 => ⟨S1x256x3072, .f32⟩
  | 73 => ⟨S1x256x3072, .f32⟩
  | 74 => ⟨S_, .f32⟩
  | 75 => ⟨S3072, .f32⟩
  | 76 => ⟨S1x3072, .f32⟩
  | 77 => ⟨S_, .f32⟩
  | 78 => ⟨S3x3072, .f32⟩
  | 79 => ⟨S3x3072, .f32⟩
  | 80 => ⟨S_, .f32⟩
  | 81 => ⟨S1x258x3072, .f32⟩
  | 82 => ⟨S1x256x3072, .f32⟩
  | 83 => ⟨S_, .f32⟩
  | 84 => ⟨S1x3072, .f32⟩
  | 85 => ⟨S1x1x3072, .f32⟩
  | 86 => ⟨S1x256x3072, .f32⟩
  | 87 => ⟨S1x256x3072, .f32⟩
  | 88 => ⟨S_, .f32⟩
  | 89 => ⟨S3072, .f32⟩
  | 90 => ⟨S1x3072, .f32⟩
  | 91 => ⟨S_, .f32⟩
  | 92 => ⟨S3x3072, .f32⟩
  | 93 => ⟨S3x3072, .f32⟩
  | 94 => ⟨S_, .f32⟩
  | 95 => ⟨S1x258x3072, .f32⟩
  | 96 => ⟨S1x258x3072, .f32⟩
  | 97 => ⟨S1x256x3072, .f32⟩
  | 98 => ⟨S_, .f32⟩
  | 99 => ⟨S1x3072, .f32⟩
  | 100 => ⟨S1x1x3072, .f32⟩
  | 101 => ⟨S1x256x3072, .f32⟩
  | 102 => ⟨S1x256x3072, .f32⟩
  | 103 => ⟨S_, .f32⟩
  | 104 => ⟨S3072, .f32⟩
  | 105 => ⟨S1x3072, .f32⟩
  | 106 => ⟨S_, .f32⟩
  | 107 => ⟨S3x3072, .f32⟩
  | 108 => ⟨S3x3072, .f32⟩
  | 109 => ⟨S_, .f32⟩
  | 110 => ⟨S1x258x3072, .f32⟩
  | 111 => ⟨S1x258x3072, .f32⟩
  | 112 => ⟨S1x1x3072, .f32⟩
  | 113 => ⟨S1x256x3072, .f32⟩
  | 114 => ⟨S1x1x3072, .f32⟩
  | 115 => ⟨S_, .f32⟩
  | 116 => ⟨S256x3072, .f32⟩
  | 117 => ⟨S_, .f32⟩
  | 118 => ⟨S2304x3072, .f32⟩
  | 119 => ⟨S2304x3072, .f32⟩
  | 120 => ⟨S1x3072, .f32⟩
  | 121 => ⟨S1x3072, .f32⟩
  | 122 => ⟨S1x3072, .f32⟩
  | _ => ⟨S2304x3072, .f32⟩

abbrev hbmTy (i : Nat) : BufTy := match i / 128 with
  | 0 => hbmTy0_0 i
  | 1 => hbmTy0_1 i
  | 2 => hbmTy0_2 i
  | _ => ⟨S2304x3072, .f32⟩

abbrev bufTy : (tb : Table) → Fin (tcTables nBuf tb) → BufTy
  | .hbm, ⟨i, _⟩ => hbmTy i
  | _, _ => ⟨S2304x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v26_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v26_1 : Ref sig .tc := ⟨.hbm, 43, rfl⟩
abbrev main_v26_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_v83_2 : Ref sig .tc := ⟨.hbm, 118, rfl⟩
abbrev main_call1_cst_1 : Ref sig .tc := ⟨.hbm, 119, rfl⟩
abbrev main_call1_v6 : Ref sig .tc := ⟨.hbm, 120, rfl⟩
abbrev main_call1_v7 : Ref sig .tc := ⟨.hbm, 121, rfl⟩
abbrev main_v83_1 : Ref sig .tc := ⟨.hbm, 122, rfl⟩
abbrev main_v83_0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_12 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_14 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_15 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_16 : Ref sig .tc := ⟨.hbm, 147, rfl⟩
abbrev main_v103 : Ref sig .tc := ⟨.hbm, 148, rfl⟩
abbrev main_v104 : Ref sig .tc := ⟨.hbm, 149, rfl⟩
abbrev main_cst_17 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_18 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_19 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_20 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_21 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_22 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_23 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_call2_v0 : Ref sig .tc := ⟨.hbm, 229, rfl⟩
abbrev main_call2_v1 : Ref sig .tc := ⟨.hbm, 230, rfl⟩
abbrev main_call2_v2 : Ref sig .tc := ⟨.hbm, 231, rfl⟩
abbrev main_v177 : Ref sig .tc := ⟨.hbm, 232, rfl⟩
abbrev main_v178 : Ref sig .tc := ⟨.hbm, 233, rfl⟩
abbrev main_cst_24 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_25 : Ref sig .tc := ⟨.hbm, 239, rfl⟩
abbrev main_v183 : Ref sig .tc := ⟨.hbm, 240, rfl⟩
abbrev main_v184 : Ref sig .tc := ⟨.hbm, 241, rfl⟩
abbrev main_cst_26 : Ref sig .tc := ⟨.hbm, 242, rfl⟩
abbrev main_v185 : Ref sig .tc := ⟨.hbm, 243, rfl⟩
abbrev main_cst_27 : Ref sig .tc := ⟨.hbm, 244, rfl⟩
abbrev main_v186 : Ref sig .tc := ⟨.hbm, 245, rfl⟩
abbrev main_v187 : Ref sig .tc := ⟨.hbm, 246, rfl⟩
abbrev main_cst_28 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_29 : Ref sig .tc := ⟨.hbm, 252, rfl⟩
abbrev main_v192 : Ref sig .tc := ⟨.hbm, 253, rfl⟩
abbrev main_v193 : Ref sig .tc := ⟨.hbm, 254, rfl⟩
abbrev main_cst_30 : Ref sig .tc := ⟨.hbm, 255, rfl⟩
abbrev main_v194 : Ref sig .tc := ⟨.hbm, 256, rfl⟩
abbrev main_v195 : Ref sig .tc := ⟨.hbm, 257, rfl⟩
abbrev main_cst_31 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_cst_32 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_cst_33 : Ref sig .tc := ⟨.hbm, 267, rfl⟩
abbrev main_v203 : Ref sig .tc := ⟨.hbm, 268, rfl⟩
abbrev main_v204 : Ref sig .tc := ⟨.hbm, 269, rfl⟩
abbrev main_cst_34 : Ref sig .tc := ⟨.hbm, 270, rfl⟩
abbrev main_v205 : Ref sig .tc := ⟨.hbm, 271, rfl⟩
abbrev main_v206 : Ref sig .tc := ⟨.hbm, 272, rfl⟩
abbrev main_cst_35 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_36 : Ref sig .tc := ⟨.hbm, 279, rfl⟩
abbrev main_v212 : Ref sig .tc := ⟨.hbm, 280, rfl⟩
abbrev main_cst_37 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_cst_38 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_cst_39 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_cst_40 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_cst_41 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_cst_42 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_call3_v0 : Ref sig .tc := ⟨.hbm, 320, rfl⟩
abbrev main_call3_v1 : Ref sig .tc := ⟨.hbm, 321, rfl⟩
abbrev main_call3_v2 : Ref sig .tc := ⟨.hbm, 322, rfl⟩
abbrev main_v246 : Ref sig .tc := ⟨.hbm, 323, rfl⟩
abbrev main_v247 : Ref sig .tc := ⟨.hbm, 324, rfl⟩
abbrev main_cst_43 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_cst_44 : Ref sig .tc := ⟨.hbm, 330, rfl⟩
abbrev main_v252 : Ref sig .tc := ⟨.hbm, 331, rfl⟩
abbrev main_v253 : Ref sig .tc := ⟨.hbm, 332, rfl⟩
abbrev main_cst_45 : Ref sig .tc := ⟨.hbm, 333, rfl⟩
abbrev main_v254 : Ref sig .tc := ⟨.hbm, 334, rfl⟩
abbrev main_v255 : Ref sig .tc := ⟨.hbm, 335, rfl⟩
abbrev main_cst_46 : Ref sig .tc := ⟨.hbm, 336, rfl⟩
abbrev main_v256 : Ref sig .tc := ⟨.hbm, 337, rfl⟩
abbrev main_v257 : Ref sig .tc := ⟨.hbm, 338, rfl⟩
abbrev main_cst_47 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_48 : Ref sig .tc := ⟨.hbm, 344, rfl⟩
abbrev main_v262 : Ref sig .tc := ⟨.hbm, 345, rfl⟩
abbrev main_v263 : Ref sig .tc := ⟨.hbm, 346, rfl⟩
abbrev main_cst_49 : Ref sig .tc := ⟨.hbm, 347, rfl⟩
abbrev main_v264 : Ref sig .tc := ⟨.hbm, 348, rfl⟩
abbrev main_v265 : Ref sig .tc := ⟨.hbm, 349, rfl⟩
abbrev main_cst_50 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_cst_51 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_cst_52 : Ref sig .tc := ⟨.hbm, 359, rfl⟩
abbrev main_v273 : Ref sig .tc := ⟨.hbm, 360, rfl⟩
abbrev main_v274 : Ref sig .tc := ⟨.hbm, 361, rfl⟩
abbrev main_cst_53 : Ref sig .tc := ⟨.hbm, 362, rfl⟩
abbrev main_v275 : Ref sig .tc := ⟨.hbm, 363, rfl⟩
abbrev main_v276 : Ref sig .tc := ⟨.hbm, 364, rfl⟩
abbrev main_cst_54 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_cst_55 : Ref sig .tc := ⟨.hbm, 371, rfl⟩
abbrev main_v282 : Ref sig .tc := ⟨.hbm, 372, rfl⟩
abbrev main_cst_56 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩

abbrev nD : Nat := 1
abbrev τ : Topo := Topo.v7x

variable {F : FTy → Type} [FloatOps F]
-- ==== AttnFK.lean ====
abbrev S2048x1024 : Shape := ⟨2, ![2048, 1024]⟩
abbrev S2304x256 : Shape := ⟨2, ![2304, 256]⟩
abbrev S256x128 : Shape := ⟨2, ![256, 128]⟩
abbrev S2304x128 : Shape := ⟨2, ![2304, 128]⟩
abbrev S128x128 : Shape := ⟨2, ![128, 128]⟩
abbrev S128x2304 : Shape := ⟨2, ![128, 2304]⟩
abbrev S128 : Shape := ⟨1, ![128]⟩
abbrev S128x1 : Shape := ⟨2, ![128, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S2048x1024, .f32⟩
  | .local _ .vmem, ⟨0, _⟩ => ⟨S256x128, .f32⟩
  | .local _ .vmem, ⟨1, _⟩ => ⟨S256x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S256x128, .f32⟩
  | .local _ .vmem, ⟨7, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFRIdeal.lean ====
abbrev S2048x1024 : Shape := ⟨2, ![2048, 1024]⟩
abbrev S2304x256 : Shape := ⟨2, ![2304, 256]⟩
abbrev S1x2048x2x4x128 : Shape := ⟨5, ![1, 2048, 2, 4, 128]⟩
abbrev S1x2304x2x128 : Shape := ⟨4, ![1, 2304, 2, 128]⟩
abbrev S1x2x2304x2048x4 : Shape := ⟨5, ![1, 2, 2304, 2048, 4]⟩
abbrev S1x2x4x2048x2304 : Shape := ⟨5, ![1, 2, 4, 2048, 2304]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x2x128x4x2048 : Shape := ⟨5, ![1, 2, 128, 4, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2304x256, .f32⟩
  | .hbm, ⟨2, _⟩ => ⟨S2304x256, .f32⟩
  | .hbm, ⟨3, _⟩ => ⟨S1x2048x2x4x128, .f32⟩
  | .hbm, ⟨4, _⟩ => ⟨S1x2304x2x128, .f32⟩
  | .hbm, ⟨5, _⟩ => ⟨S1x2304x2x128, .f32⟩
  | .hbm, ⟨6, _⟩ => ⟨S1x2x2304x2048x4, .f32⟩
  | .hbm, ⟨7, _⟩ => ⟨S1x2x4x2048x2304, .f32⟩
  | .hbm, ⟨8, _⟩ => ⟨S_, .f32⟩
  | .hbm, ⟨9, _⟩ => ⟨S1x2x4x2048x2304, .f32⟩
  | .hbm, ⟨10, _⟩ => ⟨S1x2x4x2048x2304, .f32⟩
  | .hbm, ⟨11, _⟩ => ⟨S_, .f32⟩
  | .hbm, ⟨12, _⟩ => ⟨S1x2x4x2048, .f32⟩
  | .hbm, ⟨13, _⟩ => ⟨S_, .f32⟩
  | .hbm, ⟨14, _⟩ => ⟨S1x2x4x2048, .f32⟩
  | .hbm, ⟨15, _⟩ => ⟨S1x2x4x2048, .f32⟩
  | .hbm, ⟨16, _⟩ => ⟨S1x2x4x2048x1, .f32⟩
  | .hbm, ⟨17, _⟩ => ⟨S1x2x4x2048x2304, .f32⟩
  | .hbm, ⟨18, _⟩ => ⟨S1x2x4x2048x2304, .f32⟩
  | .hbm, ⟨19, _⟩ => ⟨S1x2x4x2048x2304, .f32⟩
  | .hbm, ⟨20, _⟩ => ⟨S_, .f32⟩
  | .hbm, ⟨21, _⟩ => ⟨S1x2x4x2048, .f32⟩
  | .hbm, ⟨22, _⟩ => ⟨S1x2x4x2048x1, .f32⟩
  | .hbm, ⟨23, _⟩ => ⟨S1x2x4x2048x2304, .f32⟩
  | .hbm, ⟨24, _⟩ => ⟨S1x2x4x2048x2304, .f32⟩
  | .hbm, ⟨25, _⟩ => ⟨S1x2x128x4x2048, .f32⟩
  | .hbm, ⟨26, _⟩ => ⟨S1x2048x2x4x128, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MergeFK.lean ====
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeFRIdeal.lean ====
abbrev S2048x1024 : Shape := ⟨2, ![2048, 1024]⟩
abbrev S2048x2048 : Shape := ⟨2, ![2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== NormFK.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFRIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== NormCFK.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== NormCFRIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ResFK.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResFRIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== HeadFK.lean ====
abbrev S2048x1024 : Shape := ⟨2, ![2048, 1024]⟩
abbrev S1x1024 : Shape := ⟨2, ![1, 1024]⟩
abbrev S1024 : Shape := ⟨1, ![1024]⟩
abbrev S2048x128 : Shape := ⟨2, ![2048, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadFRIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== QPrepFK.lean ====
abbrev S2048x1024 : Shape := ⟨2, ![2048, 1024]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S128x1 : Shape := ⟨2, ![128, 1]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩

abbrev nBuf : Space → Nat
  | .hbm => 79
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x128, .f32⟩
  | .hbm, ⟨2, _⟩ => ⟨S2048, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x128, .f32⟩
  | .hbm, ⟨47, _⟩ => ⟨S_, .f32⟩
  | .hbm, ⟨48, _⟩ => ⟨S256x128, .f32⟩
  | .hbm, ⟨49, _⟩ => ⟨S2304x128, .f32⟩
  | .hbm, ⟨50, _⟩ => ⟨S_, .f32⟩
  | .hbm, ⟨51, _⟩ => ⟨S256x128, .f32⟩
  | .hbm, ⟨52, _⟩ => ⟨S2304x128, .f32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S1x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .f32⟩
  | .hbm, ⟨73, _⟩ => ⟨S_, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x1024, .f32⟩
  | .local _ .vmem, ⟨9, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_v44 : Ref sig .tc := ⟨.hbm, 55, rfl⟩
abbrev main_v45 : Ref sig .tc := ⟨.hbm, 56, rfl⟩
abbrev main_c_7 : Ref sig .tc := ⟨.hbm, 57, rfl⟩
abbrev main_v46 : Ref sig .tc := ⟨.hbm, 58, rfl⟩
abbrev main_v47 : Ref sig .tc := ⟨.hbm, 59, rfl⟩
abbrev main_c_8 : Ref sig .tc := ⟨.hbm, 60, rfl⟩
abbrev main_v48 : Ref sig .tc := ⟨.hbm, 61, rfl⟩
abbrev main_v49 : Ref sig .tc := ⟨.hbm, 62, rfl⟩
abbrev main_c_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QPrepFRIdeal.lean ====
abbrev S2048x1024 : Shape := ⟨2, ![2048, 1024]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x2x32 : Shape := ⟨3, ![2048, 2, 32]⟩
abbrev S1x2048x8x128 : Shape := ⟨4, ![1, 2048, 8, 128]⟩
abbrev S128 : Shape := ⟨1, ![128]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S1x2048x8x2x2x32 : Shape := ⟨6, ![1, 2048, 8, 2, 2, 32]⟩
abbrev S1x2048x8x2x1x32 : Shape := ⟨6, ![1, 2048, 8, 2, 1, 32]⟩
abbrev S1x2048x8x2x32 : Shape := ⟨5, ![1, 2048, 8, 2, 32]⟩
abbrev S1x2048x1x2x32 : Shape := ⟨5, ![1, 2048, 1, 2, 32]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x128, .f32⟩
  | .hbm, ⟨2, _⟩ => ⟨S32, .f32⟩
  | .hbm, ⟨3, _⟩ => ⟨S32x1, .f32⟩
  | .hbm, ⟨4, _⟩ => ⟨S32x64, .f32⟩
  | .hbm, ⟨5, _⟩ => ⟨S2048, .f32⟩
  | .hbm, ⟨6, _⟩ => ⟨S64, .f32⟩
  | .hbm, ⟨7, _⟩ => ⟨S1x64, .f32⟩
  | .hbm, ⟨8, _⟩ => ⟨S32x64, .f32⟩
  | .hbm, ⟨9, _⟩ => ⟨S2048, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x1, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S2048x2x32, .f32⟩
  | .hbm, ⟨36, _⟩ => ⟨S2048x2x32, .f32⟩
  | .hbm, ⟨37, _⟩ => ⟨S2048x2x32, .f32⟩
  | .hbm, ⟨38, _⟩ => ⟨S1x2048x8x128, .f32⟩
  | .hbm, ⟨39, _⟩ => ⟨S128, .f32⟩
  | .hbm, ⟨40, _⟩ => ⟨S1x2048x8x128, .f32⟩
  | .hbm, ⟨41, _⟩ => ⟨S_, .f32⟩
  | .hbm, ⟨42, _⟩ => ⟨S1x2048x8, .f32⟩
  | .hbm, ⟨43, _⟩ => ⟨S1x2048x8x1, .f32⟩
  | .hbm, ⟨44, _⟩ => ⟨S_, .f32⟩
  | .hbm, ⟨45, _⟩ => ⟨S1x2048x8x1, .f32⟩
  | .hbm, ⟨46, _⟩ => ⟨S1x2048x8x1, .f32⟩
  | .hbm, ⟨47, _⟩ => ⟨S_, .f32⟩
  | .hbm, ⟨48, _⟩ => ⟨S1x2048x8x1, .f32⟩
  | .hbm, ⟨49, _⟩ => ⟨S1x2048x8x1, .f32⟩
  | .hbm, ⟨50, _⟩ => ⟨S1x2048x8x1, .f32⟩
  | .hbm, ⟨51, _⟩ => ⟨S1x2048x8x128, .f32⟩
  | .hbm, ⟨52, _⟩ => ⟨S1x2048x8x128, .f32⟩
  | .hbm, ⟨53, _⟩ => ⟨S1x1x1x128, .f32⟩
  | .hbm, ⟨54, _⟩ => ⟨S1x2048x8x128, .f32⟩
  | .hbm, ⟨55, _⟩ => ⟨S1x2048x8x128, .f32⟩
  | .hbm, ⟨56, _⟩ => ⟨S1x2048x8x2x2x32, .f32⟩
  | .hbm, ⟨57, _⟩ => ⟨S1x2048x8x2x1x32, .f32⟩
  | .hbm, ⟨58, _⟩ => ⟨S1x2048x8x2x32, .f32⟩
  | .hbm, ⟨59, _⟩ => ⟨S1x2048x8x2x1x32, .f32⟩
  | .hbm, ⟨60, _⟩ => ⟨S1x2048x8x2x32, .f32⟩
  | .hbm, ⟨61, _⟩ => ⟨S1x2048x1x2x32, .f32⟩
  | .hbm, ⟨62, _⟩ => ⟨S1x2048x1x2x32, .f32⟩
  | .hbm, ⟨63, _⟩ => ⟨S1x2048x8x2x32, .f32⟩
  | .hbm, ⟨64, _⟩ => ⟨S1x2048x8x2x32, .f32⟩
  | .hbm, ⟨65, _⟩ => ⟨S1x2048x8x2x32, .f32⟩
  | .hbm, ⟨66, _⟩ => ⟨S1x2048x8x2x32, .f32⟩
  | .hbm, ⟨67, _⟩ => ⟨S1x2048x8x2x32, .f32⟩
  | .hbm, ⟨68, _⟩ => ⟨S1x2048x8x2x32, .f32⟩
  | .hbm, ⟨69, _⟩ => ⟨S1x2048x8x2x32, .f32⟩
  | .hbm, ⟨70, _⟩ => ⟨S1x2048x8x2x32, .f32⟩
  | .hbm, ⟨71, _⟩ => ⟨S1x2048x8x2x32, .f32⟩
  | .hbm, ⟨72, _⟩ => ⟨S1x2048x8x2x32, .f32⟩
  | .hbm, ⟨73, _⟩ => ⟨S1x2048x8x2x1x32, .f32⟩
  | .hbm, ⟨74, _⟩ => ⟨S1x2048x8x2x1x32, .f32⟩
  | .hbm, ⟨75, _⟩ => ⟨S1x2048x8x2x2x32, .f32⟩
  | .hbm, ⟨76, _⟩ => ⟨S1x2048x8x128, .f32⟩
  | .hbm, ⟨77, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]
-- ==== KPrepFK.lean ====
abbrev S2304x256 : Shape := ⟨2, ![2304, 256]⟩
abbrev S1x128 : Shape := ⟨2, ![1, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S128x1 : Shape := ⟨2, ![128, 1]⟩
abbrev S128x128 : Shape := ⟨2, ![128, 128]⟩
abbrev S256x256 : Shape := ⟨2, ![256, 256]⟩
abbrev S256 : Shape := ⟨1, ![256]⟩
abbrev S256x1 : Shape := ⟨2, ![256, 1]⟩

abbrev nBuf : Space → Nat
  | .hbm => 79
  | .vmem => 10
  | .smem => 0
  | _ => 0

abbrev bufTy : (tb : Table) → Fin (tcTables nBuf tb) → BufTy
  | .hbm, ⟨0, _⟩ => ⟨S2304x256, .f32⟩
  | .hbm, ⟨1, _⟩ => ⟨S1x128, .f32⟩
  | .hbm, ⟨2, _⟩ => ⟨S2048, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x128, .f32⟩
  | .hbm, ⟨47, _⟩ => ⟨S_, .f32⟩
  | .hbm, ⟨48, _⟩ => ⟨S256x128, .f32⟩
  | .hbm, ⟨49, _⟩ => ⟨S2304x128, .f32⟩
  | .hbm, ⟨50, _⟩ => ⟨S_, .f32⟩
  | .hbm, ⟨51, _⟩ => ⟨S256x128, .f32⟩
  | .hbm, ⟨52, _⟩ => ⟨S2304x128, .f32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S128x1, .i32⟩
  | .hbm, ⟨68, _⟩ => ⟨S1x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .f32⟩
  | .hbm, ⟨73, _⟩ => ⟨S_, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S2304x256, .f32⟩
  | .local _ .vmem, ⟨0, _⟩ => ⟨S256x256, .f32⟩
  | .local _ .vmem, ⟨1, _⟩ => ⟨S256x256, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S128x128, .f32⟩
  | .local _ .vmem, ⟨8, _⟩ => ⟨S256x256, .f32⟩
  | .local _ .vmem, ⟨9, _⟩ => ⟨S256x256, .f32⟩
  | _, _ => ⟨S2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_v44 : Ref sig .tc := ⟨.hbm, 55, rfl⟩
abbrev main_v45 : Ref sig .tc := ⟨.hbm, 56, rfl⟩
abbrev main_c_7 : Ref sig .tc := ⟨.hbm, 57, rfl⟩
abbrev main_v46 : Ref sig .tc := ⟨.hbm, 58, rfl⟩
abbrev main_v47 : Ref sig .tc := ⟨.hbm, 59, rfl⟩
abbrev main_c_8 : Ref sig .tc := ⟨.hbm, 60, rfl⟩
abbrev main_v48 : Ref sig .tc := ⟨.hbm, 61, rfl⟩
abbrev main_v49 : Ref sig .tc := ⟨.hbm, 62, rfl⟩
abbrev main_c_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KPrepFRIdeal.lean ====
abbrev S2304x256 : Shape := ⟨2, ![2304, 256]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x2x32 : Shape := ⟨3, ![2048, 2, 32]⟩
abbrev S256x256 : Shape := ⟨2, ![256, 256]⟩
abbrev S1x256x256 : Shape := ⟨3, ![1, 256, 256]⟩
abbrev S1x256x2x128 : Shape := ⟨4, ![1, 256, 2, 128]⟩
abbrev S128 : Shape := ⟨1, ![128]⟩
abbrev S1x256x2 : Shape := ⟨3, ![1, 256, 2]⟩
abbrev S1x256x2x1 : Shape := ⟨4, ![1, 256, 2, 1]⟩
abbrev S1x1x1x128 : Shape := ⟨4, ![1, 1, 1, 128]⟩
abbrev S2048x256 : Shape := ⟨2, ![2048, 256]⟩
abbrev S1x2048x256 : Shape := ⟨3, ![1, 2048, 256]⟩
abbrev S1x2048x2x128 : Shape := ⟨4, ![1, 2048, 2, 128]⟩
abbrev S1x2048x2 : Shape := ⟨3, ![1, 2048, 2]⟩
abbrev S1x2048x2x1 : Shape := ⟨4, ![1, 2048, 2, 1]⟩
abbrev S1x2048x2x2x2x32 : Shape := ⟨6, ![1, 2048, 2, 2, 2, 32]⟩
abbrev S1x2048x2x2x1x32 : Shape := ⟨6, ![1, 2048, 2, 2, 1, 32]⟩
abbrev S1x2048x2x2x32 : Shape := ⟨5, ![1, 2048, 2, 2, 32]⟩
abbrev S1x2048x1x2x32 : Shape := ⟨5, ![1, 2048, 1, 2, 32]⟩
abbrev S1x2304x2x128 : Shape := ⟨4, ![1, 2304, 2, 128]⟩

abbrev nBuf : Space → Nat
  | .hbm => 101
  | .vmem => 0
  | .smem => 0
  | _ => 0

abbrev bufTy : (tb : Table) → Fin (tcTables nBuf tb) → BufTy
  | .hbm, ⟨0, _⟩ => ⟨S2304x256, .f32⟩
  | .hbm, ⟨1, _⟩ => ⟨S1x128, .f32⟩
  | .hbm, ⟨2, _⟩ => ⟨S32, .f32⟩
  | .hbm, ⟨3, _⟩ => ⟨S32x1, .f32⟩
  | .hbm, ⟨4, _⟩ => ⟨S32x64, .f32⟩
  | .hbm, ⟨5, _⟩ => ⟨S2048, .f32⟩
  | .hbm, ⟨6, _⟩ => ⟨S64, .f32⟩
  | .hbm, ⟨7, _⟩ => ⟨S1x64, .f32⟩
  | .hbm, ⟨8, _⟩ => ⟨S32x64, .f32⟩
  | .hbm, ⟨9, _⟩ => ⟨S2048, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x1, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x64, .f32⟩
  | .hbm, ⟨35, _⟩ => ⟨S2048x2x32, .f32⟩
  | .hbm, ⟨36, _⟩ => ⟨S2048x2x32, .f32⟩
  | .hbm, ⟨37, _⟩ => ⟨S2048x2x32, .f32⟩
  | .hbm, ⟨38, _⟩ => ⟨S256x256, .f32⟩
  | .hbm, ⟨39, _⟩ => ⟨S1x256x256, .f32⟩
  | .hbm, ⟨40, _⟩ => ⟨S1x256x2x128, .f32⟩
  | .hbm, ⟨41, _⟩ => ⟨S128, .f32⟩
  | .hbm, ⟨42, _⟩ => ⟨S1x256x2x128, .f32⟩
  | .hbm, ⟨43, _⟩ => ⟨S_, .f32⟩
  | .hbm, ⟨44, _⟩ => ⟨S1x256x2, .f32⟩
  | .hbm, ⟨45, _⟩ => ⟨S1x256x2x1, .f32⟩
  | .hbm, ⟨46, _⟩ => ⟨S_, .f32⟩
  | .hbm, ⟨47, _⟩ => ⟨S1x256x2x1, .f32⟩
  | .hbm, ⟨48, _⟩ => ⟨S1x256x2x1, .f32⟩
  | .hbm, ⟨49, _⟩ => ⟨S_, .f32⟩
  | .hbm, ⟨50, _⟩ => ⟨S1x256x2x1, .f32⟩
  | .hbm, ⟨51, _⟩ => ⟨S1x256x2x1, .f32⟩
  | .hbm, ⟨52, _⟩ => ⟨S1x256x2x1, .f32⟩
  | .hbm, ⟨53, _⟩ => ⟨S1x256x2x128, .f32⟩
  | .hbm, ⟨54, _⟩ => ⟨S1x256x2x128, .f32⟩
  | .hbm, ⟨55, _⟩ => ⟨S1x1x1x128, .f32⟩
  | .hbm, ⟨56, _⟩ => ⟨S1x256x2x128, .f32⟩
  | .hbm, ⟨57, _⟩ => ⟨S1x256x2x128, .f32⟩
  | .hbm, ⟨58, _⟩ => ⟨S2048x256, .f32⟩
  | .hbm, ⟨59, _⟩ => ⟨S1x2048x256, .f32⟩
  | .hbm, ⟨60, _⟩ => ⟨S1x2048x2x128, .f32⟩
  | .hbm, ⟨61, _⟩ => ⟨S128, .f32⟩
  | .hbm, ⟨62, _⟩ => ⟨S1x2048x2x128, .f32⟩
  | .hbm, ⟨63, _⟩ => ⟨S_, .f32⟩
  | .hbm, ⟨64, _⟩ => ⟨S1x2048x2, .f32⟩
  | .hbm, ⟨65, _⟩ => ⟨S1x2048x2x1, .f32⟩
  | .hbm, ⟨66, _⟩ => ⟨S_, .f32⟩
  | .hbm, ⟨67, _⟩ => ⟨S1x2048x2x1, .f32⟩
  | .hbm, ⟨68, _⟩ => ⟨S1x2048x2x1, .f32⟩
  | .hbm, ⟨69, _⟩ => ⟨S_, .f32⟩
  | .hbm, ⟨70, _⟩ => ⟨S1x2048x2x1, .f32⟩
  | .hbm, ⟨71, _⟩ => ⟨S1x2048x2x1, .f32⟩
  | .hbm, ⟨72, _⟩ => ⟨S1x2048x2x1, .f32⟩
  | .hbm, ⟨73, _⟩ => ⟨S1x2048x2x128, .f32⟩
  | .hbm, ⟨74, _⟩ => ⟨S1x2048x2x128, .f32⟩
  | .hbm, ⟨75, _⟩ => ⟨S1x1x1x128, .f32⟩
  | .hbm, ⟨76, _⟩ => ⟨S1x2048x2x128, .f32⟩
  | .hbm, ⟨77, _⟩ => ⟨S1x2048x2x128, .f32⟩
  | .hbm, ⟨78, _⟩ => ⟨S1x2048x2x2x2x32, .f32⟩
  | .hbm, ⟨79, _⟩ => ⟨S1x2048x2x2x1x32, .f32⟩
  | .hbm, ⟨80, _⟩ => ⟨S1x2048x2x2x32, .f32⟩
  | .hbm, ⟨81, _⟩ => ⟨S1x2048x2x2x1x32, .f32⟩
  | .hbm, ⟨82, _⟩ => ⟨S1x2048x2x2x32, .f32⟩
  | .hbm, ⟨83, _⟩ => ⟨S1x2048x1x2x32, .f32⟩
  | .hbm, ⟨84, _⟩ => ⟨S1x2048x1x2x32, .f32⟩
  | .hbm, ⟨85, _⟩ => ⟨S1x2048x2x2x32, .f32⟩
  | .hbm, ⟨86, _⟩ => ⟨S1x2048x2x2x32, .f32⟩
  | .hbm, ⟨87, _⟩ => ⟨S1x2048x2x2x32, .f32⟩
  | .hbm, ⟨88, _⟩ => ⟨S1x2048x2x2x32, .f32⟩
  | .hbm, ⟨89, _⟩ => ⟨S1x2048x2x2x32, .f32⟩
  | .hbm, ⟨90, _⟩ => ⟨S1x2048x2x2x32, .f32⟩
  | .hbm, ⟨91, _⟩ => ⟨S1x2048x2x2x32, .f32⟩
  | .hbm, ⟨92, _⟩ => ⟨S1x2048x2x2x32, .f32⟩
  | .hbm, ⟨93, _⟩ => ⟨S1x2048x2x2x32, .f32⟩
  | .hbm, ⟨94, _⟩ => ⟨S1x2048x2x2x32, .f32⟩
  | .hbm, ⟨95, _⟩ => ⟨S1x2048x2x2x1x32, .f32⟩
  | .hbm, ⟨96, _⟩ => ⟨S1x2048x2x2x1x32, .f32⟩
  | .hbm, ⟨97, _⟩ => ⟨S1x2048x2x2x2x32, .f32⟩
  | .hbm, ⟨98, _⟩ => ⟨S1x2048x2x128, .f32⟩
  | .hbm, ⟨99, _⟩ => ⟨S1x2304x2x128, .f32⟩
  | .hbm, ⟨100, _⟩ => ⟨S2304x256, .f32⟩
  | _, _ => ⟨S2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_cst_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩

abbrev nD : Nat := 1
abbrev τ : Topo := Topo.v7x

variable {F : FTy → Type} [FloatOps F]
-- ==== FfnFK.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S2048x128 : Shape := ⟨2, ![2048, 128]⟩
abbrev S1x128 : Shape := ⟨2, ![1, 128]⟩

abbrev nBuf : Space → Nat
  | .hbm => 7
  | .vmem => 22
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S2048x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFRIdeal.lean ====
abbrev S2048x5632 : Shape := ⟨2, ![2048, 5632]⟩
abbrev S3x5632 : Shape := ⟨2, ![3, 5632]⟩
abbrev S1x5632 : Shape := ⟨2, ![1, 5632]⟩
abbrev S1x2048x5632 : Shape := ⟨3, ![1, 2048, 5632]⟩
abbrev S5632 : Shape := ⟨1, ![5632]⟩
abbrev S_ : Shape := ⟨0, ![]⟩
abbrev S1x1x5632 : Shape := ⟨3, ![1, 1, 5632]⟩
abbrev S1x2050x5632 : Shape := ⟨3, ![1, 2050, 5632]⟩
abbrev S1x2048x2816 : Shape := ⟨3, ![1, 2048, 2816]⟩
abbrev S2048x2816 : Shape := ⟨2, ![2048, 2816]⟩

abbrev nBuf : Space → Nat
  | .hbm => 44
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S1x2048x5632, .f32⟩
  | .hbm, ⟨4, _⟩ => ⟨S5632, .f32⟩
  | .hbm, ⟨5, _⟩ => ⟨S_, .f32⟩
  | .hbm, ⟨6, _⟩ => ⟨S1x1x5632, .f32⟩
  | .hbm, ⟨7, _⟩ => ⟨S1x2050x5632, .f32⟩
  | .hbm, ⟨8, _⟩ => ⟨S1x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S1x2048x5632, .f32⟩
  | .hbm, ⟨13, _⟩ => ⟨S1x2048x5632, .f32⟩
  | .hbm, ⟨14, _⟩ => ⟨S1x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S1x2048x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x1x5632, .f32⟩
  | .hbm, ⟨29, _⟩ => ⟨S1x2048x5632, .f32⟩
  | .hbm, ⟨30, _⟩ => ⟨S1x2048x5632, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S_, .f32⟩
  | .hbm, ⟨36, _⟩ => ⟨S1x2048x2816, .f32⟩
  | .hbm, ⟨37, _⟩ => ⟨S1x2048x2816, .f32⟩
  | .hbm, ⟨38, _⟩ => ⟨S_, .f32⟩
  | .hbm, ⟨39, _⟩ => ⟨S1x2048x2816, .f32⟩
  | .hbm, ⟨40, _⟩ => ⟨S1x2048x2816, .f32⟩
  | .hbm, ⟨41, _⟩ => ⟨S1x2048x2816, .f32⟩
  | .hbm, ⟨42, _⟩ => ⟨S1x2048x2816, .f32⟩
  | .hbm, ⟨43, _⟩ => ⟨S2048x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== GdnOutFK.lean ====
abbrev S2048x1024 : Shape := ⟨2, ![2048, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnOutFRIdeal.lean ====
abbrev S2048x1024 : Shape := ⟨2, ![2048, 1024]⟩
abbrev S1x128 : Shape := ⟨2, ![1, 128]⟩
abbrev S1x2048x8x128 : Shape := ⟨4, ![1, 2048, 8, 128]⟩
abbrev S1x8x2048x128 : Shape := ⟨4, ![1, 8, 2048, 128]⟩
abbrev S1x2048x1024 : Shape := ⟨3, ![1, 2048, 1024]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x128, .f32⟩
  | .hbm, ⟨3, _⟩ => ⟨S1x2048x8x128, .f32⟩
  | .hbm, ⟨4, _⟩ => ⟨S1x8x2048x128, .f32⟩
  | .hbm, ⟨5, _⟩ => ⟨S1x2048x1024, .f32⟩
  | .hbm, ⟨6, _⟩ => ⟨S128, .f32⟩
  | .hbm, ⟨7, _⟩ => ⟨S1x2048x8x128, .f32⟩
  | .hbm, ⟨8, _⟩ => ⟨S1x2048x8x128, .f32⟩
  | .hbm, ⟨9, _⟩ => ⟨S_, .f32⟩
  | .hbm, ⟨10, _⟩ => ⟨S1x2048x8, .f32⟩
  | .hbm, ⟨11, _⟩ => ⟨S1x2048x8x1, .f32⟩
  | .hbm, ⟨12, _⟩ => ⟨S_, .f32⟩
  | .hbm, ⟨13, _⟩ => ⟨S1x2048x8x1, .f32⟩
  | .hbm, ⟨14, _⟩ => ⟨S1x2048x8x1, .f32⟩
  | .hbm, ⟨15, _⟩ => ⟨S_, .f32⟩
  | .hbm, ⟨16, _⟩ => ⟨S1x2048x8x1, .f32⟩
  | .hbm, ⟨17, _⟩ => ⟨S1x2048x8x1, .f32⟩
  | .hbm, ⟨18, _⟩ => ⟨S1x2048x8x1, .f32⟩
  | .hbm, ⟨19, _⟩ => ⟨S1x2048x8x128, .f32⟩
  | .hbm, ⟨20, _⟩ => ⟨S1x2048x8x128, .f32⟩
  | .hbm, ⟨21, _⟩ => ⟨S1x1x1x128, .f32⟩
  | .hbm, ⟨22, _⟩ => ⟨S1x2048x8x128, .f32⟩
  | .hbm, ⟨23, _⟩ => ⟨S1x2048x8x128, .f32⟩
  | .hbm, ⟨24, _⟩ => ⟨S1x2048x8x128, .f32⟩
  | .hbm, ⟨25, _⟩ => ⟨S1x2048x8x128, .f32⟩
  | .hbm, ⟨26, _⟩ => ⟨S1x2048x8x128, .f32⟩
  | .hbm, ⟨27, _⟩ => ⟨S_, .f32⟩
  | .hbm, ⟨28, _⟩ => ⟨S1x2048x8x128, .f32⟩
  | .hbm, ⟨29, _⟩ => ⟨S1x2048x8x128, .f32⟩
  | .hbm, ⟨30, _⟩ => ⟨S_, .f32⟩
  | .hbm, ⟨31, _⟩ => ⟨S1x2048x8x128, .f32⟩
  | .hbm, ⟨32, _⟩ => ⟨S1x2048x8x128, .f32⟩
  | .hbm, ⟨33, _⟩ => ⟨S1x2048x8x128, .f32⟩
  | .hbm, ⟨34, _⟩ => ⟨S1x2048x8x128, .f32⟩
  | .hbm, ⟨35, _⟩ => ⟨S1x2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== GdnPrepFK.lean ====
abbrev S2304x3072 : Shape := ⟨2, ![2304, 3072]⟩
abbrev S3x3072 : Shape := ⟨2, ![3, 3072]⟩
abbrev S1x3072 : Shape := ⟨2, ![1, 3072]⟩
abbrev S2304x128 : Shape := ⟨2, ![2304, 128]⟩
abbrev S1x128 : Shape := ⟨2, ![1, 128]⟩
abbrev S2304 : Shape := ⟨1, ![2304]⟩
abbrev S2304x1 : Shape := ⟨2, ![2304, 1]⟩

abbrev nBuf : Space → Nat
  | .hbm => 8
  | .vmem => 14
  | .smem => 0
  | _ => 0

abbrev bufTy : (tb : Table) → Fin (tcTables nBuf tb) → BufTy
  | .hbm, ⟨0, _⟩ => ⟨S2304x3072, .f32⟩
  | .hbm, ⟨1, _⟩ => ⟨S3x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S2304x3072, .f32⟩
  | .local _ .vmem, ⟨0, _⟩ => ⟨S2304x128, .f32⟩
  | .local _ .vmem, ⟨1, _⟩ => ⟨S2304x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2304x128, .f32⟩
  | .local _ .vmem, ⟨13, _⟩ => ⟨S2304x128, .f32⟩
  | _, _ => ⟨S2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GdnPrepFRIdeal.lean ====
abbrev S2304x3072 : Shape := ⟨2, ![2304, 3072]⟩
abbrev S3x3072 : Shape := ⟨2, ![3, 3072]⟩
abbrev S256x3072 : Shape := ⟨2, ![256, 3072]⟩
abbrev S1x256x3072 : Shape := ⟨3, ![1, 256, 3072]⟩
abbrev S_ : Shape := ⟨0, ![]⟩
abbrev S1x1x3072 : Shape := ⟨3, ![1, 1, 3072]⟩
abbrev S1x258x3072 : Shape := ⟨3, ![1, 258, 3072]⟩
abbrev S1x3072 : Shape := ⟨2, ![1, 3072]⟩
abbrev S3072 : Shape := ⟨1, ![3072]⟩
abbrev S1x256x1024 : Shape := ⟨3, ![1, 256, 1024]⟩
abbrev S1x256x8x128 : Shape := ⟨4, ![1, 256, 8, 128]⟩
abbrev S1x256x8 : Shape := ⟨3, ![1, 256, 8]⟩
abbrev S1x256x8x1 : Shape := ⟨4, ![1, 256, 8, 1]⟩
abbrev S2048x3072 : Shape := ⟨2, ![2048, 3072]⟩
abbrev S1x2048x3072 : Shape := ⟨3, ![1, 2048, 3072]⟩
abbrev S1x2050x3072 : Shape := ⟨3, ![1, 2050, 3072]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S256x8x128 : Shape := ⟨3, ![256, 8, 128]⟩
abbrev S2048x8x128 : Shape := ⟨3, ![2048, 8, 128]⟩
abbrev S2304x8x128 : Shape := ⟨3, ![2304, 8, 128]⟩
abbrev S2304x1024 : Shape := ⟨2, ![2304, 1024]⟩

abbrev nBuf : Space → Nat
  | .hbm => 141
  | .vmem => 0
  | .smem => 0
  | _ => 0

abbrev hbmTy0_0 (i : Nat) : BufTy := match i % 128 with
  | 0 => ⟨S2304x3072, .f32⟩
  | 1 => ⟨S3x3072, .f32⟩
  | 2 => ⟨S256x3072, .f32⟩
  | 3 => ⟨S1x256x3072, .f32⟩
  | 4 => ⟨S_, .f32⟩
  | 5 => ⟨S1x1x3072, .f32⟩
  | 6 => ⟨S1x258x3072, .f32⟩
  | 7 => ⟨S1x256x3072, .f32⟩
  | 8 => ⟨S1x3072, .f32⟩
  | 9 => ⟨S3072, .f32⟩
  | 10 => ⟨S1x1x3072, .f32⟩
  | 11 => ⟨S1x256x3072, .f32⟩
  | 12 => ⟨S1x256x3072, .f32⟩
  | 13 => ⟨S1x256x3072, .f32⟩
  | 14 => ⟨S1x3072, .f32⟩
  | 15 => ⟨S3072, .f32⟩
  | 16 => ⟨S1x1x3072, .f32⟩
  | 17 => ⟨S1x256x3072, .f32⟩
  | 18 => ⟨S1x256x3072, .f32⟩
  | 19 => ⟨S1x256x3072, .f32⟩
  | 20 => ⟨S1x256x3072, .f32⟩
  | 21 => ⟨S1x3072, .f32⟩
  | 22 => ⟨S3072, .f32⟩
  | 23 => ⟨S1x1x3072, .f32⟩
  | 24 => ⟨S1x256x3072, .f32⟩
  | 25 => ⟨S1x256x3072, .f32⟩
  | 26 => ⟨S1x256x3072, .f32⟩
  | 27 => ⟨S1x256x3072, .f32⟩
  | 28 => ⟨S1x256x3072, .f32⟩
  | 29 => ⟨S_, .f32⟩
  | 30 => ⟨S1x256x3072, .f32⟩
  | 31 => ⟨S1x256x3072, .f32⟩
  | 32 => ⟨S_, .f32⟩
  | 33 => ⟨S1x256x3072, .f32⟩
  | 34 => ⟨S1x256x3072, .f32⟩
  | 35 => ⟨S1x256x3072, .f32⟩
  | 36 => ⟨S1x256x1024, .f32⟩
  | 37 => ⟨S1x256x1024, .f32⟩
  | 38 => ⟨S1x256x1024, .f32⟩
  | 39 => ⟨S1x256x8x128, .f32⟩
  | 40 => ⟨S1x256x8x128, .f32⟩
  | 41 => ⟨S_, .f32⟩
  | 42 => ⟨S1x256x8, .f32⟩
  | 43 => ⟨S1x256x8x1, .f32⟩
  | 44 => ⟨S_, .f32⟩
  | 45 => ⟨S1x256x8x1, .f32⟩
  | 46 => ⟨S1x256x8x1, .f32⟩
  | 47 => ⟨S1x256x8x1, .f32⟩
  | 48 => ⟨S1x256x8x128, .f32⟩
  | 49 => ⟨S1x256x8x128, .f32⟩
  | 50 => ⟨S_, .f32⟩
  | 51 => ⟨S1x256x8x128, .f32⟩
  | 52 => ⟨S1x256x8x128, .f32⟩
  | 53 => ⟨S1x256x8x128, .f32⟩
  | 54 => ⟨S1x256x8x128, .f32⟩
  | 55 => ⟨S_, .f32⟩
  | 56 => ⟨S1x256x8, .f32⟩
  | 57 => ⟨S1x256x8x1, .f32⟩
  | 58 => ⟨S_, .f32⟩
  | 59 => ⟨S1x256x8x1, .f32⟩
  | 60 => ⟨S1x256x8x1, .f32⟩
  | 61 => ⟨S1x256x8x1, .f32⟩
  | 62 => ⟨S1x256x8x128, .f32⟩
  | 63 => ⟨S1x256x8x128, .f32⟩
  | 64 => ⟨S1x256x8x128, .f32⟩
  | 65 => ⟨S2048x3072, .f32⟩
  | 66 => ⟨S1x2048x3072, .f32⟩
  | 67 => ⟨S_, .f32⟩
  | 68 => ⟨S1x1x3072, .f32⟩
  | 69 => ⟨S1x2050x3072, .f32⟩
  | 70 => ⟨S1x2048x3072, .f32⟩
  | 71 => ⟨S1x3072, .f32⟩
  | 72 => ⟨S3072, .f32⟩
  | 73 => ⟨S1x1x3072, .f32⟩
  | 74 => ⟨S1x2048x3072, .f32⟩
  | 75 => ⟨S1x2048x3072, .f32⟩
  | 76 => ⟨S1x2048x3072, .f32⟩
  | 77 => ⟨S1x3072, .f32⟩
  | 78 => ⟨S3072, .f32⟩
  | 79 => ⟨S1x1x3072, .f32⟩
  | 80 => ⟨S1x2048x3072, .f32⟩
  | 81 => ⟨S1x2048x3072, .f32⟩
  | 82 => ⟨S1x2048x3072, .f32⟩
  | 83 => ⟨S1x2048x3072, .f32⟩
  | 84 => ⟨S1x3072, .f32⟩
  | 85 => ⟨S3072, .f32⟩
  | 86 => ⟨S1x1x3072, .f32⟩
  | 87 => ⟨S1x2048x3072, .f32⟩
  | 88 => ⟨S1x2048x3072, .f32⟩
  | 89 => ⟨S1x2048x3072, .f32⟩
  | 90 => ⟨S1x2048x3072, .f32⟩
  | 91 => ⟨S1x2048x3072, .f32⟩
  | 92 => ⟨S_, .f32⟩
  | 93 => ⟨S1x2048x3072, .f32⟩
  | 94 => ⟨S1x2048x3072, .f32⟩
  | 95 => ⟨S_, .f32⟩
  | 96 => ⟨S1x2048x3072, .f32⟩
  | 97 => ⟨S1x2048x3072, .f32⟩
  | 98 => ⟨S1x2048x3072, .f32⟩
  | 99 => ⟨S1x2048x1024, .f32⟩
  | 100 => ⟨S1x2048x1024, .f32⟩
  | 101 => ⟨S1x2048x1024, .f32⟩
  | 102 => ⟨S1x2048x8x128, .f32⟩
  | 103 => ⟨S1x2048x8x128, .f32⟩
  | 104 => ⟨S_, .f32⟩
  | 105 => ⟨S1x2048x8, .f32⟩
  | 106 => ⟨S1x2048x8x1, .f32⟩
  | 107 => ⟨S_, .f32⟩
  | 108 => ⟨S1x2048x8x1, .f32⟩
  | 109 => ⟨S1x2048x8x1, .f32⟩
  | 110 => ⟨S1x2048x8x1, .f32⟩
  | 111 => ⟨S1x2048x8x128, .f32⟩
  | 112 => ⟨S1x2048x8x128, .f32⟩
  | 113 => ⟨S_, .f32⟩
  | 114 => ⟨S1x2048x8x128, .f32⟩
  | 115 => ⟨S1x2048x8x128, .f32⟩
  | 116 => ⟨S1x2048x8x128, .f32⟩
  | 117 => ⟨S1x2048x8x128, .f32⟩
  | 118 => ⟨S_, .f32⟩
  | 119 => ⟨S1x2048x8, .f32⟩
  | 120 => ⟨S1x2048x8x1, .f32⟩
  | 121 => ⟨S_, .f32⟩
  | 122 => ⟨S1x2048x8x1, .f32⟩
  | 123 => ⟨S1x2048x8x1, .f32⟩
  | 124 => ⟨S1x2048x8x1, .f32⟩
  | 125 => ⟨S1x2048x8x128, .f32⟩
  | 126 => ⟨S1x2048x8x128, .f32⟩
  | 127 => ⟨S1x2048x8x128, .f32⟩
  | _ => ⟨S2304x3072, .f32⟩

abbrev hbmTy0_1 (i : Nat) : BufTy := match i % 128 with
  | 0 => ⟨S256x8x128, .f32⟩
  | 1 => ⟨S2048x8x128, .f32⟩
  | 2 => ⟨S2304x8x128, .f32⟩
  | 3 => ⟨S2304x1024, .f32⟩
  | 4 => ⟨S256x8x128, .f32⟩
  | 5 => ⟨S2048x8x128, .f32⟩
  | 6 => ⟨S2304x8x128, .f32⟩
  | 7 => ⟨S2304x1024, .f32⟩
  | 8 => ⟨S256x8x128, .f32⟩
  | 9 => ⟨S2048x8x128, .f32⟩
  | 10 => ⟨S2304x8x128, .f32⟩
  | 11 => ⟨S2304x1024, .f32⟩
  | 12 => ⟨S2304x3072, .f32⟩
  | _ => ⟨S2304x3072, .f32⟩

abbrev hbmTy (i : Nat) : BufTy := match i / 128 with
  | 0 => hbmTy0_0 i
  | 1 => hbmTy0_1 i
  | _ => ⟨S2304x3072, .f32⟩

abbrev bufTy : (tb : Table) → Fin (tcTables nBuf tb) → BufTy
  | .hbm, ⟨i, _⟩ => hbmTy i
  | _, _ => ⟨S2304x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_6 : Ref sig .tc := ⟨.hbm, 104, rfl⟩
abbrev main_v79 : Ref sig .tc := ⟨.hbm, 105, rfl⟩
abbrev main_v80 : Ref sig .tc := ⟨.hbm, 106, rfl⟩
abbrev main_cst_7 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_8 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_9 : Ref sig .tc := ⟨.hbm, 118, rfl⟩
abbrev main_v90 : Ref sig .tc := ⟨.hbm, 119, rfl⟩
abbrev main_v91 : Ref sig .tc := ⟨.hbm, 120, rfl⟩
abbrev main_cst_10 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩

abbrev nD : Nat := 1
abbrev τ : Topo := Topo.v7x

variable {F : FTy → Type} [FloatOps F]
-- ==== GdnFK.lean ====
abbrev S2304x3072 : Shape := ⟨2, ![2304, 3072]⟩
abbrev S2304x2x8 : Shape := ⟨3, ![2304, 2, 8]⟩
abbrev S2 : Shape := ⟨1, ![2]⟩
abbrev S2x1x1x1 : Shape := ⟨4, ![2, 1, 1, 1]⟩
abbrev S2x64x64 : Shape := ⟨3, ![2, 64, 64]⟩
abbrev S2x1x1x64x64 : Shape := ⟨5, ![2, 1, 1, 64, 64]⟩
abbrev S36x64x2x8 : Shape := ⟨4, ![36, 64, 2, 8]⟩
abbrev S2x8x36x64 : Shape := ⟨4, ![2, 8, 36, 64]⟩
abbrev S1x8x36x64 : Shape := ⟨4, ![1, 8, 36, 64]⟩
abbrev S8x36x64 : Shape := ⟨3, ![8, 36, 64]⟩
abbrev S8x4x64 : Shape := ⟨3, ![8, 4, 64]⟩
abbrev S8x32x64 : Shape := ⟨3, ![8, 32, 64]⟩
abbrev S_ : Shape := ⟨0, ![]⟩
abbrev S2x8x36 : Shape := ⟨3, ![2, 8, 36]⟩
abbrev S2x8x36x1 : Shape := ⟨4, ![2, 8, 36, 1]⟩
abbrev S2x8x36x64x1 : Shape := ⟨5, ![2, 8, 36, 64, 1]⟩
abbrev S2x8x36x1x64 : Shape := ⟨5, ![2, 8, 36, 1, 64]⟩
abbrev S2x8x36x64x64 : Shape := ⟨5, ![2, 8, 36, 64, 64]⟩
abbrev S2x8x36x1x1 : Shape := ⟨5, ![2, 8, 36, 1, 1]⟩
abbrev S2x8x36x1x128 : Shape := ⟨5, ![2, 8, 36, 1, 128]⟩
abbrev S2x8x2304x1 : Shape := ⟨4, ![2, 8, 2304, 1]⟩
abbrev S2x8x2304x128 : Shape := ⟨4, ![2, 8, 2304, 128]⟩
abbrev S2048x1024 : Shape := ⟨2, ![2048, 1024]⟩
abbrev S2x8x36x128x128 : Shape := ⟨5, ![2, 8, 36, 128, 128]⟩
abbrev S64x3072 : Shape := ⟨2, ![64, 3072]⟩
abbrev S2x8x64x128 : Shape := ⟨4, ![2, 8, 64, 128]⟩
abbrev S2x8x1x64x64 : Shape := ⟨5, ![2, 8, 1, 64, 64]⟩
abbrev S2x8x1x1x128 : Shape := ⟨5, ![2, 8, 1, 1, 128]⟩
abbrev S64x1024 : Shape := ⟨2, ![64, 1024]⟩
abbrev S2x8x1x128x128 : Shape := ⟨5, ![2, 8, 1, 128, 128]⟩
abbrev S2x8x128x128 : Shape := ⟨4, ![2, 8, 128, 128]⟩
abbrev S64x128 : Shape := ⟨2, ![64, 128]⟩
abbrev S1x1x64x128 : Shape := ⟨4, ![1, 1, 64, 128]⟩
abbrev S1x1x1x64x64 : Shape := ⟨5, ![1, 1, 1, 64, 64]⟩
abbrev S64x64 : Shape := ⟨2, ![64, 64]⟩
abbrev S1x1x1x1x128 : Shape := ⟨5, ![1, 1, 1, 1, 128]⟩
abbrev S1x128 : Shape := ⟨2, ![1, 128]⟩
abbrev S1x1x128x128 : Shape := ⟨4, ![1, 1, 128, 128]⟩
abbrev S128x128 : Shape := ⟨2, ![128, 128]⟩
abbrev S128x64 : Shape := ⟨2, ![128, 64]⟩
abbrev S64x256 : Shape := ⟨2, ![64, 256]⟩
abbrev S1x1x1x128x128 : Shape := ⟨5, ![1, 1, 1, 128, 128]⟩

abbrev nBuf : Space → Nat
  | .hbm => 95
  | .vmem => 27
  | .smem => 0
  | _ => 0

abbrev bufTy : (tb : Table) → Fin (tcTables nBuf tb) → BufTy
  | .hbm, ⟨0, _⟩ => ⟨S2304x3072, .f32⟩
  | .hbm, ⟨1, _⟩ => ⟨S2304x2x8, .f32⟩
  | .hbm, ⟨2, _⟩ => ⟨S2304x2x8, .f32⟩
  | .hbm, ⟨3, _⟩ => ⟨S2, .i1⟩
  | .hbm, ⟨4, _⟩ => ⟨S2x1x1x1, .i1⟩
  | .hbm, ⟨5, _⟩ => ⟨S2x64x64, .i1⟩
  | .hbm, ⟨6, _⟩ => ⟨S2x1x1x64x64, .i1⟩
  | .hbm, ⟨7, _⟩ => ⟨S2x64x64, .i1⟩
  | .hbm, ⟨8, _⟩ => ⟨S2x1x1x64x64, .i1⟩
  | .hbm, ⟨9, _⟩ => ⟨S36x64x2x8, .f32⟩
  | .hbm, ⟨10, _⟩ => ⟨S2x8x36x64, .f32⟩
  | .hbm, ⟨11, _⟩ => ⟨S36x64x2x8, .f32⟩
  | .hbm, ⟨12, _⟩ => ⟨S2x8x36x64, .f32⟩
  | .hbm, ⟨13, _⟩ => ⟨S1x8x36x64, .f32⟩
  | .hbm, ⟨14, _⟩ => ⟨S8x36x64, .f32⟩
  | .hbm, ⟨15, _⟩ => ⟨S1x8x36x64, .f32⟩
  | .hbm, ⟨16, _⟩ => ⟨S8x36x64, .f32⟩
  | .hbm, ⟨17, _⟩ => ⟨S8x4x64, .f32⟩
  | .hbm, ⟨18, _⟩ => ⟨S8x4x64, .f32⟩
  | .hbm, ⟨19, _⟩ => ⟨S1x8x36x64, .f32⟩
  | .hbm, ⟨20, _⟩ => ⟨S8x36x64, .f32⟩
  | .hbm, ⟨21, _⟩ => ⟨S8x32x64, .f32⟩
  | .hbm, ⟨22, _⟩ => ⟨S8x32x64, .f32⟩
  | .hbm, ⟨23, _⟩ => ⟨S8x36x64, .f32⟩
  | .hbm, ⟨24, _⟩ => ⟨S1x8x36x64, .f32⟩
  | .hbm, ⟨25, _⟩ => ⟨S1x8x36x64, .f32⟩
  | .hbm, ⟨26, _⟩ => ⟨S2x8x36x64, .f32⟩
  | .hbm, ⟨27, _⟩ => ⟨S1x8x36x64, .f32⟩
  | .hbm, ⟨28, _⟩ => ⟨S8x36x64, .f32⟩
  | .hbm, ⟨29, _⟩ => ⟨S1x8x36x64, .f32⟩
  | .hbm, ⟨30, _⟩ => ⟨S8x36x64, .f32⟩
  | .hbm, ⟨31, _⟩ => ⟨S8x4x64, .f32⟩
  | .hbm, ⟨32, _⟩ => ⟨S8x4x64, .f32⟩
  | .hbm, ⟨33, _⟩ => ⟨S1x8x36x64, .f32⟩
  | .hbm, ⟨34, _⟩ => ⟨S8x36x64, .f32⟩
  | .hbm, ⟨35, _⟩ => ⟨S8x32x64, .f32⟩
  | .hbm, ⟨36, _⟩ => ⟨S8x32x64, .f32⟩
  | .hbm, ⟨37, _⟩ => ⟨S8x36x64, .f32⟩
  | .hbm, ⟨38, _⟩ => ⟨S1x8x36x64, .f32⟩
  | .hbm, ⟨39, _⟩ => ⟨S1x8x36x64, .f32⟩
  | .hbm, ⟨40, _⟩ => ⟨S2x8x36x64, .f32⟩
  | .hbm, ⟨41, _⟩ => ⟨S_, .f32⟩
  | .hbm, ⟨42, _⟩ => ⟨S_, .f32⟩
  | .hbm, ⟨43, _⟩ => ⟨S2x8x36x64, .f32⟩
  | .hbm, ⟨44, _⟩ => ⟨S_, .f32⟩
  | .hbm, ⟨45, _⟩ => ⟨S2x8x36, .f32⟩
  | .hbm, ⟨46, _⟩ => ⟨S2x8x36x1, .f32⟩
  | .hbm, ⟨47, _⟩ => ⟨S2x8x36x64, .f32⟩
  | .hbm, ⟨48, _⟩ => ⟨S2x8x36x64, .f32⟩
  | .hbm, ⟨49, _⟩ => ⟨S2x8x36x64, .f32⟩
  | .hbm, ⟨50, _⟩ => ⟨S2x8x36x64, .i1⟩
  | .hbm, ⟨51, _⟩ => ⟨S2x8x36x64, .f32⟩
  | .hbm, ⟨52, _⟩ => ⟨S2x8x36x64x1, .f32⟩
  | .hbm, ⟨53, _⟩ => ⟨S2x8x36x1x64, .f32⟩
  | .hbm, ⟨54, _⟩ => ⟨S2x8x36x64x64, .f32⟩
  | .hbm, ⟨55, _⟩ => ⟨S2x8x36x64x64, .f32⟩
  | .hbm, ⟨56, _⟩ => ⟨S2x8x36x64x64, .f32⟩
  | .hbm, ⟨57, _⟩ => ⟨S_, .f32⟩
  | .hbm, ⟨58, _⟩ => ⟨S_, .f32⟩
  | .hbm, ⟨59, _⟩ => ⟨S2x8x36x64x64, .i1⟩
  | .hbm, ⟨60, _⟩ => ⟨S2x8x36x64x64, .f32⟩
  | .hbm, ⟨61, _⟩ => ⟨S2x8x36x64x64, .f32⟩
  | .hbm, ⟨62, _⟩ => ⟨S2x8x36x64x64, .f32⟩
  | .hbm, ⟨63, _⟩ => ⟨S2x8x36x64x1, .f32⟩
  | .hbm, ⟨64, _⟩ => ⟨S2x8x36x64x64, .f32⟩
  | .hbm, ⟨65, _⟩ => ⟨S2x8x36x64x64, .f32⟩
  | .hbm, ⟨66, _⟩ => ⟨S_, .f32⟩
  | .hbm, ⟨67, _⟩ => ⟨S_, .f32⟩
  | .hbm, ⟨68, _⟩ => ⟨S2x8x36x64x64, .i1⟩
  | .hbm, ⟨69, _⟩ => ⟨S2x8x36x64x64, .f32⟩
  | .hbm, ⟨70, _⟩ => ⟨S2x8x36x64x64, .f32⟩
  | .hbm, ⟨71, _⟩ => ⟨S2x8x36x64, .f32⟩
  | .hbm, ⟨72, _⟩ => ⟨S2x8x36x1, .f32⟩
  | .hbm, ⟨73, _⟩ => ⟨S2x8x36x1, .f32⟩
  | .hbm, ⟨74, _⟩ => ⟨S2x8x36x1, .i1⟩
  | .hbm, ⟨75, _⟩ => ⟨S2x8x36x1, .f32⟩
  | .hbm, ⟨76, _⟩ => ⟨S2x8x36x1, .f32⟩
  | .hbm, ⟨77, _⟩ => ⟨S2x8x36x1x1, .f32⟩
  | .hbm, ⟨78, _⟩ => ⟨S2x8x36x1x128, .f32⟩
  | .hbm, ⟨79, _⟩ => ⟨S2x8x2304x1, .f32⟩
  | .hbm, ⟨80, _⟩ => ⟨S2x8x2304x128, .f32⟩
  | .hbm, ⟨81, _⟩ => ⟨S2x8x36x64, .f32⟩
  | .hbm, ⟨82, _⟩ => ⟨S2x8x2304x1, .f32⟩
  | .hbm, ⟨83, _⟩ => ⟨S2x8x2304x128, .f32⟩
  | .hbm, ⟨84, _⟩ => ⟨S2x8x2304x1, .f32⟩
  | .hbm, ⟨85, _⟩ => ⟨S2x8x2304x128, .f32⟩
  | .hbm, ⟨86, _⟩ => ⟨S2x8x36x64, .f32⟩
  | .hbm, ⟨87, _⟩ => ⟨S2x8x36x64, .f32⟩
  | .hbm, ⟨88, _⟩ => ⟨S2x8x36x64, .f32⟩
  | .hbm, ⟨89, _⟩ => ⟨S2x8x2304x1, .f32⟩
  | .hbm, ⟨90, _⟩ => ⟨S2x8x2304x128, .f32⟩
  | .hbm, ⟨91, _⟩ => ⟨S2048x1024, .f32⟩
  | .hbm, ⟨92, _⟩ => ⟨S2048x1024, .f32⟩
  | .hbm, ⟨93, _⟩ => ⟨S2x8x36x128x128, .f32⟩
  | .hbm, ⟨94, _⟩ => ⟨S2x8x36x64x64, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S2x8x64x128, .f32⟩
  | .local _ .vmem, ⟨5, _⟩ => ⟨S2x8x64x128, .f32⟩
  | .local _ .vmem, ⟨6, _⟩ => ⟨S2x8x64x128, .f32⟩
  | .local _ .vmem, ⟨7, _⟩ => ⟨S2x8x64x128, .f32⟩
  | .local _ .vmem, ⟨8, _⟩ => ⟨S2x8x64x128, .f32⟩
  | .local _ .vmem, ⟨9, _⟩ => ⟨S2x8x64x128, .f32⟩
  | .local _ .vmem, ⟨10, _⟩ => ⟨S2x8x64x128, .f32⟩
  | .local _ .vmem, ⟨11, _⟩ => ⟨S2x8x64x128, .f32⟩
  | .local _ .vmem, ⟨12, _⟩ => ⟨S2x8x1x64x64, .f32⟩
  | .local _ .vmem, ⟨13, _⟩ => ⟨S2x8x1x64x64, .f32⟩
  | .local _ .vmem, ⟨14, _⟩ => ⟨S2x8x1x64x64, .f32⟩
  | .local _ .vmem, ⟨15, _⟩ => ⟨S2x8x1x64x64, .f32⟩
  | .local _ .vmem, ⟨16, _⟩ => ⟨S2x8x1x1x128, .f32⟩
  | .local _ .vmem, ⟨17, _⟩ => ⟨S2x8x1x1x128, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S2x8x1x128x128, .f32⟩
  | .local _ .vmem, ⟨23, _⟩ => ⟨S2x8x1x128x128, .f32⟩
  | .local _ .vmem, ⟨24, _⟩ => ⟨S2x8x1x64x64, .f32⟩
  | .local _ .vmem, ⟨25, _⟩ => ⟨S2x8x1x64x64, .f32⟩
  | .local _ .vmem, ⟨26, _⟩ => ⟨S2x8x128x128, .f32⟩
  | _, _ => ⟨S2304x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call4_call0_cst : Ref sig .tc := ⟨.hbm, 41, rfl⟩
abbrev main_call4_call0_v0 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call5_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_call6_v0 : Ref sig .tc := ⟨.hbm, 58, rfl⟩
abbrev main_call6_v1 : Ref sig .tc := ⟨.hbm, 59, rfl⟩
abbrev main_call6_v2 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call8_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72_0 : Ref sig .tc := ⟨.hbm, 91, rfl⟩
abbrev main_v72_1 : Ref sig .tc := ⟨.hbm, 92, rfl⟩
abbrev main_v72_2 : Ref sig .tc := ⟨.hbm, 93, rfl⟩
abbrev main_v72_3 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c39_i32 : BitVec 32 := 39#32
  let v2 : BitVec 32 := Scalar.subi c39_i32 arg0
  let v3 : BitVec 32 := Scalar.select v0 v1 v2
  let c0_i32 : BitVec 32 := 0#32
  let c0_i32_0 : BitVec 32 := 0#32
  ![v3.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_9 (i : grid0.Coords) : Fin 2 → Nat :=
  let arg0 : BitVec 32 := BitVec.ofNat 32 (i 0).val
  let c4_i32 : BitVec 32 := 4#32
  let v0 : BitVec 1 := Scalar.cmpi .sge arg0 c4_i32
  let c4_i32_0 : BitVec 32 := 4#32
  let v1 : BitVec 32 := Scalar.subi arg0 c4_i32_0
  let c0_i32 : BitVec 32 := 0#32
  let v2 : BitVec 32 := Scalar.select v0 v1 c0_i32
  let c0_i32_1 : BitVec 32 := 0#32
  let c0_i32_2 : BitVec 32 := 0#32
  ![v2.toNat, c0_i32_1.toNat]

def cc0_transform_10 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c39_i32 : BitVec 32 := 39#32
  let v2 : BitVec 32 := Scalar.subi c39_i32 arg0
  let v3 : BitVec 32 := Scalar.select v0 v1 v2
  let c4_i32_0 : BitVec 32 := 4#32
  let v4 : BitVec 1 := Scalar.cmpi .sge v3 c4_i32_0
  let c4_i32_1 : BitVec 32 := 4#32
  let v5 : BitVec 1 := Scalar.cmpi .slt arg0 c4_i32_1
  let c3_i32_2 : BitVec 32 := 3#32
  let v6 : BitVec 32 := Scalar.subi c3_i32_2 arg0
  let c39_i32_3 : BitVec 32 := 39#32
  let v7 : BitVec 32 := Scalar.subi c39_i32_3 arg0
  let v8 : BitVec 32 := Scalar.select v5 v6 v7
  let c4_i32_4 : BitVec 32 := 4#32
  let v9 : BitVec 32 := Scalar.subi v8 c4_i32_4
  let c31_i32 : BitVec 32 := 31#32
  let v10 : BitVec 32 := Scalar.select v4 v9 c31_i32
  let c0_i32 : BitVec 32 := 0#32
  let c0_i32_5 : BitVec 32 := 0#32
  ![v10.toNat, c0_i32.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_12 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MmFK.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2048x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmFRIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmDwK.lean ====
abbrev S2048x1024 : Shape := ⟨2, ![2048, 1024]⟩
abbrev S1024x5632 : Shape := ⟨2, ![1024, 5632]⟩
abbrev S2048x5632 : Shape := ⟨2, ![2048, 5632]⟩
abbrev S4x1024x1408 : Shape := ⟨3, ![4, 1024, 1408]⟩
abbrev S2048x256 : Shape := ⟨2, ![2048, 256]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S4x1024x1408, .f32⟩
  | .local _ .vmem, ⟨0, _⟩ => ⟨S2048x256, .f32⟩
  | .local _ .vmem, ⟨1, _⟩ => ⟨S2048x256, .f32⟩
  | .local _ .vmem, ⟨2, _⟩ => ⟨S2048x1408, .f32⟩
  | .local _ .vmem, ⟨3, _⟩ => ⟨S2048x1408, .f32⟩
  | .local _ .vmem, ⟨4, _⟩ => ⟨S1x256x1408, .f32⟩
  | .local _ .vmem, ⟨5, _⟩ => ⟨S1x256x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwRIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S2048x1024, .f32⟩
  | .hbm, ⟨7, _⟩ => ⟨S1024x4x1408, .f32⟩
  | .hbm, ⟨8, _⟩ => ⟨S4x1024x1408, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmTFK.lean ====
abbrev S2304x1024 : Shape := ⟨2, ![2304, 1024]⟩
abbrev S1024x7680 : Shape := ⟨2, ![1024, 7680]⟩
abbrev S7680x1024 : Shape := ⟨2, ![7680, 1024]⟩
abbrev S2304x7680 : Shape := ⟨2, ![2304, 7680]⟩
abbrev S512x1024 : Shape := ⟨2, ![512, 1024]⟩
abbrev S2304x512 : Shape := ⟨2, ![2304, 512]⟩

abbrev nBuf : Space → Nat
  | .hbm => 5
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S7680x1024, .f32⟩
  | .hbm, ⟨3, _⟩ => ⟨S7680x1024, .bf16⟩
  | .hbm, ⟨4, _⟩ => ⟨S2304x7680, .f32⟩
  | .local _ .vmem, ⟨0, _⟩ => ⟨S2304x1024, .f32⟩
  | .local _ .vmem, ⟨1, _⟩ => ⟨S512x1024, .bf16⟩
  | .local _ .vmem, ⟨2, _⟩ => ⟨S512x1024, .bf16⟩
  | .local _ .vmem, ⟨3, _⟩ => ⟨S2304x512, .f32⟩
  | .local _ .vmem, ⟨4, _⟩ => ⟨S2304x512, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTFRIdeal.lean ====
abbrev S2304x1024 : Shape := ⟨2, ![2304, 1024]⟩
abbrev S1024x7680 : Shape := ⟨2, ![1024, 7680]⟩
abbrev S2304x7680 : Shape := ⟨2, ![2304, 7680]⟩

abbrev nBuf : Space → Nat
  | .hbm => 3
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmTDwK.lean ====
abbrev S2304x1024 : Shape := ⟨2, ![2304, 1024]⟩
abbrev S1024x7680 : Shape := ⟨2, ![1024, 7680]⟩
abbrev S2304x7680 : Shape := ⟨2, ![2304, 7680]⟩
abbrev S7680x1024 : Shape := ⟨2, ![7680, 1024]⟩
abbrev S2304x512 : Shape := ⟨2, ![2304, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | .hbm, ⟨3, _⟩ => ⟨S7680x1024, .f32⟩
  | .local _ .vmem, ⟨0, _⟩ => ⟨S2304x512, .f32⟩
  | .local _ .vmem, ⟨1, _⟩ => ⟨S2304x512, .f32⟩
  | .local _ .vmem, ⟨2, _⟩ => ⟨S2304x1024, .f32⟩
  | .local _ .vmem, ⟨3, _⟩ => ⟨S512x1024, .f32⟩
  | .local _ .vmem, ⟨4, _⟩ => ⟨S512x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTDwRIdeal.lean ====
abbrev S2304x1024 : Shape := ⟨2, ![2304, 1024]⟩
abbrev S1024x7680 : Shape := ⟨2, ![1024, 7680]⟩
abbrev S2304x7680 : Shape := ⟨2, ![2304, 7680]⟩
abbrev S7680x1024 : Shape := ⟨2, ![7680, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | .hbm, ⟨3, _⟩ => ⟨S2304x7680, .f32⟩
  | .hbm, ⟨4, _⟩ => ⟨S7680x1024, .f32⟩
  | .hbm, ⟨5, _⟩ => ⟨S1024x7680, .f32⟩
  | .hbm, ⟨6, _⟩ => ⟨S2304x1024, .f32⟩
  | .hbm, ⟨7, _⟩ => ⟨S7680x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmDaK.lean ====
abbrev S2048x1024 : Shape := ⟨2, ![2048, 1024]⟩
abbrev S1024x5632 : Shape := ⟨2, ![1024, 5632]⟩
abbrev S2048x5632 : Shape := ⟨2, ![2048, 5632]⟩
abbrev S1024x4x1408 : Shape := ⟨3, ![1024, 4, 1408]⟩
abbrev S4x1024x1408 : Shape := ⟨3, ![4, 1024, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S2048x1024, .f32⟩
  | .local _ .vmem, ⟨0, _⟩ => ⟨S1024x1408, .f32⟩
  | .local _ .vmem, ⟨1, _⟩ => ⟨S1024x1408, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDaRIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmTDaK.lean ====
abbrev S2304x1024 : Shape := ⟨2, ![2304, 1024]⟩
abbrev S1024x7680 : Shape := ⟨2, ![1024, 7680]⟩
abbrev S2304x7680 : Shape := ⟨2, ![2304, 7680]⟩
abbrev S7680x1024 : Shape := ⟨2, ![7680, 1024]⟩
abbrev S768x2560 : Shape := ⟨2, ![768, 2560]⟩
abbrev S2560x1024 : Shape := ⟨2, ![2560, 1024]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | .hbm, ⟨3, _⟩ => ⟨S7680x1024, .f32⟩
  | .hbm, ⟨4, _⟩ => ⟨S7680x1024, .bf16⟩
  | .hbm, ⟨5, _⟩ => ⟨S2304x1024, .f32⟩
  | .local _ .vmem, ⟨0, _⟩ => ⟨S768x2560, .f32⟩
  | .local _ .vmem, ⟨1, _⟩ => ⟨S768x2560, .f32⟩
  | .local _ .vmem, ⟨2, _⟩ => ⟨S2560x1024, .bf16⟩
  | .local _ .vmem, ⟨3, _⟩ => ⟨S2560x1024, .bf16⟩
  | .local _ .vmem, ⟨4, _⟩ => ⟨S768x1024, .f32⟩
  | .local _ .vmem, ⟨5, _⟩ => ⟨S768x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTDaRIdeal.lean ====
abbrev S2304x1024 : Shape := ⟨2, ![2304, 1024]⟩
abbrev S1024x7680 : Shape := ⟨2, ![1024, 7680]⟩
abbrev S2304x7680 : Shape := ⟨2, ![2304, 7680]⟩
abbrev S7680x1024 : Shape := ⟨2, ![7680, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024x7680, .f32⟩
  | .hbm, ⟨2, _⟩ => ⟨S2304x7680, .f32⟩
  | .hbm, ⟨3, _⟩ => ⟨S2304x7680, .f32⟩
  | .hbm, ⟨4, _⟩ => ⟨S7680x1024, .f32⟩
  | .hbm, ⟨5, _⟩ => ⟨S1024x7680, .f32⟩
  | .hbm, ⟨6, _⟩ => ⟨S2304x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Merge.lean ====
/-
  The backward call of the two gated branches' merge: `y = σ(g₁)·a + σ(g₂)·d`, from whose cotangent the kernel writes
  the gradients of `a`, `d` and the gates, block of rows by block of rows. Each of its three arrays is shown to be the
  reference's, entry by entry: the same products of the same entries, the kernel's two halves of the gates' gradient
  padded with zeros and added where the reference joins them.
-/
module

public import proofs.«01_k».proof.Defs
public import proofs.«01_k».proof.Proof.Gen.MergeKIdeal.Value
public import proofs.«01_k».proof.Proof.Gen.MergeRIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeKIdeal.Merge

open Cert.MergeKIdeal Cert.MergeKIdeal.Gen
open Cert.MergeRIdeal.Read

variable (m : (ℓ : Loc nD τ sig) → Buf (Elt Ideal) ℓ)

/-- Every window moves down the rows with the grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- The gradient of `a`. -/
theorem final4 (c : Dev nD) : (dats m 0 c).arrAt 4 (cfgs 0).N
    = val_main_v28 (F := Ideal) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, k0_pay4, k0_pay5, k0_pay6, k0_pay7, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, Ideal.logistic]
  blk_point [iblk, V, idx t]

set_option maxHeartbeats 1600000 in
/-- The gradient of `d`. -/
theorem final5 (c : Dev nD) : (dats m 0 c).arrAt 5 (cfgs 0).N
    = val_main_v25 (F := Ideal) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, Ideal.logistic]
  blk_point [iblk, V, idx t]

set_option maxHeartbeats 1600000 in
/-- The gradient of the gates. -/
theorem final6 (c : Dev nD) : (dats m 0 c).arrAt 6 (cfgs 0).N
    = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, Ideal.logistic]
  have e : ((((cfg0.win 6).blk t).view.emb y 1 : Fin _) : ℕ) = (y 1 : ℕ) := by
    blk_simp [idx t] <;> try omega
  by_cases h : ((y 1 : Fin _) : ℕ) < 1024
  · rw [dif_pos h, dif_pos h, dif_pos (e.trans_lt h), zero_add]
    blk_point [iblk, V, idx t]
  · rw [dif_neg h, dif_neg h, dif_neg (by rw [e]; exact h), add_zero]
    blk_point [iblk, V, idx t]

end Cert.MergeKIdeal.Merge

namespace Cert.Proof.Merge

set_option maxHeartbeats 1600000 in
/-- From memories that agree on the arguments the kernel and the reference end with the same three gradients. -/
theorem algebraic : Cert.algebraic_MergeKIdeal_MergeRIdeal := by
  pair_intro
  · run_from Cert.MergeKIdeal.Gen.run_main m g
  · run_from Cert.MergeRIdeal.Value.run m' g'
    · exact (Cert.MergeKIdeal.Merge.final4 m c).symm
    · exact (Cert.MergeKIdeal.Merge.final5 m c).symm
    · rw [(hagree c).2.2.2]
      exact (Cert.MergeKIdeal.Merge.final6 m c).symm

end Cert.Proof.Merge

end
-- ==== Proof.Softmax.lean ====
/-
  Softmax and its gradient on one row of extended reals. Every weight of a softmax row is a nonnegative real whatever the
  row holds, and a nonnegative real distributes over sums of extended reals: the two ways of writing the gradient below
  agree with nothing assumed of the row or of the cotangent.
-/
module

public import Idealize.ShloMosaic.PureOps.Ideal
public import Mathlib.Data.EReal.Operations
public import Mathlib.Data.EReal.Inv

@[expose] public section

noncomputable section

namespace Cert.Softmax

open Idealize.ShloMosaic

variable {ι : Type} [Fintype ι]

/-- Multiplication by a nonnegative real distributes over a finite sum of extended reals. -/
theorem mul_sum {κ : Type} (T : Finset κ) {a : EReal} (h0 : 0 ≤ a) (ht : a ≠ ⊤) (f : κ → EReal) :
    a * ∑ k ∈ T, f k = ∑ k ∈ T, a * f k := by
  classical
  induction T using Finset.induction_on with
  | empty => simp
  | insert k T hk ih => rw [Finset.sum_insert hk, Finset.sum_insert hk, EReal.left_distrib_of_nonneg_of_ne_top h0 ht, ih]

/-- The greatest entry of a row, from the accumulator `b`. -/
def top (b : EReal) (s : ι → EReal) : EReal := Finset.univ.fold max b s

/-- The exponential of an entry's distance from the greatest. -/
def ex (b : EReal) (s : ι → EReal) (j : ι) : EReal := Ideal.exp (s j - top b s)

theorem base_le_top (b : EReal) (s : ι → EReal) : b ≤ top b s :=
  Finset.le_fold_max _ |>.mpr (.inl le_rfl)

theorem le_top (b : EReal) (s : ι → EReal) (j : ι) : s j ≤ top b s :=
  Finset.le_fold_max _ |>.mpr (.inr ⟨j, Finset.mem_univ j, le_rfl⟩)

theorem exp_nonneg (x : EReal) : 0 ≤ Ideal.exp x := by
  induction x using EReal.rec with
  | bot => simp
  | top => simp
  | coe r => rw [Ideal.exp_coe]; exact_mod_cast (Real.exp_pos r).le

theorem exp_ne_top {x : EReal} (h : x ≠ ⊤) : Ideal.exp x ≠ ⊤ := by
  induction x using EReal.rec with
  | bot => simp
  | top => exact absurd rfl h
  | coe r => rw [Ideal.exp_coe]; exact EReal.coe_ne_top _

theorem ex_nonneg (b : EReal) (s : ι → EReal) (j : ι) : 0 ≤ ex b s j := exp_nonneg _

theorem ex_ne_top (b : EReal) (s : ι → EReal) (j : ι) : ex b s j ≠ ⊤ := by
  have h : s j - top b s ≤ 0 := EReal.sub_nonpos.mpr (le_top b s j)
  exact exp_ne_top (ne_top_of_le_ne_top EReal.zero_ne_top h)

/-- The normaliser of a row. -/
def total (b : EReal) (s : ι → EReal) : EReal := ∑ k, ex b s k

theorem total_nonneg (b : EReal) (s : ι → EReal) : 0 ≤ total b s := Finset.sum_nonneg fun k _ => ex_nonneg b s k

theorem total_ne_top (b : EReal) (s : ι → EReal) : total b s ≠ ⊤ := by
  classical
  unfold total
  generalize (Finset.univ : Finset ι) = T
  induction T using Finset.induction_on with
  | empty => simp
  | insert k T hk ih => rw [Finset.sum_insert hk]; exact EReal.add_ne_top (ex_ne_top b s k) ih

theorem ex_eq_zero (b : EReal) (s : ι → EReal) (h : total b s = 0) (j : ι) : ex b s j = 0 :=
  (Finset.sum_eq_zero_iff_of_nonneg fun k _ => ex_nonneg b s k).mp h j (Finset.mem_univ j)

/-- The normaliser is zero with every entry, or a positive real. -/
theorem total_cases (b : EReal) (s : ι → EReal) :
    (total b s = 0 ∧ ∀ j, ex b s j = 0) ∨ ∃ r : ℝ, 0 < r ∧ total b s = (r : EReal) := by
  by_cases h : total b s = 0
  · exact .inl ⟨h, ex_eq_zero b s h⟩
  · refine .inr ⟨(total b s).toReal, ?_, (EReal.coe_toReal (total_ne_top b s) ?_).symm⟩
    · exact EReal.toReal_pos (lt_of_le_of_ne (total_nonneg b s) (Ne.symm h)) (total_ne_top b s)
    · exact ne_bot_of_le_ne_bot EReal.zero_ne_bot (total_nonneg b s)

/-- A row of reals has a normaliser other than zero. -/
theorem total_ne_zero {b : EReal} (hb : b ≠ ⊤) {s : ι → EReal} (hs : ∀ j, s j ≠ ⊤ ∧ s j ≠ ⊥) (j : ι) : total b s ≠ 0 := by
  intro h
  have h1 := ex_eq_zero b s h j
  have ht : top b s ≠ ⊤ := by
    have : top b s < ⊤ := (Finset.fold_max_lt _).mpr ⟨lt_top_iff_ne_top.mpr hb, fun k _ => lt_top_iff_ne_top.mpr (hs k).1⟩
    exact this.ne
  have hbot : top b s ≠ ⊥ := ne_bot_of_le_ne_bot (hs j).2 (le_top b s j)
  unfold ex at h1
  lift s j to ℝ using (hs j) with x
  lift top b s to ℝ using ⟨ht, hbot⟩ with y
  rw [← EReal.coe_sub, Ideal.exp_coe] at h1
  exact (Real.exp_pos (x - y)).ne' (by exact_mod_cast h1)

/-- The weight as a product with the reciprocal of the normaliser is the quotient, where the normaliser is not zero. -/
theorem weight_eq {b : EReal} {s : ι → EReal} (h0 : total b s ≠ 0) (j : ι) :
    ex b s j * Ideal.div 1 (total b s) = Ideal.div (ex b s j) (total b s) := by
  rcases total_cases b s with ⟨h, _⟩ | ⟨r, hr, h⟩
  · exact absurd h h0
  · rw [h, Ideal.div_coe hr.ne', Ideal.div_coe hr.ne', one_mul]

/-- The softmax gradient from the weights: `p (d − ∑ p d)`. -/
def grad (b : EReal) (s d : ι → EReal) (j : ι) : EReal :=
  (ex b s j * Ideal.div 1 (total b s)) * (d j - ∑ k, (ex b s k * Ideal.div 1 (total b s)) * d k)

/-- The softmax gradient through the quotient: `(d / S − ∑ d e / S²) e`. -/
def gradQuot (b : EReal) (s d : ι → EReal) (j : ι) : EReal :=
  (Ideal.div (d j) (total b s) + -∑ k, d k * Ideal.div 1 (total b s * total b s) * ex b s k) * ex b s j

theorem gradQuot_eq (b : EReal) (s d : ι → EReal) (j : ι) : gradQuot b s d j = grad b s d j := by
  unfold gradQuot grad
  rcases total_cases b s with ⟨_, h⟩ | ⟨r, hr, h⟩
  · simp only [h, mul_zero, zero_mul]
  · have hc0 : (0 : EReal) ≤ ((1 / r : ℝ) : EReal) := by exact_mod_cast (one_div_pos.mpr hr).le
    have hct : ((1 / r : ℝ) : EReal) ≠ ⊤ := EReal.coe_ne_top _
    have h2 : (total b s * total b s) = ((r * r : ℝ) : EReal) := by rw [h, EReal.coe_mul]
    have hsq : ((1 / (r * r) : ℝ) : EReal) = ((1 / r : ℝ) : EReal) * ((1 / r : ℝ) : EReal) := by
      rw [← EReal.coe_mul]; congr 1; field_simp
    rw [h2, h, Ideal.div_coe hr.ne', Ideal.div_coe hr.ne', Ideal.div_coe (mul_ne_zero hr.ne' hr.ne'), one_mul, one_mul, hsq]
    generalize ((1 / r : ℝ) : EReal) = a at hc0 hct
    have hs : ∑ k, d k * (a * a) * ex b s k = a * ∑ k, ex b s k * a * d k := by
      rw [mul_sum _ hc0 hct]
      exact Finset.sum_congr rfl fun k _ => by ac_rfl
    rw [hs, sub_eq_add_neg, mul_comm (ex b s j) a, mul_assoc, mul_comm (ex b s j), ← mul_assoc, mul_comm (d j),
      EReal.left_distrib_of_nonneg_of_ne_top hc0 hct, mul_neg]

end Cert.Softmax

end
-- ==== Proof.AttnRef.lean ====
/-
  The attention's backward reference read at an index: its stages, over five axes, as functions of one query row, one
  query head and the keys.
-/
module

public import proofs.«01_k».proof.Defs
public import proofs.«01_k».proof.Proof.Softmax
public import proofs.«01_k».proof.Proof.Gen.AttnRIdeal.Read
public import Idealize.ShloMosaic.Lib.Pipeline.ValueKit

@[expose] public section

set_option maxRecDepth 16384

noncomputable section

open Idealize.ShloMosaic Idealize.ShloMosaic.TcCoe Idealize.SL.Sem

namespace Cert.Attn

open Cert.AttnRIdeal Cert.AttnRIdeal.Gen Cert.AttnRIdeal.Read
open Cert.Softmax

/-- The attention's scale, the float word both programs carry. -/
def scale : EReal := Ideal.ofBits .f32 0x3DB504F3#32

/-- What a maximum starts from: the word of minus infinity. -/
def low : EReal := Ideal.ofBits .f32 0xFF800000#32

/-- The scores of query row `r`, query head `n` (key head `n / 4`) against every key. -/
def score (q : FVec Ideal S2048x1024 .f32) (k : FVec Ideal S2304x256 .f32) (n : Fin 8) (r : Fin 2048) : Fin 2304 → EReal :=
  fun l => (∑ x : Fin 128, q (ix2 r ⟨n.val * 128 + x.val, by omega⟩) * k (ix2 l ⟨n.val / 4 * 128 + x.val, by omega⟩)) * scale

/-- The weights' cotangents: query row `r`'s output cotangent, of query head `n`, against every value row. -/
def cot (v : FVec Ideal S2304x256 .f32) (d : FVec Ideal S2048x1024 .f32) (n : Fin 8) (r : Fin 2048) : Fin 2304 → EReal :=
  fun l => ∑ x : Fin 128, d (ix2 r ⟨n.val * 128 + x.val, by omega⟩) * v (ix2 l ⟨n.val / 4 * 128 + x.val, by omega⟩)

theorem v6_at (q : FVec Ideal S2048x1024 .f32) (k : FVec Ideal S2304x256 .f32) (h : Fin 2) (g : Fin 4) (r : Fin 2048)
    (l : Fin 2304) : val_main_v6 (F := Ideal) q k (ix5 (0 : Fin 1) h g r l) = score q k ⟨h.val * 4 + g.val, by omega⟩ r l := by
  pointwise [val_main_v6, val_main_v5, val_main_cst, val_main_v4, val_main_v3, val_main_v1, val_main_v0, score, scale]
  refine congrArg (· * (Ideal.ofBits .f32 1035273459#32 : EReal)) (Finset.sum_congr rfl fun x _ => ?_)
  rw [mul_comm]
  congr 2 <;> blk_ext

theorem v7_at (q : FVec Ideal S2048x1024 .f32) (k : FVec Ideal S2304x256 .f32) (h : Fin 2) (g : Fin 4) (r : Fin 2048) :
    val_main_v7 (F := Ideal) q k (ix4 (0 : Fin 1) h g r) = top low (score q k ⟨h.val * 4 + g.val, by omega⟩ r) := by
  pointwise [val_main_v7, val_main_cst_0]
  simp only [v6_at]
  rfl

theorem v13_at (i : S1x2x4x2048.Idx) : val_main_v13 (F := Ideal) i = low := by
  rw [val_main_v13_apply, val_main_cst_2_apply]
  rfl

theorem v14_at (q : FVec Ideal S2048x1024 .f32) (k : FVec Ideal S2304x256 .f32) (h : Fin 2) (g : Fin 4) (r : Fin 2048) :
    val_main_v14 (F := Ideal) q k (ix4 (0 : Fin 1) h g r) = top low (score q k ⟨h.val * 4 + g.val, by omega⟩ r) := by
  rw [val_main_v14_apply, v13_at, v7_at]
  exact max_eq_right (base_le_top low _)

theorem v27_at (q : FVec Ideal S2048x1024 .f32) (k : FVec Ideal S2304x256 .f32) (h : Fin 2) (g : Fin 4) (r : Fin 2048)
    (l : Fin 2304) : val_main_v27 (F := Ideal) q k (ix5 (0 : Fin 1) h g r l) = ex low (score q k ⟨h.val * 4 + g.val, by omega⟩ r) l := by
  pointwise [val_main_v27, val_main_v26, val_main_v25, val_main_v24]
  rw [v6_at, v14_at]
  rfl

theorem v28_at (q : FVec Ideal S2048x1024 .f32) (k : FVec Ideal S2304x256 .f32) (h : Fin 2) (g : Fin 4) (r : Fin 2048) :
    val_main_v28 (F := Ideal) q k (ix4 (0 : Fin 1) h g r) = total low (score q k ⟨h.val * 4 + g.val, by omega⟩ r) := by
  pointwise [val_main_v28, val_main_cst_8]
  simp only [v27_at]
  rfl

theorem v31_at (q : FVec Ideal S2048x1024 .f32) (k : FVec Ideal S2304x256 .f32) (h : Fin 2) (g : Fin 4) (r : Fin 2048)
    (l : Fin 2304) : val_main_v31 (F := Ideal) q k (ix5 (0 : Fin 1) h g r l)
      = Ideal.div (ex low (score q k ⟨h.val * 4 + g.val, by omega⟩ r) l) (total low (score q k ⟨h.val * 4 + g.val, by omega⟩ r)) := by
  pointwise [val_main_v31, val_main_v30, val_main_v29]
  rw [v27_at, v28_at]

theorem v40_at (v : FVec Ideal S2304x256 .f32) (d : FVec Ideal S2048x1024 .f32) (h : Fin 2) (g : Fin 4) (r : Fin 2048)
    (l : Fin 2304) : val_main_v40 (F := Ideal) v d (ix5 (0 : Fin 1) h g r l) = cot v d ⟨h.val * 4 + g.val, by omega⟩ r l := by
  pointwise [val_main_v40, val_main_v39, val_main_v38, val_main_v2, cot]
  refine Finset.sum_congr rfl fun x _ => ?_
  congr 2 <;> blk_ext

theorem v46_at (q : FVec Ideal S2048x1024 .f32) (k v : FVec Ideal S2304x256 .f32) (d : FVec Ideal S2048x1024 .f32)
    (h : Fin 2) (g : Fin 4) (r : Fin 2048) :
    val_main_v46 (F := Ideal) q k v d (ix4 (0 : Fin 1) h g r)
      = ∑ l : Fin 2304, cot v d ⟨h.val * 4 + g.val, by omega⟩ r l
          * Ideal.div 1 (total low (score q k ⟨h.val * 4 + g.val, by omega⟩ r) * total low (score q k ⟨h.val * 4 + g.val, by omega⟩ r))
          * ex low (score q k ⟨h.val * 4 + g.val, by omega⟩ r) l := by
  pointwise [val_main_v46, val_main_cst_10, val_main_v45, val_main_v44, val_main_v43, val_main_v34, val_main_v33, val_main_v32, val_main_v29, val_main_cst_9]
  simp only [v40_at, v28_at, v27_at]

/-- A sum over two axes of one coordinate each is its one entry. -/
theorem v51_at (q : FVec Ideal S2048x1024 .f32) (k v : FVec Ideal S2304x256 .f32) (d : FVec Ideal S2048x1024 .f32)
    (h : Fin 2) (g : Fin 4) (r : Fin 2048) :
    val_main_v51 (F := Ideal) q k v d (ix3 h g r) = -val_main_v46 (F := Ideal) q k v d (ix4 (0 : Fin 1) h g r) := by
  have h48 : val_main_v48 (F := Ideal) q k v d (ix5 (0 : Fin 1) h g r (0 : Fin 1)) = -val_main_v46 (F := Ideal) q k v d (ix4 (0 : Fin 1) h g r) := by
    pointwise [val_main_v48, val_main_v47]
  rw [← h48]
  pointwise [val_main_v51, val_main_cst_11]
  rw [Ideal.hostReduceAdd, zero_add]
  refine (Finset.sum_filter_eq_sum_of_fiber _ (fun _ : Fin 1 => ix5 (0 : Fin 1) h g r (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact (Fin.ext (congrArg Fin.val (congrFun e 2))).symm
    | ⟨4, _⟩ => exact Subsingleton.elim (α := Fin 1) _ _
  · rintro ⟨_, rfl⟩
    funext b
    match b with
    | ⟨0, _⟩ => rfl
    | ⟨1, _⟩ => rfl
    | ⟨2, _⟩ => rfl

/-- The scores' cotangents: the gradient of the softmax, scaled. -/
def ds (q : FVec Ideal S2048x1024 .f32) (k v : FVec Ideal S2304x256 .f32) (d : FVec Ideal S2048x1024 .f32) (n : Fin 8)
    (r : Fin 2048) (l : Fin 2304) : EReal :=
  grad low (score q k n r) (cot v d n r) l * scale

theorem v57_at (q : FVec Ideal S2048x1024 .f32) (k v : FVec Ideal S2304x256 .f32) (d : FVec Ideal S2048x1024 .f32)
    (h : Fin 2) (g : Fin 4) (r : Fin 2048) (l : Fin 2304) :
    val_main_v57 (F := Ideal) q k v d (ix5 (0 : Fin 1) h g r l) = ds q k v d ⟨h.val * 4 + g.val, by omega⟩ r l := by
  pointwise [val_main_v57, val_main_v56, val_main_v55, val_main_v54, val_main_v53, val_main_v52, val_main_v50, val_main_v49, val_main_v29, val_main_cst_12]
  rw [v40_at, v28_at, v51_at, v46_at, v27_at, ds, ← gradQuot_eq]
  rfl

/-- The queries' gradient. -/
theorem v65_at (q : FVec Ideal S2048x1024 .f32) (k v : FVec Ideal S2304x256 .f32) (d : FVec Ideal S2048x1024 .f32)
    (i : Fin 2048) (j : Fin 1024) :
    val_main_v65 (F := Ideal) q k v d (ix2 i j)
      = ∑ l : Fin 2304, ds q k v d ⟨j.val / 128, by omega⟩ i l * k (ix2 l ⟨j.val / 512 * 128 + j.val % 128, by omega⟩) := by
  pointwise [val_main_v65, val_main_v60, val_main_v59, val_main_v58, val_main_v1]
  refine Finset.sum_congr rfl fun l _ => ?_
  rw [v57_at]
  congr 2
  all_goals first | blk_ext | (apply Fin.ext; dsimp only; omega)

/-- The keys' gradient. -/
theorem v64_at (q : FVec Ideal S2048x1024 .f32) (k v : FVec Ideal S2304x256 .f32) (d : FVec Ideal S2048x1024 .f32)
    (i : Fin 2304) (j : Fin 256) :
    val_main_v64 (F := Ideal) q k v d (ix2 i j)
      = ∑ g : Fin 4, ∑ r : Fin 2048, ds q k v d ⟨j.val / 128 * 4 + g.val, by omega⟩ r i
          * q (ix2 r ⟨(j.val / 128 * 4 + g.val) * 128 + j.val % 128, by omega⟩) := by
  rw [Finset.sum_comm]
  pointwise [val_main_v64, val_main_v62, val_main_v61, val_main_v58, val_main_v0]
  refine Finset.sum_congr rfl fun r _ => Finset.sum_congr rfl fun g _ => ?_
  rw [v57_at]
  congr 2
  all_goals first | blk_ext | (apply Fin.ext; dsimp only; omega)

/-- The values' gradient. -/
theorem v63_at (q : FVec Ideal S2048x1024 .f32) (k : FVec Ideal S2304x256 .f32) (d : FVec Ideal S2048x1024 .f32)
    (h0 : ∀ n r, total low (score q k n r) ≠ 0) (i : Fin 2304) (j : Fin 256) :
    val_main_v63 (F := Ideal) q k d (ix2 i j)
      = ∑ g : Fin 4, ∑ r : Fin 2048,
          ex low (score q k ⟨j.val / 128 * 4 + g.val, by omega⟩ r) i * Ideal.div 1 (total low (score q k ⟨j.val / 128 * 4 + g.val, by omega⟩ r))
          * d (ix2 r ⟨(j.val / 128 * 4 + g.val) * 128 + j.val % 128, by omega⟩) := by
  pointwise [val_main_v63, val_main_v42, val_main_v41, val_main_v39, val_main_v38]
  refine Finset.sum_congr rfl fun g _ => Finset.sum_congr rfl fun r _ => ?_
  rw [v31_at, ← weight_eq (h0 _ _), mul_comm]
  congr 2
  all_goals first | blk_ext | (apply Fin.ext; dsimp only; omega)

/-- The queries' gradient at a query head's column. -/
theorem v65_head (q : FVec Ideal S2048x1024 .f32) (k v : FVec Ideal S2304x256 .f32) (d : FVec Ideal S2048x1024 .f32)
    (n : Fin 8) (r : Fin 2048) (x : Fin 128) :
    val_main_v65 (F := Ideal) q k v d (ix2 r ⟨n.val * 128 + x.val, by omega⟩)
      = ∑ l : Fin 2304, ds q k v d n r l * k (ix2 l ⟨n.val / 4 * 128 + x.val, by omega⟩) := by
  rw [v65_at]
  refine Finset.sum_congr rfl fun l _ => ?_
  congr 2
  all_goals first | blk_ext | (apply Fin.ext; dsimp only; omega)

/-- The keys' gradient at a key head's column. -/
theorem v64_head (q : FVec Ideal S2048x1024 .f32) (k v : FVec Ideal S2304x256 .f32) (d : FVec Ideal S2048x1024 .f32)
    (h : Fin 2) (l : Fin 2304) (x : Fin 128) :
    val_main_v64 (F := Ideal) q k v d (ix2 l ⟨h.val * 128 + x.val, by omega⟩)
      = ∑ g : Fin 4, ∑ r : Fin 2048, ds q k v d ⟨h.val * 4 + g.val, by omega⟩ r l
          * q (ix2 r ⟨(h.val * 4 + g.val) * 128 + x.val, by omega⟩) := by
  rw [v64_at]
  refine Finset.sum_congr rfl fun g _ => Finset.sum_congr rfl fun r _ => ?_
  congr 2
  all_goals first | blk_ext | (apply Fin.ext; dsimp only; omega)

/-- A softmax weight, as the kernel writes it. -/
def weight (q : FVec Ideal S2048x1024 .f32) (k : FVec Ideal S2304x256 .f32) (n : Fin 8) (r : Fin 2048) (l : Fin 2304) : EReal :=
  ex low (score q k n r) l * Ideal.div 1 (total low (score q k n r))

/-- The values' gradient at a key head's column. -/
theorem v63_head (q : FVec Ideal S2048x1024 .f32) (k : FVec Ideal S2304x256 .f32) (d : FVec Ideal S2048x1024 .f32)
    (h0 : ∀ n r, total low (score q k n r) ≠ 0) (h : Fin 2) (l : Fin 2304) (x : Fin 128) :
    val_main_v63 (F := Ideal) q k d (ix2 l ⟨h.val * 128 + x.val, by omega⟩)
      = ∑ g : Fin 4, ∑ r : Fin 2048, weight q k ⟨h.val * 4 + g.val, by omega⟩ r l
          * d (ix2 r ⟨(h.val * 4 + g.val) * 128 + x.val, by omega⟩) := by
  have hn : (⟨(h.val * 128 + x.val) / 128, by omega⟩ : Fin 2) = h := Fin.ext (by dsimp only; omega)
  rw [v63_at q k d h0]
  refine Finset.sum_congr rfl fun g _ => Finset.sum_congr rfl fun r _ => ?_
  have hg : (⟨(h.val * 128 + x.val) / 128 * 4 + g.val, by omega⟩ : Fin 8) = ⟨h.val * 4 + g.val, by omega⟩ := Fin.ext (by dsimp only; omega)
  refine congrArg₂ (· * ·) (congrArg (fun n => weight q k n r l) hg) (congrArg d ?_)
  blk_ext

end Cert.Attn

end
-- ==== Proof.AttnBlock.lean ====
/-
  The attention's backward kernel on one block: what the block of query rows and the head's keys and values make of the
  weights, of the scores' cotangents and of the products with them, at an index.
-/
module

public import proofs.«01_k».proof.Defs
public import proofs.«01_k».proof.Proof.AttnRef
public import proofs.«01_k».proof.Proof.Gen.AttnKIdeal.Value
public import Idealize.ShloMosaic.Lib.Pipeline.ValueKit

@[expose] public section

set_option maxRecDepth 16384

noncomputable section

open Idealize.ShloMosaic Idealize.ShloMosaic.TcCoe Idealize.SL.Sem

namespace Cert.Attn

open Cert.AttnKIdeal Cert.AttnKIdeal.Gen
open Cert.Softmax

/-- The products of a block's row `r` with every row of `K`. -/
def rowDot (a : FVec Ideal S128x128 .f32) (K : FVec Ideal S2304x128 .f32) (r : Fin 128) : Fin 2304 → EReal :=
  fun l => ∑ x : Fin 128, a (ix2 r x) * K (ix2 l x)

/-- A block's scores. -/
def blkScore (a : FVec Ideal S128x128 .f32) (K : FVec Ideal S2304x128 .f32) (r : Fin 128) : Fin 2304 → EReal :=
  fun l => rowDot a K r l * scale

theorem pay11_at (v5 : FVec Ideal S2304x128 .f32) (v9 : FVec Ideal S128x128 .f32) (r : Fin 128) (l : Fin 2304) :
    k0_pay11 (F := Ideal) v5 v9 (ix2 r l) = ex low (blkScore v9 v5 r) l := by
  pointwise [k0_pay11, k0_pay7, k0_pay5]
  rfl

theorem pay13_at (v5 : FVec Ideal S2304x128 .f32) (v9 : FVec Ideal S128x128 .f32) (r : Fin 128) :
    k0_pay13 (F := Ideal) v5 v9 (ix1 r) = total low (blkScore v9 v5 r) := by
  pointwise [k0_pay13]
  simp only [pay11_at]
  rfl

/-- The block's weights. -/
def wts (v5 : FVec Ideal S2304x128 .f32) (v9 : FVec Ideal S128x128 .f32) : FVec Ideal S128x2304 .f32 :=
  k0_pay14 (F := Ideal) (k0_pay11 (F := Ideal) v5 v9) (k0_pay13 (F := Ideal) v5 v9)

theorem wts_at (v5 : FVec Ideal S2304x128 .f32) (v9 : FVec Ideal S128x128 .f32) (r : Fin 128) (l : Fin 2304) :
    wts v5 v9 (ix2 r l) = ex low (blkScore v9 v5 r) l * Ideal.div 1 (total low (blkScore v9 v5 r)) := by
  pointwise [wts, k0_pay14]
  rw [pay11_at, pay13_at]

/-- The block's scores' cotangents. -/
def dsBlk (v5 v7 : FVec Ideal S2304x128 .f32) (v9 v13 : FVec Ideal S128x128 .f32) : FVec Ideal S128x2304 .bf16 :=
  k0_pay16 (F := Ideal) (k0_pay6 (F := Ideal) v7) (k0_pay9 (F := Ideal) v13) (k0_pay11 (F := Ideal) v5 v9) (k0_pay13 (F := Ideal) v5 v9)

theorem dsBlk_at (v5 v7 : FVec Ideal S2304x128 .f32) (v9 v13 : FVec Ideal S128x128 .f32) (r : Fin 128) (l : Fin 2304) :
    dsBlk v5 v7 v9 v13 (ix2 r l) = grad low (blkScore v9 v5 r) (rowDot v13 v7 r) l * scale := by
  have hw : k0_pay14 (F := Ideal) (k0_pay11 (F := Ideal) v5 v9) (k0_pay13 (F := Ideal) v5 v9) = wts v5 v9 := rfl
  dsimp only [dsBlk, k0_pay16]
  rw [hw]
  pointwise [k0_pay6, k0_pay9]
  simp only [wts_at]
  rfl

/-- The block's share of the queries' gradient. -/
theorem dq_at (v5 v7 : FVec Ideal S2304x128 .f32) (v9 v13 : FVec Ideal S128x128 .f32) (y : S128x128.Idx) :
    k0_pay18 (F := Ideal) (k0_pay5 (F := Ideal) v5) (k0_pay6 (F := Ideal) v7) (k0_pay9 (F := Ideal) v13) (k0_pay11 (F := Ideal) v5 v9)
        (k0_pay13 (F := Ideal) v5 v9) y
      = ∑ l : Fin 2304, grad low (blkScore v9 v5 (y 0)) (rowDot v13 v7 (y 0)) l * scale * v5 (ix2 l (y 1)) := by
  have hd : k0_pay16 (F := Ideal) (k0_pay6 (F := Ideal) v7) (k0_pay9 (F := Ideal) v13) (k0_pay11 (F := Ideal) v5 v9) (k0_pay13 (F := Ideal) v5 v9)
    = dsBlk v5 v7 v9 v13 := rfl
  dsimp only [k0_pay18]
  rw [hd]
  pointwise [k0_pay5]
  exact Finset.sum_congr rfl fun l _ => congrArg (· * v5 (ix2 l (y 1))) (dsBlk_at v5 v7 v9 v13 (y 0) l)

/-- The block's share of the keys' gradient. -/
theorem dk_at (v5 v7 : FVec Ideal S2304x128 .f32) (v9 v13 : FVec Ideal S128x128 .f32) (y : S2304x128.Idx) :
    k0_pay21 (F := Ideal) (k0_pay6 (F := Ideal) v7) (k0_pay7 (F := Ideal) v9) (k0_pay9 (F := Ideal) v13) (k0_pay11 (F := Ideal) v5 v9)
        (k0_pay13 (F := Ideal) v5 v9) y
      = ∑ r : Fin 128, grad low (blkScore v9 v5 r) (rowDot v13 v7 r) (y 0) * scale * v9 (ix2 r (y 1)) := by
  have hd : k0_pay16 (F := Ideal) (k0_pay6 (F := Ideal) v7) (k0_pay9 (F := Ideal) v13) (k0_pay11 (F := Ideal) v5 v9) (k0_pay13 (F := Ideal) v5 v9)
    = dsBlk v5 v7 v9 v13 := rfl
  dsimp only [k0_pay21]
  rw [hd]
  pointwise [k0_pay7]
  exact Finset.sum_congr rfl fun r _ => congrArg (· * v9 (ix2 r (y 1))) (dsBlk_at v5 v7 v9 v13 r (y 0))

/-- The second half of a block is computed as the first is. -/
theorem pay12_eq (v5 : FVec Ideal S2304x128 .f32) (v9 : FVec Ideal S128x128 .f32) :
    k0_pay12 (F := Ideal) v5 v9 = k0_pay11 (F := Ideal) v5 v9 := rfl
theorem pay15_eq (v5 : FVec Ideal S2304x128 .f32) (v9 : FVec Ideal S128x128 .f32) :
    k0_pay15 (F := Ideal) (k0_pay11 (F := Ideal) v5 v9) = wts v5 v9 := rfl
theorem pay19_eq (v6 v8 : FVec Ideal S2304x128 .bf16) (v16 : FVec Ideal S128x128 .bf16) (v5 : FVec Ideal S2304x128 .f32)
    (v9 : FVec Ideal S128x128 .f32) :
    k0_pay19 (F := Ideal) v6 v8 v16 (k0_pay11 (F := Ideal) v5 v9)
      = k0_pay18 (F := Ideal) v6 v8 v16 (k0_pay11 (F := Ideal) v5 v9) (k0_pay13 (F := Ideal) v5 v9) := rfl
theorem pay22_eq (v8 : FVec Ideal S2304x128 .bf16) (v12 v16 : FVec Ideal S128x128 .bf16) (v5 : FVec Ideal S2304x128 .f32)
    (v9 : FVec Ideal S128x128 .f32) :
    k0_pay22 (F := Ideal) v8 v12 v16 (k0_pay11 (F := Ideal) v5 v9)
      = k0_pay21 (F := Ideal) v8 v12 v16 (k0_pay11 (F := Ideal) v5 v9) (k0_pay13 (F := Ideal) v5 v9) := rfl

/-- What a point adds to the keys' gradient: both halves' shares. -/
theorem step5 (acc a b : FVec Ideal S2304x128 .f32) (y : S2304x128.Idx) :
    k0_pay1 (F := Ideal) (k0_pay20 (F := Ideal) acc) a b y = acc y + (a y + b y) := by
  pointwise [k0_pay1, k0_pay20]

/-- What a point adds to the values' gradient: both halves' shares. -/
theorem step6 (acc : FVec Ideal S2304x128 .f32) (v5 : FVec Ideal S2304x128 .f32) (v9 v11 v13 v15 : FVec Ideal S128x128 .f32)
    (y : S2304x128.Idx) :
    k0_pay2 (F := Ideal) (k0_pay9 (F := Ideal) v13) (k0_pay10 (F := Ideal) v15) (wts v5 v9) (wts v5 v11) acc y
      = acc y + ((∑ r : Fin 128, ex low (blkScore v9 v5 r) (y 0) * Ideal.div 1 (total low (blkScore v9 v5 r)) * v13 (ix2 r (y 1)))
        + ∑ r : Fin 128, ex low (blkScore v11 v5 r) (y 0) * Ideal.div 1 (total low (blkScore v11 v5 r)) * v15 (ix2 r (y 1))) := by
  have h1 := fun r : Fin 128 => wts_at v5 v9 r (y 0)
  have h2 := fun r : Fin 128 => wts_at v5 v11 r (y 0)
  simp only [← h1, ← h2]
  pointwise [k0_pay2, k0_pay9, k0_pay10]

theorem zero5 (y : S2304x128.Idx) : k0_pay3 (F := Ideal) y = 0 := by pointwise [k0_pay3]
theorem zero6 (y : S2304x128.Idx) : k0_pay4 (F := Ideal) y = 0 := by pointwise [k0_pay4]

end Cert.Attn

end
-- ==== Proof.Attn.lean ====
/-
  The attention's backward call. The queries' gradient is written block of rows by block of rows, in two halves; those of
  the keys and of the values are added up over a key head's query heads and their blocks of rows. The weights' division is
  taken apart in the reference's gradient and is one product in the kernel's: the two agree on every row, and the
  values' gradient, whose weights the reference divides once, on rows of finite scores.
-/
module

public import proofs.«01_k».proof.Defs
public import proofs.«01_k».proof.Proof.AttnBlock
public import proofs.«01_k».proof.Proof.Gen.AttnRIdeal.Run
public import proofs.«01_k».proof.Proof.Gen.Pre_finite_attn
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Attn

open Cert.AttnKIdeal Cert.AttnKIdeal.Gen Cert.AttnRIdeal.Read
open Cert.Softmax

variable (m : (ℓ : Loc nD τ sig) → Buf (Elt Ideal) ℓ)

/-- The query rows' windows move down with the last coordinate of the grid point and across with the first two, the keys'
    and values' across with the first. -/
theorem idx : ∀ t : Fin cfg0.N, win0_0.index t = ![t.val % 8, t.val / 8] ∧ win0_1.index t = ![0, t.val / 32]
    ∧ win0_2.index t = ![0, t.val / 32] ∧ win0_3.index t = ![t.val % 8, t.val / 8] ∧ win0_4.index t = ![t.val % 8, t.val / 8]
    ∧ win0_5.index t = ![0, t.val / 32] ∧ win0_6.index t = ![0, t.val / 32] :=
  (by decide +kernel : ∀ t : Fin grid0.N, _)

theorem lt64 (t : Fin cfg0.N) : t.val < 64 := lt_of_lt_of_eq t.isLt N_0

/-- The call's arguments on core `c`. -/
abbrev aq (c : Dev nD) : FVec Ideal S2048x1024 .f32 := m ((c : Thread nD τ).loc main_arg0)
abbrev ak (c : Dev nD) : FVec Ideal S2304x256 .f32 := m ((c : Thread nD τ).loc main_arg1)
abbrev av (c : Dev nD) : FVec Ideal S2304x256 .f32 := m ((c : Thread nD τ).loc main_arg2)
abbrev ad (c : Dev nD) : FVec Ideal S2048x1024 .f32 := m ((c : Thread nD τ).loc main_arg3)

/-- The query head of a grid point, and the query row of its block's row `o + r`. -/
def head (t : Fin cfg0.N) : Fin 8 := ⟨t.val / 8, by have := lt64 t; omega⟩
def row (t : Fin cfg0.N) (r : Fin 256) : Fin 2048 := ⟨t.val % 8 * 256 + r.val, by omega⟩
def lo (r : Fin 128) : Fin 256 := ⟨r.val, by omega⟩
def hi (r : Fin 128) : Fin 256 := ⟨128 + r.val, by omega⟩

/-- The halves of a block of 256 rows. -/
abbrev ldLo (x : Vec Ideal S256x128 .f32) : FVec Ideal S128x128 .f32 := View.ld x (Rect.unit ![0, 0] ![128, 128] inb_S256x128_S128x128_0_0)
abbrev ldHi (x : Vec Ideal S256x128 .f32) : FVec Ideal S128x128 .f32 := View.ld x (Rect.unit ![128, 0] ![128, 128] inb_S256x128_S128x128_128_0)

/-- A half of the point's query rows, and of their output cotangents. -/
theorem q_lo (c : Dev nD) (t : Fin cfg0.N) (r x : Fin 128) :
    ldLo (iblk m c 0 t) (ix2 r x) = aq m c (ix2 (row t (lo r)) ⟨(head t).val * 128 + x.val, by omega⟩) := by
  have ht := lt64 t
  dsimp only [ldLo, aq, row, lo, head]
  pointwise []
  blk_point [iblk, V, idx t]

theorem q_hi (c : Dev nD) (t : Fin cfg0.N) (r x : Fin 128) :
    ldHi (iblk m c 0 t) (ix2 r x) = aq m c (ix2 (row t (hi r)) ⟨(head t).val * 128 + x.val, by omega⟩) := by
  have ht := lt64 t
  dsimp only [ldHi, aq, row, hi, head]
  pointwise []
  blk_point [iblk, V, idx t]

theorem d_lo (c : Dev nD) (t : Fin cfg0.N) (r x : Fin 128) :
    ldLo (iblk m c 3 t) (ix2 r x) = ad m c (ix2 (row t (lo r)) ⟨(head t).val * 128 + x.val, by omega⟩) := by
  have ht := lt64 t
  dsimp only [ldLo, ad, row, lo, head]
  pointwise []
  blk_point [iblk, V, idx t]

theorem d_hi (c : Dev nD) (t : Fin cfg0.N) (r x : Fin 128) :
    ldHi (iblk m c 3 t) (ix2 r x) = ad m c (ix2 (row t (hi r)) ⟨(head t).val * 128 + x.val, by omega⟩) := by
  have ht := lt64 t
  dsimp only [ldHi, ad, row, hi, head]
  pointwise []
  blk_point [iblk, V, idx t]

theorem k_blk (c : Dev nD) (t : Fin cfg0.N) (l : Fin 2304) (x : Fin 128) :
    iblk m c 1 t (ix2 l x) = ak m c (ix2 l ⟨(head t).val / 4 * 128 + x.val, by omega⟩) := by
  have ht := lt64 t
  dsimp only [ak, head]
  pointwise []
  blk_point [iblk, V, idx t]

theorem v_blk (c : Dev nD) (t : Fin cfg0.N) (l : Fin 2304) (x : Fin 128) :
    iblk m c 2 t (ix2 l x) = av m c (ix2 l ⟨(head t).val / 4 * 128 + x.val, by omega⟩) := by
  have ht := lt64 t
  dsimp only [av, head]
  pointwise []
  blk_point [iblk, V, idx t]

theorem score_lo (c : Dev nD) (t : Fin cfg0.N) (r : Fin 128) :
    blkScore (ldLo (iblk m c 0 t)) (iblk m c 1 t) r = score (aq m c) (ak m c) (head t) (row t (lo r)) :=
  funext fun l => congrArg (· * scale) (Finset.sum_congr rfl fun x _ => congrArg₂ (· * ·) (q_lo m c t r x) (k_blk m c t l x))

theorem cot_lo (c : Dev nD) (t : Fin cfg0.N) (r : Fin 128) :
    rowDot (ldLo (iblk m c 3 t)) (iblk m c 2 t) r = cot (av m c) (ad m c) (head t) (row t (lo r)) :=
  funext fun l => Finset.sum_congr rfl fun x _ => congrArg₂ (· * ·) (d_lo m c t r x) (v_blk m c t l x)

theorem score_hi (c : Dev nD) (t : Fin cfg0.N) (r : Fin 128) :
    blkScore (ldHi (iblk m c 0 t)) (iblk m c 1 t) r = score (aq m c) (ak m c) (head t) (row t (hi r)) :=
  funext fun l => congrArg (· * scale) (Finset.sum_congr rfl fun x _ => congrArg₂ (· * ·) (q_hi m c t r x) (k_blk m c t l x))

theorem cot_hi (c : Dev nD) (t : Fin cfg0.N) (r : Fin 128) :
    rowDot (ldHi (iblk m c 3 t)) (iblk m c 2 t) r = cot (av m c) (ad m c) (head t) (row t (hi r)) :=
  funext fun l => Finset.sum_congr rfl fun x _ => congrArg₂ (· * ·) (d_hi m c t r x) (v_blk m c t l x)

/-- The queries' gradient on a half of the point's rows. -/
theorem dq_lo (c : Dev nD) (t : Fin cfg0.N) (x : S128x128.Idx) :
    k0_pay18 (F := Ideal) (k0_pay5 (F := Ideal) (iblk m c 1 t)) (k0_pay6 (F := Ideal) (iblk m c 2 t)) (k0_pay9 (F := Ideal) (ldLo (iblk m c 3 t)))
        (k0_pay11 (F := Ideal) (iblk m c 1 t) (ldLo (iblk m c 0 t))) (k0_pay13 (F := Ideal) (iblk m c 1 t) (ldLo (iblk m c 0 t))) x
      = val_main_v65 (F := Ideal) (aq m c) (ak m c) (av m c) (ad m c)
          (ix2 (row t (lo (x 0))) ⟨(head t).val * 128 + (x 1).val, by have := (x 1).isLt; have := (head t).isLt; simp at *; omega⟩) := by
  refine (dq_at _ _ _ _ x).trans (Eq.trans ?_ (v65_head (aq m c) (ak m c) (av m c) (ad m c) (head t) (row t (lo (x 0))) (x 1)).symm)
  exact Finset.sum_congr rfl fun l _ => congrArg₂ (· * ·) (congrArg (· * scale)
    (congrArg₂ (fun s d => grad low s d l) (score_lo m c t (x 0)) (cot_lo m c t (x 0)))) (k_blk m c t l (x 1))

/-- The queries' gradient on a half of the point's rows. -/
theorem dq_hi (c : Dev nD) (t : Fin cfg0.N) (x : S128x128.Idx) :
    k0_pay18 (F := Ideal) (k0_pay5 (F := Ideal) (iblk m c 1 t)) (k0_pay6 (F := Ideal) (iblk m c 2 t)) (k0_pay9 (F := Ideal) (ldHi (iblk m c 3 t)))
        (k0_pay11 (F := Ideal) (iblk m c 1 t) (ldHi (iblk m c 0 t))) (k0_pay13 (F := Ideal) (iblk m c 1 t) (ldHi (iblk m c 0 t))) x
      = val_main_v65 (F := Ideal) (aq m c) (ak m c) (av m c) (ad m c)
          (ix2 (row t (hi (x 0))) ⟨(head t).val * 128 + (x 1).val, by have := (x 1).isLt; have := (head t).isLt; simp at *; omega⟩) := by
  refine (dq_at _ _ _ _ x).trans (Eq.trans ?_ (v65_head (aq m c) (ak m c) (av m c) (ad m c) (head t) (row t (hi (x 0))) (x 1)).symm)
  exact Finset.sum_congr rfl fun l _ => congrArg₂ (· * ·) (congrArg (· * scale)
    (congrArg₂ (fun s d => grad low s d l) (score_hi m c t (x 0)) (cot_hi m c t (x 0)))) (k_blk m c t l (x 1))

theorem final4 (c : Dev nD) : (dats m 0 c).arrAt 4 (cfgs 0).N = val_main_v65 (F := Ideal) (aq m c) (ak m c) (av m c) (ad m c) := by
  refine (dats m 0 c).arrAt_eq_of_covers 4 _ (by decide +kernel) fun t _ y => ?_
  blk_simp
  rw [after0_4]
  have ht := lt64 t
  by_cases h : t.val % 32 = 0
  all_goals
    first | rw [outsAt0_A m c t h] | rw [outsAt0_B m c t h]
    frame_out
    clear h
    canon_tiles x h
    case piece0 =>
      refine (dq_hi m c t x).trans (congrArg (val_main_v65 (F := Ideal) (aq m c) (ak m c) (av m c) (ad m c)) ?_)
      dsimp only [row, hi, head]
      funext a
      match a with
      | ⟨0, _⟩ => (apply Fin.ext; blk_simp [idx t]; exact congrArg (t.val % 8 * 256 + ·) h0.symm)
      | ⟨1, _⟩ => (apply Fin.ext; blk_simp [idx t]; exact congrArg (t.val / 8 * 128 + ·) h1.symm)
    case piece1 =>
      refine (dq_lo m c t x).trans (congrArg (val_main_v65 (F := Ideal) (aq m c) (ak m c) (av m c) (ad m c)) ?_)
      dsimp only [row, lo, head]
      funext a
      match a with
      | ⟨0, _⟩ => (apply Fin.ext; blk_simp [idx t]; exact congrArg (t.val % 8 * 256 + ·) h0.symm)
      | ⟨1, _⟩ => (apply Fin.ext; blk_simp [idx t]; exact congrArg (t.val / 8 * 128 + ·) h1.symm)

/-- A sum over a block's rows is the sums over its halves. -/
theorem halves (f : Fin 256 → EReal) : (∑ r : Fin 128, f (lo r)) + ∑ r : Fin 128, f (hi r) = ∑ r : Fin 256, f r :=
  (Fin.sum_univ_add (a := 128) (b := 128) f).symm

/-- What a point adds to the keys' gradient, and to the values'. -/
def part5 (c : Dev nD) (t : Fin cfg0.N) (y : S2304x128.Idx) : EReal :=
  ∑ r : Fin 256, ds (aq m c) (ak m c) (av m c) (ad m c) (head t) (row t r) (y 0)
    * aq m c (ix2 (row t r) ⟨(head t).val * 128 + (y 1).val, by have := (y 1).isLt; have := (head t).isLt; simp at *; omega⟩)
def part6 (c : Dev nD) (t : Fin cfg0.N) (y : S2304x128.Idx) : EReal :=
  ∑ r : Fin 256, weight (aq m c) (ak m c) (head t) (row t r) (y 0)
    * ad m c (ix2 (row t r) ⟨(head t).val * 128 + (y 1).val, by have := (y 1).isLt; have := (head t).isLt; simp at *; omega⟩)

theorem hpay5 (c : Dev nD) (t : Fin cfg0.N) (acc : FVec Ideal S2304x128 .f32) (y : S2304x128.Idx) :
    k0_pay1 (F := Ideal) (k0_pay20 (F := Ideal) acc)
      (k0_pay21 (F := Ideal) (k0_pay6 (F := Ideal) (iblk m c 2 t)) (k0_pay7 (F := Ideal) (ldLo (iblk m c 0 t)))
        (k0_pay9 (F := Ideal) (ldLo (iblk m c 3 t))) (k0_pay11 (F := Ideal) (iblk m c 1 t) (ldLo (iblk m c 0 t)))
        (k0_pay13 (F := Ideal) (iblk m c 1 t) (ldLo (iblk m c 0 t))))
      (k0_pay22 (F := Ideal) (k0_pay6 (F := Ideal) (iblk m c 2 t)) (k0_pay8 (F := Ideal) (ldHi (iblk m c 0 t)))
        (k0_pay10 (F := Ideal) (ldHi (iblk m c 3 t))) (k0_pay12 (F := Ideal) (iblk m c 1 t) (ldHi (iblk m c 0 t)))) y
      = acc y + part5 m c t y := by
  refine (step5 _ _ _ y).trans (congrArg (acc y + ·) (Eq.trans (congrArg₂ (· + ·) ?_ ?_) (halves _)))
  · refine (dk_at _ _ _ _ y).trans (Finset.sum_congr rfl fun r _ => ?_)
    exact congrArg₂ (· * ·) (congrArg (· * scale)
      (congrArg₂ (fun s d => grad low s d (y 0)) (score_lo m c t r) (cot_lo m c t r))) (q_lo m c t r (y 1))
  · refine (dk_at _ _ _ _ y).trans (Finset.sum_congr rfl fun r _ => ?_)
    exact congrArg₂ (· * ·) (congrArg (· * scale)
      (congrArg₂ (fun s d => grad low s d (y 0)) (score_hi m c t r) (cot_hi m c t r))) (q_hi m c t r (y 1))

theorem hpay6 (c : Dev nD) (t : Fin cfg0.N) (acc : FVec Ideal S2304x128 .f32) (y : S2304x128.Idx) :
    k0_pay2 (F := Ideal) (k0_pay9 (F := Ideal) (ldLo (iblk m c 3 t))) (k0_pay10 (F := Ideal) (ldHi (iblk m c 3 t)))
      (k0_pay14 (F := Ideal) (k0_pay11 (F := Ideal) (iblk m c 1 t) (ldLo (iblk m c 0 t)))
        (k0_pay13 (F := Ideal) (iblk m c 1 t) (ldLo (iblk m c 0 t))))
      (k0_pay15 (F := Ideal) (k0_pay12 (F := Ideal) (iblk m c 1 t) (ldHi (iblk m c 0 t)))) acc y
      = acc y + part6 m c t y := by
  refine (step6 _ _ _ _ _ _ y).trans (congrArg (acc y + ·) (Eq.trans (congrArg₂ (· + ·) ?_ ?_) (halves _)))
  · refine Finset.sum_congr rfl fun r _ => ?_
    exact congrArg₂ (· * ·) (congrArg (fun s => ex low s (y 0) * Ideal.div 1 (total low s)) (score_lo m c t r)) (d_lo m c t r (y 1))
  · refine Finset.sum_congr rfl fun r _ => ?_
    exact congrArg₂ (· * ·) (congrArg (fun s => ex low s (y 0) * Ideal.div 1 (total low s)) (score_hi m c t r)) (d_hi m c t r (y 1))

/-- A run's points and a block's rows: a key head's query heads and all their rows. -/
theorem gather (h : Fin 2) (t : Fin cfg0.N) (ht : t.val / 32 = h.val) (hr : t.val % 32 = 32 - 1) (G : Fin 8 → Fin 2048 → EReal) :
    ∑ s : Fin 32, ∑ r : Fin 256, G (head ⟨32 * (t.val / 32) + s.val, Pipeline.run_point_lt_of_flush t hr s⟩)
        (row ⟨32 * (t.val / 32) + s.val, Pipeline.run_point_lt_of_flush t hr s⟩ r)
      = ∑ g : Fin 4, ∑ r : Fin 2048, G ⟨h.val * 4 + g.val, by omega⟩ r := by
  refine Fin.sum_points_lanes_congr 8 fun s r ha hl => ?_
  refine congrArg₂ G (Fin.ext ?_) (Fin.ext ?_)
  · dsimp only [head]; omega
  · dsimp only [row]; omega

/-- The keys' gradient. -/
theorem final5 (c : Dev nD) :
    (dats m 0 c).arrAt 5 (cfgs 0).N = val_main_v64 (F := Ideal) (aq m c) (ak m c) (av m c) (ad m c) := by
  refine (dats m 0 c).arrAt_eq_of_covers 5 _ (by decide +kernel) fun t hf y => ?_
  have ht := lt64 t
  have hr := (flush0_5 t).mp hf
  blk_simp
  rw [after0_5, Pipeline.eq_sum_fin_of_reset_step_apply_of_flush (fun n h => (outsAt0 m c n h).2.1) 32 (fun _ => 0) (part5 m c)
    (fun t h j => by rw [outsAt0_A m c t h]; frame_out; exact (hpay5 m c t _ j).trans (congrArg (· + part5 m c t j) (zero5 j)))
    (fun t h j => by rw [outsAt0_B m c t h]; frame_out; exact hpay5 m c t _ j) t hr y, zero_add]
  have e : ix2 (y 0) ⟨t.val / 32 * 128 + (y 1).val, by have := (y 1).isLt; simp at this; omega⟩ = (win0_5.blk t).view.emb y := by
    funext a
    match a with
    | ⟨0, _⟩ => (apply Fin.ext; blk_simp [idx t]; rfl)
    | ⟨1, _⟩ => (apply Fin.ext; blk_simp [idx t]; rfl)
  refine Eq.trans ?_ (((v64_head (aq m c) (ak m c) (av m c) (ad m c) ⟨t.val / 32, by omega⟩ (y 0) (y 1)).symm).trans (congrArg _ e))
  exact gather ⟨t.val / 32, by omega⟩ t rfl hr fun n r => ds (aq m c) (ak m c) (av m c) (ad m c) n r (y 0)
    * aq m c (ix2 r ⟨n.val * 128 + (y 1).val, by have := (y 1).isLt; have := n.isLt; simp at *; omega⟩)

/-- The values' gradient. -/
theorem final6 (c : Dev nD)
    (h0 : ∀ n r, total low (score (aq m c) (ak m c) n r) ≠ 0) :
    (dats m 0 c).arrAt 6 (cfgs 0).N = val_main_v63 (F := Ideal) (aq m c) (ak m c) (ad m c) := by
  refine (dats m 0 c).arrAt_eq_of_covers 6 _ (by decide +kernel) fun t hf y => ?_
  have ht := lt64 t
  have hr := (flush0_6 t).mp hf
  blk_simp
  rw [after0_6, Pipeline.eq_sum_fin_of_reset_step_apply_of_flush (fun n h => (outsAt0 m c n h).2.2) 32 (fun _ => 0) (part6 m c)
    (fun t h j => by rw [outsAt0_A m c t h]; frame_out; exact (hpay6 m c t _ j).trans (congrArg (· + part6 m c t j) (zero6 j)))
    (fun t h j => by rw [outsAt0_B m c t h]; frame_out; exact hpay6 m c t _ j) t hr y, zero_add]
  have e : ix2 (y 0) ⟨t.val / 32 * 128 + (y 1).val, by have := (y 1).isLt; simp at this; omega⟩ = (win0_6.blk t).view.emb y := by
    funext a
    match a with
    | ⟨0, _⟩ => (apply Fin.ext; blk_simp [idx t]; rfl)
    | ⟨1, _⟩ => (apply Fin.ext; blk_simp [idx t]; rfl)
  refine Eq.trans ?_ (((v63_head (aq m c) (ak m c) (ad m c) h0 ⟨t.val / 32, by omega⟩ (y 0) (y 1)).symm).trans (congrArg _ e))
  exact gather ⟨t.val / 32, by omega⟩ t rfl hr fun n r => weight (aq m c) (ak m c) n r (y 0)
    * ad m c (ix2 r ⟨n.val * 128 + (y 1).val, by have := (y 1).isLt; have := n.isLt; simp at *; omega⟩)

/-- The scores' scale is a real number. -/
theorem scale_real : ∃ a : ℝ, scale = (a : EReal) := by
  unfold scale Ideal.ofBits Ideal.ieee
  simp only
  rw [if_neg (by decide)]
  split_ifs <;> exact ⟨_, rfl⟩

/-- A sum of real numbers, taken among the extended ones. -/
theorem coe_sum {ι : Type} [Fintype ι] (f : ι → ℝ) : (∑ x, (f x : EReal)) = ((∑ x, f x : ℝ) : EReal) := by
  classical
  refine Finset.induction_on (Finset.univ : Finset ι) (by simp) fun a s ha ih => ?_
  rw [Finset.sum_insert ha, Finset.sum_insert ha, ih, EReal.coe_add]

/-- A maximum starts from minus infinity. -/
theorem low_ne_top : low ≠ ⊤ := by
  unfold low Ideal.ofBits Ideal.ieee
  simp

/-- The precondition's comparison holds of real numbers alone. -/
theorem real_of_lt {x : EReal} (h : Ideal.cmp .olt (max x (-x)) (Ideal.ofBits .f32 0x7F800000#32) = 1#1) : ∃ a : ℝ, x = (a : EReal) := by
  have hinf : Ideal.ofBits .f32 0x7F800000#32 = ⊤ := by
    unfold Ideal.ofBits Ideal.ieee
    simp
  rw [hinf] at h
  cases x with
  | bot => simp [Ideal.cmp] at h
  | top => simp [Ideal.cmp] at h
  | coe a => exact ⟨a, rfl⟩

/-- Of real queries and keys the scores are real. -/
theorem score_real (q : FVec Ideal S2048x1024 .f32) (k : FVec Ideal S2304x256 .f32) (hq : ∀ i, ∃ a : ℝ, q i = (a : EReal))
    (hk : ∀ i, ∃ a : ℝ, k i = (a : EReal)) (n : Fin 8) (r : Fin 2048) (l : Fin 2304) : ∃ a : ℝ, score q k n r l = (a : EReal) := by
  choose a ha using hq
  choose b hb using hk
  obtain ⟨e, he⟩ := scale_real
  refine ⟨(∑ x : Fin 128, a (ix2 r ⟨n.val * 128 + x.val, by omega⟩) * b (ix2 l ⟨n.val / 4 * 128 + x.val, by omega⟩)) * e, ?_⟩
  unfold score
  rw [he]
  simp only [ha, hb, ← EReal.coe_mul]
  exact (congrArg (· * (e : EReal)) (coe_sum _)).trans (EReal.coe_mul _ _).symm

end Cert.Attn

namespace Cert.Proof.Attn

open Cert.Attn Cert.Softmax

section
open Cert.AttnRIdeal Cert.AttnRIdeal.Gen Cert.AttnRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v64) = val_main_v64 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v63) = val_main_v63 (F := Ideal) (m ((c.tc : Thread nD τ).loc
        main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v65_eq m c), (h c).2.1.trans (val_main_v64_eq m c), (h c).2.2.1.trans (val_main_v63_eq
    _ _ _), (h c).2.2.2⟩)
    (Cert.AttnRIdeal.Value.run (F := Ideal) m ρ)

end

/-- Where the precondition holds no row's weights add up to zero. -/
theorem total_ne (m : (ℓ : Loc Cert.AttnKIdeal.nD Cert.AttnKIdeal.τ Cert.AttnKIdeal.sig) → Buf (Elt Ideal) ℓ)
    (hpre : Pre_AttnKIdeal_finite_attn m) (c : Dev Cert.AttnKIdeal.nD) (n : Fin 8) (r : Fin 2048) :
    total low (score (aq m c) (ak m c) n r) ≠ 0 := by
  refine total_ne_zero low_ne_top (fun l => ?_) ⟨0, by omega⟩
  obtain ⟨a, ha⟩ := score_real (aq m c) (ak m c) (fun i => real_of_lt (congrFun (hpre c).1 i)) (fun i => real_of_lt (congrFun (hpre c).2 i)) n r l
  rw [ha]
  exact ⟨EReal.coe_ne_top a, EReal.coe_ne_bot a⟩

set_option maxHeartbeats 1600000 in
/-- From memories that agree on the arguments, queries and keys finite, the kernel and the reference end with the same
    three gradients. -/
theorem algebraic : Cert.algebraic_AttnKIdeal_AttnRIdeal_pre_finite_attn := by
  pair_intro
  · run_from Cert.AttnKIdeal.Gen.run_main m g
  · run_from refRun m' g'
    · exact (final4 m c).symm
    · exact (final5 m c).symm
    · exact (final6 m c (total_ne m hpre c)).symm

end Cert.Proof.Attn

end
-- ==== Proof.Norm.lean ====
/-
  The backward call of the latent rows' normalisation and modulation, `y = rms(x)·(1 + scale) + shift`. The gradient of the
  rows is written block of rows by block of rows; those of the shift and of the scale are added up over the blocks.
-/
module

public import proofs.«01_k».proof.Defs
public import proofs.«01_k».proof.Proof.Gen.NormKIdeal.Value
public import proofs.«01_k».proof.Proof.Gen.NormRIdeal.Read
public import proofs.«01_k».proof.Proof.Gen.NormRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormKIdeal.Norm

open Cert.NormKIdeal Cert.NormKIdeal.Gen
open Cert.NormRIdeal.Read

variable (m : (ℓ : Loc nD τ sig) → Buf (Elt Ideal) ℓ)

/-- The rows' windows move down with the grid point, the two vectors' stay. -/
theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![0, 0] ∧ win0_6.index t = ![0, 0] :=
  (by decide +kernel : ∀ t : Fin grid0.N, _)

set_option maxHeartbeats 1600000 in
/-- The gradient of the rows. -/
theorem final4 (c : Dev nD) : (dats m 0 c).arrAt 4 (cfgs 0).N
    = val_main_v40 (F := Ideal) (m ((c : Thread nD τ).loc main_arg0)) (m ((c : Thread nD τ).loc main_arg2))
        (m ((c : Thread nD τ).loc main_arg3)) := by
  refine (dats m 0 c).arrAt_eq_of_covers 4 _ (by decide +kernel) fun t _ y => ?_
  blk_simp
  rw [after0_4]
  by_cases h : t.val % 8 = 0
  all_goals
    first | rw [outsAt0_A m c t h] | rw [outsAt0_B m c t h]
    frame_out
    pointwise [k0_pay10, k0_pay7, k0_pay6, k0_pay5, val_main_v40, val_main_v39, val_main_v38, val_main_v37, val_main_v36, val_main_v35, val_main_v34, val_main_v33, val_main_v32, val_main_v31, val_main_v30, val_main_v29, val_main_v28, val_main_v27, val_main_v26, val_main_v25, val_main_v19, val_main_v14, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_6, val_main_cst_7, val_main_cst_8]
    blk_point [iblk, V, idx t]

/-- The kernel's share of the shift's gradient at one point: the block's cotangents added up. -/
theorem hpay3 (acc : Vec Ideal S1x1024 .f32) (x : Vec Ideal S256x1024 .f32) (j : S1x1024.Idx) :
    k0_pay3 (F := Ideal) (k0_pay8 x) acc j = acc j + ∑ k : Fin 256, x (ix2 k (j 1)) := by
  pointwise [k0_pay3, k0_pay8]

theorem hzero1 (j : S1x1024.Idx) : k0_pay1 (F := Ideal) j = 0 := by pointwise [k0_pay1]
theorem hzero2 (j : S1x1024.Idx) : k0_pay2 (F := Ideal) j = 0 := by pointwise [k0_pay2]

/-- The kernel's share of the scale's gradient at one point: the block's normalised rows times the cotangents. -/
theorem hpay4 (acc : Vec Ideal S1x1024 .f32) (x ct : Vec Ideal S256x1024 .f32) (j : S1x1024.Idx) :
    k0_pay4 (F := Ideal) (k0_pay9 x ct) acc j = acc j + ∑ k : Fin 256, x (ix2 k (j 1)) * Ideal.rsqrt
      (Ideal.div (∑ l : Fin 1024, x (ix2 k l) * x (ix2 k l)) (Ideal.ofBits .f32 0x44800000#32)
        + Ideal.ofBits .f32 0x358637BD#32) * ct (ix2 k (j 1)) := by
  pointwise [k0_pay4, k0_pay9, k0_pay7, k0_pay6, k0_pay5]

/-- The gradient of the shift. -/
theorem final5 (c : Dev nD) : (dats m 0 c).arrAt 5 (cfgs 0).N
    = val_main_v21 (F := Ideal) (m ((c : Thread nD τ).loc main_arg3)) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0) _
    (fun t h j => by rw [outsAt0_A m c t h]; frame_out; rw [hpay3, hzero1])
    (fun t h j => by rw [outsAt0_B m c t h]; frame_out; rw [hpay3])
    (le_of_eq N_0) t0_7 rfl j, zero_add]
  pointwise [val_main_v21, val_main_v20, val_main_cst_4]
  refine Fin.sum_mul_add_congr fun t k hl => ?_
  blk_point [iblk, V, idx t]

set_option maxHeartbeats 1600000 in
/-- The gradient of the scale. -/
theorem final6 (c : Dev nD) : (dats m 0 c).arrAt 6 (cfgs 0).N
    = val_main_v24 (F := Ideal) (m ((c : Thread nD τ).loc main_arg0)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by rw [outsAt0_A m c t h]; frame_out; rw [hpay4, hzero2])
    (fun t h j => by rw [outsAt0_B m c t h]; frame_out; rw [hpay4])
    (le_of_eq N_0) t0_7 rfl j, zero_add]
  pointwise [val_main_v24, val_main_v23, val_main_v22, val_main_cst_5, val_main_v10, val_main_v9, val_main_v8, val_main_v7, val_main_v6, val_main_v5, val_main_v4, val_main_v3, val_main_v2, val_main_v1, val_main_v0, val_main_cst, val_main_cst_0, val_main_cst_1, val_main_cst_2, val_main_v11, val_main_v12, val_main_v19]
  refine Fin.sum_mul_add_congr fun t k hl => ?_
  blk_point [iblk, V, idx t]

end Cert.NormKIdeal.Norm

namespace Cert.Proof.Norm

section
open Cert.NormRIdeal Cert.NormRIdeal.Gen Cert.NormRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0))
        (m ((c.tc : Thread nD τ).loc main_arg2)) (m ((c.tc : Thread nD τ).loc main_arg3))
      ∧ r.2.mem ((c.tc : Thread nD τ).loc main_v21) = val_main_v21 (F := Ideal) (m ((c.tc : Thread nD τ).loc main_arg3))
      ∧ r.2.mem ((c.tc : Thread nD τ).loc main_v24) = val_main_v24 (F := Ideal) (m ((c.tc : Thread nD τ).loc main_arg0))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v40_eq m c), (h c).2.1.trans (val_main_v21_eq _),
    (h c).2.2.1.trans (val_main_v24_eq _ _), (h c).2.2.2⟩) (Cert.NormRIdeal.Value.run (F := Ideal) m ρ)

end

open Cert.NormKIdeal.Norm

set_option maxHeartbeats 1600000 in
/-- From memories that agree on the arguments the kernel and the reference end with the same three gradients. -/
theorem algebraic : Cert.algebraic_NormKIdeal_NormRIdeal := by
  pair_intro
  · run_from Cert.NormKIdeal.Gen.run_main m g
  · run_from refRun m' g'
    · exact (final4 m c).symm
    · exact (final5 m c).symm
    · exact (final6 m c).symm

end Cert.Proof.Norm

end
-- ==== Proof.NormC.lean ====
/-
  The backward call of the context rows' normalisation and modulation, `y = rms(x)·(1 + scale) + shift`: one block of
  rows holds the whole array, so each of the three gradients is written once.
-/
module

public import proofs.«01_k».proof.Defs
public import proofs.«01_k».proof.Proof.Gen.NormCKIdeal.Value
public import proofs.«01_k».proof.Proof.Gen.NormCRIdeal.Read
public import proofs.«01_k».proof.Proof.Gen.NormCRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormCKIdeal.NormC

open Cert.NormCKIdeal Cert.NormCKIdeal.Gen
open Cert.NormCRIdeal.Read

variable (m : (ℓ : Loc nD τ sig) → Buf (Elt Ideal) ℓ)

/-- The rows' windows and the two vectors' stay: the grid has one point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] :=
  (by decide +kernel : ∀ t : Fin grid0.N, _)

set_option maxHeartbeats 4000000 in
/-- The gradient of the rows. -/
theorem final4 (c : Dev nD) : (dats m 0 c).arrAt 4 (cfgs 0).N
    = val_main_v40 (F := Ideal) (m ((c : Thread nD τ).loc main_arg0)) (m ((c : Thread nD τ).loc main_arg2)) (m ((c : Thread
        nD τ).loc main_arg3)) := by
  refine (dats m 0 c).arrAt_eq_of_covers 4 _ (by decide +kernel) fun t _ y => ?_
  blk_simp
  rw [after0_4]
  dsimp only [outsAt0]
  frame_out
  pointwise [k0_pay10, k0_pay6, k0_pay5, k0_pay7, val_main_v40, val_main_v39, val_main_v36, val_main_v35,
    val_main_cst_8, val_main_v34, val_main_v33, val_main_cst_7, val_main_v32, val_main_v10, val_main_v8, val_main_v6,
    val_main_v5, val_main_cst_1, val_main_v4, val_main_v3, val_main_cst_0, val_main_v2, val_main_v1, val_main_cst,
    val_main_v0, val_main_v7, val_main_v9, val_main_cst_2, val_main_v29, val_main_v28, val_main_cst_6, val_main_v27,
    val_main_v26, val_main_v25, val_main_v14, val_main_v13, val_main_cst_3, val_main_v19, val_main_v38, val_main_v37,
    val_main_v31, val_main_v30]
  blk_point [iblk, V, idx t]

set_option maxHeartbeats 4000000 in
/-- The gradient of the shift. -/
theorem final5 (c : Dev nD) : (dats m 0 c).arrAt 5 (cfgs 0).N
    = val_main_v21 (F := Ideal) (m ((c : Thread nD τ).loc main_arg3)) := by
  refine (dats m 0 c).arrAt_eq_of_covers 5 _ (by decide +kernel) fun t _ y => ?_
  blk_simp
  rw [after0_5]
  dsimp only [outsAt0]
  frame_out
  pointwise [k0_pay8, k0_pay3, k0_pay1, val_main_v21, val_main_v20, val_main_cst_4]
  blk_point [iblk, V, idx t]

set_option maxHeartbeats 4000000 in
/-- The gradient of the scale. -/
theorem final6 (c : Dev nD) : (dats m 0 c).arrAt 6 (cfgs 0).N
    = val_main_v24 (F := Ideal) (m ((c : Thread nD τ).loc main_arg0)) (m ((c : Thread nD τ).loc main_arg3)) := by
  refine (dats m 0 c).arrAt_eq_of_covers 6 _ (by decide +kernel) fun t _ y => ?_
  blk_simp
  rw [after0_6]
  dsimp only [outsAt0]
  frame_out
  pointwise [k0_pay9, k0_pay7, k0_pay6, k0_pay5, k0_pay4, k0_pay2, val_main_v24, val_main_v23, val_main_cst_5,
    val_main_v22, val_main_v19, val_main_v12, val_main_v11, val_main_v7, val_main_v6, val_main_v5, val_main_cst_1,
    val_main_v4, val_main_v3, val_main_cst_0, val_main_v2, val_main_v1, val_main_cst, val_main_v0]
  blk_point [iblk, V, idx t]

end Cert.NormCKIdeal.NormC

namespace Cert.Proof.NormC

section
open Cert.NormCRIdeal Cert.NormCRIdeal.Gen Cert.NormCRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = val_main_v40 (F := Ideal) (m ((c.tc : Thread nD τ).loc
        main_arg0)) (m ((c.tc : Thread nD τ).loc main_arg2)) (m ((c.tc : Thread nD τ).loc main_arg3))
      ∧ r.2.mem ((c.tc : Thread nD τ).loc main_v21) = val_main_v21 (F := Ideal) (m ((c.tc : Thread nD τ).loc
        main_arg3))
      ∧ r.2.mem ((c.tc : Thread nD τ).loc main_v24) = val_main_v24 (F := Ideal) (m ((c.tc : Thread nD τ).loc
        main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v40_eq m c), (h c).2.1.trans (val_main_v21_eq _), (h c).2.2.1.trans (val_main_v24_eq _
    _), (h c).2.2.2⟩)
    (Cert.NormCRIdeal.Value.run (F := Ideal) m ρ)

end

open Cert.NormCKIdeal.NormC

set_option maxHeartbeats 1600000 in
/-- From memories that agree on the arguments the kernel and the reference end with the same gradients. -/
theorem algebraic : Cert.algebraic_NormCKIdeal_NormCRIdeal := by
  pair_intro
  · run_from Cert.NormCKIdeal.Gen.run_main m g
  · run_from refRun m' g'
    · exact (final4 m c).symm
    · exact (final5 m c).symm
    · exact (final6 m c).symm

end Cert.Proof.NormC

end
-- ==== Proof.Res.lean ====
/-
  The backward call of a latent residual with the normalisation after it: `x1 = x + gate·mo`, `y = rms(x1)·(1 + scale) +
  shift`, both results with a cotangent. The gradients of the rows are written block by block; those of the three vectors
  are added up over the blocks.
-/
module

public import proofs.«01_k».proof.Defs
public import proofs.«01_k».proof.Proof.Gen.ResKIdeal.Value
public import proofs.«01_k».proof.Proof.Gen.ResRIdeal.Read
public import proofs.«01_k».proof.Proof.Gen.ResRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ResKIdeal.Res

open Cert.ResKIdeal Cert.ResKIdeal.Gen
open Cert.ResRIdeal.Read

variable (m : (ℓ : Loc nD τ sig) → Buf (Elt Ideal) ℓ)

/-- The rows' windows move down with the grid point, the vectors' stay. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0]
    ∧ win0_11.index t = ![0, 0] :=
  (by decide +kernel : ∀ t : Fin grid0.N, _)

theorem hzero13 (j : S1x1024.Idx) : k0_pay13 (F := Ideal) j = 0 := by pointwise [k0_pay13]
theorem hzero14 (j : S1x1024.Idx) : k0_pay14 (F := Ideal) j = 0 := by pointwise [k0_pay14]
theorem hzero15 (j : S1x1024.Idx) : k0_pay15 (F := Ideal) j = 0 := by pointwise [k0_pay15]

/-- One block's share of the gate's gradient. -/
theorem hpay16 (v1 v6 v37 : Vec Ideal S256x1024 .f32) (v38 : Vec Ideal S256x1 .f32) (acc : Vec Ideal S1x1024 .f32)
    (j : S1x1024.Idx) : k0_pay16 (F := Ideal) v1 v6 v37 v38 acc j
      = acc j + ∑ k : Fin 256, k0_pay11 (F := Ideal) v6 v37 v38 (ix2 k (j 1)) * v1 (ix2 k (j 1)) := by
  pointwise [k0_pay16]

/-- One block's share of the shift's gradient. -/
theorem hpay17 (ct : Vec Ideal S256x1024 .f32) (acc : Vec Ideal S1x1024 .f32) (j : S1x1024.Idx) :
    k0_pay17 (F := Ideal) (k0_pay5 ct) acc j = acc j + ∑ k : Fin 256, ct (ix2 k (j 1)) := by
  pointwise [k0_pay17, k0_pay5]

/-- One block's share of the scale's gradient. -/
theorem hpay18 (x mo ct : Vec Ideal S256x1024 .f32) (g acc : Vec Ideal S1x1024 .f32) (j : S1x1024.Idx) :
    k0_pay18 (F := Ideal) (k0_pay6 x mo g ct) acc j = acc j + ∑ k : Fin 256, k0_pay1 (F := Ideal) x mo g (ix2 k (j 1))
      * k0_pay3 (F := Ideal) x mo g (ix2 k (0 : Fin 1)) * k0_pay4 (F := Ideal) ct (ix2 k (j 1)) := by
  pointwise [k0_pay18, k0_pay6]

set_option maxHeartbeats 4000000 in
/-- The gradient of the residual's rows. -/
theorem final7 (c : Dev nD) : (dats m 0 c).arrAt 7 (cfgs 0).N
    = val_main_v44 (F := Ideal) (m ((c : Thread nD τ).loc main_arg0)) (m ((c : Thread nD τ).loc main_arg1)) (m ((c : Thread
        nD τ).loc main_arg2)) (m ((c : Thread nD τ).loc main_arg4)) (m ((c : Thread nD τ).loc main_arg5)) (m ((c :
        Thread nD τ).loc main_arg6)) := by
  refine (dats m 0 c).arrAt_eq_of_covers 7 _ (by decide +kernel) fun t _ y => ?_
  blk_simp
  rw [after0_7]
  by_cases h : t.val % 8 = 0
  all_goals
    first | rw [outsAt0_A m c t h] | rw [outsAt0_B m c t h]
    frame_out
    pointwise [k0_pay1, k0_pay9, k0_pay7, k0_pay4, k0_pay2, k0_pay3, k0_pay8, k0_pay10, val_main_v44, val_main_v43,
      val_main_v2, val_main_v1, val_main_v0, val_main_v40, val_main_v39, val_main_cst_8, val_main_v38, val_main_v37,
      val_main_cst_7, val_main_v36, val_main_v13, val_main_v11, val_main_v9, val_main_v8, val_main_cst_1, val_main_v7,
      val_main_v6, val_main_cst_0, val_main_v5, val_main_v4, val_main_cst, val_main_v3, val_main_v10, val_main_v12,
      val_main_cst_2, val_main_v32, val_main_v31, val_main_cst_6, val_main_v30, val_main_v29, val_main_v28,
      val_main_v17, val_main_v16, val_main_cst_3, val_main_v22, val_main_v42, val_main_v41, val_main_v35,
      val_main_v34, val_main_v33]
    blk_point [iblk, V, idx t]

set_option maxHeartbeats 4000000 in
/-- The gradient of the branch's rows. -/
theorem final8 (c : Dev nD) : (dats m 0 c).arrAt 8 (cfgs 0).N
    = val_main_v47 (F := Ideal) (m ((c : Thread nD τ).loc main_arg0)) (m ((c : Thread nD τ).loc main_arg1)) (m ((c : Thread
        nD τ).loc main_arg2)) (m ((c : Thread nD τ).loc main_arg4)) (m ((c : Thread nD τ).loc main_arg5)) (m ((c :
        Thread nD τ).loc main_arg6)) := by
  refine (dats m 0 c).arrAt_eq_of_covers 8 _ (by decide +kernel) fun t _ y => ?_
  blk_simp
  rw [after0_8]
  by_cases h : t.val % 8 = 0
  all_goals
    first | rw [outsAt0_A m c t h] | rw [outsAt0_B m c t h]
    frame_out
    pointwise [k0_pay12, k0_pay11, k0_pay10, k0_pay1, k0_pay9, k0_pay7, k0_pay4, k0_pay2, k0_pay3, k0_pay8, val_main_v47,
      val_main_v45, val_main_v44, val_main_v43, val_main_v2, val_main_v1, val_main_v0, val_main_v40, val_main_v39,
      val_main_cst_8, val_main_v38, val_main_v37, val_main_cst_7, val_main_v36, val_main_v13, val_main_v11,
      val_main_v9, val_main_v8, val_main_cst_1, val_main_v7, val_main_v6, val_main_cst_0, val_main_v5, val_main_v4,
      val_main_cst, val_main_v3, val_main_v10, val_main_v12, val_main_cst_2, val_main_v32, val_main_v31,
      val_main_cst_6, val_main_v30, val_main_v29, val_main_v28, val_main_v17, val_main_v16, val_main_cst_3,
      val_main_v22, val_main_v42, val_main_v41, val_main_v35, val_main_v34, val_main_v33, val_main_v46]
    blk_point [iblk, V, idx t]

set_option maxHeartbeats 4000000 in
/-- The gradient of the gate. -/
theorem final9 (c : Dev nD) : (dats m 0 c).arrAt 9 (cfgs 0).N
    = val_main_v50 (F := Ideal) (m ((c : Thread nD τ).loc main_arg0)) (m ((c : Thread nD τ).loc main_arg1)) (m ((c : Thread
        nD τ).loc main_arg2)) (m ((c : Thread nD τ).loc main_arg4)) (m ((c : Thread nD τ).loc main_arg5)) (m ((c :
        Thread nD τ).loc main_arg6)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) _
    (fun t h j => by rw [outsAt0_A m c t h]; frame_out; rw [hpay16, hzero13])
    (fun t h j => by rw [outsAt0_B m c t h]; frame_out; rw [hpay16])
    (le_of_eq N_0) t0_7 rfl j, zero_add]
  pointwise [k0_pay11, k0_pay10, k0_pay1, k0_pay9, k0_pay7, k0_pay4, k0_pay2, k0_pay3, k0_pay8, val_main_v50,
    val_main_v49, val_main_cst_9, val_main_v48, val_main_v45, val_main_v44, val_main_v43, val_main_v2, val_main_v1,
    val_main_v0, val_main_v40, val_main_v39, val_main_cst_8, val_main_v38, val_main_v37, val_main_cst_7, val_main_v36,
    val_main_v13, val_main_v11, val_main_v9, val_main_v8, val_main_cst_1, val_main_v7, val_main_v6, val_main_cst_0,
    val_main_v5, val_main_v4, val_main_cst, val_main_v3, val_main_v10, val_main_v12, val_main_cst_2, val_main_v32,
    val_main_v31, val_main_cst_6, val_main_v30, val_main_v29, val_main_v28, val_main_v17, val_main_v16,
    val_main_cst_3, val_main_v22, val_main_v42, val_main_v41, val_main_v35, val_main_v34, val_main_v33]
  refine Fin.sum_mul_add_congr fun t k hl => ?_
  blk_point [iblk, V, idx t]

set_option maxHeartbeats 4000000 in
/-- The gradient of the shift. -/
theorem final10 (c : Dev nD) : (dats m 0 c).arrAt 10 (cfgs 0).N
    = val_main_v24 (F := Ideal) (m ((c : Thread nD τ).loc main_arg6)) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0) _
    (fun t h j => by rw [outsAt0_A m c t h]; frame_out; rw [hpay17, hzero14])
    (fun t h j => by rw [outsAt0_B m c t h]; frame_out; rw [hpay17])
    (le_of_eq N_0) t0_7 rfl j, zero_add]
  pointwise [val_main_v24, val_main_v23, val_main_cst_4]
  refine Fin.sum_mul_add_congr fun t k hl => ?_
  blk_point [iblk, V, idx t]

set_option maxHeartbeats 4000000 in
/-- The gradient of the scale. -/
theorem final11 (c : Dev nD) : (dats m 0 c).arrAt 11 (cfgs 0).N
    = val_main_v27 (F := Ideal) (m ((c : Thread nD τ).loc main_arg0)) (m ((c : Thread nD τ).loc main_arg1)) (m ((c : Thread
        nD τ).loc main_arg2)) (m ((c : Thread nD τ).loc main_arg6)) := by
  refine (dats m 0 c).arrAt_eq_of_after_last 11 t0_7 (by decide +kernel) _ fun j => ?_
  blk_simp
  rw [after0_11, Pipeline.eq_sum_fin_of_reset_step_apply_last (fun n h => (outsAt0 m c n h).2.2.2.2) 8 (fun _ => 0) _
    (fun t h j => by rw [outsAt0_A m c t h]; frame_out; rw [hpay18, hzero15])
    (fun t h j => by rw [outsAt0_B m c t h]; frame_out; rw [hpay18])
    (le_of_eq N_0) t0_7 rfl j, zero_add]
  pointwise [k0_pay4, k0_pay3, k0_pay2, k0_pay1, val_main_v27, val_main_v26, val_main_cst_5, val_main_v25, val_main_v22,
    val_main_v15, val_main_v14, val_main_v10, val_main_v9, val_main_v8, val_main_cst_1, val_main_v7, val_main_v6,
    val_main_cst_0, val_main_v5, val_main_v4, val_main_cst, val_main_v3, val_main_v2, val_main_v1, val_main_v0]
  refine Fin.sum_mul_add_congr fun t k hl => ?_
  blk_point [iblk, V, idx t]

end Cert.ResKIdeal.Res

namespace Cert.Proof.Res

section
open Cert.ResRIdeal Cert.ResRIdeal.Gen Cert.ResRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = val_main_v44 (F := Ideal) (m ((c.tc : Thread nD τ).loc
        main_arg0)) (m ((c.tc : Thread nD τ).loc main_arg1)) (m ((c.tc : Thread nD τ).loc main_arg2)) (m ((c.tc :
        Thread nD τ).loc main_arg4)) (m ((c.tc : Thread nD τ).loc main_arg5)) (m ((c.tc : Thread nD τ).loc main_arg6))
      ∧ r.2.mem ((c.tc : Thread nD τ).loc main_v47) = val_main_v47 (F := Ideal) (m ((c.tc : Thread nD τ).loc
        main_arg0)) (m ((c.tc : Thread nD τ).loc main_arg1)) (m ((c.tc : Thread nD τ).loc main_arg2)) (m ((c.tc :
        Thread nD τ).loc main_arg4)) (m ((c.tc : Thread nD τ).loc main_arg5)) (m ((c.tc : Thread nD τ).loc main_arg6))
      ∧ r.2.mem ((c.tc : Thread nD τ).loc main_v50) = val_main_v50 (F := Ideal) (m ((c.tc : Thread nD τ).loc
        main_arg0)) (m ((c.tc : Thread nD τ).loc main_arg1)) (m ((c.tc : Thread nD τ).loc main_arg2)) (m ((c.tc :
        Thread nD τ).loc main_arg4)) (m ((c.tc : Thread nD τ).loc main_arg5)) (m ((c.tc : Thread nD τ).loc main_arg6))
      ∧ r.2.mem ((c.tc : Thread nD τ).loc main_v24) = val_main_v24 (F := Ideal) (m ((c.tc : Thread nD τ).loc
        main_arg6))
      ∧ r.2.mem ((c.tc : Thread nD τ).loc main_v27) = val_main_v27 (F := Ideal) (m ((c.tc : Thread nD τ).loc
        main_arg0)) (m ((c.tc : Thread nD τ).loc main_arg1)) (m ((c.tc : Thread nD τ).loc main_arg2)) (m ((c.tc :
        Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v44_eq m c), (h c).2.1.trans (val_main_v47_eq m c), (h c).2.2.1.trans (val_main_v50_eq
    m c), (h c).2.2.2.1.trans (val_main_v24_eq _), (h c).2.2.2.2.1.trans (val_main_v27_eq _ _ _ _), (h c).2.2.2.2.2⟩)
    (Cert.ResRIdeal.Value.run (F := Ideal) m ρ)

end

open Cert.ResKIdeal.Res

set_option maxHeartbeats 1600000 in
/-- From memories that agree on the arguments the kernel and the reference end with the same gradients. -/
theorem algebraic : Cert.algebraic_ResKIdeal_ResRIdeal := by
  pair_intro
  · run_from Cert.ResKIdeal.Gen.run_main m g
  · run_from refRun m' g'
    · exact (final7 m c).symm
    · exact (final8 m c).symm
    · exact (final9 m c).symm
    · exact (final10 m c).symm
    · exact (final11 m c).symm

end Cert.Proof.Res

end
-- ==== Proof.Head.lean ====
/-
  The backward call of the loss head: `y = rms(x + gate·down)·weight`, the loss half the squared error's mean summed over
  the rows, its cotangent one. The gradients of the rows are written block by block; those of the two vectors are added up
  over the blocks.
-/
module

public import proofs.«01_k».proof.Defs
public import proofs.«01_k».proof.Proof.Gen.HeadKIdeal.Value
public import proofs.«01_k».proof.Proof.Gen.HeadRIdeal.Read
public import proofs.«01_k».proof.Proof.Gen.HeadRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadKIdeal.Head

open Cert.HeadKIdeal Cert.HeadKIdeal.Gen
open Cert.HeadRIdeal.Read

variable (m : (ℓ : Loc nD τ sig) → Buf (Elt Ideal) ℓ)

/-- The rows' windows move down with the grid point, the vectors' stay. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- The cotangents' block: ones in the first lane, zeros in the others. -/
theorem seed (c : Dev nD) (t : Fin cfg0.N) (r : Fin 256) (l : Fin 128) :
    (iblk m c 5 t : Vec Ideal S256x128 .f32) (ix2 r l) = (if l.val < 1 then (1 : EReal) else 0) := by
  blk_simp [iblk, idx t]
  entry_read
  pointwise []
  refine if_congr ?_ rfl rfl
  blk_simp [idx t]

theorem pay8 (x : Vec Ideal S256x128 .f32) (r : Fin 256) (j : Fin 1024) (h : ∀ l : Fin 128, x (ix2 r l) = (if l.val < 1 then (1 : EReal) else 0)) :
    k0_pay8 (F := Ideal) x (ix2 r j)
      = Ideal.div (Ideal.ofBits .f32 0x3F000000#32 * 1) (Ideal.ofBits .f32 0x44800000#32) := by
  pointwise [k0_pay8]
  rw [Fin.sum_univ_one]
  congr 2
  rw [Fin.sum_univ_succ]
  simp [h]

/-- Every row's cotangent: half of one over the row's length. -/
theorem hseed (c : Dev nD) (t : Fin cfg0.N) : k0_pay8 (F := Ideal) (iblk m c 5 t)
      = fun _ => Ideal.div (Ideal.ofBits .f32 0x3F000000#32) (Ideal.ofBits .f32 0x44800000#32) := by
  funext y
  idx_vars y
  rw [pay8 _ _ _ (seed m c t _), mul_one]

theorem hzero12 (j : S1x1024.Idx) : k0_pay12 (F := Ideal) j = 0 := by pointwise [k0_pay12]
theorem hzero13 (j : S1x1024.Idx) : k0_pay13 (F := Ideal) j = 0 := by pointwise [k0_pay13]

/-- One block's share of the gate's gradient. -/
theorem hpay14 (v1 v8 v26 v37 : Vec Ideal S256x1024 .f32) (v16 v19 : Vec Ideal S256x1 .f32) (v4 acc : Vec Ideal S1x1024 .f32)
    (j : S1x1024.Idx) : k0_pay14 (F := Ideal) v1 v4 v8 v16 v19 v26 v37 acc j
      = acc j + ∑ k : Fin 256, k0_pay10 (F := Ideal) v4 v8 v16 v19 v26 v37 (ix2 k (j 1)) * v1 (ix2 k (j 1)) := by
  pointwise [k0_pay14]

/-- One block's share of the weight's gradient. -/
theorem hpay15 (v21 v26 v37 : Vec Ideal S256x1024 .f32) (acc : Vec Ideal S1x1024 .f32) (j : S1x1024.Idx) :
    k0_pay15 (F := Ideal) v21 v26 v37 acc j
      = acc j + ∑ k : Fin 256, v21 (ix2 k (j 1)) * k0_pay9 (F := Ideal) v26 v37 (ix2 k (j 1)) := by
  pointwise [k0_pay15]

set_option maxHeartbeats 4000000 in
/-- The gradient of the residual's rows. -/
theorem final6 (c : Dev nD) : (dats m 0 c).arrAt 6 (cfgs 0).N
    = val_main_v53 (F := Ideal) (m ((c : Thread nD τ).loc main_arg0)) (m ((c : Thread nD τ).loc main_arg1)) (m ((c : Thread
        nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 8 = 0
  all_goals
    first | rw [outsAt0_A m c t h] | rw [outsAt0_B m c t h]
    frame_out
    rw [hseed m c t]
    pointwise [k0_pay11, k0_pay10, k0_pay9, k0_pay7, k0_pay6, k0_pay2, k0_pay4, k0_pay3, k0_pay1, k0_pay5, val_main_v53,
      val_main_v52, val_main_v2, val_main_v1, val_main_v0, val_main_v49, val_main_v48, val_main_cst_15, val_main_v47,
      val_main_v46, val_main_cst_14, val_main_v45, val_main_v13, val_main_v11, val_main_v9, val_main_v8,
      val_main_cst_1, val_main_v7, val_main_v6, val_main_cst_0, val_main_v5, val_main_v4, val_main_cst, val_main_v3,
      val_main_v10, val_main_v12, val_main_cst_2, val_main_v42, val_main_v41, val_main_cst_13, val_main_v40,
      val_main_v38, val_main_v37, val_main_v16, val_main_v33, val_main_v22, val_main_v19, val_main_v18, val_main_v17,
      val_main_v15, val_main_v14, val_main_v21, val_main_cst_3, val_main_v32, val_main_v31, val_main_v30,
      val_main_cst_10, val_main_v29, val_main_v28, val_main_cst_9, val_main_cst_8, val_main_v51, val_main_v50,
      val_main_v44, val_main_v43]
    blk_point [iblk, V, idx t]

set_option maxHeartbeats 4000000 in
/-- The gradient of the branch's rows. -/
theorem final7 (c : Dev nD) : (dats m 0 c).arrAt 7 (cfgs 0).N
    = val_main_v55 (F := Ideal) (m ((c : Thread nD τ).loc main_arg0)) (m ((c : Thread nD τ).loc main_arg1)) (m ((c : Thread
        nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 8 = 0
  all_goals
    first | rw [outsAt0_A m c t h] | rw [outsAt0_B m c t h]
    frame_out
    rw [hseed m c t]
    pointwise [k0_pay11, k0_pay10, k0_pay9, k0_pay7, k0_pay6, k0_pay2, k0_pay4, k0_pay3, k0_pay1, k0_pay5, val_main_v55,
      val_main_v53, val_main_v52, val_main_v2, val_main_v1, val_main_v0, val_main_v49, val_main_v48, val_main_cst_15,
      val_main_v47, val_main_v46, val_main_cst_14, val_main_v45, val_main_v13, val_main_v11, val_main_v9, val_main_v8,
      val_main_cst_1, val_main_v7, val_main_v6, val_main_cst_0, val_main_v5, val_main_v4, val_main_cst, val_main_v3,
      val_main_v10, val_main_v12, val_main_cst_2, val_main_v42, val_main_v41, val_main_cst_13, val_main_v40,
      val_main_v38, val_main_v37, val_main_v16, val_main_v33, val_main_v22, val_main_v19, val_main_v18, val_main_v17,
      val_main_v15, val_main_v14, val_main_v21, val_main_cst_3, val_main_v32, val_main_v31, val_main_v30,
      val_main_cst_10, val_main_v29, val_main_v28, val_main_cst_9, val_main_cst_8, val_main_v51, val_main_v50,
      val_main_v44, val_main_v43, val_main_v54]
    blk_point [iblk, V, idx t]

set_option maxHeartbeats 4000000 in
/-- The gradient of the gate. -/
theorem final8 (c : Dev nD) : (dats m 0 c).arrAt 8 (cfgs 0).N
    = val_main_v58 (F := Ideal) (m ((c : Thread nD τ).loc main_arg0)) (m ((c : Thread nD τ).loc main_arg1)) (m ((c : Thread
        nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [hseed m c t, hpay14, hzero12])
    (fun t h j => by rw [outsAt0_B m c t h]; frame_out; rw [hseed m c t, hpay14])
    (le_of_eq N_0) t0_7 rfl j, zero_add]
  pointwise [k0_pay11, k0_pay10, k0_pay9, k0_pay7, k0_pay6, k0_pay2, k0_pay4, k0_pay3, k0_pay1, k0_pay5, val_main_v58,
    val_main_v57, val_main_cst_16, val_main_v56, val_main_v53, val_main_v52, val_main_v2, val_main_v1, val_main_v0,
    val_main_v49, val_main_v48, val_main_cst_15, val_main_v47, val_main_v46, val_main_cst_14, val_main_v45,
    val_main_v13, val_main_v11, val_main_v9, val_main_v8, val_main_cst_1, val_main_v7, val_main_v6, val_main_cst_0,
    val_main_v5, val_main_v4, val_main_cst, val_main_v3, val_main_v10, val_main_v12, val_main_cst_2, val_main_v42,
    val_main_v41, val_main_cst_13, val_main_v40, val_main_v38, val_main_v37, val_main_v16, val_main_v33, val_main_v22,
    val_main_v19, val_main_v18, val_main_v17, val_main_v15, val_main_v14, val_main_v21, val_main_cst_3, val_main_v32,
    val_main_v31, val_main_v30, val_main_cst_10, val_main_v29, val_main_v28, val_main_cst_9, val_main_cst_8,
    val_main_v51, val_main_v50, val_main_v44, val_main_v43]
  refine Fin.sum_mul_add_congr fun t k hl => ?_
  blk_point [iblk, V, idx t]

set_option maxHeartbeats 4000000 in
/-- The gradient of the weight. -/
theorem final9 (c : Dev nD) : (dats m 0 c).arrAt 9 (cfgs 0).N
    = val_main_v59 (F := Ideal) (m ((c : Thread nD τ).loc main_arg0)) (m ((c : Thread nD τ).loc main_arg1)) (m ((c : Thread
        nD τ).loc main_arg2)) (m ((c : Thread nD τ).loc main_arg3)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h]; frame_out; rw [hseed m c t, hpay15, hzero13])
    (fun t h j => by rw [outsAt0_B m c t h]; frame_out; rw [hseed m c t, hpay15])
    (le_of_eq N_0) t0_7 rfl j, zero_add]
  pointwise [k0_pay11, k0_pay10, k0_pay9, k0_pay7, k0_pay6, k0_pay2, k0_pay4, k0_pay3, k0_pay1, k0_pay5, val_main_v59,
    val_main_v39, val_main_cst_12, val_main_v36, val_main_v35, val_main_cst_11, val_main_v34, val_main_v33,
    val_main_v22, val_main_v19, val_main_v18, val_main_v17, val_main_v16, val_main_v15, val_main_v14, val_main_v10,
    val_main_v9, val_main_v8, val_main_cst_1, val_main_v7, val_main_v6, val_main_cst_0, val_main_v5, val_main_v4,
    val_main_cst, val_main_v3, val_main_v2, val_main_v1, val_main_v0, val_main_v21, val_main_cst_3, val_main_v32,
    val_main_v31, val_main_v30, val_main_cst_10, val_main_v29, val_main_v28, val_main_cst_9, val_main_cst_8]
  refine Eq.trans ?_ (Fin.sum_univ_one (M := EReal) _).symm
  refine Fin.sum_mul_add_congr fun t k hl => ?_
  blk_point [iblk, V, idx t]

end Cert.HeadKIdeal.Head

namespace Cert.Proof.Head

section
open Cert.HeadRIdeal Cert.HeadRIdeal.Gen Cert.HeadRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_v55) = val_main_v55 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_v58) = val_main_v58 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_v59) = val_main_v59 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v53_eq m c), (h c).2.1.trans (val_main_v55_eq m c), (h c).2.2.1.trans (val_main_v58_eq
    m c), (h c).2.2.2.1.trans (val_main_v59_eq _ _ _ _ _), (h c).2.2.2.2⟩)
    (Cert.HeadRIdeal.Value.run (F := Ideal) m ρ)

end

open Cert.HeadKIdeal.Head

set_option maxHeartbeats 1600000 in
/-- From memories that agree on the arguments the kernel and the reference end with the same gradients. -/
theorem algebraic : Cert.algebraic_HeadKIdeal_HeadRIdeal := by
  pair_intro
  · run_from Cert.HeadKIdeal.Gen.run_main m g
  · run_from refRun m' g'
    · exact (final6 m c).symm
    · exact (final7 m c).symm
    · exact (final8 m c).symm
    · exact (final9 m c).symm

end Cert.Proof.Head

end
-- ==== Proof.GdnOutBlock.lean ====
/-
  The gate after the delta rule, backward: what the kernel does with one block of 256 rows. The eight heads' 128 columns are
  worked on alike; their gradients are put side by side, and the weight's gradient is added up over the heads.
-/
module

public import proofs.«01_k».proof.Defs
public import proofs.«01_k».proof.Proof.Gen.GdnOutKIdeal.Skeleton
public import Idealize.ShloMosaic.Lib.Pipeline.ValueKit

@[expose] public section

set_option maxRecDepth 16384

noncomputable section

open Idealize.ShloMosaic

namespace Cert.GdnOut

open Cert.GdnOutKIdeal Cert.GdnOutKIdeal.Gen

/-- A head's mean of squares with the small constant. -/
def var (f : Fin 128 → EReal) : EReal :=
  Ideal.div (∑ x, f x * f x) (Ideal.ofBits .f32 0x43000000#32) + Ideal.ofBits .f32 0x358637BD#32

/-- The gradient to the normed and weighted head. -/
def dn (z d : Fin 128 → EReal) (x : Fin 128) : EReal := d x * (z x * Ideal.logistic (z x))

/-- The gradient to the gate. -/
def dz (f w z d : Fin 128 → EReal) (x : Fin 128) : EReal :=
  (f x * Ideal.rsqrt (var f) * w x) * d x * Ideal.logistic (z x)
    + z x * ((f x * Ideal.rsqrt (var f) * w x) * d x) * (Ideal.logistic (z x) * (1 - Ideal.logistic (z x)))

/-- What the mean of squares passes on, to each of its two factors. -/
def corr (f w z d : Fin 128 → EReal) : EReal :=
  Ideal.div ((∑ x, f x * (dn z d x * w x)) * (Ideal.ofBits .f32 0xBF000000#32 * Ideal.div (Ideal.rsqrt (var f)) (var f)))
    (Ideal.ofBits .f32 0x43000000#32)

/-- The gradient to the head. -/
def df (f w z d : Fin 128 → EReal) (x : Fin 128) : EReal :=
  dn z d x * w x * Ideal.rsqrt (var f) + f x * corr f w z d + corr f w z d * f x

/-- One row's part of the weight's gradient. -/
def dw (f z d : Fin 128 → EReal) (x : Fin 128) : EReal := f x * Ideal.rsqrt (var f) * dn z d x

/-- One head's columns of a row. -/
def hd {R : ℕ} (v : Vec Ideal ⟨2, ![R, 1024]⟩ .f32) (r : Fin R) (n : Fin 8) : Fin 128 → EReal :=
  fun x => v (ix2 r ⟨n.val * 128 + x.val, by omega⟩)

section one
variable (f z d : FVec Ideal S256x128 .f32) (w : FVec Ideal S1x128 .f32)

/-- A head's block of the gate's gradient. -/
abbrev bdz : FVec Ideal S256x128 .f32 := k0_pay104 z (k0_pay55 w f) (k0_pay56 z) (k0_pay57 z) d

/-- A head's block of the gradient to it. -/
abbrev bdf : FVec Ideal S256x128 .f32 := k0_pay106 w f (k0_pay52 f) (k0_pay53 f) (k0_pay58 z) d

/-- A head's rows of the weight's gradient. -/
abbrev bdw : FVec Ideal S256x128 .f32 := mulf (k0_pay54 f) (k0_pay103 (k0_pay58 z) d)

theorem bdz_at (r : Fin 256) (x : Fin 128) :
    bdz f z d w (ix2 r x) = dz (fun x => f (ix2 r x)) (fun x => w (ix2 0 x)) (fun x => z (ix2 r x)) (fun x => d (ix2 r x)) x := by
  pointwise [k0_pay104, k0_pay55, k0_pay54, k0_pay52, k0_pay51, k0_pay56, k0_pay57]
  rfl

theorem bdf_at (r : Fin 256) (x : Fin 128) :
    bdf f z d w (ix2 r x) = df (fun x => f (ix2 r x)) (fun x => w (ix2 0 x)) (fun x => z (ix2 r x)) (fun x => d (ix2 r x)) x := by
  pointwise [k0_pay106, k0_pay103, k0_pay58, k0_pay53, k0_pay52, k0_pay51, k0_pay56]
  rw [Fin.sum_univ_one (M := EReal)]
  rfl

theorem bdw_at (r : Fin 256) (x : Fin 128) :
    bdw f z d (ix2 r x) = dw (fun x => f (ix2 r x)) (fun x => z (ix2 r x)) (fun x => d (ix2 r x)) x := by
  pointwise [k0_pay54, k0_pay103, k0_pay58, k0_pay52, k0_pay51, k0_pay56]
  rfl

end one

section slices
variable (v : Vec Ideal S256x1024 .f32)

/-- The blocks of columns the kernel cuts out of a block of rows. -/
def cut (n : Fin 8) : FVec Ideal S256x128 .f32 :=
  (![k0_pay1 v, k0_pay2 v, k0_pay3 v, k0_pay4 v, k0_pay5 v, k0_pay6 v, k0_pay7 v, k0_pay8 v] : Fin 8 → FVec Ideal S256x128 .f32) n

theorem cut_at (n : Fin 8) (r : Fin 256) (x : Fin 128) : cut v n (ix2 r x) = hd v r n x := by
  unfold cut hd
  match n with
  | ⟨0, _⟩ => (show k0_pay1 v (ix2 r x) = _; pointwise [k0_pay1])
  | ⟨1, _⟩ => (show k0_pay2 v (ix2 r x) = _; pointwise [k0_pay2])
  | ⟨2, _⟩ => (show k0_pay3 v (ix2 r x) = _; pointwise [k0_pay3])
  | ⟨3, _⟩ => (show k0_pay4 v (ix2 r x) = _; pointwise [k0_pay4])
  | ⟨4, _⟩ => (show k0_pay5 v (ix2 r x) = _; pointwise [k0_pay5])
  | ⟨5, _⟩ => (show k0_pay6 v (ix2 r x) = _; pointwise [k0_pay6])
  | ⟨6, _⟩ => (show k0_pay7 v (ix2 r x) = _; pointwise [k0_pay7])
  | ⟨7, _⟩ => (show k0_pay8 v (ix2 r x) = _; pointwise [k0_pay8])

end slices

/-- Eight heads' blocks side by side, each padded with zeros and the paddings added up. -/
theorem join_at (g : Fin 8 → FVec Ideal S256x128 .f32) (r : Fin 256) (n : Fin 8) (x : Fin 128) :
    k0_pay127 (g 7) (g 6) (g 5) (g 4) (g 3) (g 2) (g 1) (g 0) (ix2 r ⟨n.val * 128 + x.val, by omega⟩) = g n (ix2 r x) := by
  match n with
  | ⟨0, _⟩ | ⟨1, _⟩ | ⟨2, _⟩ | ⟨3, _⟩ | ⟨4, _⟩ | ⟨5, _⟩ | ⟨6, _⟩ | ⟨7, _⟩ =>
    pointwise [k0_pay127]
    simp (discharger := omega) only [dif_pos, dif_neg, add_zero, zero_add]

section block
variable (v0 v1 v3 : Vec Ideal S256x1024 .f32) (v2 : Vec Ideal S1x128 .f32) (acc : Vec Ideal S1x128 .f32)

/-- The gradient to the gate. -/
theorem dz_at (r : Fin 256) (n : Fin 8) (x : Fin 128) :
    (k0_pay127 (k0_pay93 (k0_pay80 (k0_pay16 v1)) (k0_pay81 (k0_pay16 v1)) (k0_pay90 v2 (k0_pay8 v0) v3) (k0_pay92 v2
    (k0_pay8 v0) (k0_pay16 v1) v3)) (k0_pay96 (k0_pay15 v1) (k0_pay72 v2 (k0_pay7 v0) (k0_pay67 (k0_pay7 v0)))
    (k0_pay73 (k0_pay15 v1)) (k0_pay74 (k0_pay15 v1)) (k0_pay88 v3)) (k0_pay101 (k0_pay14 v1) (k0_pay64 (k0_pay14 v1))
    (k0_pay65 (k0_pay14 v1)) (k0_pay99 (k0_pay63 v2 (k0_pay6 v0)) (k0_pay87 v3))) (k0_pay104 (k0_pay13 v1) (k0_pay55
    v2 (k0_pay5 v0)) (k0_pay56 (k0_pay13 v1)) (k0_pay57 (k0_pay13 v1)) (k0_pay86 v3)) (k0_pay108 (k0_pay12 v1)
    (k0_pay47 v2 (k0_pay4 v0)) (k0_pay48 (k0_pay12 v1)) (k0_pay49 (k0_pay12 v1)) (k0_pay85 v3)) (k0_pay111 (k0_pay11
    v1) (k0_pay39 v2 (k0_pay3 v0)) (k0_pay40 (k0_pay11 v1)) (k0_pay41 (k0_pay11 v1)) (k0_pay84 v3)) (k0_pay118
    (k0_pay10 v1) (k0_pay31 v2 (k0_pay2 v0) (k0_pay25 v0) (k0_pay26 (F := Ideal))) (k0_pay32 (k0_pay10 v1)) (k0_pay33
    (k0_pay10 v1)) (k0_pay83 v3)) (k0_pay121 (k0_pay9 v1) (k0_pay21 v0 v2) (k0_pay22 v1) (k0_pay23 v1) (k0_pay82 v3)))
      (ix2 r ⟨n.val * 128 + x.val, by omega⟩) = dz (hd v0 r n) (fun x => v2 (ix2 0 x)) (hd v1 r n) (hd v3 r n) x := by
  refine (join_at (fun n => bdz (cut v0 n) (cut v1 n) (cut v3 n) v2) r n x).trans ?_
  simp only [bdz_at, cut_at]

/-- The gradient to the heads. -/
theorem df_at (r : Fin 256) (n : Fin 8) (x : Fin 128) :
    (k0_pay131 (k0_pay106 v2 (k0_pay5 v0) (k0_pay52 (k0_pay5 v0)) (k0_pay53 (k0_pay5 v0)) (k0_pay58 (k0_pay13 v1))
    (k0_pay86 v3)) (k0_pay109 v2 (k0_pay4 v0) (k0_pay44 (k0_pay4 v0)) (k0_pay45 (k0_pay4 v0)) (k0_pay50 (k0_pay12 v1))
    (k0_pay85 v3)) (k0_pay116 (k0_pay3 v0) (k0_pay114 v2 (k0_pay3 v0) (k0_pay37 (k0_pay3 v0)) (k0_pay42 (k0_pay11 v1))
    (k0_pay84 v3)) (k0_pay115 v2 (k0_pay3 v0) (k0_pay36 (k0_pay3 v0)) (k0_pay37 (k0_pay3 v0)) (k0_pay42 (k0_pay11 v1))
    (k0_pay84 v3))) (k0_pay119 v2 (k0_pay2 v0) (k0_pay28 (k0_pay25 v0) (k0_pay26 (F := Ideal))) (k0_pay29 (k0_pay25
    v0) (k0_pay26 (F := Ideal))) (k0_pay34 (k0_pay10 v1)) (k0_pay83 v3)) (k0_pay126 (k0_pay1 v0) (k0_pay124 v2
    (k0_pay18 v0) (k0_pay24 v1) (k0_pay82 v3)) (k0_pay125 v2 (k0_pay1 v0) (k0_pay19 v0) (k0_pay24 v1) (k0_pay82 v3)))
    (k0_pay128 (k0_pay94 v2 (k0_pay8 v0) (k0_pay77 (k0_pay8 v0)) (k0_pay78 (k0_pay8 v0)) (k0_pay91 (k0_pay16 v1) v3))
    (k0_pay98 v2 (k0_pay7 v0) (k0_pay69 (k0_pay67 (k0_pay7 v0))) (k0_pay70 (k0_pay67 (k0_pay7 v0))) (k0_pay75
    (k0_pay15 v1)) (k0_pay88 v3))) (k0_pay129 (k0_pay102 v2 (k0_pay6 v0) (k0_pay60 (k0_pay6 v0)) (k0_pay61 (k0_pay6
    v0)) (k0_pay100 (k0_pay66 (k0_pay14 v1)) (k0_pay87 v3)))) (k0_pay130 (F := Ideal)))
      (ix2 r ⟨n.val * 128 + x.val, by omega⟩) = df (hd v0 r n) (fun x => v2 (ix2 0 x)) (hd v1 r n) (hd v3 r n) x := by
  refine (join_at (fun n => bdf (cut v0 n) (cut v1 n) (cut v3 n) v2) r n x).trans ?_
  simp only [bdf_at, cut_at]

/-- Eight heads' rows of the weight's gradient, added to what came before. -/
def wsum (g : Fin 8 → FVec Ideal S256x128 .f32) (acc : FVec Ideal S1x128 .f32) : FVec Ideal S1x128 .f32 :=
  let s := fun n => shapeCast S1x128 (multiReduction .add [0] S128 (g n) 0x00000000#32 reduces_S256x128_S128 (.inl rfl) rfl)
    shapeCasts_S128_S1x128
  addf (shapeCast S1x128 acc shapeCasts_S1x128_S1x128)
    (addf (addf (addf (addf (addf (addf (addf (s 7) (s 6)) (s 5)) (s 4)) (s 3)) (s 2)) (s 1)) (s 0))

theorem wsum_at (g : Fin 8 → FVec Ideal S256x128 .f32) (x : Fin 128) :
    wsum g acc (ix2 0 x) = acc (ix2 0 x) + ∑ r : Fin 256, ∑ n : Fin 8, g n (ix2 r x) := by
  rw [Finset.sum_comm, Fin.sum_univ_eight]
  pointwise [wsum]
  ac_rfl

/-- The gradient to the weight. -/
theorem dw_at (x : Fin 128) :
    (k0_pay133 (k0_pay122 (k0_pay20 v0) (k0_pay24 v1) (k0_pay30 (k0_pay2 v0) (k0_pay25 v0) (k0_pay26 (F := Ideal)))
    (k0_pay34 (k0_pay10 v1)) (k0_pay82 v3) (k0_pay83 v3) (k0_pay112 (k0_pay38 (k0_pay3 v0)) (k0_pay42 (k0_pay11 v1))
    (k0_pay46 (k0_pay4 v0)) (k0_pay50 (k0_pay12 v1)) (k0_pay84 v3) (k0_pay85 v3) (k0_pay105 (k0_pay54 (k0_pay5 v0))
    (k0_pay58 (k0_pay13 v1)) (k0_pay62 (k0_pay6 v0)) (k0_pay86 v3) (k0_pay97 (k0_pay71 (k0_pay7 v0) (k0_pay67 (k0_pay7
    v0))) (k0_pay75 (k0_pay15 v1)) (k0_pay79 (k0_pay8 v0)) (k0_pay88 v3) (k0_pay91 (k0_pay16 v1) v3)) (k0_pay100
    (k0_pay66 (k0_pay14 v1)) (k0_pay87 v3))))) acc)
      (ix2 0 x) = acc (ix2 0 x) + ∑ r : Fin 256, ∑ n : Fin 8, dw (hd v0 r n) (hd v1 r n) (hd v3 r n) x := by
  refine (wsum_at acc (fun n => bdw (cut v0 n) (cut v1 n) (cut v3 n)) x).trans ?_
  simp only [bdw_at, cut_at]

end block

end Cert.GdnOut

end
-- ==== Proof.GdnOutRef.lean ====
/-
  The gate after the delta rule, backward: the reference's operations, read at a row, a head and a column of the head.
-/
module

public import proofs.«01_k».proof.Proof.GdnOutBlock
public import proofs.«01_k».proof.Proof.Gen.GdnOutRIdeal.Read

@[expose] public section

set_option maxRecDepth 16384

noncomputable section

open Idealize.ShloMosaic

namespace Cert.GdnOut

open Cert.GdnOutRIdeal Cert.GdnOutRIdeal.Read

variable (o z d : Vec Ideal S2048x1024 .f32) (w : Vec Ideal S1x128 .f32) (r : Fin 2048) (n : Fin 8) (x : Fin 128)

theorem v4_at : val_main_v4 (F := Ideal) o (ix4 0 r n x) = hd o r n x := by
  pointwise [val_main_v4, val_main_v1, val_main_v0]
  rfl

theorem v21_at : val_main_v21 (F := Ideal) z (ix4 0 r n x) = hd z r n x := by
  pointwise [val_main_v21, val_main_v2]
  rfl

theorem v27_at : val_main_v27 (F := Ideal) d (ix4 0 r n x) = hd d r n x := by
  pointwise [val_main_v27, val_main_v26]
  rfl

theorem v18_at : val_main_v18 (F := Ideal) w (ix4 0 0 0 x) = w (ix2 0 x) := by
  pointwise [val_main_v18, val_main_v3]

theorem v11_at : val_main_v11 (F := Ideal) o (ix4 0 r n 0) = var (hd o r n) := by
  pointwise [val_main_v11, val_main_v10, val_main_v9, val_main_v8, val_main_v7, val_main_v6, val_main_v5, val_main_cst, val_main_cst_0, val_main_cst_1]
  simp only [v4_at]
  rfl

theorem v12_at : val_main_v12 (F := Ideal) o (ix4 0 r n 0) = Ideal.rsqrt (var (hd o r n)) := by
  rw [← v11_at]
  pointwise [val_main_v12]

theorem v17_at : val_main_v17 (F := Ideal) o (ix4 0 r n x) = hd o r n x * Ideal.rsqrt (var (hd o r n)) := by
  pointwise [val_main_v17, val_main_v16]
  rw [v4_at, v12_at]

theorem v22_2_at : val_main_v22_2 (F := Ideal) z (ix4 0 r n x) = Ideal.logistic (hd z r n x) := by
  rw [← v21_at]
  pointwise [val_main_v22_2, val_main_call0_v4, val_main_call0_cst_0, val_main_call0_v3, val_main_call0_v2, val_main_call0_cst,
    val_main_call0_v1, val_main_call0_v0, Ideal.logistic]

theorem v29_at : val_main_v29 (F := Ideal) z d (ix4 0 r n x) = dn (hd z r n) (hd d r n) x := by
  pointwise [val_main_v29, val_main_v22_0]
  rw [v27_at, v21_at, v22_2_at]
  rfl

theorem v30_at : val_main_v30 (F := Ideal) o z w d (ix4 0 r n x)
    = dz (hd o r n) (fun x => w (ix2 0 x)) (hd z r n) (hd d r n) x := by
  pointwise [val_main_v30, val_main_call1_v2, val_main_call1_v1, val_main_call1_v0, val_main_v22_1, val_main_call0_v7,
    val_main_call0_v6, val_main_call0_cst_1, val_main_v28, val_main_v20, val_main_v19]
  simp only [v27_at, v21_at, v22_2_at, v17_at, v18_at]
  rfl

theorem v55_at : val_main_v55 (F := Ideal) o z w d (ix2 r ⟨n.val * 128 + x.val, by omega⟩)
    = dz (hd o r n) (fun x => w (ix2 0 x)) (hd z r n) (hd d r n) x := by
  rw [← v30_at]
  pointwise [val_main_v55, val_main_cst_8, val_main_v31]
  exact Fin.sum_univ_one (M := EReal) _

theorem v36_at : val_main_v36 (F := Ideal) z w d (ix4 0 r n x) = dn (hd z r n) (hd d r n) x * w (ix2 0 x) := by
  pointwise [val_main_v36, val_main_v35]
  rw [v29_at, v18_at]

theorem v45_at : val_main_v45 (F := Ideal) o z w d (ix4 0 r n 0)
    = corr (hd o r n) (fun x => w (ix2 0 x)) (hd z r n) (hd d r n) := by
  pointwise [val_main_v45, val_main_v44, val_main_cst_6, val_main_v43, val_main_v40, val_main_v39, val_main_v38, val_main_cst_5,
    val_main_v15, val_main_v14, val_main_cst_2, val_main_v13]
  simp only [v4_at, v36_at, v12_at, v11_at]
  rfl

/-- A sum over two axes of one coordinate each is its one entry. -/
theorem v46_at : val_main_v46 (F := Ideal) o z w d (ix2 r n)
    = corr (hd o r n) (fun x => w (ix2 0 x)) (hd z r n) (hd d r n) := by
  rw [← v45_at]
  pointwise [val_main_v46, val_main_cst_7]
  rw [Ideal.hostReduceAdd, zero_add]
  refine (Finset.sum_filter_eq_sum_of_fiber _ (fun _ : Fin 1 => ix4 (0 : Fin 1) r n (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨_, rfl⟩
    funext a
    match a with
    | ⟨0, _⟩ => rfl
    | ⟨1, _⟩ => rfl

theorem v52_at : val_main_v52 (F := Ideal) o z w d (ix4 0 r n x)
    = df (hd o r n) (fun x => w (ix2 0 x)) (hd z r n) (hd d r n) x := by
  pointwise [val_main_v52, val_main_v51, val_main_v50, val_main_v49, val_main_v48, val_main_v47, val_main_v42, val_main_v41]
  simp only [v4_at, v36_at, v12_at, v46_at]
  rfl

theorem v57_at : val_main_v57 (F := Ideal) o z w d (ix2 r ⟨n.val * 128 + x.val, by omega⟩)
    = df (hd o r n) (fun x => w (ix2 0 x)) (hd z r n) (hd d r n) x := by
  rw [← v52_at]
  pointwise [val_main_v57, val_main_v56, val_main_v53]

theorem v32_at : val_main_v32 (F := Ideal) o z d (ix4 0 r n x) = dw (hd o r n) (hd z r n) (hd d r n) x := by
  pointwise [val_main_v32]
  rw [v17_at, v29_at]
  rfl

/-- The sum over the rows and the heads. -/
theorem v33_at : val_main_v33 (F := Ideal) o z d (ix2 0 x)
    = ∑ r : Fin 2048, ∑ n : Fin 8, dw (hd o r n) (hd z r n) (hd d r n) x := by
  pointwise [val_main_v33, val_main_cst_3]
  rw [Ideal.hostReduceAdd, zero_add]
  refine (Finset.sum_filter_eq_sum_of_fiber _ (fun p : Fin 2048 × Fin 8 => ix4 (0 : Fin 1) p.1 p.2 x)
    (fun p q e => Prod.ext (congrFun e 1) (congrFun e 2)) (fun i => ⟨fun e => ⟨(i 1, i 2), ?_⟩, ?_⟩) _).trans ?_
  · funext a
    match a with
    | ⟨0, _⟩ => exact Subsingleton.elim (α := Fin 1) _ _
    | ⟨1, _⟩ => rfl
    | ⟨2, _⟩ => rfl
    | ⟨3, _⟩ => exact (Fin.ext (congrArg Fin.val (congrFun e 1))).symm
  · rintro ⟨_, rfl⟩
    funext a
    match a with
    | ⟨0, _⟩ => rfl
    | ⟨1, _⟩ => rfl
  · rw [Fintype.sum_prod_type]
    exact Finset.sum_congr rfl fun r _ => Finset.sum_congr rfl fun n _ => v32_at o z d r n x

theorem v54_at : val_main_v54 (F := Ideal) o z d (ix2 0 x)
    = ∑ r : Fin 2048, ∑ n : Fin 8, dw (hd o r n) (hd z r n) (hd d r n) x := by
  rw [← v33_at]
  have h34 : val_main_v34 (F := Ideal) o z d (ix4 0 0 0 x) = val_main_v33 (F := Ideal) o z d (ix2 0 x) := by
    pointwise [val_main_v34]
  rw [← h34]
  pointwise [val_main_v54, val_main_v37, val_main_cst_4]
  rw [Ideal.hostReduceAdd, zero_add]
  refine (Finset.sum_filter_eq_sum_of_fiber _ (fun _ : Fin 1 => ix4 (0 : Fin 1) (0 : Fin 1) (0 : Fin 1) x)
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact (Fin.ext (congrArg Fin.val (congrFun e 0))).symm
  · rintro ⟨_, rfl⟩
    funext a
    match a with
    | ⟨0, _⟩ => rfl

end Cert.GdnOut

end
-- ==== Proof.GdnOut.lean ====
/-
  The gate after the delta rule, backward: each of the kernel's three arrays is the reference's. A block's rows are the
  reference's rows, head by head; the weight's gradient is added up over the blocks where the reference adds over the rows.
-/
module

public import proofs.«01_k».proof.Proof.GdnOutBlock
public import proofs.«01_k».proof.Proof.GdnOutRef
public import proofs.«01_k».proof.Proof.Gen.GdnOutKIdeal.Value
public import proofs.«01_k».proof.Proof.Gen.GdnOutRIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GdnOutKIdeal.GdnOut

open Cert.GdnOutKIdeal Cert.GdnOutKIdeal.Gen Cert.GdnOut
open Cert.GdnOutRIdeal.Read

variable (m : (ℓ : Loc nD τ sig) → Buf (Elt Ideal) ℓ)

/-- Where each window stands at a grid point. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![t.val, 0] ∧ win0_6.index t = ![0, 0] :=
  (by decide +kernel : ∀ t : Fin grid0.N, _)

/-- A column of a row is one of the 128 of one of the eight heads. -/
theorem split (y : (⟨2, ![256, 1024]⟩ : Shape).Idx) :
    ∃ (r : Fin 256) (n : Fin 8) (x : Fin 128), y = ix2 r ⟨n.val * 128 + x.val, by omega⟩ := by
  have h : (y 1).val < 1024 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2048 := ⟨t.val * 256 + r.val, by have : t.val < 8 := t.isLt; omega⟩

section rows
variable (c : Dev nD) (t : Fin cfg0.N) (r : Fin 256) (n : Fin 8)

theorem hd0 : hd (iblk m c 0 t) r n = hd (m ((c : Thread nD τ).loc main_arg0)) (row t r) n := by
  funext x; unfold hd row; blk_point [iblk, V, idx t]

theorem hd1 : hd (iblk m c 1 t) r n = hd (m ((c : Thread nD τ).loc main_arg1)) (row t r) n := by
  funext x; unfold hd row; blk_point [iblk, V, idx t]

theorem hd3 : hd (iblk m c 3 t) r n = hd (m ((c : Thread nD τ).loc main_arg3)) (row t r) n := by
  funext x; unfold hd row; blk_point [iblk, V, idx t]

theorem wt : (fun x : Fin 128 => iblk m c 2 t (ix2 0 x)) = fun x => m ((c : Thread nD τ).loc main_arg2) (ix2 0 x) := by
  funext x; blk_point [iblk, V, idx t]

end rows

set_option maxHeartbeats 1600000 in
/-- The gradient to the heads. -/
theorem final4 (c : Dev nD) : (dats m 0 c).arrAt 4 (cfgs 0).N
    = val_main_v57 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  obtain ⟨r, n, x, rfl⟩ := split y
  have e : ((cfg0.win 4).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v57 (F := Ideal) _ _ _ _) e).trans (v57_at _ _ _ _ (row t r) n x)).symm
  rw [← hd0 m c t r n, ← hd1 m c t r n, ← hd3 m c t r n, ← wt m c t]
  blk_simp
  rw [after0_4]
  by_cases h : t.val % 8 = 0
  all_goals first | rw [outsAt0_A m c t h] | rw [outsAt0_B m c t h]
  all_goals
    frame_out
    exact df_at (iblk m c 0 t) (iblk m c 1 t) (iblk m c 3 t) (iblk m c 2 t) r n x

set_option maxHeartbeats 1600000 in
/-- The gradient to the gate. -/
theorem final5 (c : Dev nD) : (dats m 0 c).arrAt 5 (cfgs 0).N
    = val_main_v55 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  obtain ⟨r, n, x, rfl⟩ := split y
  have e : ((cfg0.win 5).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v55 (F := Ideal) _ _ _ _) e).trans (v55_at _ _ _ _ (row t r) n x)).symm
  rw [← hd0 m c t r n, ← hd1 m c t r n, ← hd3 m c t r n, ← wt m c t]
  blk_simp
  rw [after0_5]
  by_cases h : t.val % 8 = 0
  all_goals first | rw [outsAt0_A m c t h] | rw [outsAt0_B m c t h]
  all_goals
    frame_out
    exact dz_at (iblk m c 0 t) (iblk m c 1 t) (iblk m c 3 t) (iblk m c 2 t) r n x

theorem lane (j : (⟨2, ![1, 128]⟩ : Shape).Idx) : ∃ x : Fin 128, j = ix2 0 x := by
  refine ⟨j 1, ?_⟩
  funext a
  match a with
  | ⟨0, _⟩ => exact Subsingleton.elim (α := Fin 1) _ _
  | ⟨1, _⟩ => rfl

theorem hzero {x : Fin 128} : k0_pay132 (F := Ideal) (ix2 0 x) = 0 := by
  pointwise [k0_pay132]

set_option maxHeartbeats 1600000 in
/-- The gradient to the weight. -/
theorem final6 (c : Dev nD) : (dats m 0 c).arrAt 6 (cfgs 0).N
    = val_main_v54 (F := Ideal) (m ((c : Thread nD τ).loc main_arg0)) (m ((c : Thread nD τ).loc main_arg1))
      (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun t j => ∑ r : Fin 256, ∑ n : Fin 8, dw (hd (iblk m c 0 t) r n) (hd (iblk m c 1 t) r n) (hd (iblk m c 3 t) r n) (j 1))
    (fun t h j => by
      rw [outsAt0_A m c t h]; frame_out
      obtain ⟨x, rfl⟩ := lane j
      exact (dw_at (iblk m c 0 t) (iblk m c 1 t) (iblk m c 3 t) _ x).trans (congrArg (· + _) hzero))
    (fun t h j => by
      rw [outsAt0_B m c t h]; frame_out
      obtain ⟨x, rfl⟩ := lane j
      exact dw_at (iblk m c 0 t) (iblk m c 1 t) (iblk m c 3 t) _ x)
    (le_of_eq N_0) t0_7 rfl j, zero_add]
  obtain ⟨x, rfl⟩ := lane j
  refine Eq.trans ?_ (v54_at _ _ _ x).symm
  refine Fin.sum_mul_add_congr fun t r hl => ?_
  simp only [hd0, hd1, hd3]
  rfl

end Cert.GdnOutKIdeal.GdnOut

namespace Cert.Proof.GdnOut

section
open Cert.GdnOutRIdeal Cert.GdnOutRIdeal.Gen Cert.GdnOutRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = val_main_v57 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v55) = val_main_v55 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v54) = val_main_v54 (F := Ideal) (m ((c.tc : Thread nD τ).loc
        main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v57_eq m c), (h c).2.1.trans (val_main_v55_eq m c), (h c).2.2.1.trans (val_main_v54_eq
    _ _ _), (h c).2.2.2⟩)
    (Cert.GdnOutRIdeal.Value.run (F := Ideal) m ρ)

end

open Cert.GdnOutKIdeal.GdnOut

set_option maxHeartbeats 1600000 in
/-- From memories that agree on the arguments the kernel and the reference end with the same gradients. -/
theorem algebraic : Cert.algebraic_GdnOutKIdeal_GdnOutRIdeal := by
  pair_intro
  · run_from Cert.GdnOutKIdeal.Gen.run_main m g
  · run_from refRun m' g'
    · exact (final4 m c).symm
    · exact (final5 m c).symm
    · exact (final6 m c).symm

end Cert.Proof.GdnOut

end
-- ==== Proof.Rope.lean ====
/-
  The rotation of a head by a token's row and column on the grid, and the norm before it, backward: the two forms of one row's
  gradient, the reference's (halves of a head rotated) and the kernel's (a table of signed sines and a permutation of the
  columns), and that they are the same.
-/
module

public import Idealize.ShloMosaic.Lib.Pipeline.ValueKit

@[expose] public section

set_option maxRecDepth 16384

noncomputable section

open Idealize.ShloMosaic

namespace Cert.Rope

/-- The angle's step of a frequency. -/
def freq (f : ℕ) : EReal :=
  Ideal.pow (Ideal.ofBits .f32 0x461C4000#32)
    (Ideal.div (-(Ideal.ofBits .f32 0x40000000#32 * FloatOps.sitofp (F := Ideal) .f32 (BitVec.ofNat 32 f)))
      (Ideal.ofBits .f32 0x42800000#32))

/-- The angle of a token at a column of a head: the first half of the columns turns with the token's row, the second with its
    column, 32 frequencies each, twice. -/
def ang (t : ℕ) (x : Fin 128) : EReal :=
  FloatOps.sitofp (F := Ideal) .f32 (BitVec.ofNat 32 (if x.val < 64 then t / 64 else t % 64)) * freq (x.val % 32)

/-- The column rotated together with `x`. -/
def part (x : Fin 128) : Fin 128 :=
  if h : x.val % 64 < 32 then ⟨x.val + 32, by omega⟩ else ⟨x.val - 32, by omega⟩

theorem part_part : ∀ x : Fin 128, part (part x) = x := by decide +kernel

theorem part_half : ∀ x : Fin 128, (part x).val % 64 < 32 ↔ ¬ x.val % 64 < 32 := by decide +kernel

theorem ang_part (t : ℕ) (x : Fin 128) : ang t (part x) = ang t x := by
  have h : ∀ x : Fin 128, (part x).val % 32 = x.val % 32 ∧ ((part x).val < 64 ↔ x.val < 64) := by decide +kernel
  unfold ang
  rw [(h x).1, if_congr (h x).2 rfl rfl]

/-- One row's gradient through the rotation. -/
def rot (t : ℕ) (d : Fin 128 → EReal) (x : Fin 128) : EReal :=
  if x.val % 64 < 32 then d (part x) * Ideal.sin (ang t x) + d x * Ideal.cos (ang t x)
  else d x * Ideal.cos (ang t x) + -d (part x) * Ideal.sin (ang t x)

/-- The kernel's form, with a table of cosines, one of signed sines, and a permutation as a matrix. -/
def turn (c s : Fin 128 → EReal) (p : Fin 128 → Fin 128 → EReal) (d : Fin 128 → EReal) (x : Fin 128) : EReal :=
  (∑ k, d k * s k * p x k) + d x * c x

/-- The permutation. -/
def pm (x k : Fin 128) : EReal := if x = part k then 1 else 0

/-- The cosines of a token. -/
def cosT (t : ℕ) (x : Fin 128) : EReal := Ideal.cos (ang t x)

/-- The signed sines of a token. -/
def sinT (t : ℕ) (x : Fin 128) : EReal := if x.val % 64 < 32 then -Ideal.sin (ang t x) else Ideal.sin (ang t x)

theorem sum_pm (g : Fin 128 → EReal) (x : Fin 128) : ∑ k, g k * pm x k = g (part x) := by
  rw [Finset.sum_eq_single (part x)]
  · rw [pm, part_part, if_pos rfl, mul_one]
  · intro k _ hk
    have : x ≠ part k := fun e => hk (by rw [e, part_part])
    rw [pm, if_neg this, mul_zero]
  · exact fun h => absurd (Finset.mem_univ _) h

theorem turn_eq (t : ℕ) (d : Fin 128 → EReal) : turn (cosT t) (sinT t) pm d = rot t d := by
  funext x
  unfold turn rot
  rw [sum_pm (fun k => d k * sinT t k) x]
  unfold sinT cosT
  by_cases h : x.val % 64 < 32
  · rw [if_pos h, if_neg (fun e => (part_half x).1 e h), ang_part]
  · rw [if_neg h, if_pos ((part_half x).2 h), ang_part, mul_neg, neg_mul, add_comm]

/-- Without a rotation the kernel's form leaves the gradient as it is. -/
theorem turn_one (d : Fin 128 → EReal) : turn (fun _ => 1) (fun _ => 0) pm d = d := by
  funext x
  unfold turn
  simp only [mul_zero, zero_mul, Finset.sum_const_zero, zero_add, mul_one]

/-- A head's mean of squares with the small constant. -/
def var (f : Fin 128 → EReal) : EReal :=
  Ideal.div (∑ x, f x * f x) (Ideal.ofBits .f32 0x43000000#32) + Ideal.ofBits .f32 0x358637BD#32

/-- What the mean of squares passes on, to each of its two factors. -/
def corr (f w g : Fin 128 → EReal) : EReal :=
  Ideal.div ((∑ x, f x * (g x * w x)) * (Ideal.ofBits .f32 0xBF000000#32 * Ideal.div (Ideal.rsqrt (var f)) (var f)))
    (Ideal.ofBits .f32 0x43000000#32)

/-- The gradient to the head. -/
def df (f w g : Fin 128 → EReal) (x : Fin 128) : EReal :=
  g x * w x * Ideal.rsqrt (var f) + f x * corr f w g + corr f w g * f x

/-- One row's part of the weight's gradient. -/
def dw (f g : Fin 128 → EReal) (x : Fin 128) : EReal := f x * Ideal.rsqrt (var f) * g x

theorem quot : ∀ t : Fin 2048, IntOp.divsi .host (BitVec.ofNat 32 t.val) 64#32 = BitVec.ofNat 32 (t.val / 64) := by
  decide +kernel

theorem remd : ∀ t : Fin 2048, IntOp.remsi .host (BitVec.ofNat 32 t.val) 64#32 = BitVec.ofNat 32 (t.val % 64) := by
  decide +kernel

/-- The angle of a token at one of the four blocks of 32 columns. -/
theorem ang_at (t : ℕ) (k : Fin 4) (f : Fin 32) : ang t ⟨k.val * 32 + f.val, by omega⟩
    = FloatOps.sitofp (F := Ideal) .f32 (BitVec.ofNat 32 (if k.val < 2 then t / 64 else t % 64)) * freq f.val := by
  unfold ang
  rw [if_congr (show k.val * 32 + f.val < 64 ↔ k.val < 2 by omega) rfl rfl,
    show (k.val * 32 + f.val) % 32 = f.val by omega]

/-- A column of a head is one of 32 of one of four blocks. -/
theorem quarter (x : Fin 128) : ∃ (k : Fin 4) (f : Fin 32), x = ⟨k.val * 32 + f.val, by omega⟩ :=
  ⟨⟨x.val / 32, by omega⟩, ⟨x.val % 32, by omega⟩, Fin.ext (show x.val = x.val / 32 * 32 + x.val % 32 by omega)⟩

theorem perm_bits : ∀ x k : Fin 128, IntOp.cmpi CmpIPredicate.eq (BitVec.ofNat 32 x.val)
    (Scalar.select (IntOp.cmpi CmpIPredicate.slt (IntOp.remsi ArithUnit.host (BitVec.ofNat 32 k.val) 64#32) 32#32)
      (IntOp.addi (BitVec.ofNat 32 k.val) 32#32) (IntOp.subi (BitVec.ofNat 32 k.val) 32#32))
    = if x = part k then 1#1 else 0#1 := by
  decide +kernel

/-- Where the two halves of a pair of columns lie: at a column of the first half, -/
theorem col_lo : ∀ x : Fin 128, x.val % 64 < 32 →
    x.val / 64 * 64 + x.val % 32 = x.val ∧ x.val / 64 * 64 + 32 + x.val % 32 = (part x).val := by
  decide +kernel

/-- and at one of the second. -/
theorem col_hi : ∀ x : Fin 128, ¬ x.val % 64 < 32 →
    x.val / 64 * 64 + x.val % 32 = (part x).val ∧ x.val / 64 * 64 + 32 + x.val % 32 = x.val := by
  decide +kernel

end Cert.Rope

end
-- ==== Proof.QPrepTab.lean ====
/-
  The queries' norm and rotation, backward: what the host computes before the kernel runs, the tables of cosines and of signed sines of every token and
  the permutation of a head's columns.
-/
module

public import proofs.«01_k».proof.Defs
public import proofs.«01_k».proof.Proof.Rope
public import proofs.«01_k».proof.Proof.Gen.QPrepKIdeal.Value
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.QPrepKIdeal.QPrep

open Cert.QPrepKIdeal Cert.QPrepKIdeal.Gen Cert.Rope

variable (m : (ℓ : Loc nD τ sig) → Buf (Elt Ideal) ℓ)

set_option maxHeartbeats 1600000 in
/-- The table of cosines. -/
theorem cos_at (c : Dev nD) (t : Fin 2048) (x : Fin 128) : V m c main_v31 (ix2 t x) = cosT t.val x := by
  obtain ⟨k, f, rfl⟩ := quarter x
  unfold cosT
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, quot, remd]
    simp only [freq, Nat.add_sub_cancel_left, Nat.sub_sub]
    try rfl

set_option maxHeartbeats 1600000 in
/-- The table of signed sines. -/
theorem sin_at (c : Dev nD) (t : Fin 2048) (x : Fin 128) : V m c main_v38 (ix2 t x) = sinT t.val x := by
  obtain ⟨k, f, rfl⟩ := quarter x
  unfold sinT
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, quot, remd]
    simp only [freq, Nat.add_sub_cancel_left, Nat.sub_sub]
    try rfl

/-- The permutation of a head's columns. -/
theorem pm_at (c : Dev nD) (x k : Fin 128) : V m c main_v59 (ix2 x k) = pm x k := by
  unfold V
  simp only [hostOps0, hostOps0_1, hostOps0_2, hostOps0_3, hostOps0_4, List.flatten_cons, List.flatten_nil, List.cons_append, List.nil_append]
  after_reads_simp
  simp only [StableHlo.TRef.ofBuf_toBuf]
  simp only [StableHlo.TRef.ofBuf, StableHlo.TRef.toBuf, StableHlo.TRef.of, cast_eq, id_eq]
  pointwise []
  refine (congrArg (fun b => Scalar.select b (1 : EReal) 0) (perm_bits x k)).trans ?_
  unfold pm
  by_cases h : x = part k
  · rw [if_pos h, if_pos h]; rfl
  · rw [if_neg h, if_neg h]; rfl

end Cert.QPrepKIdeal.QPrep

end
-- ==== Proof.QPrepBlock.lean ====
/-
  The queries' norm and rotation, backward: what the kernel does with one block of 256 rows. The heads' 128 columns are worked on alike; their
  gradients are put side by side, and the weight's gradient is added up over the heads.
-/
module

public import proofs.«01_k».proof.Defs
public import proofs.«01_k».proof.Proof.Rope
public import proofs.«01_k».proof.Proof.Gen.QPrepKIdeal.Skeleton
public import Idealize.ShloMosaic.Lib.Pipeline.ValueKit

@[expose] public section

set_option maxRecDepth 16384

noncomputable section

open Idealize.ShloMosaic

namespace Cert.QPrep

open Cert.QPrepKIdeal Cert.QPrepKIdeal.Gen Cert.Rope

/-- One head's columns of a row. -/
def hd {R : ℕ} (v : Vec Ideal ⟨2, ![R, 1024]⟩ .f32) (r : Fin R) (n : Fin 8) : Fin 128 → EReal :=
  fun x => v (ix2 r ⟨n.val * 128 + x.val, by omega⟩)

/-- One head's gradient before the rotation, from a block's tables. -/
def back (c s : Vec Ideal S256x128 .f32) (p : Vec Ideal S128x128 .f32) (r : Fin 256) (d : Fin 128 → EReal) : Fin 128 → EReal :=
  turn (fun x => c (ix2 r x)) (fun x => s (ix2 r x)) (fun x k => p (ix2 x k)) d

section one
variable (f d : FVec Ideal S256x128 .f32) (w : FVec Ideal S1x128 .f32) (c s : Vec Ideal S256x128 .f32)
  (p : Vec Ideal S128x128 .f32)

/-- A head's block of the gradient to it. -/
abbrev bdf : FVec Ideal S256x128 .f32 := k0_pay69 w (k0_pay1 c) (k0_pay2 s) (k0_pay3 p) f (k0_pay22 f) (k0_pay23 f) d

/-- A head's rows of the weight's gradient. -/
abbrev bdw : FVec Ideal S256x128 .f32 := mulf (k0_pay24 f) (k0_pay67 (k0_pay1 c) (k0_pay2 s) (k0_pay3 p) d)

theorem bdf_at (r : Fin 256) (x : Fin 128) : bdf f d w c s p (ix2 r x)
    = df (fun x => f (ix2 r x)) (fun x => w (ix2 0 x)) (back c s p r (fun x => d (ix2 r x))) x := by
  pointwise [k0_pay69, k0_pay67, k0_pay1, k0_pay2, k0_pay3, k0_pay22, k0_pay23, k0_pay21]
  rw [Fin.sum_univ_one (M := EReal)]
  rfl

theorem bdw_at (r : Fin 256) (x : Fin 128) : bdw f d c s p (ix2 r x)
    = dw (fun x => f (ix2 r x)) (back c s p r (fun x => d (ix2 r x))) x := by
  pointwise [k0_pay24, k0_pay67, k0_pay1, k0_pay2, k0_pay3, k0_pay22, k0_pay21]
  rfl

end one

section slices
variable (v : Vec Ideal S256x1024 .f32)

/-- The blocks of columns the kernel cuts out of a block of rows. -/
def cut (n : Fin 8) : FVec Ideal S256x128 .f32 :=
  (![k0_pay4 v, k0_pay5 v, k0_pay6 v, k0_pay7 v, k0_pay8 v, k0_pay9 v, k0_pay10 v, k0_pay11 v] : Fin 8 → FVec Ideal S256x128 .f32) n

theorem cut_at (n : Fin 8) (r : Fin 256) (x : Fin 128) : cut v n (ix2 r x) = hd v r n x := by
  unfold cut hd
  match n with
  | ⟨0, _⟩ => (show k0_pay4 v (ix2 r x) = _; pointwise [k0_pay4])
  | ⟨1, _⟩ => (show k0_pay5 v (ix2 r x) = _; pointwise [k0_pay5])
  | ⟨2, _⟩ => (show k0_pay6 v (ix2 r x) = _; pointwise [k0_pay6])
  | ⟨3, _⟩ => (show k0_pay7 v (ix2 r x) = _; pointwise [k0_pay7])
  | ⟨4, _⟩ => (show k0_pay8 v (ix2 r x) = _; pointwise [k0_pay8])
  | ⟨5, _⟩ => (show k0_pay9 v (ix2 r x) = _; pointwise [k0_pay9])
  | ⟨6, _⟩ => (show k0_pay10 v (ix2 r x) = _; pointwise [k0_pay10])
  | ⟨7, _⟩ => (show k0_pay11 v (ix2 r x) = _; pointwise [k0_pay11])

end slices

/-- The heads' blocks side by side, each padded with zeros and the paddings added up. -/
theorem join_at (g : Fin 8 → FVec Ideal S256x128 .f32) (r : Fin 256) (n : Fin 8) (x : Fin 128) :
    k0_pay79 (g 5) (g 4) (g 3) (g 2) (g 1) (g 0) (k0_pay76 (g 7)) (k0_pay77 (g 6)) k0_pay78 (ix2 r ⟨n.val * 128 + x.val, by omega⟩) = g n (ix2 r x) := by
  match n with
  | ⟨0, _⟩ | ⟨1, _⟩ | ⟨2, _⟩ | ⟨3, _⟩ | ⟨4, _⟩ | ⟨5, _⟩ | ⟨6, _⟩ | ⟨7, _⟩ =>
    pointwise [k0_pay79, k0_pay76, k0_pay77, k0_pay78]
    simp (discharger := omega) only [dif_pos, dif_neg, add_zero, zero_add]

section block
variable (v0 v3 : Vec Ideal S256x1024 .f32) (v1 : Vec Ideal S1x128 .f32) (v2 v4 : Vec Ideal S256x128 .f32)
  (v6 : Vec Ideal S128x128 .f32) (acc : Vec Ideal S1x128 .f32)

/-- The gradient to the heads. -/
theorem df_at (r : Fin 256) (n : Fin 8) (x : Fin 128) :
    (k0_pay79 (k0_pay60 v1 (k0_pay9 v0) (k0_pay35 (k0_pay33 (k0_pay9 v0)) (Scalar.ofBits .f32 0x358637BD#32))
    (k0_pay36 (k0_pay33 (k0_pay9 v0)) (Scalar.ofBits .f32 0x358637BD#32)) (k0_pay58 (k0_pay1 v2) (k0_pay2 v4) (k0_pay3
    v6) (k0_pay50 v3))) (k0_pay63 v1 (k0_pay1 v2) (k0_pay2 v4) (k0_pay3 v6) (k0_pay8 v0) (k0_pay30 (k0_pay8 v0))
    (k0_pay31 (k0_pay8 v0)) (k0_pay49 v3)) (k0_pay66 v1 (k0_pay7 v0) (k0_pay26 (k0_pay7 v0)) (k0_pay27 (k0_pay7 v0))
    (k0_pay64 (k0_pay1 v2) (k0_pay2 v4) (k0_pay3 v6) (k0_pay48 v3))) (k0_pay69 v1 (k0_pay1 v2) (k0_pay2 v4) (k0_pay3
    v6) (k0_pay6 v0) (k0_pay22 (k0_pay6 v0)) (k0_pay23 (k0_pay6 v0)) (k0_pay47 v3)) (k0_pay72 v1 (k0_pay5 v0)
    (k0_pay17 v0) (k0_pay18 v0) (k0_pay70 (k0_pay1 v2) (k0_pay2 v4) (k0_pay3 v6) (k0_pay46 v3))) (k0_pay75 v1 (k0_pay1
    v2) (k0_pay2 v4) (k0_pay3 v6) (k0_pay4 v0) (k0_pay13 v0) (k0_pay14 v0) (k0_pay45 v3)) (k0_pay76 (k0_pay54 v1
    (k0_pay11 v0) (k0_pay43 (k0_pay11 v0)) (k0_pay44 (k0_pay11 v0)) (k0_pay52 (k0_pay1 v2) (k0_pay2 v4) (k0_pay3 v6)
    v3))) (k0_pay77 (k0_pay57 v1 (k0_pay1 v2) (k0_pay2 v4) (k0_pay3 v6) (k0_pay10 v0) (k0_pay39 (k0_pay10 v0))
    (k0_pay40 (k0_pay10 v0)) (k0_pay51 v3))) (k0_pay78 (F := Ideal)))
      (ix2 r ⟨n.val * 128 + x.val, by omega⟩)
      = df (hd v0 r n) (fun x => v1 (ix2 0 x)) (back v2 v4 v6 r (hd v3 r n)) x := by
  refine (join_at (fun n => bdf (cut v0 n) (cut v3 n) v1 v2 v4 v6) r n x).trans ?_
  simp only [bdf_at, cut_at]

/-- The heads' rows of the weight's gradient, added to what came before. -/
def wsum (g : Fin 8 → FVec Ideal S256x128 .f32) (acc : FVec Ideal S1x128 .f32) : FVec Ideal S1x128 .f32 :=
  let s := fun n => shapeCast S1x128 (multiReduction .add [0] S128 (g n) 0x00000000#32 reduces_S256x128_S128 (.inl rfl) rfl)
    shapeCasts_S128_S1x128
  addf (shapeCast S1x128 acc shapeCasts_S1x128_S1x128)
    (addf (addf (addf (addf (addf (addf (addf (s 7) (s 6)) (s 5)) (s 4)) (s 3)) (s 2)) (s 1)) (s 0))

theorem wsum_at (g : Fin 8 → FVec Ideal S256x128 .f32) (x : Fin 128) :
    wsum g acc (ix2 0 x) = acc (ix2 0 x) + ∑ r : Fin 256, ∑ n : Fin 8, g n (ix2 r x) := by
  rw [Finset.sum_comm, Fin.sum_univ_eight]
  pointwise [wsum]
  ac_rfl

/-- The gradient to the weight. -/
theorem dw_at (x : Fin 128) :
    (k0_pay81 (k0_pay74 (k0_pay1 v2) (k0_pay2 v4) (k0_pay3 v6) (k0_pay15 v0) (k0_pay45 v3) (k0_pay68 (k0_pay1 v2)
    (k0_pay2 v4) (k0_pay3 v6) (k0_pay24 (k0_pay6 v0)) (k0_pay47 v3) (k0_pay62 (k0_pay1 v2) (k0_pay2 v4) (k0_pay3 v6)
    (k0_pay32 (k0_pay8 v0)) (k0_pay49 v3) (k0_pay56 (k0_pay1 v2) (k0_pay2 v4) (k0_pay3 v6) (k0_pay41 (k0_pay10 v0))
    (k0_pay51 v3) (k0_pay53 (k0_pay1 v2) (k0_pay2 v4) (k0_pay3 v6) (k0_pay11 v0) v3)) (k0_pay59 (k0_pay1 v2) (k0_pay2
    v4) (k0_pay3 v6) (k0_pay37 (k0_pay9 v0) (k0_pay33 (k0_pay9 v0)) (Scalar.ofBits .f32 0x358637BD#32)) (k0_pay50
    v3))) (k0_pay65 (k0_pay1 v2) (k0_pay2 v4) (k0_pay3 v6) (k0_pay28 (k0_pay7 v0)) (k0_pay48 v3))) (k0_pay71 (k0_pay1
    v2) (k0_pay2 v4) (k0_pay3 v6) (k0_pay20 (k0_pay5 v0) (k0_pay19 v0)) (k0_pay46 v3))) acc)
      (ix2 0 x) = acc (ix2 0 x) + ∑ r : Fin 256, ∑ n : Fin 8, dw (hd v0 r n) (back v2 v4 v6 r (hd v3 r n)) x := by
  refine (wsum_at acc (fun n => bdw (cut v0 n) (cut v3 n) v2 v4 v6) x).trans ?_
  simp only [bdw_at, cut_at]

end block

end Cert.QPrep

end
-- ==== Proof.QPrepRef.lean ====
/-
  The queries' norm and rotation, backward: the reference's operations, read at a row, a head and a column of the head.
-/
module

public import proofs.«01_k».proof.Defs
public import proofs.«01_k».proof.Proof.Rope
public import proofs.«01_k».proof.Proof.QPrepBlock
public import proofs.«01_k».proof.Proof.Gen.QPrepRIdeal.Read
public import Idealize.ShloMosaic.Lib.Pipeline.ValueKit

@[expose] public section

set_option maxRecDepth 16384

noncomputable section

open Idealize.ShloMosaic

namespace Cert.QPrep

open Cert.QPrepRIdeal Cert.QPrepRIdeal.Read Cert.Rope

variable (a : Vec Ideal S2048x1024 .f32) (w : Vec Ideal S1x128 .f32) (d : Vec Ideal S2048x1024 .f32) (r : Fin 2048) (n : Fin 8)
  (x : Fin 128)

theorem h_at : val_main_v32 (F := Ideal) a (ix4 0 r n x) = hd a r n x := by
  pointwise [val_main_v32]
  rfl

theorem d_at : val_main_v72 (F := Ideal) d (ix4 0 r n x) = hd d r n x := by
  pointwise [val_main_v72]
  rfl

/-- The angles of a token. -/
theorem ang3_at (t : Fin 2048) (e : Fin 2) (f : Fin 32) (x : Fin 128) (he : e.val = x.val / 64) (hf : f.val = x.val % 32) :
    val_main_v29 (F := Ideal) (ix3 t e f) = ang t.val x := by
  unfold ang
  rw [if_congr (show x.val < 64 ↔ e.val < 1 by omega) rfl rfl, ← hf]
  match e with
  | ⟨0, _⟩ | ⟨1, _⟩ =>
    pointwise [val_main_v29, val_main_v28, val_main_v22, val_main_v20, val_main_v18, val_main_v3, val_main_v2, val_main_v1, val_main_v0, val_main_v21, val_main_v19, val_main_v17, val_main_v16, val_main_v15, val_main_cst_2, val_main_v14, val_main_cst_1, val_main_v13, val_main_v12, val_main_v11, val_main_cst_0, val_main_v10, val_main_v9, val_main_cst, val_main_v8, val_main_v27, val_main_v26, val_main_v25, val_main_v24, val_main_v23, val_main_v7, val_main_v6, val_main_v5, val_main_v4]
    rfl

/-- The gradient through the rotation. -/
theorem g_at : val_main_v94 (F := Ideal) d (ix4 0 r n x) = rot r.val (hd d r n) x := by
  unfold rot
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_cst_7, val_main_cst_8, val_main_v56, val_main_v55, val_main_v30, val_main_v31]
  have ha := ang3_at r ⟨x.val / 64, by omega⟩ ⟨x.val % 32, by omega⟩ x rfl rfl
  by_cases h : x.val % 64 < 32
  · have h0 : (⟨x.val / 64 * 64 + x.val % 32, by omega⟩ : Fin 128) = x := Fin.ext (col_lo x h).1
    have h1 : (⟨x.val / 64 * 64 + 32 + x.val % 32, by omega⟩ : Fin 128) = part x := Fin.ext (col_lo x h).2
    have hp : ¬ (x.val / 64 < 2 ∧ (1 ≤ x.val / 32 % 2 ∧ x.val / 32 % 2 - 1 < 1) ∧ x.val % 32 < 32) := by omega
    have hq : x.val / 64 < 2 ∧ x.val / 32 % 2 < 1 ∧ x.val % 32 < 32 := by omega
    simp only [dif_neg hp, dif_pos hq, zero_add, if_pos h]
    simp only [d_at]
    simp only [h0, h1, ha]
  · have h0 : (⟨x.val / 64 * 64 + x.val % 32, by omega⟩ : Fin 128) = part x := Fin.ext (col_hi x h).1
    have h1 : (⟨x.val / 64 * 64 + 32 + x.val % 32, by omega⟩ : Fin 128) = x := Fin.ext (col_hi x h).2
    have hp : x.val / 64 < 2 ∧ (1 ≤ x.val / 32 % 2 ∧ x.val / 32 % 2 - 1 < 1) ∧ x.val % 32 < 32 := by omega
    have hq : ¬ (x.val / 64 < 2 ∧ x.val / 32 % 2 < 1 ∧ x.val % 32 < 32) := by omega
    simp only [dif_pos hp, dif_neg hq, add_zero, if_neg h]
    simp only [d_at]
    simp only [h0, h1, ha]

theorem w_at : val_main_v47 (F := Ideal) w (ix4 0 0 0 x) = w (ix2 0 x) := by
  pointwise [val_main_v47, val_main_v33]

theorem var_at : val_main_v40 (F := Ideal) a (ix4 0 r n 0) = var (hd a r n) := by
  pointwise [val_main_v34, val_main_v35, val_main_v36, val_main_v37, val_main_v38, val_main_v39, val_main_v40, val_main_cst_3, val_main_cst_4, val_main_cst_5]
  simp only [h_at]
  rfl

theorem rs_at : val_main_v41 (F := Ideal) a (ix4 0 r n 0) = Ideal.rsqrt (var (hd a r n)) := by
  rw [← var_at]
  pointwise [val_main_v41]

theorem y_at : val_main_v46 (F := Ideal) a (ix4 0 r n x) = (hd a r n) x * Ideal.rsqrt (var (hd a r n)) := by
  pointwise [val_main_v46, val_main_v45]
  rw [h_at, rs_at]

theorem gw_at : val_main_v99 (F := Ideal) w d (ix4 0 r n x) = (rot r.val (hd d r n)) x * w (ix2 0 x) := by
  pointwise [val_main_v99, val_main_v98]
  rw [g_at, w_at]

theorem corr_at : val_main_v108 (F := Ideal) a w d (ix4 0 r n 0) = corr (hd a r n) (fun x => w (ix2 0 x)) (rot r.val (hd d r n)) := by
  pointwise [val_main_v108, val_main_v107, val_main_cst_12, val_main_v106, val_main_v103, val_main_v102, val_main_cst_11, val_main_v101, val_main_v44, val_main_v43, val_main_cst_6, val_main_v42]
  simp only [h_at, gw_at, rs_at, var_at]
  rfl

/-- A sum over two axes of one coordinate each is its one entry. -/
theorem corr2_at : val_main_v109 (F := Ideal) a w d (ix2 r n) = corr (hd a r n) (fun x => w (ix2 0 x)) (rot r.val (hd d r n)) := by
  rw [← corr_at]
  pointwise [val_main_v109, val_main_cst_13]
  rw [Ideal.hostReduceAdd, zero_add]
  refine (Finset.sum_filter_eq_sum_of_fiber _ (fun _ : Fin 1 => ix4 (0 : Fin 1) r n (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨_, rfl⟩
    funext a
    match a with
    | ⟨0, _⟩ => rfl
    | ⟨1, _⟩ => rfl

theorem df_at' : val_main_v115 (F := Ideal) a w d (ix4 0 r n x) = df (hd a r n) (fun x => w (ix2 0 x)) (rot r.val (hd d r n)) x := by
  pointwise [val_main_v115, val_main_v114, val_main_v113, val_main_v112, val_main_v111, val_main_v110, val_main_v105, val_main_v104]
  simp only [h_at, gw_at, rs_at, corr2_at]
  rfl

theorem dwr_at : val_main_v95 (F := Ideal) a d (ix4 0 r n x) = dw (hd a r n) (rot r.val (hd d r n)) x := by
  pointwise [val_main_v95]
  rw [y_at, g_at]
  rfl

/-- The sum over the rows and the heads. -/
theorem dws_at : val_main_v96 (F := Ideal) a d (ix2 0 x) = ∑ r : Fin 2048, ∑ n : Fin 8, dw (hd a r n) (rot r.val (hd d r n)) x := by
  pointwise [val_main_v96, val_main_cst_9]
  rw [Ideal.hostReduceAdd, zero_add]
  refine (Finset.sum_filter_eq_sum_of_fiber _ (fun p : Fin 2048 × Fin 8 => ix4 (0 : Fin 1) p.1 p.2 x)
    (fun p q e => Prod.ext (congrFun e 1) (congrFun e 2)) (fun i => ⟨fun e => ⟨(i 1, i 2), ?_⟩, ?_⟩) _).trans ?_
  · funext a
    match a with
    | ⟨0, _⟩ => exact Subsingleton.elim (α := Fin 1) _ _
    | ⟨1, _⟩ => rfl
    | ⟨2, _⟩ => rfl
    | ⟨3, _⟩ => exact (Fin.ext (congrArg Fin.val (congrFun e 1))).symm
  · rintro ⟨_, rfl⟩
    funext a
    match a with
    | ⟨0, _⟩ => rfl
    | ⟨1, _⟩ => rfl
  · rw [Fintype.sum_prod_type]
    exact Finset.sum_congr rfl fun r _ => Finset.sum_congr rfl fun n _ => dwr_at a d r n x

theorem dw_at' : val_main_v100 (F := Ideal) a d (ix1 x) = ∑ r : Fin 2048, ∑ n : Fin 8, dw (hd a r n) (rot r.val (hd d r n)) x := by
  rw [← dws_at]
  have h : val_main_v97 (F := Ideal) a d (ix4 0 0 0 x) = val_main_v96 (F := Ideal) a d (ix2 0 x) := by
    pointwise [val_main_v97]
  rw [← h]
  pointwise [val_main_v100, val_main_cst_10]
  rw [Ideal.hostReduceAdd, zero_add]
  refine (Finset.sum_filter_eq_sum_of_fiber _ (fun _ : Fin 1 => ix4 (0 : Fin 1) (0 : Fin 1) (0 : Fin 1) x)
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact (Fin.ext (congrArg Fin.val (congrFun e 0))).symm
  · rintro ⟨_, rfl⟩
    funext a
    match a with
    | ⟨0, _⟩ => rfl

theorem v117_at : val_main_v117 (F := Ideal) a w d (ix2 r ⟨n.val * 128 + x.val, by omega⟩)
    = df (hd a r n) (fun x => w (ix2 0 x)) (rot r.val (hd d r n)) x := by
  rw [← df_at']
  pointwise [val_main_v117]

theorem v116_at : val_main_v116 (F := Ideal) a d (ix2 0 x)
    = ∑ r : Fin 2048, ∑ n : Fin 8, dw (hd a r n) (rot r.val (hd d r n)) x := by
  rw [← dw_at']
  pointwise [val_main_v116]

end Cert.QPrep

end
-- ==== Proof.QPrep.lean ====
/-
  The queries' norm and rotation, backward: each of the kernel's two arrays is the reference's. A block's rows are the reference's rows, head by
  head; the weight's gradient is added up over the blocks where the reference adds over the rows.
-/
module

public import proofs.«01_k».proof.Defs
public import proofs.«01_k».proof.Proof.Rope
public import proofs.«01_k».proof.Proof.QPrepTab
public import proofs.«01_k».proof.Proof.QPrepBlock
public import proofs.«01_k».proof.Proof.QPrepRef
public import proofs.«01_k».proof.Proof.Gen.QPrepRIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QPrepKIdeal.QPrep

open Cert.QPrepKIdeal Cert.QPrepKIdeal.Gen Cert.QPrep Cert.Rope
open Cert.QPrepRIdeal.Read

variable (m : (ℓ : Loc nD τ sig) → Buf (Elt Ideal) ℓ)

/-- Where each window stands at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

/-- A column of a row is one of the 128 of one of the eight heads. -/
theorem split (y : (⟨2, ![256, 1024]⟩ : Shape).Idx) :
    ∃ (r : Fin 256) (n : Fin 8) (x : Fin 128), y = ix2 r ⟨n.val * 128 + x.val, by omega⟩ := by
  have h : (y 1).val < 1024 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2048 := ⟨t.val * 256 + r.val, by have : t.val < 8 := t.isLt; omega⟩

section rows
variable (c : Dev nD) (t : Fin cfg0.N) (r : Fin 256) (n : Fin 8)

theorem hd0 : hd (iblk m c 0 t) r n = hd (m ((c : Thread nD τ).loc main_arg0)) (row t r) n := by
  funext x; unfold hd row; blk_point [iblk, V, idx t]

theorem hd5 : hd (iblk m c 5 t) r n = hd (m ((c : Thread nD τ).loc main_arg2)) (row t r) n := by
  funext x; unfold hd row; blk_point [iblk, V, idx t]

theorem wt : (fun x : Fin 128 => iblk m c 1 t (ix2 0 x)) = fun x => m ((c : Thread nD τ).loc main_arg1) (ix2 0 x) := by
  funext x; blk_point [iblk, V, idx t]

/-- A block's tables are the tokens' own, so that the kernel's form is the rotation. -/
theorem back_at (d : Fin 128 → EReal) : back (iblk m c 2 t) (iblk m c 3 t) (iblk m c 4 t) r d = rot (row t r).val d := by
  have h2 : (fun x : Fin 128 => iblk m c 2 t (ix2 r x)) = cosT (row t r).val := by
    funext x; refine Eq.trans ?_ (cos_at m c (row t r) x); unfold row; blk_point [iblk, idx t]
  have h3 : (fun x : Fin 128 => iblk m c 3 t (ix2 r x)) = sinT (row t r).val := by
    funext x; refine Eq.trans ?_ (sin_at m c (row t r) x); unfold row; blk_point [iblk, idx t]
  have h4 : (fun x k : Fin 128 => iblk m c 4 t (ix2 x k)) = pm := by
    funext x k
    have e : ((cfg0.win 4).blk t).view.emb (ix2 x k) = ix2 x k := by
      funext a
      match a with
      | ⟨0, _⟩ => (apply Fin.ext; blk_simp [idx t])
      | ⟨1, _⟩ => (apply Fin.ext; blk_simp [idx t])
    exact (congrArg (V m c main_v59) e).trans (pm_at m c x k)
  exact (congr (congr (congrArg turn h2) h3) h4 ▸ rfl : _ = turn (cosT (row t r).val) (sinT (row t r).val) pm d).trans
    (turn_eq _ d)

end rows

set_option maxHeartbeats 1600000 in
/-- The gradient to the heads. -/
theorem final6 (c : Dev nD) : (dats m 0 c).arrAt 6 (cfgs 0).N
    = val_main_v117 (F := Ideal) (m ((c : Thread nD τ).loc main_arg0)) (m ((c : Thread nD τ).loc main_arg1))
      (m ((c : Thread nD τ).loc main_arg2)) := by
  refine (dats m 0 c).arrAt_eq_of_covers 6 _ (by decide +kernel) fun t _ y => ?_
  obtain ⟨r, n, x, rfl⟩ := split y
  have e : ((cfg0.win 6).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v117 (F := Ideal) _ _ _) e).trans (v117_at _ _ _ (row t r) n x)).symm
  rw [← hd0 m c t r n, ← hd5 m c t r n, ← wt m c t, ← back_at m c t r]
  blk_simp
  rw [after0_6]
  by_cases h : t.val % 8 = 0
  all_goals first | rw [outsAt0_A m c t h] | rw [outsAt0_B m c t h]
  all_goals
    frame_out
    exact df_at (iblk m c 0 t) (iblk m c 5 t) (iblk m c 1 t) (iblk m c 2 t) (iblk m c 3 t) (iblk m c 4 t) r n x

theorem lane (j : (⟨2, ![1, 128]⟩ : Shape).Idx) : ∃ x : Fin 128, j = ix2 0 x := by
  refine ⟨j 1, ?_⟩
  funext a
  match a with
  | ⟨0, _⟩ => exact Subsingleton.elim (α := Fin 1) _ _
  | ⟨1, _⟩ => rfl

theorem hzero {x : Fin 128} : k0_pay80 (F := Ideal) (ix2 0 x) = 0 := by
  pointwise [k0_pay80]

set_option maxHeartbeats 1600000 in
/-- The gradient to the weight. -/
theorem final7 (c : Dev nD) : (dats m 0 c).arrAt 7 (cfgs 0).N
    = val_main_v116 (F := Ideal) (m ((c : Thread nD τ).loc main_arg0)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0)
    (fun t j => ∑ r : Fin 256, ∑ n : Fin 8, dw (hd (iblk m c 0 t) r n)
      (back (iblk m c 2 t) (iblk m c 3 t) (iblk m c 4 t) r (hd (iblk m c 5 t) r n)) (j 1))
    (fun t h j => by
      rw [outsAt0_A m c t h]; frame_out
      obtain ⟨x, rfl⟩ := lane j
      exact (dw_at (iblk m c 0 t) (iblk m c 5 t) (iblk m c 2 t) (iblk m c 3 t) (iblk m c 4 t) _ x).trans
        (congrArg (· + _) hzero))
    (fun t h j => by
      rw [outsAt0_B m c t h]; frame_out
      obtain ⟨x, rfl⟩ := lane j
      exact dw_at (iblk m c 0 t) (iblk m c 5 t) (iblk m c 2 t) (iblk m c 3 t) (iblk m c 4 t) _ x)
    (le_of_eq N_0) t0_7 rfl j, zero_add]
  obtain ⟨x, rfl⟩ := lane j
  refine Eq.trans ?_ (v116_at _ _ x).symm
  refine Fin.sum_mul_add_congr fun t r hl => ?_
  simp only [hd0, hd5, back_at]
  rfl

end Cert.QPrepKIdeal.QPrep

namespace Cert.Proof.QPrep

section
open Cert.QPrepRIdeal Cert.QPrepRIdeal.Gen Cert.QPrepRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = val_main_v117 (F := Ideal) (m ((c.tc : Thread nD τ).loc
        main_arg0)) (m ((c.tc : Thread nD τ).loc main_arg1)) (m ((c.tc : Thread nD τ).loc main_arg2))
      ∧ r.2.mem ((c.tc : Thread nD τ).loc main_v116) = val_main_v116 (F := Ideal) (m ((c.tc : Thread nD τ).loc
        main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v117_eq m c), (h c).2.1.trans (val_main_v116_eq m c), (h c).2.2⟩)
    (Cert.QPrepRIdeal.Value.run (F := Ideal) m ρ)

end

open Cert.QPrepKIdeal.QPrep

set_option maxHeartbeats 1600000 in
/-- From memories that agree on the arguments the kernel and the reference end with the same gradients. -/
theorem algebraic : Cert.algebraic_QPrepKIdeal_QPrepRIdeal := by
  pair_intro
  · run_from Cert.QPrepKIdeal.Gen.run_main m g
  · run_from refRun m' g'
    · exact (final6 m c).symm
    · exact (final7 m c).symm

end Cert.Proof.QPrep

end
-- ==== Proof.KPrepTab.lean ====
/-
  The keys' norm and rotation, backward: what the host computes before the kernel runs, the tables of cosines and of signed sines of every token and
  the permutation of a head's columns.
-/
module

public import proofs.«01_k».proof.Defs
public import proofs.«01_k».proof.Proof.Rope
public import proofs.«01_k».proof.Proof.Gen.KPrepKIdeal.Value
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem

namespace Cert.KPrepKIdeal.KPrep

open Cert.KPrepKIdeal Cert.KPrepKIdeal.Gen Cert.Rope

variable (m : (ℓ : Loc nD τ sig) → Buf (Elt Ideal) ℓ)

/-- A context row among all rows, -/
def lo (t : Fin 256) : Fin 2304 := ⟨t.val, by omega⟩

/-- and a latent row. -/
def hi (t : Fin 2048) : Fin 2304 := ⟨256 + t.val, by omega⟩

/-- A context row is not rotated: its cosines are one, -/
theorem cos_lo (c : Dev nD) (t : Fin 256) (x : Fin 128) : @Eq EReal (V m c main_v40 (ix2 (lo t) x)) 1 := by
  unfold lo
  unfold V
  simp only [hostOps0, hostOps0_1, hostOps0_2, hostOps0_3, hostOps0_4, List.flatten_cons, List.flatten_nil, List.cons_append, List.nil_append]
  after_reads_simp
  pointwise []

/-- and its sines zero. -/
theorem sin_lo (c : Dev nD) (t : Fin 256) (x : Fin 128) : @Eq EReal (V m c main_v42 (ix2 (lo t) x)) 0 := by
  unfold lo
  unfold V
  simp only [hostOps0, hostOps0_1, hostOps0_2, hostOps0_3, hostOps0_4, List.flatten_cons, List.flatten_nil, List.cons_append, List.nil_append]
  after_reads_simp
  pointwise []

set_option maxHeartbeats 1600000 in
/-- A latent row's cosines, -/
theorem cos_hi (c : Dev nD) (t : Fin 2048) (x : Fin 128) : V m c main_v40 (ix2 (hi t) x) = cosT t.val x := by
  obtain ⟨k, f, rfl⟩ := quarter x
  unfold cosT hi
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, Nat.add_sub_cancel_left, Nat.sub_sub, quot, remd]
    simp only [freq, Nat.add_sub_cancel_left, Nat.sub_sub]
    try rfl

set_option maxHeartbeats 1600000 in
/-- and its signed sines. -/
theorem sin_hi (c : Dev nD) (t : Fin 2048) (x : Fin 128) : V m c main_v42 (ix2 (hi t) x) = sinT t.val x := by
  obtain ⟨k, f, rfl⟩ := quarter x
  unfold sinT hi
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, Nat.add_sub_cancel_left, Nat.sub_sub, quot, remd]
    simp only [freq, Nat.add_sub_cancel_left, Nat.sub_sub]
    try rfl

/-- The permutation of a head's columns. -/
theorem pm_at (c : Dev nD) (x k : Fin 128) : V m c main_v59 (ix2 x k) = pm x k := by
  unfold V
  simp only [hostOps0, hostOps0_1, hostOps0_2, hostOps0_3, hostOps0_4, List.flatten_cons, List.flatten_nil, List.cons_append, List.nil_append]
  after_reads_simp
  simp only [StableHlo.TRef.ofBuf_toBuf]
  simp only [StableHlo.TRef.ofBuf, StableHlo.TRef.toBuf, StableHlo.TRef.of, cast_eq, id_eq]
  pointwise []
  refine (congrArg (fun b => Scalar.select b (1 : EReal) 0) (perm_bits x k)).trans ?_
  unfold pm
  by_cases h : x = part k
  · rw [if_pos h, if_pos h]; rfl
  · rw [if_neg h, if_neg h]; rfl

end Cert.KPrepKIdeal.KPrep

end
-- ==== Proof.KPrepBlock.lean ====
/-
  The keys' norm and rotation, backward: what the kernel does with one block of 256 rows. The heads' 128 columns are worked on alike; their
  gradients are put side by side, and the weight's gradient is added up over the heads.
-/
module

public import proofs.«01_k».proof.Defs
public import proofs.«01_k».proof.Proof.Rope
public import proofs.«01_k».proof.Proof.Gen.KPrepKIdeal.Skeleton
public import Idealize.ShloMosaic.Lib.Pipeline.ValueKit

@[expose] public section

set_option maxRecDepth 16384

noncomputable section

open Idealize.ShloMosaic

namespace Cert.KPrep

open Cert.KPrepKIdeal Cert.KPrepKIdeal.Gen Cert.Rope

/-- One head's columns of a row. -/
def hd {R : ℕ} (v : Vec Ideal ⟨2, ![R, 256]⟩ .f32) (r : Fin R) (n : Fin 2) : Fin 128 → EReal :=
  fun x => v (ix2 r ⟨n.val * 128 + x.val, by omega⟩)

/-- One head's gradient before the rotation, from a block's tables. -/
def back (c s : Vec Ideal S256x128 .f32) (p : Vec Ideal S128x128 .f32) (r : Fin 256) (d : Fin 128 → EReal) : Fin 128 → EReal :=
  turn (fun x => c (ix2 r x)) (fun x => s (ix2 r x)) (fun x k => p (ix2 x k)) d

/-- The mean of squares of each row of a head, with the small constant. -/
abbrev gvar (f : FVec Ideal S256x128 .f32) : FVec Ideal S256x1 .f32 :=
  addf (divf (shapeCast S256x1 (multiReduction .add [1] S256 (mulf f f) 0x00000000#32 reduces_S256x128_S256 (.inl rfl) rfl)
      shapeCasts_S256_S256x1) (broadcast S256x1 (Scalar.ofBits .f32 0x43000000#32)))
    (broadcast S256x1 (Scalar.ofBits .f32 0x358637BD#32))

/-- Its reciprocal square root, -/
abbrev grs (f : FVec Ideal S256x128 .f32) : FVec Ideal S256x1 .f32 := rsqrt (gvar f)

/-- and the derivative of that. -/
abbrev gcc (f : FVec Ideal S256x128 .f32) : FVec Ideal S256x1 .f32 :=
  mulf (broadcast S256x1 (Scalar.ofBits .f32 0xBF000000#32)) (divf (grs f) (gvar f))

section one
variable (f d : FVec Ideal S256x128 .f32) (w : FVec Ideal S1x128 .f32) (c s : Vec Ideal S256x128 .f32)
  (p : Vec Ideal S128x128 .f32)

/-- A head's block of the gradient to it. -/
abbrev bdf : FVec Ideal S256x128 .f32 := k0_pay20 w (k0_pay4 c) (k0_pay5 s) (k0_pay6 p) f (grs f) (gcc f) d

/-- A head's rows of the weight's gradient. -/
abbrev bdw : FVec Ideal S256x128 .f32 := mulf (mulf f (broadcastTo S256x128 (grs f) broadcasts_S256x1_S256x128))
    (k0_pay19 (k0_pay4 c) (k0_pay5 s) (k0_pay6 p) d)

theorem bdf_at (r : Fin 256) (x : Fin 128) : bdf f d w c s p (ix2 r x)
    = df (fun x => f (ix2 r x)) (fun x => w (ix2 0 x)) (back c s p r (fun x => d (ix2 r x))) x := by
  pointwise [k0_pay20, k0_pay19, k0_pay4, k0_pay5, k0_pay6, gcc, grs, gvar]
  rw [Fin.sum_univ_one (M := EReal)]
  rfl

theorem bdw_at (r : Fin 256) (x : Fin 128) : bdw f d c s p (ix2 r x)
    = dw (fun x => f (ix2 r x)) (back c s p r (fun x => d (ix2 r x))) x := by
  pointwise [k0_pay19, k0_pay4, k0_pay5, k0_pay6, grs, gvar]
  rfl

end one

section slices
variable (v : Vec Ideal S256x256 .f32)

/-- The blocks of columns the kernel cuts out of a block of rows. -/
def cut (n : Fin 2) : FVec Ideal S256x128 .f32 :=
  (![k0_pay7 v, k0_pay8 v] : Fin 2 → FVec Ideal S256x128 .f32) n

theorem cut_at (n : Fin 2) (r : Fin 256) (x : Fin 128) : cut v n (ix2 r x) = hd v r n x := by
  unfold cut hd
  match n with
  | ⟨0, _⟩ => (show k0_pay7 v (ix2 r x) = _; pointwise [k0_pay7])
  | ⟨1, _⟩ => (show k0_pay8 v (ix2 r x) = _; pointwise [k0_pay8])

end slices

/-- The heads' blocks side by side, each padded with zeros and the paddings added up. -/
theorem join_at (g : Fin 2 → FVec Ideal S256x128 .f32) (r : Fin 256) (n : Fin 2) (x : Fin 128) :
    k0_pay1 (g 1) (g 0) (Scalar.ofBits .f32 0x00000000#32) (ix2 r ⟨n.val * 128 + x.val, by omega⟩) = g n (ix2 r x) := by
  match n with
  | ⟨0, _⟩ | ⟨1, _⟩ =>
    pointwise [k0_pay1]

section block
variable (v0 v3 : Vec Ideal S256x256 .f32) (v1 : Vec Ideal S1x128 .f32) (v2 v4 : Vec Ideal S256x128 .f32)
  (v6 : Vec Ideal S128x128 .f32) (acc : Vec Ideal S1x128 .f32)

/-- The gradient to the heads. -/
theorem df_at (r : Fin 256) (n : Fin 2) (x : Fin 128) :
    (k0_pay1 (k0_pay20 v1 (k0_pay4 v2) (k0_pay5 v4) (k0_pay6 v6) (k0_pay8 v0) (k0_pay14 v0) (k0_pay15 v0) (k0_pay18
    v3)) (k0_pay23 v1 (k0_pay4 v2) (k0_pay5 v4) (k0_pay6 v6) (k0_pay7 v0) (k0_pay10 v0) (k0_pay11 v0) (k0_pay17 v3))
    (Scalar.ofBits .f32 0x00000000#32))
      (ix2 r ⟨n.val * 128 + x.val, by omega⟩)
      = df (hd v0 r n) (fun x => v1 (ix2 0 x)) (back v2 v4 v6 r (hd v3 r n)) x := by
  refine (join_at (fun n => bdf (cut v0 n) (cut v3 n) v1 v2 v4 v6) r n x).trans ?_
  simp only [bdf_at, cut_at]

/-- The heads' rows of the weight's gradient, added to what came before. -/
def wsum (g : Fin 2 → FVec Ideal S256x128 .f32) (acc : FVec Ideal S1x128 .f32) : FVec Ideal S1x128 .f32 :=
  let s := fun n => shapeCast S1x128 (multiReduction .add [0] S128 (g n) 0x00000000#32 reduces_S256x128_S128 (.inl rfl) rfl)
    shapeCasts_S128_S1x128
  addf (shapeCast S1x128 acc shapeCasts_S1x128_S1x128)
    (addf (s 1) (s 0))

theorem wsum_at (g : Fin 2 → FVec Ideal S256x128 .f32) (x : Fin 128) :
    wsum g acc (ix2 0 x) = acc (ix2 0 x) + ∑ r : Fin 256, ∑ n : Fin 2, g n (ix2 r x) := by
  rw [Finset.sum_comm, Fin.sum_univ_two]
  pointwise [wsum]
  ac_rfl

/-- The gradient to the weight. -/
theorem dw_at (x : Fin 128) :
    (k0_pay3 (k0_pay22 (k0_pay4 v2) (k0_pay5 v4) (k0_pay6 v6) (k0_pay12 v0) (k0_pay16 v0) (k0_pay17 v3) (k0_pay18 v3))
    acc)
      (ix2 0 x) = acc (ix2 0 x) + ∑ r : Fin 256, ∑ n : Fin 2, dw (hd v0 r n) (back v2 v4 v6 r (hd v3 r n)) x := by
  refine (wsum_at acc (fun n => bdw (cut v0 n) (cut v3 n) v2 v4 v6) x).trans ?_
  simp only [bdw_at, cut_at]

end block

end Cert.KPrep

end
-- ==== Proof.KPrepRef.lean ====
/-
  The keys' norm and rotation, backward: the reference's operations, read at a row, a head and a column of the head, for the context rows and
  for the latent rows, and the two parts put together.
-/
module

public import proofs.«01_k».proof.Defs
public import proofs.«01_k».proof.Proof.Rope
public import proofs.«01_k».proof.Proof.KPrepBlock
public import proofs.«01_k».proof.Proof.KPrepTab
public import proofs.«01_k».proof.Proof.Gen.KPrepRIdeal.Read
public import Idealize.ShloMosaic.Lib.Pipeline.ValueKit

@[expose] public section

set_option maxRecDepth 16384

noncomputable section

open Idealize.ShloMosaic

namespace Cert.KPrep

open Cert.KPrepRIdeal Cert.KPrepRIdeal.Read Cert.Rope
open Cert.KPrepKIdeal.KPrep (lo hi)

section context
variable (a : Vec Ideal S2304x256 .f32) (w : Vec Ideal S1x128 .f32) (d : Vec Ideal S2304x256 .f32) (r : Fin 256) (n : Fin 2)
  (x : Fin 128)

theorem ch_at : val_main_v34 (F := Ideal) a (ix4 0 r n x) = hd a (lo r) n x := by
  pointwise [val_main_v34, val_main_v33, val_main_v32]
  rfl

theorem cd_at : val_main_v96 (F := Ideal) d (ix4 0 r n x) = hd d (lo r) n x := by
  pointwise [val_main_v96, val_main_v95]
  rfl

theorem cw_at : val_main_v49 (F := Ideal) w (ix4 0 0 0 x) = w (ix2 0 x) := by
  pointwise [val_main_v49, val_main_v35]

theorem cvar_at : val_main_v42 (F := Ideal) a (ix4 0 r n 0) = var (hd a (lo r) n) := by
  pointwise [val_main_v36, val_main_v37, val_main_v38, val_main_v39, val_main_v40, val_main_v41, val_main_v42, val_main_cst_3, val_main_cst_4, val_main_cst_5]
  simp only [ch_at]
  rfl

theorem crs_at : val_main_v43 (F := Ideal) a (ix4 0 r n 0) = Ideal.rsqrt (var (hd a (lo r) n)) := by
  rw [← cvar_at]
  pointwise [val_main_v43]

theorem cy_at : val_main_v48 (F := Ideal) a (ix4 0 r n x) = (hd a (lo r) n) x * Ideal.rsqrt (var (hd a (lo r) n)) := by
  pointwise [val_main_v48, val_main_v47]
  rw [ch_at, crs_at]

theorem cgw_at : val_main_v149 (F := Ideal) w d (ix4 0 r n x) = (hd d (lo r) n) x * w (ix2 0 x) := by
  pointwise [val_main_v149, val_main_v148]
  rw [cd_at, cw_at]

theorem ccorr_at : val_main_v158 (F := Ideal) a w d (ix4 0 r n 0) = corr (hd a (lo r) n) (fun x => w (ix2 0 x)) (hd d (lo r) n) := by
  pointwise [val_main_v158, val_main_v157, val_main_cst_23, val_main_v156, val_main_v153, val_main_v152, val_main_cst_22, val_main_v151, val_main_v46, val_main_v45, val_main_cst_6, val_main_v44]
  simp only [ch_at, cgw_at, crs_at, cvar_at]
  rfl

/-- A sum over two axes of one coordinate each is its one entry. -/
theorem ccorr2_at : val_main_v159 (F := Ideal) a w d (ix2 r n) = corr (hd a (lo r) n) (fun x => w (ix2 0 x)) (hd d (lo r) n) := by
  rw [← ccorr_at]
  pointwise [val_main_v159, val_main_cst_24]
  rw [Ideal.hostReduceAdd, zero_add]
  refine (Finset.sum_filter_eq_sum_of_fiber _ (fun _ : Fin 1 => ix4 (0 : Fin 1) r n (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨_, rfl⟩
    funext a
    match a with
    | ⟨0, _⟩ => rfl
    | ⟨1, _⟩ => rfl

theorem cdf_at : val_main_v165 (F := Ideal) a w d (ix4 0 r n x) = df (hd a (lo r) n) (fun x => w (ix2 0 x)) (hd d (lo r) n) x := by
  pointwise [val_main_v165, val_main_v164, val_main_v163, val_main_v162, val_main_v161, val_main_v160, val_main_v155, val_main_v154]
  simp only [ch_at, cgw_at, crs_at, ccorr2_at]
  rfl

theorem cdwr_at : val_main_v145 (F := Ideal) a d (ix4 0 r n x) = dw (hd a (lo r) n) (hd d (lo r) n) x := by
  pointwise [val_main_v145]
  rw [cy_at, cd_at]
  rfl

/-- The sum over the rows and the heads. -/
theorem cdws_at : val_main_v146 (F := Ideal) a d (ix2 0 x) = ∑ r : Fin 256, ∑ n : Fin 2, dw (hd a (lo r) n) (hd d (lo r) n) x := by
  pointwise [val_main_v146, val_main_cst_20]
  rw [Ideal.hostReduceAdd, zero_add]
  refine (Finset.sum_filter_eq_sum_of_fiber _ (fun p : Fin 256 × Fin 2 => ix4 (0 : Fin 1) p.1 p.2 x)
    (fun p q e => Prod.ext (congrFun e 1) (congrFun e 2)) (fun i => ⟨fun e => ⟨(i 1, i 2), ?_⟩, ?_⟩) _).trans ?_
  · funext a
    match a with
    | ⟨0, _⟩ => exact Subsingleton.elim (α := Fin 1) _ _
    | ⟨1, _⟩ => rfl
    | ⟨2, _⟩ => rfl
    | ⟨3, _⟩ => exact (Fin.ext (congrArg Fin.val (congrFun e 1))).symm
  · rintro ⟨_, rfl⟩
    funext a
    match a with
    | ⟨0, _⟩ => rfl
    | ⟨1, _⟩ => rfl
  · rw [Fintype.sum_prod_type]
    exact Finset.sum_congr rfl fun r _ => Finset.sum_congr rfl fun n _ => cdwr_at a d r n x

theorem cdw_at : val_main_v150 (F := Ideal) a d (ix1 x) = ∑ r : Fin 256, ∑ n : Fin 2, dw (hd a (lo r) n) (hd d (lo r) n) x := by
  rw [← cdws_at]
  have h : val_main_v147 (F := Ideal) a d (ix4 0 0 0 x) = val_main_v146 (F := Ideal) a d (ix2 0 x) := by
    pointwise [val_main_v147]
  rw [← h]
  pointwise [val_main_v150, val_main_cst_21]
  rw [Ideal.hostReduceAdd, zero_add]
  refine (Finset.sum_filter_eq_sum_of_fiber _ (fun _ : Fin 1 => ix4 (0 : Fin 1) (0 : Fin 1) (0 : Fin 1) x)
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact (Fin.ext (congrArg Fin.val (congrFun e 0))).symm
  · rintro ⟨_, rfl⟩
    funext a
    match a with
    | ⟨0, _⟩ => rfl

end context

section latent
variable (a : Vec Ideal S2304x256 .f32) (w : Vec Ideal S1x128 .f32) (d : Vec Ideal S2304x256 .f32) (r : Fin 2048) (n : Fin 2)
  (x : Fin 128)

theorem xh_at : val_main_v54 (F := Ideal) a (ix4 0 r n x) = hd a (hi r) n x := by
  pointwise [val_main_v54, val_main_v53, val_main_v52]
  rfl

theorem xd_at : val_main_v97 (F := Ideal) d (ix4 0 r n x) = hd d (hi r) n x := by
  pointwise [val_main_v97, val_main_v95]
  rfl

/-- The angles of a token. -/
theorem ang3_at (t : Fin 2048) (e : Fin 2) (f : Fin 32) (x : Fin 128) (he : e.val = x.val / 64) (hf : f.val = x.val % 32) :
    val_main_v29 (F := Ideal) (ix3 t e f) = ang t.val x := by
  unfold ang
  rw [if_congr (show x.val < 64 ↔ e.val < 1 by omega) rfl rfl, ← hf]
  match e with
  | ⟨0, _⟩ | ⟨1, _⟩ =>
    pointwise [val_main_v29, val_main_v28, val_main_v22, val_main_v20, val_main_v18, val_main_v3, val_main_v2, val_main_v1, val_main_v0, val_main_v21, val_main_v19, val_main_v17, val_main_v16, val_main_v15, val_main_cst_2, val_main_v14, val_main_cst_1, val_main_v13, val_main_v12, val_main_v11, val_main_cst_0, val_main_v10, val_main_v9, val_main_cst, val_main_v8, val_main_v27, val_main_v26, val_main_v25, val_main_v24, val_main_v23, val_main_v7, val_main_v6, val_main_v5, val_main_v4]
    rfl

/-- The gradient through the rotation. -/
theorem g_at : val_main_v119 (F := Ideal) d (ix4 0 r n x) = rot r.val (hd d (hi r) n) x := by
  unfold rot
  pointwise [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_cst_11, val_main_cst_12, val_main_v78, val_main_v77, val_main_v30, val_main_v31]
  have ha := ang3_at r ⟨x.val / 64, by omega⟩ ⟨x.val % 32, by omega⟩ x rfl rfl
  by_cases h : x.val % 64 < 32
  · have h0 : (⟨x.val / 64 * 64 + x.val % 32, by omega⟩ : Fin 128) = x := Fin.ext (col_lo x h).1
    have h1 : (⟨x.val / 64 * 64 + 32 + x.val % 32, by omega⟩ : Fin 128) = part x := Fin.ext (col_lo x h).2
    have hp : ¬ (x.val / 64 < 2 ∧ (1 ≤ x.val / 32 % 2 ∧ x.val / 32 % 2 - 1 < 1) ∧ x.val % 32 < 32) := by omega
    have hq : x.val / 64 < 2 ∧ x.val / 32 % 2 < 1 ∧ x.val % 32 < 32 := by omega
    simp only [dif_neg hp, dif_pos hq, zero_add, if_pos h]
    simp only [xd_at]
    simp only [h0, h1, ha]
  · have h0 : (⟨x.val / 64 * 64 + x.val % 32, by omega⟩ : Fin 128) = part x := Fin.ext (col_hi x h).1
    have h1 : (⟨x.val / 64 * 64 + 32 + x.val % 32, by omega⟩ : Fin 128) = x := Fin.ext (col_hi x h).2
    have hp : x.val / 64 < 2 ∧ (1 ≤ x.val / 32 % 2 ∧ x.val / 32 % 2 - 1 < 1) ∧ x.val % 32 < 32 := by omega
    have hq : ¬ (x.val / 64 < 2 ∧ x.val / 32 % 2 < 1 ∧ x.val % 32 < 32) := by omega
    simp only [dif_pos hp, dif_neg hq, add_zero, if_neg h]
    simp only [xd_at]
    simp only [h0, h1, ha]

theorem xw_at : val_main_v69 (F := Ideal) w (ix4 0 0 0 x) = w (ix2 0 x) := by
  pointwise [val_main_v69, val_main_v55]

theorem xvar_at : val_main_v62 (F := Ideal) a (ix4 0 r n 0) = var (hd a (hi r) n) := by
  pointwise [val_main_v56, val_main_v57, val_main_v58, val_main_v59, val_main_v60, val_main_v61, val_main_v62, val_main_cst_7, val_main_cst_8, val_main_cst_9]
  simp only [xh_at]
  rfl

theorem xrs_at : val_main_v63 (F := Ideal) a (ix4 0 r n 0) = Ideal.rsqrt (var (hd a (hi r) n)) := by
  rw [← xvar_at]
  pointwise [val_main_v63]

theorem xy_at : val_main_v68 (F := Ideal) a (ix4 0 r n x) = (hd a (hi r) n) x * Ideal.rsqrt (var (hd a (hi r) n)) := by
  pointwise [val_main_v68, val_main_v67]
  rw [xh_at, xrs_at]

theorem xgw_at : val_main_v124 (F := Ideal) w d (ix4 0 r n x) = (rot r.val (hd d (hi r) n)) x * w (ix2 0 x) := by
  pointwise [val_main_v124, val_main_v123]
  rw [g_at, xw_at]

theorem xcorr_at : val_main_v133 (F := Ideal) a w d (ix4 0 r n 0) = corr (hd a (hi r) n) (fun x => w (ix2 0 x)) (rot r.val (hd d (hi r) n)) := by
  pointwise [val_main_v133, val_main_v132, val_main_cst_16, val_main_v131, val_main_v128, val_main_v127, val_main_cst_15, val_main_v126, val_main_v66, val_main_v65, val_main_cst_10, val_main_v64]
  simp only [xh_at, xgw_at, xrs_at, xvar_at]
  rfl

/-- A sum over two axes of one coordinate each is its one entry. -/
theorem xcorr2_at : val_main_v134 (F := Ideal) a w d (ix2 r n) = corr (hd a (hi r) n) (fun x => w (ix2 0 x)) (rot r.val (hd d (hi r) n)) := by
  rw [← xcorr_at]
  pointwise [val_main_v134, val_main_cst_17]
  rw [Ideal.hostReduceAdd, zero_add]
  refine (Finset.sum_filter_eq_sum_of_fiber _ (fun _ : Fin 1 => ix4 (0 : Fin 1) r n (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨_, rfl⟩
    funext a
    match a with
    | ⟨0, _⟩ => rfl
    | ⟨1, _⟩ => rfl

theorem xdf_at : val_main_v140 (F := Ideal) a w d (ix4 0 r n x) = df (hd a (hi r) n) (fun x => w (ix2 0 x)) (rot r.val (hd d (hi r) n)) x := by
  pointwise [val_main_v140, val_main_v139, val_main_v138, val_main_v137, val_main_v136, val_main_v135, val_main_v130, val_main_v129]
  simp only [xh_at, xgw_at, xrs_at, xcorr2_at]
  rfl

theorem xdwr_at : val_main_v120 (F := Ideal) a d (ix4 0 r n x) = dw (hd a (hi r) n) (rot r.val (hd d (hi r) n)) x := by
  pointwise [val_main_v120]
  rw [xy_at, g_at]
  rfl

/-- The sum over the rows and the heads. -/
theorem xdws_at : val_main_v121 (F := Ideal) a d (ix2 0 x) = ∑ r : Fin 2048, ∑ n : Fin 2, dw (hd a (hi r) n) (rot r.val (hd d (hi r) n)) x := by
  pointwise [val_main_v121, val_main_cst_13]
  rw [Ideal.hostReduceAdd, zero_add]
  refine (Finset.sum_filter_eq_sum_of_fiber _ (fun p : Fin 2048 × Fin 2 => ix4 (0 : Fin 1) p.1 p.2 x)
    (fun p q e => Prod.ext (congrFun e 1) (congrFun e 2)) (fun i => ⟨fun e => ⟨(i 1, i 2), ?_⟩, ?_⟩) _).trans ?_
  · funext a
    match a with
    | ⟨0, _⟩ => exact Subsingleton.elim (α := Fin 1) _ _
    | ⟨1, _⟩ => rfl
    | ⟨2, _⟩ => rfl
    | ⟨3, _⟩ => exact (Fin.ext (congrArg Fin.val (congrFun e 1))).symm
  · rintro ⟨_, rfl⟩
    funext a
    match a with
    | ⟨0, _⟩ => rfl
    | ⟨1, _⟩ => rfl
  · rw [Fintype.sum_prod_type]
    exact Finset.sum_congr rfl fun r _ => Finset.sum_congr rfl fun n _ => xdwr_at a d r n x

theorem xdw_at : val_main_v125 (F := Ideal) a d (ix1 x) = ∑ r : Fin 2048, ∑ n : Fin 2, dw (hd a (hi r) n) (rot r.val (hd d (hi r) n)) x := by
  rw [← xdws_at]
  have h : val_main_v122 (F := Ideal) a d (ix4 0 0 0 x) = val_main_v121 (F := Ideal) a d (ix2 0 x) := by
    pointwise [val_main_v122]
  rw [← h]
  pointwise [val_main_v125, val_main_cst_14]
  rw [Ideal.hostReduceAdd, zero_add]
  refine (Finset.sum_filter_eq_sum_of_fiber _ (fun _ : Fin 1 => ix4 (0 : Fin 1) (0 : Fin 1) (0 : Fin 1) x)
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact (Fin.ext (congrArg Fin.val (congrFun e 0))).symm
  · rintro ⟨_, rfl⟩
    funext a
    match a with
    | ⟨0, _⟩ => rfl

end latent

/-- A row's gradient through its rotation: a context row has none. -/
def grot (R : Fin 2304) (d : Fin 128 → EReal) : Fin 128 → EReal := if R.val < 256 then d else rot (R.val - 256) d

theorem grot_lo (r : Fin 256) (d : Fin 128 → EReal) : grot (lo r) d = d := if_pos r.isLt

theorem grot_hi (r : Fin 2048) (d : Fin 128 → EReal) : grot (hi r) d = rot r.val d :=
  (if_neg (show ¬ 256 + r.val < 256 by omega)).trans (by rw [show (hi r).val - 256 = r.val from Nat.add_sub_cancel_left ..])

/-- A row is a context row or a latent one. -/
theorem lo_or_hi (R : Fin 2304) : (∃ r, R = lo r) ∨ ∃ r, R = hi r := by
  by_cases h : R.val < 256
  · exact .inl ⟨⟨R.val, h⟩, rfl⟩
  · exact .inr ⟨⟨R.val - 256, by omega⟩, Fin.ext (show R.val = 256 + (R.val - 256) by omega)⟩

section both
variable (a : Vec Ideal S2304x256 .f32) (w : Vec Ideal S1x128 .f32) (d : Vec Ideal S2304x256 .f32)

theorem v169_at (r : Fin 256) (n : Fin 2) (x : Fin 128) :
    val_main_v169 (F := Ideal) a w d (ix2 r ⟨n.val * 128 + x.val, by omega⟩)
    = df (hd a (lo r) n) (fun x => w (ix2 0 x)) (hd d (lo r) n) x := by
  rw [← cdf_at]
  pointwise [val_main_v169, val_main_cst_25, val_main_v168]
  exact Fin.sum_univ_one (M := EReal) _

theorem v143_at (r : Fin 2048) (n : Fin 2) (x : Fin 128) :
    val_main_v143 (F := Ideal) a w d (ix2 r ⟨n.val * 128 + x.val, by omega⟩)
    = df (hd a (hi r) n) (fun x => w (ix2 0 x)) (rot r.val (hd d (hi r) n)) x := by
  rw [← xdf_at]
  pointwise [val_main_v143, val_main_cst_18, val_main_v142]
  exact Fin.sum_univ_one (M := EReal) _

theorem v171_at (R : Fin 2304) (n : Fin 2) (x : Fin 128) :
    val_main_v171 (F := Ideal) a w d (ix2 R ⟨n.val * 128 + x.val, by omega⟩)
    = df (hd a R n) (fun x => w (ix2 0 x)) (grot R (hd d R n)) x := by
  rcases lo_or_hi R with ⟨r, rfl⟩ | ⟨r, rfl⟩
  · rw [grot_lo, ← v169_at]
    pointwise [lo, val_main_v171, val_main_v170, val_main_v144, val_main_cst_19, val_main_cst_26]
    exact (congrArg₂ (· + ·) (dif_neg fun e => e.1.1.elim) (dif_pos (by omega))).trans (zero_add _)
  · rw [grot_hi, ← v143_at]
    pointwise [hi, val_main_v171, val_main_v170, val_main_v144, val_main_cst_19, val_main_cst_26]
    exact (congrArg₂ (· + ·) (dif_pos (by omega)) (dif_neg fun e => e.1.elim)).trans (add_zero _)

theorem v167_at (x : Fin 128) : val_main_v167 (F := Ideal) a d (ix2 0 x)
    = ∑ R : Fin 2304, ∑ n : Fin 2, dw (hd a R n) (grot R (hd d R n)) x := by
  refine Eq.trans ?_ (Fin.sum_univ_add (a := 256) (b := 2048)
    fun R => ∑ n : Fin 2, dw (hd a R n) (grot R (hd d R n)) x).symm
  have h1 : val_main_v167 (F := Ideal) a d (ix2 0 x)
      = val_main_v125 (F := Ideal) a d (ix1 x) + val_main_v150 (F := Ideal) a d (ix1 x) := by
    pointwise [val_main_v167, val_main_v141, val_main_v166]
  rw [h1, cdw_at, xdw_at, add_comm]
  refine congrArg₂ (· + ·) (Finset.sum_congr rfl fun r _ => ?_) (Finset.sum_congr rfl fun r _ => ?_)
  · exact Finset.sum_congr rfl fun n _ => (congrArg (fun g => dw (hd a (lo r) n) g x) (grot_lo r _)).symm
  · exact Finset.sum_congr rfl fun n _ => (congrArg (fun g => dw (hd a (hi r) n) g x) (grot_hi r _)).symm

end both

end Cert.KPrep

end
-- ==== Proof.KPrep.lean ====
/-
  The keys' norm and rotation, backward: each of the kernel's two arrays is the reference's. A block's rows are the reference's rows, head by
  head; the weight's gradient is added up over the blocks where the reference adds over the rows.
-/
module

public import proofs.«01_k».proof.Defs
public import proofs.«01_k».proof.Proof.Rope
public import proofs.«01_k».proof.Proof.KPrepTab
public import proofs.«01_k».proof.Proof.KPrepBlock
public import proofs.«01_k».proof.Proof.KPrepRef
public import proofs.«01_k».proof.Proof.Gen.KPrepRIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KPrepKIdeal.KPrep

open Cert.KPrepKIdeal Cert.KPrepKIdeal.Gen Cert.KPrep Cert.Rope
open Cert.KPrepRIdeal.Read

variable (m : (ℓ : Loc nD τ sig) → Buf (Elt Ideal) ℓ)

/-- Where each window stands at a grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

/-- A column of a row is one of the 128 of one of the two heads. -/
theorem split (y : (⟨2, ![256, 256]⟩ : Shape).Idx) :
    ∃ (r : Fin 256) (n : Fin 2) (x : Fin 128), y = ix2 r ⟨n.val * 128 + x.val, by omega⟩ := by
  have h : (y 1).val < 256 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2304 := ⟨t.val * 256 + r.val, by have : t.val < 9 := t.isLt; omega⟩

section rows
variable (c : Dev nD) (t : Fin cfg0.N) (r : Fin 256) (n : Fin 2)

theorem hd0 : hd (iblk m c 0 t) r n = hd (m ((c : Thread nD τ).loc main_arg0)) (row t r) n := by
  funext x; unfold hd row; blk_point [iblk, V, idx t]

theorem hd5 : hd (iblk m c 5 t) r n = hd (m ((c : Thread nD τ).loc main_arg2)) (row t r) n := by
  funext x; unfold hd row; blk_point [iblk, V, idx t]

theorem wt : (fun x : Fin 128 => iblk m c 1 t (ix2 0 x)) = fun x => m ((c : Thread nD τ).loc main_arg1) (ix2 0 x) := by
  funext x; blk_point [iblk, V, idx t]

/-- A block's tables are the rows' own, so that the kernel's form is the rotation. -/
theorem back_at (d : Fin 128 → EReal) : back (iblk m c 2 t) (iblk m c 3 t) (iblk m c 4 t) r d = grot (row t r) d := by
  have h2 : (fun x : Fin 128 => iblk m c 2 t (ix2 r x)) = fun x => V m c main_v40 (ix2 (row t r) x) := by
    funext x; unfold row; blk_point [iblk, idx t]
  have h3 : (fun x : Fin 128 => iblk m c 3 t (ix2 r x)) = fun x => V m c main_v42 (ix2 (row t r) x) := by
    funext x; unfold row; blk_point [iblk, idx t]
  have h4 : (fun x k : Fin 128 => iblk m c 4 t (ix2 x k)) = pm := by
    funext x k
    have e : ((cfg0.win 4).blk t).view.emb (ix2 x k) = ix2 x k := by
      funext a
      match a with
      | ⟨0, _⟩ => (apply Fin.ext; blk_simp [idx t])
      | ⟨1, _⟩ => (apply Fin.ext; blk_simp [idx t])
    exact (congrArg (V m c main_v59) e).trans (pm_at m c x k)
  refine (congr (congr (congrArg turn h2) h3) h4 ▸ rfl : _ = turn (fun x => V m c main_v40 (ix2 (row t r) x))
    (fun x => V m c main_v42 (ix2 (row t r) x)) pm d).trans ?_
  rcases lo_or_hi (row t r) with ⟨s, e⟩ | ⟨s, e⟩
  · rw [e, grot_lo]
    exact (congrFun (congrFun (congr (congrArg turn (funext (cos_lo m c s))) (funext (sin_lo m c s))) pm) d).trans (turn_one d)
  · rw [e, grot_hi]
    exact (congrFun (congrFun (congr (congrArg turn (funext (cos_hi m c s))) (funext (sin_hi m c s))) pm) d).trans (turn_eq _ d)

end rows

set_option maxHeartbeats 1600000 in
/-- The gradient to the heads. -/
theorem final6 (c : Dev nD) : (dats m 0 c).arrAt 6 (cfgs 0).N
    = val_main_v171 (F := Ideal) (m ((c : Thread nD τ).loc main_arg0)) (m ((c : Thread nD τ).loc main_arg1))
      (m ((c : Thread nD τ).loc main_arg2)) := by
  refine (dats m 0 c).arrAt_eq_of_covers 6 _ (by decide +kernel) fun t _ y => ?_
  obtain ⟨r, n, x, rfl⟩ := split y
  have e : ((cfg0.win 6).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v171 (F := Ideal) _ _ _) e).trans (v171_at _ _ _ (row t r) n x)).symm
  rw [← hd0 m c t r n, ← hd5 m c t r n, ← wt m c t, ← back_at m c t r]
  blk_simp
  rw [after0_6]
  by_cases h : t.val % 9 = 0
  all_goals first | rw [outsAt0_A m c t h] | rw [outsAt0_B m c t h]
  all_goals
    frame_out
    exact df_at (iblk m c 0 t) (iblk m c 5 t) (iblk m c 1 t) (iblk m c 2 t) (iblk m c 3 t) (iblk m c 4 t) r n x

theorem lane (j : (⟨2, ![1, 128]⟩ : Shape).Idx) : ∃ x : Fin 128, j = ix2 0 x := by
  refine ⟨j 1, ?_⟩
  funext a
  match a with
  | ⟨0, _⟩ => exact Subsingleton.elim (α := Fin 1) _ _
  | ⟨1, _⟩ => rfl

theorem hzero {x : Fin 128} : k0_pay2 (F := Ideal) (ix2 0 x) = 0 := by
  pointwise [k0_pay2]

set_option maxHeartbeats 1600000 in
/-- The gradient to the weight. -/
theorem final7 (c : Dev nD) : (dats m 0 c).arrAt 7 (cfgs 0).N
    = val_main_v167 (F := Ideal) (m ((c : Thread nD τ).loc main_arg0)) (m ((c : Thread nD τ).loc main_arg2)) := by
  refine (dats m 0 c).arrAt_eq_of_after_last 7 t0_8 (by decide +kernel) _ fun j => ?_
  blk_simp
  rw [after0_7, Pipeline.eq_sum_fin_of_reset_step_apply_last (fun n h => (outsAt0 m c n h).2) 9 (fun _ => 0)
    (fun t j => ∑ r : Fin 256, ∑ n : Fin 2, dw (hd (iblk m c 0 t) r n)
      (back (iblk m c 2 t) (iblk m c 3 t) (iblk m c 4 t) r (hd (iblk m c 5 t) r n)) (j 1))
    (fun t h j => by
      rw [outsAt0_A m c t h]; frame_out
      obtain ⟨x, rfl⟩ := lane j
      exact (dw_at (iblk m c 0 t) (iblk m c 5 t) (iblk m c 2 t) (iblk m c 3 t) (iblk m c 4 t) _ x).trans
        (congrArg (· + _) hzero))
    (fun t h j => by
      rw [outsAt0_B m c t h]; frame_out
      obtain ⟨x, rfl⟩ := lane j
      exact dw_at (iblk m c 0 t) (iblk m c 5 t) (iblk m c 2 t) (iblk m c 3 t) (iblk m c 4 t) _ x)
    (le_of_eq N_0) t0_8 rfl j, zero_add]
  obtain ⟨x, rfl⟩ := lane j
  refine Eq.trans ?_ (v167_at _ _ x).symm
  refine Fin.sum_mul_add_congr fun t r hl => ?_
  simp only [hd0, hd5, back_at]
  rfl

end Cert.KPrepKIdeal.KPrep

namespace Cert.Proof.KPrep

section
open Cert.KPrepRIdeal Cert.KPrepRIdeal.Gen Cert.KPrepRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v171) = val_main_v171 (F := Ideal) (m ((c.tc : Thread nD τ).loc
        main_arg0)) (m ((c.tc : Thread nD τ).loc main_arg1)) (m ((c.tc : Thread nD τ).loc main_arg2))
      ∧ r.2.mem ((c.tc : Thread nD τ).loc main_v167) = val_main_v167 (F := Ideal) (m ((c.tc : Thread nD τ).loc
        main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v171_eq _), (h c).2.1.trans (val_main_v167_eq _), (h c).2.2⟩)
    (Cert.KPrepRIdeal.Value.run (F := Ideal) m ρ)

end

open Cert.KPrepKIdeal.KPrep

set_option maxHeartbeats 1600000 in
/-- From memories that agree on the arguments the kernel and the reference end with the same gradients. -/
theorem algebraic : Cert.algebraic_KPrepKIdeal_KPrepRIdeal := by
  pair_intro
  · run_from Cert.KPrepKIdeal.Gen.run_main m g
  · run_from refRun m' g'
    · exact (final6 m c).symm
    · exact (final7 m c).symm

end Cert.Proof.KPrep

end
-- ==== Proof.Conv.lean ====
/-
  The convolution of a column over its neighbouring rows, with zero where a neighbour is missing, and its gradient: the form
  that looks at the neighbours in a circle and leaves out the ones that are missing, and the form that puts the column into a
  longer one of zeros, three times shifted.
-/
module

public import Idealize.ShloMosaic.Lib.Pipeline.ValueKit
public import Idealize.ShloMosaic.Lib.KernelVsHost

@[expose] public section

set_option maxRecDepth 16384

noncomputable section

open Idealize.ShloMosaic

namespace Cert.Conv

/-- One column of an array. -/
def cl {R C : ℕ} (v : Vec Ideal ⟨2, ![R, C]⟩ .f32) (c : Fin C) : Fin R → EReal := fun r => v (ix2 r c)

variable {N : ℕ}

/-- The row before, in a circle, -/
def bwd (r : Fin N) : Fin N := ⟨(r.val + N - 1) % N, Nat.mod_lt _ (Fin.pos r)⟩

/-- and the row after. -/
def fwd (r : Fin N) : Fin N := ⟨(r.val + N - (N - 1)) % N, Nat.mod_lt _ (Fin.pos r)⟩

/-- The entry before, zero at the first rows, -/
def prv (z : ℕ → Prop) [DecidablePred z] (f : Fin N → EReal) (r : Fin N) : EReal := if z r.val then 0 else f (bwd r)

/-- and the entry after, zero at the last rows. -/
def nxt (l : ℕ → Prop) [DecidablePred l] (f : Fin N → EReal) (r : Fin N) : EReal := if l r.val then 0 else f (fwd r)

/-- The convolution. -/
def cv (z l : ℕ → Prop) [DecidablePred z] [DecidablePred l] (f : Fin N → EReal) (w0 w1 w2 : EReal) (r : Fin N) : EReal :=
  prv z f r * w0 + f r * w1 + nxt l f r * w2

/-- Its gradient: each neighbour takes its own weight along. -/
def bk (z l : ℕ → Prop) [DecidablePred z] [DecidablePred l] (d : Fin N → EReal) (w0 w1 w2 : EReal) (r : Fin N) : EReal :=
  d r * w1 + (if l (bwd r).val then 0 else d (bwd r) * w2) + (if z (fwd r).val then 0 else d (fwd r) * w0)

theorem bwd_val (r : Fin N) : (bwd r).val = if r.val = 0 then N - 1 else r.val - 1 := by
  have := r.isLt
  show (r.val + N - 1) % N = _
  by_cases h : r.val = 0
  · rw [if_pos h, h, Nat.zero_add, Nat.mod_eq_of_lt (by omega)]
  · rw [if_neg h, show r.val + N - 1 = r.val - 1 + N by omega, Nat.add_mod_right, Nat.mod_eq_of_lt (by omega)]

theorem fwd_val (r : Fin N) : (fwd r).val = if r.val = N - 1 then 0 else r.val + 1 := by
  have := r.isLt
  show (r.val + N - (N - 1)) % N = _
  rw [show r.val + N - (N - 1) = r.val + 1 by omega]
  by_cases h : r.val = N - 1
  · rw [if_pos h, h, Nat.sub_add_cancel (by omega), Nat.mod_self]
  · rw [if_neg h, Nat.mod_eq_of_lt (by omega)]

/-- A choice by whether two small numbers are the same. -/
theorem sel_eq {α : Type} (n k : ℕ) (hn : n < 4096) (hk : k < 4096) (a b : α) :
    Scalar.select (IntOp.cmpi CmpIPredicate.eq (BitVec.ofNat 32 n) (BitVec.ofNat 32 k)) a b = if n = k then a else b := by
  have e : BitVec.ofNat 32 n = BitVec.ofNat 32 k ↔ n = k := by
    constructor
    · intro h
      have h := congrArg BitVec.toNat h
      rw [BitVec.toNat_ofNat, BitVec.toNat_ofNat] at h
      omega
    · rintro rfl; rfl
  unfold Scalar.select IntOp.cmpi
  by_cases h : n = k
  · subst h
    simp
  · have h' : ¬ BitVec.ofNat 32 n = BitVec.ofNat 32 k := fun x => h (e.1 x)
    rw [show (BitVec.ofNat 32 n == BitVec.ofNat 32 k) = false from beq_false_of_ne h', if_neg h]
    rfl

/-- A sum over two axes of one coordinate each is its one entry. -/
theorem unit3 {C : ℕ} (v : FVec Ideal ⟨3, ![1, 1, C]⟩ .f32) (i : EReal)
    (h : (⟨3, ![1, 1, C]⟩ : Shape).ReducesTo [0, 1] ⟨1, ![C]⟩) (h0 : i = 0) (c : Fin C) :
    Ideal.hostReduceAdd h v i (ix1 c) = v (ix3 0 0 c) := by
  rw [h0, Ideal.hostReduceAdd, zero_add]
  refine (Finset.sum_filter_eq_sum_of_fiber _ (fun _ : Fin 1 => ix3 (0 : Fin 1) (0 : Fin 1) c)
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact Subsingleton.elim (α := Fin 1) _ _
    | ⟨2, _⟩ => exact (Fin.ext (congrArg Fin.val (congrFun e 0))).symm
  · rintro ⟨_, rfl⟩
    funext a
    match a with
    | ⟨0, _⟩ => rfl

theorem unit4 {R H : ℕ} (v : FVec Ideal ⟨4, ![1, R, H, 1]⟩ .f32) (i : EReal)
    (h : (⟨4, ![1, R, H, 1]⟩ : Shape).ReducesTo [0, 3] ⟨2, ![R, H]⟩) (h0 : i = 0) (r : Fin R) (n : Fin H) :
    Ideal.hostReduceAdd h v i (ix2 r n) = v (ix4 0 r n 0) := by
  rw [h0, Ideal.hostReduceAdd, zero_add]
  refine (Finset.sum_filter_eq_sum_of_fiber _ (fun _ : Fin 1 => ix4 (0 : Fin 1) r n (0 : Fin 1))
    (fun _ _ _ => Subsingleton.elim _ _) (fun i => ⟨fun e => ⟨0, ?_⟩, ?_⟩) _).trans (Fin.sum_univ_one (M := EReal) _)
  · funext a
    match a with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨_, rfl⟩
    funext a
    match a with
    | ⟨0, _⟩ => rfl
    | ⟨1, _⟩ => rfl

/-- One row put among others of zeros. -/
theorem pad_row {C K i j : ℕ} (x : (⟨2, ![1, C]⟩ : Shape).Idx → EReal) {u : Shape} (v : u.Idx → EReal)
    (h : (⟨2, ![1, C]⟩ : Shape).Pads ![i, 0] ![j, 0] ![0, 0] ⟨2, ![K, C]⟩) (hu : 0 < u.numel)
    (hv : v (Shape.Idx.first hu) = 0) (k : Fin K) (c : Fin C) :
    pad ⟨2, ![K, C]⟩ ![i, 0] ![j, 0] ![0, 0] x v h hu (ix2 k c) = if k.val = i then x (ix2 0 c) else 0 := by
  by_cases hk : k.val = i
  · rw [if_pos hk]
    refine pad_apply_of_inside _ _ _ x v h hu _ (ix2 0 c) fun a => ?_
    match a with
    | ⟨0, _⟩ => exact show k.val = i + 0 * (0 + 1) by omega
    | ⟨1, _⟩ => exact show c.val = 0 + c.val * (0 + 1) by omega
  · rw [if_neg hk, ← hv]
    refine pad_apply_of_not_inside _ _ _ x v h hu _ ⟨0, Nat.two_pos⟩ fun e => ?_
    have e1 : i ≤ k.val := e.1
    have e2 : (k.val - i) / (0 + 1) < 1 := e.2.2
    omega

/-- The column between two zeros, one row earlier, -/
theorem prv_dite (f : Fin N → EReal) (r : Fin N) :
    (if h : r.val < 1 then 0 else if h : r.val - 1 < N then f ⟨r.val - 1, h⟩ else 0) = prv (fun k => k = 0) f r := by
  have hr := r.isLt
  unfold prv
  by_cases h : r.val = 0
  · have h1 : r.val < 1 := by omega
    rw [dif_pos h1, if_pos h]
  · have h1 : ¬ r.val < 1 := by omega
    have h2 : r.val - 1 < N := by omega
    rw [dif_neg h1, dif_pos h2, if_neg h]
    exact congrArg f (Fin.ext ((bwd_val r).trans (if_neg h)).symm)

/-- and one row later. -/
theorem nxt_dite (f : Fin N → EReal) (l : ℕ) (hl : l + 1 = N) (r : Fin N) :
    (if h : 2 + r.val < 1 then 0 else if h : 2 + r.val - 1 < N then f ⟨2 + r.val - 1, h⟩ else 0)
      = nxt (fun k => k = l) f r := by
  have hr := r.isLt
  have h1 : ¬ 2 + r.val < 1 := by omega
  unfold nxt
  rw [dif_neg h1]
  by_cases h : r.val = l
  · have h2 : ¬ 2 + r.val - 1 < N := by omega
    rw [dif_neg h2, if_pos h]
  · have h2 : 2 + r.val - 1 < N := by omega
    have h3 : ¬ r.val = N - 1 := by omega
    rw [dif_pos h2, if_neg h]
    have e : (fwd r).val = r.val + 1 := (fwd_val r).trans (if_neg h3)
    exact congrArg f (Fin.ext (show 2 + r.val - 1 = (fwd r).val by omega))

/-- The gradient, the column put into a longer one three times. -/
theorem bk_dite (d e0 e1 e2 : Fin N → EReal) (w0 w1 w2 : EReal) (h0 : ∀ k, e0 k = d k * w0) (h1 : ∀ k, e1 k = d k * w1)
    (h2 : ∀ k, e2 k = d k * w2) (l : ℕ) (hl : l + 1 = N) (r : Fin N) :
    ((if h : 2 ≤ 1 + r.val ∧ 1 + r.val - 2 < N then e2 ⟨1 + r.val - 2, h.2⟩ else 0) + e1 r
      + if h : 1 + r.val < N then e0 ⟨1 + r.val, h⟩ else 0) = bk (fun k => k = 0) (fun k => k = l) d w0 w1 w2 r := by
  have hr := r.isLt
  unfold bk
  refine congrArg₂ (· + ·) ((add_comm _ _).trans (congrArg₂ (· + ·) (h1 r) ?_)) ?_
  · by_cases h : r.val = 0
    · have hp : ¬ (2 ≤ 1 + r.val ∧ 1 + r.val - 2 < N) := by omega
      have hq : (bwd r).val = l := ((bwd_val r).trans (if_pos h)).trans (by omega)
      rw [dif_neg hp, if_pos hq]
    · have hp : 2 ≤ 1 + r.val ∧ 1 + r.val - 2 < N := by omega
      have e : (bwd r).val = r.val - 1 := (bwd_val r).trans (if_neg h)
      have hq : ¬ (bwd r).val = l := by omega
      rw [dif_pos hp, if_neg hq, ← h2]
      exact congrArg e2 (Fin.ext (show 1 + r.val - 2 = (bwd r).val by omega))
  · by_cases h : r.val = N - 1
    · have hp : ¬ 1 + r.val < N := by omega
      have hq : (fwd r).val = 0 := (fwd_val r).trans (if_pos h)
      rw [dif_neg hp, if_pos hq]
    · have hp : 1 + r.val < N := by omega
      have e : (fwd r).val = r.val + 1 := (fwd_val r).trans (if_neg h)
      have hq : ¬ (fwd r).val = 0 := by omega
      rw [dif_pos hp, if_neg hq, ← h0]
      exact congrArg e0 (Fin.ext (show 1 + r.val = (fwd r).val by omega))

/-- The derivative of `g · σ(g)`, times `p`. -/
def dsilu (g p : EReal) : EReal := p * Ideal.logistic g + g * p * (Ideal.logistic g * (1 - Ideal.logistic g))

/-- The same choice by two of them. -/
theorem sel_or {α : Type} (n k l : ℕ) (hn : n < 4096) (hk : k < 4096) (hl : l < 4096) (a b : α) :
    Scalar.select (IntOp.ori (IntOp.cmpi CmpIPredicate.eq (BitVec.ofNat 32 n) (BitVec.ofNat 32 k))
      (IntOp.cmpi CmpIPredicate.eq (BitVec.ofNat 32 n) (BitVec.ofNat 32 l))) a b = if n = k ∨ n = l then a else b := by
  have e : ∀ j, j < 4096 → ((BitVec.ofNat 32 n == BitVec.ofNat 32 j) = true ↔ n = j) := by
    intro j hj
    rw [beq_iff_eq]
    constructor
    · intro h
      have h := congrArg BitVec.toNat h
      rw [BitVec.toNat_ofNat, BitVec.toNat_ofNat] at h
      omega
    · rintro rfl; rfl
  have e1 := e k hk
  have e2 := e l hl
  show (if BitVec.ofBool (BitVec.ofNat 32 n == BitVec.ofNat 32 k) ||| BitVec.ofBool (BitVec.ofNat 32 n == BitVec.ofNat 32 l) = 1#1
    then a else b) = _
  by_cases h1 : n = k
  · rw [e1.2 h1, if_pos (Or.inl h1)]
    cases (BitVec.ofNat 32 n == BitVec.ofNat 32 l) <;> rfl
  · rw [Bool.eq_false_iff.2 (fun h => h1 (e1.1 h))]
    by_cases h2 : n = l
    · rw [e2.2 h2, if_pos (Or.inr h2)]; rfl
    · rw [Bool.eq_false_iff.2 (fun h => h2 (e2.1 h)), if_neg (fun h : n = k ∨ n = l => h.elim h1 h2)]; rfl

section part
variable {n : ℕ} (e : Fin n → Fin N) (o : ℕ) (he : ∀ r, (e r).val = o + r.val) (z l : ℕ → Prop) [DecidablePred z]
  [DecidablePred l] (k : ℕ) (hk : k + 1 = n) (hz : ∀ r, z (e r).val ↔ r.val = 0) (hl : ∀ r, l (e r).val ↔ r.val = k)

include he in
theorem bwd_part (r : Fin n) (h : ¬ r.val = 0) : bwd (e r) = e (bwd r) := by
  have h1 := he r
  have h2 := he (bwd r)
  have h3 := (bwd_val r).trans (if_neg h)
  have h4 : ¬ (e r).val = 0 := by omega
  have h5 := (bwd_val (e r)).trans (if_neg h4)
  exact Fin.ext (by omega)

include he hk in
theorem fwd_part (r : Fin n) (h : ¬ r.val = k) : fwd (e r) = e (fwd r) := by
  have h0 := r.isLt
  have h1 := he r
  have h2 := he (fwd r)
  have h3 : (fwd r).val = r.val + 1 := (fwd_val r).trans (if_neg (by omega))
  have h6 := (e (fwd r)).isLt
  have h4 : ¬ (e r).val = N - 1 := by omega
  have h5 := (fwd_val (e r)).trans (if_neg h4)
  exact Fin.ext (by omega)

include he hz in
/-- The rows of one part: the entry before, -/
theorem prv_part (f : Fin N → EReal) (r : Fin n) : prv (fun k => k = 0) (fun r => f (e r)) r = prv z f (e r) := by
  unfold prv
  by_cases h : r.val = 0
  · rw [if_pos h, if_pos ((hz r).2 h)]
  · rw [if_neg h, if_neg (fun x => h ((hz r).1 x)), bwd_part e o he r h]

include he hk hl in
/-- the entry after, -/
theorem nxt_part (f : Fin N → EReal) (r : Fin n) : nxt (fun j => j = k) (fun r => f (e r)) r = nxt l f (e r) := by
  unfold nxt
  by_cases h : r.val = k
  · rw [if_pos h, if_pos ((hl r).2 h)]
  · rw [if_neg h, if_neg (fun x => h ((hl r).1 x)), fwd_part e o he k hk r h]

include he hk hz hl in
/-- the convolution -/
theorem cv_part (f : Fin N → EReal) (w0 w1 w2 : EReal) (r : Fin n) :
    cv (fun k => k = 0) (fun j => j = k) (fun r => f (e r)) w0 w1 w2 r = cv z l f w0 w1 w2 (e r) := by
  unfold cv
  rw [prv_part e o he z hz, nxt_part e o he l k hk hl]

include he hk hz hl in
/-- and its gradient. -/
theorem bk_part (hb : ∀ r : Fin n, r.val = 0 → l (bwd (e r)).val) (hf : ∀ r : Fin n, r.val = k → z (fwd (e r)).val)
    (d : Fin N → EReal) (w0 w1 w2 : EReal) (r : Fin n) :
    bk (fun k => k = 0) (fun j => j = k) (fun r => d (e r)) w0 w1 w2 r = bk z l d w0 w1 w2 (e r) := by
  have h0 := r.isLt
  unfold bk
  refine congrArg₂ (· + ·) (congrArg (d (e r) * w1 + ·) ?_) ?_
  · by_cases h : r.val = 0
    · have hq : (bwd r).val = k := ((bwd_val r).trans (if_pos h)).trans (by omega)
      rw [if_pos hq, if_pos (hb r h)]
    · rw [bwd_part e o he r h]
      by_cases hq : (bwd r).val = k
      · rw [if_pos hq, if_pos ((hl _).2 hq)]
      · rw [if_neg hq, if_neg (fun x => hq ((hl _).1 x))]
  · by_cases h : r.val = k
    · have hq : (fwd r).val = 0 := (fwd_val r).trans (if_pos (by omega))
      rw [if_pos hq, if_pos (hf r h)]
    · rw [fwd_part e o he k hk r h]
      by_cases hq : (fwd r).val = 0
      · rw [if_pos hq, if_pos ((hz _).2 hq)]
      · rw [if_neg hq, if_neg (fun x => hq ((hz _).1 x))]

end part

end Cert.Conv

end
-- ==== Proof.FfnBlock.lean ====
/-
  The gated convolution backward: what the kernel does with one block of 128 columns of the gate and the same columns of the
  value.
-/
module

public import proofs.«01_k».proof.Defs
public import proofs.«01_k».proof.Proof.Conv
public import proofs.«01_k».proof.Proof.Gen.FfnKIdeal.Skeleton
public import Idealize.ShloMosaic.Lib.Pipeline.ValueKit

@[expose] public section

set_option maxRecDepth 16384

noncomputable section

open Idealize.ShloMosaic

namespace Cert.Ffn

open Cert.FfnKIdeal Cert.FfnKIdeal.Gen Cert.Conv

/-- The first row has none before it, -/
abbrev Z : ℕ → Prop := fun k => k = 0

/-- the last none after it. -/
abbrev L : ℕ → Prop := fun k => k = 2047

/-- A gate's column among all, -/
def lo (c : Fin 2816) : Fin 5632 := ⟨c.val, by omega⟩

/-- and its value's. -/
def hi (c : Fin 2816) : Fin 5632 := ⟨2816 + c.val, by omega⟩

section maths
variable (a : Vec Ideal ⟨2, ![2048, 5632]⟩ .f32) (w : Vec Ideal ⟨2, ![3, 5632]⟩ .f32) (b : Vec Ideal ⟨2, ![1, 5632]⟩ .f32)
  (d : Vec Ideal ⟨2, ![2048, 2816]⟩ .f32)

/-- A column after the convolution and its bias. -/
def pre (c : Fin 5632) (r : Fin 2048) : EReal :=
  cv Z L (cl a c) (w (ix2 0 c)) (w (ix2 1 c)) (w (ix2 2 c)) r + b (ix2 0 c)

/-- The gradient to a gate, -/
def dG (c : Fin 2816) (r : Fin 2048) : EReal := dsilu (pre a w b (lo c) r) (cl d c r * pre a w b (hi c) r)

/-- and to a value. -/
def dV (c : Fin 2816) (r : Fin 2048) : EReal := pre a w b (lo c) r * Ideal.logistic (pre a w b (lo c) r) * cl d c r

end maths

section block
variable (u v ct : Vec Ideal S2048x128 .f32) (w0g w0v w1g w1v w2g w2v bg bv : Vec Ideal S1x128 .f32)

theorem prev_at (r : Fin 2048) (x : Fin 128) : k0_pay9 u (ix2 r x) = prv Z (cl u x) r := by
  have hr := r.isLt
  pointwise [k0_pay9, k0_pay7]
  simp (discharger := omega) only [sel_eq]
  rfl

theorem next_at (r : Fin 2048) (x : Fin 128) : k0_pay10 u (ix2 r x) = nxt L (cl u x) r := by
  have hr := r.isLt
  pointwise [k0_pay10, k0_pay8]
  simp (discharger := omega) only [sel_eq]
  rfl

theorem prev_at' (r : Fin 2048) (x : Fin 128) : k0_pay16 u (ix2 r x) = prv Z (cl u x) r := prev_at u r x

theorem next_at' (r : Fin 2048) (x : Fin 128) : k0_pay17 u (ix2 r x) = nxt L (cl u x) r := next_at u r x

/-- The gate after its convolution, -/
theorem gate_at (r : Fin 2048) (x : Fin 128) :
    k0_pay13 bg (k0_pay10 u) (k0_pay11 u w0g w1g) (k0_pay12 w2g) (ix2 r x)
      = cv Z L (cl u x) (w0g (ix2 0 x)) (w1g (ix2 0 x)) (w2g (ix2 0 x)) r + bg (ix2 0 x) := by
  pointwise [k0_pay13, k0_pay11, k0_pay12, k0_pay1, k0_pay3, k0_pay5]
  rw [prev_at, next_at]
  rfl

variable (a : Vec Ideal ⟨2, ![2048, 5632]⟩ .f32) (w : Vec Ideal ⟨2, ![3, 5632]⟩ .f32) (b : Vec Ideal ⟨2, ![1, 5632]⟩ .f32)
  (d : Vec Ideal ⟨2, ![2048, 2816]⟩ .f32) (x : Fin 128) (c : Fin 2816)
  (hu : cl u x = cl a (lo c)) (hv : cl v x = cl a (hi c)) (hd : cl ct x = cl d c)
  (h0g : w0g (ix2 0 x) = w (ix2 0 (lo c))) (h0v : w0v (ix2 0 x) = w (ix2 0 (hi c)))
  (h1g : w1g (ix2 0 x) = w (ix2 1 (lo c))) (h1v : w1v (ix2 0 x) = w (ix2 1 (hi c)))
  (h2g : w2g (ix2 0 x) = w (ix2 2 (lo c))) (h2v : w2v (ix2 0 x) = w (ix2 2 (hi c)))
  (hbg : bg (ix2 0 x) = b (ix2 0 (lo c))) (hbv : bv (ix2 0 x) = b (ix2 0 (hi c)))

include hu hd h0g h1g h2g hbg in
theorem dv_at : (fun r => k0_pay19 bg (k0_pay10 u) (k0_pay11 u w0g w1g) (k0_pay12 w2g) ct (ix2 r x)) = dV a w b d c := by
  funext r
  pointwise [k0_pay19, k0_pay18]
  rw [gate_at, hu, h0g, h1g, h2g, hbg]
  exact congrArg _ (congrFun hd r)

include hu hv hd h0g h0v h1g h1v h2g h2v hbg hbv in
theorem dg_at : (fun r =>
    (k0_pay20 v (k0_pay2 w0v) (k0_pay4 w1v) (k0_pay6 w2v) bg bv (k0_pay10 u) (k0_pay11 u w0g w1g) (k0_pay12 w2g) ct) (ix2 r x))
      = dG a w b d c := by
  funext r
  pointwise [k0_pay20, k0_pay18, k0_pay2, k0_pay4, k0_pay6]
  rw [gate_at, prev_at', next_at', hu, hv, h0g, h1g, h2g, hbg, h0v, h1v, h2v, hbv]
  unfold dG dsilu
  rw [← hd]
  unfold pre cv
  rw [← hv]
  rfl

end block

section sums
variable (u d : Vec Ideal S2048x128 .f32) (w0 w1 w2 : Vec Ideal S1x128 .f32) (x : Fin 128) (e : Fin 2048 → EReal)
  (h : (fun r => d (ix2 r x)) = e)

include h in
/-- The gradient to the columns, from the gradient after the convolution. -/
theorem back_at (r : Fin 2048) : k0_pay32 (k0_pay1 w0) (k0_pay3 w1) (k0_pay5 w2) k0_pay7 k0_pay8 d (ix2 r x)
    = bk Z L e (w0 (ix2 0 x)) (w1 (ix2 0 x)) (w2 (ix2 0 x)) r := by
  subst h
  have hr := r.isLt
  pointwise [k0_pay32, k0_pay1, k0_pay3, k0_pay5, k0_pay7, k0_pay8]
  simp (discharger := omega) only [sel_eq]
  rfl

include h in
/-- A sum of the gradient's rows times a block's. -/
theorem sum_at : k0_pay30 u d (ix2 0 x) = ∑ r, cl u x r * e r := by
  subst h
  pointwise [k0_pay30]
  rfl

include h in
theorem sum1_at : k0_pay28 (F := Ideal) d (ix2 0 x) = ∑ r, e r := by
  subst h
  pointwise [k0_pay28]

end sums

section results
variable (u v ct : Vec Ideal S2048x128 .f32) (w0g w0v w1g w1v w2g w2v bg bv : Vec Ideal S1x128 .f32)
  (a : Vec Ideal ⟨2, ![2048, 5632]⟩ .f32) (w : Vec Ideal ⟨2, ![3, 5632]⟩ .f32) (b : Vec Ideal ⟨2, ![1, 5632]⟩ .f32)
  (d : Vec Ideal ⟨2, ![2048, 2816]⟩ .f32) (x : Fin 128) (c : Fin 2816)
  (hu : cl u x = cl a (lo c)) (hv : cl v x = cl a (hi c)) (hd : cl ct x = cl d c)
  (h0g : w0g (ix2 0 x) = w (ix2 0 (lo c))) (h0v : w0v (ix2 0 x) = w (ix2 0 (hi c)))
  (h1g : w1g (ix2 0 x) = w (ix2 1 (lo c))) (h1v : w1v (ix2 0 x) = w (ix2 1 (hi c)))
  (h2g : w2g (ix2 0 x) = w (ix2 2 (lo c))) (h2v : w2v (ix2 0 x) = w (ix2 2 (hi c)))
  (hbg : bg (ix2 0 x) = b (ix2 0 (lo c))) (hbv : bv (ix2 0 x) = b (ix2 0 (hi c)))

include hu hv hd h0g h0v h1g h1v h2g h2v hbg hbv in
theorem dug_at (r : Fin 2048) :
    k0_pay32 (k0_pay1 w0g) (k0_pay3 w1g) (k0_pay5 w2g) k0_pay7 k0_pay8 (k0_pay20 v (k0_pay2 w0v) (k0_pay4 w1v)
    (k0_pay6 w2v) bg bv (k0_pay10 u) (k0_pay11 u w0g w1g) (k0_pay12 w2g) ct) (ix2 r x)
      = bk Z L (dG a w b d c) (w (ix2 0 (lo c))) (w (ix2 1 (lo c))) (w (ix2 2 (lo c))) r :=
  (back_at _ w0g w1g w2g x _ (dg_at u v ct w0g w0v w1g w1v w2g w2v bg bv a w b d x c hu hv hd h0g h0v h1g h1v h2g h2v hbg hbv) r).trans (by rw [h0g, h1g, h2g])

include hu hv hd h0g h1g h2g hbg h0v h1v h2v in
theorem duv_at (r : Fin 2048) :
    k0_pay27 (k0_pay2 w0v) k0_pay14 k0_pay15 (k0_pay19 bg (k0_pay10 u) (k0_pay11 u w0g w1g) (k0_pay12 w2g) ct)
    (k0_pay23 (k0_pay6 w2v) bg (k0_pay10 u) (k0_pay11 u w0g w1g) (k0_pay12 w2g) ct) (k0_pay25 (k0_pay4 w1v)) (ix2 r x)
      = bk Z L (dV a w b d c) (w (ix2 0 (hi c))) (w (ix2 1 (hi c))) (w (ix2 2 (hi c))) r :=
  (back_at _ w0v w1v w2v x _ (dv_at u ct w0g w1g w2g bg a w b d x c hu hd h0g h1g h2g hbg) r).trans (by rw [h0v, h1v, h2v])

include hu hv hd h0g h0v h1g h1v h2g h2v hbg hbv in
theorem dw0g_at :
    k0_pay31 (k0_pay9 u) (k0_pay20 v (k0_pay2 w0v) (k0_pay4 w1v) (k0_pay6 w2v) bg bv (k0_pay10 u) (k0_pay11 u w0g w1g)
    (k0_pay12 w2g) ct) (ix2 0 x)
      = ∑ r, prv Z (cl a (lo c)) r * dG a w b d c r :=
  (sum_at (k0_pay9 u) _ x _ (dg_at u v ct w0g w0v w1g w1v w2g w2v bg bv a w b d x c hu hv hd h0g h0v h1g h1v h2g h2v hbg hbv)).trans
    (Finset.sum_congr rfl fun r _ => congrArg (· * _) ((prev_at u r x).trans (by rw [hu])))

include hu hv hd h0g h1g h2g hbg h0v h1v h2v in
theorem dw0v_at :
    k0_pay26 (k0_pay16 v) (k0_pay19 bg (k0_pay10 u) (k0_pay11 u w0g w1g) (k0_pay12 w2g) ct) (ix2 0 x)
      = ∑ r, prv Z (cl a (hi c)) r * dV a w b d c r :=
  (sum_at (k0_pay9 v) _ x _ (dv_at u ct w0g w1g w2g bg a w b d x c hu hd h0g h1g h2g hbg)).trans
    (Finset.sum_congr rfl fun r _ => congrArg (· * _) ((prev_at v r x).trans (by rw [hv])))

include hu hv hd h0g h0v h1g h1v h2g h2v hbg hbv in
theorem dw1g_at :
    k0_pay30 u (k0_pay20 v (k0_pay2 w0v) (k0_pay4 w1v) (k0_pay6 w2v) bg bv (k0_pay10 u) (k0_pay11 u w0g w1g) (k0_pay12
    w2g) ct) (ix2 0 x)
      = ∑ r, cl a (lo c) r * dG a w b d c r :=
  (sum_at u _ x _ (dg_at u v ct w0g w0v w1g w1v w2g w2v bg bv a w b d x c hu hv hd h0g h0v h1g h1v h2g h2v hbg hbv)).trans (by rw [hu])

include hu hv hd h0g h1g h2g hbg h0v h1v h2v in
theorem dw1v_at :
    k0_pay24 v bg (k0_pay10 u) (k0_pay11 u w0g w1g) (k0_pay12 w2g) ct (ix2 0 x)
      = ∑ r, cl a (hi c) r * dV a w b d c r :=
  (sum_at v _ x _ (dv_at u ct w0g w1g w2g bg a w b d x c hu hd h0g h1g h2g hbg)).trans (by rw [hv])

include hu hv hd h0g h0v h1g h1v h2g h2v hbg hbv in
theorem dw2g_at :
    k0_pay29 (k0_pay10 u) (k0_pay20 v (k0_pay2 w0v) (k0_pay4 w1v) (k0_pay6 w2v) bg bv (k0_pay10 u) (k0_pay11 u w0g
    w1g) (k0_pay12 w2g) ct) (ix2 0 x)
      = ∑ r, nxt L (cl a (lo c)) r * dG a w b d c r :=
  (sum_at (k0_pay10 u) _ x _ (dg_at u v ct w0g w0v w1g w1v w2g w2v bg bv a w b d x c hu hv hd h0g h0v h1g h1v h2g h2v hbg hbv)).trans
    (Finset.sum_congr rfl fun r _ => congrArg (· * _) ((next_at u r x).trans (by rw [hu])))

include hu hv hd h0g h1g h2g hbg h0v h1v h2v in
theorem dw2v_at :
    k0_pay22 v bg (k0_pay10 u) (k0_pay11 u w0g w1g) (k0_pay12 w2g) ct (ix2 0 x)
      = ∑ r, nxt L (cl a (hi c)) r * dV a w b d c r :=
  (sum_at (k0_pay10 v) _ x _ (dv_at u ct w0g w1g w2g bg a w b d x c hu hd h0g h1g h2g hbg)).trans
    (Finset.sum_congr rfl fun r _ => congrArg (· * _) ((next_at v r x).trans (by rw [hv])))

include hu hv hd h0g h0v h1g h1v h2g h2v hbg hbv in
theorem dbg_at :
    k0_pay28 (k0_pay20 v (k0_pay2 w0v) (k0_pay4 w1v) (k0_pay6 w2v) bg bv (k0_pay10 u) (k0_pay11 u w0g w1g) (k0_pay12
    w2g) ct) (ix2 0 x)
      = ∑ r, dG a w b d c r :=
  sum1_at _ x _ (dg_at u v ct w0g w0v w1g w1v w2g w2v bg bv a w b d x c hu hv hd h0g h0v h1g h1v h2g h2v hbg hbv)

include hu hv hd h0g h1g h2g hbg h0v h1v h2v in
theorem dbv_at :
    k0_pay21 bg (k0_pay10 u) (k0_pay11 u w0g w1g) (k0_pay12 w2g) ct (ix2 0 x)
      = ∑ r, dV a w b d c r :=
  sum1_at _ x _ (dv_at u ct w0g w1g w2g bg a w b d x c hu hd h0g h1g h2g hbg)

end results

end Cert.Ffn

end
-- ==== Proof.FfnRef.lean ====
/-
  The gated convolution backward: what the reference computes, by columns.
-/
module

public import proofs.«01_k».proof.Defs
public import proofs.«01_k».proof.Proof.FfnBlock
public import proofs.«01_k».proof.Proof.Gen.FfnRIdeal.Read
public import Idealize.ShloMosaic.Lib.Pipeline.ValueKit

@[expose] public section

set_option maxRecDepth 16384

noncomputable section

open Idealize.ShloMosaic

namespace Cert.Ffn

open Cert.FfnRIdeal Cert.FfnRIdeal.Read Cert.Conv

variable (a : Vec Ideal ⟨2, ![2048, 5632]⟩ .f32) (w : Vec Ideal ⟨2, ![3, 5632]⟩ .f32) (b : Vec Ideal ⟨2, ![1, 5632]⟩ .f32)
  (d : Vec Ideal ⟨2, ![2048, 2816]⟩ .f32)

theorem rprev_at (r : Fin 2048) (c : Fin 5632) : val_main_v6 (F := Ideal) a (ix3 0 r c) = prv (fun k => k = 0) (cl a c) r := by
  have hr := r.isLt
  pointwise [val_main_v6, val_main_v3, val_main_v2, val_main_cst, val_main_v0]
  exact prv_dite (cl a c) r

theorem rself_at (r : Fin 2048) (c : Fin 5632) : val_main_v12 (F := Ideal) a (ix3 0 r c) = cl a c r := by
  have hr := r.isLt
  pointwise [val_main_v12, val_main_v3, val_main_v2, val_main_cst, val_main_v0]
  rfl

theorem rnext_at (r : Fin 2048) (c : Fin 5632) : val_main_v19 (F := Ideal) a (ix3 0 r c) = nxt (fun k => k = 2047) (cl a c) r := by
  have hr := r.isLt
  pointwise [val_main_v19, val_main_v3, val_main_v2, val_main_cst, val_main_v0]
  exact nxt_dite (cl a c) 2047 rfl r

theorem rconv_at (r : Fin 2048) (c : Fin 5632) : val_main_v25 (F := Ideal) a w (ix3 0 r c)
    = cv (fun k => k = 0) (fun k => k = 2047) (cl a c) (w (ix2 0 c)) (w (ix2 1 c)) (w (ix2 2 c)) r := by
  pointwise [val_main_v25, val_main_v18, val_main_v11, val_main_v10, val_main_v9, val_main_v8, val_main_v7, val_main_v17, val_main_v16, val_main_v15, val_main_v14, val_main_v13, val_main_v24, val_main_v23, val_main_v22, val_main_v21, val_main_v20]
  rw [rprev_at, rself_at, rnext_at]
  rfl

/-- The gradient after the convolution, by columns. -/
def rD (c : Fin 5632) (r : Fin 2048) : EReal := val_main_v38 (F := Ideal) a w b d (ix3 0 r c)

theorem rnext_sum (c : Fin 5632) : @Eq EReal (val_main_v48 (F := Ideal) a w b d (ix2 0 c)) (∑ r, nxt (fun k => k = 2047) (cl a c) r * rD a w b d c r) := by
  pointwise [val_main_v48, val_main_v47]
  refine (unit3 _ _ _ (by pointwise [val_main_cst_5]) c).trans ?_
  pointwise [val_main_v44, val_main_v43, val_main_v42, val_main_cst_4]
  simp only [rnext_at]
  rfl

theorem rself_sum (c : Fin 5632) : @Eq EReal (val_main_v57 (F := Ideal) a w b d (ix2 0 c)) (∑ r, cl a c r * rD a w b d c r) := by
  pointwise [val_main_v57, val_main_v56]
  refine (unit3 _ _ _ (by pointwise [val_main_cst_9]) c).trans ?_
  pointwise [val_main_v53, val_main_v52, val_main_v51, val_main_cst_8]
  simp only [rself_at]
  rfl

theorem rprev_sum (c : Fin 5632) : @Eq EReal (val_main_v68 (F := Ideal) a w b d (ix2 0 c)) (∑ r, prv (fun k => k = 0) (cl a c) r * rD a w b d c r) := by
  pointwise [val_main_v68, val_main_v67]
  refine (unit3 _ _ _ (by pointwise [val_main_cst_13]) c).trans ?_
  pointwise [val_main_v64, val_main_v63, val_main_v62, val_main_cst_12]
  simp only [rprev_at]
  rfl

theorem rback_ref (r : Fin 2048) (c : Fin 5632) : val_main_v74 (F := Ideal) a w b d (ix3 0 r c)
    = bk (fun k => k = 0) (fun k => k = 2047) (rD a w b d c) (w (ix2 0 c)) (w (ix2 1 c)) (w (ix2 2 c)) r := by
  have hr := r.isLt
  pointwise [val_main_v74, val_main_v72, val_main_v61, val_main_v50, val_main_cst_7, val_main_v60, val_main_cst_11, val_main_v71, val_main_cst_15]
  refine bk_dite (rD a w b d c) (fun k => val_main_v66 (F := Ideal) a w b d (ix3 0 k c)) (fun k => val_main_v55 (F := Ideal) a w b d (ix3 0 k c))
    (fun k => val_main_v46 (F := Ideal) a w b d (ix3 0 k c)) _ _ _ (fun k => ?_) (fun k => ?_) (fun k => ?_) 2047 rfl r
  · pointwise [val_main_v66, val_main_v65, val_main_v9, val_main_v8, val_main_v7]
    rfl
  · pointwise [val_main_v55, val_main_v54, val_main_v15, val_main_v14, val_main_v13]
    rfl
  · pointwise [val_main_v46, val_main_v45, val_main_v22, val_main_v21, val_main_v20]
    rfl

/-- A column after the convolution and its bias. -/
theorem pre_at (r : Fin 2048) (c : Fin 5632) : val_main_v28 (F := Ideal) a w b (ix3 0 r c) = pre a w b c r := by
  pointwise [val_main_v28, val_main_v27, val_main_v26, val_main_v1]
  rw [rconv_at]
  rfl

theorem gate_ref (r : Fin 2048) (c : Fin 2816) : val_main_v29 (F := Ideal) a w b (ix3 0 r c) = pre a w b (lo c) r := by
  rw [← pre_at]
  pointwise [val_main_v29]
  rfl

theorem value_ref (r : Fin 2048) (c : Fin 2816) : val_main_v30 (F := Ideal) a w b (ix3 0 r c) = pre a w b (hi c) r := by
  rw [← pre_at]
  pointwise [val_main_v30]
  rfl

theorem dg_ref (c : Fin 2816) : rD a w b d (lo c) = dG a w b d c := by
  funext r
  have hc := c.isLt
  unfold rD lo
  pointwise [val_main_v38, val_main_v37, val_main_call1_v1, val_main_v36, val_main_v34, val_main_v31_2, val_main_call0_v4, val_main_call0_cst_0, val_main_call0_v3, val_main_call0_v2, val_main_call0_cst, val_main_call0_v1, val_main_call0_v0, val_main_call1_v2, val_main_call1_v0, val_main_v31_1, val_main_call0_v7, val_main_call0_v6, val_main_call0_cst_1, val_main_v35, val_main_v31_0]
  simp only [gate_ref, value_ref]
  rfl

theorem dv_ref (c : Fin 2816) : rD a w b d (hi c) = dV a w b d c := by
  funext r
  have hc := c.isLt
  unfold rD hi
  pointwise [val_main_v38, val_main_v37, val_main_call1_v1, val_main_v36, val_main_v34, val_main_v31_2, val_main_call0_v4, val_main_call0_cst_0, val_main_call0_v3, val_main_call0_v2, val_main_call0_cst, val_main_call0_v1, val_main_call0_v0, val_main_call1_v2, val_main_call1_v0, val_main_v31_1, val_main_call0_v7, val_main_call0_v6, val_main_call0_cst_1, val_main_v35, val_main_v31_0]
  simp only [gate_ref, value_ref]
  rfl

theorem bias_ref (c : Fin 5632) : @Eq EReal (val_main_v76 (F := Ideal) a w b d (ix2 0 c)) (∑ r, rD a w b d c r) := by
  pointwise [val_main_v76, val_main_v41]
  refine (unit3 _ _ _ (by pointwise [val_main_cst_3]) c).trans ?_
  pointwise [val_main_v40, val_main_v39, val_main_cst_2]
  rfl

/-- The weights' gradients, each put in its row. -/
theorem v70_at (k : Fin 3) (c : Fin 5632) : val_main_v70 (F := Ideal) a w b d (ix2 k c)
    = (if k.val = 2 then val_main_v48 (F := Ideal) a w b d (ix2 0 c) else 0) + (if k.val = 1 then val_main_v57 (F := Ideal) a w b d (ix2 0 c) else 0)
      + if k.val = 0 then val_main_v68 (F := Ideal) a w b d (ix2 0 c) else 0 := by
  pointwise [val_main_v70, val_main_v59]
  exact congrArg₂ (· + ·) (congrArg₂ (· + ·) (pad_row _ _ _ _ (by pointwise [val_main_cst_6]) k c)
    (pad_row _ _ _ _ (by pointwise [val_main_cst_10]) k c)) (pad_row _ _ _ _ (by pointwise [val_main_cst_14]) k c)

theorem row0_at (c : Fin 5632) : val_main_v70 (F := Ideal) a w b d (ix2 0 c) = val_main_v68 (F := Ideal) a w b d (ix2 0 c) :=
  (v70_at a w b d 0 c).trans ((congrArg₂ (· + ·) (congrArg₂ (· + ·) (if_neg (by decide)) (if_neg (by decide))) (if_pos rfl)).trans
    (by simp only [zero_add, add_zero]))

theorem row1_at (c : Fin 5632) : val_main_v70 (F := Ideal) a w b d (ix2 1 c) = val_main_v57 (F := Ideal) a w b d (ix2 0 c) :=
  (v70_at a w b d 1 c).trans ((congrArg₂ (· + ·) (congrArg₂ (· + ·) (if_neg (by decide)) (if_pos rfl)) (if_neg (by decide))).trans
    (by simp only [zero_add, add_zero]))

theorem row2_at (c : Fin 5632) : val_main_v70 (F := Ideal) a w b d (ix2 2 c) = val_main_v48 (F := Ideal) a w b d (ix2 0 c) :=
  (v70_at a w b d 2 c).trans ((congrArg₂ (· + ·) (congrArg₂ (· + ·) (if_pos rfl) (if_neg (by decide))) (if_neg (by decide))).trans
    (by simp only [zero_add, add_zero]))

theorem v78_at (r : Fin 2048) (c : Fin 2816) : val_main_v78 (F := Ideal) a w b d (ix2 r c)
    = bk Z L (dG a w b d c) (w (ix2 0 (lo c))) (w (ix2 1 (lo c))) (w (ix2 2 (lo c))) r := by
  rw [← dg_ref, ← rback_ref]
  pointwise [val_main_v78, val_main_v77, val_main_cst_16]
  exact (Fin.sum_univ_one (M := EReal) _)

theorem v79_at (r : Fin 2048) (c : Fin 2816) : val_main_v79 (F := Ideal) a w b d (ix2 r c)
    = bk Z L (dV a w b d c) (w (ix2 0 (hi c))) (w (ix2 1 (hi c))) (w (ix2 2 (hi c))) r := by
  rw [← dv_ref, ← rback_ref]
  pointwise [val_main_v79, val_main_v77, val_main_cst_16]
  exact (Fin.sum_univ_one (M := EReal) _)

theorem v81_at (c : Fin 2816) : @Eq EReal (val_main_v81 (F := Ideal) a w b d (ix2 0 c))
    (∑ r, prv Z (cl a (lo c)) r * dG a w b d c r) := by
  rw [← dg_ref]
  refine Eq.trans ?_ (rprev_sum a w b d (lo c))
  rw [← row0_at]
  pointwise [val_main_v81, val_main_v80]
  rfl

theorem v82_at (c : Fin 2816) : @Eq EReal (val_main_v82 (F := Ideal) a w b d (ix2 0 c))
    (∑ r, prv Z (cl a (hi c)) r * dV a w b d c r) := by
  rw [← dv_ref]
  refine Eq.trans ?_ (rprev_sum a w b d (hi c))
  rw [← row0_at]
  pointwise [val_main_v82, val_main_v80]
  rfl

theorem v84_at (c : Fin 2816) : @Eq EReal (val_main_v84 (F := Ideal) a w b d (ix2 0 c))
    (∑ r, cl a (lo c) r * dG a w b d c r) := by
  rw [← dg_ref]
  refine Eq.trans ?_ (rself_sum a w b d (lo c))
  rw [← row1_at]
  pointwise [val_main_v84, val_main_v83]
  rfl

theorem v85_at (c : Fin 2816) : @Eq EReal (val_main_v85 (F := Ideal) a w b d (ix2 0 c))
    (∑ r, cl a (hi c) r * dV a w b d c r) := by
  rw [← dv_ref]
  refine Eq.trans ?_ (rself_sum a w b d (hi c))
  rw [← row1_at]
  pointwise [val_main_v85, val_main_v83]
  rfl

theorem v87_at (c : Fin 2816) : @Eq EReal (val_main_v87 (F := Ideal) a w b d (ix2 0 c))
    (∑ r, nxt L (cl a (lo c)) r * dG a w b d c r) := by
  rw [← dg_ref]
  refine Eq.trans ?_ (rnext_sum a w b d (lo c))
  rw [← row2_at]
  pointwise [val_main_v87, val_main_v86]
  rfl

theorem v88_at (c : Fin 2816) : @Eq EReal (val_main_v88 (F := Ideal) a w b d (ix2 0 c))
    (∑ r, nxt L (cl a (hi c)) r * dV a w b d c r) := by
  rw [← dv_ref]
  refine Eq.trans ?_ (rnext_sum a w b d (hi c))
  rw [← row2_at]
  pointwise [val_main_v88, val_main_v86]
  rfl

theorem v89_at (c : Fin 2816) : @Eq EReal (val_main_v89 (F := Ideal) a w b d (ix2 0 c))
    (∑ r, dG a w b d c r) := by
  rw [← dg_ref]
  refine Eq.trans ?_ (bias_ref a w b d (lo c))
  pointwise [val_main_v89]
  rfl

theorem v90_at (c : Fin 2816) : @Eq EReal (val_main_v90 (F := Ideal) a w b d (ix2 0 c))
    (∑ r, dV a w b d c r) := by
  rw [← dv_ref]
  refine Eq.trans ?_ (bias_ref a w b d (hi c))
  pointwise [val_main_v90]
  rfl

end Cert.Ffn

end
-- ==== Proof.Ffn.lean ====
/-
  The gated convolution backward: each of the kernel's ten arrays is the reference's. A block's columns are 128 columns of the
  gate and the same columns of the value.
-/
module

public import proofs.«01_k».proof.Proof.FfnBlock
public import proofs.«01_k».proof.Proof.FfnRef
public import proofs.«01_k».proof.Proof.Gen.FfnKIdeal.Value
public import proofs.«01_k».proof.Proof.Gen.FfnRIdeal.Run
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnKIdeal.Ffn

open Cert.FfnKIdeal Cert.FfnKIdeal.Gen Cert.Ffn Cert.Conv
open Cert.FfnRIdeal.Read

variable (m : (ℓ : Loc nD τ sig) → Buf (Elt Ideal) ℓ)

/-- Where each window stands at a grid point. -/
theorem idx : ∀ t : Fin cfg0.N, win0_0.index t = ![0, t.val] ∧ win0_1.index t = ![0, 22 + t.val] ∧ win0_2.index t = ![0, t.val]
    ∧ win0_3.index t = ![0, 22 + t.val] ∧ win0_4.index t = ![0, t.val] ∧ win0_5.index t = ![0, 22 + t.val]
    ∧ win0_6.index t = ![0, t.val] ∧ win0_7.index t = ![0, 22 + t.val] ∧ win0_8.index t = ![0, t.val]
    ∧ win0_9.index t = ![0, 22 + t.val] ∧ win0_10.index t = ![0, t.val] ∧ win0_11.index t = ![0, t.val]
    ∧ win0_12.index t = ![0, t.val] ∧ win0_13.index t = ![0, t.val] ∧ win0_14.index t = ![0, t.val]
    ∧ win0_15.index t = ![0, t.val] ∧ win0_16.index t = ![0, t.val] ∧ win0_17.index t = ![0, t.val]
    ∧ win0_18.index t = ![0, t.val] ∧ win0_19.index t = ![0, t.val] ∧ win0_20.index t = ![0, t.val] :=
  (by decide +kernel : ∀ t : Fin grid0.N, _)

/-- The gate's column that is column `x` of block `t`. -/
def col (t : Fin cfg0.N) (x : Fin 128) : Fin 2816 := ⟨t.val * 128 + x.val, by have : t.val < 22 := t.isLt; omega⟩

/-- An index of a block of columns. -/
theorem pair {R : ℕ} (y : (⟨2, ![R, 128]⟩ : Shape).Idx) : ∃ (r : Fin R) (x : Fin 128), y = ix2 r x := by
  refine ⟨y 0, y 1, ?_⟩
  funext a
  match a with
  | ⟨0, _⟩ => rfl
  | ⟨1, _⟩ => rfl

section host
variable (c : Dev nD) (k : Fin 5632)

theorem w0_at : V m c main_v0 (ix2 0 k) = m ((c : Thread nD τ).loc main_arg1) (ix2 0 k) := by
  unfold V
  after_reads_simp
  pointwise []

theorem w1_at : V m c main_v1 (ix2 0 k) = m ((c : Thread nD τ).loc main_arg1) (ix2 1 k) := by
  unfold V
  after_reads_simp
  pointwise []

theorem w2_at : V m c main_v2 (ix2 0 k) = m ((c : Thread nD τ).loc main_arg1) (ix2 2 k) := by
  unfold V
  after_reads_simp
  pointwise []

end host

section cols
variable (c : Dev nD) (t : Fin cfg0.N) (x : Fin 128)

theorem h0 : cl (iblk m c 0 t) x = cl (m ((c : Thread nD τ).loc main_arg0)) (lo (col t x)) := by
  funext r
  refine Eq.trans ?_ (congrArg (fun v => cl v (lo (col t x)) r) (V_main_arg0 m c))
  unfold cl lo col; blk_point [iblk, idx t]

theorem h1 : cl (iblk m c 1 t) x = cl (m ((c : Thread nD τ).loc main_arg0)) (hi (col t x)) := by
  funext r
  refine Eq.trans ?_ (congrArg (fun v => cl v (hi (col t x)) r) (V_main_arg0 m c))
  unfold cl hi col; blk_point [iblk, idx t]

theorem h10 : cl (iblk m c 10 t) x = cl (m ((c : Thread nD τ).loc main_arg3)) (col t x) := by
  funext r
  refine Eq.trans ?_ (congrArg (fun v => cl v (col t x) r) (V_main_arg3 m c))
  unfold cl  col; blk_point [iblk, idx t]

theorem h2 : iblk m c 2 t (ix2 0 x) = (m ((c : Thread nD τ).loc main_arg1)) (ix2 0 (lo (col t x))) := by
  refine Eq.trans ?_ (w0_at m c (lo (col t x)))
  unfold lo col; blk_point [iblk, idx t]

theorem h3 : iblk m c 3 t (ix2 0 x) = (m ((c : Thread nD τ).loc main_arg1)) (ix2 0 (hi (col t x))) := by
  refine Eq.trans ?_ (w0_at m c (hi (col t x)))
  unfold hi col; blk_point [iblk, idx t]

theorem h4 : iblk m c 4 t (ix2 0 x) = (m ((c : Thread nD τ).loc main_arg1)) (ix2 1 (lo (col t x))) := by
  refine Eq.trans ?_ (w1_at m c (lo (col t x)))
  unfold lo col; blk_point [iblk, idx t]

theorem h5 : iblk m c 5 t (ix2 0 x) = (m ((c : Thread nD τ).loc main_arg1)) (ix2 1 (hi (col t x))) := by
  refine Eq.trans ?_ (w1_at m c (hi (col t x)))
  unfold hi col; blk_point [iblk, idx t]

theorem h6 : iblk m c 6 t (ix2 0 x) = (m ((c : Thread nD τ).loc main_arg1)) (ix2 2 (lo (col t x))) := by
  refine Eq.trans ?_ (w2_at m c (lo (col t x)))
  unfold lo col; blk_point [iblk, idx t]

theorem h7 : iblk m c 7 t (ix2 0 x) = (m ((c : Thread nD τ).loc main_arg1)) (ix2 2 (hi (col t x))) := by
  refine Eq.trans ?_ (w2_at m c (hi (col t x)))
  unfold hi col; blk_point [iblk, idx t]

theorem h8 : iblk m c 8 t (ix2 0 x) = (m ((c : Thread nD τ).loc main_arg2)) (ix2 0 (lo (col t x))) := by
  refine Eq.trans ?_ (congrArg (fun v : Vec Ideal ⟨2, ![1, 5632]⟩ .f32 => v (ix2 0 (lo (col t x)))) (V_main_arg2 m c))
  unfold lo col; blk_point [iblk, idx t]

theorem h9 : iblk m c 9 t (ix2 0 x) = (m ((c : Thread nD τ).loc main_arg2)) (ix2 0 (hi (col t x))) := by
  refine Eq.trans ?_ (congrArg (fun v : Vec Ideal ⟨2, ![1, 5632]⟩ .f32 => v (ix2 0 (hi (col t x)))) (V_main_arg2 m c))
  unfold hi col; blk_point [iblk, idx t]

end cols

set_option maxHeartbeats 1600000 in
/-- The gradient to the gate, -/
theorem final11 (c : Dev nD) : (dats m 0 c).arrAt 11 (cfgs 0).N
    = val_main_v78 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 11 _ (by decide +kernel) fun t _ y => ?_
  obtain ⟨r, x, rfl⟩ := pair y
  have e : ((cfg0.win 11).blk t).view.emb (ix2 r x) = ix2 r (col t x) := by
    funext a
    match a with
    | ⟨0, _⟩ => (apply Fin.ext; blk_simp [idx t])
    | ⟨1, _⟩ => (apply Fin.ext; blk_simp [idx t]; rfl)
  refine Eq.trans ?_ ((congrArg (val_main_v78 (F := Ideal) _ _ _ _) e).trans (v78_at _ _ _ _ r (col t x))).symm
  blk_simp
  rw [after0_11]
  unfold_out out0_11
  frame_out
  exact dug_at (iblk m c 0 t) (iblk m c 1 t) (iblk m c 10 t) (iblk m c 2 t) (iblk m c 3 t) (iblk m c 4 t) (iblk m c 5 t)
    (iblk m c 6 t) (iblk m c 7 t) (iblk m c 8 t) (iblk m c 9 t) (m ((c : Thread nD τ).loc main_arg0)) (m ((c : Thread
    nD τ).loc main_arg1)) (m ((c : Thread nD τ).loc main_arg2)) (m ((c : Thread nD τ).loc main_arg3)) x (col t x) (h0
    m c t x) (h1 m c t x) (h10 m c t x) (h2 m c t x) (h3 m c t x) (h4 m c t x) (h5 m c t x) (h6 m c t x) (h7 m c t x)
    (h8 m c t x) (h9 m c t x) r

set_option maxHeartbeats 1600000 in
/-- to the value, -/
theorem final12 (c : Dev nD) : (dats m 0 c).arrAt 12 (cfgs 0).N
    = val_main_v79 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 12 _ (by decide +kernel) fun t _ y => ?_
  obtain ⟨r, x, rfl⟩ := pair y
  have e : ((cfg0.win 12).blk t).view.emb (ix2 r x) = ix2 r (col t x) := by
    funext a
    match a with
    | ⟨0, _⟩ => (apply Fin.ext; blk_simp [idx t])
    | ⟨1, _⟩ => (apply Fin.ext; blk_simp [idx t]; rfl)
  refine Eq.trans ?_ ((congrArg (val_main_v79 (F := Ideal) _ _ _ _) e).trans (v79_at _ _ _ _ r (col t x))).symm
  blk_simp
  rw [after0_12]
  unfold_out out0_12
  frame_out
  exact duv_at (iblk m c 0 t) (iblk m c 1 t) (iblk m c 10 t) (iblk m c 2 t) (iblk m c 3 t) (iblk m c 4 t) (iblk m c 5 t)
    (iblk m c 6 t) (iblk m c 7 t) (iblk m c 8 t) (m ((c : Thread nD τ).loc main_arg0)) (m ((c : Thread nD τ).loc
    main_arg1)) (m ((c : Thread nD τ).loc main_arg2)) (m ((c : Thread nD τ).loc main_arg3)) x (col t x) (h0 m c t x)
    (h1 m c t x) (h10 m c t x) (h2 m c t x) (h3 m c t x) (h4 m c t x) (h5 m c t x) (h6 m c t x) (h7 m c t x) (h8 m c t
    x) r

set_option maxHeartbeats 1600000 in
/-- to the first weight, the gate's columns, -/
theorem final13 (c : Dev nD) : (dats m 0 c).arrAt 13 (cfgs 0).N
    = val_main_v81 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 13 _ (by decide +kernel) fun t _ y => ?_
  obtain ⟨r, x, rfl⟩ := pair y
  obtain rfl : r = 0 := Subsingleton.elim (α := Fin 1) _ _
  have e : ((cfg0.win 13).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v81 (F := Ideal) _ _ _ _) e).trans (v81_at _ _ _ _ (col t x))).symm
  blk_simp
  rw [after0_13]
  unfold_out out0_13
  frame_out
  exact dw0g_at (iblk m c 0 t) (iblk m c 1 t) (iblk m c 10 t) (iblk m c 2 t) (iblk m c 3 t) (iblk m c 4 t) (iblk m c 5 t)
    (iblk m c 6 t) (iblk m c 7 t) (iblk m c 8 t) (iblk m c 9 t) (m ((c : Thread nD τ).loc main_arg0)) (m ((c : Thread
    nD τ).loc main_arg1)) (m ((c : Thread nD τ).loc main_arg2)) (m ((c : Thread nD τ).loc main_arg3)) x (col t x) (h0
    m c t x) (h1 m c t x) (h10 m c t x) (h2 m c t x) (h3 m c t x) (h4 m c t x) (h5 m c t x) (h6 m c t x) (h7 m c t x)
    (h8 m c t x) (h9 m c t x)

set_option maxHeartbeats 1600000 in
/-- and the value's, -/
theorem final14 (c : Dev nD) : (dats m 0 c).arrAt 14 (cfgs 0).N
    = val_main_v82 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 14 _ (by decide +kernel) fun t _ y => ?_
  obtain ⟨r, x, rfl⟩ := pair y
  obtain rfl : r = 0 := Subsingleton.elim (α := Fin 1) _ _
  have e : ((cfg0.win 14).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v82 (F := Ideal) _ _ _ _) e).trans (v82_at _ _ _ _ (col t x))).symm
  blk_simp
  rw [after0_14]
  unfold_out out0_14
  frame_out
  exact dw0v_at (iblk m c 0 t) (iblk m c 1 t) (iblk m c 10 t) (iblk m c 2 t) (iblk m c 3 t) (iblk m c 4 t) (iblk m c 5 t)
    (iblk m c 6 t) (iblk m c 7 t) (iblk m c 8 t) (m ((c : Thread nD τ).loc main_arg0)) (m ((c : Thread nD τ).loc
    main_arg1)) (m ((c : Thread nD τ).loc main_arg2)) (m ((c : Thread nD τ).loc main_arg3)) x (col t x) (h0 m c t x)
    (h1 m c t x) (h10 m c t x) (h2 m c t x) (h3 m c t x) (h4 m c t x) (h5 m c t x) (h6 m c t x) (h7 m c t x) (h8 m c t
    x)

set_option maxHeartbeats 1600000 in
/-- to the second weight, the gate's columns, -/
theorem final15 (c : Dev nD) : (dats m 0 c).arrAt 15 (cfgs 0).N
    = val_main_v84 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 15 _ (by decide +kernel) fun t _ y => ?_
  obtain ⟨r, x, rfl⟩ := pair y
  obtain rfl : r = 0 := Subsingleton.elim (α := Fin 1) _ _
  have e : ((cfg0.win 15).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v84 (F := Ideal) _ _ _ _) e).trans (v84_at _ _ _ _ (col t x))).symm
  blk_simp
  rw [after0_15]
  unfold_out out0_15
  frame_out
  exact dw1g_at (iblk m c 0 t) (iblk m c 1 t) (iblk m c 10 t) (iblk m c 2 t) (iblk m c 3 t) (iblk m c 4 t) (iblk m c 5 t)
    (iblk m c 6 t) (iblk m c 7 t) (iblk m c 8 t) (iblk m c 9 t) (m ((c : Thread nD τ).loc main_arg0)) (m ((c : Thread
    nD τ).loc main_arg1)) (m ((c : Thread nD τ).loc main_arg2)) (m ((c : Thread nD τ).loc main_arg3)) x (col t x) (h0
    m c t x) (h1 m c t x) (h10 m c t x) (h2 m c t x) (h3 m c t x) (h4 m c t x) (h5 m c t x) (h6 m c t x) (h7 m c t x)
    (h8 m c t x) (h9 m c t x)

set_option maxHeartbeats 1600000 in
/-- and the value's, -/
theorem final16 (c : Dev nD) : (dats m 0 c).arrAt 16 (cfgs 0).N
    = val_main_v85 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 16 _ (by decide +kernel) fun t _ y => ?_
  obtain ⟨r, x, rfl⟩ := pair y
  obtain rfl : r = 0 := Subsingleton.elim (α := Fin 1) _ _
  have e : ((cfg0.win 16).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v85 (F := Ideal) _ _ _ _) e).trans (v85_at _ _ _ _ (col t x))).symm
  blk_simp
  rw [after0_16]
  unfold_out out0_16
  frame_out
  exact dw1v_at (iblk m c 0 t) (iblk m c 1 t) (iblk m c 10 t) (iblk m c 2 t) (iblk m c 3 t) (iblk m c 4 t) (iblk m c 5 t)
    (iblk m c 6 t) (iblk m c 7 t) (iblk m c 8 t) (m ((c : Thread nD τ).loc main_arg0)) (m ((c : Thread nD τ).loc
    main_arg1)) (m ((c : Thread nD τ).loc main_arg2)) (m ((c : Thread nD τ).loc main_arg3)) x (col t x) (h0 m c t x)
    (h1 m c t x) (h10 m c t x) (h2 m c t x) (h3 m c t x) (h4 m c t x) (h5 m c t x) (h6 m c t x) (h7 m c t x) (h8 m c t
    x)

set_option maxHeartbeats 1600000 in
/-- to the third weight, the gate's columns, -/
theorem final17 (c : Dev nD) : (dats m 0 c).arrAt 17 (cfgs 0).N
    = val_main_v87 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 17 _ (by decide +kernel) fun t _ y => ?_
  obtain ⟨r, x, rfl⟩ := pair y
  obtain rfl : r = 0 := Subsingleton.elim (α := Fin 1) _ _
  have e : ((cfg0.win 17).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v87 (F := Ideal) _ _ _ _) e).trans (v87_at _ _ _ _ (col t x))).symm
  blk_simp
  rw [after0_17]
  unfold_out out0_17
  frame_out
  exact dw2g_at (iblk m c 0 t) (iblk m c 1 t) (iblk m c 10 t) (iblk m c 2 t) (iblk m c 3 t) (iblk m c 4 t) (iblk m c 5 t)
    (iblk m c 6 t) (iblk m c 7 t) (iblk m c 8 t) (iblk m c 9 t) (m ((c : Thread nD τ).loc main_arg0)) (m ((c : Thread
    nD τ).loc main_arg1)) (m ((c : Thread nD τ).loc main_arg2)) (m ((c : Thread nD τ).loc main_arg3)) x (col t x) (h0
    m c t x) (h1 m c t x) (h10 m c t x) (h2 m c t x) (h3 m c t x) (h4 m c t x) (h5 m c t x) (h6 m c t x) (h7 m c t x)
    (h8 m c t x) (h9 m c t x)

set_option maxHeartbeats 1600000 in
/-- and the value's, -/
theorem final18 (c : Dev nD) : (dats m 0 c).arrAt 18 (cfgs 0).N
    = val_main_v88 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 18 _ (by decide +kernel) fun t _ y => ?_
  obtain ⟨r, x, rfl⟩ := pair y
  obtain rfl : r = 0 := Subsingleton.elim (α := Fin 1) _ _
  have e : ((cfg0.win 18).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v88 (F := Ideal) _ _ _ _) e).trans (v88_at _ _ _ _ (col t x))).symm
  blk_simp
  rw [after0_18]
  unfold_out out0_18
  frame_out
  exact dw2v_at (iblk m c 0 t) (iblk m c 1 t) (iblk m c 10 t) (iblk m c 2 t) (iblk m c 3 t) (iblk m c 4 t) (iblk m c 5 t)
    (iblk m c 6 t) (iblk m c 7 t) (iblk m c 8 t) (m ((c : Thread nD τ).loc main_arg0)) (m ((c : Thread nD τ).loc
    main_arg1)) (m ((c : Thread nD τ).loc main_arg2)) (m ((c : Thread nD τ).loc main_arg3)) x (col t x) (h0 m c t x)
    (h1 m c t x) (h10 m c t x) (h2 m c t x) (h3 m c t x) (h4 m c t x) (h5 m c t x) (h6 m c t x) (h7 m c t x) (h8 m c t
    x)

set_option maxHeartbeats 1600000 in
/-- and to the bias, the gate's columns, -/
theorem final19 (c : Dev nD) : (dats m 0 c).arrAt 19 (cfgs 0).N
    = val_main_v89 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 19 _ (by decide +kernel) fun t _ y => ?_
  obtain ⟨r, x, rfl⟩ := pair y
  obtain rfl : r = 0 := Subsingleton.elim (α := Fin 1) _ _
  have e : ((cfg0.win 19).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v89 (F := Ideal) _ _ _ _) e).trans (v89_at _ _ _ _ (col t x))).symm
  blk_simp
  rw [after0_19]
  unfold_out out0_19
  frame_out
  exact dbg_at (iblk m c 0 t) (iblk m c 1 t) (iblk m c 10 t) (iblk m c 2 t) (iblk m c 3 t) (iblk m c 4 t) (iblk m c 5 t)
    (iblk m c 6 t) (iblk m c 7 t) (iblk m c 8 t) (iblk m c 9 t) (m ((c : Thread nD τ).loc main_arg0)) (m ((c : Thread
    nD τ).loc main_arg1)) (m ((c : Thread nD τ).loc main_arg2)) (m ((c : Thread nD τ).loc main_arg3)) x (col t x) (h0
    m c t x) (h1 m c t x) (h10 m c t x) (h2 m c t x) (h3 m c t x) (h4 m c t x) (h5 m c t x) (h6 m c t x) (h7 m c t x)
    (h8 m c t x) (h9 m c t x)

set_option maxHeartbeats 1600000 in
/-- and the value's. -/
theorem final20 (c : Dev nD) : (dats m 0 c).arrAt 20 (cfgs 0).N
    = val_main_v90 (F := Ideal) (m ((c : Thread nD τ).loc main_arg0)) (m ((c : Thread nD τ).loc main_arg1)) (m ((c : Thread nD τ).loc
      main_arg2)) (m ((c : Thread nD τ).loc main_arg3)) := by
  refine (dats m 0 c).arrAt_eq_of_covers 20 _ (by decide +kernel) fun t _ y => ?_
  obtain ⟨r, x, rfl⟩ := pair y
  obtain rfl : r = 0 := Subsingleton.elim (α := Fin 1) _ _
  have e : ((cfg0.win 20).blk t).view.emb (ix2 0 x) = ix2 0 (col t x) := by
    funext a
    match a with
    | ⟨0, _⟩ => (apply Fin.ext; blk_simp [idx t])
    | ⟨1, _⟩ => (apply Fin.ext; blk_simp [idx t]; rfl)
  refine Eq.trans ?_ ((congrArg (val_main_v90 (F := Ideal) _ _ _ _) e).trans (v90_at _ _ _ _ (col t x))).symm
  blk_simp
  rw [after0_20]
  unfold_out out0_20
  frame_out
  exact dbv_at (iblk m c 0 t) (iblk m c 1 t) (iblk m c 10 t) (iblk m c 2 t) (iblk m c 3 t) (iblk m c 4 t) (iblk m c 5 t)
    (iblk m c 6 t) (iblk m c 7 t) (iblk m c 8 t) (m ((c : Thread nD τ).loc main_arg0)) (m ((c : Thread nD τ).loc
    main_arg1)) (m ((c : Thread nD τ).loc main_arg2)) (m ((c : Thread nD τ).loc main_arg3)) x (col t x) (h0 m c t x)
    (h1 m c t x) (h10 m c t x) (h2 m c t x) (h3 m c t x) (h4 m c t x) (h5 m c t x) (h6 m c t x) (h7 m c t x) (h8 m c t
    x)

end Cert.FfnKIdeal.Ffn

namespace Cert.Proof.Ffn

section
open Cert.FfnRIdeal Cert.FfnRIdeal.Gen Cert.FfnRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = val_main_v78 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v79) = val_main_v79 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v81) = val_main_v81 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v82) = val_main_v82 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v84) = val_main_v84 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v85) = val_main_v85 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v87) = val_main_v87 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v88) = val_main_v88 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v89) = val_main_v89 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_v90) = val_main_v90 (F := Ideal) (m ((c.tc : Thread nD τ).loc
        main_arg0)) (m ((c.tc : Thread nD τ).loc main_arg1)) (m ((c.tc : Thread nD τ).loc main_arg2)) (m ((c.tc :
        Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v78_eq m c), (h c).2.1.trans (val_main_v79_eq m c), (h c).2.2.1.trans (val_main_v81_eq
    m c), (h c).2.2.2.1.trans (val_main_v82_eq m c), (h c).2.2.2.2.1.trans (val_main_v84_eq m c), (h
    c).2.2.2.2.2.1.trans (val_main_v85_eq m c), (h c).2.2.2.2.2.2.1.trans (val_main_v87_eq m c), (h
    c).2.2.2.2.2.2.2.1.trans (val_main_v88_eq m c), (h c).2.2.2.2.2.2.2.2.1.trans (val_main_v89_eq m c), (h
    c).2.2.2.2.2.2.2.2.2.1.trans (val_main_v90_eq m c), (h c).2.2.2.2.2.2.2.2.2.2⟩)
    (Cert.FfnRIdeal.Value.run (F := Ideal) m ρ)

end

open Cert.FfnKIdeal.Ffn

set_option maxHeartbeats 1600000 in
/-- From memories that agree on the arguments the kernel and the reference end with the same gradients. -/
theorem algebraic : Cert.algebraic_FfnKIdeal_FfnRIdeal := by
  pair_intro
  · run_from Cert.FfnKIdeal.Value.run_blocks m g
  · run_from refRun m' g'
    · exact (final11 m c).symm
    · exact (final12 m c).symm
    · exact (final13 m c).symm
    · exact (final14 m c).symm
    · exact (final15 m c).symm
    · exact (final16 m c).symm
    · exact (final17 m c).symm
    · exact (final18 m c).symm
    · exact (final19 m c).symm
    · exact (final20 m c).symm

end Cert.Proof.Ffn

end
-- ==== Proof.GdnPrepBlock.lean ====
/-
  The convolution, gate and norm before the delta rule, backward: what the kernel does with one block of 128 columns, which is
  one head of the queries, the keys or the values.
-/
module

public import proofs.«01_k».proof.Defs
public import proofs.«01_k».proof.Proof.Conv
public import proofs.«01_k».proof.Proof.Gen.GdnPrepKIdeal.Skeleton
public import Idealize.ShloMosaic.Lib.Pipeline.ValueKit

@[expose] public section

set_option maxRecDepth 16384

noncomputable section

open Idealize.ShloMosaic

namespace Cert.GdnPrep

open Cert.GdnPrepKIdeal Cert.GdnPrepKIdeal.Gen Cert.Conv

/-- The first context row and the first latent row have none before them, -/
abbrev Z : ℕ → Prop := fun k => k = 0 ∨ k = 256

/-- the last ones none after them. -/
abbrev L : ℕ → Prop := fun k => k = 255 ∨ k = 2303

/-- A head's column among all. -/
def co (g : Fin 24) (x : Fin 128) : Fin 3072 := ⟨g.val * 128 + x.val, by omega⟩

/-- The scale of the queries. -/
def scale : EReal := Ideal.ofBits .f32 0x3DB504F3#32

/-- A head after its gate, -/
def hs (f : Fin 128 → EReal) (x : Fin 128) : EReal := f x * Ideal.logistic (f x)

/-- its sum of squares with the small constant, -/
def var (s : Fin 128 → EReal) : EReal := (∑ x, s x * s x) + Ideal.ofBits .f32 0x358637BD#32

/-- and what the sum of squares passes on. -/
def corr (s d : Fin 128 → EReal) : EReal :=
  (∑ x, s x * d x) * (Ideal.ofBits .f32 0xBF000000#32 * Ideal.div (Ideal.rsqrt (var s)) (var s))

/-- The gradient through the norm. -/
def gr (s d : Fin 128 → EReal) (x : Fin 128) : EReal := d x * Ideal.rsqrt (var s) + s x * corr s d + corr s d * s x

/-- The same with the scale taken along by the root. -/
theorem gr_scaled (s d : Fin 128 → EReal) (k : EReal) (x : Fin 128) : gr s (fun y => d y * k) x
      = d x * (Ideal.rsqrt (var s) * k)
        + s x * ((∑ y, s y * d y * k) * (Ideal.ofBits .f32 0xBF000000#32 * Ideal.div (Ideal.rsqrt (var s)) (var s)))
        + (∑ y, s y * d y * k) * (Ideal.ofBits .f32 0xBF000000#32 * Ideal.div (Ideal.rsqrt (var s)) (var s)) * s x := by
  have e : (∑ y, s y * (d y * k)) = ∑ y, s y * d y * k := Finset.sum_congr rfl fun y _ => (mul_assoc _ _ _).symm
  unfold gr corr
  rw [e, mul_comm (Ideal.rsqrt (var s)) k, ← mul_assoc (d x)]

/-- The gradient to a head after its gate: the queries are normed and scaled, the keys normed, the values neither. -/
def dS (g : Fin 24) (s d : Fin 128 → EReal) : Fin 128 → EReal :=
  if g.val < 8 then gr s (fun x => d x * scale) else if g.val < 16 then gr s d else d

section maths
variable (a : Vec Ideal ⟨2, ![2304, 3072]⟩ .f32) (w : Vec Ideal ⟨2, ![3, 3072]⟩ .f32) (d : Vec Ideal ⟨2, ![2304, 3072]⟩ .f32)

/-- A column after the convolution. -/
def pre (c : Fin 3072) (r : Fin 2304) : EReal := cv Z L (cl a c) (w (ix2 0 c)) (w (ix2 1 c)) (w (ix2 2 c)) r

/-- The gradient to a head after the convolution. -/
def dF (g : Fin 24) (x : Fin 128) (r : Fin 2304) : EReal :=
  dsilu (pre a w (co g x) r) (dS g (hs fun y => pre a w (co g y) r) (fun y => d (ix2 r (co g y))) x)

end maths

section block
variable (u ct : Vec Ideal S2304x128 .f32) (w0 w1 w2 nf sc : Vec Ideal S1x128 .f32)

theorem prev_at (r : Fin 2304) (x : Fin 128) : k0_pay8 u (ix2 r x) = prv Z (cl u x) r := by
  have hr := r.isLt
  pointwise [k0_pay8, k0_pay6]
  simp (discharger := omega) only [sel_or]
  rfl

theorem next_at (r : Fin 2304) (x : Fin 128) : k0_pay9 u (ix2 r x) = nxt L (cl u x) r := by
  have hr := r.isLt
  pointwise [k0_pay9, k0_pay7]
  simp (discharger := omega) only [sel_or]
  rfl

/-- The head after its convolution. -/
theorem conv_at (r : Fin 2304) (x : Fin 128) :
    k0_pay10 u w0 w1 w2 (ix2 r x) = cv Z L (cl u x) (w0 (ix2 0 x)) (w1 (ix2 0 x)) (w2 (ix2 0 x)) r := by
  pointwise [k0_pay10, k0_pay3, k0_pay4, k0_pay5]
  rw [prev_at, next_at]
  rfl

/-- The gradient after the convolution where the head is normed, -/
theorem normed_at (r : Fin 2304) (x : Fin 128) (k : EReal) (hn : ∀ y : Fin 128, nf (ix2 0 y) = 1)
    (hs' : ∀ y : Fin 128, sc (ix2 0 y) = k) : k0_pay13 nf sc (k0_pay10 u w0 w1 w2) (k0_pay11 u w0 w1 w2) (k0_pay12 u w0 w1 w2) ct (ix2 r x)
      = dsilu (k0_pay10 u w0 w1 w2 (ix2 r x)) (gr (hs fun y => k0_pay10 u w0 w1 w2 (ix2 r y)) (fun y => ct (ix2 r y) * k) x) := by
  rw [gr_scaled]
  pointwise [k0_pay13, k0_pay12, k0_pay11]
  simp only [hn, hs', zero_lt_one, if_true, Fin.sum_univ_one]
  rfl

/-- and where it is not. -/
theorem plain_at (r : Fin 2304) (x : Fin 128) (hn : ∀ y : Fin 128, nf (ix2 0 y) = 0) : k0_pay13 nf sc (k0_pay10 u w0 w1 w2) (k0_pay11 u w0 w1 w2) (k0_pay12 u w0 w1 w2) ct (ix2 r x)
      = dsilu (k0_pay10 u w0 w1 w2 (ix2 r x)) (ct (ix2 r x)) := by
  pointwise [k0_pay13, k0_pay12, k0_pay11]
  simp only [hn, lt_irrefl, if_false, zero_mul, Finset.sum_const_zero, mul_zero, mul_one, add_zero]
  rfl

variable (a : Vec Ideal ⟨2, ![2304, 3072]⟩ .f32) (w : Vec Ideal ⟨2, ![3, 3072]⟩ .f32) (d : Vec Ideal ⟨2, ![2304, 3072]⟩ .f32)
  (g : Fin 24) (hu : ∀ y, cl u y = cl a (co g y)) (hd : ∀ y, cl ct y = cl d (co g y))
  (h0 : ∀ y, w0 (ix2 0 y) = w (ix2 0 (co g y))) (h1 : ∀ y, w1 (ix2 0 y) = w (ix2 1 (co g y)))
  (h2 : ∀ y, w2 (ix2 0 y) = w (ix2 2 (co g y))) (hn : ∀ y : Fin 128, nf (ix2 0 y) = if g.val < 16 then 1 else 0)
  (hk : ∀ y : Fin 128, sc (ix2 0 y) = if g.val < 8 then scale else 1)

include hu hd h0 h1 h2 hn hk in
/-- The gradient to a head after its convolution. -/
theorem grad_at (x : Fin 128) (r : Fin 2304) : (k0_pay13 nf sc (k0_pay10 u w0 w1 w2) (k0_pay11 u w0 w1 w2) (k0_pay12 u w0 w1 w2) ct) (ix2 r x) = dF a w d g x r := by
  have hp : ∀ y, k0_pay10 u w0 w1 w2 (ix2 r y) = pre a w (co g y) r := fun y => by
    rw [conv_at, hu, h0, h1, h2]
    rfl
  have hc : ∀ y, ct (ix2 r y) = d (ix2 r (co g y)) := fun y => congrFun (hd y) r
  unfold dF dS
  by_cases h : g.val < 8
  · rw [if_pos h, normed_at u ct w0 w1 w2 nf sc r x scale (fun y => (hn y).trans (if_pos (by omega))) fun y => (hk y).trans (if_pos h)]
    simp only [hp, hc]
  · rw [if_neg h]
    by_cases h' : g.val < 16
    · rw [if_pos h', normed_at u ct w0 w1 w2 nf sc r x 1 (fun y => (hn y).trans (if_pos h')) fun y => (hk y).trans (if_neg h)]
      simp only [hp, hc, mul_one]
    · rw [if_neg h', plain_at u ct w0 w1 w2 nf sc r x fun y => (hn y).trans (if_neg h'), hp, hc]

include hu hd h0 h1 h2 hn hk in
/-- The gradient to the columns. -/
theorem dx_at (r : Fin 2304) (x : Fin 128) :
    k0_pay2 (k0_pay3 w0) (k0_pay4 w1) k0_pay6 k0_pay7 (k0_pay13 nf sc (k0_pay10 u w0 w1 w2) (k0_pay11 u w0 w1 w2)
    (k0_pay12 u w0 w1 w2) ct) (k0_pay15 (k0_pay5 w2) nf sc (k0_pay10 u w0 w1 w2) (k0_pay11 u w0 w1 w2) (k0_pay12 u w0
    w1 w2) ct) (ix2 r x)
      = bk Z L (dF a w d g x) (w (ix2 0 (co g x))) (w (ix2 1 (co g x))) (w (ix2 2 (co g x))) r := by
  have hr := r.isLt
  pointwise [k0_pay2, k0_pay15, k0_pay3, k0_pay4, k0_pay5, k0_pay6, k0_pay7]
  simp (discharger := omega) only [sel_or]
  simp only [grad_at u ct w0 w1 w2 nf sc a w d g hu hd h0 h1 h2 hn hk, h0, h1, h2]
  rfl

include hu hd h0 h1 h2 hn hk in
/-- The gradient to the first weight, -/
theorem dw0_at (x : Fin 128) :
    k0_pay1 (k0_pay8 u) (k0_pay13 nf sc (k0_pay10 u w0 w1 w2) (k0_pay11 u w0 w1 w2) (k0_pay12 u w0 w1 w2) ct) (ix2 0 x)
      = ∑ r, prv Z (cl a (co g x)) r * dF a w d g x r := by
  pointwise [k0_pay1]
  simp only [grad_at u ct w0 w1 w2 nf sc a w d g hu hd h0 h1 h2 hn hk, prev_at u]
  rw [← hu]

include hu hd h0 h1 h2 hn hk in
/-- to the second -/
theorem dw1_at (x : Fin 128) :
    k0_pay16 u nf sc (k0_pay10 u w0 w1 w2) (k0_pay11 u w0 w1 w2) (k0_pay12 u w0 w1 w2) ct (ix2 0 x)
      = ∑ r, cl a (co g x) r * dF a w d g x r := by
  pointwise [k0_pay16]
  simp only [grad_at u ct w0 w1 w2 nf sc a w d g hu hd h0 h1 h2 hn hk]
  rw [← hu]
  rfl

include hu hd h0 h1 h2 hn hk in
/-- and to the third. -/
theorem dw2_at (x : Fin 128) :
    k0_pay14 nf sc (k0_pay9 u) (k0_pay10 u w0 w1 w2) (k0_pay11 u w0 w1 w2) (k0_pay12 u w0 w1 w2) ct (ix2 0 x)
      = ∑ r, nxt L (cl a (co g x)) r * dF a w d g x r := by
  pointwise [k0_pay14]
  simp only [grad_at u ct w0 w1 w2 nf sc a w d g hu hd h0 h1 h2 hn hk, next_at u]
  rw [← hu]

end block

end Cert.GdnPrep

end
-- ==== Proof.GdnPrepRef.lean ====
/-
  The convolution, gate and norm before the delta rule, backward: what the reference computes, by columns, of the context's rows
  and of the latents' rows.
-/
module

public import proofs.«01_k».proof.Defs
public import proofs.«01_k».proof.Proof.GdnPrepBlock
public import proofs.«01_k».proof.Proof.Gen.GdnPrepRIdeal.Read
public import Idealize.ShloMosaic.Lib.Pipeline.ValueKit

@[expose] public section

set_option maxRecDepth 16384

noncomputable section

open Idealize.ShloMosaic

namespace Cert.GdnPrep

open Cert.GdnPrepRIdeal Cert.GdnPrepRIdeal.Read Cert.Conv

/-- A context row among all rows, -/
def lo (r : Fin 256) : Fin 2304 := ⟨r.val, by omega⟩

/-- and a latent row. -/
def hi (r : Fin 2048) : Fin 2304 := ⟨256 + r.val, by omega⟩

/-- Head `n` of the queries, of the keys or of the values. -/
def hd (j : Fin 3) (n : Fin 8) : Fin 24 := ⟨j.val * 8 + n.val, by omega⟩

theorem heads (g : Fin 24) : (∃ n, g = hd 0 n) ∨ (∃ n, g = hd 1 n) ∨ ∃ n, g = hd 2 n := by
  by_cases h : g.val < 8
  · exact .inl ⟨⟨g.val, h⟩, Fin.ext (show g.val = 0 * 8 + g.val by omega)⟩
  · by_cases h' : g.val < 16
    · exact .inr (.inl ⟨⟨g.val - 8, by omega⟩, Fin.ext (show g.val = 1 * 8 + (g.val - 8) by omega)⟩)
    · exact .inr (.inr ⟨⟨g.val - 16, by omega⟩, Fin.ext (show g.val = 2 * 8 + (g.val - 16) by omega)⟩)

theorem hd0 (n : Fin 8) : (hd 0 n).val < 8 := show 0 * 8 + n.val < 8 by omega

theorem hd1 (n : Fin 8) : ¬ (hd 1 n).val < 8 ∧ (hd 1 n).val < 16 :=
  show ¬ 1 * 8 + n.val < 8 ∧ 1 * 8 + n.val < 16 by omega

theorem hd2 (n : Fin 8) : ¬ (hd 2 n).val < 8 ∧ ¬ (hd 2 n).val < 16 :=
  show ¬ 2 * 8 + n.val < 8 ∧ ¬ 2 * 8 + n.val < 16 by omega

theorem lo_or_hi (R : Fin 2304) : (∃ r, R = lo r) ∨ ∃ r, R = hi r := by
  by_cases h : R.val < 256
  · exact .inl ⟨⟨R.val, h⟩, rfl⟩
  · exact .inr ⟨⟨R.val - 256, by omega⟩, Fin.ext (show R.val = 256 + (R.val - 256) by omega)⟩

variable (a : Vec Ideal ⟨2, ![2304, 3072]⟩ .f32) (w : Vec Ideal ⟨2, ![3, 3072]⟩ .f32) (d : Vec Ideal ⟨2, ![2304, 3072]⟩ .f32)

/-- A column's rows of this part. -/
def xl (v : Vec Ideal ⟨2, ![2304, 3072]⟩ .f32) (c : Fin 3072) : Fin 2048 → EReal := fun r => v (ix2 (hi r) c)

theorem xprev_at (r : Fin 2048) (c : Fin 3072) : val_main_v63 (F := Ideal) a (ix3 0 r c) = prv (fun k => k = 0) (xl a c) r := by
  have hr := r.isLt
  pointwise [val_main_v63, val_main_v60, val_main_v59, val_main_cst_9, val_main_v58, val_main_v57]
  exact prv_dite (xl a c) r

theorem xself_at (r : Fin 2048) (c : Fin 3072) : val_main_v69 (F := Ideal) a (ix3 0 r c) = xl a c r := by
  have hr := r.isLt
  pointwise [val_main_v69, val_main_v60, val_main_v59, val_main_cst_9, val_main_v58, val_main_v57]
  rfl

theorem xnext_at (r : Fin 2048) (c : Fin 3072) : val_main_v76 (F := Ideal) a (ix3 0 r c) = nxt (fun k => k = 2047) (xl a c) r := by
  have hr := r.isLt
  pointwise [val_main_v76, val_main_v60, val_main_v59, val_main_cst_9, val_main_v58, val_main_v57]
  exact nxt_dite (xl a c) 2047 rfl r

theorem xconv_at (r : Fin 2048) (c : Fin 3072) : val_main_v82 (F := Ideal) a w (ix3 0 r c)
    = cv (fun k => k = 0) (fun k => k = 2047) (xl a c) (w (ix2 0 c)) (w (ix2 1 c)) (w (ix2 2 c)) r := by
  pointwise [val_main_v82, val_main_v75, val_main_v68, val_main_v67, val_main_v66, val_main_v65, val_main_v64, val_main_v74, val_main_v73, val_main_v72, val_main_v71, val_main_v70, val_main_v81, val_main_v80, val_main_v79, val_main_v78, val_main_v77]
  rw [xprev_at, xself_at, xnext_at]
  rfl

/-- The gradient after the convolution, by columns. -/
def xD (c : Fin 3072) (r : Fin 2048) : EReal := val_main_v177 (F := Ideal) a w d (ix3 0 r c)

theorem xnext_sum (c : Fin 3072) : @Eq EReal (val_main_v184 (F := Ideal) a w d (ix2 0 c)) (∑ r, nxt (fun k => k = 2047) (xl a c) r * xD a w d c r) := by
  pointwise [val_main_v184, val_main_v183]
  refine (unit3 _ _ _ (by pointwise [val_main_cst_25]) c).trans ?_
  pointwise [val_main_v180, val_main_v179, val_main_v178, val_main_cst_24]
  simp only [xnext_at]
  rfl

theorem xself_sum (c : Fin 3072) : @Eq EReal (val_main_v193 (F := Ideal) a w d (ix2 0 c)) (∑ r, xl a c r * xD a w d c r) := by
  pointwise [val_main_v193, val_main_v192]
  refine (unit3 _ _ _ (by pointwise [val_main_cst_29]) c).trans ?_
  pointwise [val_main_v189, val_main_v188, val_main_v187, val_main_cst_28]
  simp only [xself_at]
  rfl

theorem xprev_sum (c : Fin 3072) : @Eq EReal (val_main_v204 (F := Ideal) a w d (ix2 0 c)) (∑ r, prv (fun k => k = 0) (xl a c) r * xD a w d c r) := by
  pointwise [val_main_v204, val_main_v203]
  refine (unit3 _ _ _ (by pointwise [val_main_cst_33]) c).trans ?_
  pointwise [val_main_v200, val_main_v199, val_main_v198, val_main_cst_32]
  simp only [xprev_at]
  rfl

theorem xback_ref (r : Fin 2048) (c : Fin 3072) : val_main_v210 (F := Ideal) a w d (ix3 0 r c)
    = bk (fun k => k = 0) (fun k => k = 2047) (xD a w d c) (w (ix2 0 c)) (w (ix2 1 c)) (w (ix2 2 c)) r := by
  have hr := r.isLt
  pointwise [val_main_v210, val_main_v208, val_main_v197, val_main_v186, val_main_cst_27, val_main_v196, val_main_cst_31, val_main_v207, val_main_cst_35]
  refine bk_dite (xD a w d c) (fun k => val_main_v202 (F := Ideal) a w d (ix3 0 k c)) (fun k => val_main_v191 (F := Ideal) a w d (ix3 0 k c))
    (fun k => val_main_v182 (F := Ideal) a w d (ix3 0 k c)) _ _ _ (fun k => ?_) (fun k => ?_) (fun k => ?_) 2047 rfl r
  · pointwise [val_main_v202, val_main_v201, val_main_v66, val_main_v65, val_main_v64]
    rfl
  · pointwise [val_main_v191, val_main_v190, val_main_v72, val_main_v71, val_main_v70]
    rfl
  · pointwise [val_main_v182, val_main_v181, val_main_v79, val_main_v78, val_main_v77]
    rfl

theorem xz (r : Fin 2048) : Z (hi r).val ↔ r.val = 0 := by
  have := r.isLt
  unfold Z hi
  constructor <;> intro h <;> simp only at * <;> omega

theorem xe (r : Fin 2048) : L (hi r).val ↔ r.val = 2047 := by
  have := r.isLt
  unfold L hi
  constructor <;> intro h <;> simp only at * <;> omega

theorem xo (r : Fin 2048) : (hi r).val = 256 + r.val := rfl

theorem xpre_at (r : Fin 2048) (c : Fin 3072) : val_main_v82 (F := Ideal) a w (ix3 0 r c) = pre a w c (hi r) :=
  (xconv_at a w r c).trans (cv_part hi 256 xo Z L 2047 rfl xz xe (cl a c) _ _ _ r)

/-- After the gate, -/
theorem xgate_at (r : Fin 2048) (c : Fin 3072) :
    val_main_v83_0 (F := Ideal) a w (ix3 0 r c) = pre a w c (hi r) * Ideal.logistic (pre a w c (hi r)) := by
  pointwise [val_main_v83_0, val_main_v83_2, val_main_call1_v4, val_main_call1_cst_0, val_main_call1_v3, val_main_call1_v2, val_main_call1_cst, val_main_call1_v1, val_main_call1_v0]
  rw [xpre_at]
  rfl

theorem xqs_at (r : Fin 2048) (n : Fin 8) (x : Fin 128) :
    val_main_v87 (F := Ideal) a w (ix4 0 r n x) = hs (fun y => pre a w (co (hd 0 n) y) (hi r)) x := by
  have hn := n.isLt
  have hx := x.isLt
  pointwise [val_main_v87, val_main_v84]
  exact (xgate_at a w r _).trans (congrArg (fun c => pre a w c (hi r) * Ideal.logistic (pre a w c (hi r)))
    (Fin.ext (show n.val * 128 + x.val = (0 * 8 + n.val) * 128 + x.val by omega)))

theorem xqv_at (r : Fin 2048) (n : Fin 8) :
    val_main_v92 (F := Ideal) a w (ix4 0 r n 0) = var (hs fun y => pre a w (co (hd 0 n) y) (hi r)) := by
  pointwise [val_main_v92, val_main_v90, val_main_v89, val_main_v88, val_main_cst_12, val_main_v91, val_main_cst_13]
  simp only [xqs_at]
  rfl

theorem xqd_at (r : Fin 2048) (n : Fin 8) (x : Fin 128) : val_main_v161 (F := Ideal) d (ix4 0 r n x) = d (ix2 (hi r) (co (hd 0 n) x)) * scale := by
  have hn := n.isLt
  have hx := x.isLt
  pointwise [val_main_v161, val_main_v143, val_main_v142, val_main_v140, val_main_v127, val_main_v160, val_main_cst_21]
  exact congrArg (fun c => d (ix2 (hi r) c) * scale)
    (Fin.ext (show n.val * 128 + x.val = (0 * 8 + n.val) * 128 + x.val by first | rfl | omega))

theorem xqc_at (r : Fin 2048) (n : Fin 8) : @Eq EReal (val_main_v168 (F := Ideal) a w d (ix2 r n)) (corr (hs fun y => pre a w (co (hd 0 n) y) (hi r)) (fun y => d (ix2 (hi r) (co (hd 0 n) y)) * scale)) := by
  pointwise [val_main_v168]
  refine (unit4 _ _ _ (by pointwise [val_main_cst_23]) r n).trans ?_
  pointwise [val_main_v167, val_main_v164, val_main_v163, val_main_v162, val_main_cst_22, val_main_v96, val_main_v95, val_main_cst_14, val_main_v94, val_main_v93]
  simp only [xqs_at, xqv_at, xqd_at]
  rfl

theorem xq_at (r : Fin 2048) (n : Fin 8) (x : Fin 128) : val_main_v174 (F := Ideal) a w d (ix4 0 r n x)
    = gr (hs fun y => pre a w (co (hd 0 n) y) (hi r)) (fun y => d (ix2 (hi r) (co (hd 0 n) y)) * scale) x := by
  pointwise [val_main_v174, val_main_v172, val_main_v166, val_main_v165, val_main_v93, val_main_v171, val_main_v170, val_main_v169, val_main_v173]
  simp only [xqs_at, xqv_at, xqd_at, xqc_at]
  rfl

theorem xks_at (r : Fin 2048) (n : Fin 8) (x : Fin 128) :
    val_main_v101 (F := Ideal) a w (ix4 0 r n x) = hs (fun y => pre a w (co (hd 1 n) y) (hi r)) x := by
  have hn := n.isLt
  have hx := x.isLt
  pointwise [val_main_v101, val_main_v85]
  exact (xgate_at a w r _).trans (congrArg (fun c => pre a w c (hi r) * Ideal.logistic (pre a w c (hi r)))
    (Fin.ext (show 1024 + (n.val * 128 + x.val) = (1 * 8 + n.val) * 128 + x.val by omega)))

theorem xkv_at (r : Fin 2048) (n : Fin 8) :
    val_main_v106 (F := Ideal) a w (ix4 0 r n 0) = var (hs fun y => pre a w (co (hd 1 n) y) (hi r)) := by
  pointwise [val_main_v106, val_main_v104, val_main_v103, val_main_v102, val_main_cst_16, val_main_v105, val_main_cst_17]
  simp only [xks_at]
  rfl

theorem xkd_at (r : Fin 2048) (n : Fin 8) (x : Fin 128) : val_main_v138 (F := Ideal) d (ix4 0 r n x) = d (ix2 (hi r) (co (hd 1 n) x)) := by
  have hn := n.isLt
  have hx := x.isLt
  pointwise [val_main_v138, val_main_v137, val_main_v135, val_main_v128]
  exact congrArg (fun c => d (ix2 (hi r) c))
    (Fin.ext (show 1024 + (n.val * 128 + x.val) = (1 * 8 + n.val) * 128 + x.val by first | rfl | omega))

theorem xkc_at (r : Fin 2048) (n : Fin 8) : @Eq EReal (val_main_v152 (F := Ideal) a w d (ix2 r n)) (corr (hs fun y => pre a w (co (hd 1 n) y) (hi r)) (fun y => d (ix2 (hi r) (co (hd 1 n) y)))) := by
  pointwise [val_main_v152]
  refine (unit4 _ _ _ (by pointwise [val_main_cst_20]) r n).trans ?_
  pointwise [val_main_v151, val_main_v148, val_main_v147, val_main_v146, val_main_cst_19, val_main_v110, val_main_v109, val_main_cst_18, val_main_v108, val_main_v107]
  simp only [xks_at, xkv_at, xkd_at]
  rfl

theorem xk_at (r : Fin 2048) (n : Fin 8) (x : Fin 128) : val_main_v158 (F := Ideal) a w d (ix4 0 r n x)
    = gr (hs fun y => pre a w (co (hd 1 n) y) (hi r)) (fun y => d (ix2 (hi r) (co (hd 1 n) y))) x := by
  pointwise [val_main_v158, val_main_v156, val_main_v150, val_main_v149, val_main_v107, val_main_v155, val_main_v154, val_main_v153, val_main_v157]
  simp only [xks_at, xkv_at, xkd_at, xkc_at]
  rfl

theorem xqo_at (r : Fin 2048) (n : Fin 8) (x : Fin 128) (c : Fin 1024) (h : c.val = n.val * 128 + x.val) :
    val_main_v175 (F := Ideal) a w d (ix3 0 r c) = val_main_v174 (F := Ideal) a w d (ix4 0 r n x) := by
  have hn := n.isLt
  have hx := x.isLt
  pointwise [val_main_v175]
  exact congrArg₂ (fun n x => val_main_v174 (F := Ideal) a w d (ix4 0 r n x)) (Fin.ext (show c.val / 128 = n.val by omega))
    (Fin.ext (show c.val % 128 = x.val by omega))

theorem xko_at (r : Fin 2048) (n : Fin 8) (x : Fin 128) (c : Fin 1024) (h : c.val = n.val * 128 + x.val) :
    val_main_v159 (F := Ideal) a w d (ix3 0 r c) = val_main_v158 (F := Ideal) a w d (ix4 0 r n x) := by
  have hn := n.isLt
  have hx := x.isLt
  pointwise [val_main_v159]
  exact congrArg₂ (fun n x => val_main_v158 (F := Ideal) a w d (ix4 0 r n x)) (Fin.ext (show c.val / 128 = n.val by omega))
    (Fin.ext (show c.val % 128 = x.val by omega))

theorem xvo_at (r : Fin 2048) (n : Fin 8) (x : Fin 128) (c : Fin 1024) (h : c.val = n.val * 128 + x.val) :
    val_main_v145 (F := Ideal) d (ix3 0 r c) = val_main_v133 (F := Ideal) d (ix4 0 r n x) := by
  have hn := n.isLt
  have hx := x.isLt
  pointwise [val_main_v145]
  exact congrArg₂ (fun n x => val_main_v133 (F := Ideal) d (ix4 0 r n x)) (Fin.ext (show c.val / 128 = n.val by omega))
    (Fin.ext (show c.val % 128 = x.val by omega))

theorem xv_at (r : Fin 2048) (n : Fin 8) (x : Fin 128) : val_main_v133 (F := Ideal) d (ix4 0 r n x) = d (ix2 (hi r) (co (hd 2 n) x)) := by
  have hn := n.isLt
  have hx := x.isLt
  pointwise [val_main_v133, val_main_v132, val_main_v130, val_main_v129]
  exact congrArg (fun c => d (ix2 (hi r) c)) (Fin.ext (show 2048 + (n.val * 128 + x.val) = (2 * 8 + n.val) * 128 + x.val by omega))

theorem xcat_q (r : Fin 2048) (n : Fin 8) (x : Fin 128) : val_main_v176 (F := Ideal) a w d (ix3 0 r (co (hd 0 n) x))
    = gr (hs fun y => pre a w (co (hd 0 n) y) (hi r)) (fun y => d (ix2 (hi r) (co (hd 0 n) y)) * scale) x := by
  have hn := n.isLt
  have hx := x.isLt
  refine Eq.trans ?_ ((xqo_at a w d r n x ⟨n.val * 128 + x.val, by omega⟩ rfl).trans (xq_at a w d r n x))
  unfold co hd
  pointwise [val_main_v176]
  exact (dif_pos (by omega)).trans (congrArg (fun c => val_main_v175 (F := Ideal) a w d (ix3 0 r c)) (Fin.ext (show n.val * 128 + x.val = n.val * 128 + x.val from rfl)))

theorem xcat_k (r : Fin 2048) (n : Fin 8) (x : Fin 128) : val_main_v176 (F := Ideal) a w d (ix3 0 r (co (hd 1 n) x))
    = gr (hs fun y => pre a w (co (hd 1 n) y) (hi r)) (fun y => d (ix2 (hi r) (co (hd 1 n) y))) x := by
  have hn := n.isLt
  have hx := x.isLt
  refine Eq.trans ?_ ((xko_at a w d r n x ⟨n.val * 128 + x.val, by omega⟩ rfl).trans (xk_at a w d r n x))
  unfold co hd
  pointwise [val_main_v176]
  exact (dif_neg (by omega)).trans ((dif_pos (by omega)).trans (congrArg (fun c => val_main_v159 (F := Ideal) a w d (ix3 0 r c)) (Fin.ext (show (1 * 8 + n.val) * 128 + x.val - 1024 = n.val * 128 + x.val by omega))))

theorem xcat_v (r : Fin 2048) (n : Fin 8) (x : Fin 128) : val_main_v176 (F := Ideal) a w d (ix3 0 r (co (hd 2 n) x))
    = d (ix2 (hi r) (co (hd 2 n) x)) := by
  have hn := n.isLt
  have hx := x.isLt
  refine Eq.trans ?_ ((xvo_at d r n x ⟨n.val * 128 + x.val, by omega⟩ rfl).trans (xv_at d r n x))
  unfold co hd
  pointwise [val_main_v176]
  exact (dif_neg (by omega)).trans ((dif_neg (by omega)).trans (congrArg (fun c => val_main_v145 (F := Ideal) d (ix3 0 r c)) (Fin.ext (show (2 * 8 + n.val) * 128 + x.val - 1024 - 1024 = n.val * 128 + x.val by omega))))

theorem xcat_at (r : Fin 2048) (g : Fin 24) (x : Fin 128) : val_main_v176 (F := Ideal) a w d (ix3 0 r (co g x))
    = dS g (hs fun y => pre a w (co g y) (hi r)) (fun y => d (ix2 (hi r) (co g y))) x := by
  unfold dS
  rcases heads g with ⟨n, rfl⟩ | ⟨n, rfl⟩ | ⟨n, rfl⟩
  · rw [xcat_q, if_pos (hd0 n)]
  · rw [xcat_k, if_neg (hd1 n).1, if_pos (hd1 n).2]
  · rw [xcat_v, if_neg (hd2 n).1, if_neg (hd2 n).2]

/-- The gradient after the convolution. -/
theorem xD_at (g : Fin 24) (x : Fin 128) : xD a w d (co g x) = fun r => dF a w d g x (hi r) := by
  funext r
  unfold xD
  pointwise [val_main_v177, val_main_call2_v1, val_main_v83_2, val_main_call1_v4, val_main_call1_cst_0, val_main_call1_v3, val_main_call1_v2, val_main_call1_cst, val_main_call1_v1, val_main_call1_v0, val_main_call2_v2, val_main_call2_v0, val_main_v83_1, val_main_call1_v7, val_main_call1_v6, val_main_call1_cst_1]
  rw [xcat_at, xpre_at]
  rfl

theorem xb (r : Fin 2048) (h : r.val = 0) : L (bwd (hi r)).val := by
  have h1 := bwd_val (hi r)
  have h2 := xo r
  unfold L
  split at h1 <;> omega

theorem xf (r : Fin 2048) (h : r.val = 2047) : Z (fwd (hi r)).val := by
  have h1 := fwd_val (hi r)
  have h2 := xo r
  unfold Z
  split at h1 <;> omega

theorem xback_at (r : Fin 2048) (g : Fin 24) (x : Fin 128) : val_main_v210 (F := Ideal) a w d (ix3 0 r (co g x))
    = bk Z L (dF a w d g x) (w (ix2 0 (co g x))) (w (ix2 1 (co g x))) (w (ix2 2 (co g x))) (hi r) := by
  rw [xback_ref, xD_at]
  exact bk_part hi 256 xo Z L 2047 rfl xz xe xb xf _ _ _ _ r

theorem xnext_at' (g : Fin 24) (x : Fin 128) : @Eq EReal (val_main_v184 (F := Ideal) a w d (ix2 0 (co g x)))
    (∑ r, nxt L (cl a (co g x)) (hi r) * dF a w d g x (hi r)) := by
  rw [xnext_sum, xD_at]
  exact Finset.sum_congr rfl fun r _ => congrArg (· * _) (nxt_part hi 256 xo L 2047 rfl xe (cl a (co g x)) r)

theorem xself_at' (g : Fin 24) (x : Fin 128) : @Eq EReal (val_main_v193 (F := Ideal) a w d (ix2 0 (co g x)))
    (∑ r, cl a (co g x) (hi r) * dF a w d g x (hi r)) := by
  rw [xself_sum, xD_at]
  exact Finset.sum_congr rfl fun r _ => congrArg (· * _) (rfl)

theorem xprev_at' (g : Fin 24) (x : Fin 128) : @Eq EReal (val_main_v204 (F := Ideal) a w d (ix2 0 (co g x)))
    (∑ r, prv Z (cl a (co g x)) (hi r) * dF a w d g x (hi r)) := by
  rw [xprev_sum, xD_at]
  exact Finset.sum_congr rfl fun r _ => congrArg (· * _) (prv_part hi 256 xo Z xz (cl a (co g x)) r)

/-- A column's rows of this part. -/
def yl (v : Vec Ideal ⟨2, ![2304, 3072]⟩ .f32) (c : Fin 3072) : Fin 256 → EReal := fun r => v (ix2 (lo r) c)

theorem yprev_at (r : Fin 256) (c : Fin 3072) : val_main_v6 (F := Ideal) a (ix3 0 r c) = prv (fun k => k = 0) (yl a c) r := by
  have hr := r.isLt
  pointwise [val_main_v6, val_main_v3, val_main_v2, val_main_cst, val_main_v1, val_main_v0]
  exact prv_dite (yl a c) r

theorem yself_at (r : Fin 256) (c : Fin 3072) : val_main_v12 (F := Ideal) a (ix3 0 r c) = yl a c r := by
  have hr := r.isLt
  pointwise [val_main_v12, val_main_v3, val_main_v2, val_main_cst, val_main_v1, val_main_v0]
  rfl

theorem ynext_at (r : Fin 256) (c : Fin 3072) : val_main_v19 (F := Ideal) a (ix3 0 r c) = nxt (fun k => k = 255) (yl a c) r := by
  have hr := r.isLt
  pointwise [val_main_v19, val_main_v3, val_main_v2, val_main_cst, val_main_v1, val_main_v0]
  exact nxt_dite (yl a c) 255 rfl r

theorem yconv_at (r : Fin 256) (c : Fin 3072) : val_main_v25 (F := Ideal) a w (ix3 0 r c)
    = cv (fun k => k = 0) (fun k => k = 255) (yl a c) (w (ix2 0 c)) (w (ix2 1 c)) (w (ix2 2 c)) r := by
  pointwise [val_main_v25, val_main_v18, val_main_v11, val_main_v10, val_main_v9, val_main_v8, val_main_v7, val_main_v17, val_main_v16, val_main_v15, val_main_v14, val_main_v13, val_main_v24, val_main_v23, val_main_v22, val_main_v21, val_main_v20]
  rw [yprev_at, yself_at, ynext_at]
  rfl

/-- The gradient after the convolution, by columns. -/
def yD (c : Fin 3072) (r : Fin 256) : EReal := val_main_v246 (F := Ideal) a w d (ix3 0 r c)

theorem ynext_sum (c : Fin 3072) : @Eq EReal (val_main_v253 (F := Ideal) a w d (ix2 0 c)) (∑ r, nxt (fun k => k = 255) (yl a c) r * yD a w d c r) := by
  pointwise [val_main_v253, val_main_v252]
  refine (unit3 _ _ _ (by pointwise [val_main_cst_44]) c).trans ?_
  pointwise [val_main_v249, val_main_v248, val_main_v247, val_main_cst_43]
  simp only [ynext_at]
  rfl

theorem yself_sum (c : Fin 3072) : @Eq EReal (val_main_v263 (F := Ideal) a w d (ix2 0 c)) (∑ r, yl a c r * yD a w d c r) := by
  pointwise [val_main_v263, val_main_v262]
  refine (unit3 _ _ _ (by pointwise [val_main_cst_48]) c).trans ?_
  pointwise [val_main_v259, val_main_v258, val_main_v257, val_main_cst_47]
  simp only [yself_at]
  rfl

theorem yprev_sum (c : Fin 3072) : @Eq EReal (val_main_v274 (F := Ideal) a w d (ix2 0 c)) (∑ r, prv (fun k => k = 0) (yl a c) r * yD a w d c r) := by
  pointwise [val_main_v274, val_main_v273]
  refine (unit3 _ _ _ (by pointwise [val_main_cst_52]) c).trans ?_
  pointwise [val_main_v270, val_main_v269, val_main_v268, val_main_cst_51]
  simp only [yprev_at]
  rfl

theorem yback_ref (r : Fin 256) (c : Fin 3072) : val_main_v280 (F := Ideal) a w d (ix3 0 r c)
    = bk (fun k => k = 0) (fun k => k = 255) (yD a w d c) (w (ix2 0 c)) (w (ix2 1 c)) (w (ix2 2 c)) r := by
  have hr := r.isLt
  pointwise [val_main_v280, val_main_v278, val_main_v267, val_main_v256, val_main_cst_46, val_main_v266, val_main_cst_50, val_main_v277, val_main_cst_54]
  refine bk_dite (yD a w d c) (fun k => val_main_v272 (F := Ideal) a w d (ix3 0 k c)) (fun k => val_main_v261 (F := Ideal) a w d (ix3 0 k c))
    (fun k => val_main_v251 (F := Ideal) a w d (ix3 0 k c)) _ _ _ (fun k => ?_) (fun k => ?_) (fun k => ?_) 255 rfl r
  · pointwise [val_main_v272, val_main_v271, val_main_v9, val_main_v8, val_main_v7]
    rfl
  · pointwise [val_main_v261, val_main_v260, val_main_v15, val_main_v14, val_main_v13]
    rfl
  · pointwise [val_main_v251, val_main_v250, val_main_v22, val_main_v21, val_main_v20]
    rfl

theorem yz (r : Fin 256) : Z (lo r).val ↔ r.val = 0 := by
  have := r.isLt
  unfold Z lo
  constructor <;> intro h <;> simp only at * <;> omega

theorem ye (r : Fin 256) : L (lo r).val ↔ r.val = 255 := by
  have := r.isLt
  unfold L lo
  constructor <;> intro h <;> simp only at * <;> omega

theorem yo (r : Fin 256) : (lo r).val = 0 + r.val := (Nat.zero_add _).symm

theorem ypre_at (r : Fin 256) (c : Fin 3072) : val_main_v25 (F := Ideal) a w (ix3 0 r c) = pre a w c (lo r) :=
  (yconv_at a w r c).trans (cv_part lo 0 yo Z L 255 rfl yz ye (cl a c) _ _ _ r)

/-- After the gate, -/
theorem ygate_at (r : Fin 256) (c : Fin 3072) :
    val_main_v26_0 (F := Ideal) a w (ix3 0 r c) = pre a w c (lo r) * Ideal.logistic (pre a w c (lo r)) := by
  pointwise [val_main_v26_0, val_main_v26_2, val_main_call0_v4, val_main_call0_cst_0, val_main_call0_v3, val_main_call0_v2, val_main_call0_cst, val_main_call0_v1, val_main_call0_v0]
  rw [ypre_at]
  rfl

theorem yqs_at (r : Fin 256) (n : Fin 8) (x : Fin 128) :
    val_main_v30 (F := Ideal) a w (ix4 0 r n x) = hs (fun y => pre a w (co (hd 0 n) y) (lo r)) x := by
  have hn := n.isLt
  have hx := x.isLt
  pointwise [val_main_v30, val_main_v27]
  exact (ygate_at a w r _).trans (congrArg (fun c => pre a w c (lo r) * Ideal.logistic (pre a w c (lo r)))
    (Fin.ext (show n.val * 128 + x.val = (0 * 8 + n.val) * 128 + x.val by omega)))

theorem yqv_at (r : Fin 256) (n : Fin 8) :
    val_main_v35 (F := Ideal) a w (ix4 0 r n 0) = var (hs fun y => pre a w (co (hd 0 n) y) (lo r)) := by
  pointwise [val_main_v35, val_main_v33, val_main_v32, val_main_v31, val_main_cst_2, val_main_v34, val_main_cst_3]
  simp only [yqs_at]
  rfl

theorem yqd_at (r : Fin 256) (n : Fin 8) (x : Fin 128) : val_main_v230 (F := Ideal) d (ix4 0 r n x) = d (ix2 (lo r) (co (hd 0 n) x)) * scale := by
  have hn := n.isLt
  have hx := x.isLt
  pointwise [val_main_v230, val_main_v144, val_main_v141, val_main_v140, val_main_v127, val_main_v229, val_main_cst_40]
  exact congrArg (fun c => d (ix2 (lo r) c) * scale)
    (Fin.ext (show n.val * 128 + x.val = (0 * 8 + n.val) * 128 + x.val by first | rfl | omega))

theorem yqc_at (r : Fin 256) (n : Fin 8) : @Eq EReal (val_main_v237 (F := Ideal) a w d (ix2 r n)) (corr (hs fun y => pre a w (co (hd 0 n) y) (lo r)) (fun y => d (ix2 (lo r) (co (hd 0 n) y)) * scale)) := by
  pointwise [val_main_v237]
  refine (unit4 _ _ _ (by pointwise [val_main_cst_42]) r n).trans ?_
  pointwise [val_main_v236, val_main_v233, val_main_v232, val_main_v231, val_main_cst_41, val_main_v39, val_main_v38, val_main_cst_4, val_main_v37, val_main_v36]
  simp only [yqs_at, yqv_at, yqd_at]
  rfl

theorem yq_at (r : Fin 256) (n : Fin 8) (x : Fin 128) : val_main_v243 (F := Ideal) a w d (ix4 0 r n x)
    = gr (hs fun y => pre a w (co (hd 0 n) y) (lo r)) (fun y => d (ix2 (lo r) (co (hd 0 n) y)) * scale) x := by
  pointwise [val_main_v243, val_main_v241, val_main_v235, val_main_v234, val_main_v36, val_main_v240, val_main_v239, val_main_v238, val_main_v242]
  simp only [yqs_at, yqv_at, yqd_at, yqc_at]
  rfl

theorem yks_at (r : Fin 256) (n : Fin 8) (x : Fin 128) :
    val_main_v44 (F := Ideal) a w (ix4 0 r n x) = hs (fun y => pre a w (co (hd 1 n) y) (lo r)) x := by
  have hn := n.isLt
  have hx := x.isLt
  pointwise [val_main_v44, val_main_v28]
  exact (ygate_at a w r _).trans (congrArg (fun c => pre a w c (lo r) * Ideal.logistic (pre a w c (lo r)))
    (Fin.ext (show 1024 + (n.val * 128 + x.val) = (1 * 8 + n.val) * 128 + x.val by omega)))

theorem ykv_at (r : Fin 256) (n : Fin 8) :
    val_main_v49 (F := Ideal) a w (ix4 0 r n 0) = var (hs fun y => pre a w (co (hd 1 n) y) (lo r)) := by
  pointwise [val_main_v49, val_main_v47, val_main_v46, val_main_v45, val_main_cst_6, val_main_v48, val_main_cst_7]
  simp only [yks_at]
  rfl

theorem ykd_at (r : Fin 256) (n : Fin 8) (x : Fin 128) : val_main_v139 (F := Ideal) d (ix4 0 r n x) = d (ix2 (lo r) (co (hd 1 n) x)) := by
  have hn := n.isLt
  have hx := x.isLt
  pointwise [val_main_v139, val_main_v136, val_main_v135, val_main_v128]
  exact congrArg (fun c => d (ix2 (lo r) c))
    (Fin.ext (show 1024 + (n.val * 128 + x.val) = (1 * 8 + n.val) * 128 + x.val by first | rfl | omega))

theorem ykc_at (r : Fin 256) (n : Fin 8) : @Eq EReal (val_main_v221 (F := Ideal) a w d (ix2 r n)) (corr (hs fun y => pre a w (co (hd 1 n) y) (lo r)) (fun y => d (ix2 (lo r) (co (hd 1 n) y)))) := by
  pointwise [val_main_v221]
  refine (unit4 _ _ _ (by pointwise [val_main_cst_39]) r n).trans ?_
  pointwise [val_main_v220, val_main_v217, val_main_v216, val_main_v215, val_main_cst_38, val_main_v53, val_main_v52, val_main_cst_8, val_main_v51, val_main_v50]
  simp only [yks_at, ykv_at, ykd_at]
  rfl

theorem yk_at (r : Fin 256) (n : Fin 8) (x : Fin 128) : val_main_v227 (F := Ideal) a w d (ix4 0 r n x)
    = gr (hs fun y => pre a w (co (hd 1 n) y) (lo r)) (fun y => d (ix2 (lo r) (co (hd 1 n) y))) x := by
  pointwise [val_main_v227, val_main_v225, val_main_v219, val_main_v218, val_main_v50, val_main_v224, val_main_v223, val_main_v222, val_main_v226]
  simp only [yks_at, ykv_at, ykd_at, ykc_at]
  rfl

theorem yqo_at (r : Fin 256) (n : Fin 8) (x : Fin 128) (c : Fin 1024) (h : c.val = n.val * 128 + x.val) :
    val_main_v244 (F := Ideal) a w d (ix3 0 r c) = val_main_v243 (F := Ideal) a w d (ix4 0 r n x) := by
  have hn := n.isLt
  have hx := x.isLt
  pointwise [val_main_v244]
  exact congrArg₂ (fun n x => val_main_v243 (F := Ideal) a w d (ix4 0 r n x)) (Fin.ext (show c.val / 128 = n.val by omega))
    (Fin.ext (show c.val % 128 = x.val by omega))

theorem yko_at (r : Fin 256) (n : Fin 8) (x : Fin 128) (c : Fin 1024) (h : c.val = n.val * 128 + x.val) :
    val_main_v228 (F := Ideal) a w d (ix3 0 r c) = val_main_v227 (F := Ideal) a w d (ix4 0 r n x) := by
  have hn := n.isLt
  have hx := x.isLt
  pointwise [val_main_v228]
  exact congrArg₂ (fun n x => val_main_v227 (F := Ideal) a w d (ix4 0 r n x)) (Fin.ext (show c.val / 128 = n.val by omega))
    (Fin.ext (show c.val % 128 = x.val by omega))

theorem yvo_at (r : Fin 256) (n : Fin 8) (x : Fin 128) (c : Fin 1024) (h : c.val = n.val * 128 + x.val) :
    val_main_v214 (F := Ideal) d (ix3 0 r c) = val_main_v134 (F := Ideal) d (ix4 0 r n x) := by
  have hn := n.isLt
  have hx := x.isLt
  pointwise [val_main_v214]
  exact congrArg₂ (fun n x => val_main_v134 (F := Ideal) d (ix4 0 r n x)) (Fin.ext (show c.val / 128 = n.val by omega))
    (Fin.ext (show c.val % 128 = x.val by omega))

theorem yv_at (r : Fin 256) (n : Fin 8) (x : Fin 128) : val_main_v134 (F := Ideal) d (ix4 0 r n x) = d (ix2 (lo r) (co (hd 2 n) x)) := by
  have hn := n.isLt
  have hx := x.isLt
  pointwise [val_main_v134, val_main_v131, val_main_v130, val_main_v129]
  exact congrArg (fun c => d (ix2 (lo r) c)) (Fin.ext (show 2048 + (n.val * 128 + x.val) = (2 * 8 + n.val) * 128 + x.val by omega))

theorem ycat_q (r : Fin 256) (n : Fin 8) (x : Fin 128) : val_main_v245 (F := Ideal) a w d (ix3 0 r (co (hd 0 n) x))
    = gr (hs fun y => pre a w (co (hd 0 n) y) (lo r)) (fun y => d (ix2 (lo r) (co (hd 0 n) y)) * scale) x := by
  have hn := n.isLt
  have hx := x.isLt
  refine Eq.trans ?_ ((yqo_at a w d r n x ⟨n.val * 128 + x.val, by omega⟩ rfl).trans (yq_at a w d r n x))
  unfold co hd
  pointwise [val_main_v245]
  exact (dif_pos (by omega)).trans (congrArg (fun c => val_main_v244 (F := Ideal) a w d (ix3 0 r c)) (Fin.ext (show n.val * 128 + x.val = n.val * 128 + x.val from rfl)))

theorem ycat_k (r : Fin 256) (n : Fin 8) (x : Fin 128) : val_main_v245 (F := Ideal) a w d (ix3 0 r (co (hd 1 n) x))
    = gr (hs fun y => pre a w (co (hd 1 n) y) (lo r)) (fun y => d (ix2 (lo r) (co (hd 1 n) y))) x := by
  have hn := n.isLt
  have hx := x.isLt
  refine Eq.trans ?_ ((yko_at a w d r n x ⟨n.val * 128 + x.val, by omega⟩ rfl).trans (yk_at a w d r n x))
  unfold co hd
  pointwise [val_main_v245]
  exact (dif_neg (by omega)).trans ((dif_pos (by omega)).trans (congrArg (fun c => val_main_v228 (F := Ideal) a w d (ix3 0 r c)) (Fin.ext (show (1 * 8 + n.val) * 128 + x.val - 1024 = n.val * 128 + x.val by omega))))

theorem ycat_v (r : Fin 256) (n : Fin 8) (x : Fin 128) : val_main_v245 (F := Ideal) a w d (ix3 0 r (co (hd 2 n) x))
    = d (ix2 (lo r) (co (hd 2 n) x)) := by
  have hn := n.isLt
  have hx := x.isLt
  refine Eq.trans ?_ ((yvo_at d r n x ⟨n.val * 128 + x.val, by omega⟩ rfl).trans (yv_at d r n x))
  unfold co hd
  pointwise [val_main_v245]
  exact (dif_neg (by omega)).trans ((dif_neg (by omega)).trans (congrArg (fun c => val_main_v214 (F := Ideal) d (ix3 0 r c)) (Fin.ext (show (2 * 8 + n.val) * 128 + x.val - 1024 - 1024 = n.val * 128 + x.val by omega))))

theorem ycat_at (r : Fin 256) (g : Fin 24) (x : Fin 128) : val_main_v245 (F := Ideal) a w d (ix3 0 r (co g x))
    = dS g (hs fun y => pre a w (co g y) (lo r)) (fun y => d (ix2 (lo r) (co g y))) x := by
  unfold dS
  rcases heads g with ⟨n, rfl⟩ | ⟨n, rfl⟩ | ⟨n, rfl⟩
  · rw [ycat_q, if_pos (hd0 n)]
  · rw [ycat_k, if_neg (hd1 n).1, if_pos (hd1 n).2]
  · rw [ycat_v, if_neg (hd2 n).1, if_neg (hd2 n).2]

/-- The gradient after the convolution. -/
theorem yD_at (g : Fin 24) (x : Fin 128) : yD a w d (co g x) = fun r => dF a w d g x (lo r) := by
  funext r
  unfold yD
  pointwise [val_main_v246, val_main_call3_v1, val_main_v26_2, val_main_call0_v4, val_main_call0_cst_0, val_main_call0_v3, val_main_call0_v2, val_main_call0_cst, val_main_call0_v1, val_main_call0_v0, val_main_call3_v2, val_main_call3_v0, val_main_v26_1, val_main_call0_v7, val_main_call0_v6, val_main_call0_cst_1]
  rw [ycat_at, ypre_at]
  rfl

theorem yb (r : Fin 256) (h : r.val = 0) : L (bwd (lo r)).val := by
  have h1 := bwd_val (lo r)
  have h2 := yo r
  unfold L
  split at h1 <;> omega

theorem yf (r : Fin 256) (h : r.val = 255) : Z (fwd (lo r)).val := by
  have h1 := fwd_val (lo r)
  have h2 := yo r
  unfold Z
  split at h1 <;> omega

theorem yback_at (r : Fin 256) (g : Fin 24) (x : Fin 128) : val_main_v280 (F := Ideal) a w d (ix3 0 r (co g x))
    = bk Z L (dF a w d g x) (w (ix2 0 (co g x))) (w (ix2 1 (co g x))) (w (ix2 2 (co g x))) (lo r) := by
  rw [yback_ref, yD_at]
  exact bk_part lo 0 yo Z L 255 rfl yz ye yb yf _ _ _ _ r

theorem ynext_at' (g : Fin 24) (x : Fin 128) : @Eq EReal (val_main_v253 (F := Ideal) a w d (ix2 0 (co g x)))
    (∑ r, nxt L (cl a (co g x)) (lo r) * dF a w d g x (lo r)) := by
  rw [ynext_sum, yD_at]
  exact Finset.sum_congr rfl fun r _ => congrArg (· * _) (nxt_part lo 0 yo L 255 rfl ye (cl a (co g x)) r)

theorem yself_at' (g : Fin 24) (x : Fin 128) : @Eq EReal (val_main_v263 (F := Ideal) a w d (ix2 0 (co g x)))
    (∑ r, cl a (co g x) (lo r) * dF a w d g x (lo r)) := by
  rw [yself_sum, yD_at]
  exact Finset.sum_congr rfl fun r _ => congrArg (· * _) (rfl)

theorem yprev_at' (g : Fin 24) (x : Fin 128) : @Eq EReal (val_main_v274 (F := Ideal) a w d (ix2 0 (co g x)))
    (∑ r, prv Z (cl a (co g x)) (lo r) * dF a w d g x (lo r)) := by
  rw [yprev_sum, yD_at]
  exact Finset.sum_congr rfl fun r _ => congrArg (· * _) (prv_part lo 0 yo Z yz (cl a (co g x)) r)

/-- The weights' gradients, each put in its row, from the latents and from the context. -/
theorem v276_at (k : Fin 3) (c : Fin 3072) : @Eq EReal (val_main_v276 (F := Ideal) a w d (ix2 k c))
    ((if k.val = 2 then val_main_v184 (F := Ideal) a w d (ix2 0 c) else 0)
      + (if k.val = 1 then val_main_v193 (F := Ideal) a w d (ix2 0 c) else 0)
      + (if k.val = 0 then val_main_v204 (F := Ideal) a w d (ix2 0 c) else 0)
      + (if k.val = 2 then val_main_v253 (F := Ideal) a w d (ix2 0 c) else 0)
      + (if k.val = 1 then val_main_v263 (F := Ideal) a w d (ix2 0 c) else 0)
      + (if k.val = 0 then val_main_v274 (F := Ideal) a w d (ix2 0 c) else 0)) := by
  pointwise [val_main_v276, val_main_v265, val_main_v255, val_main_v206, val_main_v195]
  exact congrArg₂ (· + ·) (congrArg₂ (· + ·) (congrArg₂ (· + ·) (congrArg₂ (· + ·) (congrArg₂ (· + ·) (pad_row _ _ _ _ (by pointwise [val_main_cst_26]) k c)
    (pad_row _ _ _ _ (by pointwise [val_main_cst_30]) k c))
    (pad_row _ _ _ _ (by pointwise [val_main_cst_34]) k c))
    (pad_row _ _ _ _ (by pointwise [val_main_cst_45]) k c))
    (pad_row _ _ _ _ (by pointwise [val_main_cst_49]) k c))
    (pad_row _ _ _ _ (by pointwise [val_main_cst_53]) k c)

theorem row0_at (c : Fin 3072) : @Eq EReal (val_main_v276 (F := Ideal) a w d (ix2 0 c)) (val_main_v204 (F := Ideal) a w d (ix2 0 c) + val_main_v274 (F := Ideal) a w d (ix2 0 c)) :=
  (v276_at a w d 0 c).trans ((congrArg₂ (· + ·) (congrArg₂ (· + ·) (congrArg₂ (· + ·) (congrArg₂ (· + ·) (congrArg₂ (· + ·) (if_neg (by decide)) (if_neg (by decide))) (if_pos rfl)) (if_neg (by decide))) (if_neg (by decide))) (if_pos rfl)).trans
    (by simp only [zero_add, add_zero]))

theorem v285_at (g : Fin 24) (x : Fin 128) : @Eq EReal (val_main_v285 (F := Ideal) a w d (ix2 0 (co g x))) (∑ r, prv Z (cl a (co g x)) r * dF a w d g x r) := by
  refine Eq.trans ?_ ((add_comm _ _).trans (Fin.sum_univ_add (a := 256) (b := 2048) fun r => prv Z (cl a (co g x)) r * dF a w d g x r).symm)
  refine Eq.trans ?_ ((row0_at a w d (co g x)).trans (congrArg₂ (· + ·) (xprev_at' a w d g x) (yprev_at' a w d g x)))
  pointwise [val_main_v285]

theorem row1_at (c : Fin 3072) : @Eq EReal (val_main_v276 (F := Ideal) a w d (ix2 1 c)) (val_main_v193 (F := Ideal) a w d (ix2 0 c) + val_main_v263 (F := Ideal) a w d (ix2 0 c)) :=
  (v276_at a w d 1 c).trans ((congrArg₂ (· + ·) (congrArg₂ (· + ·) (congrArg₂ (· + ·) (congrArg₂ (· + ·) (congrArg₂ (· + ·) (if_neg (by decide)) (if_pos rfl)) (if_neg (by decide))) (if_neg (by decide))) (if_pos rfl)) (if_neg (by decide))).trans
    (by simp only [zero_add, add_zero]))

theorem v286_at (g : Fin 24) (x : Fin 128) : @Eq EReal (val_main_v286 (F := Ideal) a w d (ix2 0 (co g x))) (∑ r, cl a (co g x) r * dF a w d g x r) := by
  refine Eq.trans ?_ ((add_comm _ _).trans (Fin.sum_univ_add (a := 256) (b := 2048) fun r => cl a (co g x) r * dF a w d g x r).symm)
  refine Eq.trans ?_ ((row1_at a w d (co g x)).trans (congrArg₂ (· + ·) (xself_at' a w d g x) (yself_at' a w d g x)))
  pointwise [val_main_v286]

theorem row2_at (c : Fin 3072) : @Eq EReal (val_main_v276 (F := Ideal) a w d (ix2 2 c)) (val_main_v184 (F := Ideal) a w d (ix2 0 c) + val_main_v253 (F := Ideal) a w d (ix2 0 c)) :=
  (v276_at a w d 2 c).trans ((congrArg₂ (· + ·) (congrArg₂ (· + ·) (congrArg₂ (· + ·) (congrArg₂ (· + ·) (congrArg₂ (· + ·) (if_pos rfl) (if_neg (by decide))) (if_neg (by decide))) (if_pos rfl)) (if_neg (by decide))) (if_neg (by decide))).trans
    (by simp only [zero_add, add_zero]))

theorem v287_at (g : Fin 24) (x : Fin 128) : @Eq EReal (val_main_v287 (F := Ideal) a w d (ix2 0 (co g x))) (∑ r, nxt L (cl a (co g x)) r * dF a w d g x r) := by
  refine Eq.trans ?_ ((add_comm _ _).trans (Fin.sum_univ_add (a := 256) (b := 2048) fun r => nxt L (cl a (co g x)) r * dF a w d g x r).symm)
  refine Eq.trans ?_ ((row2_at a w d (co g x)).trans (congrArg₂ (· + ·) (xnext_at' a w d g x) (ynext_at' a w d g x)))
  pointwise [val_main_v287]

theorem v284_at (r : Fin 2304) (g : Fin 24) (x : Fin 128) : @Eq EReal (val_main_v284 (F := Ideal) a w d (ix2 r (co g x)))
    (bk Z L (dF a w d g x) (w (ix2 0 (co g x))) (w (ix2 1 (co g x))) (w (ix2 2 (co g x))) r) := by
  rcases lo_or_hi r with ⟨r, rfl⟩ | ⟨r, rfl⟩
  · rw [← yback_at]
    unfold lo
    pointwise [val_main_v284, val_main_v213, val_main_v212, val_main_cst_36, val_main_cst_37, val_main_v283, val_main_v282, val_main_cst_55, val_main_cst_56]
    exact ((congrArg₂ (· + ·) (dif_neg fun e => e.1.elim) (Fin.sum_univ_one (M := EReal) _)).trans (zero_add _))
  · rw [← xback_at]
    unfold hi
    pointwise [val_main_v284, val_main_v213, val_main_v212, val_main_cst_36, val_main_cst_37, val_main_v283, val_main_v282, val_main_cst_55, val_main_cst_56]
    exact Fin.sum_univ_one (M := EReal) _

end Cert.GdnPrep

end
-- ==== Proof.GdnPrep.lean ====
/-
  The convolution, gate and norm before the delta rule, backward: each of the kernel's four arrays is the reference's. A block's
  columns are one head.
-/
module

public import proofs.«01_k».proof.Proof.GdnPrepBlock
public import proofs.«01_k».proof.Proof.GdnPrepRef
public import proofs.«01_k».proof.Proof.Gen.GdnPrepKIdeal.Value
public import proofs.«01_k».proof.Proof.Gen.GdnPrepRIdeal.Run
public import Idealize.ShloMosaic.Lib.StableHlo.RunRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GdnPrepKIdeal.GdnPrep

open Cert.GdnPrepKIdeal Cert.GdnPrepKIdeal.Gen Cert.GdnPrep Cert.Conv
open Cert.GdnPrepRIdeal.Read

variable (m : (ℓ : Loc nD τ sig) → Buf (Elt Ideal) ℓ)

/-- Where each window stands at a grid point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ win0_7.index t = ![0, t.val] ∧ win0_8.index t = ![0, t.val]
    ∧ win0_9.index t = ![0, t.val] ∧ win0_10.index t = ![0, t.val] :=
  (by decide +kernel : ∀ t : Fin grid0.N, _)

/-- The head that a block holds. -/
def at' (t : Fin cfg0.N) : Fin 24 := ⟨t.val, t.isLt⟩

/-- The queries and the keys are normed, -/
theorem lit0_at : ∀ i : Fin 3072, lit0 i = if i.val < 2048 then 0x3F800000#32 else 0x00000000#32 := by decide +kernel

/-- and the queries scaled. -/
theorem lit1_at : ∀ i : Fin 3072, lit1 i = if i.val < 1024 then 0x3DB504F3#32 else 0x3F800000#32 := by decide +kernel

/-- An index of a block of columns. -/
theorem pair {R : ℕ} (y : (⟨2, ![R, 128]⟩ : Shape).Idx) : ∃ (r : Fin R) (x : Fin 128), y = ix2 r x := by
  refine ⟨y 0, y 1, ?_⟩
  funext a
  match a with
  | ⟨0, _⟩ => rfl
  | ⟨1, _⟩ => rfl

section host
variable (c : Dev nD) (k : Fin 3072)

theorem w0_at : V m c main_v0 (ix2 0 k) = m ((c : Thread nD τ).loc main_arg1) (ix2 0 k) := by
  unfold V
  after_reads_simp
  pointwise []

theorem w1_at : V m c main_v1 (ix2 0 k) = m ((c : Thread nD τ).loc main_arg1) (ix2 1 k) := by
  unfold V
  after_reads_simp
  pointwise []

theorem w2_at : V m c main_v2 (ix2 0 k) = m ((c : Thread nD τ).loc main_arg1) (ix2 2 k) := by
  unfold V
  after_reads_simp
  pointwise []

theorem normed_at : @Eq EReal (V m c main_cst (ix2 0 k)) (if k.val < 2048 then 1 else 0) := by
  have e : V m c main_cst (ix2 0 k) = Ideal.ofBits .f32 (lit0 k) := by
    unfold V
    after_reads_simp
    exact congrArg (fun i => Ideal.ofBits .f32 (lit0 i)) (Fin.ext ((Shape.rowMajor_val_two _).trans (show 0 * 3072 + k.val = k.val by omega)))
  rw [e, lit0_at]
  split
  · pointwise []
  · pointwise []

theorem scaled_at : @Eq EReal (V m c main_cst_0 (ix2 0 k)) (if k.val < 1024 then scale else 1) := by
  have e : V m c main_cst_0 (ix2 0 k) = Ideal.ofBits .f32 (lit1 k) := by
    unfold V
    after_reads_simp
    exact congrArg (fun i => Ideal.ofBits .f32 (lit1 i)) (Fin.ext ((Shape.rowMajor_val_two _).trans (show 0 * 3072 + k.val = k.val by omega)))
  rw [e, lit1_at]
  split
  · rfl
  · pointwise []

end host

section cols
variable (c : Dev nD) (t : Fin cfg0.N) (x : Fin 128)

theorem h0 : cl (iblk m c 0 t) x = cl (m ((c : Thread nD τ).loc main_arg0)) (co (at' t) x) := by
  funext r
  refine Eq.trans ?_ (congrArg (fun v => cl v (co (at' t) x) r) (V_main_arg0 m c))
  unfold cl co at'; blk_point [iblk, idx t]

theorem h6 : cl (iblk m c 6 t) x = cl (m ((c : Thread nD τ).loc main_arg2)) (co (at' t) x) := by
  funext r
  refine Eq.trans ?_ (congrArg (fun v => cl v (co (at' t) x) r) (V_main_arg2 m c))
  unfold cl co at'; blk_point [iblk, idx t]

theorem h1 : iblk m c 1 t (ix2 0 x) = (m ((c : Thread nD τ).loc main_arg1)) (ix2 0 (co (at' t) x)) := by
  refine Eq.trans ?_ (w0_at m c (co (at' t) x))
  unfold co at'; blk_point [iblk, idx t]

theorem h2 : iblk m c 2 t (ix2 0 x) = (m ((c : Thread nD τ).loc main_arg1)) (ix2 1 (co (at' t) x)) := by
  refine Eq.trans ?_ (w1_at m c (co (at' t) x))
  unfold co at'; blk_point [iblk, idx t]

theorem h3 : iblk m c 3 t (ix2 0 x) = (m ((c : Thread nD τ).loc main_arg1)) (ix2 2 (co (at' t) x)) := by
  refine Eq.trans ?_ (w2_at m c (co (at' t) x))
  unfold co at'; blk_point [iblk, idx t]

theorem h4 : @Eq EReal (iblk m c 4 t (ix2 0 x)) (if (at' t).val < 16 then 1 else 0) := by
  have e : (co (at' t) x).val < 2048 ↔ (at' t).val < 16 := by
    have := x.isLt
    show (at' t).val * 128 + x.val < 2048 ↔ _
    omega
  refine Eq.trans ?_ ((normed_at m c (co (at' t) x)).trans (if_congr e rfl rfl))
  unfold co at'; blk_point [iblk, idx t]

theorem h5 : @Eq EReal (iblk m c 5 t (ix2 0 x)) (if (at' t).val < 8 then scale else 1) := by
  have e : (co (at' t) x).val < 1024 ↔ (at' t).val < 8 := by
    have := x.isLt
    show (at' t).val * 128 + x.val < 1024 ↔ _
    omega
  refine Eq.trans ?_ ((scaled_at m c (co (at' t) x)).trans (if_congr e rfl rfl))
  unfold co at'; blk_point [iblk, idx t]

end cols

set_option maxHeartbeats 1600000 in
/-- The gradient to the columns, -/
theorem final7 (c : Dev nD) : (dats m 0 c).arrAt 7 (cfgs 0).N
    = val_main_v284 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨r, x, rfl⟩ := pair y
  have e : ((cfg0.win 7).blk t).view.emb (ix2 r x) = ix2 r (co (at' t) x) := by
    funext a
    match a with
    | ⟨0, _⟩ => (apply Fin.ext; blk_simp [idx t])
    | ⟨1, _⟩ => (apply Fin.ext; blk_simp [idx t]; rfl)
  refine Eq.trans ?_ ((congrArg (val_main_v284 (F := Ideal) _ _ _) e).trans (v284_at _ _ _ r (at' t) x)).symm
  blk_simp
  rw [after0_7]
  unfold_out out0_7
  frame_out
  exact dx_at (iblk m c 0 t) (iblk m c 6 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (at' t) (h0 m c t) (h6 m c t) (h1 m c t) (h2 m c t) (h3 m c t) (h4 m c t) (h5 m c t) r x

set_option maxHeartbeats 1600000 in
/-- to the first weight, -/
theorem final8 (c : Dev nD) : (dats m 0 c).arrAt 8 (cfgs 0).N
    = val_main_v285 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨r, x, rfl⟩ := pair y
  obtain rfl : r = 0 := Subsingleton.elim (α := Fin 1) _ _
  have e : ((cfg0.win 8).blk t).view.emb (ix2 0 x) = ix2 0 (co (at' t) x) := by
    funext a
    match a with
    | ⟨0, _⟩ => (apply Fin.ext; blk_simp [idx t])
    | ⟨1, _⟩ => (apply Fin.ext; blk_simp [idx t]; rfl)
  refine Eq.trans ?_ ((congrArg (val_main_v285 (F := Ideal) _ _ _) e).trans (v285_at _ _ _ (at' t) x)).symm
  blk_simp
  rw [after0_8]
  unfold_out out0_8
  frame_out
  exact dw0_at (iblk m c 0 t) (iblk m c 6 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (at' t) (h0 m c t) (h6 m c t) (h1 m c t) (h2 m c t) (h3 m c t) (h4 m c t) (h5 m c t) x

set_option maxHeartbeats 1600000 in
/-- to the second -/
theorem final9 (c : Dev nD) : (dats m 0 c).arrAt 9 (cfgs 0).N
    = val_main_v286 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  obtain ⟨r, x, rfl⟩ := pair y
  obtain rfl : r = 0 := Subsingleton.elim (α := Fin 1) _ _
  have e : ((cfg0.win 9).blk t).view.emb (ix2 0 x) = ix2 0 (co (at' t) x) := by
    funext a
    match a with
    | ⟨0, _⟩ => (apply Fin.ext; blk_simp [idx t])
    | ⟨1, _⟩ => (apply Fin.ext; blk_simp [idx t]; rfl)
  refine Eq.trans ?_ ((congrArg (val_main_v286 (F := Ideal) _ _ _) e).trans (v286_at _ _ _ (at' t) x)).symm
  blk_simp
  rw [after0_9]
  unfold_out out0_9
  frame_out
  exact dw1_at (iblk m c 0 t) (iblk m c 6 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (at' t) (h0 m c t) (h6 m c t) (h1 m c t) (h2 m c t) (h3 m c t) (h4 m c t) (h5 m c t) x

set_option maxHeartbeats 1600000 in
/-- and to the third. -/
theorem final10 (c : Dev nD) : (dats m 0 c).arrAt 10 (cfgs 0).N
    = val_main_v287 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨r, x, rfl⟩ := pair y
  obtain rfl : r = 0 := Subsingleton.elim (α := Fin 1) _ _
  have e : ((cfg0.win 10).blk t).view.emb (ix2 0 x) = ix2 0 (co (at' t) x) := by
    funext a
    match a with
    | ⟨0, _⟩ => (apply Fin.ext; blk_simp [idx t])
    | ⟨1, _⟩ => (apply Fin.ext; blk_simp [idx t]; rfl)
  refine Eq.trans ?_ ((congrArg (val_main_v287 (F := Ideal) _ _ _) e).trans (v287_at _ _ _ (at' t) x)).symm
  blk_simp
  rw [after0_10]
  unfold_out out0_10
  frame_out
  exact dw2_at (iblk m c 0 t) (iblk m c 6 t) (iblk m c 1 t) (iblk m c 2 t) (iblk m c 3 t) (iblk m c 4 t) (iblk m c 5 t) (m ((c : Thread nD τ).loc main_arg0)) (m ((c : Thread nD τ).loc main_arg1)) (m ((c : Thread nD τ).loc main_arg2)) (at' t) (h0 m c t) (h6 m c t) (h1 m c t) (h2 m c t) (h3 m c t) (h4 m c t) (h5 m c t) x

end Cert.GdnPrepKIdeal.GdnPrep

namespace Cert.Proof.GdnPrep

section
open Cert.GdnPrepRIdeal Cert.GdnPrepRIdeal.Gen Cert.GdnPrepRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v284) = val_main_v284 (F := Ideal) (m ((c.tc : Thread nD τ).loc
        main_arg0)) (m ((c.tc : Thread nD τ).loc main_arg1)) (m ((c.tc : Thread nD τ).loc main_arg2))
      ∧ r.2.mem ((c.tc : Thread nD τ).loc main_v285) = val_main_v285 (F := Ideal) (m ((c.tc : Thread nD τ).loc
        main_arg0)) (m ((c.tc : Thread nD τ).loc main_arg1)) (m ((c.tc : Thread nD τ).loc main_arg2))
      ∧ r.2.mem ((c.tc : Thread nD τ).loc main_v286) = val_main_v286 (F := Ideal) (m ((c.tc : Thread nD τ).loc
        main_arg0)) (m ((c.tc : Thread nD τ).loc main_arg1)) (m ((c.tc : Thread nD τ).loc main_arg2))
      ∧ r.2.mem ((c.tc : Thread nD τ).loc main_v287) = val_main_v287 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v284_eq _), (h c).2.1.trans (val_main_v285_eq _), (h c).2.2.1.trans (val_main_v286_eq
    _), (h c).2.2.2.1.trans (val_main_v287_eq _), (h c).2.2.2.2⟩)
    (Cert.GdnPrepRIdeal.Value.run (F := Ideal) m ρ)

end

open Cert.GdnPrepKIdeal.GdnPrep

set_option maxHeartbeats 1600000 in
/-- From memories that agree on the arguments the kernel and the reference end with the same gradients. -/
theorem algebraic : Cert.algebraic_GdnPrepKIdeal_GdnPrepRIdeal := by
  pair_intro
  · run_from Cert.GdnPrepKIdeal.Value.run_blocks m g
  · run_from refRun m' g'
    · exact (final7 m c).symm
    · exact (final8 m c).symm
    · exact (final9 m c).symm
    · exact (final10 m c).symm

end Cert.Proof.GdnPrep

end
-- ==== Proof.AttnFRef.lean ====
/-
  The attention's forward reference read at an index: the scores and the weights of one query row, one query head and the
  keys, and the output as the weights' products with the values.
-/
module

public import proofs.«01_k».proof.Defs
public import proofs.«01_k».proof.Proof.AttnRef
public import proofs.«01_k».proof.Proof.Gen.AttnFRIdeal.Read
public import Idealize.ShloMosaic.Lib.Pipeline.ValueKit

@[expose] public section

set_option maxRecDepth 16384

noncomputable section

open Idealize.ShloMosaic Idealize.ShloMosaic.TcCoe Idealize.SL.Sem

namespace Cert.AttnF

open Cert.AttnFRIdeal Cert.AttnFRIdeal.Gen Cert.AttnFRIdeal.Read
open Cert.Softmax
open Cert.Attn (scale low score)

variable (q : FVec Ideal S2048x1024 .f32) (k v : FVec Ideal S2304x256 .f32)

/-- The query head `g` of key head `h`. -/
abbrev headOf (h : Fin 2) (g : Fin 4) : Fin 8 := ⟨h.val * 4 + g.val, by omega⟩

theorem scores (h : Fin 2) (g : Fin 4) (r : Fin 2048) (l : Fin 2304) :
    val_main_v6 (F := Ideal) q k (ix5 (0 : Fin 1) h g r l) = score q k (headOf h g) r l := by
  pointwise [val_main_v6, val_main_v5, val_main_cst, val_main_v4, val_main_v3, val_main_v1, val_main_v0, score, scale]
  refine congrArg (· * (Ideal.ofBits .f32 1035273459#32 : EReal)) (Finset.sum_congr rfl fun x _ => ?_)
  rw [mul_comm]
  congr 2 <;> blk_ext

/-- The greatest score, which the softmax takes once more against the word it starts from. -/
theorem greatest (h : Fin 2) (g : Fin 4) (r : Fin 2048) :
    val_main_v9 (F := Ideal) q k (ix4 (0 : Fin 1) h g r) = top low (score q k (headOf h g) r) := by
  have h7 : val_main_v7 (F := Ideal) q k (ix4 (0 : Fin 1) h g r) = top low (score q k (headOf h g) r) := by
    pointwise [val_main_v7, val_main_cst_0]
    simp only [scores]
    rfl
  have h8 : val_main_v8 (F := Ideal) (ix4 (0 : Fin 1) h g r) = low := by
    rw [val_main_v8_apply, val_main_cst_1_apply]
    rfl
  rw [val_main_v9_apply, h8, h7]
  exact max_eq_right (base_le_top low _)

theorem exps (h : Fin 2) (g : Fin 4) (r : Fin 2048) (l : Fin 2304) :
    val_main_v13 (F := Ideal) q k (ix5 (0 : Fin 1) h g r l) = ex low (score q k (headOf h g) r) l := by
  pointwise [val_main_v13, val_main_v12, val_main_v11, val_main_v10]
  rw [scores, greatest]
  rfl

theorem totals (h : Fin 2) (g : Fin 4) (r : Fin 2048) :
    val_main_v14 (F := Ideal) q k (ix4 (0 : Fin 1) h g r) = total low (score q k (headOf h g) r) := by
  pointwise [val_main_v14, val_main_cst_2]
  simp only [exps]
  rfl

theorem weights (h : Fin 2) (g : Fin 4) (r : Fin 2048) (l : Fin 2304) :
    val_main_v17 (F := Ideal) q k (ix5 (0 : Fin 1) h g r l)
      = Ideal.div (ex low (score q k (headOf h g) r) l) (total low (score q k (headOf h g) r)) := by
  pointwise [val_main_v17, val_main_v16, val_main_v15]
  rw [exps, totals]

/-- The output at a row and a query head's column, the weights as the kernel writes them: on rows whose exponentials do
    not add up to zero. -/
theorem output (h0 : ∀ n r, total low (score q k n r) ≠ 0) (n : Fin 8) (r : Fin 2048) (x : Fin 128) :
    val_main_v20 (F := Ideal) q k v (ix2 r ⟨n.val * 128 + x.val, by omega⟩)
      = ∑ l : Fin 2304, ex low (score q k n r) l * Ideal.div 1 (total low (score q k n r)) * v (ix2 l ⟨n.val / 4 * 128 + x.val, by omega⟩) := by
  pointwise [val_main_v20, val_main_v19, val_main_v18, val_main_v2]
  refine Finset.sum_congr rfl fun l _ => ?_
  rw [weights, ← weight_eq (h0 _ _), mul_comm]
  refine congrArg₂ (· * ·) ?_ (congrArg v ?_)
  · refine congrArg (fun m => ex low (score q k m r) l * Ideal.div 1 (total low (score q k m r))) ?_
    exact Fin.ext (by dsimp only; omega)
  · blk_ext

end Cert.AttnF

end
-- ==== Proof.AttnF.lean ====
/-
  The attention's forward call. A grid point writes, in two halves, one query head's output on a block of rows from the
  head's keys and values. The kernel multiplies by the reciprocal of a row's sum where the reference divides by it: the
  two agree on rows of finite scores.
-/
module

public import proofs.«01_k».proof.Defs
public import proofs.«01_k».proof.Proof.Attn
public import proofs.«01_k».proof.Proof.AttnFRef
public import proofs.«01_k».proof.Proof.Gen.AttnFKIdeal.Value
public import proofs.«01_k».proof.Proof.Gen.AttnFRIdeal.Run
public import proofs.«01_k».proof.Proof.Gen.Pre_finite_attnf
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnF

open Cert.AttnFKIdeal Cert.AttnFKIdeal.Gen Cert.AttnFRIdeal.Read
open Cert.Softmax
open Cert.Attn (scale low score rowDot blkScore score_real real_of_lt low_ne_top)

/-- A block's output: its weights' products with the values, its rows the first half of a point's block. -/
theorem out_lo (q : FVec Ideal S128x128 .f32) (k v : FVec Ideal S2304x128 .f32) (y : S128x128.Idx) :
    k0_pay5 (F := Ideal) v q k y
      = ∑ l : Fin 2304, ex low (blkScore q k (y 0)) l * Ideal.div 1 (total low (blkScore q k (y 0))) * v (ix2 l (y 1)) := by
  pointwise [k0_pay5, k0_pay2, k0_pay3]
  rfl

/-- The second half of a point's block is computed as the first is. -/
theorem out_hi (q : FVec Ideal S128x128 .f32) (k v : FVec Ideal S2304x128 .f32) (y : S128x128.Idx) :
    k0_pay1 (F := Ideal) (k0_pay2 (F := Ideal) v) (k0_pay4 (F := Ideal) q k) y
      = ∑ l : Fin 2304, ex low (blkScore q k (y 0)) l * Ideal.div 1 (total low (blkScore q k (y 0))) * v (ix2 l (y 1)) :=
  (congrFun (rfl : k0_pay1 (F := Ideal) (k0_pay2 (F := Ideal) v) (k0_pay4 (F := Ideal) q k) = k0_pay5 (F := Ideal) v q k) y).trans
    (out_lo q k v y)

variable (m : (ℓ : Loc nD τ sig) → Buf (Elt Ideal) ℓ)

/-- The query rows' and the output's windows move down with the last coordinate of the grid point and across with the
    first, the keys' and values' across with the first. -/
theorem idx : ∀ t : Fin cfg0.N, win0_0.index t = ![t.val % 8, t.val / 8] ∧ win0_1.index t = ![0, t.val / 32]
    ∧ win0_2.index t = ![0, t.val / 32] ∧ win0_3.index t = ![t.val % 8, t.val / 8] :=
  (by decide +kernel : ∀ t : Fin grid0.N, _)

theorem lt64 (t : Fin cfg0.N) : t.val < 64 := lt_of_lt_of_eq t.isLt N_0

/-- The call's arguments on core `c`. -/
abbrev aq (c : Dev nD) : FVec Ideal S2048x1024 .f32 := m ((c : Thread nD τ).loc main_arg0)
abbrev ak (c : Dev nD) : FVec Ideal S2304x256 .f32 := m ((c : Thread nD τ).loc main_arg1)
abbrev av (c : Dev nD) : FVec Ideal S2304x256 .f32 := m ((c : Thread nD τ).loc main_arg2)

/-- The query head of a grid point, and the query row of its block's row. -/
def head (t : Fin cfg0.N) : Fin 8 := ⟨t.val / 8, by have := lt64 t; omega⟩
def row (t : Fin cfg0.N) (r : Fin 256) : Fin 2048 := ⟨t.val % 8 * 256 + r.val, by omega⟩

/-- The halves of a block of 256 rows. -/
abbrev ldLo (x : Vec Ideal S256x128 .f32) : FVec Ideal S128x128 .f32 := View.ld x (Rect.unit ![0, 0] ![128, 128] inb_S256x128_S128x128_0_0)
abbrev ldHi (x : Vec Ideal S256x128 .f32) : FVec Ideal S128x128 .f32 := View.ld x (Rect.unit ![128, 0] ![128, 128] inb_S256x128_S128x128_128_0)

theorem q_lo (c : Dev nD) (t : Fin cfg0.N) (r x : Fin 128) :
    ldLo (iblk m c 0 t) (ix2 r x) = aq m c (ix2 (row t ⟨r.val, by omega⟩) ⟨(head t).val * 128 + x.val, by omega⟩) := by
  have ht := lt64 t
  dsimp only [ldLo, aq, row, head]
  pointwise []
  blk_point [iblk, V, idx t]

theorem q_hi (c : Dev nD) (t : Fin cfg0.N) (r x : Fin 128) :
    ldHi (iblk m c 0 t) (ix2 r x) = aq m c (ix2 (row t ⟨128 + r.val, by omega⟩) ⟨(head t).val * 128 + x.val, by omega⟩) := by
  have ht := lt64 t
  dsimp only [ldHi, aq, row, head]
  pointwise []
  blk_point [iblk, V, idx t]

theorem k_blk (c : Dev nD) (t : Fin cfg0.N) (l : Fin 2304) (x : Fin 128) :
    iblk m c 1 t (ix2 l x) = ak m c (ix2 l ⟨(head t).val / 4 * 128 + x.val, by omega⟩) := by
  have ht := lt64 t
  dsimp only [ak, head]
  pointwise []
  blk_point [iblk, V, idx t]

theorem v_blk (c : Dev nD) (t : Fin cfg0.N) (l : Fin 2304) (x : Fin 128) :
    iblk m c 2 t (ix2 l x) = av m c (ix2 l ⟨(head t).val / 4 * 128 + x.val, by omega⟩) := by
  have ht := lt64 t
  dsimp only [av, head]
  pointwise []
  blk_point [iblk, V, idx t]

/-- A half of a block whose rows are the queries' rows `R` has the scores of those rows, and its output is the reference's. -/
theorem half (c : Dev nD) (t : Fin cfg0.N) (h0 : ∀ n r, total low (score (aq m c) (ak m c) n r) ≠ 0)
    (b : FVec Ideal S128x128 .f32) (R : Fin 128 → Fin 2048)
    (hb : ∀ r x, b (ix2 r x) = aq m c (ix2 (R r) ⟨(head t).val * 128 + x.val, by omega⟩)) (r x : Fin 128) :
    (∑ l : Fin 2304, ex low (blkScore b (iblk m c 1 t) r) l * Ideal.div 1 (total low (blkScore b (iblk m c 1 t) r)) * iblk m c 2 t (ix2 l x) : EReal)
      = val_main_v20 (F := Ideal) (aq m c) (ak m c) (av m c) (ix2 (R r) ⟨(head t).val * 128 + x.val, by omega⟩) := by
  have hs : blkScore b (iblk m c 1 t) r = score (aq m c) (ak m c) (head t) (R r) :=
    funext fun l => congrArg (· * scale) (Finset.sum_congr rfl fun x _ => congrArg₂ (· * ·) (hb r x) (k_blk m c t l x))
  rw [hs]
  refine Eq.trans (Finset.sum_congr rfl fun l _ => ?_) (output (aq m c) (ak m c) (av m c) h0 (head t) (R r) x).symm
  exact congrArg (_ * ·) (v_blk m c t l x)

/-- The output array. -/
theorem final3 (c : Dev nD) (hn : ∀ n r, total low (score (aq m c) (ak m c) n r) ≠ 0) :
    (dats m 0 c).arrAt 3 (cfgs 0).N = val_main_v20 (F := Ideal) (aq m c) (ak m c) (av m c) := by
  refine (dats m 0 c).arrAt_eq_of_covers 3 _ (by decide +kernel) fun t _ y => ?_
  blk_simp
  rw [after0_3]
  unfold out0_3
  have ht := lt64 t
  frame_out
  canon_tiles x h
  case piece0 =>
    refine ((out_hi _ _ _ x).trans (half m c t hn _ _ (q_hi m c t) (x 0) (x 1))).trans
      (congrArg (val_main_v20 (F := Ideal) (aq m c) (ak m c) (av m c)) ?_)
    dsimp only [row, head]
    funext a
    match a with
    | ⟨0, _⟩ => (apply Fin.ext; blk_simp [idx t]; exact congrArg (t.val % 8 * 256 + ·) h0.symm)
    | ⟨1, _⟩ => (apply Fin.ext; blk_simp [idx t]; exact congrArg (t.val / 8 * 128 + ·) h1.symm)
  case piece1 =>
    refine ((out_lo _ _ _ x).trans (half m c t hn _ _ (q_lo m c t) (x 0) (x 1))).trans
      (congrArg (val_main_v20 (F := Ideal) (aq m c) (ak m c) (av m c)) ?_)
    dsimp only [row, head]
    funext a
    match a with
    | ⟨0, _⟩ => (apply Fin.ext; blk_simp [idx t]; exact congrArg (t.val % 8 * 256 + ·) h0.symm)
    | ⟨1, _⟩ => (apply Fin.ext; blk_simp [idx t]; exact congrArg (t.val / 8 * 128 + ·) h1.symm)

end Cert.AttnF

namespace Cert.Proof.AttnF

open Cert.AttnF Cert.Softmax
open Cert.Attn (low score score_real real_of_lt low_ne_top)

section
open Cert.AttnFRIdeal Cert.AttnFRIdeal.Gen Cert.AttnFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v20_eq _ _ _), (h c).2⟩)
    (Cert.AttnFRIdeal.Value.run (F := Ideal) m ρ)

end

/-- From memories that agree on the arguments, queries and keys finite, the kernel and the reference end with the same
    output. -/
theorem algebraic : Cert.algebraic_AttnFKIdeal_AttnFRIdeal_pre_finite_attnf := by
  pair_intro
  · run_from Cert.AttnFKIdeal.Value.run_blocks m g
  · run_from refRun m' g'
    refine (final3 m c fun n r => total_ne_zero low_ne_top (fun l => ?_) ⟨0, by omega⟩).symm
    obtain ⟨a, ha⟩ := score_real (aq m c) (ak m c) (fun i => real_of_lt (congrFun (hpre c).1 i)) (fun i => real_of_lt (congrFun (hpre c).2 i)) n r l
    rw [ha]
    exact ⟨EReal.coe_ne_top a, EReal.coe_ne_bot a⟩

end Cert.Proof.AttnF

end
-- ==== Proof.MergeF.lean ====
/-
  The forward call of the two gated branches' merge, `y = σ(g₁)·a + σ(g₂)·d`, block of rows by block of rows.
-/
module

public import proofs.«01_k».proof.Defs
public import proofs.«01_k».proof.Proof.Gen.MergeFKIdeal.Value
public import proofs.«01_k».proof.Proof.Gen.MergeFRIdeal.Read
public import proofs.«01_k».proof.Proof.Gen.MergeFRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeF

open Cert.MergeFKIdeal Cert.MergeFKIdeal.Gen
open Cert.MergeFRIdeal.Read

variable (m : (ℓ : Loc nD τ sig) → Buf (Elt Ideal) ℓ)

/-- The rows' windows move down with the grid point, the others stay. -/
theorem idx : ∀ t : Fin cfg0.N, win0_0.index t = ![t.val, 0]
    ∧ win0_1.index t = ![t.val, 0]
    ∧ win0_2.index t = ![t.val, 0]
    ∧ win0_3.index t = ![t.val, 0] :=
  (by decide +kernel : ∀ t : Fin grid0.N, _)

set_option maxHeartbeats 1600000 in
/-- The merged rows. -/
theorem final3 (c : Dev nD) : (dats m 0 c).arrAt 3 (cfgs 0).N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  pointwise [k0_pay1, val_main_v0, val_main_v1, val_main_v2, val_main_v3, val_main_cst, val_main_v4, val_main_v5,
    val_main_cst_0, val_main_v6, val_main_v7, val_main_v8, val_main_v9, val_main_v10, val_main_cst_1, val_main_v11,
    val_main_v12, val_main_cst_2, val_main_v13, val_main_v14, val_main_v15, val_main_v16, Ideal.logistic]
  blk_point [iblk, V, idx t]

end Cert.MergeF

namespace Cert.Proof.MergeF

section
open Cert.MergeFRIdeal Cert.MergeFRIdeal.Gen Cert.MergeFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = val_main_v16 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v16_eq _ _ _), (h c).2⟩)
    (Cert.MergeFRIdeal.Value.run (F := Ideal) m ρ)

end

open Cert.MergeF

/-- From memories that agree on the arguments the kernel and the reference end with the same rows. -/
theorem algebraic : Cert.algebraic_MergeFKIdeal_MergeFRIdeal := by
  pair_intro
  · run_from Cert.MergeFKIdeal.Value.run_blocks m g
  · run_from refRun m' g'
    exact (final3 m c).symm

end Cert.Proof.MergeF

end
-- ==== Proof.NormF.lean ====
/-
  The forward call of the latent rows' normalisation and modulation, `y = rms(x)·(1 + scale) + shift`.
-/
module

public import proofs.«01_k».proof.Defs
public import proofs.«01_k».proof.Proof.Gen.NormFKIdeal.Value
public import proofs.«01_k».proof.Proof.Gen.NormFRIdeal.Read
public import proofs.«01_k».proof.Proof.Gen.NormFRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormF

open Cert.NormFKIdeal Cert.NormFKIdeal.Gen
open Cert.NormFRIdeal.Read

variable (m : (ℓ : Loc nD τ sig) → Buf (Elt Ideal) ℓ)

/-- The rows' windows move down with the grid point, the others stay. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

set_option maxHeartbeats 1600000 in
/-- The normalised rows. -/
theorem final3 (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  pointwise [k0_pay1, val_main_v0, val_main_cst, val_main_v1, val_main_v2, val_main_cst_0, val_main_v3, val_main_v4,
    val_main_cst_1, val_main_v5, val_main_v6, val_main_v7, val_main_v8, val_main_v9, val_main_cst_2, val_main_v10,
    val_main_v11, val_main_v12, val_main_v13, val_main_v14, val_main_v15, Ideal.logistic]
  blk_point [iblk, V, idx t]

end Cert.NormF

namespace Cert.Proof.NormF

section
open Cert.NormFRIdeal Cert.NormFRIdeal.Gen Cert.NormFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = val_main_v15 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v15_eq _ _ _), (h c).2⟩)
    (Cert.NormFRIdeal.Value.run (F := Ideal) m ρ)

end

open Cert.NormF

/-- From memories that agree on the arguments the kernel and the reference end with the same rows. -/
theorem algebraic : Cert.algebraic_NormFKIdeal_NormFRIdeal := by
  pair_intro
  · run_from Cert.NormFKIdeal.Value.run_blocks m g
  · run_from refRun m' g'
    exact (final3 m c).symm

end Cert.Proof.NormF

end
-- ==== Proof.NormCF.lean ====
/-
  The forward call of the context rows' normalisation and modulation: one block of rows holds the whole array.
-/
module

public import proofs.«01_k».proof.Defs
public import proofs.«01_k».proof.Proof.Gen.NormCFKIdeal.Value
public import proofs.«01_k».proof.Proof.Gen.NormCFRIdeal.Read
public import proofs.«01_k».proof.Proof.Gen.NormCFRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormCF

open Cert.NormCFKIdeal Cert.NormCFKIdeal.Gen
open Cert.NormCFRIdeal.Read

variable (m : (ℓ : Loc nD τ sig) → Buf (Elt Ideal) ℓ)

/-- The rows' windows move down with the grid point, the others stay. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

set_option maxHeartbeats 1600000 in
/-- The normalised rows. -/
theorem final3 (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  pointwise [k0_pay1, val_main_v0, val_main_cst, val_main_v1, val_main_v2, val_main_cst_0, val_main_v3, val_main_v4,
    val_main_cst_1, val_main_v5, val_main_v6, val_main_v7, val_main_v8, val_main_v9, val_main_cst_2, val_main_v10,
    val_main_v11, val_main_v12, val_main_v13, val_main_v14, val_main_v15, Ideal.logistic]
  blk_point [iblk, V, idx t]

end Cert.NormCF

namespace Cert.Proof.NormCF

section
open Cert.NormCFRIdeal Cert.NormCFRIdeal.Gen Cert.NormCFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = val_main_v15 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v15_eq _ _ _), (h c).2⟩)
    (Cert.NormCFRIdeal.Value.run (F := Ideal) m ρ)

end

open Cert.NormCF

/-- From memories that agree on the arguments the kernel and the reference end with the same rows. -/
theorem algebraic : Cert.algebraic_NormCFKIdeal_NormCFRIdeal := by
  pair_intro
  · run_from Cert.NormCFKIdeal.Value.run_blocks m g
  · run_from refRun m' g'
    exact (final3 m c).symm

end Cert.Proof.NormCF

end
-- ==== Proof.ResF.lean ====
/-
  The forward call of the residual addition with the norm and modulation after it.
-/
module

public import proofs.«01_k».proof.Defs
public import proofs.«01_k».proof.Proof.Gen.ResFKIdeal.Value
public import proofs.«01_k».proof.Proof.Gen.ResFRIdeal.Read
public import proofs.«01_k».proof.Proof.Gen.ResFRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ResF

open Cert.ResFKIdeal Cert.ResFKIdeal.Gen
open Cert.ResFRIdeal.Read

variable (m : (ℓ : Loc nD τ sig) → Buf (Elt Ideal) ℓ)

/-- The rows' windows move down with the grid point, the others stay. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0] :=
  (by decide +kernel : ∀ t : Fin grid0.N, _)

set_option maxHeartbeats 1600000 in
/-- The rows with the branch added. -/
theorem final5 (c : Dev nD) : (dats m 0 c).arrAt 5 (cfgs 0).N
    = val_main_v2 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, k0_pay2, val_main_v0, val_main_v1, val_main_v2, val_main_v3, val_main_cst, val_main_v4, val_main_v5,
    val_main_cst_0, val_main_v6, val_main_v7, val_main_cst_1, val_main_v8, val_main_v9, val_main_v10, val_main_v11,
    val_main_v12, val_main_cst_2, val_main_v13, val_main_v14, val_main_v15, val_main_v16, val_main_v17,
    val_main_v18, Ideal.logistic]
  blk_point [iblk, V, idx t]

set_option maxHeartbeats 1600000 in
/-- The normalised rows. -/
theorem final6 (c : Dev nD) : (dats m 0 c).arrAt 6 (cfgs 0).N
    = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold out0_6
  frame_out
  pointwise [k0_pay1, k0_pay2, val_main_v0, val_main_v1, val_main_v2, val_main_v3, val_main_cst, val_main_v4, val_main_v5,
    val_main_cst_0, val_main_v6, val_main_v7, val_main_cst_1, val_main_v8, val_main_v9, val_main_v10, val_main_v11,
    val_main_v12, val_main_cst_2, val_main_v13, val_main_v14, val_main_v15, val_main_v16, val_main_v17,
    val_main_v18, Ideal.logistic]
  blk_point [iblk, V, idx t]

end Cert.ResF

namespace Cert.Proof.ResF

section
open Cert.ResFRIdeal Cert.ResFRIdeal.Gen Cert.ResFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0))
        (m ((c.tc : Thread nD τ).loc main_arg1)) (m ((c.tc : Thread nD τ).loc main_arg2))
      ∧ r.2.mem ((c.tc : Thread nD τ).loc main_v18) = val_main_v18 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v2_eq _ _ _), (h c).2.1.trans (val_main_v18_eq _ _ _ _ _), (h c).2.2⟩)
    (Cert.ResFRIdeal.Value.run (F := Ideal) m ρ)

end

open Cert.ResF

/-- From memories that agree on the arguments the kernel and the reference end with the same two arrays. -/
theorem algebraic : Cert.algebraic_ResFKIdeal_ResFRIdeal := by
  pair_intro
  · run_from Cert.ResFKIdeal.Value.run_blocks m g
  · run_from refRun m' g'
    · exact (final5 m c).symm
    · exact (final6 m c).symm

end Cert.Proof.ResF

end
-- ==== Proof.HeadF.lean ====
/-
  The forward call of the last residual addition, norm and loss: every lane of a row holds the row's loss.
-/
module

public import proofs.«01_k».proof.Defs
public import proofs.«01_k».proof.Proof.Gen.HeadFKIdeal.Value
public import proofs.«01_k».proof.Proof.Gen.HeadFRIdeal.Read
public import proofs.«01_k».proof.Proof.Gen.HeadFRIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadF

open Cert.HeadFKIdeal Cert.HeadFKIdeal.Gen
open Cert.HeadFRIdeal.Read

variable (m : (ℓ : Loc nD τ sig) → Buf (Elt Ideal) ℓ)

/-- The rows' windows move down with the grid point, the others stay. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

set_option maxHeartbeats 1600000 in
/-- The rows' losses. -/
theorem final5 (c : Dev nD) : (dats m 0 c).arrAt 5 (cfgs 0).N
    = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold out0_5
  frame_out
  pointwise [k0_pay1, val_main_v0, val_main_v1, val_main_v2, val_main_v3, val_main_cst, val_main_v4, val_main_v5,
    val_main_cst_0, val_main_v6, val_main_v7, val_main_cst_1, val_main_v8, val_main_v9, val_main_v10, val_main_v11,
    val_main_v12, val_main_v13, val_main_v14, val_main_v15, val_main_v16, val_main_v17, val_main_cst_2,
    val_main_v18, val_main_v19, val_main_cst_3, val_main_v20, val_main_v21, val_main_cst_4, val_main_v22,
    val_main_v23, val_main_v24, Ideal.logistic]
  blk_point [iblk, V, idx t]

end Cert.HeadF

namespace Cert.Proof.HeadF

section
open Cert.HeadFRIdeal Cert.HeadFRIdeal.Gen Cert.HeadFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = val_main_v24 (F := Ideal) (m ((c.tc : Thread nD τ).loc
        main_arg0)) (m ((c.tc : Thread nD τ).loc main_arg1)) (m ((c.tc : Thread nD τ).loc main_arg2)) (m ((c.tc :
        Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v24_eq _ _ _ _ _), (h c).2⟩)
    (Cert.HeadFRIdeal.Value.run (F := Ideal) m ρ)

end

open Cert.HeadF

/-- From memories that agree on the arguments the kernel and the reference end with the same losses. -/
theorem algebraic : Cert.algebraic_HeadFKIdeal_HeadFRIdeal := by
  pair_intro
  · run_from Cert.HeadFKIdeal.Value.run_blocks m g
  · run_from refRun m' g'
    exact (final5 m c).symm

end Cert.Proof.HeadF

end
-- ==== Proof.RopeF.lean ====
/-
  The norm and the rotation of a head, forward: one row's two forms, the reference's (halves of a head rotated) and the
  kernel's (a table of signed sines and a permutation of the columns), and that they are the same.
-/
module

public import proofs.«01_k».proof.Proof.Rope
public import Idealize.ShloMosaic.Lib.Pipeline.ValueKit

@[expose] public section

set_option maxRecDepth 16384

noncomputable section

open Idealize.ShloMosaic

namespace Cert.Rope

/-- A head normed and weighted. -/
def nrm (f w : Fin 128 → EReal) (x : Fin 128) : EReal := f x * Ideal.rsqrt (var f) * w x

/-- One row through the rotation. -/
def rotf (t : ℕ) (y : Fin 128 → EReal) (x : Fin 128) : EReal :=
  if x.val % 64 < 32 then y x * Ideal.cos (ang t x) - y (part x) * Ideal.sin (ang t x)
  else y x * Ideal.cos (ang t x) + y (part x) * Ideal.sin (ang t x)

/-- The kernel's form, with a table of cosines, one of signed sines, and a permutation as a matrix. -/
def turnf (c s : Fin 128 → EReal) (p : Fin 128 → Fin 128 → EReal) (y : Fin 128 → EReal) (x : Fin 128) : EReal :=
  y x * c x + (∑ k, y k * p k x) * s x

theorem sum_pmf (g : Fin 128 → EReal) (x : Fin 128) : ∑ k, g k * pm k x = g (part x) := by
  rw [Finset.sum_eq_single (part x)]
  · rw [pm, if_pos rfl, mul_one]
  · intro k _ hk
    rw [pm, if_neg hk, mul_zero]
  · exact fun h => absurd (Finset.mem_univ _) h

theorem turnf_eq (t : ℕ) (y : Fin 128 → EReal) : turnf (cosT t) (sinT t) pm y = rotf t y := by
  funext x
  unfold turnf rotf
  rw [sum_pmf]
  unfold sinT cosT
  by_cases h : x.val % 64 < 32
  · rw [if_pos h, if_pos h, mul_neg, sub_eq_add_neg]
  · rw [if_neg h, if_neg h]

/-- Without a rotation the kernel's form leaves the row as it is. -/
theorem turnf_one (y : Fin 128 → EReal) : turnf (fun _ => 1) (fun _ => 0) pm y = y := by
  funext x
  unfold turnf
  rw [mul_one, mul_zero, add_zero]

end Cert.Rope

end
-- ==== Proof.QPrepF.lean ====
/-
  The forward call of the queries' norm and rotation, block of rows by block of rows.
-/
module

public import proofs.«01_k».proof.Defs
public import proofs.«01_k».proof.Proof.RopeF
public import proofs.«01_k».proof.Proof.QPrepBlock
public import proofs.«01_k».proof.Proof.Gen.QPrepFKIdeal.Value
public import proofs.«01_k».proof.Proof.Gen.QPrepFRIdeal.Read
public import proofs.«01_k».proof.Proof.Gen.QPrepFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QPrepF

open Cert.QPrepFKIdeal Cert.QPrepFKIdeal.Gen Cert.Rope
open Cert.QPrep (hd)
open Cert.QPrepFRIdeal.Read

section reference
variable (a : Vec Ideal ⟨2, ![2048, 1024]⟩ .f32) (w : Vec Ideal ⟨2, ![1, 128]⟩ .f32) (r : Fin 2048) (n : Fin 8) (x : Fin 128)

theorem h_at : val_main_v32 (F := Ideal) a (ix4 0 r n x) = hd a r n x := by
  pointwise [val_main_v32]
  rfl

/-- The angles of a token. -/
theorem ang3_at (t : Fin 2048) (e : Fin 2) (f : Fin 32) (x : Fin 128) (he : e.val = x.val / 64) (hf : f.val = x.val % 32) :
    val_main_v29 (F := Ideal) (ix3 t e f) = ang t.val x := by
  unfold ang
  rw [if_congr (show x.val < 64 ↔ e.val < 1 by omega) rfl rfl, ← hf]
  match e with
  | ⟨0, _⟩ | ⟨1, _⟩ =>
    pointwise [val_main_v29, val_main_v28, val_main_v22, val_main_v20, val_main_v18, val_main_v3, val_main_v2, val_main_v1, val_main_v0, val_main_v21, val_main_v19, val_main_v17, val_main_v16, val_main_v15, val_main_cst_2, val_main_v14, val_main_cst_1, val_main_v13, val_main_v12, val_main_v11, val_main_cst_0, val_main_v10, val_main_v9, val_main_cst, val_main_v8, val_main_v27, val_main_v26, val_main_v25, val_main_v24, val_main_v23, val_main_v7, val_main_v6, val_main_v5, val_main_v4]
    rfl

theorem var_at : val_main_v40 (F := Ideal) a (ix4 0 r n 0) = var (hd a r n) := by
  pointwise [val_main_v40, val_main_v39, val_main_v38, val_main_v37, val_main_v36, val_main_v35, val_main_v34, val_main_cst_3,
    val_main_cst_4, val_main_cst_5]
  simp only [h_at]
  rfl

theorem y_at : val_main_v46 (F := Ideal) a w (ix4 0 r n x) = nrm (hd a r n) (fun x => w (ix2 0 x)) x := by
  unfold nrm
  rw [← var_at, ← h_at]
  pointwise [val_main_v46, val_main_v45, val_main_v44, val_main_v33, val_main_v43, val_main_v42, val_main_v41]

theorem v68_at : val_main_v68 (F := Ideal) a w (ix2 r ⟨n.val * 128 + x.val, by omega⟩)
    = rotf r.val (nrm (hd a r n) (fun x => w (ix2 0 x))) x := by
  unfold rotf
  have ha := ang3_at r ⟨x.val / 64, by omega⟩ ⟨x.val % 32, by omega⟩ x rfl rfl
  pointwise [val_main_v68, val_main_v67, val_main_v66, val_main_v65, val_main_v64, val_main_v63, val_main_v62, val_main_v61,
    val_main_v60, val_main_v59, val_main_v58, val_main_v57, val_main_v56, val_main_v55, val_main_v54, val_main_v53, val_main_v52,
    val_main_v51, val_main_v50, val_main_v49, val_main_v48, val_main_v47, val_main_v31, val_main_v30]
  by_cases h : x.val % 64 < 32
  · have e0 : (⟨x.val / 64 * 64 + x.val % 32, by omega⟩ : Fin 128) = x := Fin.ext (col_lo x h).1
    have e1 : (⟨x.val / 64 * 64 + 32 + x.val % 32, by omega⟩ : Fin 128) = part x := Fin.ext (col_lo x h).2
    have hq : x.val / 32 % 2 < 1 := by omega
    simp only [if_pos h, dif_pos hq]
    simp only [y_at]
    simp only [e0, e1, ha]
  · have e0 : (⟨x.val / 64 * 64 + x.val % 32, by omega⟩ : Fin 128) = part x := Fin.ext (col_hi x h).1
    have e1 : (⟨x.val / 64 * 64 + 32 + x.val % 32, by omega⟩ : Fin 128) = x := Fin.ext (col_hi x h).2
    have hq : ¬ x.val / 32 % 2 < 1 := by omega
    simp only [if_neg h, dif_neg hq]
    simp only [y_at]
    simp only [e0, e1, ha]

end reference

section slices
variable (v : Vec Ideal S256x1024 .f32)

/-- The blocks of columns the kernel cuts out of a block of rows. -/
def cut (n : Fin 8) : FVec Ideal S256x128 .f32 :=
  (![extractStridedSlice S256x128 ![0, 0] v slices_S256x1024_o0_0_S256x128,
    extractStridedSlice S256x128 ![0, 128] v slices_S256x1024_o0_128_S256x128,
    k0_pay5 v,
    k0_pay6 v,
    k0_pay7 v,
    k0_pay8 v,
    k0_pay9 v,
    k0_pay10 v] : Fin 8 → FVec Ideal S256x128 .f32) n

theorem cut_at (n : Fin 8) (r : Fin 256) (x : Fin 128) : cut v n (ix2 r x) = hd v r n x := by
  unfold cut hd
  match n with
  | ⟨0, _⟩ => (show (extractStridedSlice S256x128 ![0, 0] v slices_S256x1024_o0_0_S256x128) (ix2 r x) = _; pointwise [])
  | ⟨1, _⟩ => (show (extractStridedSlice S256x128 ![0, 128] v slices_S256x1024_o0_128_S256x128) (ix2 r x) = _; pointwise [])
  | ⟨2, _⟩ => (show k0_pay5 v (ix2 r x) = _; pointwise [k0_pay5])
  | ⟨3, _⟩ => (show k0_pay6 v (ix2 r x) = _; pointwise [k0_pay6])
  | ⟨4, _⟩ => (show k0_pay7 v (ix2 r x) = _; pointwise [k0_pay7])
  | ⟨5, _⟩ => (show k0_pay8 v (ix2 r x) = _; pointwise [k0_pay8])
  | ⟨6, _⟩ => (show k0_pay9 v (ix2 r x) = _; pointwise [k0_pay9])
  | ⟨7, _⟩ => (show k0_pay10 v (ix2 r x) = _; pointwise [k0_pay10])

end slices

/-- The heads' blocks side by side. -/
def join (g : Fin 8 → FVec Ideal S256x128 .f32) : FVec Ideal S256x1024 .f32 :=
  concatenate S256x1024 1 [⟨S256x128, g 0⟩, ⟨S256x128, g 1⟩, ⟨S256x128, g 2⟩, ⟨S256x128, g 3⟩, ⟨S256x128, g 4⟩, ⟨S256x128, g 5⟩, ⟨S256x128, g 6⟩, ⟨S256x128, g 7⟩]
    concatenates_S256x128_S256x128_S256x128_S256x128_S256x128_S256x128_S256x128_S256x128_S256x1024_d1

theorem join_at (g : Fin 8 → FVec Ideal S256x128 .f32) (r : Fin 256) (n : Fin 8) (x : Fin 128) :
    join g (ix2 r ⟨n.val * 128 + x.val, by omega⟩) = g n (ix2 r x) := by
  match n with
  | ⟨0, _⟩ | ⟨1, _⟩ | ⟨2, _⟩ | ⟨3, _⟩ | ⟨4, _⟩ | ⟨5, _⟩ | ⟨6, _⟩ | ⟨7, _⟩ =>
    pointwise [join]
    try simp (discharger := omega) only [dif_pos, dif_neg]
    try exact congrArg (fun k : Fin 128 => g _ (ix2 r k)) (Fin.ext (by simp only []; omega))

/-- A head's block. -/
abbrev blk (f c s : Vec Ideal S256x128 .f32) (p : Vec Ideal S128x128 .f32) (w : Vec Ideal S1x128 .f32) : FVec Ideal S256x128 .f32 :=
  k0_pay14 w (k0_pay2 c) (k0_pay3 s) (k0_pay4 p) f

theorem blk_at (f c s : Vec Ideal S256x128 .f32) (p : Vec Ideal S128x128 .f32) (w : Vec Ideal S1x128 .f32) (r : Fin 256) (x : Fin 128) :
    blk f c s p w (ix2 r x) = turnf (fun x => c (ix2 r x)) (fun x => s (ix2 r x)) (fun k x => p (ix2 k x))
      (nrm (fun x => f (ix2 r x)) (fun x => w (ix2 0 x))) x := by
  pointwise [k0_pay14, k0_pay2, k0_pay3, k0_pay4]
  rfl

/-- A block of rows. -/
theorem rows_at (v : Vec Ideal S256x1024 .f32) (c s : Vec Ideal S256x128 .f32) (p : Vec Ideal S128x128 .f32) (w : Vec Ideal S1x128 .f32)
    (r : Fin 256) (n : Fin 8) (x : Fin 128) :
    join (fun n => blk (cut v n) c s p w) (ix2 r ⟨n.val * 128 + x.val, by omega⟩)
      = turnf (fun x => c (ix2 r x)) (fun x => s (ix2 r x)) (fun k x => p (ix2 k x)) (nrm (hd v r n) (fun x => w (ix2 0 x))) x := by
  refine (join_at _ r n x).trans ?_
  simp only [blk_at, cut_at]

variable (m : (ℓ : Loc nD τ sig) → Buf (Elt Ideal) ℓ)

/-- Where each window stands at a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0] :=
  (by decide +kernel : ∀ t : Fin grid0.N, _)

set_option maxHeartbeats 1600000 in
/-- The table of cosines. -/
theorem cos_at (c : Dev nD) (t : Fin 2048) (x : Fin 128) : V m c main_v31 (ix2 t x) = cosT t.val x := by
  obtain ⟨k, f, rfl⟩ := quarter x
  unfold cosT
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, quot, remd]
    simp only [freq, Nat.add_sub_cancel_left, Nat.sub_sub]
    try rfl

set_option maxHeartbeats 1600000 in
/-- The table of signed sines. -/
theorem sin_at (c : Dev nD) (t : Fin 2048) (x : Fin 128) : V m c main_v38 (ix2 t x) = sinT t.val x := by
  obtain ⟨k, f, rfl⟩ := quarter x
  unfold sinT
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, quot, remd]
    simp only [freq, Nat.add_sub_cancel_left, Nat.sub_sub]
    try rfl

/-- The permutation of a head's columns. -/
theorem pm_at (c : Dev nD) (x k : Fin 128) : V m c main_v59 (ix2 x k) = pm x k := by
  unfold V
  simp only [hostOps0, hostOps0_1, hostOps0_2, hostOps0_3, hostOps0_4, List.flatten_cons, List.flatten_nil, List.cons_append, List.nil_append]
  after_reads_simp
  simp only [StableHlo.TRef.ofBuf_toBuf]
  simp only [StableHlo.TRef.ofBuf, StableHlo.TRef.toBuf, StableHlo.TRef.of, cast_eq, id_eq]
  pointwise []
  refine (congrArg (fun b => Scalar.select b (1 : EReal) 0) (perm_bits x k)).trans ?_
  unfold pm
  by_cases h : x = part k
  · rw [if_pos h, if_pos h]; rfl
  · rw [if_neg h, if_neg h]; rfl

/-- A column of a row is one of the 128 of one of the heads. -/
theorem split (y : (⟨2, ![256, 1024]⟩ : Shape).Idx) :
    ∃ (r : Fin 256) (n : Fin 8) (x : Fin 128), y = ix2 r ⟨n.val * 128 + x.val, by omega⟩ := by
  have h : (y 1).val < 1024 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2048 := ⟨t.val * 256 + r.val, by have : t.val < 8 := t.isLt; omega⟩

section rows
variable (c : Dev nD) (t : Fin cfg0.N) (r : Fin 256) (n : Fin 8)

theorem hd0 : hd (iblk m c 0 t) r n = hd (m ((c : Thread nD τ).loc main_arg0)) (row t r) n := by
  funext x; unfold hd row; blk_point [iblk, V, idx t]

theorem wt : (fun x : Fin 128 => iblk m c 1 t (ix2 0 x)) = fun x => m ((c : Thread nD τ).loc main_arg1) (ix2 0 x) := by
  funext x; blk_point [iblk, V, idx t]

/-- A block's tables are the tokens' own, so that the kernel's form is the rotation. -/
theorem turn_at (y : Fin 128 → EReal) : turnf (fun x => iblk m c 2 t (ix2 r x)) (fun x => iblk m c 3 t (ix2 r x))
    (fun k x => iblk m c 4 t (ix2 k x)) y = rotf (row t r).val y := by
  have p2 : (fun x : Fin 128 => iblk m c 2 t (ix2 r x)) = cosT (row t r).val := by
    funext x; refine Eq.trans ?_ (cos_at m c (row t r) x); unfold row; blk_point [iblk, idx t]
  have p3 : (fun x : Fin 128 => iblk m c 3 t (ix2 r x)) = sinT (row t r).val := by
    funext x; refine Eq.trans ?_ (sin_at m c (row t r) x); unfold row; blk_point [iblk, idx t]
  have p4 : (fun k x : Fin 128 => iblk m c 4 t (ix2 k x)) = pm := by
    funext x k
    have e : ((cfg0.win 4).blk t).view.emb (ix2 x k) = ix2 x k := by
      funext a
      match a with
      | ⟨0, _⟩ => (apply Fin.ext; blk_simp [idx t])
      | ⟨1, _⟩ => (apply Fin.ext; blk_simp [idx t])
    exact (congrArg (V m c main_v59) e).trans (pm_at m c x k)
  exact (congr (congr (congrArg turnf p2) p3) p4 ▸ rfl : _ = turnf (cosT (row t r).val) (sinT (row t r).val) pm y).trans
    (turnf_eq _ y)

end rows

set_option maxHeartbeats 1600000 in
/-- The rotated rows. -/
theorem final5 (c : Dev nD) : (dats m 0 c).arrAt 5 (cfgs 0).N
    = val_main_v68 (F := Ideal) (m ((c : Thread nD τ).loc main_arg0)) (m ((c : Thread nD τ).loc main_arg1)) := by
  refine (dats m 0 c).arrAt_eq_of_covers 5 _ (by decide +kernel) fun t _ y => ?_
  obtain ⟨r, n, x, rfl⟩ := split y
  have e : ((cfg0.win 5).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v68 (F := Ideal) _ _) e).trans (v68_at _ _ (row t r) n x)).symm
  rw [← hd0 m c t r n, ← wt m c t, ← turn_at m c t r]
  blk_simp
  rw [after0_5]
  unfold_out out0_5
  frame_out
  exact rows_at (iblk m c 0 t) (iblk m c 2 t) (iblk m c 3 t) (iblk m c 4 t) (iblk m c 1 t) r n x

end Cert.QPrepF

namespace Cert.Proof.QPrepF

section
open Cert.QPrepFRIdeal Cert.QPrepFRIdeal.Gen Cert.QPrepFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) = val_main_v68 (F := Ideal) (m ((c.tc : Thread nD τ).loc
        main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v68_eq m c), (h c).2⟩)
    (Cert.QPrepFRIdeal.Value.run (F := Ideal) m ρ)

end

open Cert.QPrepF

/-- From memories that agree on the arguments the kernel and the reference end with the same rows. -/
theorem algebraic : Cert.algebraic_QPrepFKIdeal_QPrepFRIdeal := by
  pair_intro
  · run_from Cert.QPrepFKIdeal.Value.run_blocks m g
  · run_from refRun m' g'
    exact (final5 m c).symm

end Cert.Proof.QPrepF

end
-- ==== Proof.KPrepF.lean ====
/-
  The forward call of the keys' norm and rotation, block of rows by block of rows: the context rows are normed alone, the
  latent rows are rotated too.
-/
module

public import proofs.«01_k».proof.Defs
public import proofs.«01_k».proof.Proof.RopeF
public import proofs.«01_k».proof.Proof.KPrepRef
public import proofs.«01_k».proof.Proof.Gen.KPrepFKIdeal.Value
public import proofs.«01_k».proof.Proof.Gen.KPrepFRIdeal.Read
public import proofs.«01_k».proof.Proof.Gen.KPrepFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KPrepF

open Cert.KPrepFKIdeal Cert.KPrepFKIdeal.Gen Cert.Rope
open Cert.KPrep (hd lo_or_hi)
open Cert.KPrepKIdeal.KPrep (lo hi)
open Cert.KPrepFRIdeal.Read

/-- A row's rotation: none for a context row. -/
def grotf (r : Fin 2304) (y : Fin 128 → EReal) : Fin 128 → EReal := if r.val < 256 then y else rotf (r.val - 256) y

theorem grotf_lo (r : Fin 256) (y : Fin 128 → EReal) : grotf (lo r) y = y := if_pos r.isLt

theorem grotf_hi (r : Fin 2048) (y : Fin 128 → EReal) : grotf (hi r) y = rotf r.val y := by
  have h : ¬ (hi r).val < 256 := by unfold hi; simp only []; omega
  have e : (hi r).val - 256 = r.val := by unfold hi; simp only []; omega
  unfold grotf
  rw [if_neg h, e]

section context
variable (a : Vec Ideal ⟨2, ![2304, 256]⟩ .f32) (w : Vec Ideal ⟨2, ![1, 128]⟩ .f32) (r : Fin 256) (n : Fin 2) (x : Fin 128)

theorem ch_at : val_main_v34 (F := Ideal) a (ix4 0 r n x) = hd a (lo r) n x := by
  pointwise [val_main_v34, val_main_v33, val_main_v32]
  rfl

theorem cvar_at : val_main_v42 (F := Ideal) a (ix4 0 r n 0) = var (hd a (lo r) n) := by
  pointwise [val_main_v42, val_main_v41, val_main_v40, val_main_v39, val_main_v38, val_main_v37, val_main_v36, val_main_cst_3,
    val_main_cst_4, val_main_cst_5]
  simp only [ch_at]
  rfl

theorem cy_at : val_main_v48 (F := Ideal) a w (ix4 0 r n x) = nrm (hd a (lo r) n) (fun x => w (ix2 0 x)) x := by
  unfold nrm
  rw [← cvar_at, ← ch_at]
  pointwise [val_main_v48, val_main_v47, val_main_v46, val_main_v35, val_main_v45, val_main_v44, val_main_v43]

end context

section latent
variable (a : Vec Ideal ⟨2, ![2304, 256]⟩ .f32) (w : Vec Ideal ⟨2, ![1, 128]⟩ .f32) (r : Fin 2048) (n : Fin 2) (x : Fin 128)

theorem xh_at : val_main_v51 (F := Ideal) a (ix4 0 r n x) = hd a (hi r) n x := by
  pointwise [val_main_v51, val_main_v50, val_main_v49]
  rfl

/-- The angles of a token. -/
theorem ang3_at (t : Fin 2048) (e : Fin 2) (f : Fin 32) (x : Fin 128) (he : e.val = x.val / 64) (hf : f.val = x.val % 32) :
    val_main_v29 (F := Ideal) (ix3 t e f) = ang t.val x := by
  unfold ang
  rw [if_congr (show x.val < 64 ↔ e.val < 1 by omega) rfl rfl, ← hf]
  match e with
  | ⟨0, _⟩ | ⟨1, _⟩ =>
    pointwise [val_main_v29, val_main_v28, val_main_v22, val_main_v20, val_main_v18, val_main_v3, val_main_v2, val_main_v1, val_main_v0, val_main_v21, val_main_v19, val_main_v17, val_main_v16, val_main_v15, val_main_cst_2, val_main_v14, val_main_cst_1, val_main_v13, val_main_v12, val_main_v11, val_main_cst_0, val_main_v10, val_main_v9, val_main_cst, val_main_v8, val_main_v27, val_main_v26, val_main_v25, val_main_v24, val_main_v23, val_main_v7, val_main_v6, val_main_v5, val_main_v4]
    rfl

theorem xvar_at : val_main_v59 (F := Ideal) a (ix4 0 r n 0) = var (hd a (hi r) n) := by
  pointwise [val_main_v59, val_main_v58, val_main_v57, val_main_v56, val_main_v55, val_main_v54, val_main_v53, val_main_cst_6,
    val_main_cst_7, val_main_cst_8]
  simp only [xh_at]
  rfl

theorem xy_at : val_main_v65 (F := Ideal) a w (ix4 0 r n x) = nrm (hd a (hi r) n) (fun x => w (ix2 0 x)) x := by
  unfold nrm
  rw [← xvar_at, ← xh_at]
  pointwise [val_main_v65, val_main_v64, val_main_v63, val_main_v52, val_main_v62, val_main_v61, val_main_v60]

theorem rot_at : val_main_v86 (F := Ideal) a w (ix4 0 r n x) = rotf r.val (nrm (hd a (hi r) n) (fun x => w (ix2 0 x))) x := by
  unfold rotf
  have ha := ang3_at r ⟨x.val / 64, by omega⟩ ⟨x.val % 32, by omega⟩ x rfl rfl
  pointwise [val_main_v86, val_main_v85, val_main_v84, val_main_v83, val_main_v82, val_main_v81, val_main_v80, val_main_v79,
    val_main_v78, val_main_v77, val_main_v76, val_main_v75, val_main_v74, val_main_v73, val_main_v72, val_main_v71, val_main_v70,
    val_main_v69, val_main_v68, val_main_v67, val_main_v66, val_main_v31, val_main_v30]
  by_cases h : x.val % 64 < 32
  · have e0 : (⟨x.val / 64 * 64 + x.val % 32, by omega⟩ : Fin 128) = x := Fin.ext (col_lo x h).1
    have e1 : (⟨x.val / 64 * 64 + 32 + x.val % 32, by omega⟩ : Fin 128) = part x := Fin.ext (col_lo x h).2
    have hq : x.val / 32 % 2 < 1 := by omega
    simp only [if_pos h, dif_pos hq]
    simp only [xy_at]
    simp only [e0, e1, ha]
  · have e0 : (⟨x.val / 64 * 64 + x.val % 32, by omega⟩ : Fin 128) = part x := Fin.ext (col_hi x h).1
    have e1 : (⟨x.val / 64 * 64 + 32 + x.val % 32, by omega⟩ : Fin 128) = x := Fin.ext (col_hi x h).2
    have hq : ¬ x.val / 32 % 2 < 1 := by omega
    simp only [if_neg h, dif_neg hq]
    simp only [xy_at]
    simp only [e0, e1, ha]

end latent

theorem v88_at (a : Vec Ideal ⟨2, ![2304, 256]⟩ .f32) (w : Vec Ideal ⟨2, ![1, 128]⟩ .f32) (R : Fin 2304) (n : Fin 2) (x : Fin 128) :
    val_main_v88 (F := Ideal) a w (ix2 R ⟨n.val * 128 + x.val, by omega⟩)
      = grotf R (nrm (hd a R n) (fun x => w (ix2 0 x))) x := by
  rcases lo_or_hi R with ⟨r, rfl⟩ | ⟨r, rfl⟩
  · rw [grotf_lo, ← cy_at]
    pointwise [lo, val_main_v88, val_main_v87]
    try exact dif_pos r.isLt
  · rw [grotf_hi, ← rot_at]
    pointwise [hi, val_main_v88, val_main_v87]
    try simp (discharger := omega) only [dif_neg, Nat.add_sub_cancel_left]

section slices
variable (v : Vec Ideal S256x256 .f32)

/-- The blocks of columns the kernel cuts out of a block of rows. -/
def cut (n : Fin 2) : FVec Ideal S256x128 .f32 :=
  (![extractStridedSlice S256x128 ![0, 0] v slices_S256x256_o0_0_S256x128,
    extractStridedSlice S256x128 ![0, 128] v slices_S256x256_o0_128_S256x128] : Fin 2 → FVec Ideal S256x128 .f32) n

theorem cut_at (n : Fin 2) (r : Fin 256) (x : Fin 128) : cut v n (ix2 r x) = hd v r n x := by
  unfold cut hd
  match n with
  | ⟨0, _⟩ => (show (extractStridedSlice S256x128 ![0, 0] v slices_S256x256_o0_0_S256x128) (ix2 r x) = _; pointwise [])
  | ⟨1, _⟩ => (show (extractStridedSlice S256x128 ![0, 128] v slices_S256x256_o0_128_S256x128) (ix2 r x) = _; pointwise [])

end slices

/-- The heads' blocks side by side. -/
def join (g : Fin 2 → FVec Ideal S256x128 .f32) : FVec Ideal S256x256 .f32 :=
  concatenate S256x256 1 [⟨S256x128, g 0⟩, ⟨S256x128, g 1⟩]
    concatenates_S256x128_S256x128_S256x256_d1

theorem join_at (g : Fin 2 → FVec Ideal S256x128 .f32) (r : Fin 256) (n : Fin 2) (x : Fin 128) :
    join g (ix2 r ⟨n.val * 128 + x.val, by omega⟩) = g n (ix2 r x) := by
  match n with
  | ⟨0, _⟩ | ⟨1, _⟩ =>
    pointwise [join]
    try simp (discharger := omega) only [dif_pos, dif_neg]
    try exact congrArg (fun k : Fin 128 => g _ (ix2 r k)) (Fin.ext (by simp only []; omega))

/-- A head normed and weighted. -/
abbrev ny (f : Vec Ideal S256x128 .f32) (w : Vec Ideal S1x128 .f32) : FVec Ideal S256x128 .f32 :=
  mulf (mulf f (broadcastTo S256x128 (rsqrt (addf (divf (shapeCast S256x1 (multiReduction .add [1] S256 (mulf f f)
        0x00000000#32 reduces_S256x128_S256 (.inl rfl) rfl) shapeCasts_S256_S256x1) (broadcast S256x1 (Scalar.ofBits .f32 0x43000000#32)))
        (broadcast S256x1 (Scalar.ofBits .f32 0x358637BD#32)))) broadcasts_S256x1_S256x128))
      (broadcastTo S256x128 w broadcasts_S1x128_S256x128)

/-- A head's block. -/
abbrev blk (f c s : Vec Ideal S256x128 .f32) (p : Vec Ideal S128x128 .f32) (w : Vec Ideal S1x128 .f32) : FVec Ideal S256x128 .f32 :=
  addf (mulf (ny f w) (k0_pay2 c)) (mulf (matmul dot_S256x128_S128x128_S256x128_1_0_0_1_n_n (some .bf16x3) (ny f w) (k0_pay4 p)
      (constant S256x128 .f32 0x00000000#32)) (k0_pay3 s))

theorem blk_at (f c s : Vec Ideal S256x128 .f32) (p : Vec Ideal S128x128 .f32) (w : Vec Ideal S1x128 .f32) (r : Fin 256) (x : Fin 128) :
    blk f c s p w (ix2 r x) = turnf (fun x => c (ix2 r x)) (fun x => s (ix2 r x)) (fun k x => p (ix2 k x))
      (nrm (fun x => f (ix2 r x)) (fun x => w (ix2 0 x))) x := by
  pointwise [blk, ny, k0_pay2, k0_pay3, k0_pay4]
  rfl

/-- A block of rows. -/
theorem rows_at (v : Vec Ideal S256x256 .f32) (c s : Vec Ideal S256x128 .f32) (p : Vec Ideal S128x128 .f32) (w : Vec Ideal S1x128 .f32)
    (r : Fin 256) (n : Fin 2) (x : Fin 128) :
    join (fun n => blk (cut v n) c s p w) (ix2 r ⟨n.val * 128 + x.val, by omega⟩)
      = turnf (fun x => c (ix2 r x)) (fun x => s (ix2 r x)) (fun k x => p (ix2 k x)) (nrm (hd v r n) (fun x => w (ix2 0 x))) x := by
  refine (join_at _ r n x).trans ?_
  simp only [blk_at, cut_at]

variable (m : (ℓ : Loc nD τ sig) → Buf (Elt Ideal) ℓ)

/-- Where each window stands at a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0] :=
  (by decide +kernel : ∀ t : Fin grid0.N, _)

/-- A context row is not rotated: its cosines are one, -/
theorem cos_lo (c : Dev nD) (t : Fin 256) (x : Fin 128) : @Eq EReal (V m c main_v40 (ix2 (lo t) x)) 1 := by
  unfold lo
  unfold V
  simp only [hostOps0, hostOps0_1, hostOps0_2, hostOps0_3, hostOps0_4, List.flatten_cons, List.flatten_nil, List.cons_append, List.nil_append]
  after_reads_simp
  pointwise []

/-- and its sines zero. -/
theorem sin_lo (c : Dev nD) (t : Fin 256) (x : Fin 128) : @Eq EReal (V m c main_v42 (ix2 (lo t) x)) 0 := by
  unfold lo
  unfold V
  simp only [hostOps0, hostOps0_1, hostOps0_2, hostOps0_3, hostOps0_4, List.flatten_cons, List.flatten_nil, List.cons_append, List.nil_append]
  after_reads_simp
  pointwise []

set_option maxHeartbeats 1600000 in
/-- A latent row's cosines, -/
theorem cos_hi (c : Dev nD) (t : Fin 2048) (x : Fin 128) : V m c main_v40 (ix2 (hi t) x) = cosT t.val x := by
  obtain ⟨k, f, rfl⟩ := quarter x
  unfold cosT hi
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, Nat.add_sub_cancel_left, Nat.sub_sub, quot, remd]
    simp only [freq, Nat.add_sub_cancel_left, Nat.sub_sub]
    try rfl

set_option maxHeartbeats 1600000 in
/-- and its signed sines. -/
theorem sin_hi (c : Dev nD) (t : Fin 2048) (x : Fin 128) : V m c main_v42 (ix2 (hi t) x) = sinT t.val x := by
  obtain ⟨k, f, rfl⟩ := quarter x
  unfold sinT hi
  rw [ang_at]
  unfold V
  simp only [hostOps0, hostOps0_1, hostOps0_2, hostOps0_3, hostOps0_4, List.flatten_cons, List.flatten_nil, List.cons_append, List.nil_append]
  after_reads_simp
  match k with
  | ⟨0, _⟩ | ⟨1, _⟩ | ⟨2, _⟩ | ⟨3, _⟩ =>
    pointwise []
    after_reads_simp
    pointwise []
    simp (discharger := omega) only [dif_pos, dif_neg, if_pos, if_neg, Nat.add_sub_cancel_left, Nat.sub_sub, quot, remd]
    simp only [freq, Nat.add_sub_cancel_left, Nat.sub_sub]
    try rfl

/-- The permutation of a head's columns. -/
theorem pm_at (c : Dev nD) (x k : Fin 128) : V m c main_v59 (ix2 x k) = pm x k := by
  unfold V
  simp only [hostOps0, hostOps0_1, hostOps0_2, hostOps0_3, hostOps0_4, List.flatten_cons, List.flatten_nil, List.cons_append, List.nil_append]
  after_reads_simp
  simp only [StableHlo.TRef.ofBuf_toBuf]
  simp only [StableHlo.TRef.ofBuf, StableHlo.TRef.toBuf, StableHlo.TRef.of, cast_eq, id_eq]
  pointwise []
  refine (congrArg (fun b => Scalar.select b (1 : EReal) 0) (perm_bits x k)).trans ?_
  unfold pm
  by_cases h : x = part k
  · rw [if_pos h, if_pos h]; rfl
  · rw [if_neg h, if_neg h]; rfl

/-- A column of a row is one of the 128 of one of the heads. -/
theorem split (y : (⟨2, ![256, 256]⟩ : Shape).Idx) :
    ∃ (r : Fin 256) (n : Fin 2) (x : Fin 128), y = ix2 r ⟨n.val * 128 + x.val, by omega⟩ := by
  have h : (y 1).val < 256 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2304 := ⟨t.val * 256 + r.val, by have : t.val < 9 := t.isLt; omega⟩

section rows
variable (c : Dev nD) (t : Fin cfg0.N) (r : Fin 256) (n : Fin 2)

theorem hd0 : hd (iblk m c 0 t) r n = hd (m ((c : Thread nD τ).loc main_arg0)) (row t r) n := by
  funext x; unfold hd row; blk_point [iblk, V, idx t]

theorem wt : (fun x : Fin 128 => iblk m c 1 t (ix2 0 x)) = fun x => m ((c : Thread nD τ).loc main_arg1) (ix2 0 x) := by
  funext x; blk_point [iblk, V, idx t]

/-- A block's tables are the rows' own, so that the kernel's form is the rotation. -/
theorem turn_at (y : Fin 128 → EReal) : turnf (fun x => iblk m c 2 t (ix2 r x)) (fun x => iblk m c 3 t (ix2 r x))
    (fun k x => iblk m c 4 t (ix2 k x)) y = grotf (row t r) y := by
  have h2 : (fun x : Fin 128 => iblk m c 2 t (ix2 r x)) = fun x => V m c main_v40 (ix2 (row t r) x) := by
    funext x; unfold row; blk_point [iblk, idx t]
  have h3 : (fun x : Fin 128 => iblk m c 3 t (ix2 r x)) = fun x => V m c main_v42 (ix2 (row t r) x) := by
    funext x; unfold row; blk_point [iblk, idx t]
  have h4 : (fun k x : Fin 128 => iblk m c 4 t (ix2 k x)) = pm := by
    funext x k
    have e : ((cfg0.win 4).blk t).view.emb (ix2 x k) = ix2 x k := by
      funext a
      match a with
      | ⟨0, _⟩ => (apply Fin.ext; blk_simp [idx t])
      | ⟨1, _⟩ => (apply Fin.ext; blk_simp [idx t])
    exact (congrArg (V m c main_v59) e).trans (pm_at m c x k)
  refine (congrFun (congr (congr (congrArg turnf h2) h3) h4) y).trans ?_
  rcases lo_or_hi (row t r) with ⟨s, e⟩ | ⟨s, e⟩
  · rw [e, grotf_lo]
    exact (congrFun (congrFun (congr (congrArg turnf (funext (cos_lo m c s))) (funext (sin_lo m c s))) pm) y).trans (turnf_one y)
  · rw [e, grotf_hi]
    exact (congrFun (congrFun (congr (congrArg turnf (funext (cos_hi m c s))) (funext (sin_hi m c s))) pm) y).trans (turnf_eq _ y)

end rows

set_option maxHeartbeats 1600000 in
/-- The rotated rows. -/
theorem final5 (c : Dev nD) : (dats m 0 c).arrAt 5 (cfgs 0).N
    = val_main_v88 (F := Ideal) (m ((c : Thread nD τ).loc main_arg0)) (m ((c : Thread nD τ).loc main_arg1)) := by
  refine (dats m 0 c).arrAt_eq_of_covers 5 _ (by decide +kernel) fun t _ y => ?_
  obtain ⟨r, n, x, rfl⟩ := split y
  have e : ((cfg0.win 5).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v88 (F := Ideal) _ _) e).trans (v88_at _ _ (row t r) n x)).symm
  rw [← hd0 m c t r n, ← wt m c t, ← turn_at m c t r]
  blk_simp
  rw [after0_5]
  unfold out0_5
  frame_out
  exact rows_at (iblk m c 0 t) (iblk m c 2 t) (iblk m c 3 t) (iblk m c 4 t) (iblk m c 1 t) r n x

end Cert.KPrepF

namespace Cert.Proof.KPrepF

section
open Cert.KPrepFRIdeal Cert.KPrepFRIdeal.Gen Cert.KPrepFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = val_main_v88 (F := Ideal) (m ((c.tc : Thread nD τ).loc
        main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v88_eq m c), (h c).2⟩)
    (Cert.KPrepFRIdeal.Value.run (F := Ideal) m ρ)

end

open Cert.KPrepF

/-- From memories that agree on the arguments the kernel and the reference end with the same rows. -/
theorem algebraic : Cert.algebraic_KPrepFKIdeal_KPrepFRIdeal := by
  pair_intro
  · run_from Cert.KPrepFKIdeal.Value.run_blocks m g
  · run_from refRun m' g'
    exact (final5 m c).symm

end Cert.Proof.KPrepF

end
-- ==== Proof.FfnF.lean ====
/-
  The forward call of the MLP's activation: the columns convolved over their neighbouring rows, the gate's columns through
  `g · σ(g)` and times the value's, 128 columns at a time.
-/
module

public import proofs.«01_k».proof.Defs
public import proofs.«01_k».proof.Proof.FfnBlock
public import proofs.«01_k».proof.Proof.Gen.FfnFKIdeal.Value
public import proofs.«01_k».proof.Proof.Gen.FfnFRIdeal.Read
public import proofs.«01_k».proof.Proof.Gen.FfnFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnF

open Cert.FfnFKIdeal Cert.FfnFKIdeal.Gen Cert.Conv
open Cert.Ffn (Z L lo hi pre)
open Cert.FfnFRIdeal.Read

section maths
variable (a : Vec Ideal ⟨2, ![2048, 5632]⟩ .f32) (w : Vec Ideal ⟨2, ![3, 5632]⟩ .f32) (b : Vec Ideal ⟨2, ![1, 5632]⟩ .f32)

/-- An entry of the result. -/
def act (c : Fin 2816) (r : Fin 2048) : EReal :=
  pre a w b (lo c) r * Ideal.logistic (pre a w b (lo c) r) * pre a w b (hi c) r

theorem rprev_at (r : Fin 2048) (c : Fin 5632) : val_main_v4 (F := Ideal) a (ix3 0 r c) = prv (fun k => k = 0) (cl a c) r := by
  have hr := r.isLt
  pointwise [val_main_v4, val_main_v3, val_main_v2, val_main_cst, val_main_v0]
  exact prv_dite (cl a c) r

theorem rself_at (r : Fin 2048) (c : Fin 5632) : val_main_v10 (F := Ideal) a (ix3 0 r c) = cl a c r := by
  have hr := r.isLt
  pointwise [val_main_v10, val_main_v3, val_main_v2, val_main_cst, val_main_v0]
  rfl

theorem rnext_at (r : Fin 2048) (c : Fin 5632) : val_main_v17 (F := Ideal) a (ix3 0 r c) = nxt (fun k => k = 2047) (cl a c) r := by
  have hr := r.isLt
  pointwise [val_main_v17, val_main_v3, val_main_v2, val_main_cst, val_main_v0]
  exact nxt_dite (cl a c) 2047 rfl r

/-- The reference's column after the convolution and its bias. -/
theorem pre_ref (r : Fin 2048) (c : Fin 5632) : val_main_v26 (F := Ideal) a w b (ix3 0 r c) = pre a w b c r := by
  pointwise [val_main_v26, val_main_v25, val_main_v24, val_main_v1, val_main_v23, val_main_v16, val_main_v9, val_main_v8,
    val_main_v7, val_main_v6, val_main_v5, val_main_v15, val_main_v14, val_main_v13, val_main_v12, val_main_v11, val_main_v22,
    val_main_v21, val_main_v20, val_main_v19, val_main_v18]
  rw [rprev_at, rself_at, rnext_at]
  rfl

theorem gate_ref (r : Fin 2048) (c : Fin 2816) : val_main_v27 (F := Ideal) a w b (ix3 0 r c) = pre a w b (lo c) r := by
  rw [← pre_ref]
  pointwise [val_main_v27]
  rfl

theorem value_ref (r : Fin 2048) (c : Fin 2816) : val_main_v28 (F := Ideal) a w b (ix3 0 r c) = pre a w b (hi c) r := by
  rw [← pre_ref]
  pointwise [val_main_v28]
  rfl

theorem act_ref (r : Fin 2048) (c : Fin 2816) : val_main_v31 (F := Ideal) a w b (ix2 r c) = act a w b c r := by
  pointwise [val_main_v31, val_main_v30, val_main_v29, val_main_call0_v5, val_main_call0_v4, val_main_call0_cst_0,
    val_main_call0_v3, val_main_call0_v2, val_main_call0_cst, val_main_call0_v1, val_main_call0_v0]
  simp only [gate_ref, value_ref]
  rfl

end maths

/-- The convolution with its weights taken into the choices. -/
theorem cv_in (f : Fin 2048 → EReal) (w0 w1 w2 : EReal) (r : Fin 2048) : Conv.cv Z L f w0 w1 w2 r
    = (if r.val = 0 then 0 else f (bwd r) * w0) + f r * w1 + if r.val = 2047 then 0 else f (fwd r) * w2 := by
  unfold Conv.cv prv nxt
  rw [ite_mul, ite_mul, zero_mul, zero_mul]

section block
variable (u v : Vec Ideal S2048x128 .f32) (w0g w0v w1g w1v w2g w2v bg bv : Vec Ideal S1x128 .f32)
  (a : Vec Ideal ⟨2, ![2048, 5632]⟩ .f32) (w : Vec Ideal ⟨2, ![3, 5632]⟩ .f32) (b : Vec Ideal ⟨2, ![1, 5632]⟩ .f32)
  (x : Fin 128) (c : Fin 2816)
  (hu : cl u x = cl a (lo c)) (hv : cl v x = cl a (hi c))
  (h0g : w0g (ix2 0 x) = w (ix2 0 (lo c))) (h0v : w0v (ix2 0 x) = w (ix2 0 (hi c)))
  (h1g : w1g (ix2 0 x) = w (ix2 1 (lo c))) (h1v : w1v (ix2 0 x) = w (ix2 1 (hi c)))
  (h2g : w2g (ix2 0 x) = w (ix2 2 (lo c))) (h2v : w2v (ix2 0 x) = w (ix2 2 (hi c)))
  (hbg : bg (ix2 0 x) = b (ix2 0 (lo c))) (hbv : bv (ix2 0 x) = b (ix2 0 (hi c)))

include hu hv h0g h0v h1g h1v h2g h2v hbg hbv in
/-- One block's entries, where its columns are the arrays'. -/
theorem act_at (r : Fin 2048) :
    k0_pay1 v (k0_pay2 w0v) (k0_pay3 w1v) (k0_pay4 w2v) bg bv (k0_pay5 u) (k0_pay6 u w0g w1g) (k0_pay7 w2g) (ix2 r x)
      = act a w b c r := by
  have hr := r.isLt
  unfold act pre
  simp only [cv_in]
  rw [← hu, ← hv, ← h0g, ← h0v, ← h1g, ← h1v, ← h2g, ← h2v, ← hbg, ← hbv]
  pointwise [k0_pay1, k0_pay2, k0_pay3, k0_pay4, k0_pay5, k0_pay6, k0_pay7]
  simp (discharger := omega) only [sel_eq]
  rfl

end block

variable (m : (ℓ : Loc nD τ sig) → Buf (Elt Ideal) ℓ)

/-- Where each window stands at a grid point. -/
theorem idx : ∀ t : Fin cfg0.N, win0_0.index t = ![0, t.val] ∧ win0_1.index t = ![0, 22 + t.val] ∧ win0_2.index t = ![0, t.val]
    ∧ win0_3.index t = ![0, 22 + t.val] ∧ win0_4.index t = ![0, t.val] ∧ win0_5.index t = ![0, 22 + t.val]
    ∧ win0_6.index t = ![0, t.val] ∧ win0_7.index t = ![0, 22 + t.val] ∧ win0_8.index t = ![0, t.val]
    ∧ win0_9.index t = ![0, 22 + t.val] ∧ win0_10.index t = ![0, t.val] :=
  (by decide +kernel : ∀ t : Fin grid0.N, _)

/-- The gate's column that is column `x` of block `t`. -/
def col (t : Fin cfg0.N) (x : Fin 128) : Fin 2816 := ⟨t.val * 128 + x.val, by have : t.val < 22 := t.isLt; omega⟩

section host
variable (c : Dev nD) (k : Fin 5632)

theorem w0_at : V m c main_v0 (ix2 0 k) = m ((c : Thread nD τ).loc main_arg1) (ix2 0 k) := by
  unfold V
  after_reads_simp
  pointwise []

theorem w1_at : V m c main_v1 (ix2 0 k) = m ((c : Thread nD τ).loc main_arg1) (ix2 1 k) := by
  unfold V
  after_reads_simp
  pointwise []

theorem w2_at : V m c main_v2 (ix2 0 k) = m ((c : Thread nD τ).loc main_arg1) (ix2 2 k) := by
  unfold V
  after_reads_simp
  pointwise []

end host

section cols
variable (c : Dev nD) (t : Fin cfg0.N) (x : Fin 128)

theorem p0 : cl (iblk m c 0 t) x = cl (m ((c : Thread nD τ).loc main_arg0)) (lo (col t x)) := by
  funext r
  refine Eq.trans ?_ (congrArg (fun v => cl v (lo (col t x)) r) (V_main_arg0 m c))
  unfold cl lo col; blk_point [iblk, idx t]

theorem p1 : cl (iblk m c 1 t) x = cl (m ((c : Thread nD τ).loc main_arg0)) (hi (col t x)) := by
  funext r
  refine Eq.trans ?_ (congrArg (fun v => cl v (hi (col t x)) r) (V_main_arg0 m c))
  unfold cl hi col; blk_point [iblk, idx t]

theorem p2 : iblk m c 2 t (ix2 0 x) = (m ((c : Thread nD τ).loc main_arg1)) (ix2 0 (lo (col t x))) := by
  refine Eq.trans ?_ (w0_at m c (lo (col t x)))
  unfold lo col; blk_point [iblk, idx t]

theorem p3 : iblk m c 3 t (ix2 0 x) = (m ((c : Thread nD τ).loc main_arg1)) (ix2 0 (hi (col t x))) := by
  refine Eq.trans ?_ (w0_at m c (hi (col t x)))
  unfold hi col; blk_point [iblk, idx t]

theorem p4 : iblk m c 4 t (ix2 0 x) = (m ((c : Thread nD τ).loc main_arg1)) (ix2 1 (lo (col t x))) := by
  refine Eq.trans ?_ (w1_at m c (lo (col t x)))
  unfold lo col; blk_point [iblk, idx t]

theorem p5 : iblk m c 5 t (ix2 0 x) = (m ((c : Thread nD τ).loc main_arg1)) (ix2 1 (hi (col t x))) := by
  refine Eq.trans ?_ (w1_at m c (hi (col t x)))
  unfold hi col; blk_point [iblk, idx t]

theorem p6 : iblk m c 6 t (ix2 0 x) = (m ((c : Thread nD τ).loc main_arg1)) (ix2 2 (lo (col t x))) := by
  refine Eq.trans ?_ (w2_at m c (lo (col t x)))
  unfold lo col; blk_point [iblk, idx t]

theorem p7 : iblk m c 7 t (ix2 0 x) = (m ((c : Thread nD τ).loc main_arg1)) (ix2 2 (hi (col t x))) := by
  refine Eq.trans ?_ (w2_at m c (hi (col t x)))
  unfold hi col; blk_point [iblk, idx t]

theorem p8 : iblk m c 8 t (ix2 0 x) = (m ((c : Thread nD τ).loc main_arg2)) (ix2 0 (lo (col t x))) := by
  refine Eq.trans ?_ (congrArg (fun v : Vec Ideal ⟨2, ![1, 5632]⟩ .f32 => v (ix2 0 (lo (col t x)))) (V_main_arg2 m c))
  unfold lo col; blk_point [iblk, idx t]

theorem p9 : iblk m c 9 t (ix2 0 x) = (m ((c : Thread nD τ).loc main_arg2)) (ix2 0 (hi (col t x))) := by
  refine Eq.trans ?_ (congrArg (fun v : Vec Ideal ⟨2, ![1, 5632]⟩ .f32 => v (ix2 0 (hi (col t x)))) (V_main_arg2 m c))
  unfold hi col; blk_point [iblk, idx t]

end cols

set_option maxHeartbeats 1600000 in
/-- The activated columns. -/
theorem final10 (c : Dev nD) : (dats m 0 c).arrAt 10 (cfgs 0).N
    = val_main_v31 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  obtain ⟨r, x, rfl⟩ : ∃ (r : Fin 2048) (x : Fin 128), y = ix2 r x :=
    ⟨y 0, y 1, funext fun a => match a with | ⟨0, _⟩ => rfl | ⟨1, _⟩ => rfl⟩
  have e : ((cfg0.win 10).blk t).view.emb (ix2 r x) = ix2 r (col t x) := by
    funext a
    match a with
    | ⟨0, _⟩ => (apply Fin.ext; blk_simp [idx t])
    | ⟨1, _⟩ => (apply Fin.ext; blk_simp [idx t]; rfl)
  refine Eq.trans ?_ ((congrArg (val_main_v31 (F := Ideal) _ _ _) e).trans (act_ref _ _ _ r (col t x))).symm
  blk_simp
  rw [after0_10]
  unfold out0_10
  frame_out
  exact act_at _ _ _ _ _ _ _ _ _ _ _ _ _ x (col t x) (p0 m c t x) (p1 m c t x) (p2 m c t x) (p3 m c t x) (p4 m c t x)
    (p5 m c t x) (p6 m c t x) (p7 m c t x) (p8 m c t x) (p9 m c t x) r

end Cert.FfnF

namespace Cert.Proof.FfnF

section
open Cert.FfnFRIdeal Cert.FfnFRIdeal.Gen Cert.FfnFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = val_main_v31 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v31_eq m c), (h c).2⟩)
    (Cert.FfnFRIdeal.Value.run (F := Ideal) m ρ)

end

open Cert.FfnF

/-- From memories that agree on the arguments the kernel and the reference end with the same columns. -/
theorem algebraic : Cert.algebraic_FfnFKIdeal_FfnFRIdeal := by
  pair_intro
  · run_from Cert.FfnFKIdeal.Value.run_blocks m g
  · run_from refRun m' g'
    exact (final10 m c).symm

end Cert.Proof.FfnF

end
-- ==== Proof.GdnOutF.lean ====
/-
  The forward call of the mixer's gated output: each head normed, weighted and times its gate's `z · σ(z)`, block of rows by
  block of rows.
-/
module

public import proofs.«01_k».proof.Defs
public import proofs.«01_k».proof.Proof.GdnOutBlock
public import proofs.«01_k».proof.Proof.Gen.GdnOutFKIdeal.Value
public import proofs.«01_k».proof.Proof.Gen.GdnOutFRIdeal.Read
public import proofs.«01_k».proof.Proof.Gen.GdnOutFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GdnOutF

open Cert.GdnOutFKIdeal Cert.GdnOutFKIdeal.Gen
open Cert.GdnOut (var hd)
open Cert.GdnOutFRIdeal.Read

/-- One row of one head. -/
def gated (f w z : Fin 128 → EReal) (x : Fin 128) : EReal := f x * Ideal.rsqrt (var f) * w x * (z x * Ideal.logistic (z x))

section reference
variable (o z : Vec Ideal ⟨2, ![2048, 1024]⟩ .f32) (w : Vec Ideal ⟨2, ![1, 128]⟩ .f32) (r : Fin 2048) (n : Fin 8) (x : Fin 128)

theorem v4_at : val_main_v4 (F := Ideal) o (ix4 0 r n x) = hd o r n x := by
  pointwise [val_main_v4, val_main_v1, val_main_v0]
  rfl

theorem v18_at : val_main_v18 (F := Ideal) z (ix4 0 r n x) = hd z r n x := by
  pointwise [val_main_v18, val_main_v2]
  rfl

theorem v11_at : val_main_v11 (F := Ideal) o (ix4 0 r n 0) = var (hd o r n) := by
  pointwise [val_main_v11, val_main_v10, val_main_v9, val_main_v8, val_main_v7, val_main_v6, val_main_v5, val_main_cst,
    val_main_cst_0, val_main_cst_1]
  simp only [v4_at]
  rfl

theorem v22_at : val_main_v22 (F := Ideal) o z w (ix2 r ⟨n.val * 128 + x.val, by omega⟩)
    = gated (hd o r n) (fun x => w (ix2 0 x)) (hd z r n) x := by
  unfold gated
  rw [← v11_at, ← v18_at z, ← v4_at o]
  pointwise [val_main_v22, val_main_v21, val_main_v20, val_main_v19, val_main_call0_v5, val_main_call0_v4, val_main_call0_cst_0,
    val_main_call0_v3, val_main_call0_v2, val_main_call0_cst, val_main_call0_v1, val_main_call0_v0, val_main_v17, val_main_v16,
    val_main_v15, val_main_v3, val_main_v14, val_main_v13, val_main_v12, Ideal.logistic]

end reference

section slices
variable (v : Vec Ideal S256x1024 .f32)

/-- The blocks of columns the kernel cuts out of a block of rows. -/
def cut (n : Fin 8) : FVec Ideal S256x128 .f32 :=
  (![extractStridedSlice S256x128 ![0, 0] v slices_S256x1024_o0_0_S256x128,
    k0_pay8 v,
    k0_pay2 v,
    k0_pay3 v,
    k0_pay4 v,
    k0_pay5 v,
    k0_pay6 v,
    k0_pay7 v] : Fin 8 → FVec Ideal S256x128 .f32) n

theorem cut_at (n : Fin 8) (r : Fin 256) (x : Fin 128) : cut v n (ix2 r x) = hd v r n x := by
  unfold cut hd
  match n with
  | ⟨0, _⟩ => (show (extractStridedSlice S256x128 ![0, 0] v slices_S256x1024_o0_0_S256x128) (ix2 r x) = _; pointwise [])
  | ⟨1, _⟩ => (show k0_pay8 v (ix2 r x) = _; pointwise [k0_pay8])
  | ⟨2, _⟩ => (show k0_pay2 v (ix2 r x) = _; pointwise [k0_pay2])
  | ⟨3, _⟩ => (show k0_pay3 v (ix2 r x) = _; pointwise [k0_pay3])
  | ⟨4, _⟩ => (show k0_pay4 v (ix2 r x) = _; pointwise [k0_pay4])
  | ⟨5, _⟩ => (show k0_pay5 v (ix2 r x) = _; pointwise [k0_pay5])
  | ⟨6, _⟩ => (show k0_pay6 v (ix2 r x) = _; pointwise [k0_pay6])
  | ⟨7, _⟩ => (show k0_pay7 v (ix2 r x) = _; pointwise [k0_pay7])

end slices

/-- The heads' blocks side by side. -/
def join (g : Fin 8 → FVec Ideal S256x128 .f32) : FVec Ideal S256x1024 .f32 :=
  concatenate S256x1024 1 [⟨S256x128, g 0⟩, ⟨S256x128, g 1⟩, ⟨S256x128, g 2⟩, ⟨S256x128, g 3⟩, ⟨S256x128, g 4⟩, ⟨S256x128, g 5⟩, ⟨S256x128, g 6⟩, ⟨S256x128, g 7⟩]
    concatenates_S256x128_S256x128_S256x128_S256x128_S256x128_S256x128_S256x128_S256x128_S256x1024_d1

theorem join_at (g : Fin 8 → FVec Ideal S256x128 .f32) (r : Fin 256) (n : Fin 8) (x : Fin 128) :
    join g (ix2 r ⟨n.val * 128 + x.val, by omega⟩) = g n (ix2 r x) := by
  match n with
  | ⟨0, _⟩ | ⟨1, _⟩ | ⟨2, _⟩ | ⟨3, _⟩ | ⟨4, _⟩ | ⟨5, _⟩ | ⟨6, _⟩ | ⟨7, _⟩ =>
    pointwise [join]
    try simp (discharger := omega) only [dif_pos, dif_neg]
    try exact congrArg (fun k : Fin 128 => g _ (ix2 r k)) (Fin.ext (by simp only []; omega))

/-- A head's block. -/
abbrev blk (f z : FVec Ideal S256x128 .f32) (w : Vec Ideal S1x128 .f32) : FVec Ideal S256x128 .f32 := k0_pay19 w f z

theorem blk_at (f z : FVec Ideal S256x128 .f32) (w : Vec Ideal S1x128 .f32) (r : Fin 256) (x : Fin 128) :
    blk f z w (ix2 r x) = gated (fun x => f (ix2 r x)) (fun x => w (ix2 0 x)) (fun x => z (ix2 r x)) x := by
  pointwise [k0_pay19]
  rfl

/-- A block of rows. -/
theorem rows_at (v0 v1 : Vec Ideal S256x1024 .f32) (w : Vec Ideal S1x128 .f32) (r : Fin 256) (n : Fin 8) (x : Fin 128) :
    join (fun n => blk (cut v0 n) (cut v1 n) w) (ix2 r ⟨n.val * 128 + x.val, by omega⟩)
      = gated (hd v0 r n) (fun x => w (ix2 0 x)) (hd v1 r n) x := by
  refine (join_at _ r n x).trans ?_
  simp only [blk_at, cut_at]

variable (m : (ℓ : Loc nD τ sig) → Buf (Elt Ideal) ℓ)

/-- Where each window stands at a grid point. -/
theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- A column of a row is one of the 128 of one of the heads. -/
theorem split (y : (⟨2, ![256, 1024]⟩ : Shape).Idx) :
    ∃ (r : Fin 256) (n : Fin 8) (x : Fin 128), y = ix2 r ⟨n.val * 128 + x.val, by omega⟩ := by
  have h : (y 1).val < 1024 := (y 1).isLt
  refine ⟨y 0, ⟨(y 1).val / 128, by omega⟩, ⟨(y 1).val % 128, by omega⟩, ?_⟩
  funext a
  match a with
  | ⟨0, _⟩ => rfl
  | ⟨1, _⟩ => exact Fin.ext (show (y 1).val = (y 1).val / 128 * 128 + (y 1).val % 128 by omega)

/-- The row of the whole array that is row `r` of block `t`. -/
def row (t : Fin cfg0.N) (r : Fin 256) : Fin 2048 := ⟨t.val * 256 + r.val, by have : t.val < 8 := t.isLt; omega⟩

section rows
variable (c : Dev nD) (t : Fin cfg0.N) (r : Fin 256) (n : Fin 8)

theorem hd0 : hd (iblk m c 0 t) r n = hd (m ((c : Thread nD τ).loc main_arg0)) (row t r) n := by
  funext x; unfold hd row; blk_point [iblk, V, idx t]

theorem hd1 : hd (iblk m c 1 t) r n = hd (m ((c : Thread nD τ).loc main_arg1)) (row t r) n := by
  funext x; unfold hd row; blk_point [iblk, V, idx t]

theorem wt : (fun x : Fin 128 => iblk m c 2 t (ix2 0 x)) = fun x => m ((c : Thread nD τ).loc main_arg2) (ix2 0 x) := by
  funext x; blk_point [iblk, V, idx t]

end rows

set_option maxHeartbeats 1600000 in
/-- The gated rows. -/
theorem final3 (c : Dev nD) : (dats m 0 c).arrAt 3 (cfgs 0).N
    = val_main_v22 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, n, x, rfl⟩ := split y
  have e : ((cfg0.win 3).blk t).view.emb (ix2 r ⟨n.val * 128 + x.val, by omega⟩)
      = ix2 (row t r) ⟨n.val * 128 + x.val, by omega⟩ := by
    funext a
    match a with
    | ⟨0, _⟩ => (apply Fin.ext; blk_simp [idx t]; rfl)
    | ⟨1, _⟩ => (apply Fin.ext; blk_simp [idx t])
  refine Eq.trans ?_ ((congrArg (val_main_v22 (F := Ideal) _ _ _) e).trans (v22_at _ _ _ (row t r) n x)).symm
  rw [← hd0 m c t r n, ← hd1 m c t r n, ← wt m c t]
  blk_simp
  rw [after0_3]
  unfold_out out0_3
  frame_out
  exact rows_at (iblk m c 0 t) (iblk m c 1 t) (iblk m c 2 t) r n x

end Cert.GdnOutF

namespace Cert.Proof.GdnOutF

section
open Cert.GdnOutFRIdeal Cert.GdnOutFRIdeal.Gen Cert.GdnOutFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc
        main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v22_eq _ _ _), (h c).2⟩)
    (Cert.GdnOutFRIdeal.Value.run (F := Ideal) m ρ)

end

open Cert.GdnOutF

/-- From memories that agree on the arguments the kernel and the reference end with the same rows. -/
theorem algebraic : Cert.algebraic_GdnOutFKIdeal_GdnOutFRIdeal := by
  pair_intro
  · run_from Cert.GdnOutFKIdeal.Value.run_blocks m g
  · run_from refRun m' g'
    exact (final3 m c).symm

end Cert.Proof.GdnOutF

end
-- ==== Proof.GdnPrepF.lean ====
/-
  The forward call of the convolution, gate and norm before the delta rule, 128 columns at a time: one head of the queries, the
  keys or the values.
-/
module

public import proofs.«01_k».proof.Defs
public import proofs.«01_k».proof.Proof.GdnPrepRef
public import proofs.«01_k».proof.Proof.Gen.GdnPrepFKIdeal.Value
public import proofs.«01_k».proof.Proof.Gen.GdnPrepFRIdeal.Read
public import proofs.«01_k».proof.Proof.Gen.GdnPrepFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GdnPrepF

open Cert.GdnPrepFKIdeal Cert.GdnPrepFKIdeal.Gen Cert.Conv
open Cert.GdnPrep (Z L co scale hs var pre lo hi hd heads hd0 hd1 hd2 lo_or_hi xl yl xo xz xe yo yz ye)
open Cert.GdnPrepFRIdeal.Read

/-- A query's head after its gate, normed and scaled, -/
def nq (s : Fin 128 → EReal) (x : Fin 128) : EReal := s x * Ideal.rsqrt (var s) * scale

/-- and a key's, normed. -/
def nk (s : Fin 128 → EReal) (x : Fin 128) : EReal := s x * Ideal.rsqrt (var s)

/-- A head after its gate: the queries are normed and scaled, the keys normed, the values neither. -/
def fS (g : Fin 24) (s : Fin 128 → EReal) : Fin 128 → EReal :=
  if g.val < 8 then nq s else if g.val < 16 then nk s else s

/-- An entry of the result. -/
def res (a : Vec Ideal ⟨2, ![2304, 3072]⟩ .f32) (w : Vec Ideal ⟨2, ![3, 3072]⟩ .f32) (g : Fin 24) (x : Fin 128) (r : Fin 2304) : EReal :=
  fS g (hs fun y => pre a w (co g y) r) x

section context
variable (a : Vec Ideal ⟨2, ![2304, 3072]⟩ .f32) (w : Vec Ideal ⟨2, ![3, 3072]⟩ .f32)

theorem yprev_at (r : Fin 256) (c : Fin 3072) : val_main_v4 (F := Ideal) a (ix3 0 r c) = prv (fun k => k = 0) (yl a c) r := by
  have hr := r.isLt
  pointwise [val_main_v4, val_main_v3, val_main_v2, val_main_v1, val_main_v0, val_main_cst]
  exact prv_dite (yl a c) r

theorem yself_at (r : Fin 256) (c : Fin 3072) : val_main_v10 (F := Ideal) a (ix3 0 r c) = yl a c r := by
  have hr := r.isLt
  pointwise [val_main_v10, val_main_v3, val_main_v2, val_main_v1, val_main_v0, val_main_cst]
  rfl

theorem ynext_at (r : Fin 256) (c : Fin 3072) : val_main_v17 (F := Ideal) a (ix3 0 r c) = nxt (fun k => k = 255) (yl a c) r := by
  have hr := r.isLt
  pointwise [val_main_v17, val_main_v3, val_main_v2, val_main_v1, val_main_v0, val_main_cst]
  exact nxt_dite (yl a c) 255 rfl r

/-- The reference's column after the convolution, -/
theorem ypre_at (r : Fin 256) (c : Fin 3072) : val_main_v23 (F := Ideal) a w (ix3 0 r c) = pre a w c (lo r) := by
  refine Eq.trans ?_ (cv_part lo 0 yo Z L 255 rfl yz ye (cl a c) _ _ _ r)
  pointwise [val_main_v23, val_main_v16, val_main_v9, val_main_v8, val_main_v7, val_main_v6, val_main_v5, val_main_v15, val_main_v14, val_main_v13, val_main_v12, val_main_v11, val_main_v22, val_main_v21, val_main_v20, val_main_v19, val_main_v18]
  rw [yprev_at, yself_at, ynext_at]
  rfl

/-- after its gate, -/
theorem ygate_at (r : Fin 256) (c : Fin 3072) :
    val_main_v24 (F := Ideal) a w (ix3 0 r c) = pre a w c (lo r) * Ideal.logistic (pre a w c (lo r)) := by
  pointwise [val_main_v24, val_main_call0_v5, val_main_call0_v4, val_main_call0_cst_0, val_main_call0_v3, val_main_call0_v2, val_main_call0_cst, val_main_call0_v1, val_main_call0_v0]
  rw [ypre_at]
  rfl

variable (r : Fin 256) (n : Fin 8) (x : Fin 128)

theorem yqs_at : val_main_v28 (F := Ideal) a w (ix4 0 r n x) = hs (fun y => pre a w (co (hd 0 n) y) (lo r)) x := by
  have hn := n.isLt
  have hx := x.isLt
  pointwise [val_main_v28, val_main_v25]
  exact (ygate_at a w r _).trans (congrArg (fun c => pre a w c (lo r) * Ideal.logistic (pre a w c (lo r)))
    (Fin.ext (show n.val * 128 + x.val = (0 * 8 + n.val) * 128 + x.val by omega)))

theorem yqv_at : val_main_v33 (F := Ideal) a w (ix4 0 r n 0) = var (hs fun y => pre a w (co (hd 0 n) y) (lo r)) := by
  pointwise [val_main_v33, val_main_v31, val_main_v30, val_main_v29, val_main_v32, val_main_cst_0, val_main_cst_1]
  simp only [yqs_at]
  rfl

theorem yq_at : val_main_v38 (F := Ideal) a w (ix4 0 r n x)
    = nq (hs fun y => pre a w (co (hd 0 n) y) (lo r)) x := by
  unfold nq
  rw [← yqv_at, ← yqs_at]
  pointwise [val_main_v38, val_main_v36, val_main_v35, val_main_v34, val_main_v37, val_main_cst_2]
  rfl

theorem yks_at : val_main_v39 (F := Ideal) a w (ix4 0 r n x) = hs (fun y => pre a w (co (hd 1 n) y) (lo r)) x := by
  have hn := n.isLt
  have hx := x.isLt
  pointwise [val_main_v39, val_main_v26]
  exact (ygate_at a w r _).trans (congrArg (fun c => pre a w c (lo r) * Ideal.logistic (pre a w c (lo r)))
    (Fin.ext (show 1024 + (n.val * 128 + x.val) = (1 * 8 + n.val) * 128 + x.val by omega)))

theorem ykv_at : val_main_v44 (F := Ideal) a w (ix4 0 r n 0) = var (hs fun y => pre a w (co (hd 1 n) y) (lo r)) := by
  pointwise [val_main_v44, val_main_v42, val_main_v41, val_main_v40, val_main_v43, val_main_cst_3, val_main_cst_4]
  simp only [yks_at]
  rfl

theorem yk_at : val_main_v47 (F := Ideal) a w (ix4 0 r n x)
    = nk (hs fun y => pre a w (co (hd 1 n) y) (lo r)) x := by
  unfold nk
  rw [← ykv_at, ← yks_at]
  pointwise [val_main_v47, val_main_v46, val_main_v45]
  try rfl

theorem yvs_at : val_main_v48 (F := Ideal) a w (ix4 0 r n x) = hs (fun y => pre a w (co (hd 2 n) y) (lo r)) x := by
  have hn := n.isLt
  have hx := x.isLt
  pointwise [val_main_v48, val_main_v27]
  exact (ygate_at a w r _).trans (congrArg (fun c => pre a w c (lo r) * Ideal.logistic (pre a w c (lo r)))
    (Fin.ext (show 2048 + (n.val * 128 + x.val) = (2 * 8 + n.val) * 128 + x.val by omega)))

end context

section latent
variable (a : Vec Ideal ⟨2, ![2304, 3072]⟩ .f32) (w : Vec Ideal ⟨2, ![3, 3072]⟩ .f32)

theorem xprev_at (r : Fin 2048) (c : Fin 3072) : val_main_v53 (F := Ideal) a (ix3 0 r c) = prv (fun k => k = 0) (xl a c) r := by
  have hr := r.isLt
  pointwise [val_main_v53, val_main_v52, val_main_v51, val_main_v50, val_main_v49, val_main_cst_5]
  exact prv_dite (xl a c) r

theorem xself_at (r : Fin 2048) (c : Fin 3072) : val_main_v59 (F := Ideal) a (ix3 0 r c) = xl a c r := by
  have hr := r.isLt
  pointwise [val_main_v59, val_main_v52, val_main_v51, val_main_v50, val_main_v49, val_main_cst_5]
  rfl

theorem xnext_at (r : Fin 2048) (c : Fin 3072) : val_main_v66 (F := Ideal) a (ix3 0 r c) = nxt (fun k => k = 2047) (xl a c) r := by
  have hr := r.isLt
  pointwise [val_main_v66, val_main_v52, val_main_v51, val_main_v50, val_main_v49, val_main_cst_5]
  exact nxt_dite (xl a c) 2047 rfl r

/-- The reference's column after the convolution, -/
theorem xpre_at (r : Fin 2048) (c : Fin 3072) : val_main_v72 (F := Ideal) a w (ix3 0 r c) = pre a w c (hi r) := by
  refine Eq.trans ?_ (cv_part hi 256 xo Z L 2047 rfl xz xe (cl a c) _ _ _ r)
  pointwise [val_main_v72, val_main_v65, val_main_v58, val_main_v57, val_main_v56, val_main_v55, val_main_v54, val_main_v64, val_main_v63, val_main_v62, val_main_v61, val_main_v60, val_main_v71, val_main_v70, val_main_v69, val_main_v68, val_main_v67]
  rw [xprev_at, xself_at, xnext_at]
  rfl

/-- after its gate, -/
theorem xgate_at (r : Fin 2048) (c : Fin 3072) :
    val_main_v73 (F := Ideal) a w (ix3 0 r c) = pre a w c (hi r) * Ideal.logistic (pre a w c (hi r)) := by
  pointwise [val_main_v73, val_main_call1_v5, val_main_call1_v4, val_main_call1_cst_0, val_main_call1_v3, val_main_call1_v2, val_main_call1_cst, val_main_call1_v1, val_main_call1_v0]
  rw [xpre_at]
  rfl

variable (r : Fin 2048) (n : Fin 8) (x : Fin 128)

theorem xqs_at : val_main_v77 (F := Ideal) a w (ix4 0 r n x) = hs (fun y => pre a w (co (hd 0 n) y) (hi r)) x := by
  have hn := n.isLt
  have hx := x.isLt
  pointwise [val_main_v77, val_main_v74]
  exact (xgate_at a w r _).trans (congrArg (fun c => pre a w c (hi r) * Ideal.logistic (pre a w c (hi r)))
    (Fin.ext (show n.val * 128 + x.val = (0 * 8 + n.val) * 128 + x.val by omega)))

theorem xqv_at : val_main_v82 (F := Ideal) a w (ix4 0 r n 0) = var (hs fun y => pre a w (co (hd 0 n) y) (hi r)) := by
  pointwise [val_main_v82, val_main_v80, val_main_v79, val_main_v78, val_main_v81, val_main_cst_6, val_main_cst_7]
  simp only [xqs_at]
  rfl

theorem xq_at : val_main_v87 (F := Ideal) a w (ix4 0 r n x)
    = nq (hs fun y => pre a w (co (hd 0 n) y) (hi r)) x := by
  unfold nq
  rw [← xqv_at, ← xqs_at]
  pointwise [val_main_v87, val_main_v85, val_main_v84, val_main_v83, val_main_v86, val_main_cst_8]
  rfl

theorem xks_at : val_main_v88 (F := Ideal) a w (ix4 0 r n x) = hs (fun y => pre a w (co (hd 1 n) y) (hi r)) x := by
  have hn := n.isLt
  have hx := x.isLt
  pointwise [val_main_v88, val_main_v75]
  exact (xgate_at a w r _).trans (congrArg (fun c => pre a w c (hi r) * Ideal.logistic (pre a w c (hi r)))
    (Fin.ext (show 1024 + (n.val * 128 + x.val) = (1 * 8 + n.val) * 128 + x.val by omega)))

theorem xkv_at : val_main_v93 (F := Ideal) a w (ix4 0 r n 0) = var (hs fun y => pre a w (co (hd 1 n) y) (hi r)) := by
  pointwise [val_main_v93, val_main_v91, val_main_v90, val_main_v89, val_main_v92, val_main_cst_9, val_main_cst_10]
  simp only [xks_at]
  rfl

theorem xk_at : val_main_v96 (F := Ideal) a w (ix4 0 r n x)
    = nk (hs fun y => pre a w (co (hd 1 n) y) (hi r)) x := by
  unfold nk
  rw [← xkv_at, ← xks_at]
  pointwise [val_main_v96, val_main_v95, val_main_v94]
  try rfl

theorem xvs_at : val_main_v97 (F := Ideal) a w (ix4 0 r n x) = hs (fun y => pre a w (co (hd 2 n) y) (hi r)) x := by
  have hn := n.isLt
  have hx := x.isLt
  pointwise [val_main_v97, val_main_v76]
  exact (xgate_at a w r _).trans (congrArg (fun c => pre a w c (hi r) * Ideal.logistic (pre a w c (hi r)))
    (Fin.ext (show 2048 + (n.val * 128 + x.val) = (2 * 8 + n.val) * 128 + x.val by omega)))

end latent

section both
variable (a : Vec Ideal ⟨2, ![2304, 3072]⟩ .f32) (w : Vec Ideal ⟨2, ![3, 3072]⟩ .f32) (R : Fin 2304) (n : Fin 8) (x : Fin 128)

/-- The two parts put together, -/
theorem q_at : val_main_v101 (F := Ideal) a w (ix2 R ⟨n.val * 128 + x.val, by omega⟩)
    = nq (hs fun y => pre a w (co (hd 0 n) y) R) x := by
  rcases lo_or_hi R with ⟨r, rfl⟩ | ⟨r, rfl⟩
  · rw [← yq_at]
    pointwise [lo, val_main_v101, val_main_v100, val_main_v98]
    try exact dif_pos r.isLt
  · rw [← xq_at]
    pointwise [hi, val_main_v101, val_main_v100, val_main_v99]
    try simp (discharger := omega) only [dif_neg, Nat.add_sub_cancel_left]

/-- The two parts put together, -/
theorem k_at : val_main_v105 (F := Ideal) a w (ix2 R ⟨n.val * 128 + x.val, by omega⟩)
    = nk (hs fun y => pre a w (co (hd 1 n) y) R) x := by
  rcases lo_or_hi R with ⟨r, rfl⟩ | ⟨r, rfl⟩
  · rw [← yk_at]
    pointwise [lo, val_main_v105, val_main_v104, val_main_v102]
    try exact dif_pos r.isLt
  · rw [← xk_at]
    pointwise [hi, val_main_v105, val_main_v104, val_main_v103]
    try simp (discharger := omega) only [dif_neg, Nat.add_sub_cancel_left]

/-- The two parts put together, -/
theorem v_at : val_main_v109 (F := Ideal) a w (ix2 R ⟨n.val * 128 + x.val, by omega⟩)
    = (hs fun y => pre a w (co (hd 2 n) y) R) x := by
  rcases lo_or_hi R with ⟨r, rfl⟩ | ⟨r, rfl⟩
  · rw [← yvs_at]
    pointwise [lo, val_main_v109, val_main_v108, val_main_v106]
    try exact dif_pos r.isLt
  · rw [← xvs_at]
    pointwise [hi, val_main_v109, val_main_v108, val_main_v107]
    try simp (discharger := omega) only [dif_neg, Nat.add_sub_cancel_left]

theorem cat_q : val_main_v110 (F := Ideal) a w (ix2 R (co (hd 0 n) x))
    = val_main_v101 (F := Ideal) a w (ix2 R ⟨n.val * 128 + x.val, by omega⟩) := by
  have e : co (hd 0 n) x = ⟨n.val * 128 + x.val, by omega⟩ := Fin.ext (show (0 * 8 + n.val) * 128 + x.val = n.val * 128 + x.val by omega)
  rw [e]
  pointwise [val_main_v110]
  try simp (discharger := omega) only [dif_pos, dif_neg, Nat.add_sub_cancel_left]

theorem cat_k : val_main_v110 (F := Ideal) a w (ix2 R (co (hd 1 n) x))
    = val_main_v105 (F := Ideal) a w (ix2 R ⟨n.val * 128 + x.val, by omega⟩) := by
  have e : co (hd 1 n) x = ⟨1024 + (n.val * 128 + x.val), by omega⟩ := Fin.ext (show (1 * 8 + n.val) * 128 + x.val = 1024 + (n.val * 128 + x.val) by omega)
  rw [e]
  pointwise [val_main_v110]
  try simp (discharger := omega) only [dif_pos, dif_neg, Nat.add_sub_cancel_left]

theorem cat_v : val_main_v110 (F := Ideal) a w (ix2 R (co (hd 2 n) x))
    = val_main_v109 (F := Ideal) a w (ix2 R ⟨n.val * 128 + x.val, by omega⟩) := by
  have e : co (hd 2 n) x = ⟨2048 + (n.val * 128 + x.val), by omega⟩ := Fin.ext (show (2 * 8 + n.val) * 128 + x.val = 2048 + (n.val * 128 + x.val) by omega)
  rw [e]
  pointwise [val_main_v110]
  try simp (discharger := omega) only [dif_pos, dif_neg, Nat.add_sub_cancel_left]
  exact congrArg (fun k => val_main_v109 (F := Ideal) a w (ix2 R k)) (Fin.ext (show 2048 + (n.val * 128 + x.val) - 1024 - 1024 = n.val * 128 + x.val by omega))

theorem v110_at (g : Fin 24) : val_main_v110 (F := Ideal) a w (ix2 R (co g x)) = res a w g x R := by
  unfold res fS
  rcases heads g with ⟨n, rfl⟩ | ⟨n, rfl⟩ | ⟨n, rfl⟩
  · rw [cat_q, q_at, if_pos (hd0 n)]
  · rw [cat_k, k_at, if_neg (hd1 n).1, if_pos (hd1 n).2]
  · rw [cat_v, v_at, if_neg (hd2 n).1, if_neg (hd2 n).2]

end both

/-- The convolution with its weights taken into the choices. -/
theorem cv_in (f : Fin 2304 → EReal) (w0 w1 w2 : EReal) (r : Fin 2304) : Conv.cv Z L f w0 w1 w2 r
    = (if r.val = 0 ∨ r.val = 256 then 0 else f (bwd r) * w0) + f r * w1 + if r.val = 255 ∨ r.val = 2303 then 0 else f (fwd r) * w2 := by
  unfold Conv.cv prv nxt
  rw [ite_mul, ite_mul, zero_mul, zero_mul]

section block
variable (u : Vec Ideal S2304x128 .f32) (w0 w1 w2 nf sc : Vec Ideal S1x128 .f32)

/-- The head after its gate. -/
theorem gate_at (r : Fin 2304) (x : Fin 128) : k0_pay2 u w0 w1 w2 (ix2 r x)
    = hs (fun y => Conv.cv Z L (cl u y) (w0 (ix2 0 y)) (w1 (ix2 0 y)) (w2 (ix2 0 y)) r) x := by
  have hr := r.isLt
  unfold hs
  simp only [cv_in]
  pointwise [k0_pay2]
  simp (discharger := omega) only [sel_or]
  rfl

/-- The result where the head is normed, -/
theorem normed_blk (r : Fin 2304) (x : Fin 128) (k : EReal) (hn : ∀ y : Fin 128, nf (ix2 0 y) = 1)
    (hs' : ∀ y : Fin 128, sc (ix2 0 y) = k) : k0_pay1 nf sc (k0_pay2 u w0 w1 w2) (k0_pay3 u w0 w1 w2) (ix2 r x)
      = k0_pay2 u w0 w1 w2 (ix2 r x) * (Ideal.rsqrt (var fun y => k0_pay2 u w0 w1 w2 (ix2 r y)) * k) := by
  pointwise [k0_pay1, k0_pay3]
  simp only [hn, hs', zero_lt_one, if_true]
  rfl

/-- and where it is not. -/
theorem plain_blk (r : Fin 2304) (x : Fin 128) (hn : ∀ y : Fin 128, nf (ix2 0 y) = 0) :
    k0_pay1 nf sc (k0_pay2 u w0 w1 w2) (k0_pay3 u w0 w1 w2) (ix2 r x) = k0_pay2 u w0 w1 w2 (ix2 r x) := by
  pointwise [k0_pay1, k0_pay3]
  simp only [hn, lt_irrefl, if_false, mul_one]

variable (a : Vec Ideal ⟨2, ![2304, 3072]⟩ .f32) (w : Vec Ideal ⟨2, ![3, 3072]⟩ .f32)
  (g : Fin 24) (hu : ∀ y, cl u y = cl a (co g y))
  (h0 : ∀ y, w0 (ix2 0 y) = w (ix2 0 (co g y))) (h1 : ∀ y, w1 (ix2 0 y) = w (ix2 1 (co g y)))
  (h2 : ∀ y, w2 (ix2 0 y) = w (ix2 2 (co g y))) (hn : ∀ y : Fin 128, nf (ix2 0 y) = if g.val < 16 then 1 else 0)
  (hk : ∀ y : Fin 128, sc (ix2 0 y) = if g.val < 8 then scale else 1)

include hu h0 h1 h2 hn hk in
/-- One block's entries, where its columns are the arrays'. -/
theorem res_at (r : Fin 2304) (x : Fin 128) :
    k0_pay1 nf sc (k0_pay2 u w0 w1 w2) (k0_pay3 u w0 w1 w2) (ix2 r x) = res a w g x r := by
  have hp : ∀ y, k0_pay2 u w0 w1 w2 (ix2 r y) = hs (fun y => pre a w (co g y) r) y := fun y => by
    rw [gate_at]
    simp only [hu, h0, h1, h2]
    rfl
  unfold res fS
  by_cases h : g.val < 8
  · rw [if_pos h, normed_blk u w0 w1 w2 nf sc r x scale (fun y => (hn y).trans (if_pos (by omega))) fun y => (hk y).trans (if_pos h)]
    simp only [hp]
    exact (mul_assoc _ _ _).symm
  · rw [if_neg h]
    by_cases h' : g.val < 16
    · rw [if_pos h', normed_blk u w0 w1 w2 nf sc r x 1 (fun y => (hn y).trans (if_pos h')) fun y => (hk y).trans (if_neg h)]
      simp only [hp, mul_one]
      rfl
    · rw [if_neg h', plain_blk u w0 w1 w2 nf sc r x fun y => (hn y).trans (if_neg h'), hp]

end block

variable (m : (ℓ : Loc nD τ sig) → Buf (Elt Ideal) ℓ)

/-- Where each window stands at a grid point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] :=
  (by decide +kernel : ∀ t : Fin grid0.N, _)

/-- The head that a block holds. -/
def at' (t : Fin cfg0.N) : Fin 24 := ⟨t.val, t.isLt⟩

/-- The queries and the keys are normed, -/
theorem lit0_at : ∀ i : Fin 3072, lit0 i = if i.val < 2048 then 0x3F800000#32 else 0x00000000#32 := by decide +kernel

/-- and the queries scaled. -/
theorem lit1_at : ∀ i : Fin 3072, lit1 i = if i.val < 1024 then 0x3DB504F3#32 else 0x3F800000#32 := by decide +kernel

/-- An index of a block of columns. -/
theorem pair {R : ℕ} (y : (⟨2, ![R, 128]⟩ : Shape).Idx) : ∃ (r : Fin R) (x : Fin 128), y = ix2 r x := by
  refine ⟨y 0, y 1, ?_⟩
  funext a
  match a with
  | ⟨0, _⟩ => rfl
  | ⟨1, _⟩ => rfl

section host
variable (c : Dev nD) (k : Fin 3072)

theorem w0_at : V m c main_v0 (ix2 0 k) = m ((c : Thread nD τ).loc main_arg1) (ix2 0 k) := by
  unfold V
  after_reads_simp
  pointwise []

theorem w1_at : V m c main_v1 (ix2 0 k) = m ((c : Thread nD τ).loc main_arg1) (ix2 1 k) := by
  unfold V
  after_reads_simp
  pointwise []

theorem w2_at : V m c main_v2 (ix2 0 k) = m ((c : Thread nD τ).loc main_arg1) (ix2 2 k) := by
  unfold V
  after_reads_simp
  pointwise []

theorem normed_at : @Eq EReal (V m c main_cst (ix2 0 k)) (if k.val < 2048 then 1 else 0) := by
  have e : V m c main_cst (ix2 0 k) = Ideal.ofBits .f32 (lit0 k) := by
    unfold V
    after_reads_simp
    exact congrArg (fun i => Ideal.ofBits .f32 (lit0 i)) (Fin.ext ((Shape.rowMajor_val_two _).trans (show 0 * 3072 + k.val = k.val by omega)))
  rw [e, lit0_at]
  split
  · pointwise []
  · pointwise []

theorem scaled_at : @Eq EReal (V m c main_cst_0 (ix2 0 k)) (if k.val < 1024 then scale else 1) := by
  have e : V m c main_cst_0 (ix2 0 k) = Ideal.ofBits .f32 (lit1 k) := by
    unfold V
    after_reads_simp
    exact congrArg (fun i => Ideal.ofBits .f32 (lit1 i)) (Fin.ext ((Shape.rowMajor_val_two _).trans (show 0 * 3072 + k.val = k.val by omega)))
  rw [e, lit1_at]
  split
  · rfl
  · pointwise []

end host

section cols
variable (c : Dev nD) (t : Fin cfg0.N) (x : Fin 128)

theorem h0 : cl (iblk m c 0 t) x = cl (m ((c : Thread nD τ).loc main_arg0)) (co (at' t) x) := by
  funext r
  refine Eq.trans ?_ (congrArg (fun v => cl v (co (at' t) x) r) (V_main_arg0 m c))
  unfold cl co at'; blk_point [iblk, idx t]

theorem h1 : iblk m c 1 t (ix2 0 x) = (m ((c : Thread nD τ).loc main_arg1)) (ix2 0 (co (at' t) x)) := by
  refine Eq.trans ?_ (w0_at m c (co (at' t) x))
  unfold co at'; blk_point [iblk, idx t]

theorem h2 : iblk m c 2 t (ix2 0 x) = (m ((c : Thread nD τ).loc main_arg1)) (ix2 1 (co (at' t) x)) := by
  refine Eq.trans ?_ (w1_at m c (co (at' t) x))
  unfold co at'; blk_point [iblk, idx t]

theorem h3 : iblk m c 3 t (ix2 0 x) = (m ((c : Thread nD τ).loc main_arg1)) (ix2 2 (co (at' t) x)) := by
  refine Eq.trans ?_ (w2_at m c (co (at' t) x))
  unfold co at'; blk_point [iblk, idx t]

theorem h4 : @Eq EReal (iblk m c 4 t (ix2 0 x)) (if (at' t).val < 16 then 1 else 0) := by
  have e : (co (at' t) x).val < 2048 ↔ (at' t).val < 16 := by
    have := x.isLt
    show (at' t).val * 128 + x.val < 2048 ↔ _
    omega
  refine Eq.trans ?_ ((normed_at m c (co (at' t) x)).trans (if_congr e rfl rfl))
  unfold co at'; blk_point [iblk, idx t]

theorem h5 : @Eq EReal (iblk m c 5 t (ix2 0 x)) (if (at' t).val < 8 then scale else 1) := by
  have e : (co (at' t) x).val < 1024 ↔ (at' t).val < 8 := by
    have := x.isLt
    show (at' t).val * 128 + x.val < 1024 ↔ _
    omega
  refine Eq.trans ?_ ((scaled_at m c (co (at' t) x)).trans (if_congr e rfl rfl))
  unfold co at'; blk_point [iblk, idx t]

end cols

set_option maxHeartbeats 1600000 in
/-- The heads. -/
theorem final6 (c : Dev nD) : (dats m 0 c).arrAt 6 (cfgs 0).N
    = val_main_v110 (F := Ideal) (m ((c : Thread nD τ).loc main_arg0)) (m ((c : Thread nD τ).loc main_arg1)) := by
  refine (dats m 0 c).arrAt_eq_of_covers 6 _ (by decide +kernel) fun t _ y => ?_
  obtain ⟨r, x, rfl⟩ := pair y
  have e : ((cfg0.win 6).blk t).view.emb (ix2 r x) = ix2 r (co (at' t) x) := by
    funext a
    match a with
    | ⟨0, _⟩ => (apply Fin.ext; blk_simp [idx t])
    | ⟨1, _⟩ => (apply Fin.ext; blk_simp [idx t]; rfl)
  refine Eq.trans ?_ ((congrArg (val_main_v110 (F := Ideal) _ _) e).trans (v110_at _ _ r x (at' t))).symm
  blk_simp
  rw [after0_6]
  unfold out0_6
  frame_out
  exact res_at (iblk m c 0 t) (iblk m c 1 t) (iblk m c 2 t) (iblk m c 3 t) (iblk m c 4 t) (iblk m c 5 t) (m ((c : Thread nD τ).loc main_arg0)) (m ((c : Thread nD τ).loc main_arg1)) (at' t) (h0 m c t) (h1 m c t) (h2 m c t) (h3 m c t) (h4 m c t) (h5 m c t) r x

end Cert.GdnPrepF

namespace Cert.Proof.GdnPrepF

section
open Cert.GdnPrepFRIdeal Cert.GdnPrepFRIdeal.Gen Cert.GdnPrepFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = val_main_v110 (F := Ideal) (m ((c.tc : Thread nD τ).loc
        main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v110_eq m c), (h c).2⟩)
    (Cert.GdnPrepFRIdeal.Value.run (F := Ideal) m ρ)

end

open Cert.GdnPrepF

/-- From memories that agree on the arguments the kernel and the reference end with the same heads. -/
theorem algebraic : Cert.algebraic_GdnPrepFKIdeal_GdnPrepFRIdeal := by
  pair_intro
  · run_from Cert.GdnPrepFKIdeal.Value.run_blocks m g
  · run_from refRun m' g'
    exact (final6 m c).symm

end Cert.Proof.GdnPrepF

end
-- ==== Proof.MmF.lean ====
/-
  The product of rows and a weight cut into four blocks of columns, as the first layer of a feed-forward block takes it: each
  grid point multiplies 1024 rows by one block.
-/
module

public import proofs.«01_k».proof.Defs
public import proofs.«01_k».proof.Proof.Gen.MmFKIdeal.Value
public import proofs.«01_k».proof.Proof.Gen.MmFRIdeal.Read
public import proofs.«01_k».proof.Proof.Gen.MmFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmF

open Cert.MmFKIdeal Cert.MmFKIdeal.Gen
open Cert.MmFRIdeal.Read

variable (m : (ℓ : Loc nD τ sig) → Buf (Elt Ideal) ℓ)

/-- Where each window stands at a grid point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- The row that a block's row is, -/
def at0 (t : Fin cfg0.N) (r : Fin 1024) : Fin 2048 := ⟨t.val / 4 * 1024 + r.val, by have : t.val < 8 := t.isLt; omega⟩

/-- and the column that a block's column is. -/
def at1 (t : Fin cfg0.N) (x : Fin 1408) : Fin 5632 := ⟨t.val % 4 * 1408 + x.val, by omega⟩

/-- An index of a block. -/
theorem pair {R C : ℕ} (y : (⟨2, ![R, C]⟩ : Shape).Idx) : ∃ (r : Fin R) (x : Fin C), y = ix2 r x := by
  refine ⟨y 0, y 1, ?_⟩
  funext a
  match a with
  | ⟨0, _⟩ => rfl
  | ⟨1, _⟩ => rfl

/-- A block of the product. -/
theorem pay_at (v : Vec Ideal S1024x1024 .f32) (w : Vec Ideal S1x1024x1408 .bf16) (r : Fin 1024) (x : Fin 1408) :
    k0_pay1 v w (ix2 r x) = ∑ k : Fin 1024, v (ix2 r k) * w (ix3 0 k x) := by
  pointwise [k0_pay1]
  try rfl

/-- The reference's product. -/
theorem ref_at (a : Vec Ideal ⟨2, ![2048, 1024]⟩ .f32) (w : Vec Ideal ⟨2, ![1024, 5632]⟩ .f32) (r : Fin 2048) (x : Fin 5632) :
    val_main_v0 (F := Ideal) a w (ix2 r x) = ∑ k : Fin 1024, a (ix2 r k) * w (ix2 k x) := by
  pointwise [val_main_v0]
  try rfl

/-- The weight's blocks. -/
theorem w_at (c : Dev nD) (b : Fin 4) (k : Fin 1024) (x : Fin 1408) :
    V m c main_v2 (ix3 b k x) = m ((c : Thread nD τ).loc main_arg1) (ix2 k ⟨b.val * 1408 + x.val, by omega⟩) := by
  unfold V
  after_reads_simp
  pointwise []
  try rfl

section blocks
variable (c : Dev nD) (t : Fin cfg0.N)

theorem h0 (r : Fin 1024) (k : Fin 1024) : iblk m c 0 t (ix2 r k) = (m ((c : Thread nD τ).loc main_arg0)) (ix2 (at0 t r) k) := by
  refine Eq.trans ?_ (congrFun (V_main_arg0 m c) _)
  unfold at0; blk_point [iblk, idx t]

theorem h1 (k : Fin 1024) (x : Fin 1408) : iblk m c 1 t (ix3 0 k x) = (m ((c : Thread nD τ).loc main_arg1)) (ix2 k (at1 t x)) := by
  refine Eq.trans ?_ (w_at m c ⟨t.val % 4, by omega⟩ k x)
  blk_point [iblk, idx t]

end blocks

set_option maxHeartbeats 1600000 in
/-- The product. -/
theorem final2 (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t _ y => ?_
  obtain ⟨r, x, rfl⟩ := pair y
  have e : ((cfg0.win 2).blk t).view.emb (ix2 r x) = ix2 (at0 t r) (at1 t x) := by
    funext a
    match a with
    | ⟨0, _⟩ => (apply Fin.ext; blk_simp [idx t]; try rfl)
    | ⟨1, _⟩ => (apply Fin.ext; blk_simp [idx t]; try rfl)
  refine Eq.trans ?_ ((congrArg (val_main_v0 (F := Ideal) _ _) e).trans (ref_at _ _ _ _)).symm
  blk_simp
  rw [after0_2]
  unfold out0_2
  frame_out
  refine (pay_at _ _ r x).trans (Finset.sum_congr rfl fun k _ => ?_)
  exact congrArg₂ (fun p q : EReal => p * q) (h0 m c t r k) (h1 m c t k x)

end Cert.MmF

namespace Cert.Proof.MmF

section
open Cert.MmFRIdeal Cert.MmFRIdeal.Gen Cert.MmFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v0_eq _ _), (h c).2⟩)
    (Cert.MmFRIdeal.Value.run (F := Ideal) m ρ)

end

open Cert.MmF

/-- From memories that agree on the arguments the kernel and the reference end with the same product. -/
theorem algebraic : Cert.algebraic_MmFKIdeal_MmFRIdeal := by
  pair_intro
  · run_from Cert.MmFKIdeal.Value.run_blocks m g
  · run_from refRun m' g'
    exact (final2 m c).symm

end Cert.Proof.MmF

end
-- ==== Proof.MmDw.lean ====
/-
  The weight's gradient of the product with a weight in four blocks of columns, in the same blocks: each grid point makes 256 of
  the rows of one block.
-/
module

public import proofs.«01_k».proof.Defs
public import proofs.«01_k».proof.Proof.Gen.MmDwKIdeal.Value
public import proofs.«01_k».proof.Proof.Gen.MmDwRIdeal.Read
public import proofs.«01_k».proof.Proof.Gen.MmDwRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmDw

open Cert.MmDwKIdeal Cert.MmDwKIdeal.Gen
open Cert.MmDwRIdeal.Read

variable (m : (ℓ : Loc nD τ sig) → Buf (Elt Ideal) ℓ)

/-- Where each window stands at a grid point. -/
theorem idx : ∀ t : Fin cfg0.N, win0_0.index t = ![0, t.val % 4] ∧ win0_1.index t = ![0, t.val / 4]
    ∧ win0_2.index t = ![t.val / 4, t.val % 4, 0] :=
  (by decide +kernel : ∀ t : Fin grid0.N, _)

/-- The block of columns that a grid point makes, -/
def at' (t : Fin cfg0.N) : Fin 4 := ⟨t.val / 4, by have : t.val < 16 := t.isLt; omega⟩

/-- the row that a block's row is, -/
def at0 (t : Fin cfg0.N) (r : Fin 256) : Fin 1024 := ⟨t.val % 4 * 256 + r.val, by have : t.val < 16 := t.isLt; omega⟩

/-- and a block's column as one of the weight's. -/
def col (b : Fin 4) (x : Fin 1408) : Fin 5632 := ⟨b.val * 1408 + x.val, by omega⟩

/-- An index of a block. -/
theorem pair (y : (⟨3, ![1, 256, 1408]⟩ : Shape).Idx) : ∃ (r : Fin 256) (x : Fin 1408), y = ix3 0 r x := by
  refine ⟨y 1, y 2, ?_⟩
  funext a
  match a with
  | ⟨0, _⟩ => exact Subsingleton.elim (α := Fin 1) _ _
  | ⟨1, _⟩ => rfl
  | ⟨2, _⟩ => rfl

/-- A block of the gradient. -/
theorem pay_at (v : Vec Ideal S2048x256 .f32) (w : Vec Ideal S2048x1408 .f32) (r : Fin 256) (x : Fin 1408) :
    k0_pay1 v w (ix3 0 r x) = ∑ k : Fin 2048, v (ix2 k r) * w (ix2 k x) := by
  pointwise [k0_pay1]
  try rfl

/-- The reference's gradient. -/
theorem ref_at (a : Vec Ideal ⟨2, ![2048, 1024]⟩ .f32) (g : Vec Ideal ⟨2, ![2048, 5632]⟩ .f32) (b : Fin 4) (r : Fin 1024) (x : Fin 1408) :
    val_main_v5 (F := Ideal) a g (ix3 b r x) = ∑ k : Fin 2048, g (ix2 k (col b x)) * a (ix2 k r) := by
  pointwise [val_main_v5, val_main_v4, val_main_v2, val_main_v1]
  try rfl

section blocks
variable (c : Dev nD) (t : Fin cfg0.N)

theorem h0 (r : Fin 256) (k : Fin 2048) : iblk m c 0 t (ix2 k r) = (m ((c : Thread nD τ).loc main_arg0)) (ix2 k (at0 t r)) := by
  refine Eq.trans ?_ (congrFun (V_main_arg0 m c) _)
  unfold at0; blk_point [iblk, idx t]

theorem h1 (k : Fin 2048) (x : Fin 1408) : iblk m c 1 t (ix2 k x) = (m ((c : Thread nD τ).loc main_arg2)) (ix2 k (col (at' t) x)) := by
  refine Eq.trans ?_ (congrFun (V_main_arg2 m c) _)
  unfold at' col; blk_point [iblk, idx t]

end blocks

set_option maxHeartbeats 1600000 in
/-- The weight's gradient. -/
theorem final2 (c : Dev nD) : (dats m 0 c).arrAt 2 (cfgs 0).N
    = val_main_v5 (F := Ideal) (m ((c : Thread nD τ).loc main_arg0)) (m ((c : Thread nD τ).loc main_arg2)) := by
  refine (dats m 0 c).arrAt_eq_of_covers 2 _ (by decide +kernel) fun t _ y => ?_
  obtain ⟨r, x, rfl⟩ := pair y
  have e : ((cfg0.win 2).blk t).view.emb (ix3 0 r x) = ix3 (at' t) (at0 t r) x := by
    funext a
    match a with
    | ⟨0, _⟩ => (apply Fin.ext; blk_simp [idx t]; try rfl)
    | ⟨1, _⟩ => (apply Fin.ext; blk_simp [idx t]; try rfl)
    | ⟨2, _⟩ => (apply Fin.ext; blk_simp [idx t]; try rfl)
  refine Eq.trans ?_ ((congrArg (val_main_v5 (F := Ideal) _ _) e).trans (ref_at _ _ _ _ _)).symm
  blk_simp
  rw [after0_2]
  unfold out0_2
  frame_out
  refine (pay_at _ _ r x).trans (Finset.sum_congr rfl fun k _ => ?_)
  exact (congrArg₂ (fun p q : EReal => p * q) (h0 m c t r k) (h1 m c t k x)).trans (mul_comm _ _)

end Cert.MmDw

namespace Cert.Proof.MmDw

section
open Cert.MmDwRIdeal Cert.MmDwRIdeal.Gen Cert.MmDwRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v5_eq _ _), (h c).2⟩)
    (Cert.MmDwRIdeal.Value.run (F := Ideal) m ρ)

end

open Cert.MmDw

/-- From memories that agree on the arguments the kernel and the reference end with the same gradient. -/
theorem algebraic : Cert.algebraic_MmDwKIdeal_MmDwRIdeal := by
  pair_intro
  · run_from Cert.MmDwKIdeal.Value.run_blocks m g
  · run_from refRun m' g'
    exact (final2 m c).symm

end Cert.Proof.MmDw

end
-- ==== Proof.MmTF.lean ====
/-
  The product of rows and a weight, with the weight handed over transposed: each grid point makes 512 of the columns.
-/
module

public import proofs.«01_k».proof.Defs
public import proofs.«01_k».proof.Proof.Gen.MmTFKIdeal.Value
public import proofs.«01_k».proof.Proof.Gen.MmTFRIdeal.Read
public import proofs.«01_k».proof.Proof.Gen.MmTFRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmTF

open Cert.MmTFKIdeal Cert.MmTFKIdeal.Gen
open Cert.MmTFRIdeal.Read

variable (m : (ℓ : Loc nD τ sig) → Buf (Elt Ideal) ℓ)

/-- Where each window stands at a grid point. -/
theorem idx : ∀ t : Fin cfg0.N, win0_0.index t = ![0, 0] ∧ win0_1.index t = ![t.val, 0]
    ∧ win0_2.index t = ![0, t.val] :=
  (by decide +kernel : ∀ t : Fin grid0.N, _)

/-- A block holds every row, -/
abbrev at0 (t : Fin cfg0.N) (r : Fin 2304) : Fin 2304 := r

/-- and this is the column that a block's column is. -/
def at1 (t : Fin cfg0.N) (x : Fin 512) : Fin 7680 := ⟨t.val * 512 + x.val, by have : t.val < 15 := t.isLt; omega⟩

/-- An index of a block. -/
theorem pair {R C : ℕ} (y : (⟨2, ![R, C]⟩ : Shape).Idx) : ∃ (r : Fin R) (x : Fin C), y = ix2 r x := by
  refine ⟨y 0, y 1, ?_⟩
  funext a
  match a with
  | ⟨0, _⟩ => rfl
  | ⟨1, _⟩ => rfl

/-- A block of the product. -/
theorem pay_at (v : Vec Ideal S2304x1024 .f32) (w : Vec Ideal S512x1024 .bf16) (r : Fin 2304) (x : Fin 512) :
    k0_pay1 v w (ix2 r x) = ∑ k : Fin 1024, v (ix2 r k) * w (ix2 x k) := by
  pointwise [k0_pay1]
  try rfl

/-- The reference's product. -/
theorem ref_at (a : Vec Ideal ⟨2, ![2304, 1024]⟩ .f32) (w : Vec Ideal ⟨2, ![1024, 7680]⟩ .f32) (r : Fin 2304) (x : Fin 7680) :
    val_main_v0 (F := Ideal) a w (ix2 r x) = ∑ k : Fin 1024, a (ix2 r k) * w (ix2 k x) := by
  pointwise [val_main_v0]
  try rfl

/-- The transposed weight. -/
theorem w_at (c : Dev nD) (x : Fin 7680) (k : Fin 1024) :
    V m c main_v1 (ix2 x k) = m ((c : Thread nD τ).loc main_arg1) (ix2 k x) := by
  unfold V
  after_reads_simp
  pointwise []
  try rfl

section blocks
variable (c : Dev nD) (t : Fin cfg0.N)

theorem h0 (r : Fin 2304) (k : Fin 1024) : iblk m c 0 t (ix2 r k) = (m ((c : Thread nD τ).loc main_arg0)) (ix2 r k) := by
  refine Eq.trans ?_ (congrFun (V_main_arg0 m c) _)
  blk_point [iblk, idx t]

theorem h1 (k : Fin 1024) (x : Fin 512) : iblk m c 1 t (ix2 x k) = (m ((c : Thread nD τ).loc main_arg1)) (ix2 k (at1 t x)) := by
  refine Eq.trans ?_ (w_at m c (at1 t x) k)
  unfold at1; blk_point [iblk, idx t]

end blocks

set_option maxHeartbeats 1600000 in
/-- The product. -/
theorem final2 (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t _ y => ?_
  obtain ⟨r, x, rfl⟩ := pair y
  have e : ((cfg0.win 2).blk t).view.emb (ix2 r x) = ix2 (at0 t r) (at1 t x) := by
    funext a
    match a with
    | ⟨0, _⟩ => (apply Fin.ext; blk_simp [idx t]; try rfl)
    | ⟨1, _⟩ => (apply Fin.ext; blk_simp [idx t]; try rfl)
  refine Eq.trans ?_ ((congrArg (val_main_v0 (F := Ideal) _ _) e).trans (ref_at _ _ _ _)).symm
  blk_simp
  rw [after0_2]
  unfold out0_2
  frame_out
  refine (pay_at _ _ r x).trans (Finset.sum_congr rfl fun k _ => ?_)
  exact congrArg₂ (fun p q : EReal => p * q) (h0 m c t r k) (h1 m c t k x)

end Cert.MmTF

namespace Cert.Proof.MmTF

section
open Cert.MmTFRIdeal Cert.MmTFRIdeal.Gen Cert.MmTFRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v0_eq _ _), (h c).2⟩)
    (Cert.MmTFRIdeal.Value.run (F := Ideal) m ρ)

end

open Cert.MmTF

/-- From memories that agree on the arguments the kernel and the reference end with the same product. -/
theorem algebraic : Cert.algebraic_MmTFKIdeal_MmTFRIdeal := by
  pair_intro
  · run_from Cert.MmTFKIdeal.Value.run_blocks m g
  · run_from refRun m' g'
    exact (final2 m c).symm

end Cert.Proof.MmTF

end
-- ==== Proof.MmTDw.lean ====
/-
  The weight's gradient of the product with a transposed weight, transposed like the weight: each grid point makes 512 of its
  rows.
-/
module

public import proofs.«01_k».proof.Defs
public import proofs.«01_k».proof.Proof.Gen.MmTDwKIdeal.Value
public import proofs.«01_k».proof.Proof.Gen.MmTDwRIdeal.Read
public import proofs.«01_k».proof.Proof.Gen.MmTDwRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmTDw

open Cert.MmTDwKIdeal Cert.MmTDwKIdeal.Gen
open Cert.MmTDwRIdeal.Read

variable (m : (ℓ : Loc nD τ sig) → Buf (Elt Ideal) ℓ)

/-- Where each window stands at a grid point. -/
theorem idx : ∀ t : Fin cfg0.N, win0_0.index t = ![0, t.val] ∧ win0_1.index t = ![0, 0]
    ∧ win0_2.index t = ![t.val, 0] :=
  (by decide +kernel : ∀ t : Fin grid0.N, _)

/-- The row that a block's row is; -/
def at0 (t : Fin cfg0.N) (r : Fin 512) : Fin 7680 := ⟨t.val * 512 + r.val, by have : t.val < 15 := t.isLt; omega⟩

/-- a block holds every column. -/
abbrev at1 (t : Fin cfg0.N) (x : Fin 1024) : Fin 1024 := x

/-- An index of a block. -/
theorem pair {R C : ℕ} (y : (⟨2, ![R, C]⟩ : Shape).Idx) : ∃ (r : Fin R) (x : Fin C), y = ix2 r x := by
  refine ⟨y 0, y 1, ?_⟩
  funext a
  match a with
  | ⟨0, _⟩ => rfl
  | ⟨1, _⟩ => rfl

/-- A block of the gradient. -/
theorem pay_at (v : Vec Ideal S2304x512 .f32) (w : Vec Ideal S2304x1024 .f32) (r : Fin 512) (x : Fin 1024) :
    k0_pay1 v w (ix2 r x) = ∑ k : Fin 2304, v (ix2 k r) * w (ix2 k x) := by
  pointwise [k0_pay1]
  try rfl

/-- The reference's gradient. -/
theorem ref_at (a : Vec Ideal ⟨2, ![2304, 1024]⟩ .f32) (g : Vec Ideal ⟨2, ![2304, 7680]⟩ .f32) (r : Fin 7680) (x : Fin 1024) :
    val_main_v4 (F := Ideal) a g (ix2 r x) = ∑ k : Fin 2304, g (ix2 k r) * a (ix2 k x) := by
  pointwise [val_main_v4, val_main_v2, val_main_v1]
  try rfl

section blocks
variable (c : Dev nD) (t : Fin cfg0.N)

theorem h0 (r : Fin 512) (k : Fin 2304) : iblk m c 0 t (ix2 k r) = (m ((c : Thread nD τ).loc main_arg2)) (ix2 k (at0 t r)) := by
  refine Eq.trans ?_ (congrFun (V_main_arg2 m c) _)
  unfold at0; blk_point [iblk, idx t]

theorem h1 (k : Fin 2304) (x : Fin 1024) : iblk m c 1 t (ix2 k x) = (m ((c : Thread nD τ).loc main_arg0)) (ix2 k x) := by
  refine Eq.trans ?_ (congrFun (V_main_arg0 m c) _)
  blk_point [iblk, idx t]

end blocks

set_option maxHeartbeats 1600000 in
/-- The weight's gradient. -/
theorem final2 (c : Dev nD) : (dats m 0 c).arrAt 2 (cfgs 0).N
    = val_main_v4 (F := Ideal) (m ((c : Thread nD τ).loc main_arg0)) (m ((c : Thread nD τ).loc main_arg2)) := by
  refine (dats m 0 c).arrAt_eq_of_covers 2 _ (by decide +kernel) fun t _ y => ?_
  obtain ⟨r, x, rfl⟩ := pair y
  have e : ((cfg0.win 2).blk t).view.emb (ix2 r x) = ix2 (at0 t r) (at1 t x) := by
    funext a
    match a with
    | ⟨0, _⟩ => (apply Fin.ext; blk_simp [idx t]; try rfl)
    | ⟨1, _⟩ => (apply Fin.ext; blk_simp [idx t]; try rfl)
  refine Eq.trans ?_ ((congrArg (val_main_v4 (F := Ideal) _ _) e).trans (ref_at _ _ _ _)).symm
  blk_simp
  rw [after0_2]
  unfold out0_2
  frame_out
  refine (pay_at _ _ r x).trans (Finset.sum_congr rfl fun k _ => ?_)
  exact congrArg₂ (fun p q : EReal => p * q) (h0 m c t r k) (h1 m c t k x)

end Cert.MmTDw

namespace Cert.Proof.MmTDw

section
open Cert.MmTDwRIdeal Cert.MmTDwRIdeal.Gen Cert.MmTDwRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v4_eq _ _), (h c).2⟩)
    (Cert.MmTDwRIdeal.Value.run (F := Ideal) m ρ)

end

open Cert.MmTDw

/-- From memories that agree on the arguments the kernel and the reference end with the same gradient. -/
theorem algebraic : Cert.algebraic_MmTDwKIdeal_MmTDwRIdeal := by
  pair_intro
  · run_from Cert.MmTDwKIdeal.Value.run_blocks m g
  · run_from refRun m' g'
    exact (final2 m c).symm

end Cert.Proof.MmTDw

end
-- ==== Proof.MmDa.lean ====
/-
  The rows' gradient of the product with a weight in four blocks of columns: four grid points each add one block's share to a
  block of the result.
-/
module

public import proofs.«01_k».proof.Defs
public import proofs.«01_k».proof.Proof.Gen.MmDaKIdeal.Value
public import proofs.«01_k».proof.Proof.Gen.MmDaRIdeal.Read
public import proofs.«01_k».proof.Proof.Gen.MmDaRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmDa

open Cert.MmDaKIdeal Cert.MmDaKIdeal.Gen
open Cert.MmDaRIdeal.Read

variable (m : (ℓ : Loc nD τ sig) → Buf (Elt Ideal) ℓ)

/-- Where each window stands at a grid point. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The row that a block's row is; -/
def at0 (t : Fin cfg0.N) (r : Fin 1024) : Fin 2048 := ⟨t.val / 4 * 1024 + r.val, by have : t.val < 8 := t.isLt; omega⟩

/-- the place in the sum that a place in a grid point's share of it is. -/
def at1 (t : Fin cfg0.N) (k : Fin 1408) : Fin 5632 := ⟨t.val % 4 * 1408 + k.val, by omega⟩

/-- An index of a block. -/
theorem pair {R C : ℕ} (y : (⟨2, ![R, C]⟩ : Shape).Idx) : ∃ (r : Fin R) (x : Fin C), y = ix2 r x := by
  refine ⟨y 0, y 1, ?_⟩
  funext a
  match a with
  | ⟨0, _⟩ => rfl
  | ⟨1, _⟩ => rfl

/-- A grid point's share of a block. -/
theorem pay_at (v : Vec Ideal S1024x1408 .f32) (w : Vec Ideal S1x1024x1408 .bf16) (r : Fin 1024) (x : Fin 1024) :
    k0_pay1 v w (ix2 r x) = ∑ k : Fin 1408, v (ix2 r k) * w (ix3 0 x k) := by
  pointwise [k0_pay1]
  try rfl

/-- A grid point adds its share to what the block holds. -/
theorem step_at (v : Vec Ideal S1024x1408 .f32) (w : Vec Ideal S1x1024x1408 .bf16) (u : Vec Ideal S1024x1024 .f32) (j : S1024x1024.Idx) :
    k0_pay2 v w u j = u j + k0_pay1 v w j := by
  obtain ⟨r, x, rfl⟩ := pair j
  rw [pay_at]
  pointwise [k0_pay2, k0_pay1]
  try rfl

/-- The reference's gradient. -/
theorem ref_at (w : Vec Ideal ⟨2, ![1024, 5632]⟩ .f32) (g : Vec Ideal ⟨2, ![2048, 5632]⟩ .f32) (r : Fin 2048) (x : Fin 1024) :
    val_main_v3 (F := Ideal) w g (ix2 r x) = ∑ k : Fin 5632, g (ix2 r k) * w (ix2 x k) := by
  pointwise [val_main_v3]
  try rfl

/-- The weight's blocks. -/
theorem w_at (c : Dev nD) (b : Fin 4) (k : Fin 1024) (x : Fin 1408) :
    V m c main_v2 (ix3 b k x) = m ((c : Thread nD τ).loc main_arg1) (ix2 k ⟨b.val * 1408 + x.val, by omega⟩) := by
  unfold V
  after_reads_simp
  pointwise []
  try rfl

/-- The gradient that comes in -/
abbrev ct (c : Dev nD) : Vec Ideal ⟨2, ![2048, 5632]⟩ .f32 := m ((c : Thread nD τ).loc main_arg2)

/-- and the weight. -/
abbrev wt (c : Dev nD) : Vec Ideal ⟨2, ![1024, 5632]⟩ .f32 := m ((c : Thread nD τ).loc main_arg1)

section blocks
variable (c : Dev nD) (t : Fin cfg0.N)

theorem h0 (r : Fin 1024) (k : Fin 1408) : iblk m c 0 t (ix2 r k) = ct m c (ix2 (at0 t r) (at1 t k)) := by
  refine Eq.trans ?_ (congrFun (V_main_arg2 m c) _)
  unfold at0 at1; blk_point [iblk, idx t]

theorem h1 (k : Fin 1408) (x : Fin 1024) : iblk m c 1 t (ix3 0 x k) = wt m c (ix2 x (at1 t k)) := by
  refine Eq.trans ?_ (w_at m c ⟨t.val % 4, by omega⟩ x k)
  blk_point [iblk, idx t]

/-- What a grid point adds to its block. -/
def part (j : S1024x1024.Idx) : EReal := k0_pay1 (F := Ideal) (iblk m c 0 t) (iblk m c 1 t) j

/-- The share that the grid point `s` of a block's run adds is the reference's sum over that share's places. -/
theorem part_at (t' : Fin cfg0.N) (s : Fin 4) (h : t'.val = 4 * (t.val / 4) + s.val) (r : Fin 1024) (x : Fin 1024) :
    part m c t' (ix2 r x) = ∑ k : Fin 1408, ct m c (ix2 (at0 t r) ⟨s.val * 1408 + k.val, by omega⟩)
      * wt m c (ix2 x ⟨s.val * 1408 + k.val, by omega⟩) := by
  unfold part
  refine (pay_at _ _ r x).trans (Finset.sum_congr rfl fun k _ => ?_)
  have e0 : at0 t' r = at0 t r := Fin.ext (by unfold at0; simp only; omega)
  have e1 : at1 t' k = ⟨s.val * 1408 + k.val, by omega⟩ := Fin.ext (by unfold at1; simp only; omega)
  rw [← e0, ← e1]
  exact congrArg₂ (fun p q : EReal => p * q) (h0 m c t' r k) (h1 m c t' k x)

/-- A block, when it is written, holds the shares of its run. -/
theorem run_sum (hr : t.val % 4 = 4 - 1) (j : S1024x1024.Idx) : outsAt0 m c t.val t.isLt j
    = ∑ s : Fin 4, part m c ⟨4 * (t.val / 4) + s.val, Pipeline.run_point_lt_of_flush t hr s⟩ j :=
  (Pipeline.eq_sum_fin_of_reset_step_apply_of_flush (M := EReal) (fun n h => outsAt0 m c n h) 4 (fun _ => 0) (part m c)
    (fun t h j => by rw [outsAt0_A m c t h (by omega)]; unfold out0_A_2; frame_out; exact (zero_add _).symm)
    (fun t h j => by rw [outsAt0_B m c t h (by omega)]; unfold out0_B_2; frame_out; exact step_at _ _ _ j) t hr j).trans (zero_add _)

end blocks

set_option maxHeartbeats 1600000 in
/-- The gradient. -/
theorem final2 (c : Dev nD) : (dats m 0 c).arrAt 2 (cfgs 0).N
    = val_main_v3 (F := Ideal) (m ((c : Thread nD τ).loc main_arg1)) (m ((c : Thread nD τ).loc main_arg2)) := by
  refine (dats m 0 c).arrAt_eq_of_covers 2 _ (by decide +kernel) fun t hf y => ?_
  obtain ⟨r, x, rfl⟩ := pair y
  have hr := (flush0_2 t).mp hf
  have e : ((cfg0.win 2).blk t).view.emb (ix2 r x) = ix2 (at0 t r) x := by
    funext a
    match a with
    | ⟨0, _⟩ => (apply Fin.ext; blk_simp [idx t]; try rfl)
    | ⟨1, _⟩ => (apply Fin.ext; blk_simp [idx t]; try rfl)
  refine Eq.trans ?_ ((congrArg (val_main_v3 (F := Ideal) _ _) e).trans (ref_at _ _ _ _)).symm
  blk_simp
  rw [after0_2]
  refine (run_sum m c t hr (ix2 r x)).trans ?_
  rw [Fin.sum_univ_tiles 4 1408 rfl]
  exact Finset.sum_congr rfl fun s _ => part_at m c t _ s rfl r x

end Cert.MmDa

namespace Cert.Proof.MmDa

section
open Cert.MmDaRIdeal Cert.MmDaRIdeal.Gen Cert.MmDaRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v3_eq _ _), (h c).2⟩)
    (Cert.MmDaRIdeal.Value.run (F := Ideal) m ρ)

end

open Cert.MmDa

/-- From memories that agree on the arguments the kernel and the reference end with the same gradient. -/
theorem algebraic : Cert.algebraic_MmDaKIdeal_MmDaRIdeal := by
  pair_intro
  · run_from Cert.MmDaKIdeal.Value.run_blocks m g
  · run_from refRun m' g'
    exact (final2 m c).symm

end Cert.Proof.MmDa

end
-- ==== Proof.MmTDa.lean ====
/-
  The rows' gradient of the product with a transposed weight: three grid points each add a third of the sum to a block of the
  result.
-/
module

public import proofs.«01_k».proof.Defs
public import proofs.«01_k».proof.Proof.Gen.MmTDaKIdeal.Value
public import proofs.«01_k».proof.Proof.Gen.MmTDaRIdeal.Read
public import proofs.«01_k».proof.Proof.Gen.MmTDaRIdeal.Run
public import Idealize.ShloMosaic.Lib.StableHlo.RunRead
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MmTDa

open Cert.MmTDaKIdeal Cert.MmTDaKIdeal.Gen
open Cert.MmTDaRIdeal.Read

variable (m : (ℓ : Loc nD τ sig) → Buf (Elt Ideal) ℓ)

/-- Where each window stands at a grid point. -/
theorem idx : ∀ t : Fin cfg0.N, win0_0.index t = ![t.val / 3, t.val % 3] ∧ win0_1.index t = ![t.val % 3, 0]
    ∧ win0_2.index t = ![t.val / 3, 0] :=
  (by decide +kernel : ∀ t : Fin grid0.N, _)

/-- The row that a block's row is; -/
def at0 (t : Fin cfg0.N) (r : Fin 768) : Fin 2304 := ⟨t.val / 3 * 768 + r.val, by have : t.val < 9 := t.isLt; omega⟩

/-- the place in the sum that a place in a grid point's share of it is. -/
def at1 (t : Fin cfg0.N) (k : Fin 2560) : Fin 7680 := ⟨t.val % 3 * 2560 + k.val, by omega⟩

/-- An index of a block. -/
theorem pair {R C : ℕ} (y : (⟨2, ![R, C]⟩ : Shape).Idx) : ∃ (r : Fin R) (x : Fin C), y = ix2 r x := by
  refine ⟨y 0, y 1, ?_⟩
  funext a
  match a with
  | ⟨0, _⟩ => rfl
  | ⟨1, _⟩ => rfl

/-- A grid point's share of a block. -/
theorem pay_at (v : Vec Ideal S768x2560 .f32) (w : Vec Ideal S2560x1024 .bf16) (r : Fin 768) (x : Fin 1024) :
    k0_pay1 v w (ix2 r x) = ∑ k : Fin 2560, v (ix2 r k) * w (ix2 k x) := by
  pointwise [k0_pay1]
  try rfl

/-- A grid point adds its share to what the block holds. -/
theorem step_at (v : Vec Ideal S768x2560 .f32) (w : Vec Ideal S2560x1024 .bf16) (u : Vec Ideal S768x1024 .f32) (j : S768x1024.Idx) :
    k0_pay2 v w u j = u j + k0_pay1 v w j := by
  obtain ⟨r, x, rfl⟩ := pair j
  rw [pay_at]
  pointwise [k0_pay2, k0_pay1]
  try rfl

/-- The reference's gradient. -/
theorem ref_at (w : Vec Ideal ⟨2, ![1024, 7680]⟩ .f32) (g : Vec Ideal ⟨2, ![2304, 7680]⟩ .f32) (r : Fin 2304) (x : Fin 1024) :
    val_main_v3 (F := Ideal) w g (ix2 r x) = ∑ k : Fin 7680, g (ix2 r k) * w (ix2 x k) := by
  pointwise [val_main_v3]
  try rfl

/-- The transposed weight. -/
theorem w_at (c : Dev nD) (x : Fin 7680) (k : Fin 1024) :
    V m c main_v1 (ix2 x k) = m ((c : Thread nD τ).loc main_arg1) (ix2 k x) := by
  unfold V
  after_reads_simp
  pointwise []
  try rfl

/-- The gradient that comes in -/
abbrev ct (c : Dev nD) : Vec Ideal ⟨2, ![2304, 7680]⟩ .f32 := m ((c : Thread nD τ).loc main_arg2)

/-- and the weight. -/
abbrev wt (c : Dev nD) : Vec Ideal ⟨2, ![1024, 7680]⟩ .f32 := m ((c : Thread nD τ).loc main_arg1)

section blocks
variable (c : Dev nD) (t : Fin cfg0.N)

theorem h0 (r : Fin 768) (k : Fin 2560) : iblk m c 0 t (ix2 r k) = ct m c (ix2 (at0 t r) (at1 t k)) := by
  refine Eq.trans ?_ (congrFun (V_main_arg2 m c) _)
  unfold at0 at1; blk_point [iblk, idx t]

theorem h1 (k : Fin 2560) (x : Fin 1024) : iblk m c 1 t (ix2 k x) = wt m c (ix2 x (at1 t k)) := by
  refine Eq.trans ?_ (w_at m c (at1 t k) x)
  unfold at1; blk_point [iblk, idx t]

/-- What a grid point adds to its block. -/
def part (j : S768x1024.Idx) : EReal := k0_pay1 (F := Ideal) (iblk m c 0 t) (iblk m c 1 t) j

/-- The share that the grid point `s` of a block's run adds is the reference's sum over that share's places. -/
theorem part_at (t' : Fin cfg0.N) (s : Fin 3) (h : t'.val = 3 * (t.val / 3) + s.val) (r : Fin 768) (x : Fin 1024) :
    part m c t' (ix2 r x) = ∑ k : Fin 2560, ct m c (ix2 (at0 t r) ⟨s.val * 2560 + k.val, by omega⟩)
      * wt m c (ix2 x ⟨s.val * 2560 + k.val, by omega⟩) := by
  unfold part
  refine (pay_at _ _ r x).trans (Finset.sum_congr rfl fun k _ => ?_)
  have e0 : at0 t' r = at0 t r := Fin.ext (by unfold at0; simp only; omega)
  have e1 : at1 t' k = ⟨s.val * 2560 + k.val, by omega⟩ := Fin.ext (by unfold at1; simp only; omega)
  rw [← e0, ← e1]
  exact congrArg₂ (fun p q : EReal => p * q) (h0 m c t' r k) (h1 m c t' k x)

/-- A block, when it is written, holds the shares of its run. -/
theorem run_sum (hr : t.val % 3 = 3 - 1) (j : S768x1024.Idx) : outsAt0 m c t.val t.isLt j
    = ∑ s : Fin 3, part m c ⟨3 * (t.val / 3) + s.val, Pipeline.run_point_lt_of_flush t hr s⟩ j :=
  (Pipeline.eq_sum_fin_of_reset_step_apply_of_flush (M := EReal) (fun n h => outsAt0 m c n h) 3 (fun _ => 0) (part m c)
    (fun t h j => by rw [outsAt0_A m c t h (by omega)]; unfold out0_A_2; frame_out; exact (zero_add _).symm)
    (fun t h j => by rw [outsAt0_B m c t h (by omega)]; unfold out0_B_2; frame_out; exact step_at _ _ _ j) t hr j).trans (zero_add _)

end blocks

set_option maxHeartbeats 1600000 in
/-- The gradient. -/
theorem final2 (c : Dev nD) : (dats m 0 c).arrAt 2 (cfgs 0).N
    = val_main_v3 (F := Ideal) (m ((c : Thread nD τ).loc main_arg1)) (m ((c : Thread nD τ).loc main_arg2)) := by
  refine (dats m 0 c).arrAt_eq_of_covers 2 _ (by decide +kernel) fun t hf y => ?_
  obtain ⟨r, x, rfl⟩ := pair y
  have hr := (flush0_2 t).mp hf
  have e : ((cfg0.win 2).blk t).view.emb (ix2 r x) = ix2 (at0 t r) x := by
    funext a
    match a with
    | ⟨0, _⟩ => (apply Fin.ext; blk_simp [idx t]; try rfl)
    | ⟨1, _⟩ => (apply Fin.ext; blk_simp [idx t]; try rfl)
  refine Eq.trans ?_ ((congrArg (val_main_v3 (F := Ideal) _ _) e).trans (ref_at _ _ _ _)).symm
  blk_simp
  rw [after0_2]
  refine (run_sum m c t hr (ix2 r x)).trans ?_
  rw [Fin.sum_univ_tiles 3 2560 rfl]
  exact Finset.sum_congr rfl fun s _ => part_at m c t _ s rfl r x

end Cert.MmTDa

namespace Cert.Proof.MmTDa

section
open Cert.MmTDaRIdeal Cert.MmTDaRIdeal.Gen Cert.MmTDaRIdeal.Read

/-- The reference's run, its results by the names of the stages that write them. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v3_eq _ _), (h c).2⟩)
    (Cert.MmTDaRIdeal.Value.run (F := Ideal) m ρ)

end

open Cert.MmTDa

/-- From memories that agree on the arguments the kernel and the reference end with the same gradient. -/
theorem algebraic : Cert.algebraic_MmTDaKIdeal_MmTDaRIdeal := by
  pair_intro
  · run_from Cert.MmTDaKIdeal.Value.run_blocks m g
  · run_from refRun m' g'
    exact (final2 m c).symm

end Cert.Proof.MmTDa

end
-- ==== Proof.lean ====
/-
  The certificate put together: every program's facts, the frames of the kernels and of their references, and each
  kernel's equality with its reference from the module of that call.
-/
module

public import proofs.«01_k».proof.Defs
public import proofs.«01_k».proof.Proof.Gen.MergeK.Frame
public import proofs.«01_k».proof.Proof.Gen.MergeKIdeal.Frame
public import proofs.«01_k».proof.Proof.Gen.MergeRIdeal.Run
public import proofs.«01_k».proof.Proof.Merge
public import proofs.«01_k».proof.Proof.Gen.AttnK.Frame
public import proofs.«01_k».proof.Proof.Gen.AttnKIdeal.Frame
public import proofs.«01_k».proof.Proof.Gen.AttnRIdeal.Run
public import proofs.«01_k».proof.Proof.Attn
public import proofs.«01_k».proof.Proof.Gen.NormK.Frame
public import proofs.«01_k».proof.Proof.Gen.NormKIdeal.Frame
public import proofs.«01_k».proof.Proof.Gen.NormRIdeal.Run
public import proofs.«01_k».proof.Proof.Norm
public import proofs.«01_k».proof.Proof.Gen.NormCK.Frame
public import proofs.«01_k».proof.Proof.Gen.NormCKIdeal.Frame
public import proofs.«01_k».proof.Proof.Gen.NormCRIdeal.Run
public import proofs.«01_k».proof.Proof.NormC
public import proofs.«01_k».proof.Proof.Gen.ResK.Frame
public import proofs.«01_k».proof.Proof.Gen.ResKIdeal.Frame
public import proofs.«01_k».proof.Proof.Gen.ResRIdeal.Run
public import proofs.«01_k».proof.Proof.Res
public import proofs.«01_k».proof.Proof.Gen.HeadK.Frame
public import proofs.«01_k».proof.Proof.Gen.HeadKIdeal.Frame
public import proofs.«01_k».proof.Proof.Gen.HeadRIdeal.Run
public import proofs.«01_k».proof.Proof.Head
public import proofs.«01_k».proof.Proof.Gen.GdnOutK.Frame
public import proofs.«01_k».proof.Proof.Gen.GdnOutKIdeal.Frame
public import proofs.«01_k».proof.Proof.Gen.GdnOutRIdeal.Run
public import proofs.«01_k».proof.Proof.GdnOut
public import proofs.«01_k».proof.Proof.Gen.QPrepK.Frame
public import proofs.«01_k».proof.Proof.Gen.QPrepKIdeal.Frame
public import proofs.«01_k».proof.Proof.Gen.QPrepRIdeal.Run
public import proofs.«01_k».proof.Proof.QPrep
public import proofs.«01_k».proof.Proof.Gen.KPrepK.Frame
public import proofs.«01_k».proof.Proof.Gen.KPrepKIdeal.Frame
public import proofs.«01_k».proof.Proof.Gen.KPrepRIdeal.Run
public import proofs.«01_k».proof.Proof.KPrep
public import proofs.«01_k».proof.Proof.Gen.FfnK.Frame
public import proofs.«01_k».proof.Proof.Gen.FfnKIdeal.Frame
public import proofs.«01_k».proof.Proof.Gen.FfnRIdeal.Run
public import proofs.«01_k».proof.Proof.Ffn
public import proofs.«01_k».proof.Proof.Gen.GdnPrepK.Frame
public import proofs.«01_k».proof.Proof.Gen.GdnPrepKIdeal.Frame
public import proofs.«01_k».proof.Proof.Gen.GdnPrepRIdeal.Run
public import proofs.«01_k».proof.Proof.GdnPrep
public import proofs.«01_k».proof.Proof.Gen.AttnFK.Frame
public import proofs.«01_k».proof.Proof.Gen.AttnFKIdeal.Frame
public import proofs.«01_k».proof.Proof.Gen.AttnFRIdeal.Run
public import proofs.«01_k».proof.Proof.AttnF
public import proofs.«01_k».proof.Proof.Gen.MergeFK.Frame
public import proofs.«01_k».proof.Proof.Gen.MergeFKIdeal.Frame
public import proofs.«01_k».proof.Proof.Gen.MergeFRIdeal.Run
public import proofs.«01_k».proof.Proof.MergeF
public import proofs.«01_k».proof.Proof.Gen.NormFK.Frame
public import proofs.«01_k».proof.Proof.Gen.NormFKIdeal.Frame
public import proofs.«01_k».proof.Proof.Gen.NormFRIdeal.Run
public import proofs.«01_k».proof.Proof.NormF
public import proofs.«01_k».proof.Proof.Gen.NormCFK.Frame
public import proofs.«01_k».proof.Proof.Gen.NormCFKIdeal.Frame
public import proofs.«01_k».proof.Proof.Gen.NormCFRIdeal.Run
public import proofs.«01_k».proof.Proof.NormCF
public import proofs.«01_k».proof.Proof.Gen.ResFK.Frame
public import proofs.«01_k».proof.Proof.Gen.ResFKIdeal.Frame
public import proofs.«01_k».proof.Proof.Gen.ResFRIdeal.Run
public import proofs.«01_k».proof.Proof.ResF
public import proofs.«01_k».proof.Proof.Gen.HeadFK.Frame
public import proofs.«01_k».proof.Proof.Gen.HeadFKIdeal.Frame
public import proofs.«01_k».proof.Proof.Gen.HeadFRIdeal.Run
public import proofs.«01_k».proof.Proof.HeadF
public import proofs.«01_k».proof.Proof.Gen.QPrepFK.Frame
public import proofs.«01_k».proof.Proof.Gen.QPrepFKIdeal.Frame
public import proofs.«01_k».proof.Proof.Gen.QPrepFRIdeal.Run
public import proofs.«01_k».proof.Proof.QPrepF
public import proofs.«01_k».proof.Proof.Gen.KPrepFK.Frame
public import proofs.«01_k».proof.Proof.Gen.KPrepFKIdeal.Frame
public import proofs.«01_k».proof.Proof.Gen.KPrepFRIdeal.Run
public import proofs.«01_k».proof.Proof.KPrepF
public import proofs.«01_k».proof.Proof.Gen.FfnFK.Frame
public import proofs.«01_k».proof.Proof.Gen.FfnFKIdeal.Frame
public import proofs.«01_k».proof.Proof.Gen.FfnFRIdeal.Run
public import proofs.«01_k».proof.Proof.FfnF
public import proofs.«01_k».proof.Proof.Gen.GdnOutFK.Frame
public import proofs.«01_k».proof.Proof.Gen.GdnOutFKIdeal.Frame
public import proofs.«01_k».proof.Proof.Gen.GdnOutFRIdeal.Run
public import proofs.«01_k».proof.Proof.GdnOutF
public import proofs.«01_k».proof.Proof.Gen.GdnPrepFK.Frame
public import proofs.«01_k».proof.Proof.Gen.GdnPrepFKIdeal.Frame
public import proofs.«01_k».proof.Proof.Gen.GdnPrepFRIdeal.Run
public import proofs.«01_k».proof.Proof.GdnPrepF
public import proofs.«01_k».proof.Proof.Gen.GdnFK.Frame
public import proofs.«01_k».proof.Proof.Gen.GdnFKIdeal.Frame
public import proofs.«01_k».proof.Proof.Gen.MmFK.Frame
public import proofs.«01_k».proof.Proof.Gen.MmFKIdeal.Frame
public import proofs.«01_k».proof.Proof.Gen.MmFRIdeal.Run
public import proofs.«01_k».proof.Proof.MmF
public import proofs.«01_k».proof.Proof.Gen.MmDwK.Frame
public import proofs.«01_k».proof.Proof.Gen.MmDwKIdeal.Frame
public import proofs.«01_k».proof.Proof.Gen.MmDwRIdeal.Run
public import proofs.«01_k».proof.Proof.MmDw
public import proofs.«01_k».proof.Proof.Gen.MmTFK.Frame
public import proofs.«01_k».proof.Proof.Gen.MmTFKIdeal.Frame
public import proofs.«01_k».proof.Proof.Gen.MmTFRIdeal.Run
public import proofs.«01_k».proof.Proof.MmTF
public import proofs.«01_k».proof.Proof.Gen.MmTDwK.Frame
public import proofs.«01_k».proof.Proof.Gen.MmTDwKIdeal.Frame
public import proofs.«01_k».proof.Proof.Gen.MmTDwRIdeal.Run
public import proofs.«01_k».proof.Proof.MmTDw
public import proofs.«01_k».proof.Proof.Gen.MmDaK.Frame
public import proofs.«01_k».proof.Proof.Gen.MmDaKIdeal.Frame
public import proofs.«01_k».proof.Proof.Gen.MmDaRIdeal.Run
public import proofs.«01_k».proof.Proof.MmDa
public import proofs.«01_k».proof.Proof.Gen.MmTDaK.Frame
public import proofs.«01_k».proof.Proof.Gen.MmTDaKIdeal.Frame
public import proofs.«01_k».proof.Proof.Gen.MmTDaRIdeal.Run
public import proofs.«01_k».proof.Proof.MmTDa
public import proofs.«01_k».proof.Proof.Gen.Pre_finite_attn
public import proofs.«01_k».proof.Proof.Gen.Pre_finite_attnf
public import Idealize.ShloMosaic.Adequacy
public import Idealize.ShloMosaic.Init
public import Idealize.ShloMosaic.Lib.Quiescent

@[expose] public section

noncomputable section

namespace Cert.Proof

open Idealize.ShloMosaic Idealize.SL.Sem

/-- The reference `MergeRIdeal` runs, leaves its arguments as they were, and has no semaphore to leave raised. -/
theorem frame_MergeR : Cert.quiescent_MergeRIdeal := fun m ρ _ =>
  (θ_run Cert.MergeRIdeal.defs _ _).mono
    (fun r h => ⟨fun c => (h c).2.2.2, sem_eq_zero_of_no_sems (by decide) r.2⟩)
    (Cert.MergeRIdeal.Value.run (F := Ideal) m ρ)

/-- The reference `AttnRIdeal` runs, leaves its arguments as they were, and has no semaphore to leave raised. -/
theorem frame_AttnR : Cert.quiescent_AttnRIdeal := fun m ρ _ =>
  (θ_run Cert.AttnRIdeal.defs _ _).mono
    (fun r h => ⟨fun c => (h c).2.2.2, sem_eq_zero_of_no_sems (by decide) r.2⟩)
    (Cert.AttnRIdeal.Value.run (F := Ideal) m ρ)

/-- The reference `NormRIdeal` runs, leaves its arguments as they were, and has no semaphore to leave raised. -/
theorem frame_NormR : Cert.quiescent_NormRIdeal := fun m ρ _ =>
  (θ_run Cert.NormRIdeal.defs _ _).mono
    (fun r h => ⟨fun c => (h c).2.2.2, sem_eq_zero_of_no_sems (by decide) r.2⟩)
    (Cert.NormRIdeal.Value.run (F := Ideal) m ρ)

/-- The reference `NormCRIdeal` runs, leaves its arguments as they were, and has no semaphore to leave raised. -/
theorem frame_NormCR : Cert.quiescent_NormCRIdeal := fun m ρ _ =>
  (θ_run Cert.NormCRIdeal.defs _ _).mono
    (fun r h => ⟨fun c => (h c).2.2.2, sem_eq_zero_of_no_sems (by decide) r.2⟩)
    (Cert.NormCRIdeal.Value.run (F := Ideal) m ρ)

/-- The reference `ResRIdeal` runs, leaves its arguments as they were, and has no semaphore to leave raised. -/
theorem frame_ResR : Cert.quiescent_ResRIdeal := fun m ρ _ =>
  (θ_run Cert.ResRIdeal.defs _ _).mono
    (fun r h => ⟨fun c => (h c).2.2.2.2.2, sem_eq_zero_of_no_sems (by decide) r.2⟩)
    (Cert.ResRIdeal.Value.run (F := Ideal) m ρ)

/-- The reference `HeadRIdeal` runs, leaves its arguments as they were, and has no semaphore to leave raised. -/
theorem frame_HeadR : Cert.quiescent_HeadRIdeal := fun m ρ _ =>
  (θ_run Cert.HeadRIdeal.defs _ _).mono
    (fun r h => ⟨fun c => (h c).2.2.2.2, sem_eq_zero_of_no_sems (by decide) r.2⟩)
    (Cert.HeadRIdeal.Value.run (F := Ideal) m ρ)

/-- The reference `GdnOutRIdeal` runs, leaves its arguments as they were, and has no semaphore to leave raised. -/
theorem frame_GdnOutR : Cert.quiescent_GdnOutRIdeal := fun m ρ _ =>
  (θ_run Cert.GdnOutRIdeal.defs _ _).mono
    (fun r h => ⟨fun c => (h c).2.2.2, sem_eq_zero_of_no_sems (by decide) r.2⟩)
    (Cert.GdnOutRIdeal.Value.run (F := Ideal) m ρ)

/-- The reference `QPrepRIdeal` runs, leaves its arguments as they were, and has no semaphore to leave raised. -/
theorem frame_QPrepR : Cert.quiescent_QPrepRIdeal := fun m ρ _ =>
  (θ_run Cert.QPrepRIdeal.defs _ _).mono
    (fun r h => ⟨fun c => (h c).2.2, sem_eq_zero_of_no_sems (by decide) r.2⟩)
    (Cert.QPrepRIdeal.Value.run (F := Ideal) m ρ)

/-- The reference `KPrepRIdeal` runs, leaves its arguments as they were, and has no semaphore to leave raised. -/
theorem frame_KPrepR : Cert.quiescent_KPrepRIdeal := fun m ρ _ =>
  (θ_run Cert.KPrepRIdeal.defs _ _).mono
    (fun r h => ⟨fun c => (h c).2.2, sem_eq_zero_of_no_sems (by decide) r.2⟩)
    (Cert.KPrepRIdeal.Value.run (F := Ideal) m ρ)

/-- The reference `FfnRIdeal` runs, leaves its arguments as they were, and has no semaphore to leave raised. -/
theorem frame_FfnR : Cert.quiescent_FfnRIdeal := fun m ρ _ =>
  (θ_run Cert.FfnRIdeal.defs _ _).mono
    (fun r h => ⟨fun c => (h c).2.2.2.2.2.2.2.2.2.2, sem_eq_zero_of_no_sems (by decide) r.2⟩)
    (Cert.FfnRIdeal.Value.run (F := Ideal) m ρ)

/-- The reference `GdnPrepRIdeal` runs, leaves its arguments as they were, and has no semaphore to leave raised. -/
theorem frame_GdnPrepR : Cert.quiescent_GdnPrepRIdeal := fun m ρ _ =>
  (θ_run Cert.GdnPrepRIdeal.defs _ _).mono
    (fun r h => ⟨fun c => (h c).2.2.2.2, sem_eq_zero_of_no_sems (by decide) r.2⟩)
    (Cert.GdnPrepRIdeal.Value.run (F := Ideal) m ρ)

/-- The reference `AttnFRIdeal` runs, leaves its arguments as they were, and has no semaphore to leave raised. -/
theorem frame_AttnFR : Cert.quiescent_AttnFRIdeal := fun m ρ _ =>
  (θ_run Cert.AttnFRIdeal.defs _ _).mono
    (fun r h => ⟨fun c => (h c).2, sem_eq_zero_of_no_sems (by decide) r.2⟩)
    (Cert.AttnFRIdeal.Value.run (F := Ideal) m ρ)

/-- The reference `MergeFRIdeal` runs, leaves its arguments as they were, and has no semaphore to leave raised. -/
theorem frame_MergeFR : Cert.quiescent_MergeFRIdeal := fun m ρ _ =>
  (θ_run Cert.MergeFRIdeal.defs _ _).mono
    (fun r h => ⟨fun c => (h c).2, sem_eq_zero_of_no_sems (by decide) r.2⟩)
    (Cert.MergeFRIdeal.Value.run (F := Ideal) m ρ)

/-- The reference `NormFRIdeal` runs, leaves its arguments as they were, and has no semaphore to leave raised. -/
theorem frame_NormFR : Cert.quiescent_NormFRIdeal := fun m ρ _ =>
  (θ_run Cert.NormFRIdeal.defs _ _).mono
    (fun r h => ⟨fun c => (h c).2, sem_eq_zero_of_no_sems (by decide) r.2⟩)
    (Cert.NormFRIdeal.Value.run (F := Ideal) m ρ)

/-- The reference `NormCFRIdeal` runs, leaves its arguments as they were, and has no semaphore to leave raised. -/
theorem frame_NormCFR : Cert.quiescent_NormCFRIdeal := fun m ρ _ =>
  (θ_run Cert.NormCFRIdeal.defs _ _).mono
    (fun r h => ⟨fun c => (h c).2, sem_eq_zero_of_no_sems (by decide) r.2⟩)
    (Cert.NormCFRIdeal.Value.run (F := Ideal) m ρ)

/-- The reference `ResFRIdeal` runs, leaves its arguments as they were, and has no semaphore to leave raised. -/
theorem frame_ResFR : Cert.quiescent_ResFRIdeal := fun m ρ _ =>
  (θ_run Cert.ResFRIdeal.defs _ _).mono
    (fun r h => ⟨fun c => (h c).2.2, sem_eq_zero_of_no_sems (by decide) r.2⟩)
    (Cert.ResFRIdeal.Value.run (F := Ideal) m ρ)

/-- The reference `HeadFRIdeal` runs, leaves its arguments as they were, and has no semaphore to leave raised. -/
theorem frame_HeadFR : Cert.quiescent_HeadFRIdeal := fun m ρ _ =>
  (θ_run Cert.HeadFRIdeal.defs _ _).mono
    (fun r h => ⟨fun c => (h c).2, sem_eq_zero_of_no_sems (by decide) r.2⟩)
    (Cert.HeadFRIdeal.Value.run (F := Ideal) m ρ)

/-- The reference `QPrepFRIdeal` runs, leaves its arguments as they were, and has no semaphore to leave raised. -/
theorem frame_QPrepFR : Cert.quiescent_QPrepFRIdeal := fun m ρ _ =>
  (θ_run Cert.QPrepFRIdeal.defs _ _).mono
    (fun r h => ⟨fun c => (h c).2, sem_eq_zero_of_no_sems (by decide) r.2⟩)
    (Cert.QPrepFRIdeal.Value.run (F := Ideal) m ρ)

/-- The reference `KPrepFRIdeal` runs, leaves its arguments as they were, and has no semaphore to leave raised. -/
theorem frame_KPrepFR : Cert.quiescent_KPrepFRIdeal := fun m ρ _ =>
  (θ_run Cert.KPrepFRIdeal.defs _ _).mono
    (fun r h => ⟨fun c => (h c).2, sem_eq_zero_of_no_sems (by decide) r.2⟩)
    (Cert.KPrepFRIdeal.Value.run (F := Ideal) m ρ)

/-- The reference `FfnFRIdeal` runs, leaves its arguments as they were, and has no semaphore to leave raised. -/
theorem frame_FfnFR : Cert.quiescent_FfnFRIdeal := fun m ρ _ =>
  (θ_run Cert.FfnFRIdeal.defs _ _).mono
    (fun r h => ⟨fun c => (h c).2, sem_eq_zero_of_no_sems (by decide) r.2⟩)
    (Cert.FfnFRIdeal.Value.run (F := Ideal) m ρ)

/-- The reference `GdnOutFRIdeal` runs, leaves its arguments as they were, and has no semaphore to leave raised. -/
theorem frame_GdnOutFR : Cert.quiescent_GdnOutFRIdeal := fun m ρ _ =>
  (θ_run Cert.GdnOutFRIdeal.defs _ _).mono
    (fun r h => ⟨fun c => (h c).2, sem_eq_zero_of_no_sems (by decide) r.2⟩)
    (Cert.GdnOutFRIdeal.Value.run (F := Ideal) m ρ)

/-- The reference `GdnPrepFRIdeal` runs, leaves its arguments as they were, and has no semaphore to leave raised. -/
theorem frame_GdnPrepFR : Cert.quiescent_GdnPrepFRIdeal := fun m ρ _ =>
  (θ_run Cert.GdnPrepFRIdeal.defs _ _).mono
    (fun r h => ⟨fun c => (h c).2, sem_eq_zero_of_no_sems (by decide) r.2⟩)
    (Cert.GdnPrepFRIdeal.Value.run (F := Ideal) m ρ)

/-- The reference `MmFRIdeal` runs, leaves its arguments as they were, and has no semaphore to leave raised. -/
theorem frame_MmFR : Cert.quiescent_MmFRIdeal := fun m ρ _ =>
  (θ_run Cert.MmFRIdeal.defs _ _).mono
    (fun r h => ⟨fun c => (h c).2, sem_eq_zero_of_no_sems (by decide) r.2⟩)
    (Cert.MmFRIdeal.Value.run (F := Ideal) m ρ)

/-- The reference `MmDwRIdeal` runs, leaves its arguments as they were, and has no semaphore to leave raised. -/
theorem frame_MmDwR : Cert.quiescent_MmDwRIdeal := fun m ρ _ =>
  (θ_run Cert.MmDwRIdeal.defs _ _).mono
    (fun r h => ⟨fun c => (h c).2, sem_eq_zero_of_no_sems (by decide) r.2⟩)
    (Cert.MmDwRIdeal.Value.run (F := Ideal) m ρ)

/-- The reference `MmTFRIdeal` runs, leaves its arguments as they were, and has no semaphore to leave raised. -/
theorem frame_MmTFR : Cert.quiescent_MmTFRIdeal := fun m ρ _ =>
  (θ_run Cert.MmTFRIdeal.defs _ _).mono
    (fun r h => ⟨fun c => (h c).2, sem_eq_zero_of_no_sems (by decide) r.2⟩)
    (Cert.MmTFRIdeal.Value.run (F := Ideal) m ρ)

/-- The reference `MmTDwRIdeal` runs, leaves its arguments as they were, and has no semaphore to leave raised. -/
theorem frame_MmTDwR : Cert.quiescent_MmTDwRIdeal := fun m ρ _ =>
  (θ_run Cert.MmTDwRIdeal.defs _ _).mono
    (fun r h => ⟨fun c => (h c).2, sem_eq_zero_of_no_sems (by decide) r.2⟩)
    (Cert.MmTDwRIdeal.Value.run (F := Ideal) m ρ)

/-- The reference `MmDaRIdeal` runs, leaves its arguments as they were, and has no semaphore to leave raised. -/
theorem frame_MmDaR : Cert.quiescent_MmDaRIdeal := fun m ρ _ =>
  (θ_run Cert.MmDaRIdeal.defs _ _).mono
    (fun r h => ⟨fun c => (h c).2, sem_eq_zero_of_no_sems (by decide) r.2⟩)
    (Cert.MmDaRIdeal.Value.run (F := Ideal) m ρ)

/-- The reference `MmTDaRIdeal` runs, leaves its arguments as they were, and has no semaphore to leave raised. -/
theorem frame_MmTDaR : Cert.quiescent_MmTDaRIdeal := fun m ρ _ =>
  (θ_run Cert.MmTDaRIdeal.defs _ _).mono
    (fun r h => ⟨fun c => (h c).2, sem_eq_zero_of_no_sems (by decide) r.2⟩)
    (Cert.MmTDaRIdeal.Value.run (F := Ideal) m ρ)

/-- Every claim of the certificate. -/
theorem claim : Cert.Claim := ⟨Cert.MergeK.Gen.facts, Cert.MergeKIdeal.Gen.facts, Cert.MergeRIdeal.Gen.facts, Cert.AttnK.Gen.facts,
  Cert.AttnKIdeal.Gen.facts, Cert.AttnRIdeal.Gen.facts, Cert.NormK.Gen.facts, Cert.NormKIdeal.Gen.facts,
  Cert.NormRIdeal.Gen.facts, Cert.NormCK.Gen.facts, Cert.NormCKIdeal.Gen.facts, Cert.NormCRIdeal.Gen.facts,
  Cert.ResK.Gen.facts, Cert.ResKIdeal.Gen.facts, Cert.ResRIdeal.Gen.facts, Cert.HeadK.Gen.facts,
  Cert.HeadKIdeal.Gen.facts, Cert.HeadRIdeal.Gen.facts, Cert.GdnOutK.Gen.facts, Cert.GdnOutKIdeal.Gen.facts,
  Cert.GdnOutRIdeal.Gen.facts, Cert.QPrepK.Gen.facts, Cert.QPrepKIdeal.Gen.facts, Cert.QPrepRIdeal.Gen.facts,
  Cert.KPrepK.Gen.facts, Cert.KPrepKIdeal.Gen.facts, Cert.KPrepRIdeal.Gen.facts, Cert.FfnK.Gen.facts,
  Cert.FfnKIdeal.Gen.facts, Cert.FfnRIdeal.Gen.facts, Cert.GdnPrepK.Gen.facts, Cert.GdnPrepKIdeal.Gen.facts,
  Cert.GdnPrepRIdeal.Gen.facts, Cert.AttnFK.Gen.facts, Cert.AttnFKIdeal.Gen.facts,
  Cert.AttnFRIdeal.Gen.facts, Cert.MergeFK.Gen.facts, Cert.MergeFKIdeal.Gen.facts,
  Cert.MergeFRIdeal.Gen.facts, Cert.NormFK.Gen.facts, Cert.NormFKIdeal.Gen.facts, Cert.NormFRIdeal.Gen.facts,
  Cert.NormCFK.Gen.facts, Cert.NormCFKIdeal.Gen.facts, Cert.NormCFRIdeal.Gen.facts, Cert.ResFK.Gen.facts,
  Cert.ResFKIdeal.Gen.facts, Cert.ResFRIdeal.Gen.facts, Cert.HeadFK.Gen.facts, Cert.HeadFKIdeal.Gen.facts,
  Cert.HeadFRIdeal.Gen.facts, Cert.QPrepFK.Gen.facts, Cert.QPrepFKIdeal.Gen.facts,
  Cert.QPrepFRIdeal.Gen.facts, Cert.KPrepFK.Gen.facts, Cert.KPrepFKIdeal.Gen.facts,
  Cert.KPrepFRIdeal.Gen.facts, Cert.FfnFK.Gen.facts, Cert.FfnFKIdeal.Gen.facts, Cert.FfnFRIdeal.Gen.facts,
  Cert.GdnOutFK.Gen.facts, Cert.GdnOutFKIdeal.Gen.facts, Cert.GdnOutFRIdeal.Gen.facts,
  Cert.GdnPrepFK.Gen.facts, Cert.GdnPrepFKIdeal.Gen.facts, Cert.GdnPrepFRIdeal.Gen.facts,
  Cert.GdnFK.Gen.facts, Cert.GdnFKIdeal.Gen.facts, Cert.MmFK.Gen.facts, Cert.MmFKIdeal.Gen.facts,
  Cert.MmFRIdeal.Gen.facts, Cert.MmDwK.Gen.facts, Cert.MmDwKIdeal.Gen.facts, Cert.MmDwRIdeal.Gen.facts,
  Cert.MmTFK.Gen.facts, Cert.MmTFKIdeal.Gen.facts, Cert.MmTFRIdeal.Gen.facts, Cert.MmTDwK.Gen.facts,
  Cert.MmTDwKIdeal.Gen.facts, Cert.MmTDwRIdeal.Gen.facts, Cert.MmDaK.Gen.facts, Cert.MmDaKIdeal.Gen.facts,
  Cert.MmDaRIdeal.Gen.facts, Cert.MmTDaK.Gen.facts, Cert.MmTDaKIdeal.Gen.facts, Cert.MmTDaRIdeal.Gen.facts,
  Cert.Pre_finite_attn.Gen.facts, Cert.Pre_finite_attnf.Gen.facts,
  fun m ρ _ => Cert.MergeK.Gen.frame m ρ, fun m ρ _ => Cert.MergeKIdeal.Gen.frame m ρ, frame_MergeR,
  fun m ρ _ => Cert.AttnK.Gen.frame m ρ, fun m ρ _ => Cert.AttnKIdeal.Gen.frame m ρ,
  fun m ρ _ => Cert.AttnKIdeal.Gen.frame m ρ, frame_AttnR, fun m ρ _ => frame_AttnR m ρ trivial,
  fun m ρ _ => Cert.NormK.Gen.frame m ρ, fun m ρ _ => Cert.NormKIdeal.Gen.frame m ρ, frame_NormR,
  fun m ρ _ => Cert.NormCK.Gen.frame m ρ, fun m ρ _ => Cert.NormCKIdeal.Gen.frame m ρ, frame_NormCR,
  fun m ρ _ => Cert.ResK.Gen.frame m ρ, fun m ρ _ => Cert.ResKIdeal.Gen.frame m ρ, frame_ResR,
  fun m ρ _ => Cert.HeadK.Gen.frame m ρ, fun m ρ _ => Cert.HeadKIdeal.Gen.frame m ρ, frame_HeadR,
  fun m ρ _ => Cert.GdnOutK.Gen.frame m ρ, fun m ρ _ => Cert.GdnOutKIdeal.Gen.frame m ρ, frame_GdnOutR,
  fun m ρ _ => Cert.QPrepK.Gen.frame m ρ, fun m ρ _ => Cert.QPrepKIdeal.Gen.frame m ρ, frame_QPrepR,
  fun m ρ _ => Cert.KPrepK.Gen.frame m ρ, fun m ρ _ => Cert.KPrepKIdeal.Gen.frame m ρ, frame_KPrepR,
  fun m ρ _ => Cert.FfnK.Gen.frame m ρ, fun m ρ _ => Cert.FfnKIdeal.Gen.frame m ρ, frame_FfnR,
  fun m ρ _ => Cert.GdnPrepK.Gen.frame m ρ, fun m ρ _ => Cert.GdnPrepKIdeal.Gen.frame m ρ, frame_GdnPrepR,
  fun m ρ _ => Cert.AttnFK.Gen.frame m ρ, fun m ρ _ => Cert.AttnFKIdeal.Gen.frame m ρ,
  fun m ρ _ => Cert.AttnFKIdeal.Gen.frame m ρ, frame_AttnFR, fun m ρ _ => frame_AttnFR m ρ trivial,
  fun m ρ _ => Cert.MergeFK.Gen.frame m ρ, fun m ρ _ => Cert.MergeFKIdeal.Gen.frame m ρ, frame_MergeFR,
  fun m ρ _ => Cert.NormFK.Gen.frame m ρ, fun m ρ _ => Cert.NormFKIdeal.Gen.frame m ρ, frame_NormFR,
  fun m ρ _ => Cert.NormCFK.Gen.frame m ρ, fun m ρ _ => Cert.NormCFKIdeal.Gen.frame m ρ, frame_NormCFR,
  fun m ρ _ => Cert.ResFK.Gen.frame m ρ, fun m ρ _ => Cert.ResFKIdeal.Gen.frame m ρ, frame_ResFR,
  fun m ρ _ => Cert.HeadFK.Gen.frame m ρ, fun m ρ _ => Cert.HeadFKIdeal.Gen.frame m ρ, frame_HeadFR,
  fun m ρ _ => Cert.QPrepFK.Gen.frame m ρ, fun m ρ _ => Cert.QPrepFKIdeal.Gen.frame m ρ, frame_QPrepFR,
  fun m ρ _ => Cert.KPrepFK.Gen.frame m ρ, fun m ρ _ => Cert.KPrepFKIdeal.Gen.frame m ρ, frame_KPrepFR,
  fun m ρ _ => Cert.FfnFK.Gen.frame m ρ, fun m ρ _ => Cert.FfnFKIdeal.Gen.frame m ρ, frame_FfnFR,
  fun m ρ _ => Cert.GdnOutFK.Gen.frame m ρ, fun m ρ _ => Cert.GdnOutFKIdeal.Gen.frame m ρ, frame_GdnOutFR,
  fun m ρ _ => Cert.GdnPrepFK.Gen.frame m ρ, fun m ρ _ => Cert.GdnPrepFKIdeal.Gen.frame m ρ, frame_GdnPrepFR,
  fun m ρ _ => Cert.GdnFK.Gen.frame m ρ, fun m ρ _ => Cert.GdnFKIdeal.Gen.frame m ρ,
  fun m ρ _ => Cert.MmFK.Gen.frame m ρ, fun m ρ _ => Cert.MmFKIdeal.Gen.frame m ρ, frame_MmFR,
  fun m ρ _ => Cert.MmDwK.Gen.frame m ρ, fun m ρ _ => Cert.MmDwKIdeal.Gen.frame m ρ, frame_MmDwR,
  fun m ρ _ => Cert.MmTFK.Gen.frame m ρ, fun m ρ _ => Cert.MmTFKIdeal.Gen.frame m ρ, frame_MmTFR,
  fun m ρ _ => Cert.MmTDwK.Gen.frame m ρ, fun m ρ _ => Cert.MmTDwKIdeal.Gen.frame m ρ, frame_MmTDwR,
  fun m ρ _ => Cert.MmDaK.Gen.frame m ρ, fun m ρ _ => Cert.MmDaKIdeal.Gen.frame m ρ, frame_MmDaR,
  fun m ρ _ => Cert.MmTDaK.Gen.frame m ρ, fun m ρ _ => Cert.MmTDaKIdeal.Gen.frame m ρ, frame_MmTDaR,
  trivial, Merge.algebraic, trivial, Attn.algebraic, trivial, Norm.algebraic, trivial, NormC.algebraic,
  trivial, Res.algebraic, trivial, Head.algebraic, trivial, GdnOut.algebraic, trivial, QPrep.algebraic,
  trivial, KPrep.algebraic, trivial, Ffn.algebraic, trivial, GdnPrep.algebraic, trivial, AttnF.algebraic,
  trivial, MergeF.algebraic, trivial, NormF.algebraic, trivial, NormCF.algebraic, trivial, ResF.algebraic,
  trivial, HeadF.algebraic, trivial, QPrepF.algebraic, trivial, KPrepF.algebraic, trivial, FfnF.algebraic,
  trivial, GdnOutF.algebraic, trivial, GdnPrepF.algebraic, trivial, trivial, MmF.algebraic, trivial,
  MmDw.algebraic, trivial, MmTF.algebraic, trivial, MmTDw.algebraic, trivial, MmDa.algebraic, trivial,
  MmTDa.algebraic⟩

end Cert.Proof

end
